-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_rows [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Expand [hPre_experts_in_range : Cert.Pre_experts_in_range.Facts] (m : (ℓ : Loc Cert.Expand.nD Cert.Expand.τ Cert.Expand.sig) → Buf (Elt Bits) ℓ) : Prop :=
  ∀ c : Dev Cert.Expand.nD,
    (Cert.Pre_experts_in_range.fn (F := Bits) (m ((c.tc : Thread Cert.Expand.nD Cert.Expand.τ).loc Cert.Expand.main_arg0)) (m ((c.tc : Thread Cert.Expand.nD Cert.Expand.τ).loc Cert.Expand.main_arg1)) (m ((c.tc : Thread Cert.Expand.nD Cert.Expand.τ).loc Cert.Expand.main_arg2))) = (fun _ => 1#1)

def Pre_ExpandIdeal [hPre_experts_in_range : Cert.Pre_experts_in_range.Facts] (m : (ℓ : Loc Cert.ExpandIdeal.nD Cert.ExpandIdeal.τ Cert.ExpandIdeal.sig) → Buf (Elt Ideal) ℓ) : Prop :=
  ∀ c : Dev Cert.ExpandIdeal.nD,
    (Cert.Pre_experts_in_range.fn (F := Ideal) (m ((c.tc : Thread Cert.ExpandIdeal.nD Cert.ExpandIdeal.τ).loc Cert.ExpandIdeal.main_arg0)) (m ((c.tc : Thread Cert.ExpandIdeal.nD Cert.ExpandIdeal.τ).loc Cert.ExpandIdeal.main_arg1)) (m ((c.tc : Thread Cert.ExpandIdeal.nD Cert.ExpandIdeal.τ).loc Cert.ExpandIdeal.main_arg2))) = (fun _ => 1#1)

def Pre_ExpandReferenceIdeal (m : (ℓ : Loc Cert.ExpandReferenceIdeal.nD Cert.ExpandReferenceIdeal.τ Cert.ExpandReferenceIdeal.sig) → Buf (Elt Ideal) ℓ) : Prop :=
  True

def Pre_ExpandReferenceIdeal_experts_in_range [hPre_experts_in_range : Cert.Pre_experts_in_range.Facts] (m : (ℓ : Loc Cert.ExpandReferenceIdeal.nD Cert.ExpandReferenceIdeal.τ Cert.ExpandReferenceIdeal.sig) → Buf (Elt Ideal) ℓ) : Prop :=
  ∀ c : Dev Cert.ExpandReferenceIdeal.nD,
    (Cert.Pre_experts_in_range.fn (F := Ideal) (m ((c.tc : Thread Cert.ExpandReferenceIdeal.nD Cert.ExpandReferenceIdeal.τ).loc Cert.ExpandReferenceIdeal.main_arg0)) (m ((c.tc : Thread Cert.ExpandReferenceIdeal.nD Cert.ExpandReferenceIdeal.τ).loc Cert.ExpandReferenceIdeal.main_arg1)) (m ((c.tc : Thread Cert.ExpandReferenceIdeal.nD Cert.ExpandReferenceIdeal.τ).loc Cert.ExpandReferenceIdeal.main_arg2))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite [hPre_finite : Cert.Pre_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))) = (fun _ => 1#1)

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductIdeal_experts_named [hPre_experts_named : Cert.Pre_experts_named.Facts] (m : (ℓ : Loc Cert.ProductIdeal.nD Cert.ProductIdeal.τ Cert.ProductIdeal.sig) → Buf (Elt Ideal) ℓ) : Prop :=
  ∀ c : Dev Cert.ProductIdeal.nD,
    (Cert.Pre_experts_named.fn (F := Ideal) (m ((c.tc : Thread Cert.ProductIdeal.nD Cert.ProductIdeal.τ).loc Cert.ProductIdeal.main_arg0)) (m ((c.tc : Thread Cert.ProductIdeal.nD Cert.ProductIdeal.τ).loc Cert.ProductIdeal.main_arg1)) (m ((c.tc : Thread Cert.ProductIdeal.nD Cert.ProductIdeal.τ).loc Cert.ProductIdeal.main_arg2)) (m ((c.tc : Thread Cert.ProductIdeal.nD Cert.ProductIdeal.τ).loc Cert.ProductIdeal.main_arg3)) (m ((c.tc : Thread Cert.ProductIdeal.nD Cert.ProductIdeal.τ).loc Cert.ProductIdeal.main_arg4))) = (fun _ => 1#1)

def Pre_ProductReferenceIdeal (m : (ℓ : Loc Cert.ProductReferenceIdeal.nD Cert.ProductReferenceIdeal.τ Cert.ProductReferenceIdeal.sig) → Buf (Elt Ideal) ℓ) : Prop :=
  True

def Pre_ProductReferenceIdeal_experts_named [hPre_experts_named : Cert.Pre_experts_named.Facts] (m : (ℓ : Loc Cert.ProductReferenceIdeal.nD Cert.ProductReferenceIdeal.τ Cert.ProductReferenceIdeal.sig) → Buf (Elt Ideal) ℓ) : Prop :=
  ∀ c : Dev Cert.ProductReferenceIdeal.nD,
    (Cert.Pre_experts_named.fn (F := Ideal) (m ((c.tc : Thread Cert.ProductReferenceIdeal.nD Cert.ProductReferenceIdeal.τ).loc Cert.ProductReferenceIdeal.main_arg0)) (m ((c.tc : Thread Cert.ProductReferenceIdeal.nD Cert.ProductReferenceIdeal.τ).loc Cert.ProductReferenceIdeal.main_arg1)) (m ((c.tc : Thread Cert.ProductReferenceIdeal.nD Cert.ProductReferenceIdeal.τ).loc Cert.ProductReferenceIdeal.main_arg2)) (m ((c.tc : Thread Cert.ProductReferenceIdeal.nD Cert.ProductReferenceIdeal.τ).loc Cert.ProductReferenceIdeal.main_arg3)) (m ((c.tc : Thread Cert.ProductReferenceIdeal.nD Cert.ProductReferenceIdeal.τ).loc Cert.ProductReferenceIdeal.main_arg4))) = (fun _ => 1#1)

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pos_in_rows [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Expand [hExpand : Cert.Expand.Facts] [hPre_experts_in_range : Cert.Pre_experts_in_range.Facts] : Prop :=
  ∀ (m : (ℓ : Loc Cert.Expand.nD Cert.Expand.τ Cert.Expand.sig) → Buf (Elt Bits) ℓ) (g : Dev Cert.Expand.nD → PrngReg), Pre_Expand m →
    θ_run (Cert.Expand.defs (F := Bits)) (Cert.Expand.threads (F := Bits)) ⟨m, fun _ => 0, g⟩ (fun r => (∀ c : Dev Cert.Expand.nD,
      r.2.mem ((c.tc : Thread Cert.Expand.nD Cert.Expand.τ).loc Cert.Expand.main_arg0) = m ((c.tc : Thread Cert.Expand.nD Cert.Expand.τ).loc Cert.Expand.main_arg0)
      ∧ r.2.mem ((c.tc : Thread Cert.Expand.nD Cert.Expand.τ).loc Cert.Expand.main_arg1) = m ((c.tc : Thread Cert.Expand.nD Cert.Expand.τ).loc Cert.Expand.main_arg1)
      ∧ r.2.mem ((c.tc : Thread Cert.Expand.nD Cert.Expand.τ).loc Cert.Expand.main_arg2) = m ((c.tc : Thread Cert.Expand.nD Cert.Expand.τ).loc Cert.Expand.main_arg2))
      ∧ r.2.sem = fun _ => 0)

def quiescent_ExpandIdeal [hExpandIdeal : Cert.ExpandIdeal.Facts] [hPre_experts_in_range : Cert.Pre_experts_in_range.Facts] : Prop :=
  ∀ (m : (ℓ : Loc Cert.ExpandIdeal.nD Cert.ExpandIdeal.τ Cert.ExpandIdeal.sig) → Buf (Elt Ideal) ℓ) (g : Dev Cert.ExpandIdeal.nD → PrngReg), Pre_ExpandIdeal m →
    θ_run (Cert.ExpandIdeal.defs (F := Ideal)) (Cert.ExpandIdeal.threads (F := Ideal)) ⟨m, fun _ => 0, g⟩ (fun r => (∀ c : Dev Cert.ExpandIdeal.nD,
      r.2.mem ((c.tc : Thread Cert.ExpandIdeal.nD Cert.ExpandIdeal.τ).loc Cert.ExpandIdeal.main_arg0) = m ((c.tc : Thread Cert.ExpandIdeal.nD Cert.ExpandIdeal.τ).loc Cert.ExpandIdeal.main_arg0)
      ∧ r.2.mem ((c.tc : Thread Cert.ExpandIdeal.nD Cert.ExpandIdeal.τ).loc Cert.ExpandIdeal.main_arg1) = m ((c.tc : Thread Cert.ExpandIdeal.nD Cert.ExpandIdeal.τ).loc Cert.ExpandIdeal.main_arg1)
      ∧ r.2.mem ((c.tc : Thread Cert.ExpandIdeal.nD Cert.ExpandIdeal.τ).loc Cert.ExpandIdeal.main_arg2) = m ((c.tc : Thread Cert.ExpandIdeal.nD Cert.ExpandIdeal.τ).loc Cert.ExpandIdeal.main_arg2))
      ∧ r.2.sem = fun _ => 0)

def quiescent_ExpandReferenceIdeal [hExpandReferenceIdeal : Cert.ExpandReferenceIdeal.Facts] : Prop :=
  ∀ (m : (ℓ : Loc Cert.ExpandReferenceIdeal.nD Cert.ExpandReferenceIdeal.τ Cert.ExpandReferenceIdeal.sig) → Buf (Elt Ideal) ℓ) (g : Dev Cert.ExpandReferenceIdeal.nD → PrngReg), Pre_ExpandReferenceIdeal m →
    θ_run (Cert.ExpandReferenceIdeal.defs (F := Ideal)) (onTc (τ := Cert.ExpandReferenceIdeal.τ) (Cert.ExpandReferenceIdeal.main (F := Ideal))) ⟨m, fun _ => 0, g⟩ (fun r => (∀ c : Dev Cert.ExpandReferenceIdeal.nD,
      r.2.mem ((c.tc : Thread Cert.ExpandReferenceIdeal.nD Cert.ExpandReferenceIdeal.τ).loc Cert.ExpandReferenceIdeal.main_arg0) = m ((c.tc : Thread Cert.ExpandReferenceIdeal.nD Cert.ExpandReferenceIdeal.τ).loc Cert.ExpandReferenceIdeal.main_arg0)
      ∧ r.2.mem ((c.tc : Thread Cert.ExpandReferenceIdeal.nD Cert.ExpandReferenceIdeal.τ).loc Cert.ExpandReferenceIdeal.main_arg1) = m ((c.tc : Thread Cert.ExpandReferenceIdeal.nD Cert.ExpandReferenceIdeal.τ).loc Cert.ExpandReferenceIdeal.main_arg1)
      ∧ r.2.mem ((c.tc : Thread Cert.ExpandReferenceIdeal.nD Cert.ExpandReferenceIdeal.τ).loc Cert.ExpandReferenceIdeal.main_arg2) = m ((c.tc : Thread Cert.ExpandReferenceIdeal.nD Cert.ExpandReferenceIdeal.τ).loc Cert.ExpandReferenceIdeal.main_arg2))
      ∧ r.2.sem = fun _ => 0)

def quiescent_ExpandReferenceIdeal_pre_experts_in_range [hExpandReferenceIdeal : Cert.ExpandReferenceIdeal.Facts] [hPre_experts_in_range : Cert.Pre_experts_in_range.Facts] : Prop :=
  ∀ (m : (ℓ : Loc Cert.ExpandReferenceIdeal.nD Cert.ExpandReferenceIdeal.τ Cert.ExpandReferenceIdeal.sig) → Buf (Elt Ideal) ℓ) (g : Dev Cert.ExpandReferenceIdeal.nD → PrngReg), Pre_ExpandReferenceIdeal_experts_in_range m →
    θ_run (Cert.ExpandReferenceIdeal.defs (F := Ideal)) (onTc (τ := Cert.ExpandReferenceIdeal.τ) (Cert.ExpandReferenceIdeal.main (F := Ideal))) ⟨m, fun _ => 0, g⟩ (fun r => (∀ c : Dev Cert.ExpandReferenceIdeal.nD,
      r.2.mem ((c.tc : Thread Cert.ExpandReferenceIdeal.nD Cert.ExpandReferenceIdeal.τ).loc Cert.ExpandReferenceIdeal.main_arg0) = m ((c.tc : Thread Cert.ExpandReferenceIdeal.nD Cert.ExpandReferenceIdeal.τ).loc Cert.ExpandReferenceIdeal.main_arg0)
      ∧ r.2.mem ((c.tc : Thread Cert.ExpandReferenceIdeal.nD Cert.ExpandReferenceIdeal.τ).loc Cert.ExpandReferenceIdeal.main_arg1) = m ((c.tc : Thread Cert.ExpandReferenceIdeal.nD Cert.ExpandReferenceIdeal.τ).loc Cert.ExpandReferenceIdeal.main_arg1)
      ∧ r.2.mem ((c.tc : Thread Cert.ExpandReferenceIdeal.nD Cert.ExpandReferenceIdeal.τ).loc Cert.ExpandReferenceIdeal.main_arg2) = m ((c.tc : Thread Cert.ExpandReferenceIdeal.nD Cert.ExpandReferenceIdeal.τ).loc Cert.ExpandReferenceIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_RouterReferenceIdeal_pre_finite [hRouterReferenceIdeal : Cert.RouterReferenceIdeal.Facts] [hPre_finite : Cert.Pre_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1)
      ∧ r.2.mem ((c.tc : Thread Cert.Product.nD Cert.Product.τ).loc Cert.Product.main_arg2) = m ((c.tc : Thread Cert.Product.nD Cert.Product.τ).loc Cert.Product.main_arg2)
      ∧ r.2.mem ((c.tc : Thread Cert.Product.nD Cert.Product.τ).loc Cert.Product.main_arg3) = m ((c.tc : Thread Cert.Product.nD Cert.Product.τ).loc Cert.Product.main_arg3)
      ∧ r.2.mem ((c.tc : Thread Cert.Product.nD Cert.Product.τ).loc Cert.Product.main_arg4) = m ((c.tc : Thread Cert.Product.nD Cert.Product.τ).loc Cert.Product.main_arg4))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
      ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3)
      ∧ r.2.mem ((c.tc : Thread Cert.ProductIdeal.nD Cert.ProductIdeal.τ).loc Cert.ProductIdeal.main_arg4) = m ((c.tc : Thread Cert.ProductIdeal.nD Cert.ProductIdeal.τ).loc Cert.ProductIdeal.main_arg4))
      ∧ r.2.sem = fun _ => 0)

def quiescent_ProductIdeal_pre_experts_named [hProductIdeal : Cert.ProductIdeal.Facts] [hPre_experts_named : Cert.Pre_experts_named.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal_experts_named m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
      ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3)
      ∧ r.2.mem ((c.tc : Thread Cert.ProductIdeal.nD Cert.ProductIdeal.τ).loc Cert.ProductIdeal.main_arg4) = m ((c.tc : Thread Cert.ProductIdeal.nD Cert.ProductIdeal.τ).loc Cert.ProductIdeal.main_arg4))
      ∧ r.2.sem = fun _ => 0)

def quiescent_ProductReferenceIdeal [hProductReferenceIdeal : Cert.ProductReferenceIdeal.Facts] : Prop :=
  ∀ (m : (ℓ : Loc Cert.ProductReferenceIdeal.nD Cert.ProductReferenceIdeal.τ Cert.ProductReferenceIdeal.sig) → Buf (Elt Ideal) ℓ) (g : Dev Cert.ProductReferenceIdeal.nD → PrngReg), Pre_ProductReferenceIdeal m →
    θ_run (Cert.ProductReferenceIdeal.defs (F := Ideal)) (onTc (τ := Cert.ProductReferenceIdeal.τ) (Cert.ProductReferenceIdeal.main (F := Ideal))) ⟨m, fun _ => 0, g⟩ (fun r => (∀ c : Dev Cert.ProductReferenceIdeal.nD,
      r.2.mem ((c.tc : Thread Cert.ProductReferenceIdeal.nD Cert.ProductReferenceIdeal.τ).loc Cert.ProductReferenceIdeal.main_arg0) = m ((c.tc : Thread Cert.ProductReferenceIdeal.nD Cert.ProductReferenceIdeal.τ).loc Cert.ProductReferenceIdeal.main_arg0)
      ∧ r.2.mem ((c.tc : Thread Cert.ProductReferenceIdeal.nD Cert.ProductReferenceIdeal.τ).loc Cert.ProductReferenceIdeal.main_arg1) = m ((c.tc : Thread Cert.ProductReferenceIdeal.nD Cert.ProductReferenceIdeal.τ).loc Cert.ProductReferenceIdeal.main_arg1)
      ∧ r.2.mem ((c.tc : Thread Cert.ProductReferenceIdeal.nD Cert.ProductReferenceIdeal.τ).loc Cert.ProductReferenceIdeal.main_arg2) = m ((c.tc : Thread Cert.ProductReferenceIdeal.nD Cert.ProductReferenceIdeal.τ).loc Cert.ProductReferenceIdeal.main_arg2)
      ∧ r.2.mem ((c.tc : Thread Cert.ProductReferenceIdeal.nD Cert.ProductReferenceIdeal.τ).loc Cert.ProductReferenceIdeal.main_arg3) = m ((c.tc : Thread Cert.ProductReferenceIdeal.nD Cert.ProductReferenceIdeal.τ).loc Cert.ProductReferenceIdeal.main_arg3)
      ∧ r.2.mem ((c.tc : Thread Cert.ProductReferenceIdeal.nD Cert.ProductReferenceIdeal.τ).loc Cert.ProductReferenceIdeal.main_arg4) = m ((c.tc : Thread Cert.ProductReferenceIdeal.nD Cert.ProductReferenceIdeal.τ).loc Cert.ProductReferenceIdeal.main_arg4))
      ∧ r.2.sem = fun _ => 0)

def quiescent_ProductReferenceIdeal_pre_experts_named [hProductReferenceIdeal : Cert.ProductReferenceIdeal.Facts] [hPre_experts_named : Cert.Pre_experts_named.Facts] : Prop :=
  ∀ (m : (ℓ : Loc Cert.ProductReferenceIdeal.nD Cert.ProductReferenceIdeal.τ Cert.ProductReferenceIdeal.sig) → Buf (Elt Ideal) ℓ) (g : Dev Cert.ProductReferenceIdeal.nD → PrngReg), Pre_ProductReferenceIdeal_experts_named m →
    θ_run (Cert.ProductReferenceIdeal.defs (F := Ideal)) (onTc (τ := Cert.ProductReferenceIdeal.τ) (Cert.ProductReferenceIdeal.main (F := Ideal))) ⟨m, fun _ => 0, g⟩ (fun r => (∀ c : Dev Cert.ProductReferenceIdeal.nD,
      r.2.mem ((c.tc : Thread Cert.ProductReferenceIdeal.nD Cert.ProductReferenceIdeal.τ).loc Cert.ProductReferenceIdeal.main_arg0) = m ((c.tc : Thread Cert.ProductReferenceIdeal.nD Cert.ProductReferenceIdeal.τ).loc Cert.ProductReferenceIdeal.main_arg0)
      ∧ r.2.mem ((c.tc : Thread Cert.ProductReferenceIdeal.nD Cert.ProductReferenceIdeal.τ).loc Cert.ProductReferenceIdeal.main_arg1) = m ((c.tc : Thread Cert.ProductReferenceIdeal.nD Cert.ProductReferenceIdeal.τ).loc Cert.ProductReferenceIdeal.main_arg1)
      ∧ r.2.mem ((c.tc : Thread Cert.ProductReferenceIdeal.nD Cert.ProductReferenceIdeal.τ).loc Cert.ProductReferenceIdeal.main_arg2) = m ((c.tc : Thread Cert.ProductReferenceIdeal.nD Cert.ProductReferenceIdeal.τ).loc Cert.ProductReferenceIdeal.main_arg2)
      ∧ r.2.mem ((c.tc : Thread Cert.ProductReferenceIdeal.nD Cert.ProductReferenceIdeal.τ).loc Cert.ProductReferenceIdeal.main_arg3) = m ((c.tc : Thread Cert.ProductReferenceIdeal.nD Cert.ProductReferenceIdeal.τ).loc Cert.ProductReferenceIdeal.main_arg3)
      ∧ r.2.mem ((c.tc : Thread Cert.ProductReferenceIdeal.nD Cert.ProductReferenceIdeal.τ).loc Cert.ProductReferenceIdeal.main_arg4) = m ((c.tc : Thread Cert.ProductReferenceIdeal.nD Cert.ProductReferenceIdeal.τ).loc Cert.ProductReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Expand_ExpandIdeal : Prop :=
  True

def algebraic_ExpandIdeal_ExpandReferenceIdeal [hExpandIdeal : Cert.ExpandIdeal.Facts] [hExpandReferenceIdeal : Cert.ExpandReferenceIdeal.Facts] [hPre_experts_in_range : Cert.Pre_experts_in_range.Facts] : Prop :=
  ∀ (m : (ℓ : Loc Cert.ExpandIdeal.nD Cert.ExpandIdeal.τ Cert.ExpandIdeal.sig) → Buf (Elt Ideal) ℓ) (g : Dev Cert.ExpandIdeal.nD → PrngReg)
    (m' : (ℓ : Loc Cert.ExpandReferenceIdeal.nD Cert.ExpandReferenceIdeal.τ Cert.ExpandReferenceIdeal.sig) → Buf (Elt Ideal) ℓ) (g' : Dev Cert.ExpandReferenceIdeal.nD → PrngReg), Pre_ExpandIdeal m →
    (∀ c : Dev Cert.ExpandIdeal.nD,
      m' ((c.tc : Thread Cert.ExpandReferenceIdeal.nD Cert.ExpandReferenceIdeal.τ).loc Cert.ExpandReferenceIdeal.main_arg0) = m ((c.tc : Thread Cert.ExpandIdeal.nD Cert.ExpandIdeal.τ).loc Cert.ExpandIdeal.main_arg0)
      ∧ m' ((c.tc : Thread Cert.ExpandReferenceIdeal.nD Cert.ExpandReferenceIdeal.τ).loc Cert.ExpandReferenceIdeal.main_arg1) = m ((c.tc : Thread Cert.ExpandIdeal.nD Cert.ExpandIdeal.τ).loc Cert.ExpandIdeal.main_arg1)
      ∧ m' ((c.tc : Thread Cert.ExpandReferenceIdeal.nD Cert.ExpandReferenceIdeal.τ).loc Cert.ExpandReferenceIdeal.main_arg2) = m ((c.tc : Thread Cert.ExpandIdeal.nD Cert.ExpandIdeal.τ).loc Cert.ExpandIdeal.main_arg2)) →
    ∃ (v0 : (c : Dev Cert.ExpandIdeal.nD) → Buf (Elt Ideal) ((c.tc : Thread Cert.ExpandIdeal.nD Cert.ExpandIdeal.τ).loc Cert.ExpandIdeal.main_v36_0)) (v1 : (c : Dev Cert.ExpandIdeal.nD) → Buf (Elt Ideal) ((c.tc : Thread Cert.ExpandIdeal.nD Cert.ExpandIdeal.τ).loc Cert.ExpandIdeal.main_v36_1)),
      θ_run (Cert.ExpandIdeal.defs (F := Ideal)) (Cert.ExpandIdeal.threads (F := Ideal)) ⟨m, fun _ => 0, g⟩ (fun r => ∀ c : Dev Cert.ExpandIdeal.nD,
          r.2.mem ((c.tc : Thread Cert.ExpandIdeal.nD Cert.ExpandIdeal.τ).loc Cert.ExpandIdeal.main_v36_0) = v0 c
          ∧ r.2.mem ((c.tc : Thread Cert.ExpandIdeal.nD Cert.ExpandIdeal.τ).loc Cert.ExpandIdeal.main_v36_1) = v1 c
          ∧ r.2.mem ((c.tc : Thread Cert.ExpandIdeal.nD Cert.ExpandIdeal.τ).loc Cert.ExpandIdeal.main_arg0) = m ((c.tc : Thread Cert.ExpandIdeal.nD Cert.ExpandIdeal.τ).loc Cert.ExpandIdeal.main_arg0)
          ∧ r.2.mem ((c.tc : Thread Cert.ExpandIdeal.nD Cert.ExpandIdeal.τ).loc Cert.ExpandIdeal.main_arg1) = m ((c.tc : Thread Cert.ExpandIdeal.nD Cert.ExpandIdeal.τ).loc Cert.ExpandIdeal.main_arg1)
          ∧ r.2.mem ((c.tc : Thread Cert.ExpandIdeal.nD Cert.ExpandIdeal.τ).loc Cert.ExpandIdeal.main_arg2) = m ((c.tc : Thread Cert.ExpandIdeal.nD Cert.ExpandIdeal.τ).loc Cert.ExpandIdeal.main_arg2))
      ∧ θ_run (Cert.ExpandReferenceIdeal.defs (F := Ideal)) (onTc (τ := Cert.ExpandReferenceIdeal.τ) (Cert.ExpandReferenceIdeal.main (F := Ideal))) ⟨m', fun _ => 0, g'⟩ (fun r => ∀ c : Dev Cert.ExpandReferenceIdeal.nD,
          r.2.mem ((c.tc : Thread Cert.ExpandReferenceIdeal.nD Cert.ExpandReferenceIdeal.τ).loc Cert.ExpandReferenceIdeal.main_v10) = v0 c
          ∧ r.2.mem ((c.tc : Thread Cert.ExpandReferenceIdeal.nD Cert.ExpandReferenceIdeal.τ).loc Cert.ExpandReferenceIdeal.main_v18) = v1 c
          ∧ r.2.mem ((c.tc : Thread Cert.ExpandReferenceIdeal.nD Cert.ExpandReferenceIdeal.τ).loc Cert.ExpandReferenceIdeal.main_arg0) = m' ((c.tc : Thread Cert.ExpandReferenceIdeal.nD Cert.ExpandReferenceIdeal.τ).loc Cert.ExpandReferenceIdeal.main_arg0)
          ∧ r.2.mem ((c.tc : Thread Cert.ExpandReferenceIdeal.nD Cert.ExpandReferenceIdeal.τ).loc Cert.ExpandReferenceIdeal.main_arg1) = m' ((c.tc : Thread Cert.ExpandReferenceIdeal.nD Cert.ExpandReferenceIdeal.τ).loc Cert.ExpandReferenceIdeal.main_arg1)
          ∧ r.2.mem ((c.tc : Thread Cert.ExpandReferenceIdeal.nD Cert.ExpandReferenceIdeal.τ).loc Cert.ExpandReferenceIdeal.main_arg2) = m' ((c.tc : Thread Cert.ExpandReferenceIdeal.nD Cert.ExpandReferenceIdeal.τ).loc Cert.ExpandReferenceIdeal.main_arg2))

def preserves_Router_RouterIdeal : Prop :=
  True

def algebraic_RouterIdeal_RouterReferenceIdeal_pre_finite [hRouterIdeal : Cert.RouterIdeal.Facts] [hRouterReferenceIdeal : Cert.RouterReferenceIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_values) = v0 c
          ∧ r.2.mem ((c.tc : Thread Cert.RouterReferenceIdeal.nD Cert.RouterReferenceIdeal.τ).loc Cert.RouterReferenceIdeal.main_indices) = v1 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1))

def preserves_Product_ProductIdeal : Prop :=
  True

def algebraic_ProductIdeal_ProductReferenceIdeal_pre_experts_named [hProductIdeal : Cert.ProductIdeal.Facts] [hProductReferenceIdeal : Cert.ProductReferenceIdeal.Facts] [hPre_experts_named : Cert.Pre_experts_named.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductReferenceIdeal.nD Cert.ProductReferenceIdeal.τ Cert.ProductReferenceIdeal.sig) → Buf (Elt Ideal) ℓ) (g' : Dev Cert.ProductReferenceIdeal.nD → PrngReg), Pre_ProductIdeal_experts_named m →
    (∀ c : Dev Cert.ProductIdeal.nD,
      m' ((c.tc : Thread Cert.ProductReferenceIdeal.nD Cert.ProductReferenceIdeal.τ).loc Cert.ProductReferenceIdeal.main_arg0) = m ((c.tc : Thread Cert.ProductIdeal.nD Cert.ProductIdeal.τ).loc Cert.ProductIdeal.main_arg0)
      ∧ m' ((c.tc : Thread Cert.ProductReferenceIdeal.nD Cert.ProductReferenceIdeal.τ).loc Cert.ProductReferenceIdeal.main_arg1) = m ((c.tc : Thread Cert.ProductIdeal.nD Cert.ProductIdeal.τ).loc Cert.ProductIdeal.main_arg1)
      ∧ m' ((c.tc : Thread Cert.ProductReferenceIdeal.nD Cert.ProductReferenceIdeal.τ).loc Cert.ProductReferenceIdeal.main_arg2) = m ((c.tc : Thread Cert.ProductIdeal.nD Cert.ProductIdeal.τ).loc Cert.ProductIdeal.main_arg2)
      ∧ m' ((c.tc : Thread Cert.ProductReferenceIdeal.nD Cert.ProductReferenceIdeal.τ).loc Cert.ProductReferenceIdeal.main_arg3) = m ((c.tc : Thread Cert.ProductIdeal.nD Cert.ProductIdeal.τ).loc Cert.ProductIdeal.main_arg3)
      ∧ m' ((c.tc : Thread Cert.ProductReferenceIdeal.nD Cert.ProductReferenceIdeal.τ).loc Cert.ProductReferenceIdeal.main_arg4) = m ((c.tc : Thread Cert.ProductIdeal.nD Cert.ProductIdeal.τ).loc Cert.ProductIdeal.main_arg4)) →
    ∃ (v0 : (c : Dev Cert.ProductIdeal.nD) → Buf (Elt Ideal) ((c.tc : Thread Cert.ProductIdeal.nD Cert.ProductIdeal.τ).loc Cert.ProductIdeal.main_v102)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v102) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
          ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
          ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3)
          ∧ r.2.mem ((c.tc : Thread Cert.ProductIdeal.nD Cert.ProductIdeal.τ).loc Cert.ProductIdeal.main_arg4) = m ((c.tc : Thread Cert.ProductIdeal.nD Cert.ProductIdeal.τ).loc Cert.ProductIdeal.main_arg4))
      ∧ θ_run (Cert.ProductReferenceIdeal.defs (F := Ideal)) (onTc (τ := Cert.ProductReferenceIdeal.τ) (Cert.ProductReferenceIdeal.main (F := Ideal))) ⟨m', fun _ => 0, g'⟩ (fun r => ∀ c : Dev Cert.ProductReferenceIdeal.nD,
          r.2.mem ((c.tc : Thread Cert.ProductReferenceIdeal.nD Cert.ProductReferenceIdeal.τ).loc Cert.ProductReferenceIdeal.main_v15) = v0 c
          ∧ r.2.mem ((c.tc : Thread Cert.ProductReferenceIdeal.nD Cert.ProductReferenceIdeal.τ).loc Cert.ProductReferenceIdeal.main_arg0) = m' ((c.tc : Thread Cert.ProductReferenceIdeal.nD Cert.ProductReferenceIdeal.τ).loc Cert.ProductReferenceIdeal.main_arg0)
          ∧ r.2.mem ((c.tc : Thread Cert.ProductReferenceIdeal.nD Cert.ProductReferenceIdeal.τ).loc Cert.ProductReferenceIdeal.main_arg1) = m' ((c.tc : Thread Cert.ProductReferenceIdeal.nD Cert.ProductReferenceIdeal.τ).loc Cert.ProductReferenceIdeal.main_arg1)
          ∧ r.2.mem ((c.tc : Thread Cert.ProductReferenceIdeal.nD Cert.ProductReferenceIdeal.τ).loc Cert.ProductReferenceIdeal.main_arg2) = m' ((c.tc : Thread Cert.ProductReferenceIdeal.nD Cert.ProductReferenceIdeal.τ).loc Cert.ProductReferenceIdeal.main_arg2)
          ∧ r.2.mem ((c.tc : Thread Cert.ProductReferenceIdeal.nD Cert.ProductReferenceIdeal.τ).loc Cert.ProductReferenceIdeal.main_arg3) = m' ((c.tc : Thread Cert.ProductReferenceIdeal.nD Cert.ProductReferenceIdeal.τ).loc Cert.ProductReferenceIdeal.main_arg3)
          ∧ r.2.mem ((c.tc : Thread Cert.ProductReferenceIdeal.nD Cert.ProductReferenceIdeal.τ).loc Cert.ProductReferenceIdeal.main_arg4) = m' ((c.tc : Thread Cert.ProductReferenceIdeal.nD Cert.ProductReferenceIdeal.τ).loc Cert.ProductReferenceIdeal.main_arg4))

def Claim : Prop :=
  ∃ (hKernel : Cert.Kernel.Facts) (hKernelIdeal : Cert.KernelIdeal.Facts) (hReferenceIdeal : Cert.ReferenceIdeal.Facts) (hExpand : Cert.Expand.Facts) (hExpandIdeal : Cert.ExpandIdeal.Facts) (hExpandReferenceIdeal : Cert.ExpandReferenceIdeal.Facts) (hRouter : Cert.Router.Facts) (hRouterIdeal : Cert.RouterIdeal.Facts) (hRouterReferenceIdeal : Cert.RouterReferenceIdeal.Facts) (hProduct : Cert.Product.Facts) (hProductIdeal : Cert.ProductIdeal.Facts) (hProductReferenceIdeal : Cert.ProductReferenceIdeal.Facts) (hPre_pos_in_rows : Cert.Pre_pos_in_rows.Facts) (hPre_experts_in_range : Cert.Pre_experts_in_range.Facts) (hPre_finite : Cert.Pre_finite.Facts) (hPre_experts_named : Cert.Pre_experts_named.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal)
    ∧ quiescent_ReferenceIdeal_pre_pos_in_rows (hReferenceIdeal := hReferenceIdeal) (hPre_pos_in_rows := hPre_pos_in_rows)
    ∧ quiescent_Expand (hExpand := hExpand) (hPre_experts_in_range := hPre_experts_in_range)
    ∧ quiescent_ExpandIdeal (hExpandIdeal := hExpandIdeal) (hPre_experts_in_range := hPre_experts_in_range)
    ∧ quiescent_ExpandReferenceIdeal (hExpandReferenceIdeal := hExpandReferenceIdeal)
    ∧ quiescent_ExpandReferenceIdeal_pre_experts_in_range (hExpandReferenceIdeal := hExpandReferenceIdeal) (hPre_experts_in_range := hPre_experts_in_range)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RouterReferenceIdeal (hRouterReferenceIdeal := hRouterReferenceIdeal)
    ∧ quiescent_RouterReferenceIdeal_pre_finite (hRouterReferenceIdeal := hRouterReferenceIdeal) (hPre_finite := hPre_finite)
    ∧ quiescent_Product (hProduct := hProduct)
    ∧ quiescent_ProductIdeal (hProductIdeal := hProductIdeal)
    ∧ quiescent_ProductIdeal_pre_experts_named (hProductIdeal := hProductIdeal) (hPre_experts_named := hPre_experts_named)
    ∧ quiescent_ProductReferenceIdeal (hProductReferenceIdeal := hProductReferenceIdeal)
    ∧ quiescent_ProductReferenceIdeal_pre_experts_named (hProductReferenceIdeal := hProductReferenceIdeal) (hPre_experts_named := hPre_experts_named)
    ∧ preserves_Kernel_KernelIdeal
    ∧ algebraic_KernelIdeal_ReferenceIdeal (hKernelIdeal := hKernelIdeal) (hReferenceIdeal := hReferenceIdeal) (hPre_pos_in_rows := hPre_pos_in_rows)
    ∧ preserves_Expand_ExpandIdeal
    ∧ algebraic_ExpandIdeal_ExpandReferenceIdeal (hExpandIdeal := hExpandIdeal) (hExpandReferenceIdeal := hExpandReferenceIdeal) (hPre_experts_in_range := hPre_experts_in_range)
    ∧ preserves_Router_RouterIdeal
    ∧ algebraic_RouterIdeal_RouterReferenceIdeal_pre_finite (hRouterIdeal := hRouterIdeal) (hRouterReferenceIdeal := hRouterReferenceIdeal) (hPre_finite := hPre_finite)
    ∧ preserves_Product_ProductIdeal
    ∧ algebraic_ProductIdeal_ProductReferenceIdeal_pre_experts_named (hProductIdeal := hProductIdeal) (hProductReferenceIdeal := hProductReferenceIdeal) (hPre_experts_named := hPre_experts_named)
-- ==== Pre_experts_in_range.lean ====
abbrev S4096x1024 : Shape := ⟨2, ![4096, 1024]⟩
abbrev S4096x2 : Shape := ⟨2, ![4096, 2]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel

variable [Facts]

def fn {F : FTy → Type} [FloatOps F] (main_arg0 : FVec F S4096x1024 .f32) (main_arg1 : FVec F S4096x2 .f32) (main_arg2 : IVec S4096x2 32) : IVec S_ 1 :=
  let main_c : IVec S_ 32 := constantI S_ 32 0#32
  let main_v0 : IVec S4096x2 32 := broadcastInDim S4096x2 ![] bcast_S_S4096x2 main_c
  let main_v1 : IVec S4096x2 1 := cmpi .sge main_arg2 main_v0
  let main_c_0 : IVec S_ 32 := constantI S_ 32 8#32
  let main_v2 : IVec S4096x2 32 := broadcastInDim S4096x2 ![] bcast_S_S4096x2 main_c_0
  let main_v3 : IVec S4096x2 1 := cmpi .slt main_arg2 main_v2
  let main_v4 : IVec S4096x2 1 := andi main_v1 main_v3
  let main_c_1 : IVec S_ 1 := constantI S_ 1 1#1
  let main_v5 : IVec S_ 1 := (fun x v => Host.reduce IntOp.andi x v reducesTo_S4096x2_S_d0_1 h_S_) main_v4 main_c_1
  main_v5
-- ==== Pre_experts_named.lean ====
abbrev S4096x2 : Shape := ⟨2, ![4096, 2]⟩
abbrev S8192x1024 : Shape := ⟨2, ![8192, 1024]⟩
abbrev S8192 : Shape := ⟨1, ![8192]⟩
abbrev S8x2048x1024 : Shape := ⟨3, ![8, 2048, 1024]⟩
abbrev S8x1024x2048 : Shape := ⟨3, ![8, 1024, 2048]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel

variable [Facts]

def fn {F : FTy → Type} [FloatOps F] (main_arg0 : IVec S4096x2 32) (main_arg1 : FVec F S8192x1024 .f32) (main_arg2 : FVec F S8192 .f32) (main_arg3 : FVec F S8x2048x1024 .f32) (main_arg4 : FVec F S8x1024x2048 .f32) : IVec S_ 1 :=
  let main_c : IVec S_ 32 := constantI S_ 32 0#32
  let main_v0 : IVec S4096x2 32 := broadcastInDim S4096x2 ![] bcast_S_S4096x2 main_c
  let main_v1 : IVec S4096x2 1 := cmpi .sge main_arg0 main_v0
  let main_c_0 : IVec S_ 32 := constantI S_ 32 8#32
  let main_v2 : IVec S4096x2 32 := broadcastInDim S4096x2 ![] bcast_S_S4096x2 main_c_0
  let main_v3 : IVec S4096x2 1 := cmpi .slt main_arg0 main_v2
  let main_v4 : IVec S4096x2 1 := andi main_v1 main_v3
  let main_c_1 : IVec S_ 1 := constantI S_ 1 1#1
  let main_v5 : IVec S_ 1 := (fun x v => Host.reduce IntOp.andi x v reducesTo_S4096x2_S_d0_1 h_S_) main_v4 main_c_1
  main_v5
-- ==== Pre_finite.lean ====
abbrev S4096x1024 : Shape := ⟨2, ![4096, 1024]⟩
abbrev S8x1024 : Shape := ⟨2, ![8, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S4096x1024 .f32) (main_arg1 : FVec F S8x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Pre_pos_in_rows.lean ====
abbrev S8192x1024 : Shape := ⟨2, ![8192, 1024]⟩
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192x1024 .f32) (main_arg1 : IVec S8192 32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 8192#32
  let main_v2 : IVec S8192 32 := broadcastInDim S8192 ![] bcast_S_S8192 main_c_0
  let main_v3 : IVec S8192 1 := cmpi .slt main_arg1 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Kernel.lean ====
abbrev S8192x1024 : Shape := ⟨2, ![8192, 1024]⟩
abbrev S8192 : Shape := ⟨1, ![8192]⟩
abbrev S4096x2 : Shape := ⟨2, ![4096, 2]⟩
abbrev S4096x1 : Shape := ⟨2, ![4096, 1]⟩
abbrev S4096 : Shape := ⟨1, ![4096]⟩
abbrev S32x8x16 : Shape := ⟨3, ![32, 8, 16]⟩
abbrev S4096x1024 : Shape := ⟨2, ![4096, 1024]⟩
abbrev S8x16 : Shape := ⟨2, ![8, 16]⟩
abbrev S16x1024 : Shape := ⟨2, ![16, 1024]⟩
abbrev S_ : Shape := ⟨0, ![]⟩
abbrev S1x8x16 : Shape := ⟨3, ![1, 8, 16]⟩
abbrev S16x128 : Shape := ⟨2, ![16, 128]⟩
abbrev S1x16 : Shape := ⟨2, ![1, 16]⟩
abbrev S16 : Shape := ⟨1, ![16]⟩
abbrev S8192x128 : Shape := ⟨2, ![8192, 128]⟩

abbrev nBuf : Table → Nat
  | .hbm => 10
  | .local .scVector .vmem => 6
  | _ => 0

abbrev bufTy : (tb : Table) → Fin (nBuf tb) → BufTy
  | .hbm, ⟨0, _⟩ => ⟨S8192x1024, .f32⟩
  | .hbm, ⟨1, _⟩ => ⟨S8192, .i32⟩
  | .hbm, ⟨2, _⟩ => ⟨S4096x2, .i32⟩
  | .hbm, ⟨3, _⟩ => ⟨S4096x1, .i32⟩
  | .hbm, ⟨4, _⟩ => ⟨S4096, .i32⟩
  | .hbm, ⟨5, _⟩ => ⟨S32x8x16, .i32⟩
  | .hbm, ⟨6, _⟩ => ⟨S4096x1, .i32⟩
  | .hbm, ⟨7, _⟩ => ⟨S4096, .i32⟩
  | .hbm, ⟨8, _⟩ => ⟨S32x8x16, .i32⟩
  | .hbm, ⟨9, _⟩ => ⟨S4096x1024, .f32⟩
  | .local .scVector .vmem, ⟨0, _⟩ => ⟨S8x16, .i32⟩
  | .local .scVector .vmem, ⟨1, _⟩ => ⟨S8x16, .i32⟩
  | .local .scVector .vmem, ⟨2, _⟩ => ⟨S16x1024, .f32⟩
  | .local .scVector .vmem, ⟨3, _⟩ => ⟨S16x1024, .f32⟩
  | .local .scVector .vmem, ⟨4, _⟩ => ⟨S16x1024, .f32⟩
  | .local .scVector .vmem, ⟨5, _⟩ => ⟨S16x1024, .f32⟩
  | _, _ => ⟨S8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_arg0_scv : Ref sig .scVector := ⟨.hbm, 0, rfl⟩
abbrev main_v3_scv : Ref sig .scVector := ⟨.hbm, 5, rfl⟩
abbrev main_v6_scv : Ref sig .scVector := ⟨.hbm, 8, rfl⟩
abbrev main_v7_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
@[reducible] def k0_t1_loop : Scf.Loop 32 :=
  let c0_i32_297 : BitVec 32 := 0#32
  let c64_i32 : BitVec 32 := 64#32
  let v211 : BitVec 32 := Scalar.addi c0_i32_297 c64_i32
  let c1_i32_298 : BitVec 32 := 1#32
  ⟨c0_i32_297, v211, c1_i32_298⟩
def k0_off2 (k0_t1 : Fin k0_t1_loop.trips) : Fin 2 → Nat :=
  let c0_i32_2213 : BitVec 32 := 0#32
  let v1212 : Index := Scalar.indexCast c0_i32_2213
  let c0_i32_297 : BitVec 32 := 0#32
  let c1_i32_298 : BitVec 32 := 1#32
  let arg17 : BitVec 32 := Scf.iv c0_i32_297 c1_i32_298 k0_t1
  let c16_i32_2212 : BitVec 32 := 16#32
  let v1211 : BitVec 32 := Scalar.muli arg17 c16_i32_2212
  let v1213 : Index := Scalar.indexCast v1211
  ![0, v1213.toNat]
@[reducible] def k0_t2_loop : Scf.Loop 32 :=
  let c0_i32_301 : BitVec 32 := 0#32
  let c64_i32_302 : BitVec 32 := 64#32
  let v212 : BitVec 32 := Scalar.addi c0_i32_301 c64_i32_302
  let c1_i32_303 : BitVec 32 := 1#32
  ⟨c0_i32_301, v212, c1_i32_303⟩
def k0_off3 (k0_t2 : Fin k0_t2_loop.trips) : Fin 2 → Nat :=
  let c1_i32_2213 : BitVec 32 := 1#32
  let v1212 : Index := Scalar.indexCast c1_i32_2213
  let c0_i32_301 : BitVec 32 := 0#32
  let c1_i32_303 : BitVec 32 := 1#32
  let arg17 : BitVec 32 := Scf.iv c0_i32_301 c1_i32_303 k0_t2
  let c16_i32_2212 : BitVec 32 := 16#32
  let v1211 : BitVec 32 := Scalar.muli arg17 c16_i32_2212
  let v1213 : Index := Scalar.indexCast v1211
  ![1, v1213.toNat]
@[reducible] def k0_t3_loop : Scf.Loop 32 :=
  let c0_i32_306 : BitVec 32 := 0#32
  let c64_i32_307 : BitVec 32 := 64#32
  let v213 : BitVec 32 := Scalar.addi c0_i32_306 c64_i32_307
  let c1_i32_308 : BitVec 32 := 1#32
  ⟨c0_i32_306, v213, c1_i32_308⟩
def k0_off4 (k0_t3 : Fin k0_t3_loop.trips) : Fin 2 → Nat :=
  let c2_i32_2213 : BitVec 32 := 2#32
  let v1212 : Index := Scalar.indexCast c2_i32_2213
  let c0_i32_306 : BitVec 32 := 0#32
  let c1_i32_308 : BitVec 32 := 1#32
  let arg17 : BitVec 32 := Scf.iv c0_i32_306 c1_i32_308 k0_t3
  let c16_i32_2212 : BitVec 32 := 16#32
  let v1211 : BitVec 32 := Scalar.muli arg17 c16_i32_2212
  let v1213 : Index := Scalar.indexCast v1211
  ![2, v1213.toNat]
@[reducible] def k0_t4_loop : Scf.Loop 32 :=
  let c0_i32_311 : BitVec 32 := 0#32
  let c64_i32_312 : BitVec 32 := 64#32
  let v214 : BitVec 32 := Scalar.addi c0_i32_311 c64_i32_312
  let c1_i32_313 : BitVec 32 := 1#32
  ⟨c0_i32_311, v214, c1_i32_313⟩
def k0_off5 (k0_t4 : Fin k0_t4_loop.trips) : Fin 2 → Nat :=
  let c3_i32_2213 : BitVec 32 := 3#32
  let v1212 : Index := Scalar.indexCast c3_i32_2213
  let c0_i32_311 : BitVec 32 := 0#32
  let c1_i32_313 : BitVec 32 := 1#32
  let arg17 : BitVec 32 := Scf.iv c0_i32_311 c1_i32_313 k0_t4
  let c16_i32_2212 : BitVec 32 := 16#32
  let v1211 : BitVec 32 := Scalar.muli arg17 c16_i32_2212
  let v1213 : Index := Scalar.indexCast v1211
  ![3, v1213.toNat]
@[reducible] def k0_t5_loop : Scf.Loop 32 :=
  let c0_i32_316 : BitVec 32 := 0#32
  let c64_i32_317 : BitVec 32 := 64#32
  let v215 : BitVec 32 := Scalar.addi c0_i32_316 c64_i32_317
  let c1_i32_318 : BitVec 32 := 1#32
  ⟨c0_i32_316, v215, c1_i32_318⟩
def k0_off6 (k0_t5 : Fin k0_t5_loop.trips) : Fin 2 → Nat :=
  let c4_i32_2213 : BitVec 32 := 4#32
  let v1212 : Index := Scalar.indexCast c4_i32_2213
  let c0_i32_316 : BitVec 32 := 0#32
  let c1_i32_318 : BitVec 32 := 1#32
  let arg17 : BitVec 32 := Scf.iv c0_i32_316 c1_i32_318 k0_t5
  let c16_i32_2212 : BitVec 32 := 16#32
  let v1211 : BitVec 32 := Scalar.muli arg17 c16_i32_2212
  let v1213 : Index := Scalar.indexCast v1211
  ![4, v1213.toNat]
@[reducible] def k0_t6_loop : Scf.Loop 32 :=
  let c0_i32_321 : BitVec 32 := 0#32
  let c64_i32_322 : BitVec 32 := 64#32
  let v216 : BitVec 32 := Scalar.addi c0_i32_321 c64_i32_322
  let c1_i32_323 : BitVec 32 := 1#32
  ⟨c0_i32_321, v216, c1_i32_323⟩
def k0_off7 (k0_t6 : Fin k0_t6_loop.trips) : Fin 2 → Nat :=
  let c5_i32_2213 : BitVec 32 := 5#32
  let v1212 : Index := Scalar.indexCast c5_i32_2213
  let c0_i32_321 : BitVec 32 := 0#32
  let c1_i32_323 : BitVec 32 := 1#32
  let arg17 : BitVec 32 := Scf.iv c0_i32_321 c1_i32_323 k0_t6
  let c16_i32_2212 : BitVec 32 := 16#32
  let v1211 : BitVec 32 := Scalar.muli arg17 c16_i32_2212
  let v1213 : Index := Scalar.indexCast v1211
  ![5, v1213.toNat]
@[reducible] def k0_t7_loop : Scf.Loop 32 :=
  let c0_i32_326 : BitVec 32 := 0#32
  let c64_i32_327 : BitVec 32 := 64#32
  let v217 : BitVec 32 := Scalar.addi c0_i32_326 c64_i32_327
  let c1_i32_328 : BitVec 32 := 1#32
  ⟨c0_i32_326, v217, c1_i32_328⟩
def k0_off8 (k0_t7 : Fin k0_t7_loop.trips) : Fin 2 → Nat :=
  let c6_i32_2213 : BitVec 32 := 6#32
  let v1212 : Index := Scalar.indexCast c6_i32_2213
  let c0_i32_326 : BitVec 32 := 0#32
  let c1_i32_328 : BitVec 32 := 1#32
  let arg17 : BitVec 32 := Scf.iv c0_i32_326 c1_i32_328 k0_t7
  let c16_i32_2212 : BitVec 32 := 16#32
  let v1211 : BitVec 32 := Scalar.muli arg17 c16_i32_2212
  let v1213 : Index := Scalar.indexCast v1211
  ![6, v1213.toNat]
@[reducible] def k0_t8_loop : Scf.Loop 32 :=
  let c0_i32_331 : BitVec 32 := 0#32
  let c64_i32_332 : BitVec 32 := 64#32
  let v218 : BitVec 32 := Scalar.addi c0_i32_331 c64_i32_332
  let c1_i32_333 : BitVec 32 := 1#32
  ⟨c0_i32_331, v218, c1_i32_333⟩
def k0_off9 (k0_t8 : Fin k0_t8_loop.trips) : Fin 2 → Nat :=
  let c7_i32_2213 : BitVec 32 := 7#32
  let v1212 : Index := Scalar.indexCast c7_i32_2213
  let c0_i32_331 : BitVec 32 := 0#32
  let c1_i32_333 : BitVec 32 := 1#32
  let arg17 : BitVec 32 := Scf.iv c0_i32_331 c1_i32_333 k0_t8
  let c16_i32_2212 : BitVec 32 := 16#32
  let v1211 : BitVec 32 := Scalar.muli arg17 c16_i32_2212
  let v1213 : Index := Scalar.indexCast v1211
  ![7, v1213.toNat]
@[reducible] def k0_t9_loop : Scf.Loop 32 :=
  let c0_i32_336 : BitVec 32 := 0#32
  let c64_i32_337 : BitVec 32 := 64#32
  let v219 : BitVec 32 := Scalar.addi c0_i32_336 c64_i32_337
  let c1_i32_338 : BitVec 32 := 1#32
  ⟨c0_i32_336, v219, c1_i32_338⟩
def k0_off10 (k0_t9 : Fin k0_t9_loop.trips) : Fin 2 → Nat :=
  let c8_i32 : BitVec 32 := 8#32
  let v1212 : Index := Scalar.indexCast c8_i32
  let c0_i32_336 : BitVec 32 := 0#32
  let c1_i32_338 : BitVec 32 := 1#32
  let arg17 : BitVec 32 := Scf.iv c0_i32_336 c1_i32_338 k0_t9
  let c16_i32_2212 : BitVec 32 := 16#32
  let v1211 : BitVec 32 := Scalar.muli arg17 c16_i32_2212
  let v1213 : Index := Scalar.indexCast v1211
  ![8, v1213.toNat]
@[reducible] def k0_t10_loop : Scf.Loop 32 :=
  let c0_i32_341 : BitVec 32 := 0#32
  let c64_i32_342 : BitVec 32 := 64#32
  let v220 : BitVec 32 := Scalar.addi c0_i32_341 c64_i32_342
  let c1_i32_343 : BitVec 32 := 1#32
  ⟨c0_i32_341, v220, c1_i32_343⟩
def k0_off11 (k0_t10 : Fin k0_t10_loop.trips) : Fin 2 → Nat :=
  let c9_i32 : BitVec 32 := 9#32
  let v1212 : Index := Scalar.indexCast c9_i32
  let c0_i32_341 : BitVec 32 := 0#32
  let c1_i32_343 : BitVec 32 := 1#32
  let arg17 : BitVec 32 := Scf.iv c0_i32_341 c1_i32_343 k0_t10
  let c16_i32_2212 : BitVec 32 := 16#32
  let v1211 : BitVec 32 := Scalar.muli arg17 c16_i32_2212
  let v1213 : Index := Scalar.indexCast v1211
  ![9, v1213.toNat]
@[reducible] def k0_t11_loop : Scf.Loop 32 :=
  let c0_i32_346 : BitVec 32 := 0#32
  let c64_i32_347 : BitVec 32 := 64#32
  let v221 : BitVec 32 := Scalar.addi c0_i32_346 c64_i32_347
  let c1_i32_348 : BitVec 32 := 1#32
  ⟨c0_i32_346, v221, c1_i32_348⟩
def k0_off12 (k0_t11 : Fin k0_t11_loop.trips) : Fin 2 → Nat :=
  let c10_i32 : BitVec 32 := 10#32
  let v1212 : Index := Scalar.indexCast c10_i32
  let c0_i32_346 : BitVec 32 := 0#32
  let c1_i32_348 : BitVec 32 := 1#32
  let arg17 : BitVec 32 := Scf.iv c0_i32_346 c1_i32_348 k0_t11
  let c16_i32_2212 : BitVec 32 := 16#32
  let v1211 : BitVec 32 := Scalar.muli arg17 c16_i32_2212
  let v1213 : Index := Scalar.indexCast v1211
  ![10, v1213.toNat]
@[reducible] def k0_t12_loop : Scf.Loop 32 :=
  let c0_i32_351 : BitVec 32 := 0#32
  let c64_i32_352 : BitVec 32 := 64#32
  let v222 : BitVec 32 := Scalar.addi c0_i32_351 c64_i32_352
  let c1_i32_353 : BitVec 32 := 1#32
  ⟨c0_i32_351, v222, c1_i32_353⟩
def k0_off13 (k0_t12 : Fin k0_t12_loop.trips) : Fin 2 → Nat :=
  let c11_i32 : BitVec 32 := 11#32
  let v1212 : Index := Scalar.indexCast c11_i32
  let c0_i32_351 : BitVec 32 := 0#32
  let c1_i32_353 : BitVec 32 := 1#32
  let arg17 : BitVec 32 := Scf.iv c0_i32_351 c1_i32_353 k0_t12
  let c16_i32_2212 : BitVec 32 := 16#32
  let v1211 : BitVec 32 := Scalar.muli arg17 c16_i32_2212
  let v1213 : Index := Scalar.indexCast v1211
  ![11, v1213.toNat]
@[reducible] def k0_t13_loop : Scf.Loop 32 :=
  let c0_i32_356 : BitVec 32 := 0#32
  let c64_i32_357 : BitVec 32 := 64#32
  let v223 : BitVec 32 := Scalar.addi c0_i32_356 c64_i32_357
  let c1_i32_358 : BitVec 32 := 1#32
  ⟨c0_i32_356, v223, c1_i32_358⟩
def k0_off14 (k0_t13 : Fin k0_t13_loop.trips) : Fin 2 → Nat :=
  let c12_i32 : BitVec 32 := 12#32
  let v1212 : Index := Scalar.indexCast c12_i32
  let c0_i32_356 : BitVec 32 := 0#32
  let c1_i32_358 : BitVec 32 := 1#32
  let arg17 : BitVec 32 := Scf.iv c0_i32_356 c1_i32_358 k0_t13
  let c16_i32_2212 : BitVec 32 := 16#32
  let v1211 : BitVec 32 := Scalar.muli arg17 c16_i32_2212
  let v1213 : Index := Scalar.indexCast v1211
  ![12, v1213.toNat]
@[reducible] def k0_t14_loop : Scf.Loop 32 :=
  let c0_i32_361 : BitVec 32 := 0#32
  let c64_i32_362 : BitVec 32 := 64#32
  let v224 : BitVec 32 := Scalar.addi c0_i32_361 c64_i32_362
  let c1_i32_363 : BitVec 32 := 1#32
  ⟨c0_i32_361, v224, c1_i32_363⟩
def k0_off15 (k0_t14 : Fin k0_t14_loop.trips) : Fin 2 → Nat :=
  let c13_i32 : BitVec 32 := 13#32
  let v1212 : Index := Scalar.indexCast c13_i32
  let c0_i32_361 : BitVec 32 := 0#32
  let c1_i32_363 : BitVec 32 := 1#32
  let arg17 : BitVec 32 := Scf.iv c0_i32_361 c1_i32_363 k0_t14
  let c16_i32_2212 : BitVec 32 := 16#32
  let v1211 : BitVec 32 := Scalar.muli arg17 c16_i32_2212
  let v1213 : Index := Scalar.indexCast v1211
  ![13, v1213.toNat]
@[reducible] def k0_t15_loop : Scf.Loop 32 :=
  let c0_i32_366 : BitVec 32 := 0#32
  let c64_i32_367 : BitVec 32 := 64#32
  let v225 : BitVec 32 := Scalar.addi c0_i32_366 c64_i32_367
  let c1_i32_368 : BitVec 32 := 1#32
  ⟨c0_i32_366, v225, c1_i32_368⟩
def k0_off16 (k0_t15 : Fin k0_t15_loop.trips) : Fin 2 → Nat :=
  let c14_i32 : BitVec 32 := 14#32
  let v1212 : Index := Scalar.indexCast c14_i32
  let c0_i32_366 : BitVec 32 := 0#32
  let c1_i32_368 : BitVec 32 := 1#32
  let arg17 : BitVec 32 := Scf.iv c0_i32_366 c1_i32_368 k0_t15
  let c16_i32_2212 : BitVec 32 := 16#32
  let v1211 : BitVec 32 := Scalar.muli arg17 c16_i32_2212
  let v1213 : Index := Scalar.indexCast v1211
  ![14, v1213.toNat]
@[reducible] def k0_t16_loop : Scf.Loop 32 :=
  let c0_i32_371 : BitVec 32 := 0#32
  let c64_i32_372 : BitVec 32 := 64#32
  let v226 : BitVec 32 := Scalar.addi c0_i32_371 c64_i32_372
  let c1_i32_373 : BitVec 32 := 1#32
  ⟨c0_i32_371, v226, c1_i32_373⟩
def k0_off17 (k0_t16 : Fin k0_t16_loop.trips) : Fin 2 → Nat :=
  let c15_i32 : BitVec 32 := 15#32
  let v1212 : Index := Scalar.indexCast c15_i32
  let c0_i32_371 : BitVec 32 := 0#32
  let c1_i32_373 : BitVec 32 := 1#32
  let arg17 : BitVec 32 := Scf.iv c0_i32_371 c1_i32_373 k0_t16
  let c16_i32_2212 : BitVec 32 := 16#32
  let v1211 : BitVec 32 := Scalar.muli arg17 c16_i32_2212
  let v1213 : Index := Scalar.indexCast v1211
  ![15, v1213.toNat]
def k0_off18 (i : grid0.Coords) (c0_i32_375 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v227 : BitVec 32 := Scalar.addi v2 c0_i32_375
  let c0_i32_376 : BitVec 32 := 0#32
  ![v227.toNat, 0]
@[reducible] def k0_t17_loop : Scf.Loop 32 :=
  let c0_i32_573 : BitVec 32 := 0#32
  let c64_i32_574 : BitVec 32 := 64#32
  let v360 : BitVec 32 := Scalar.addi c0_i32_573 c64_i32_574
  let c1_i32_575 : BitVec 32 := 1#32
  ⟨c0_i32_573, v360, c1_i32_575⟩
def k0_off19 (k0_t17 : Fin k0_t17_loop.trips) : Fin 2 → Nat :=
  let c0_i32_2213 : BitVec 32 := 0#32
  let v1212 : Index := Scalar.indexCast c0_i32_2213
  let c0_i32_573 : BitVec 32 := 0#32
  let c1_i32_575 : BitVec 32 := 1#32
  let arg17 : BitVec 32 := Scf.iv c0_i32_573 c1_i32_575 k0_t17
  let c16_i32_2212 : BitVec 32 := 16#32
  let v1211 : BitVec 32 := Scalar.muli arg17 c16_i32_2212
  let v1213 : Index := Scalar.indexCast v1211
  ![0, v1213.toNat]
@[reducible] def k0_t18_loop : Scf.Loop 32 :=
  let c0_i32_578 : BitVec 32 := 0#32
  let c64_i32_579 : BitVec 32 := 64#32
  let v361 : BitVec 32 := Scalar.addi c0_i32_578 c64_i32_579
  let c1_i32_580 : BitVec 32 := 1#32
  ⟨c0_i32_578, v361, c1_i32_580⟩
def k0_off20 (k0_t18 : Fin k0_t18_loop.trips) : Fin 2 → Nat :=
  let c1_i32_2213 : BitVec 32 := 1#32
  let v1212 : Index := Scalar.indexCast c1_i32_2213
  let c0_i32_578 : BitVec 32 := 0#32
  let c1_i32_580 : BitVec 32 := 1#32
  let arg17 : BitVec 32 := Scf.iv c0_i32_578 c1_i32_580 k0_t18
  let c16_i32_2212 : BitVec 32 := 16#32
  let v1211 : BitVec 32 := Scalar.muli arg17 c16_i32_2212
  let v1213 : Index := Scalar.indexCast v1211
  ![1, v1213.toNat]
@[reducible] def k0_t19_loop : Scf.Loop 32 :=
  let c0_i32_583 : BitVec 32 := 0#32
  let c64_i32_584 : BitVec 32 := 64#32
  let v362 : BitVec 32 := Scalar.addi c0_i32_583 c64_i32_584
  let c1_i32_585 : BitVec 32 := 1#32
  ⟨c0_i32_583, v362, c1_i32_585⟩
def k0_off21 (k0_t19 : Fin k0_t19_loop.trips) : Fin 2 → Nat :=
  let c2_i32_2213 : BitVec 32 := 2#32
  let v1212 : Index := Scalar.indexCast c2_i32_2213
  let c0_i32_583 : BitVec 32 := 0#32
  let c1_i32_585 : BitVec 32 := 1#32
  let arg17 : BitVec 32 := Scf.iv c0_i32_583 c1_i32_585 k0_t19
  let c16_i32_2212 : BitVec 32 := 16#32
  let v1211 : BitVec 32 := Scalar.muli arg17 c16_i32_2212
  let v1213 : Index := Scalar.indexCast v1211
  ![2, v1213.toNat]
@[reducible] def k0_t20_loop : Scf.Loop 32 :=
  let c0_i32_588 : BitVec 32 := 0#32
  let c64_i32_589 : BitVec 32 := 64#32
  let v363 : BitVec 32 := Scalar.addi c0_i32_588 c64_i32_589
  let c1_i32_590 : BitVec 32 := 1#32
  ⟨c0_i32_588, v363, c1_i32_590⟩
def k0_off22 (k0_t20 : Fin k0_t20_loop.trips) : Fin 2 → Nat :=
  let c3_i32_2213 : BitVec 32 := 3#32
  let v1212 : Index := Scalar.indexCast c3_i32_2213
  let c0_i32_588 : BitVec 32 := 0#32
  let c1_i32_590 : BitVec 32 := 1#32
  let arg17 : BitVec 32 := Scf.iv c0_i32_588 c1_i32_590 k0_t20
  let c16_i32_2212 : BitVec 32 := 16#32
  let v1211 : BitVec 32 := Scalar.muli arg17 c16_i32_2212
  let v1213 : Index := Scalar.indexCast v1211
  ![3, v1213.toNat]
@[reducible] def k0_t21_loop : Scf.Loop 32 :=
  let c0_i32_593 : BitVec 32 := 0#32
  let c64_i32_594 : BitVec 32 := 64#32
  let v364 : BitVec 32 := Scalar.addi c0_i32_593 c64_i32_594
  let c1_i32_595 : BitVec 32 := 1#32
  ⟨c0_i32_593, v364, c1_i32_595⟩
def k0_off23 (k0_t21 : Fin k0_t21_loop.trips) : Fin 2 → Nat :=
  let c4_i32_2213 : BitVec 32 := 4#32
  let v1212 : Index := Scalar.indexCast c4_i32_2213
  let c0_i32_593 : BitVec 32 := 0#32
  let c1_i32_595 : BitVec 32 := 1#32
  let arg17 : BitVec 32 := Scf.iv c0_i32_593 c1_i32_595 k0_t21
  let c16_i32_2212 : BitVec 32 := 16#32
  let v1211 : BitVec 32 := Scalar.muli arg17 c16_i32_2212
  let v1213 : Index := Scalar.indexCast v1211
  ![4, v1213.toNat]
@[reducible] def k0_t22_loop : Scf.Loop 32 :=
  let c0_i32_598 : BitVec 32 := 0#32
  let c64_i32_599 : BitVec 32 := 64#32
  let v365 : BitVec 32 := Scalar.addi c0_i32_598 c64_i32_599
  let c1_i32_600 : BitVec 32 := 1#32
  ⟨c0_i32_598, v365, c1_i32_600⟩
def k0_off24 (k0_t22 : Fin k0_t22_loop.trips) : Fin 2 → Nat :=
  let c5_i32_2213 : BitVec 32 := 5#32
  let v1212 : Index := Scalar.indexCast c5_i32_2213
  let c0_i32_598 : BitVec 32 := 0#32
  let c1_i32_600 : BitVec 32 := 1#32
  let arg17 : BitVec 32 := Scf.iv c0_i32_598 c1_i32_600 k0_t22
  let c16_i32_2212 : BitVec 32 := 16#32
  let v1211 : BitVec 32 := Scalar.muli arg17 c16_i32_2212
  let v1213 : Index := Scalar.indexCast v1211
  ![5, v1213.toNat]
@[reducible] def k0_t23_loop : Scf.Loop 32 :=
  let c0_i32_603 : BitVec 32 := 0#32
  let c64_i32_604 : BitVec 32 := 64#32
  let v366 : BitVec 32 := Scalar.addi c0_i32_603 c64_i32_604
  let c1_i32_605 : BitVec 32 := 1#32
  ⟨c0_i32_603, v366, c1_i32_605⟩
def k0_off25 (k0_t23 : Fin k0_t23_loop.trips) : Fin 2 → Nat :=
  let c6_i32_2213 : BitVec 32 := 6#32
  let v1212 : Index := Scalar.indexCast c6_i32_2213
  let c0_i32_603 : BitVec 32 := 0#32
  let c1_i32_605 : BitVec 32 := 1#32
  let arg17 : BitVec 32 := Scf.iv c0_i32_603 c1_i32_605 k0_t23
  let c16_i32_2212 : BitVec 32 := 16#32
  let v1211 : BitVec 32 := Scalar.muli arg17 c16_i32_2212
  let v1213 : Index := Scalar.indexCast v1211
  ![6, v1213.toNat]
@[reducible] def k0_t24_loop : Scf.Loop 32 :=
  let c0_i32_608 : BitVec 32 := 0#32
  let c64_i32_609 : BitVec 32 := 64#32
  let v367 : BitVec 32 := Scalar.addi c0_i32_608 c64_i32_609
  let c1_i32_610 : BitVec 32 := 1#32
  ⟨c0_i32_608, v367, c1_i32_610⟩
def k0_off26 (k0_t24 : Fin k0_t24_loop.trips) : Fin 2 → Nat :=
  let c7_i32_2213 : BitVec 32 := 7#32
  let v1212 : Index := Scalar.indexCast c7_i32_2213
  let c0_i32_608 : BitVec 32 := 0#32
  let c1_i32_610 : BitVec 32 := 1#32
  let arg17 : BitVec 32 := Scf.iv c0_i32_608 c1_i32_610 k0_t24
  let c16_i32_2212 : BitVec 32 := 16#32
  let v1211 : BitVec 32 := Scalar.muli arg17 c16_i32_2212
  let v1213 : Index := Scalar.indexCast v1211
  ![7, v1213.toNat]
@[reducible] def k0_t25_loop : Scf.Loop 32 :=
  let c0_i32_613 : BitVec 32 := 0#32
  let c64_i32_614 : BitVec 32 := 64#32
  let v368 : BitVec 32 := Scalar.addi c0_i32_613 c64_i32_614
  let c1_i32_615 : BitVec 32 := 1#32
  ⟨c0_i32_613, v368, c1_i32_615⟩
def k0_off27 (k0_t25 : Fin k0_t25_loop.trips) : Fin 2 → Nat :=
  let c8_i32 : BitVec 32 := 8#32
  let v1212 : Index := Scalar.indexCast c8_i32
  let c0_i32_613 : BitVec 32 := 0#32
  let c1_i32_615 : BitVec 32 := 1#32
  let arg17 : BitVec 32 := Scf.iv c0_i32_613 c1_i32_615 k0_t25
  let c16_i32_2212 : BitVec 32 := 16#32
  let v1211 : BitVec 32 := Scalar.muli arg17 c16_i32_2212
  let v1213 : Index := Scalar.indexCast v1211
  ![8, v1213.toNat]
@[reducible] def k0_t26_loop : Scf.Loop 32 :=
  let c0_i32_618 : BitVec 32 := 0#32
  let c64_i32_619 : BitVec 32 := 64#32
  let v369 : BitVec 32 := Scalar.addi c0_i32_618 c64_i32_619
  let c1_i32_620 : BitVec 32 := 1#32
  ⟨c0_i32_618, v369, c1_i32_620⟩
def k0_off28 (k0_t26 : Fin k0_t26_loop.trips) : Fin 2 → Nat :=
  let c9_i32 : BitVec 32 := 9#32
  let v1212 : Index := Scalar.indexCast c9_i32
  let c0_i32_618 : BitVec 32 := 0#32
  let c1_i32_620 : BitVec 32 := 1#32
  let arg17 : BitVec 32 := Scf.iv c0_i32_618 c1_i32_620 k0_t26
  let c16_i32_2212 : BitVec 32 := 16#32
  let v1211 : BitVec 32 := Scalar.muli arg17 c16_i32_2212
  let v1213 : Index := Scalar.indexCast v1211
  ![9, v1213.toNat]
@[reducible] def k0_t27_loop : Scf.Loop 32 :=
  let c0_i32_623 : BitVec 32 := 0#32
  let c64_i32_624 : BitVec 32 := 64#32
  let v370 : BitVec 32 := Scalar.addi c0_i32_623 c64_i32_624
  let c1_i32_625 : BitVec 32 := 1#32
  ⟨c0_i32_623, v370, c1_i32_625⟩
def k0_off29 (k0_t27 : Fin k0_t27_loop.trips) : Fin 2 → Nat :=
  let c10_i32 : BitVec 32 := 10#32
  let v1212 : Index := Scalar.indexCast c10_i32
  let c0_i32_623 : BitVec 32 := 0#32
  let c1_i32_625 : BitVec 32 := 1#32
  let arg17 : BitVec 32 := Scf.iv c0_i32_623 c1_i32_625 k0_t27
  let c16_i32_2212 : BitVec 32 := 16#32
  let v1211 : BitVec 32 := Scalar.muli arg17 c16_i32_2212
  let v1213 : Index := Scalar.indexCast v1211
  ![10, v1213.toNat]
@[reducible] def k0_t28_loop : Scf.Loop 32 :=
  let c0_i32_628 : BitVec 32 := 0#32
  let c64_i32_629 : BitVec 32 := 64#32
  let v371 : BitVec 32 := Scalar.addi c0_i32_628 c64_i32_629
  let c1_i32_630 : BitVec 32 := 1#32
  ⟨c0_i32_628, v371, c1_i32_630⟩
def k0_off30 (k0_t28 : Fin k0_t28_loop.trips) : Fin 2 → Nat :=
  let c11_i32 : BitVec 32 := 11#32
  let v1212 : Index := Scalar.indexCast c11_i32
  let c0_i32_628 : BitVec 32 := 0#32
  let c1_i32_630 : BitVec 32 := 1#32
  let arg17 : BitVec 32 := Scf.iv c0_i32_628 c1_i32_630 k0_t28
  let c16_i32_2212 : BitVec 32 := 16#32
  let v1211 : BitVec 32 := Scalar.muli arg17 c16_i32_2212
  let v1213 : Index := Scalar.indexCast v1211
  ![11, v1213.toNat]
@[reducible] def k0_t29_loop : Scf.Loop 32 :=
  let c0_i32_633 : BitVec 32 := 0#32
  let c64_i32_634 : BitVec 32 := 64#32
  let v372 : BitVec 32 := Scalar.addi c0_i32_633 c64_i32_634
  let c1_i32_635 : BitVec 32 := 1#32
  ⟨c0_i32_633, v372, c1_i32_635⟩
def k0_off31 (k0_t29 : Fin k0_t29_loop.trips) : Fin 2 → Nat :=
  let c12_i32 : BitVec 32 := 12#32
  let v1212 : Index := Scalar.indexCast c12_i32
  let c0_i32_633 : BitVec 32 := 0#32
  let c1_i32_635 : BitVec 32 := 1#32
  let arg17 : BitVec 32 := Scf.iv c0_i32_633 c1_i32_635 k0_t29
  let c16_i32_2212 : BitVec 32 := 16#32
  let v1211 : BitVec 32 := Scalar.muli arg17 c16_i32_2212
  let v1213 : Index := Scalar.indexCast v1211
  ![12, v1213.toNat]
@[reducible] def k0_t30_loop : Scf.Loop 32 :=
  let c0_i32_638 : BitVec 32 := 0#32
  let c64_i32_639 : BitVec 32 := 64#32
  let v373 : BitVec 32 := Scalar.addi c0_i32_638 c64_i32_639
  let c1_i32_640 : BitVec 32 := 1#32
  ⟨c0_i32_638, v373, c1_i32_640⟩
def k0_off32 (k0_t30 : Fin k0_t30_loop.trips) : Fin 2 → Nat :=
  let c13_i32 : BitVec 32 := 13#32
  let v1212 : Index := Scalar.indexCast c13_i32
  let c0_i32_638 : BitVec 32 := 0#32
  let c1_i32_640 : BitVec 32 := 1#32
  let arg17 : BitVec 32 := Scf.iv c0_i32_638 c1_i32_640 k0_t30
  let c16_i32_2212 : BitVec 32 := 16#32
  let v1211 : BitVec 32 := Scalar.muli arg17 c16_i32_2212
  let v1213 : Index := Scalar.indexCast v1211
  ![13, v1213.toNat]
@[reducible] def k0_t31_loop : Scf.Loop 32 :=
  let c0_i32_643 : BitVec 32 := 0#32
  let c64_i32_644 : BitVec 32 := 64#32
  let v374 : BitVec 32 := Scalar.addi c0_i32_643 c64_i32_644
  let c1_i32_645 : BitVec 32 := 1#32
  ⟨c0_i32_643, v374, c1_i32_645⟩
def k0_off33 (k0_t31 : Fin k0_t31_loop.trips) : Fin 2 → Nat :=
  let c14_i32 : BitVec 32 := 14#32
  let v1212 : Index := Scalar.indexCast c14_i32
  let c0_i32_643 : BitVec 32 := 0#32
  let c1_i32_645 : BitVec 32 := 1#32
  let arg17 : BitVec 32 := Scf.iv c0_i32_643 c1_i32_645 k0_t31
  let c16_i32_2212 : BitVec 32 := 16#32
  let v1211 : BitVec 32 := Scalar.muli arg17 c16_i32_2212
  let v1213 : Index := Scalar.indexCast v1211
  ![14, v1213.toNat]
@[reducible] def k0_t32_loop : Scf.Loop 32 :=
  let c0_i32_648 : BitVec 32 := 0#32
  let c64_i32_649 : BitVec 32 := 64#32
  let v375 : BitVec 32 := Scalar.addi c0_i32_648 c64_i32_649
  let c1_i32_650 : BitVec 32 := 1#32
  ⟨c0_i32_648, v375, c1_i32_650⟩
def k0_off34 (k0_t32 : Fin k0_t32_loop.trips) : Fin 2 → Nat :=
  let c15_i32 : BitVec 32 := 15#32
  let v1212 : Index := Scalar.indexCast c15_i32
  let c0_i32_648 : BitVec 32 := 0#32
  let c1_i32_650 : BitVec 32 := 1#32
  let arg17 : BitVec 32 := Scf.iv c0_i32_648 c1_i32_650 k0_t32
  let c16_i32_2212 : BitVec 32 := 16#32
  let v1211 : BitVec 32 := Scalar.muli arg17 c16_i32_2212
  let v1213 : Index := Scalar.indexCast v1211
  ![15, v1213.toNat]
@[reducible] def k0_t33_loop : Scf.Loop 32 :=
  let c0_i32_848 : BitVec 32 := 0#32
  let c64_i32_849 : BitVec 32 := 64#32
  let v509 : BitVec 32 := Scalar.addi c0_i32_848 c64_i32_849
  let c1_i32_850 : BitVec 32 := 1#32
  ⟨c0_i32_848, v509, c1_i32_850⟩
def k0_off35 (k0_t33 : Fin k0_t33_loop.trips) : Fin 2 → Nat :=
  let c0_i32_2213 : BitVec 32 := 0#32
  let v1212 : Index := Scalar.indexCast c0_i32_2213
  let c0_i32_848 : BitVec 32 := 0#32
  let c1_i32_850 : BitVec 32 := 1#32
  let arg17 : BitVec 32 := Scf.iv c0_i32_848 c1_i32_850 k0_t33
  let c16_i32_2212 : BitVec 32 := 16#32
  let v1211 : BitVec 32 := Scalar.muli arg17 c16_i32_2212
  let v1213 : Index := Scalar.indexCast v1211
  ![0, v1213.toNat]
@[reducible] def k0_t34_loop : Scf.Loop 32 :=
  let c0_i32_853 : BitVec 32 := 0#32
  let c64_i32_854 : BitVec 32 := 64#32
  let v510 : BitVec 32 := Scalar.addi c0_i32_853 c64_i32_854
  let c1_i32_855 : BitVec 32 := 1#32
  ⟨c0_i32_853, v510, c1_i32_855⟩
def k0_off36 (k0_t34 : Fin k0_t34_loop.trips) : Fin 2 → Nat :=
  let c1_i32_2213 : BitVec 32 := 1#32
  let v1212 : Index := Scalar.indexCast c1_i32_2213
  let c0_i32_853 : BitVec 32 := 0#32
  let c1_i32_855 : BitVec 32 := 1#32
  let arg17 : BitVec 32 := Scf.iv c0_i32_853 c1_i32_855 k0_t34
  let c16_i32_2212 : BitVec 32 := 16#32
  let v1211 : BitVec 32 := Scalar.muli arg17 c16_i32_2212
  let v1213 : Index := Scalar.indexCast v1211
  ![1, v1213.toNat]
@[reducible] def k0_t35_loop : Scf.Loop 32 :=
  let c0_i32_858 : BitVec 32 := 0#32
  let c64_i32_859 : BitVec 32 := 64#32
  let v511 : BitVec 32 := Scalar.addi c0_i32_858 c64_i32_859
  let c1_i32_860 : BitVec 32 := 1#32
  ⟨c0_i32_858, v511, c1_i32_860⟩
def k0_off37 (k0_t35 : Fin k0_t35_loop.trips) : Fin 2 → Nat :=
  let c2_i32_2213 : BitVec 32 := 2#32
  let v1212 : Index := Scalar.indexCast c2_i32_2213
  let c0_i32_858 : BitVec 32 := 0#32
  let c1_i32_860 : BitVec 32 := 1#32
  let arg17 : BitVec 32 := Scf.iv c0_i32_858 c1_i32_860 k0_t35
  let c16_i32_2212 : BitVec 32 := 16#32
  let v1211 : BitVec 32 := Scalar.muli arg17 c16_i32_2212
  let v1213 : Index := Scalar.indexCast v1211
  ![2, v1213.toNat]
@[reducible] def k0_t36_loop : Scf.Loop 32 :=
  let c0_i32_863 : BitVec 32 := 0#32
  let c64_i32_864 : BitVec 32 := 64#32
  let v512 : BitVec 32 := Scalar.addi c0_i32_863 c64_i32_864
  let c1_i32_865 : BitVec 32 := 1#32
  ⟨c0_i32_863, v512, c1_i32_865⟩
def k0_off38 (k0_t36 : Fin k0_t36_loop.trips) : Fin 2 → Nat :=
  let c3_i32_2213 : BitVec 32 := 3#32
  let v1212 : Index := Scalar.indexCast c3_i32_2213
  let c0_i32_863 : BitVec 32 := 0#32
  let c1_i32_865 : BitVec 32 := 1#32
  let arg17 : BitVec 32 := Scf.iv c0_i32_863 c1_i32_865 k0_t36
  let c16_i32_2212 : BitVec 32 := 16#32
  let v1211 : BitVec 32 := Scalar.muli arg17 c16_i32_2212
  let v1213 : Index := Scalar.indexCast v1211
  ![3, v1213.toNat]
@[reducible] def k0_t37_loop : Scf.Loop 32 :=
  let c0_i32_868 : BitVec 32 := 0#32
  let c64_i32_869 : BitVec 32 := 64#32
  let v513 : BitVec 32 := Scalar.addi c0_i32_868 c64_i32_869
  let c1_i32_870 : BitVec 32 := 1#32
  ⟨c0_i32_868, v513, c1_i32_870⟩
def k0_off39 (k0_t37 : Fin k0_t37_loop.trips) : Fin 2 → Nat :=
  let c4_i32_2213 : BitVec 32 := 4#32
  let v1212 : Index := Scalar.indexCast c4_i32_2213
  let c0_i32_868 : BitVec 32 := 0#32
  let c1_i32_870 : BitVec 32 := 1#32
  let arg17 : BitVec 32 := Scf.iv c0_i32_868 c1_i32_870 k0_t37
  let c16_i32_2212 : BitVec 32 := 16#32
  let v1211 : BitVec 32 := Scalar.muli arg17 c16_i32_2212
  let v1213 : Index := Scalar.indexCast v1211
  ![4, v1213.toNat]
@[reducible] def k0_t38_loop : Scf.Loop 32 :=
  let c0_i32_873 : BitVec 32 := 0#32
  let c64_i32_874 : BitVec 32 := 64#32
  let v514 : BitVec 32 := Scalar.addi c0_i32_873 c64_i32_874
  let c1_i32_875 : BitVec 32 := 1#32
  ⟨c0_i32_873, v514, c1_i32_875⟩
def k0_off40 (k0_t38 : Fin k0_t38_loop.trips) : Fin 2 → Nat :=
  let c5_i32_2213 : BitVec 32 := 5#32
  let v1212 : Index := Scalar.indexCast c5_i32_2213
  let c0_i32_873 : BitVec 32 := 0#32
  let c1_i32_875 : BitVec 32 := 1#32
  let arg17 : BitVec 32 := Scf.iv c0_i32_873 c1_i32_875 k0_t38
  let c16_i32_2212 : BitVec 32 := 16#32
  let v1211 : BitVec 32 := Scalar.muli arg17 c16_i32_2212
  let v1213 : Index := Scalar.indexCast v1211
  ![5, v1213.toNat]
@[reducible] def k0_t39_loop : Scf.Loop 32 :=
  let c0_i32_878 : BitVec 32 := 0#32
  let c64_i32_879 : BitVec 32 := 64#32
  let v515 : BitVec 32 := Scalar.addi c0_i32_878 c64_i32_879
  let c1_i32_880 : BitVec 32 := 1#32
  ⟨c0_i32_878, v515, c1_i32_880⟩
def k0_off41 (k0_t39 : Fin k0_t39_loop.trips) : Fin 2 → Nat :=
  let c6_i32_2213 : BitVec 32 := 6#32
  let v1212 : Index := Scalar.indexCast c6_i32_2213
  let c0_i32_878 : BitVec 32 := 0#32
  let c1_i32_880 : BitVec 32 := 1#32
  let arg17 : BitVec 32 := Scf.iv c0_i32_878 c1_i32_880 k0_t39
  let c16_i32_2212 : BitVec 32 := 16#32
  let v1211 : BitVec 32 := Scalar.muli arg17 c16_i32_2212
  let v1213 : Index := Scalar.indexCast v1211
  ![6, v1213.toNat]
@[reducible] def k0_t40_loop : Scf.Loop 32 :=
  let c0_i32_883 : BitVec 32 := 0#32
  let c64_i32_884 : BitVec 32 := 64#32
  let v516 : BitVec 32 := Scalar.addi c0_i32_883 c64_i32_884
  let c1_i32_885 : BitVec 32 := 1#32
  ⟨c0_i32_883, v516, c1_i32_885⟩
def k0_off42 (k0_t40 : Fin k0_t40_loop.trips) : Fin 2 → Nat :=
  let c7_i32_2213 : BitVec 32 := 7#32
  let v1212 : Index := Scalar.indexCast c7_i32_2213
  let c0_i32_883 : BitVec 32 := 0#32
  let c1_i32_885 : BitVec 32 := 1#32
  let arg17 : BitVec 32 := Scf.iv c0_i32_883 c1_i32_885 k0_t40
  let c16_i32_2212 : BitVec 32 := 16#32
  let v1211 : BitVec 32 := Scalar.muli arg17 c16_i32_2212
  let v1213 : Index := Scalar.indexCast v1211
  ![7, v1213.toNat]
@[reducible] def k0_t41_loop : Scf.Loop 32 :=
  let c0_i32_888 : BitVec 32 := 0#32
  let c64_i32_889 : BitVec 32 := 64#32
  let v517 : BitVec 32 := Scalar.addi c0_i32_888 c64_i32_889
  let c1_i32_890 : BitVec 32 := 1#32
  ⟨c0_i32_888, v517, c1_i32_890⟩
def k0_off43 (k0_t41 : Fin k0_t41_loop.trips) : Fin 2 → Nat :=
  let c8_i32 : BitVec 32 := 8#32
  let v1212 : Index := Scalar.indexCast c8_i32
  let c0_i32_888 : BitVec 32 := 0#32
  let c1_i32_890 : BitVec 32 := 1#32
  let arg17 : BitVec 32 := Scf.iv c0_i32_888 c1_i32_890 k0_t41
  let c16_i32_2212 : BitVec 32 := 16#32
  let v1211 : BitVec 32 := Scalar.muli arg17 c16_i32_2212
  let v1213 : Index := Scalar.indexCast v1211
  ![8, v1213.toNat]
@[reducible] def k0_t42_loop : Scf.Loop 32 :=
  let c0_i32_893 : BitVec 32 := 0#32
  let c64_i32_894 : BitVec 32 := 64#32
  let v518 : BitVec 32 := Scalar.addi c0_i32_893 c64_i32_894
  let c1_i32_895 : BitVec 32 := 1#32
  ⟨c0_i32_893, v518, c1_i32_895⟩
def k0_off44 (k0_t42 : Fin k0_t42_loop.trips) : Fin 2 → Nat :=
  let c9_i32 : BitVec 32 := 9#32
  let v1212 : Index := Scalar.indexCast c9_i32
  let c0_i32_893 : BitVec 32 := 0#32
  let c1_i32_895 : BitVec 32 := 1#32
  let arg17 : BitVec 32 := Scf.iv c0_i32_893 c1_i32_895 k0_t42
  let c16_i32_2212 : BitVec 32 := 16#32
  let v1211 : BitVec 32 := Scalar.muli arg17 c16_i32_2212
  let v1213 : Index := Scalar.indexCast v1211
  ![9, v1213.toNat]
@[reducible] def k0_t43_loop : Scf.Loop 32 :=
  let c0_i32_898 : BitVec 32 := 0#32
  let c64_i32_899 : BitVec 32 := 64#32
  let v519 : BitVec 32 := Scalar.addi c0_i32_898 c64_i32_899
  let c1_i32_900 : BitVec 32 := 1#32
  ⟨c0_i32_898, v519, c1_i32_900⟩
def k0_off45 (k0_t43 : Fin k0_t43_loop.trips) : Fin 2 → Nat :=
  let c10_i32 : BitVec 32 := 10#32
  let v1212 : Index := Scalar.indexCast c10_i32
  let c0_i32_898 : BitVec 32 := 0#32
  let c1_i32_900 : BitVec 32 := 1#32
  let arg17 : BitVec 32 := Scf.iv c0_i32_898 c1_i32_900 k0_t43
  let c16_i32_2212 : BitVec 32 := 16#32
  let v1211 : BitVec 32 := Scalar.muli arg17 c16_i32_2212
  let v1213 : Index := Scalar.indexCast v1211
  ![10, v1213.toNat]
@[reducible] def k0_t44_loop : Scf.Loop 32 :=
  let c0_i32_903 : BitVec 32 := 0#32
  let c64_i32_904 : BitVec 32 := 64#32
  let v520 : BitVec 32 := Scalar.addi c0_i32_903 c64_i32_904
  let c1_i32_905 : BitVec 32 := 1#32
  ⟨c0_i32_903, v520, c1_i32_905⟩
def k0_off46 (k0_t44 : Fin k0_t44_loop.trips) : Fin 2 → Nat :=
  let c11_i32 : BitVec 32 := 11#32
  let v1212 : Index := Scalar.indexCast c11_i32
  let c0_i32_903 : BitVec 32 := 0#32
  let c1_i32_905 : BitVec 32 := 1#32
  let arg17 : BitVec 32 := Scf.iv c0_i32_903 c1_i32_905 k0_t44
  let c16_i32_2212 : BitVec 32 := 16#32
  let v1211 : BitVec 32 := Scalar.muli arg17 c16_i32_2212
  let v1213 : Index := Scalar.indexCast v1211
  ![11, v1213.toNat]
@[reducible] def k0_t45_loop : Scf.Loop 32 :=
  let c0_i32_908 : BitVec 32 := 0#32
  let c64_i32_909 : BitVec 32 := 64#32
  let v521 : BitVec 32 := Scalar.addi c0_i32_908 c64_i32_909
  let c1_i32_910 : BitVec 32 := 1#32
  ⟨c0_i32_908, v521, c1_i32_910⟩
def k0_off47 (k0_t45 : Fin k0_t45_loop.trips) : Fin 2 → Nat :=
  let c12_i32 : BitVec 32 := 12#32
  let v1212 : Index := Scalar.indexCast c12_i32
  let c0_i32_908 : BitVec 32 := 0#32
  let c1_i32_910 : BitVec 32 := 1#32
  let arg17 : BitVec 32 := Scf.iv c0_i32_908 c1_i32_910 k0_t45
  let c16_i32_2212 : BitVec 32 := 16#32
  let v1211 : BitVec 32 := Scalar.muli arg17 c16_i32_2212
  let v1213 : Index := Scalar.indexCast v1211
  ![12, v1213.toNat]
@[reducible] def k0_t46_loop : Scf.Loop 32 :=
  let c0_i32_913 : BitVec 32 := 0#32
  let c64_i32_914 : BitVec 32 := 64#32
  let v522 : BitVec 32 := Scalar.addi c0_i32_913 c64_i32_914
  let c1_i32_915 : BitVec 32 := 1#32
  ⟨c0_i32_913, v522, c1_i32_915⟩
def k0_off48 (k0_t46 : Fin k0_t46_loop.trips) : Fin 2 → Nat :=
  let c13_i32 : BitVec 32 := 13#32
  let v1212 : Index := Scalar.indexCast c13_i32
  let c0_i32_913 : BitVec 32 := 0#32
  let c1_i32_915 : BitVec 32 := 1#32
  let arg17 : BitVec 32 := Scf.iv c0_i32_913 c1_i32_915 k0_t46
  let c16_i32_2212 : BitVec 32 := 16#32
  let v1211 : BitVec 32 := Scalar.muli arg17 c16_i32_2212
  let v1213 : Index := Scalar.indexCast v1211
  ![13, v1213.toNat]
@[reducible] def k0_t47_loop : Scf.Loop 32 :=
  let c0_i32_918 : BitVec 32 := 0#32
  let c64_i32_919 : BitVec 32 := 64#32
  let v523 : BitVec 32 := Scalar.addi c0_i32_918 c64_i32_919
  let c1_i32_920 : BitVec 32 := 1#32
  ⟨c0_i32_918, v523, c1_i32_920⟩
def k0_off49 (k0_t47 : Fin k0_t47_loop.trips) : Fin 2 → Nat :=
  let c14_i32 : BitVec 32 := 14#32
  let v1212 : Index := Scalar.indexCast c14_i32
  let c0_i32_918 : BitVec 32 := 0#32
  let c1_i32_920 : BitVec 32 := 1#32
  let arg17 : BitVec 32 := Scf.iv c0_i32_918 c1_i32_920 k0_t47
  let c16_i32_2212 : BitVec 32 := 16#32
  let v1211 : BitVec 32 := Scalar.muli arg17 c16_i32_2212
  let v1213 : Index := Scalar.indexCast v1211
  ![14, v1213.toNat]
@[reducible] def k0_t48_loop : Scf.Loop 32 :=
  let c0_i32_923 : BitVec 32 := 0#32
  let c64_i32_924 : BitVec 32 := 64#32
  let v524 : BitVec 32 := Scalar.addi c0_i32_923 c64_i32_924
  let c1_i32_925 : BitVec 32 := 1#32
  ⟨c0_i32_923, v524, c1_i32_925⟩
def k0_off50 (k0_t48 : Fin k0_t48_loop.trips) : Fin 2 → Nat :=
  let c15_i32 : BitVec 32 := 15#32
  let v1212 : Index := Scalar.indexCast c15_i32
  let c0_i32_923 : BitVec 32 := 0#32
  let c1_i32_925 : BitVec 32 := 1#32
  let arg17 : BitVec 32 := Scf.iv c0_i32_923 c1_i32_925 k0_t48
  let c16_i32_2212 : BitVec 32 := 16#32
  let v1211 : BitVec 32 := Scalar.muli arg17 c16_i32_2212
  let v1213 : Index := Scalar.indexCast v1211
  ![15, v1213.toNat]
@[reducible] def k0_t49_loop : Scf.Loop 32 :=
  let c0_i32_1123 : BitVec 32 := 0#32
  let c64_i32_1124 : BitVec 32 := 64#32
  let v658 : BitVec 32 := Scalar.addi c0_i32_1123 c64_i32_1124
  let c1_i32_1125 : BitVec 32 := 1#32
  ⟨c0_i32_1123, v658, c1_i32_1125⟩
def k0_off51 (k0_t49 : Fin k0_t49_loop.trips) : Fin 2 → Nat :=
  let c0_i32_2213 : BitVec 32 := 0#32
  let v1212 : Index := Scalar.indexCast c0_i32_2213
  let c0_i32_1123 : BitVec 32 := 0#32
  let c1_i32_1125 : BitVec 32 := 1#32
  let arg17 : BitVec 32 := Scf.iv c0_i32_1123 c1_i32_1125 k0_t49
  let c16_i32_2212 : BitVec 32 := 16#32
  let v1211 : BitVec 32 := Scalar.muli arg17 c16_i32_2212
  let v1213 : Index := Scalar.indexCast v1211
  ![0, v1213.toNat]
@[reducible] def k0_t50_loop : Scf.Loop 32 :=
  let c0_i32_1128 : BitVec 32 := 0#32
  let c64_i32_1129 : BitVec 32 := 64#32
  let v659 : BitVec 32 := Scalar.addi c0_i32_1128 c64_i32_1129
  let c1_i32_1130 : BitVec 32 := 1#32
  ⟨c0_i32_1128, v659, c1_i32_1130⟩
def k0_off52 (k0_t50 : Fin k0_t50_loop.trips) : Fin 2 → Nat :=
  let c1_i32_2213 : BitVec 32 := 1#32
  let v1212 : Index := Scalar.indexCast c1_i32_2213
  let c0_i32_1128 : BitVec 32 := 0#32
  let c1_i32_1130 : BitVec 32 := 1#32
  let arg17 : BitVec 32 := Scf.iv c0_i32_1128 c1_i32_1130 k0_t50
  let c16_i32_2212 : BitVec 32 := 16#32
  let v1211 : BitVec 32 := Scalar.muli arg17 c16_i32_2212
  let v1213 : Index := Scalar.indexCast v1211
  ![1, v1213.toNat]
@[reducible] def k0_t51_loop : Scf.Loop 32 :=
  let c0_i32_1133 : BitVec 32 := 0#32
  let c64_i32_1134 : BitVec 32 := 64#32
  let v660 : BitVec 32 := Scalar.addi c0_i32_1133 c64_i32_1134
  let c1_i32_1135 : BitVec 32 := 1#32
  ⟨c0_i32_1133, v660, c1_i32_1135⟩
def k0_off53 (k0_t51 : Fin k0_t51_loop.trips) : Fin 2 → Nat :=
  let c2_i32_2213 : BitVec 32 := 2#32
  let v1212 : Index := Scalar.indexCast c2_i32_2213
  let c0_i32_1133 : BitVec 32 := 0#32
  let c1_i32_1135 : BitVec 32 := 1#32
  let arg17 : BitVec 32 := Scf.iv c0_i32_1133 c1_i32_1135 k0_t51
  let c16_i32_2212 : BitVec 32 := 16#32
  let v1211 : BitVec 32 := Scalar.muli arg17 c16_i32_2212
  let v1213 : Index := Scalar.indexCast v1211
  ![2, v1213.toNat]
@[reducible] def k0_t52_loop : Scf.Loop 32 :=
  let c0_i32_1138 : BitVec 32 := 0#32
  let c64_i32_1139 : BitVec 32 := 64#32
  let v661 : BitVec 32 := Scalar.addi c0_i32_1138 c64_i32_1139
  let c1_i32_1140 : BitVec 32 := 1#32
  ⟨c0_i32_1138, v661, c1_i32_1140⟩
def k0_off54 (k0_t52 : Fin k0_t52_loop.trips) : Fin 2 → Nat :=
  let c3_i32_2213 : BitVec 32 := 3#32
  let v1212 : Index := Scalar.indexCast c3_i32_2213
  let c0_i32_1138 : BitVec 32 := 0#32
  let c1_i32_1140 : BitVec 32 := 1#32
  let arg17 : BitVec 32 := Scf.iv c0_i32_1138 c1_i32_1140 k0_t52
  let c16_i32_2212 : BitVec 32 := 16#32
  let v1211 : BitVec 32 := Scalar.muli arg17 c16_i32_2212
  let v1213 : Index := Scalar.indexCast v1211
  ![3, v1213.toNat]
@[reducible] def k0_t53_loop : Scf.Loop 32 :=
  let c0_i32_1143 : BitVec 32 := 0#32
  let c64_i32_1144 : BitVec 32 := 64#32
  let v662 : BitVec 32 := Scalar.addi c0_i32_1143 c64_i32_1144
  let c1_i32_1145 : BitVec 32 := 1#32
  ⟨c0_i32_1143, v662, c1_i32_1145⟩
def k0_off55 (k0_t53 : Fin k0_t53_loop.trips) : Fin 2 → Nat :=
  let c4_i32_2213 : BitVec 32 := 4#32
  let v1212 : Index := Scalar.indexCast c4_i32_2213
  let c0_i32_1143 : BitVec 32 := 0#32
  let c1_i32_1145 : BitVec 32 := 1#32
  let arg17 : BitVec 32 := Scf.iv c0_i32_1143 c1_i32_1145 k0_t53
  let c16_i32_2212 : BitVec 32 := 16#32
  let v1211 : BitVec 32 := Scalar.muli arg17 c16_i32_2212
  let v1213 : Index := Scalar.indexCast v1211
  ![4, v1213.toNat]
@[reducible] def k0_t54_loop : Scf.Loop 32 :=
  let c0_i32_1148 : BitVec 32 := 0#32
  let c64_i32_1149 : BitVec 32 := 64#32
  let v663 : BitVec 32 := Scalar.addi c0_i32_1148 c64_i32_1149
  let c1_i32_1150 : BitVec 32 := 1#32
  ⟨c0_i32_1148, v663, c1_i32_1150⟩
def k0_off56 (k0_t54 : Fin k0_t54_loop.trips) : Fin 2 → Nat :=
  let c5_i32_2213 : BitVec 32 := 5#32
  let v1212 : Index := Scalar.indexCast c5_i32_2213
  let c0_i32_1148 : BitVec 32 := 0#32
  let c1_i32_1150 : BitVec 32 := 1#32
  let arg17 : BitVec 32 := Scf.iv c0_i32_1148 c1_i32_1150 k0_t54
  let c16_i32_2212 : BitVec 32 := 16#32
  let v1211 : BitVec 32 := Scalar.muli arg17 c16_i32_2212
  let v1213 : Index := Scalar.indexCast v1211
  ![5, v1213.toNat]
@[reducible] def k0_t55_loop : Scf.Loop 32 :=
  let c0_i32_1153 : BitVec 32 := 0#32
  let c64_i32_1154 : BitVec 32 := 64#32
  let v664 : BitVec 32 := Scalar.addi c0_i32_1153 c64_i32_1154
  let c1_i32_1155 : BitVec 32 := 1#32
  ⟨c0_i32_1153, v664, c1_i32_1155⟩
def k0_off57 (k0_t55 : Fin k0_t55_loop.trips) : Fin 2 → Nat :=
  let c6_i32_2213 : BitVec 32 := 6#32
  let v1212 : Index := Scalar.indexCast c6_i32_2213
  let c0_i32_1153 : BitVec 32 := 0#32
  let c1_i32_1155 : BitVec 32 := 1#32
  let arg17 : BitVec 32 := Scf.iv c0_i32_1153 c1_i32_1155 k0_t55
  let c16_i32_2212 : BitVec 32 := 16#32
  let v1211 : BitVec 32 := Scalar.muli arg17 c16_i32_2212
  let v1213 : Index := Scalar.indexCast v1211
  ![6, v1213.toNat]
@[reducible] def k0_t56_loop : Scf.Loop 32 :=
  let c0_i32_1158 : BitVec 32 := 0#32
  let c64_i32_1159 : BitVec 32 := 64#32
  let v665 : BitVec 32 := Scalar.addi c0_i32_1158 c64_i32_1159
  let c1_i32_1160 : BitVec 32 := 1#32
  ⟨c0_i32_1158, v665, c1_i32_1160⟩
def k0_off58 (k0_t56 : Fin k0_t56_loop.trips) : Fin 2 → Nat :=
  let c7_i32_2213 : BitVec 32 := 7#32
  let v1212 : Index := Scalar.indexCast c7_i32_2213
  let c0_i32_1158 : BitVec 32 := 0#32
  let c1_i32_1160 : BitVec 32 := 1#32
  let arg17 : BitVec 32 := Scf.iv c0_i32_1158 c1_i32_1160 k0_t56
  let c16_i32_2212 : BitVec 32 := 16#32
  let v1211 : BitVec 32 := Scalar.muli arg17 c16_i32_2212
  let v1213 : Index := Scalar.indexCast v1211
  ![7, v1213.toNat]
@[reducible] def k0_t57_loop : Scf.Loop 32 :=
  let c0_i32_1163 : BitVec 32 := 0#32
  let c64_i32_1164 : BitVec 32 := 64#32
  let v666 : BitVec 32 := Scalar.addi c0_i32_1163 c64_i32_1164
  let c1_i32_1165 : BitVec 32 := 1#32
  ⟨c0_i32_1163, v666, c1_i32_1165⟩
def k0_off59 (k0_t57 : Fin k0_t57_loop.trips) : Fin 2 → Nat :=
  let c8_i32 : BitVec 32 := 8#32
  let v1212 : Index := Scalar.indexCast c8_i32
  let c0_i32_1163 : BitVec 32 := 0#32
  let c1_i32_1165 : BitVec 32 := 1#32
  let arg17 : BitVec 32 := Scf.iv c0_i32_1163 c1_i32_1165 k0_t57
  let c16_i32_2212 : BitVec 32 := 16#32
  let v1211 : BitVec 32 := Scalar.muli arg17 c16_i32_2212
  let v1213 : Index := Scalar.indexCast v1211
  ![8, v1213.toNat]
@[reducible] def k0_t58_loop : Scf.Loop 32 :=
  let c0_i32_1168 : BitVec 32 := 0#32
  let c64_i32_1169 : BitVec 32 := 64#32
  let v667 : BitVec 32 := Scalar.addi c0_i32_1168 c64_i32_1169
  let c1_i32_1170 : BitVec 32 := 1#32
  ⟨c0_i32_1168, v667, c1_i32_1170⟩
def k0_off60 (k0_t58 : Fin k0_t58_loop.trips) : Fin 2 → Nat :=
  let c9_i32 : BitVec 32 := 9#32
  let v1212 : Index := Scalar.indexCast c9_i32
  let c0_i32_1168 : BitVec 32 := 0#32
  let c1_i32_1170 : BitVec 32 := 1#32
  let arg17 : BitVec 32 := Scf.iv c0_i32_1168 c1_i32_1170 k0_t58
  let c16_i32_2212 : BitVec 32 := 16#32
  let v1211 : BitVec 32 := Scalar.muli arg17 c16_i32_2212
  let v1213 : Index := Scalar.indexCast v1211
  ![9, v1213.toNat]
@[reducible] def k0_t59_loop : Scf.Loop 32 :=
  let c0_i32_1173 : BitVec 32 := 0#32
  let c64_i32_1174 : BitVec 32 := 64#32
  let v668 : BitVec 32 := Scalar.addi c0_i32_1173 c64_i32_1174
  let c1_i32_1175 : BitVec 32 := 1#32
  ⟨c0_i32_1173, v668, c1_i32_1175⟩
def k0_off61 (k0_t59 : Fin k0_t59_loop.trips) : Fin 2 → Nat :=
  let c10_i32 : BitVec 32 := 10#32
  let v1212 : Index := Scalar.indexCast c10_i32
  let c0_i32_1173 : BitVec 32 := 0#32
  let c1_i32_1175 : BitVec 32 := 1#32
  let arg17 : BitVec 32 := Scf.iv c0_i32_1173 c1_i32_1175 k0_t59
  let c16_i32_2212 : BitVec 32 := 16#32
  let v1211 : BitVec 32 := Scalar.muli arg17 c16_i32_2212
  let v1213 : Index := Scalar.indexCast v1211
  ![10, v1213.toNat]
@[reducible] def k0_t60_loop : Scf.Loop 32 :=
  let c0_i32_1178 : BitVec 32 := 0#32
  let c64_i32_1179 : BitVec 32 := 64#32
  let v669 : BitVec 32 := Scalar.addi c0_i32_1178 c64_i32_1179
  let c1_i32_1180 : BitVec 32 := 1#32
  ⟨c0_i32_1178, v669, c1_i32_1180⟩
def k0_off62 (k0_t60 : Fin k0_t60_loop.trips) : Fin 2 → Nat :=
  let c11_i32 : BitVec 32 := 11#32
  let v1212 : Index := Scalar.indexCast c11_i32
  let c0_i32_1178 : BitVec 32 := 0#32
  let c1_i32_1180 : BitVec 32 := 1#32
  let arg17 : BitVec 32 := Scf.iv c0_i32_1178 c1_i32_1180 k0_t60
  let c16_i32_2212 : BitVec 32 := 16#32
  let v1211 : BitVec 32 := Scalar.muli arg17 c16_i32_2212
  let v1213 : Index := Scalar.indexCast v1211
  ![11, v1213.toNat]
@[reducible] def k0_t61_loop : Scf.Loop 32 :=
  let c0_i32_1183 : BitVec 32 := 0#32
  let c64_i32_1184 : BitVec 32 := 64#32
  let v670 : BitVec 32 := Scalar.addi c0_i32_1183 c64_i32_1184
  let c1_i32_1185 : BitVec 32 := 1#32
  ⟨c0_i32_1183, v670, c1_i32_1185⟩
def k0_off63 (k0_t61 : Fin k0_t61_loop.trips) : Fin 2 → Nat :=
  let c12_i32 : BitVec 32 := 12#32
  let v1212 : Index := Scalar.indexCast c12_i32
  let c0_i32_1183 : BitVec 32 := 0#32
  let c1_i32_1185 : BitVec 32 := 1#32
  let arg17 : BitVec 32 := Scf.iv c0_i32_1183 c1_i32_1185 k0_t61
  let c16_i32_2212 : BitVec 32 := 16#32
  let v1211 : BitVec 32 := Scalar.muli arg17 c16_i32_2212
  let v1213 : Index := Scalar.indexCast v1211
  ![12, v1213.toNat]
@[reducible] def k0_t62_loop : Scf.Loop 32 :=
  let c0_i32_1188 : BitVec 32 := 0#32
  let c64_i32_1189 : BitVec 32 := 64#32
  let v671 : BitVec 32 := Scalar.addi c0_i32_1188 c64_i32_1189
  let c1_i32_1190 : BitVec 32 := 1#32
  ⟨c0_i32_1188, v671, c1_i32_1190⟩
def k0_off64 (k0_t62 : Fin k0_t62_loop.trips) : Fin 2 → Nat :=
  let c13_i32 : BitVec 32 := 13#32
  let v1212 : Index := Scalar.indexCast c13_i32
  let c0_i32_1188 : BitVec 32 := 0#32
  let c1_i32_1190 : BitVec 32 := 1#32
  let arg17 : BitVec 32 := Scf.iv c0_i32_1188 c1_i32_1190 k0_t62
  let c16_i32_2212 : BitVec 32 := 16#32
  let v1211 : BitVec 32 := Scalar.muli arg17 c16_i32_2212
  let v1213 : Index := Scalar.indexCast v1211
  ![13, v1213.toNat]
@[reducible] def k0_t63_loop : Scf.Loop 32 :=
  let c0_i32_1193 : BitVec 32 := 0#32
  let c64_i32_1194 : BitVec 32 := 64#32
  let v672 : BitVec 32 := Scalar.addi c0_i32_1193 c64_i32_1194
  let c1_i32_1195 : BitVec 32 := 1#32
  ⟨c0_i32_1193, v672, c1_i32_1195⟩
def k0_off65 (k0_t63 : Fin k0_t63_loop.trips) : Fin 2 → Nat :=
  let c14_i32 : BitVec 32 := 14#32
  let v1212 : Index := Scalar.indexCast c14_i32
  let c0_i32_1193 : BitVec 32 := 0#32
  let c1_i32_1195 : BitVec 32 := 1#32
  let arg17 : BitVec 32 := Scf.iv c0_i32_1193 c1_i32_1195 k0_t63
  let c16_i32_2212 : BitVec 32 := 16#32
  let v1211 : BitVec 32 := Scalar.muli arg17 c16_i32_2212
  let v1213 : Index := Scalar.indexCast v1211
  ![14, v1213.toNat]
@[reducible] def k0_t64_loop : Scf.Loop 32 :=
  let c0_i32_1198 : BitVec 32 := 0#32
  let c64_i32_1199 : BitVec 32 := 64#32
  let v673 : BitVec 32 := Scalar.addi c0_i32_1198 c64_i32_1199
  let c1_i32_1200 : BitVec 32 := 1#32
  ⟨c0_i32_1198, v673, c1_i32_1200⟩
def k0_off66 (k0_t64 : Fin k0_t64_loop.trips) : Fin 2 → Nat :=
  let c15_i32 : BitVec 32 := 15#32
  let v1212 : Index := Scalar.indexCast c15_i32
  let c0_i32_1198 : BitVec 32 := 0#32
  let c1_i32_1200 : BitVec 32 := 1#32
  let arg17 : BitVec 32 := Scf.iv c0_i32_1198 c1_i32_1200 k0_t64
  let c16_i32_2212 : BitVec 32 := 16#32
  let v1211 : BitVec 32 := Scalar.muli arg17 c16_i32_2212
  let v1213 : Index := Scalar.indexCast v1211
  ![15, v1213.toNat]
@[reducible] def k0_t65_loop : Scf.Loop 32 :=
  let c0_i32_1398 : BitVec 32 := 0#32
  let c64_i32_1399 : BitVec 32 := 64#32
  let v807 : BitVec 32 := Scalar.addi c0_i32_1398 c64_i32_1399
  let c1_i32_1400 : BitVec 32 := 1#32
  ⟨c0_i32_1398, v807, c1_i32_1400⟩
def k0_off67 (k0_t65 : Fin k0_t65_loop.trips) : Fin 2 → Nat :=
  let c0_i32_2213 : BitVec 32 := 0#32
  let v1212 : Index := Scalar.indexCast c0_i32_2213
  let c0_i32_1398 : BitVec 32 := 0#32
  let c1_i32_1400 : BitVec 32 := 1#32
  let arg17 : BitVec 32 := Scf.iv c0_i32_1398 c1_i32_1400 k0_t65
  let c16_i32_2212 : BitVec 32 := 16#32
  let v1211 : BitVec 32 := Scalar.muli arg17 c16_i32_2212
  let v1213 : Index := Scalar.indexCast v1211
  ![0, v1213.toNat]
@[reducible] def k0_t66_loop : Scf.Loop 32 :=
  let c0_i32_1403 : BitVec 32 := 0#32
  let c64_i32_1404 : BitVec 32 := 64#32
  let v808 : BitVec 32 := Scalar.addi c0_i32_1403 c64_i32_1404
  let c1_i32_1405 : BitVec 32 := 1#32
  ⟨c0_i32_1403, v808, c1_i32_1405⟩
def k0_off68 (k0_t66 : Fin k0_t66_loop.trips) : Fin 2 → Nat :=
  let c1_i32_2213 : BitVec 32 := 1#32
  let v1212 : Index := Scalar.indexCast c1_i32_2213
  let c0_i32_1403 : BitVec 32 := 0#32
  let c1_i32_1405 : BitVec 32 := 1#32
  let arg17 : BitVec 32 := Scf.iv c0_i32_1403 c1_i32_1405 k0_t66
  let c16_i32_2212 : BitVec 32 := 16#32
  let v1211 : BitVec 32 := Scalar.muli arg17 c16_i32_2212
  let v1213 : Index := Scalar.indexCast v1211
  ![1, v1213.toNat]
@[reducible] def k0_t67_loop : Scf.Loop 32 :=
  let c0_i32_1408 : BitVec 32 := 0#32
  let c64_i32_1409 : BitVec 32 := 64#32
  let v809 : BitVec 32 := Scalar.addi c0_i32_1408 c64_i32_1409
  let c1_i32_1410 : BitVec 32 := 1#32
  ⟨c0_i32_1408, v809, c1_i32_1410⟩
def k0_off69 (k0_t67 : Fin k0_t67_loop.trips) : Fin 2 → Nat :=
  let c2_i32_2213 : BitVec 32 := 2#32
  let v1212 : Index := Scalar.indexCast c2_i32_2213
  let c0_i32_1408 : BitVec 32 := 0#32
  let c1_i32_1410 : BitVec 32 := 1#32
  let arg17 : BitVec 32 := Scf.iv c0_i32_1408 c1_i32_1410 k0_t67
  let c16_i32_2212 : BitVec 32 := 16#32
  let v1211 : BitVec 32 := Scalar.muli arg17 c16_i32_2212
  let v1213 : Index := Scalar.indexCast v1211
  ![2, v1213.toNat]
@[reducible] def k0_t68_loop : Scf.Loop 32 :=
  let c0_i32_1413 : BitVec 32 := 0#32
  let c64_i32_1414 : BitVec 32 := 64#32
  let v810 : BitVec 32 := Scalar.addi c0_i32_1413 c64_i32_1414
  let c1_i32_1415 : BitVec 32 := 1#32
  ⟨c0_i32_1413, v810, c1_i32_1415⟩
def k0_off70 (k0_t68 : Fin k0_t68_loop.trips) : Fin 2 → Nat :=
  let c3_i32_2213 : BitVec 32 := 3#32
  let v1212 : Index := Scalar.indexCast c3_i32_2213
  let c0_i32_1413 : BitVec 32 := 0#32
  let c1_i32_1415 : BitVec 32 := 1#32
  let arg17 : BitVec 32 := Scf.iv c0_i32_1413 c1_i32_1415 k0_t68
  let c16_i32_2212 : BitVec 32 := 16#32
  let v1211 : BitVec 32 := Scalar.muli arg17 c16_i32_2212
  let v1213 : Index := Scalar.indexCast v1211
  ![3, v1213.toNat]
@[reducible] def k0_t69_loop : Scf.Loop 32 :=
  let c0_i32_1418 : BitVec 32 := 0#32
  let c64_i32_1419 : BitVec 32 := 64#32
  let v811 : BitVec 32 := Scalar.addi c0_i32_1418 c64_i32_1419
  let c1_i32_1420 : BitVec 32 := 1#32
  ⟨c0_i32_1418, v811, c1_i32_1420⟩
def k0_off71 (k0_t69 : Fin k0_t69_loop.trips) : Fin 2 → Nat :=
  let c4_i32_2213 : BitVec 32 := 4#32
  let v1212 : Index := Scalar.indexCast c4_i32_2213
  let c0_i32_1418 : BitVec 32 := 0#32
  let c1_i32_1420 : BitVec 32 := 1#32
  let arg17 : BitVec 32 := Scf.iv c0_i32_1418 c1_i32_1420 k0_t69
  let c16_i32_2212 : BitVec 32 := 16#32
  let v1211 : BitVec 32 := Scalar.muli arg17 c16_i32_2212
  let v1213 : Index := Scalar.indexCast v1211
  ![4, v1213.toNat]
@[reducible] def k0_t70_loop : Scf.Loop 32 :=
  let c0_i32_1423 : BitVec 32 := 0#32
  let c64_i32_1424 : BitVec 32 := 64#32
  let v812 : BitVec 32 := Scalar.addi c0_i32_1423 c64_i32_1424
  let c1_i32_1425 : BitVec 32 := 1#32
  ⟨c0_i32_1423, v812, c1_i32_1425⟩
def k0_off72 (k0_t70 : Fin k0_t70_loop.trips) : Fin 2 → Nat :=
  let c5_i32_2213 : BitVec 32 := 5#32
  let v1212 : Index := Scalar.indexCast c5_i32_2213
  let c0_i32_1423 : BitVec 32 := 0#32
  let c1_i32_1425 : BitVec 32 := 1#32
  let arg17 : BitVec 32 := Scf.iv c0_i32_1423 c1_i32_1425 k0_t70
  let c16_i32_2212 : BitVec 32 := 16#32
  let v1211 : BitVec 32 := Scalar.muli arg17 c16_i32_2212
  let v1213 : Index := Scalar.indexCast v1211
  ![5, v1213.toNat]
@[reducible] def k0_t71_loop : Scf.Loop 32 :=
  let c0_i32_1428 : BitVec 32 := 0#32
  let c64_i32_1429 : BitVec 32 := 64#32
  let v813 : BitVec 32 := Scalar.addi c0_i32_1428 c64_i32_1429
  let c1_i32_1430 : BitVec 32 := 1#32
  ⟨c0_i32_1428, v813, c1_i32_1430⟩
def k0_off73 (k0_t71 : Fin k0_t71_loop.trips) : Fin 2 → Nat :=
  let c6_i32_2213 : BitVec 32 := 6#32
  let v1212 : Index := Scalar.indexCast c6_i32_2213
  let c0_i32_1428 : BitVec 32 := 0#32
  let c1_i32_1430 : BitVec 32 := 1#32
  let arg17 : BitVec 32 := Scf.iv c0_i32_1428 c1_i32_1430 k0_t71
  let c16_i32_2212 : BitVec 32 := 16#32
  let v1211 : BitVec 32 := Scalar.muli arg17 c16_i32_2212
  let v1213 : Index := Scalar.indexCast v1211
  ![6, v1213.toNat]
@[reducible] def k0_t72_loop : Scf.Loop 32 :=
  let c0_i32_1433 : BitVec 32 := 0#32
  let c64_i32_1434 : BitVec 32 := 64#32
  let v814 : BitVec 32 := Scalar.addi c0_i32_1433 c64_i32_1434
  let c1_i32_1435 : BitVec 32 := 1#32
  ⟨c0_i32_1433, v814, c1_i32_1435⟩
def k0_off74 (k0_t72 : Fin k0_t72_loop.trips) : Fin 2 → Nat :=
  let c7_i32_2213 : BitVec 32 := 7#32
  let v1212 : Index := Scalar.indexCast c7_i32_2213
  let c0_i32_1433 : BitVec 32 := 0#32
  let c1_i32_1435 : BitVec 32 := 1#32
  let arg17 : BitVec 32 := Scf.iv c0_i32_1433 c1_i32_1435 k0_t72
  let c16_i32_2212 : BitVec 32 := 16#32
  let v1211 : BitVec 32 := Scalar.muli arg17 c16_i32_2212
  let v1213 : Index := Scalar.indexCast v1211
  ![7, v1213.toNat]
@[reducible] def k0_t73_loop : Scf.Loop 32 :=
  let c0_i32_1438 : BitVec 32 := 0#32
  let c64_i32_1439 : BitVec 32 := 64#32
  let v815 : BitVec 32 := Scalar.addi c0_i32_1438 c64_i32_1439
  let c1_i32_1440 : BitVec 32 := 1#32
  ⟨c0_i32_1438, v815, c1_i32_1440⟩
def k0_off75 (k0_t73 : Fin k0_t73_loop.trips) : Fin 2 → Nat :=
  let c8_i32 : BitVec 32 := 8#32
  let v1212 : Index := Scalar.indexCast c8_i32
  let c0_i32_1438 : BitVec 32 := 0#32
  let c1_i32_1440 : BitVec 32 := 1#32
  let arg17 : BitVec 32 := Scf.iv c0_i32_1438 c1_i32_1440 k0_t73
  let c16_i32_2212 : BitVec 32 := 16#32
  let v1211 : BitVec 32 := Scalar.muli arg17 c16_i32_2212
  let v1213 : Index := Scalar.indexCast v1211
  ![8, v1213.toNat]
@[reducible] def k0_t74_loop : Scf.Loop 32 :=
  let c0_i32_1443 : BitVec 32 := 0#32
  let c64_i32_1444 : BitVec 32 := 64#32
  let v816 : BitVec 32 := Scalar.addi c0_i32_1443 c64_i32_1444
  let c1_i32_1445 : BitVec 32 := 1#32
  ⟨c0_i32_1443, v816, c1_i32_1445⟩
def k0_off76 (k0_t74 : Fin k0_t74_loop.trips) : Fin 2 → Nat :=
  let c9_i32 : BitVec 32 := 9#32
  let v1212 : Index := Scalar.indexCast c9_i32
  let c0_i32_1443 : BitVec 32 := 0#32
  let c1_i32_1445 : BitVec 32 := 1#32
  let arg17 : BitVec 32 := Scf.iv c0_i32_1443 c1_i32_1445 k0_t74
  let c16_i32_2212 : BitVec 32 := 16#32
  let v1211 : BitVec 32 := Scalar.muli arg17 c16_i32_2212
  let v1213 : Index := Scalar.indexCast v1211
  ![9, v1213.toNat]
@[reducible] def k0_t75_loop : Scf.Loop 32 :=
  let c0_i32_1448 : BitVec 32 := 0#32
  let c64_i32_1449 : BitVec 32 := 64#32
  let v817 : BitVec 32 := Scalar.addi c0_i32_1448 c64_i32_1449
  let c1_i32_1450 : BitVec 32 := 1#32
  ⟨c0_i32_1448, v817, c1_i32_1450⟩
def k0_off77 (k0_t75 : Fin k0_t75_loop.trips) : Fin 2 → Nat :=
  let c10_i32 : BitVec 32 := 10#32
  let v1212 : Index := Scalar.indexCast c10_i32
  let c0_i32_1448 : BitVec 32 := 0#32
  let c1_i32_1450 : BitVec 32 := 1#32
  let arg17 : BitVec 32 := Scf.iv c0_i32_1448 c1_i32_1450 k0_t75
  let c16_i32_2212 : BitVec 32 := 16#32
  let v1211 : BitVec 32 := Scalar.muli arg17 c16_i32_2212
  let v1213 : Index := Scalar.indexCast v1211
  ![10, v1213.toNat]
@[reducible] def k0_t76_loop : Scf.Loop 32 :=
  let c0_i32_1453 : BitVec 32 := 0#32
  let c64_i32_1454 : BitVec 32 := 64#32
  let v818 : BitVec 32 := Scalar.addi c0_i32_1453 c64_i32_1454
  let c1_i32_1455 : BitVec 32 := 1#32
  ⟨c0_i32_1453, v818, c1_i32_1455⟩
def k0_off78 (k0_t76 : Fin k0_t76_loop.trips) : Fin 2 → Nat :=
  let c11_i32 : BitVec 32 := 11#32
  let v1212 : Index := Scalar.indexCast c11_i32
  let c0_i32_1453 : BitVec 32 := 0#32
  let c1_i32_1455 : BitVec 32 := 1#32
  let arg17 : BitVec 32 := Scf.iv c0_i32_1453 c1_i32_1455 k0_t76
  let c16_i32_2212 : BitVec 32 := 16#32
  let v1211 : BitVec 32 := Scalar.muli arg17 c16_i32_2212
  let v1213 : Index := Scalar.indexCast v1211
  ![11, v1213.toNat]
@[reducible] def k0_t77_loop : Scf.Loop 32 :=
  let c0_i32_1458 : BitVec 32 := 0#32
  let c64_i32_1459 : BitVec 32 := 64#32
  let v819 : BitVec 32 := Scalar.addi c0_i32_1458 c64_i32_1459
  let c1_i32_1460 : BitVec 32 := 1#32
  ⟨c0_i32_1458, v819, c1_i32_1460⟩
def k0_off79 (k0_t77 : Fin k0_t77_loop.trips) : Fin 2 → Nat :=
  let c12_i32 : BitVec 32 := 12#32
  let v1212 : Index := Scalar.indexCast c12_i32
  let c0_i32_1458 : BitVec 32 := 0#32
  let c1_i32_1460 : BitVec 32 := 1#32
  let arg17 : BitVec 32 := Scf.iv c0_i32_1458 c1_i32_1460 k0_t77
  let c16_i32_2212 : BitVec 32 := 16#32
  let v1211 : BitVec 32 := Scalar.muli arg17 c16_i32_2212
  let v1213 : Index := Scalar.indexCast v1211
  ![12, v1213.toNat]
@[reducible] def k0_t78_loop : Scf.Loop 32 :=
  let c0_i32_1463 : BitVec 32 := 0#32
  let c64_i32_1464 : BitVec 32 := 64#32
  let v820 : BitVec 32 := Scalar.addi c0_i32_1463 c64_i32_1464
  let c1_i32_1465 : BitVec 32 := 1#32
  ⟨c0_i32_1463, v820, c1_i32_1465⟩
def k0_off80 (k0_t78 : Fin k0_t78_loop.trips) : Fin 2 → Nat :=
  let c13_i32 : BitVec 32 := 13#32
  let v1212 : Index := Scalar.indexCast c13_i32
  let c0_i32_1463 : BitVec 32 := 0#32
  let c1_i32_1465 : BitVec 32 := 1#32
  let arg17 : BitVec 32 := Scf.iv c0_i32_1463 c1_i32_1465 k0_t78
  let c16_i32_2212 : BitVec 32 := 16#32
  let v1211 : BitVec 32 := Scalar.muli arg17 c16_i32_2212
  let v1213 : Index := Scalar.indexCast v1211
  ![13, v1213.toNat]
@[reducible] def k0_t79_loop : Scf.Loop 32 :=
  let c0_i32_1468 : BitVec 32 := 0#32
  let c64_i32_1469 : BitVec 32 := 64#32
  let v821 : BitVec 32 := Scalar.addi c0_i32_1468 c64_i32_1469
  let c1_i32_1470 : BitVec 32 := 1#32
  ⟨c0_i32_1468, v821, c1_i32_1470⟩
def k0_off81 (k0_t79 : Fin k0_t79_loop.trips) : Fin 2 → Nat :=
  let c14_i32 : BitVec 32 := 14#32
  let v1212 : Index := Scalar.indexCast c14_i32
  let c0_i32_1468 : BitVec 32 := 0#32
  let c1_i32_1470 : BitVec 32 := 1#32
  let arg17 : BitVec 32 := Scf.iv c0_i32_1468 c1_i32_1470 k0_t79
  let c16_i32_2212 : BitVec 32 := 16#32
  let v1211 : BitVec 32 := Scalar.muli arg17 c16_i32_2212
  let v1213 : Index := Scalar.indexCast v1211
  ![14, v1213.toNat]
@[reducible] def k0_t80_loop : Scf.Loop 32 :=
  let c0_i32_1473 : BitVec 32 := 0#32
  let c64_i32_1474 : BitVec 32 := 64#32
  let v822 : BitVec 32 := Scalar.addi c0_i32_1473 c64_i32_1474
  let c1_i32_1475 : BitVec 32 := 1#32
  ⟨c0_i32_1473, v822, c1_i32_1475⟩
def k0_off82 (k0_t80 : Fin k0_t80_loop.trips) : Fin 2 → Nat :=
  let c15_i32 : BitVec 32 := 15#32
  let v1212 : Index := Scalar.indexCast c15_i32
  let c0_i32_1473 : BitVec 32 := 0#32
  let c1_i32_1475 : BitVec 32 := 1#32
  let arg17 : BitVec 32 := Scf.iv c0_i32_1473 c1_i32_1475 k0_t80
  let c16_i32_2212 : BitVec 32 := 16#32
  let v1211 : BitVec 32 := Scalar.muli arg17 c16_i32_2212
  let v1213 : Index := Scalar.indexCast v1211
  ![15, v1213.toNat]
@[reducible] def k0_t81_loop : Scf.Loop 32 :=
  let c0_i32_1674 : BitVec 32 := 0#32
  let c64_i32_1675 : BitVec 32 := 64#32
  let v956 : BitVec 32 := Scalar.addi c0_i32_1674 c64_i32_1675
  let c1_i32_1676 : BitVec 32 := 1#32
  ⟨c0_i32_1674, v956, c1_i32_1676⟩
def k0_off83 (k0_t81 : Fin k0_t81_loop.trips) : Fin 2 → Nat :=
  let c0_i32_2213 : BitVec 32 := 0#32
  let v1212 : Index := Scalar.indexCast c0_i32_2213
  let c0_i32_1674 : BitVec 32 := 0#32
  let c1_i32_1676 : BitVec 32 := 1#32
  let arg17 : BitVec 32 := Scf.iv c0_i32_1674 c1_i32_1676 k0_t81
  let c16_i32_2212 : BitVec 32 := 16#32
  let v1211 : BitVec 32 := Scalar.muli arg17 c16_i32_2212
  let v1213 : Index := Scalar.indexCast v1211
  ![0, v1213.toNat]
@[reducible] def k0_t82_loop : Scf.Loop 32 :=
  let c0_i32_1679 : BitVec 32 := 0#32
  let c64_i32_1680 : BitVec 32 := 64#32
  let v957 : BitVec 32 := Scalar.addi c0_i32_1679 c64_i32_1680
  let c1_i32_1681 : BitVec 32 := 1#32
  ⟨c0_i32_1679, v957, c1_i32_1681⟩
def k0_off84 (k0_t82 : Fin k0_t82_loop.trips) : Fin 2 → Nat :=
  let c1_i32_2213 : BitVec 32 := 1#32
  let v1212 : Index := Scalar.indexCast c1_i32_2213
  let c0_i32_1679 : BitVec 32 := 0#32
  let c1_i32_1681 : BitVec 32 := 1#32
  let arg17 : BitVec 32 := Scf.iv c0_i32_1679 c1_i32_1681 k0_t82
  let c16_i32_2212 : BitVec 32 := 16#32
  let v1211 : BitVec 32 := Scalar.muli arg17 c16_i32_2212
  let v1213 : Index := Scalar.indexCast v1211
  ![1, v1213.toNat]
@[reducible] def k0_t83_loop : Scf.Loop 32 :=
  let c0_i32_1684 : BitVec 32 := 0#32
  let c64_i32_1685 : BitVec 32 := 64#32
  let v958 : BitVec 32 := Scalar.addi c0_i32_1684 c64_i32_1685
  let c1_i32_1686 : BitVec 32 := 1#32
  ⟨c0_i32_1684, v958, c1_i32_1686⟩
def k0_off85 (k0_t83 : Fin k0_t83_loop.trips) : Fin 2 → Nat :=
  let c2_i32_2213 : BitVec 32 := 2#32
  let v1212 : Index := Scalar.indexCast c2_i32_2213
  let c0_i32_1684 : BitVec 32 := 0#32
  let c1_i32_1686 : BitVec 32 := 1#32
  let arg17 : BitVec 32 := Scf.iv c0_i32_1684 c1_i32_1686 k0_t83
  let c16_i32_2212 : BitVec 32 := 16#32
  let v1211 : BitVec 32 := Scalar.muli arg17 c16_i32_2212
  let v1213 : Index := Scalar.indexCast v1211
  ![2, v1213.toNat]
@[reducible] def k0_t84_loop : Scf.Loop 32 :=
  let c0_i32_1689 : BitVec 32 := 0#32
  let c64_i32_1690 : BitVec 32 := 64#32
  let v959 : BitVec 32 := Scalar.addi c0_i32_1689 c64_i32_1690
  let c1_i32_1691 : BitVec 32 := 1#32
  ⟨c0_i32_1689, v959, c1_i32_1691⟩
def k0_off86 (k0_t84 : Fin k0_t84_loop.trips) : Fin 2 → Nat :=
  let c3_i32_2213 : BitVec 32 := 3#32
  let v1212 : Index := Scalar.indexCast c3_i32_2213
  let c0_i32_1689 : BitVec 32 := 0#32
  let c1_i32_1691 : BitVec 32 := 1#32
  let arg17 : BitVec 32 := Scf.iv c0_i32_1689 c1_i32_1691 k0_t84
  let c16_i32_2212 : BitVec 32 := 16#32
  let v1211 : BitVec 32 := Scalar.muli arg17 c16_i32_2212
  let v1213 : Index := Scalar.indexCast v1211
  ![3, v1213.toNat]
@[reducible] def k0_t85_loop : Scf.Loop 32 :=
  let c0_i32_1694 : BitVec 32 := 0#32
  let c64_i32_1695 : BitVec 32 := 64#32
  let v960 : BitVec 32 := Scalar.addi c0_i32_1694 c64_i32_1695
  let c1_i32_1696 : BitVec 32 := 1#32
  ⟨c0_i32_1694, v960, c1_i32_1696⟩
def k0_off87 (k0_t85 : Fin k0_t85_loop.trips) : Fin 2 → Nat :=
  let c4_i32_2213 : BitVec 32 := 4#32
  let v1212 : Index := Scalar.indexCast c4_i32_2213
  let c0_i32_1694 : BitVec 32 := 0#32
  let c1_i32_1696 : BitVec 32 := 1#32
  let arg17 : BitVec 32 := Scf.iv c0_i32_1694 c1_i32_1696 k0_t85
  let c16_i32_2212 : BitVec 32 := 16#32
  let v1211 : BitVec 32 := Scalar.muli arg17 c16_i32_2212
  let v1213 : Index := Scalar.indexCast v1211
  ![4, v1213.toNat]
@[reducible] def k0_t86_loop : Scf.Loop 32 :=
  let c0_i32_1699 : BitVec 32 := 0#32
  let c64_i32_1700 : BitVec 32 := 64#32
  let v961 : BitVec 32 := Scalar.addi c0_i32_1699 c64_i32_1700
  let c1_i32_1701 : BitVec 32 := 1#32
  ⟨c0_i32_1699, v961, c1_i32_1701⟩
def k0_off88 (k0_t86 : Fin k0_t86_loop.trips) : Fin 2 → Nat :=
  let c5_i32_2213 : BitVec 32 := 5#32
  let v1212 : Index := Scalar.indexCast c5_i32_2213
  let c0_i32_1699 : BitVec 32 := 0#32
  let c1_i32_1701 : BitVec 32 := 1#32
  let arg17 : BitVec 32 := Scf.iv c0_i32_1699 c1_i32_1701 k0_t86
  let c16_i32_2212 : BitVec 32 := 16#32
  let v1211 : BitVec 32 := Scalar.muli arg17 c16_i32_2212
  let v1213 : Index := Scalar.indexCast v1211
  ![5, v1213.toNat]
@[reducible] def k0_t87_loop : Scf.Loop 32 :=
  let c0_i32_1704 : BitVec 32 := 0#32
  let c64_i32_1705 : BitVec 32 := 64#32
  let v962 : BitVec 32 := Scalar.addi c0_i32_1704 c64_i32_1705
  let c1_i32_1706 : BitVec 32 := 1#32
  ⟨c0_i32_1704, v962, c1_i32_1706⟩
def k0_off89 (k0_t87 : Fin k0_t87_loop.trips) : Fin 2 → Nat :=
  let c6_i32_2213 : BitVec 32 := 6#32
  let v1212 : Index := Scalar.indexCast c6_i32_2213
  let c0_i32_1704 : BitVec 32 := 0#32
  let c1_i32_1706 : BitVec 32 := 1#32
  let arg17 : BitVec 32 := Scf.iv c0_i32_1704 c1_i32_1706 k0_t87
  let c16_i32_2212 : BitVec 32 := 16#32
  let v1211 : BitVec 32 := Scalar.muli arg17 c16_i32_2212
  let v1213 : Index := Scalar.indexCast v1211
  ![6, v1213.toNat]
@[reducible] def k0_t88_loop : Scf.Loop 32 :=
  let c0_i32_1709 : BitVec 32 := 0#32
  let c64_i32_1710 : BitVec 32 := 64#32
  let v963 : BitVec 32 := Scalar.addi c0_i32_1709 c64_i32_1710
  let c1_i32_1711 : BitVec 32 := 1#32
  ⟨c0_i32_1709, v963, c1_i32_1711⟩
def k0_off90 (k0_t88 : Fin k0_t88_loop.trips) : Fin 2 → Nat :=
  let c7_i32_2213 : BitVec 32 := 7#32
  let v1212 : Index := Scalar.indexCast c7_i32_2213
  let c0_i32_1709 : BitVec 32 := 0#32
  let c1_i32_1711 : BitVec 32 := 1#32
  let arg17 : BitVec 32 := Scf.iv c0_i32_1709 c1_i32_1711 k0_t88
  let c16_i32_2212 : BitVec 32 := 16#32
  let v1211 : BitVec 32 := Scalar.muli arg17 c16_i32_2212
  let v1213 : Index := Scalar.indexCast v1211
  ![7, v1213.toNat]
@[reducible] def k0_t89_loop : Scf.Loop 32 :=
  let c0_i32_1714 : BitVec 32 := 0#32
  let c64_i32_1715 : BitVec 32 := 64#32
  let v964 : BitVec 32 := Scalar.addi c0_i32_1714 c64_i32_1715
  let c1_i32_1716 : BitVec 32 := 1#32
  ⟨c0_i32_1714, v964, c1_i32_1716⟩
def k0_off91 (k0_t89 : Fin k0_t89_loop.trips) : Fin 2 → Nat :=
  let c8_i32 : BitVec 32 := 8#32
  let v1212 : Index := Scalar.indexCast c8_i32
  let c0_i32_1714 : BitVec 32 := 0#32
  let c1_i32_1716 : BitVec 32 := 1#32
  let arg17 : BitVec 32 := Scf.iv c0_i32_1714 c1_i32_1716 k0_t89
  let c16_i32_2212 : BitVec 32 := 16#32
  let v1211 : BitVec 32 := Scalar.muli arg17 c16_i32_2212
  let v1213 : Index := Scalar.indexCast v1211
  ![8, v1213.toNat]
@[reducible] def k0_t90_loop : Scf.Loop 32 :=
  let c0_i32_1719 : BitVec 32 := 0#32
  let c64_i32_1720 : BitVec 32 := 64#32
  let v965 : BitVec 32 := Scalar.addi c0_i32_1719 c64_i32_1720
  let c1_i32_1721 : BitVec 32 := 1#32
  ⟨c0_i32_1719, v965, c1_i32_1721⟩
def k0_off92 (k0_t90 : Fin k0_t90_loop.trips) : Fin 2 → Nat :=
  let c9_i32 : BitVec 32 := 9#32
  let v1212 : Index := Scalar.indexCast c9_i32
  let c0_i32_1719 : BitVec 32 := 0#32
  let c1_i32_1721 : BitVec 32 := 1#32
  let arg17 : BitVec 32 := Scf.iv c0_i32_1719 c1_i32_1721 k0_t90
  let c16_i32_2212 : BitVec 32 := 16#32
  let v1211 : BitVec 32 := Scalar.muli arg17 c16_i32_2212
  let v1213 : Index := Scalar.indexCast v1211
  ![9, v1213.toNat]
@[reducible] def k0_t91_loop : Scf.Loop 32 :=
  let c0_i32_1724 : BitVec 32 := 0#32
  let c64_i32_1725 : BitVec 32 := 64#32
  let v966 : BitVec 32 := Scalar.addi c0_i32_1724 c64_i32_1725
  let c1_i32_1726 : BitVec 32 := 1#32
  ⟨c0_i32_1724, v966, c1_i32_1726⟩
def k0_off93 (k0_t91 : Fin k0_t91_loop.trips) : Fin 2 → Nat :=
  let c10_i32 : BitVec 32 := 10#32
  let v1212 : Index := Scalar.indexCast c10_i32
  let c0_i32_1724 : BitVec 32 := 0#32
  let c1_i32_1726 : BitVec 32 := 1#32
  let arg17 : BitVec 32 := Scf.iv c0_i32_1724 c1_i32_1726 k0_t91
  let c16_i32_2212 : BitVec 32 := 16#32
  let v1211 : BitVec 32 := Scalar.muli arg17 c16_i32_2212
  let v1213 : Index := Scalar.indexCast v1211
  ![10, v1213.toNat]
@[reducible] def k0_t92_loop : Scf.Loop 32 :=
  let c0_i32_1729 : BitVec 32 := 0#32
  let c64_i32_1730 : BitVec 32 := 64#32
  let v967 : BitVec 32 := Scalar.addi c0_i32_1729 c64_i32_1730
  let c1_i32_1731 : BitVec 32 := 1#32
  ⟨c0_i32_1729, v967, c1_i32_1731⟩
def k0_off94 (k0_t92 : Fin k0_t92_loop.trips) : Fin 2 → Nat :=
  let c11_i32 : BitVec 32 := 11#32
  let v1212 : Index := Scalar.indexCast c11_i32
  let c0_i32_1729 : BitVec 32 := 0#32
  let c1_i32_1731 : BitVec 32 := 1#32
  let arg17 : BitVec 32 := Scf.iv c0_i32_1729 c1_i32_1731 k0_t92
  let c16_i32_2212 : BitVec 32 := 16#32
  let v1211 : BitVec 32 := Scalar.muli arg17 c16_i32_2212
  let v1213 : Index := Scalar.indexCast v1211
  ![11, v1213.toNat]
@[reducible] def k0_t93_loop : Scf.Loop 32 :=
  let c0_i32_1734 : BitVec 32 := 0#32
  let c64_i32_1735 : BitVec 32 := 64#32
  let v968 : BitVec 32 := Scalar.addi c0_i32_1734 c64_i32_1735
  let c1_i32_1736 : BitVec 32 := 1#32
  ⟨c0_i32_1734, v968, c1_i32_1736⟩
def k0_off95 (k0_t93 : Fin k0_t93_loop.trips) : Fin 2 → Nat :=
  let c12_i32 : BitVec 32 := 12#32
  let v1212 : Index := Scalar.indexCast c12_i32
  let c0_i32_1734 : BitVec 32 := 0#32
  let c1_i32_1736 : BitVec 32 := 1#32
  let arg17 : BitVec 32 := Scf.iv c0_i32_1734 c1_i32_1736 k0_t93
  let c16_i32_2212 : BitVec 32 := 16#32
  let v1211 : BitVec 32 := Scalar.muli arg17 c16_i32_2212
  let v1213 : Index := Scalar.indexCast v1211
  ![12, v1213.toNat]
@[reducible] def k0_t94_loop : Scf.Loop 32 :=
  let c0_i32_1739 : BitVec 32 := 0#32
  let c64_i32_1740 : BitVec 32 := 64#32
  let v969 : BitVec 32 := Scalar.addi c0_i32_1739 c64_i32_1740
  let c1_i32_1741 : BitVec 32 := 1#32
  ⟨c0_i32_1739, v969, c1_i32_1741⟩
def k0_off96 (k0_t94 : Fin k0_t94_loop.trips) : Fin 2 → Nat :=
  let c13_i32 : BitVec 32 := 13#32
  let v1212 : Index := Scalar.indexCast c13_i32
  let c0_i32_1739 : BitVec 32 := 0#32
  let c1_i32_1741 : BitVec 32 := 1#32
  let arg17 : BitVec 32 := Scf.iv c0_i32_1739 c1_i32_1741 k0_t94
  let c16_i32_2212 : BitVec 32 := 16#32
  let v1211 : BitVec 32 := Scalar.muli arg17 c16_i32_2212
  let v1213 : Index := Scalar.indexCast v1211
  ![13, v1213.toNat]
@[reducible] def k0_t95_loop : Scf.Loop 32 :=
  let c0_i32_1744 : BitVec 32 := 0#32
  let c64_i32_1745 : BitVec 32 := 64#32
  let v970 : BitVec 32 := Scalar.addi c0_i32_1744 c64_i32_1745
  let c1_i32_1746 : BitVec 32 := 1#32
  ⟨c0_i32_1744, v970, c1_i32_1746⟩
def k0_off97 (k0_t95 : Fin k0_t95_loop.trips) : Fin 2 → Nat :=
  let c14_i32 : BitVec 32 := 14#32
  let v1212 : Index := Scalar.indexCast c14_i32
  let c0_i32_1744 : BitVec 32 := 0#32
  let c1_i32_1746 : BitVec 32 := 1#32
  let arg17 : BitVec 32 := Scf.iv c0_i32_1744 c1_i32_1746 k0_t95
  let c16_i32_2212 : BitVec 32 := 16#32
  let v1211 : BitVec 32 := Scalar.muli arg17 c16_i32_2212
  let v1213 : Index := Scalar.indexCast v1211
  ![14, v1213.toNat]
@[reducible] def k0_t96_loop : Scf.Loop 32 :=
  let c0_i32_1749 : BitVec 32 := 0#32
  let c64_i32_1750 : BitVec 32 := 64#32
  let v971 : BitVec 32 := Scalar.addi c0_i32_1749 c64_i32_1750
  let c1_i32_1751 : BitVec 32 := 1#32
  ⟨c0_i32_1749, v971, c1_i32_1751⟩
def k0_off98 (k0_t96 : Fin k0_t96_loop.trips) : Fin 2 → Nat :=
  let c15_i32 : BitVec 32 := 15#32
  let v1212 : Index := Scalar.indexCast c15_i32
  let c0_i32_1749 : BitVec 32 := 0#32
  let c1_i32_1751 : BitVec 32 := 1#32
  let arg17 : BitVec 32 := Scf.iv c0_i32_1749 c1_i32_1751 k0_t96
  let c16_i32_2212 : BitVec 32 := 16#32
  let v1211 : BitVec 32 := Scalar.muli arg17 c16_i32_2212
  let v1213 : Index := Scalar.indexCast v1211
  ![15, v1213.toNat]
@[reducible] def k0_t97_loop : Scf.Loop 32 :=
  let c0_i32_1949 : BitVec 32 := 0#32
  let c64_i32_1950 : BitVec 32 := 64#32
  let v1105 : BitVec 32 := Scalar.addi c0_i32_1949 c64_i32_1950
  let c1_i32_1951 : BitVec 32 := 1#32
  ⟨c0_i32_1949, v1105, c1_i32_1951⟩
def k0_off99 (k0_t97 : Fin k0_t97_loop.trips) : Fin 2 → Nat :=
  let c0_i32_2213 : BitVec 32 := 0#32
  let v1212 : Index := Scalar.indexCast c0_i32_2213
  let c0_i32_1949 : BitVec 32 := 0#32
  let c1_i32_1951 : BitVec 32 := 1#32
  let arg17 : BitVec 32 := Scf.iv c0_i32_1949 c1_i32_1951 k0_t97
  let c16_i32_2212 : BitVec 32 := 16#32
  let v1211 : BitVec 32 := Scalar.muli arg17 c16_i32_2212
  let v1213 : Index := Scalar.indexCast v1211
  ![0, v1213.toNat]
@[reducible] def k0_t98_loop : Scf.Loop 32 :=
  let c0_i32_1954 : BitVec 32 := 0#32
  let c64_i32_1955 : BitVec 32 := 64#32
  let v1106 : BitVec 32 := Scalar.addi c0_i32_1954 c64_i32_1955
  let c1_i32_1956 : BitVec 32 := 1#32
  ⟨c0_i32_1954, v1106, c1_i32_1956⟩
def k0_off100 (k0_t98 : Fin k0_t98_loop.trips) : Fin 2 → Nat :=
  let c1_i32_2213 : BitVec 32 := 1#32
  let v1212 : Index := Scalar.indexCast c1_i32_2213
  let c0_i32_1954 : BitVec 32 := 0#32
  let c1_i32_1956 : BitVec 32 := 1#32
  let arg17 : BitVec 32 := Scf.iv c0_i32_1954 c1_i32_1956 k0_t98
  let c16_i32_2212 : BitVec 32 := 16#32
  let v1211 : BitVec 32 := Scalar.muli arg17 c16_i32_2212
  let v1213 : Index := Scalar.indexCast v1211
  ![1, v1213.toNat]
@[reducible] def k0_t99_loop : Scf.Loop 32 :=
  let c0_i32_1959 : BitVec 32 := 0#32
  let c64_i32_1960 : BitVec 32 := 64#32
  let v1107 : BitVec 32 := Scalar.addi c0_i32_1959 c64_i32_1960
  let c1_i32_1961 : BitVec 32 := 1#32
  ⟨c0_i32_1959, v1107, c1_i32_1961⟩
def k0_off101 (k0_t99 : Fin k0_t99_loop.trips) : Fin 2 → Nat :=
  let c2_i32_2213 : BitVec 32 := 2#32
  let v1212 : Index := Scalar.indexCast c2_i32_2213
  let c0_i32_1959 : BitVec 32 := 0#32
  let c1_i32_1961 : BitVec 32 := 1#32
  let arg17 : BitVec 32 := Scf.iv c0_i32_1959 c1_i32_1961 k0_t99
  let c16_i32_2212 : BitVec 32 := 16#32
  let v1211 : BitVec 32 := Scalar.muli arg17 c16_i32_2212
  let v1213 : Index := Scalar.indexCast v1211
  ![2, v1213.toNat]
@[reducible] def k0_t100_loop : Scf.Loop 32 :=
  let c0_i32_1964 : BitVec 32 := 0#32
  let c64_i32_1965 : BitVec 32 := 64#32
  let v1108 : BitVec 32 := Scalar.addi c0_i32_1964 c64_i32_1965
  let c1_i32_1966 : BitVec 32 := 1#32
  ⟨c0_i32_1964, v1108, c1_i32_1966⟩
def k0_off102 (k0_t100 : Fin k0_t100_loop.trips) : Fin 2 → Nat :=
  let c3_i32_2213 : BitVec 32 := 3#32
  let v1212 : Index := Scalar.indexCast c3_i32_2213
  let c0_i32_1964 : BitVec 32 := 0#32
  let c1_i32_1966 : BitVec 32 := 1#32
  let arg17 : BitVec 32 := Scf.iv c0_i32_1964 c1_i32_1966 k0_t100
  let c16_i32_2212 : BitVec 32 := 16#32
  let v1211 : BitVec 32 := Scalar.muli arg17 c16_i32_2212
  let v1213 : Index := Scalar.indexCast v1211
  ![3, v1213.toNat]
@[reducible] def k0_t101_loop : Scf.Loop 32 :=
  let c0_i32_1969 : BitVec 32 := 0#32
  let c64_i32_1970 : BitVec 32 := 64#32
  let v1109 : BitVec 32 := Scalar.addi c0_i32_1969 c64_i32_1970
  let c1_i32_1971 : BitVec 32 := 1#32
  ⟨c0_i32_1969, v1109, c1_i32_1971⟩
def k0_off103 (k0_t101 : Fin k0_t101_loop.trips) : Fin 2 → Nat :=
  let c4_i32_2213 : BitVec 32 := 4#32
  let v1212 : Index := Scalar.indexCast c4_i32_2213
  let c0_i32_1969 : BitVec 32 := 0#32
  let c1_i32_1971 : BitVec 32 := 1#32
  let arg17 : BitVec 32 := Scf.iv c0_i32_1969 c1_i32_1971 k0_t101
  let c16_i32_2212 : BitVec 32 := 16#32
  let v1211 : BitVec 32 := Scalar.muli arg17 c16_i32_2212
  let v1213 : Index := Scalar.indexCast v1211
  ![4, v1213.toNat]
@[reducible] def k0_t102_loop : Scf.Loop 32 :=
  let c0_i32_1974 : BitVec 32 := 0#32
  let c64_i32_1975 : BitVec 32 := 64#32
  let v1110 : BitVec 32 := Scalar.addi c0_i32_1974 c64_i32_1975
  let c1_i32_1976 : BitVec 32 := 1#32
  ⟨c0_i32_1974, v1110, c1_i32_1976⟩
def k0_off104 (k0_t102 : Fin k0_t102_loop.trips) : Fin 2 → Nat :=
  let c5_i32_2213 : BitVec 32 := 5#32
  let v1212 : Index := Scalar.indexCast c5_i32_2213
  let c0_i32_1974 : BitVec 32 := 0#32
  let c1_i32_1976 : BitVec 32 := 1#32
  let arg17 : BitVec 32 := Scf.iv c0_i32_1974 c1_i32_1976 k0_t102
  let c16_i32_2212 : BitVec 32 := 16#32
  let v1211 : BitVec 32 := Scalar.muli arg17 c16_i32_2212
  let v1213 : Index := Scalar.indexCast v1211
  ![5, v1213.toNat]
@[reducible] def k0_t103_loop : Scf.Loop 32 :=
  let c0_i32_1979 : BitVec 32 := 0#32
  let c64_i32_1980 : BitVec 32 := 64#32
  let v1111 : BitVec 32 := Scalar.addi c0_i32_1979 c64_i32_1980
  let c1_i32_1981 : BitVec 32 := 1#32
  ⟨c0_i32_1979, v1111, c1_i32_1981⟩
def k0_off105 (k0_t103 : Fin k0_t103_loop.trips) : Fin 2 → Nat :=
  let c6_i32_2213 : BitVec 32 := 6#32
  let v1212 : Index := Scalar.indexCast c6_i32_2213
  let c0_i32_1979 : BitVec 32 := 0#32
  let c1_i32_1981 : BitVec 32 := 1#32
  let arg17 : BitVec 32 := Scf.iv c0_i32_1979 c1_i32_1981 k0_t103
  let c16_i32_2212 : BitVec 32 := 16#32
  let v1211 : BitVec 32 := Scalar.muli arg17 c16_i32_2212
  let v1213 : Index := Scalar.indexCast v1211
  ![6, v1213.toNat]
@[reducible] def k0_t104_loop : Scf.Loop 32 :=
  let c0_i32_1984 : BitVec 32 := 0#32
  let c64_i32_1985 : BitVec 32 := 64#32
  let v1112 : BitVec 32 := Scalar.addi c0_i32_1984 c64_i32_1985
  let c1_i32_1986 : BitVec 32 := 1#32
  ⟨c0_i32_1984, v1112, c1_i32_1986⟩
def k0_off106 (k0_t104 : Fin k0_t104_loop.trips) : Fin 2 → Nat :=
  let c7_i32_2213 : BitVec 32 := 7#32
  let v1212 : Index := Scalar.indexCast c7_i32_2213
  let c0_i32_1984 : BitVec 32 := 0#32
  let c1_i32_1986 : BitVec 32 := 1#32
  let arg17 : BitVec 32 := Scf.iv c0_i32_1984 c1_i32_1986 k0_t104
  let c16_i32_2212 : BitVec 32 := 16#32
  let v1211 : BitVec 32 := Scalar.muli arg17 c16_i32_2212
  let v1213 : Index := Scalar.indexCast v1211
  ![7, v1213.toNat]
@[reducible] def k0_t105_loop : Scf.Loop 32 :=
  let c0_i32_1989 : BitVec 32 := 0#32
  let c64_i32_1990 : BitVec 32 := 64#32
  let v1113 : BitVec 32 := Scalar.addi c0_i32_1989 c64_i32_1990
  let c1_i32_1991 : BitVec 32 := 1#32
  ⟨c0_i32_1989, v1113, c1_i32_1991⟩
def k0_off107 (k0_t105 : Fin k0_t105_loop.trips) : Fin 2 → Nat :=
  let c8_i32 : BitVec 32 := 8#32
  let v1212 : Index := Scalar.indexCast c8_i32
  let c0_i32_1989 : BitVec 32 := 0#32
  let c1_i32_1991 : BitVec 32 := 1#32
  let arg17 : BitVec 32 := Scf.iv c0_i32_1989 c1_i32_1991 k0_t105
  let c16_i32_2212 : BitVec 32 := 16#32
  let v1211 : BitVec 32 := Scalar.muli arg17 c16_i32_2212
  let v1213 : Index := Scalar.indexCast v1211
  ![8, v1213.toNat]
@[reducible] def k0_t106_loop : Scf.Loop 32 :=
  let c0_i32_1994 : BitVec 32 := 0#32
  let c64_i32_1995 : BitVec 32 := 64#32
  let v1114 : BitVec 32 := Scalar.addi c0_i32_1994 c64_i32_1995
  let c1_i32_1996 : BitVec 32 := 1#32
  ⟨c0_i32_1994, v1114, c1_i32_1996⟩
def k0_off108 (k0_t106 : Fin k0_t106_loop.trips) : Fin 2 → Nat :=
  let c9_i32 : BitVec 32 := 9#32
  let v1212 : Index := Scalar.indexCast c9_i32
  let c0_i32_1994 : BitVec 32 := 0#32
  let c1_i32_1996 : BitVec 32 := 1#32
  let arg17 : BitVec 32 := Scf.iv c0_i32_1994 c1_i32_1996 k0_t106
  let c16_i32_2212 : BitVec 32 := 16#32
  let v1211 : BitVec 32 := Scalar.muli arg17 c16_i32_2212
  let v1213 : Index := Scalar.indexCast v1211
  ![9, v1213.toNat]
@[reducible] def k0_t107_loop : Scf.Loop 32 :=
  let c0_i32_1999 : BitVec 32 := 0#32
  let c64_i32_2000 : BitVec 32 := 64#32
  let v1115 : BitVec 32 := Scalar.addi c0_i32_1999 c64_i32_2000
  let c1_i32_2001 : BitVec 32 := 1#32
  ⟨c0_i32_1999, v1115, c1_i32_2001⟩
def k0_off109 (k0_t107 : Fin k0_t107_loop.trips) : Fin 2 → Nat :=
  let c10_i32 : BitVec 32 := 10#32
  let v1212 : Index := Scalar.indexCast c10_i32
  let c0_i32_1999 : BitVec 32 := 0#32
  let c1_i32_2001 : BitVec 32 := 1#32
  let arg17 : BitVec 32 := Scf.iv c0_i32_1999 c1_i32_2001 k0_t107
  let c16_i32_2212 : BitVec 32 := 16#32
  let v1211 : BitVec 32 := Scalar.muli arg17 c16_i32_2212
  let v1213 : Index := Scalar.indexCast v1211
  ![10, v1213.toNat]
@[reducible] def k0_t108_loop : Scf.Loop 32 :=
  let c0_i32_2004 : BitVec 32 := 0#32
  let c64_i32_2005 : BitVec 32 := 64#32
  let v1116 : BitVec 32 := Scalar.addi c0_i32_2004 c64_i32_2005
  let c1_i32_2006 : BitVec 32 := 1#32
  ⟨c0_i32_2004, v1116, c1_i32_2006⟩
def k0_off110 (k0_t108 : Fin k0_t108_loop.trips) : Fin 2 → Nat :=
  let c11_i32 : BitVec 32 := 11#32
  let v1212 : Index := Scalar.indexCast c11_i32
  let c0_i32_2004 : BitVec 32 := 0#32
  let c1_i32_2006 : BitVec 32 := 1#32
  let arg17 : BitVec 32 := Scf.iv c0_i32_2004 c1_i32_2006 k0_t108
  let c16_i32_2212 : BitVec 32 := 16#32
  let v1211 : BitVec 32 := Scalar.muli arg17 c16_i32_2212
  let v1213 : Index := Scalar.indexCast v1211
  ![11, v1213.toNat]
@[reducible] def k0_t109_loop : Scf.Loop 32 :=
  let c0_i32_2009 : BitVec 32 := 0#32
  let c64_i32_2010 : BitVec 32 := 64#32
  let v1117 : BitVec 32 := Scalar.addi c0_i32_2009 c64_i32_2010
  let c1_i32_2011 : BitVec 32 := 1#32
  ⟨c0_i32_2009, v1117, c1_i32_2011⟩
def k0_off111 (k0_t109 : Fin k0_t109_loop.trips) : Fin 2 → Nat :=
  let c12_i32 : BitVec 32 := 12#32
  let v1212 : Index := Scalar.indexCast c12_i32
  let c0_i32_2009 : BitVec 32 := 0#32
  let c1_i32_2011 : BitVec 32 := 1#32
  let arg17 : BitVec 32 := Scf.iv c0_i32_2009 c1_i32_2011 k0_t109
  let c16_i32_2212 : BitVec 32 := 16#32
  let v1211 : BitVec 32 := Scalar.muli arg17 c16_i32_2212
  let v1213 : Index := Scalar.indexCast v1211
  ![12, v1213.toNat]
@[reducible] def k0_t110_loop : Scf.Loop 32 :=
  let c0_i32_2014 : BitVec 32 := 0#32
  let c64_i32_2015 : BitVec 32 := 64#32
  let v1118 : BitVec 32 := Scalar.addi c0_i32_2014 c64_i32_2015
  let c1_i32_2016 : BitVec 32 := 1#32
  ⟨c0_i32_2014, v1118, c1_i32_2016⟩
def k0_off112 (k0_t110 : Fin k0_t110_loop.trips) : Fin 2 → Nat :=
  let c13_i32 : BitVec 32 := 13#32
  let v1212 : Index := Scalar.indexCast c13_i32
  let c0_i32_2014 : BitVec 32 := 0#32
  let c1_i32_2016 : BitVec 32 := 1#32
  let arg17 : BitVec 32 := Scf.iv c0_i32_2014 c1_i32_2016 k0_t110
  let c16_i32_2212 : BitVec 32 := 16#32
  let v1211 : BitVec 32 := Scalar.muli arg17 c16_i32_2212
  let v1213 : Index := Scalar.indexCast v1211
  ![13, v1213.toNat]
@[reducible] def k0_t111_loop : Scf.Loop 32 :=
  let c0_i32_2019 : BitVec 32 := 0#32
  let c64_i32_2020 : BitVec 32 := 64#32
  let v1119 : BitVec 32 := Scalar.addi c0_i32_2019 c64_i32_2020
  let c1_i32_2021 : BitVec 32 := 1#32
  ⟨c0_i32_2019, v1119, c1_i32_2021⟩
def k0_off113 (k0_t111 : Fin k0_t111_loop.trips) : Fin 2 → Nat :=
  let c14_i32 : BitVec 32 := 14#32
  let v1212 : Index := Scalar.indexCast c14_i32
  let c0_i32_2019 : BitVec 32 := 0#32
  let c1_i32_2021 : BitVec 32 := 1#32
  let arg17 : BitVec 32 := Scf.iv c0_i32_2019 c1_i32_2021 k0_t111
  let c16_i32_2212 : BitVec 32 := 16#32
  let v1211 : BitVec 32 := Scalar.muli arg17 c16_i32_2212
  let v1213 : Index := Scalar.indexCast v1211
  ![14, v1213.toNat]
@[reducible] def k0_t112_loop : Scf.Loop 32 :=
  let c0_i32_2024 : BitVec 32 := 0#32
  let c64_i32_2025 : BitVec 32 := 64#32
  let v1120 : BitVec 32 := Scalar.addi c0_i32_2024 c64_i32_2025
  let c1_i32_2026 : BitVec 32 := 1#32
  ⟨c0_i32_2024, v1120, c1_i32_2026⟩
def k0_off114 (k0_t112 : Fin k0_t112_loop.trips) : Fin 2 → Nat :=
  let c15_i32 : BitVec 32 := 15#32
  let v1212 : Index := Scalar.indexCast c15_i32
  let c0_i32_2024 : BitVec 32 := 0#32
  let c1_i32_2026 : BitVec 32 := 1#32
  let arg17 : BitVec 32 := Scf.iv c0_i32_2024 c1_i32_2026 k0_t112
  let c16_i32_2212 : BitVec 32 := 16#32
  let v1211 : BitVec 32 := Scalar.muli arg17 c16_i32_2212
  let v1213 : Index := Scalar.indexCast v1211
  ![15, v1213.toNat]
@[reducible] def k0_t113_loop : Scf.Loop 32 :=
  let c0_i32_2127 : BitVec 32 := 0#32
  let c64_i32_2128 : BitVec 32 := 64#32
  let v1188 : BitVec 32 := Scalar.addi c0_i32_2127 c64_i32_2128
  let c1_i32_2129 : BitVec 32 := 1#32
  ⟨c0_i32_2127, v1188, c1_i32_2129⟩
def k0_off115 (k0_t113 : Fin k0_t113_loop.trips) : Fin 2 → Nat :=
  let c0_i32_2213 : BitVec 32 := 0#32
  let v1212 : Index := Scalar.indexCast c0_i32_2213
  let c0_i32_2127 : BitVec 32 := 0#32
  let c1_i32_2129 : BitVec 32 := 1#32
  let arg17 : BitVec 32 := Scf.iv c0_i32_2127 c1_i32_2129 k0_t113
  let c16_i32_2212 : BitVec 32 := 16#32
  let v1211 : BitVec 32 := Scalar.muli arg17 c16_i32_2212
  let v1213 : Index := Scalar.indexCast v1211
  ![0, v1213.toNat]
@[reducible] def k0_t114_loop : Scf.Loop 32 :=
  let c0_i32_2132 : BitVec 32 := 0#32
  let c64_i32_2133 : BitVec 32 := 64#32
  let v1189 : BitVec 32 := Scalar.addi c0_i32_2132 c64_i32_2133
  let c1_i32_2134 : BitVec 32 := 1#32
  ⟨c0_i32_2132, v1189, c1_i32_2134⟩
def k0_off116 (k0_t114 : Fin k0_t114_loop.trips) : Fin 2 → Nat :=
  let c1_i32_2213 : BitVec 32 := 1#32
  let v1212 : Index := Scalar.indexCast c1_i32_2213
  let c0_i32_2132 : BitVec 32 := 0#32
  let c1_i32_2134 : BitVec 32 := 1#32
  let arg17 : BitVec 32 := Scf.iv c0_i32_2132 c1_i32_2134 k0_t114
  let c16_i32_2212 : BitVec 32 := 16#32
  let v1211 : BitVec 32 := Scalar.muli arg17 c16_i32_2212
  let v1213 : Index := Scalar.indexCast v1211
  ![1, v1213.toNat]
@[reducible] def k0_t115_loop : Scf.Loop 32 :=
  let c0_i32_2137 : BitVec 32 := 0#32
  let c64_i32_2138 : BitVec 32 := 64#32
  let v1190 : BitVec 32 := Scalar.addi c0_i32_2137 c64_i32_2138
  let c1_i32_2139 : BitVec 32 := 1#32
  ⟨c0_i32_2137, v1190, c1_i32_2139⟩
def k0_off117 (k0_t115 : Fin k0_t115_loop.trips) : Fin 2 → Nat :=
  let c2_i32_2213 : BitVec 32 := 2#32
  let v1212 : Index := Scalar.indexCast c2_i32_2213
  let c0_i32_2137 : BitVec 32 := 0#32
  let c1_i32_2139 : BitVec 32 := 1#32
  let arg17 : BitVec 32 := Scf.iv c0_i32_2137 c1_i32_2139 k0_t115
  let c16_i32_2212 : BitVec 32 := 16#32
  let v1211 : BitVec 32 := Scalar.muli arg17 c16_i32_2212
  let v1213 : Index := Scalar.indexCast v1211
  ![2, v1213.toNat]
@[reducible] def k0_t116_loop : Scf.Loop 32 :=
  let c0_i32_2142 : BitVec 32 := 0#32
  let c64_i32_2143 : BitVec 32 := 64#32
  let v1191 : BitVec 32 := Scalar.addi c0_i32_2142 c64_i32_2143
  let c1_i32_2144 : BitVec 32 := 1#32
  ⟨c0_i32_2142, v1191, c1_i32_2144⟩
def k0_off118 (k0_t116 : Fin k0_t116_loop.trips) : Fin 2 → Nat :=
  let c3_i32_2213 : BitVec 32 := 3#32
  let v1212 : Index := Scalar.indexCast c3_i32_2213
  let c0_i32_2142 : BitVec 32 := 0#32
  let c1_i32_2144 : BitVec 32 := 1#32
  let arg17 : BitVec 32 := Scf.iv c0_i32_2142 c1_i32_2144 k0_t116
  let c16_i32_2212 : BitVec 32 := 16#32
  let v1211 : BitVec 32 := Scalar.muli arg17 c16_i32_2212
  let v1213 : Index := Scalar.indexCast v1211
  ![3, v1213.toNat]
@[reducible] def k0_t117_loop : Scf.Loop 32 :=
  let c0_i32_2147 : BitVec 32 := 0#32
  let c64_i32_2148 : BitVec 32 := 64#32
  let v1192 : BitVec 32 := Scalar.addi c0_i32_2147 c64_i32_2148
  let c1_i32_2149 : BitVec 32 := 1#32
  ⟨c0_i32_2147, v1192, c1_i32_2149⟩
def k0_off119 (k0_t117 : Fin k0_t117_loop.trips) : Fin 2 → Nat :=
  let c4_i32_2213 : BitVec 32 := 4#32
  let v1212 : Index := Scalar.indexCast c4_i32_2213
  let c0_i32_2147 : BitVec 32 := 0#32
  let c1_i32_2149 : BitVec 32 := 1#32
  let arg17 : BitVec 32 := Scf.iv c0_i32_2147 c1_i32_2149 k0_t117
  let c16_i32_2212 : BitVec 32 := 16#32
  let v1211 : BitVec 32 := Scalar.muli arg17 c16_i32_2212
  let v1213 : Index := Scalar.indexCast v1211
  ![4, v1213.toNat]
@[reducible] def k0_t118_loop : Scf.Loop 32 :=
  let c0_i32_2152 : BitVec 32 := 0#32
  let c64_i32_2153 : BitVec 32 := 64#32
  let v1193 : BitVec 32 := Scalar.addi c0_i32_2152 c64_i32_2153
  let c1_i32_2154 : BitVec 32 := 1#32
  ⟨c0_i32_2152, v1193, c1_i32_2154⟩
def k0_off120 (k0_t118 : Fin k0_t118_loop.trips) : Fin 2 → Nat :=
  let c5_i32_2213 : BitVec 32 := 5#32
  let v1212 : Index := Scalar.indexCast c5_i32_2213
  let c0_i32_2152 : BitVec 32 := 0#32
  let c1_i32_2154 : BitVec 32 := 1#32
  let arg17 : BitVec 32 := Scf.iv c0_i32_2152 c1_i32_2154 k0_t118
  let c16_i32_2212 : BitVec 32 := 16#32
  let v1211 : BitVec 32 := Scalar.muli arg17 c16_i32_2212
  let v1213 : Index := Scalar.indexCast v1211
  ![5, v1213.toNat]
@[reducible] def k0_t119_loop : Scf.Loop 32 :=
  let c0_i32_2157 : BitVec 32 := 0#32
  let c64_i32_2158 : BitVec 32 := 64#32
  let v1194 : BitVec 32 := Scalar.addi c0_i32_2157 c64_i32_2158
  let c1_i32_2159 : BitVec 32 := 1#32
  ⟨c0_i32_2157, v1194, c1_i32_2159⟩
def k0_off121 (k0_t119 : Fin k0_t119_loop.trips) : Fin 2 → Nat :=
  let c6_i32_2213 : BitVec 32 := 6#32
  let v1212 : Index := Scalar.indexCast c6_i32_2213
  let c0_i32_2157 : BitVec 32 := 0#32
  let c1_i32_2159 : BitVec 32 := 1#32
  let arg17 : BitVec 32 := Scf.iv c0_i32_2157 c1_i32_2159 k0_t119
  let c16_i32_2212 : BitVec 32 := 16#32
  let v1211 : BitVec 32 := Scalar.muli arg17 c16_i32_2212
  let v1213 : Index := Scalar.indexCast v1211
  ![6, v1213.toNat]
@[reducible] def k0_t120_loop : Scf.Loop 32 :=
  let c0_i32_2162 : BitVec 32 := 0#32
  let c64_i32_2163 : BitVec 32 := 64#32
  let v1195 : BitVec 32 := Scalar.addi c0_i32_2162 c64_i32_2163
  let c1_i32_2164 : BitVec 32 := 1#32
  ⟨c0_i32_2162, v1195, c1_i32_2164⟩
def k0_off122 (k0_t120 : Fin k0_t120_loop.trips) : Fin 2 → Nat :=
  let c7_i32_2213 : BitVec 32 := 7#32
  let v1212 : Index := Scalar.indexCast c7_i32_2213
  let c0_i32_2162 : BitVec 32 := 0#32
  let c1_i32_2164 : BitVec 32 := 1#32
  let arg17 : BitVec 32 := Scf.iv c0_i32_2162 c1_i32_2164 k0_t120
  let c16_i32_2212 : BitVec 32 := 16#32
  let v1211 : BitVec 32 := Scalar.muli arg17 c16_i32_2212
  let v1213 : Index := Scalar.indexCast v1211
  ![7, v1213.toNat]
@[reducible] def k0_t121_loop : Scf.Loop 32 :=
  let c0_i32_2167 : BitVec 32 := 0#32
  let c64_i32_2168 : BitVec 32 := 64#32
  let v1196 : BitVec 32 := Scalar.addi c0_i32_2167 c64_i32_2168
  let c1_i32_2169 : BitVec 32 := 1#32
  ⟨c0_i32_2167, v1196, c1_i32_2169⟩
def k0_off123 (k0_t121 : Fin k0_t121_loop.trips) : Fin 2 → Nat :=
  let c8_i32 : BitVec 32 := 8#32
  let v1212 : Index := Scalar.indexCast c8_i32
  let c0_i32_2167 : BitVec 32 := 0#32
  let c1_i32_2169 : BitVec 32 := 1#32
  let arg17 : BitVec 32 := Scf.iv c0_i32_2167 c1_i32_2169 k0_t121
  let c16_i32_2212 : BitVec 32 := 16#32
  let v1211 : BitVec 32 := Scalar.muli arg17 c16_i32_2212
  let v1213 : Index := Scalar.indexCast v1211
  ![8, v1213.toNat]
@[reducible] def k0_t122_loop : Scf.Loop 32 :=
  let c0_i32_2172 : BitVec 32 := 0#32
  let c64_i32_2173 : BitVec 32 := 64#32
  let v1197 : BitVec 32 := Scalar.addi c0_i32_2172 c64_i32_2173
  let c1_i32_2174 : BitVec 32 := 1#32
  ⟨c0_i32_2172, v1197, c1_i32_2174⟩
def k0_off124 (k0_t122 : Fin k0_t122_loop.trips) : Fin 2 → Nat :=
  let c9_i32 : BitVec 32 := 9#32
  let v1212 : Index := Scalar.indexCast c9_i32
  let c0_i32_2172 : BitVec 32 := 0#32
  let c1_i32_2174 : BitVec 32 := 1#32
  let arg17 : BitVec 32 := Scf.iv c0_i32_2172 c1_i32_2174 k0_t122
  let c16_i32_2212 : BitVec 32 := 16#32
  let v1211 : BitVec 32 := Scalar.muli arg17 c16_i32_2212
  let v1213 : Index := Scalar.indexCast v1211
  ![9, v1213.toNat]
@[reducible] def k0_t123_loop : Scf.Loop 32 :=
  let c0_i32_2177 : BitVec 32 := 0#32
  let c64_i32_2178 : BitVec 32 := 64#32
  let v1198 : BitVec 32 := Scalar.addi c0_i32_2177 c64_i32_2178
  let c1_i32_2179 : BitVec 32 := 1#32
  ⟨c0_i32_2177, v1198, c1_i32_2179⟩
def k0_off125 (k0_t123 : Fin k0_t123_loop.trips) : Fin 2 → Nat :=
  let c10_i32 : BitVec 32 := 10#32
  let v1212 : Index := Scalar.indexCast c10_i32
  let c0_i32_2177 : BitVec 32 := 0#32
  let c1_i32_2179 : BitVec 32 := 1#32
  let arg17 : BitVec 32 := Scf.iv c0_i32_2177 c1_i32_2179 k0_t123
  let c16_i32_2212 : BitVec 32 := 16#32
  let v1211 : BitVec 32 := Scalar.muli arg17 c16_i32_2212
  let v1213 : Index := Scalar.indexCast v1211
  ![10, v1213.toNat]
@[reducible] def k0_t124_loop : Scf.Loop 32 :=
  let c0_i32_2182 : BitVec 32 := 0#32
  let c64_i32_2183 : BitVec 32 := 64#32
  let v1199 : BitVec 32 := Scalar.addi c0_i32_2182 c64_i32_2183
  let c1_i32_2184 : BitVec 32 := 1#32
  ⟨c0_i32_2182, v1199, c1_i32_2184⟩
def k0_off126 (k0_t124 : Fin k0_t124_loop.trips) : Fin 2 → Nat :=
  let c11_i32 : BitVec 32 := 11#32
  let v1212 : Index := Scalar.indexCast c11_i32
  let c0_i32_2182 : BitVec 32 := 0#32
  let c1_i32_2184 : BitVec 32 := 1#32
  let arg17 : BitVec 32 := Scf.iv c0_i32_2182 c1_i32_2184 k0_t124
  let c16_i32_2212 : BitVec 32 := 16#32
  let v1211 : BitVec 32 := Scalar.muli arg17 c16_i32_2212
  let v1213 : Index := Scalar.indexCast v1211
  ![11, v1213.toNat]
@[reducible] def k0_t125_loop : Scf.Loop 32 :=
  let c0_i32_2187 : BitVec 32 := 0#32
  let c64_i32_2188 : BitVec 32 := 64#32
  let v1200 : BitVec 32 := Scalar.addi c0_i32_2187 c64_i32_2188
  let c1_i32_2189 : BitVec 32 := 1#32
  ⟨c0_i32_2187, v1200, c1_i32_2189⟩
def k0_off127 (k0_t125 : Fin k0_t125_loop.trips) : Fin 2 → Nat :=
  let c12_i32 : BitVec 32 := 12#32
  let v1212 : Index := Scalar.indexCast c12_i32
  let c0_i32_2187 : BitVec 32 := 0#32
  let c1_i32_2189 : BitVec 32 := 1#32
  let arg17 : BitVec 32 := Scf.iv c0_i32_2187 c1_i32_2189 k0_t125
  let c16_i32_2212 : BitVec 32 := 16#32
  let v1211 : BitVec 32 := Scalar.muli arg17 c16_i32_2212
  let v1213 : Index := Scalar.indexCast v1211
  ![12, v1213.toNat]
@[reducible] def k0_t126_loop : Scf.Loop 32 :=
  let c0_i32_2192 : BitVec 32 := 0#32
  let c64_i32_2193 : BitVec 32 := 64#32
  let v1201 : BitVec 32 := Scalar.addi c0_i32_2192 c64_i32_2193
  let c1_i32_2194 : BitVec 32 := 1#32
  ⟨c0_i32_2192, v1201, c1_i32_2194⟩
def k0_off128 (k0_t126 : Fin k0_t126_loop.trips) : Fin 2 → Nat :=
  let c13_i32 : BitVec 32 := 13#32
  let v1212 : Index := Scalar.indexCast c13_i32
  let c0_i32_2192 : BitVec 32 := 0#32
  let c1_i32_2194 : BitVec 32 := 1#32
  let arg17 : BitVec 32 := Scf.iv c0_i32_2192 c1_i32_2194 k0_t126
  let c16_i32_2212 : BitVec 32 := 16#32
  let v1211 : BitVec 32 := Scalar.muli arg17 c16_i32_2212
  let v1213 : Index := Scalar.indexCast v1211
  ![13, v1213.toNat]
@[reducible] def k0_t127_loop : Scf.Loop 32 :=
  let c0_i32_2197 : BitVec 32 := 0#32
  let c64_i32_2198 : BitVec 32 := 64#32
  let v1202 : BitVec 32 := Scalar.addi c0_i32_2197 c64_i32_2198
  let c1_i32_2199 : BitVec 32 := 1#32
  ⟨c0_i32_2197, v1202, c1_i32_2199⟩
def k0_off129 (k0_t127 : Fin k0_t127_loop.trips) : Fin 2 → Nat :=
  let c14_i32 : BitVec 32 := 14#32
  let v1212 : Index := Scalar.indexCast c14_i32
  let c0_i32_2197 : BitVec 32 := 0#32
  let c1_i32_2199 : BitVec 32 := 1#32
  let arg17 : BitVec 32 := Scf.iv c0_i32_2197 c1_i32_2199 k0_t127
  let c16_i32_2212 : BitVec 32 := 16#32
  let v1211 : BitVec 32 := Scalar.muli arg17 c16_i32_2212
  let v1213 : Index := Scalar.indexCast v1211
  ![14, v1213.toNat]
@[reducible] def k0_t128_loop : Scf.Loop 32 :=
  let c0_i32_2202 : BitVec 32 := 0#32
  let c64_i32_2203 : BitVec 32 := 64#32
  let v1203 : BitVec 32 := Scalar.addi c0_i32_2202 c64_i32_2203
  let c1_i32_2204 : BitVec 32 := 1#32
  ⟨c0_i32_2202, v1203, c1_i32_2204⟩
def k0_off130 (k0_t128 : Fin k0_t128_loop.trips) : Fin 2 → Nat :=
  let c15_i32 : BitVec 32 := 15#32
  let v1212 : Index := Scalar.indexCast c15_i32
  let c0_i32_2202 : BitVec 32 := 0#32
  let c1_i32_2204 : BitVec 32 := 1#32
  let arg17 : BitVec 32 := Scf.iv c0_i32_2202 c1_i32_2204 k0_t128
  let c16_i32_2212 : BitVec 32 := 16#32
  let v1211 : BitVec 32 := Scalar.muli arg17 c16_i32_2212
  let v1213 : Index := Scalar.indexCast v1211
  ![15, v1213.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S4096x2 : Shape := ⟨2, ![4096, 2]⟩
abbrev S_ : Shape := ⟨0, ![]⟩
abbrev S4096x2x1 : Shape := ⟨3, ![4096, 2, 1]⟩
abbrev S4096x2x1024 : Shape := ⟨3, ![4096, 2, 1024]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S4096x2, .i32⟩
  | .hbm, ⟨3, _⟩ => ⟨S_, .i32⟩
  | .hbm, ⟨4, _⟩ => ⟨S4096x2, .i32⟩
  | .hbm, ⟨5, _⟩ => ⟨S4096x2, .i1⟩
  | .hbm, ⟨6, _⟩ => ⟨S_, .i32⟩
  | .hbm, ⟨7, _⟩ => ⟨S4096x2, .i32⟩
  | .hbm, ⟨8, _⟩ => ⟨S4096x2, .i32⟩
  | .hbm, ⟨9, _⟩ => ⟨S4096x2, .i32⟩
  | .hbm, ⟨10, _⟩ => ⟨S4096x2x1, .i32⟩
  | .hbm, ⟨11, _⟩ => ⟨S4096x2x1024, .f32⟩
  | .hbm, ⟨12, _⟩ => ⟨S_, .f32⟩
  | .hbm, ⟨13, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Expand.lean ====
abbrev S4096x1024 : Shape := ⟨2, ![4096, 1024]⟩
abbrev S4096x2 : Shape := ⟨2, ![4096, 2]⟩
abbrev S8192 : Shape := ⟨1, ![8192]⟩
abbrev S8192x1 : Shape := ⟨2, ![8192, 1]⟩
abbrev S8 : Shape := ⟨1, ![8]⟩
abbrev S1x8 : Shape := ⟨2, ![1, 8]⟩
abbrev S8192x8 : Shape := ⟨2, ![8192, 8]⟩
abbrev S_ : Shape := ⟨0, ![]⟩
abbrev S4096x1 : Shape := ⟨2, ![4096, 1]⟩
abbrev S4096 : Shape := ⟨1, ![4096]⟩
abbrev S32x4x32 : Shape := ⟨3, ![32, 4, 32]⟩
abbrev S8192x1024 : Shape := ⟨2, ![8192, 1024]⟩
abbrev S32x1024 : Shape := ⟨2, ![32, 1024]⟩
abbrev S4x32 : Shape := ⟨2, ![4, 32]⟩
abbrev S1x4x32 : Shape := ⟨3, ![1, 4, 32]⟩
abbrev S32x128 : Shape := ⟨2, ![32, 128]⟩
abbrev S1x32 : Shape := ⟨2, ![1, 32]⟩
abbrev S32 : Shape := ⟨1, ![32]⟩
abbrev S8192x128 : Shape := ⟨2, ![8192, 128]⟩

abbrev nBuf : Table → Nat
  | .hbm => 49
  | .local .scVector .vmem => 6
  | _ => 0

abbrev bufTy : (tb : Table) → Fin (nBuf tb) → BufTy
  | .hbm, ⟨0, _⟩ => ⟨S4096x1024, .f32⟩
  | .hbm, ⟨1, _⟩ => ⟨S4096x2, .f32⟩
  | .hbm, ⟨2, _⟩ => ⟨S4096x2, .i32⟩
  | .hbm, ⟨3, _⟩ => ⟨S8192, .i32⟩
  | .hbm, ⟨4, _⟩ => ⟨S8192x1, .i32⟩
  | .hbm, ⟨5, _⟩ => ⟨S8, .i32⟩
  | .hbm, ⟨6, _⟩ => ⟨S1x8, .i32⟩
  | .hbm, ⟨7, _⟩ => ⟨S8192x8, .i32⟩
  | .hbm, ⟨8, _⟩ => ⟨S8192x8, .i32⟩
  | .hbm, ⟨9, _⟩ => ⟨S8192x8, .i1⟩
  | .hbm, ⟨10, _⟩ => ⟨S8192x8, .i32⟩
  | .hbm, ⟨11, _⟩ => ⟨S_, .i32⟩
  | .hbm, ⟨12, _⟩ => ⟨S_, .i32⟩
  | .hbm, ⟨13, _⟩ => ⟨S8192x8, .i32⟩
  | .hbm, ⟨14, _⟩ => ⟨S8192x8, .i32⟩
  | .hbm, ⟨15, _⟩ => ⟨S_, .i32⟩
  | .hbm, ⟨16, _⟩ => ⟨S8, .i32⟩
  | .hbm, ⟨17, _⟩ => ⟨S_, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192, .i32⟩
  | .hbm, ⟨30, _⟩ => ⟨S8192x8, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S4096x2, .i32⟩
  | .hbm, ⟨35, _⟩ => ⟨S4096x1, .i32⟩
  | .hbm, ⟨36, _⟩ => ⟨S4096, .i32⟩
  | .hbm, ⟨37, _⟩ => ⟨S32x4x32, .i32⟩
  | .hbm, ⟨38, _⟩ => ⟨S4096x1, .i32⟩
  | .hbm, ⟨39, _⟩ => ⟨S4096, .i32⟩
  | .hbm, ⟨40, _⟩ => ⟨S32x4x32, .i32⟩
  | .hbm, ⟨41, _⟩ => ⟨S4096x1, .f32⟩
  | .hbm, ⟨42, _⟩ => ⟨S4096, .f32⟩
  | .hbm, ⟨43, _⟩ => ⟨S32x4x32, .f32⟩
  | .hbm, ⟨44, _⟩ => ⟨S4096x1, .f32⟩
  | .hbm, ⟨45, _⟩ => ⟨S4096, .f32⟩
  | .hbm, ⟨46, _⟩ => ⟨S32x4x32, .f32⟩
  | .hbm, ⟨47, _⟩ => ⟨S8192x1024, .f32⟩
  | .hbm, ⟨48, _⟩ => ⟨S8192, .f32⟩
  | .local .scVector .vmem, ⟨0, _⟩ => ⟨S32x1024, .f32⟩
  | .local .scVector .vmem, ⟨1, _⟩ => ⟨S32x1024, .f32⟩
  | .local .scVector .vmem, ⟨2, _⟩ => ⟨S4x32, .f32⟩
  | .local .scVector .vmem, ⟨3, _⟩ => ⟨S4x32, .f32⟩
  | .local .scVector .vmem, ⟨4, _⟩ => ⟨S4x32, .i32⟩
  | .local .scVector .vmem, ⟨5, _⟩ => ⟨S4x32, .i32⟩
  | _, _ => ⟨S4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_call0_c : Ref sig .tc := ⟨.hbm, 11, rfl⟩
abbrev main_call0_call0_v0 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_call1_call0_c : Ref sig .tc := ⟨.hbm, 17, rfl⟩
abbrev main_call1_call0_v0 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_arg0_scv : Ref sig .scVector := ⟨.hbm, 0, rfl⟩
abbrev main_v32_scv : Ref sig .scVector := ⟨.hbm, 43, rfl⟩
abbrev main_v35_scv : Ref sig .scVector := ⟨.hbm, 46, rfl⟩
abbrev main_v26_scv : Ref sig .scVector := ⟨.hbm, 37, rfl⟩
abbrev main_v29_scv : Ref sig .scVector := ⟨.hbm, 40, rfl⟩
abbrev main_v36_0_scv : Ref sig .scVector := ⟨.hbm, 47, rfl⟩
abbrev main_v36_1_scv : Ref sig .scVector := ⟨.hbm, 48, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k0_off2 (i : grid0.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v19 : BitVec 32 := Scalar.addi v2 c0_i32_15
  let c0_i32_16 : BitVec 32 := 0#32
  ![v19.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ExpandReferenceIdeal.lean ====
abbrev S4096x1024 : Shape := ⟨2, ![4096, 1024]⟩
abbrev S4096x2 : Shape := ⟨2, ![4096, 2]⟩
abbrev S8192 : Shape := ⟨1, ![8192]⟩
abbrev S4096x2x1024 : Shape := ⟨3, ![4096, 2, 1024]⟩
abbrev S8192x1024 : Shape := ⟨2, ![8192, 1024]⟩
abbrev S_ : Shape := ⟨0, ![]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2, .f32⟩
  | .hbm, ⟨2, _⟩ => ⟨S4096x2, .i32⟩
  | .hbm, ⟨3, _⟩ => ⟨S8192, .i32⟩
  | .hbm, ⟨4, _⟩ => ⟨S8192, .i32⟩
  | .hbm, ⟨5, _⟩ => ⟨S8192, .i32⟩
  | .hbm, ⟨6, _⟩ => ⟨S8192, .i32⟩
  | .hbm, ⟨7, _⟩ => ⟨S4096x2x1024, .f32⟩
  | .hbm, ⟨8, _⟩ => ⟨S8192x1024, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x1024, .f32⟩
  | .hbm, ⟨18, _⟩ => ⟨S8192, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Router.lean ====
abbrev S4096x1024 : Shape := ⟨2, ![4096, 1024]⟩
abbrev S8x1024 : Shape := ⟨2, ![8, 1024]⟩
abbrev S4096x2 : Shape := ⟨2, ![4096, 2]⟩
abbrev S4096x8 : Shape := ⟨2, ![4096, 8]⟩
abbrev S4096 : Shape := ⟨1, ![4096]⟩
abbrev S4096x1 : Shape := ⟨2, ![4096, 1]⟩

abbrev nBuf : Space → Nat
  | .hbm => 4
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S8x1024, .f32⟩
  | .hbm, ⟨2, _⟩ => ⟨S4096x2, .f32⟩
  | .hbm, ⟨3, _⟩ => ⟨S4096x2, .i32⟩
  | .local _ .vmem, ⟨0, _⟩ => ⟨S4096x1024, .f32⟩
  | .local _ .vmem, ⟨1, _⟩ => ⟨S8x1024, .f32⟩
  | .local _ .vmem, ⟨2, _⟩ => ⟨S4096x2, .f32⟩
  | .local _ .vmem, ⟨3, _⟩ => ⟨S4096x2, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RouterReferenceIdeal.lean ====
abbrev S4096x1024 : Shape := ⟨2, ![4096, 1024]⟩
abbrev S8x1024 : Shape := ⟨2, ![8, 1024]⟩
abbrev S4096x8 : Shape := ⟨2, ![4096, 8]⟩
abbrev S_ : Shape := ⟨0, ![]⟩
abbrev S4096x2 : Shape := ⟨2, ![4096, 2]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024, .f32⟩
  | .hbm, ⟨2, _⟩ => ⟨S4096x8, .f32⟩
  | .hbm, ⟨3, _⟩ => ⟨S4096x8, .f32⟩
  | .hbm, ⟨4, _⟩ => ⟨S4096x8, .f32⟩
  | .hbm, ⟨5, _⟩ => ⟨S_, .f32⟩
  | .hbm, ⟨6, _⟩ => ⟨S4096x8, .f32⟩
  | .hbm, ⟨7, _⟩ => ⟨S4096x8, .f32⟩
  | .hbm, ⟨8, _⟩ => ⟨S_, .f32⟩
  | .hbm, ⟨9, _⟩ => ⟨S4096x8, .f32⟩
  | .hbm, ⟨10, _⟩ => ⟨S4096x8, .f32⟩
  | .hbm, ⟨11, _⟩ => ⟨S4096x2, .f32⟩
  | .hbm, ⟨12, _⟩ => ⟨S4096x2, .i32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_values : Ref sig .tc := ⟨.hbm, 11, rfl⟩
abbrev main_indices : Ref sig .tc := ⟨.hbm, 12, rfl⟩

abbrev nD : Nat := 1
abbrev τ : Topo := Topo.v7x

variable {F : FTy → Type} [FloatOps F]
-- ==== Product.lean ====
abbrev S4096x2 : Shape := ⟨2, ![4096, 2]⟩
abbrev S8192x1024 : Shape := ⟨2, ![8192, 1024]⟩
abbrev S8192 : Shape := ⟨1, ![8192]⟩
abbrev S8x2048x1024 : Shape := ⟨3, ![8, 2048, 1024]⟩
abbrev S8x1024x2048 : Shape := ⟨3, ![8, 1024, 2048]⟩
abbrev S8192x1 : Shape := ⟨2, ![8192, 1]⟩
abbrev S8 : Shape := ⟨1, ![8]⟩
abbrev S1x8 : Shape := ⟨2, ![1, 8]⟩
abbrev S8192x8 : Shape := ⟨2, ![8192, 8]⟩
abbrev S_ : Shape := ⟨0, ![]⟩
abbrev S39 : Shape := ⟨1, ![39]⟩
abbrev S39x1 : Shape := ⟨2, ![39, 1]⟩
abbrev S39x8 : Shape := ⟨2, ![39, 8]⟩
abbrev S1 : Shape := ⟨1, ![1]⟩
abbrev S38 : Shape := ⟨1, ![38]⟩
abbrev S1x39 : Shape := ⟨2, ![1, 39]⟩
abbrev S6x39 : Shape := ⟨2, ![6, 39]⟩
abbrev S256x1024 : Shape := ⟨2, ![256, 1024]⟩
abbrev S1x1 : Shape := ⟨2, ![1, 1]⟩
abbrev S1x2048x1024 : Shape := ⟨3, ![1, 2048, 1024]⟩
abbrev S1x1024x2048 : Shape := ⟨3, ![1, 1024, 2048]⟩
abbrev S256x1 : Shape := ⟨2, ![256, 1]⟩
abbrev S2048x1024 : Shape := ⟨2, ![2048, 1024]⟩
abbrev S256x2048 : Shape := ⟨2, ![256, 2048]⟩
abbrev S1024x2048 : Shape := ⟨2, ![1024, 2048]⟩

abbrev nBuf : Space → Nat
  | .hbm => 195
  | .vmem => 10
  | .smem => 1
  | _ => 0

abbrev hbmTy0_0 (i : Nat) : BufTy := match i % 128 with
  | 0 => ⟨S4096x2, .i32⟩
  | 1 => ⟨S8192x1024, .f32⟩
  | 2 => ⟨S8192, .f32⟩
  | 3 => ⟨S8x2048x1024, .f32⟩
  | 4 => ⟨S8x1024x2048, .f32⟩
  | 5 => ⟨S8192, .i32⟩
  | 6 => ⟨S8192x1, .i32⟩
  | 7 => ⟨S8, .i32⟩
  | 8 => ⟨S1x8, .i32⟩
  | 9 => ⟨S8192x8, .i32⟩
  | 10 => ⟨S8192x8, .i32⟩
  | 11 => ⟨S8192x8, .i1⟩
  | 12 => ⟨S8192x8, .i32⟩
  | 13 => ⟨S_, .i32⟩
  | 14 => ⟨S8, .i32⟩
  | 15 => ⟨S_, .i32⟩
  | 16 => ⟨S_, .i32⟩
  | 17 => ⟨S8, .i32⟩
  | 18 => ⟨S8, .i32⟩
  | 19 => ⟨S8, .i32⟩
  | 20 => ⟨S_, .i32⟩
  | 21 => ⟨S_, .i32⟩
  | 22 => ⟨S8, .i32⟩
  | 23 => ⟨S8, .i32⟩
  | 24 => ⟨S8, .i32⟩
  | 25 => ⟨S_, .i32⟩
  | 26 => ⟨S8, .i32⟩
  | 27 => ⟨S8, .i1⟩
  | 28 => ⟨S8, .i32⟩
  | 29 => ⟨S8, .i32⟩
  | 30 => ⟨S_, .i32⟩
  | 31 => ⟨S8, .i32⟩
  | 32 => ⟨S8, .i1⟩
  | 33 => ⟨S8, .i1⟩
  | 34 => ⟨S_, .i32⟩
  | 35 => ⟨S8, .i32⟩
  | 36 => ⟨S8, .i32⟩
  | 37 => ⟨S8, .i32⟩
  | 38 => ⟨S_, .i32⟩
  | 39 => ⟨S8, .i32⟩
  | 40 => ⟨S8, .i1⟩
  | 41 => ⟨S_, .i32⟩
  | 42 => ⟨S8, .i32⟩
  | 43 => ⟨S8, .i32⟩
  | 44 => ⟨S_, .i32⟩
  | 45 => ⟨S_, .i32⟩
  | 46 => ⟨S8, .i32⟩
  | 47 => ⟨S8, .i32⟩
  | 48 => ⟨S8, .i32⟩
  | 49 => ⟨S_, .i32⟩
  | 50 => ⟨S8, .i32⟩
  | 51 => ⟨S8, .i1⟩
  | 52 => ⟨S8, .i32⟩
  | 53 => ⟨S8, .i32⟩
  | 54 => ⟨S_, .i32⟩
  | 55 => ⟨S8, .i32⟩
  | 56 => ⟨S8, .i1⟩
  | 57 => ⟨S8, .i1⟩
  | 58 => ⟨S_, .i32⟩
  | 59 => ⟨S8, .i32⟩
  | 60 => ⟨S8, .i32⟩
  | 61 => ⟨S8, .i32⟩
  | 62 => ⟨S8, .i32⟩
  | 63 => ⟨S_, .i32⟩
  | 64 => ⟨S8, .i32⟩
  | 65 => ⟨S8, .i32⟩
  | 66 => ⟨S_, .i32⟩
  | 67 => ⟨S_, .i32⟩
  | 68 => ⟨S8, .i32⟩
  | 69 => ⟨S8, .i32⟩
  | 70 => ⟨S_, .i32⟩
  | 71 => ⟨S_, .i32⟩
  | 72 => ⟨S8, .i32⟩
  | 73 => ⟨S8, .i32⟩
  | 74 => ⟨S39, .i32⟩
  | 75 => ⟨S39x1, .i32⟩
  | 76 => ⟨S1x8, .i32⟩
  | 77 => ⟨S39x8, .i32⟩
  | 78 => ⟨S39x8, .i32⟩
  | 79 => ⟨S39x8, .i1⟩
  | 80 => ⟨S8, .i32⟩
  | 81 => ⟨S1x8, .i32⟩
  | 82 => ⟨S39x8, .i32⟩
  | 83 => ⟨S39x8, .i32⟩
  | 84 => ⟨S39x8, .i1⟩
  | 85 => ⟨S39x8, .i1⟩
  | 86 => ⟨S_, .i1⟩
  | 87 => ⟨S39, .i1⟩
  | 88 => ⟨S8, .i32⟩
  | 89 => ⟨S1x8, .i32⟩
  | 90 => ⟨S_, .i32⟩
  | 91 => ⟨S_, .i32⟩
  | 92 => ⟨S39x8, .i32⟩
  | 93 => ⟨S39x8, .i32⟩
  | 94 => ⟨S39x8, .i32⟩
  | 95 => ⟨S_, .i32⟩
  | 96 => ⟨S39, .i32⟩
  | 97 => ⟨S_, .i32⟩
  | 98 => ⟨S39, .i32⟩
  | 99 => ⟨S39, .i1⟩
  | 100 => ⟨S_, .i32⟩
  | 101 => ⟨S39, .i32⟩
  | 102 => ⟨S39, .i32⟩
  | 103 => ⟨S39, .i32⟩
  | 104 => ⟨S39x1, .i32⟩
  | 105 => ⟨S39, .i32⟩
  | 106 => ⟨S39, .i32⟩
  | 107 => ⟨S_, .i32⟩
  | 108 => ⟨S39, .i32⟩
  | 109 => ⟨S39, .i1⟩
  | 110 => ⟨S_, .i32⟩
  | 111 => ⟨S39, .i32⟩
  | 112 => ⟨S39, .i32⟩
  | 113 => ⟨S39, .i32⟩
  | 114 => ⟨S39x1, .i32⟩
  | 115 => ⟨S39, .i32⟩
  | 116 => ⟨S39, .i32⟩
  | 117 => ⟨S39, .i32⟩
  | 118 => ⟨S_, .i32⟩
  | 119 => ⟨S39, .i32⟩
  | 120 => ⟨S39, .i1⟩
  | 121 => ⟨S_, .i32⟩
  | 122 => ⟨S39, .i32⟩
  | 123 => ⟨S39, .i32⟩
  | 124 => ⟨S39, .i32⟩
  | 125 => ⟨S39x1, .i32⟩
  | 126 => ⟨S39, .i32⟩
  | 127 => ⟨S_, .i32⟩
  | _ => ⟨S4096x2, .i32⟩

abbrev hbmTy0_1 (i : Nat) : BufTy := match i % 128 with
  | 0 => ⟨S39, .i32⟩
  | 1 => ⟨S39, .i32⟩
  | 2 => ⟨S39, .i32⟩
  | 3 => ⟨S_, .i32⟩
  | 4 => ⟨S_, .i32⟩
  | 5 => ⟨S_, .i32⟩
  | 6 => ⟨S39, .i32⟩
  | 7 => ⟨S39, .i32⟩
  | 8 => ⟨S_, .i32⟩
  | 9 => ⟨S39, .i32⟩
  | 10 => ⟨S39, .i32⟩
  | 11 => ⟨S_, .i32⟩
  | 12 => ⟨S39, .i32⟩
  | 13 => ⟨S39, .i1⟩
  | 14 => ⟨S_, .i32⟩
  | 15 => ⟨S39, .i32⟩
  | 16 => ⟨S39, .i32⟩
  | 17 => ⟨S39, .i32⟩
  | 18 => ⟨S39x1, .i32⟩
  | 19 => ⟨S39, .i32⟩
  | 20 => ⟨S_, .i32⟩
  | 21 => ⟨S39, .i32⟩
  | 22 => ⟨S39, .i32⟩
  | 23 => ⟨S39, .i32⟩
  | 24 => ⟨S_, .i32⟩
  | 25 => ⟨S_, .i32⟩
  | 26 => ⟨S_, .i32⟩
  | 27 => ⟨S39, .i32⟩
  | 28 => ⟨S39, .i32⟩
  | 29 => ⟨S_, .i32⟩
  | 30 => ⟨S39, .i32⟩
  | 31 => ⟨S39, .i32⟩
  | 32 => ⟨S_, .i32⟩
  | 33 => ⟨S_, .i32⟩
  | 34 => ⟨S39, .i32⟩
  | 35 => ⟨S39, .i32⟩
  | 36 => ⟨S_, .i32⟩
  | 37 => ⟨S_, .i32⟩
  | 38 => ⟨S39, .i32⟩
  | 39 => ⟨S39, .i32⟩
  | 40 => ⟨S_, .i32⟩
  | 41 => ⟨S_, .i32⟩
  | 42 => ⟨S39, .i32⟩
  | 43 => ⟨S39, .i32⟩
  | 44 => ⟨S_, .i32⟩
  | 45 => ⟨S_, .i32⟩
  | 46 => ⟨S39, .i32⟩
  | 47 => ⟨S39, .i32⟩
  | 48 => ⟨S_, .i1⟩
  | 49 => ⟨S1, .i1⟩
  | 50 => ⟨S38, .i32⟩
  | 51 => ⟨S38, .i32⟩
  | 52 => ⟨S38, .i1⟩
  | 53 => ⟨S39, .i1⟩
  | 54 => ⟨S39, .i1⟩
  | 55 => ⟨S39, .i32⟩
  | 56 => ⟨S39, .i32⟩
  | 57 => ⟨S1x39, .i32⟩
  | 58 => ⟨S1x39, .i32⟩
  | 59 => ⟨S1x39, .i32⟩
  | 60 => ⟨S1x39, .i32⟩
  | 61 => ⟨S1x39, .i32⟩
  | 62 => ⟨S1x39, .i32⟩
  | 63 => ⟨S8x2048x1024, .bf16⟩
  | 64 => ⟨S8x1024x2048, .bf16⟩
  | 65 => ⟨S8192x1, .f32⟩
  | 66 => ⟨S8192x1024, .f32⟩
  | _ => ⟨S4096x2, .i32⟩

abbrev hbmTy (i : Nat) : BufTy := match i / 128 with
  | 0 => hbmTy0_0 i
  | 1 => hbmTy0_1 i
  | _ => ⟨S4096x2, .i32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S256x1, .f32⟩
  | .local _ .vmem, ⟨7, _⟩ => ⟨S256x1, .f32⟩
  | .local _ .vmem, ⟨8, _⟩ => ⟨S256x1024, .f32⟩
  | .local _ .vmem, ⟨9, _⟩ => ⟨S256x1024, .f32⟩
  | .local _ .smem, ⟨0, _⟩ => ⟨S6x39, .i32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_call0_call0_c : Ref sig .tc := ⟨.hbm, 15, rfl⟩
abbrev main_call0_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v12 : Ref sig .tc := ⟨.hbm, 37, rfl⟩
abbrev main_c_1 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v17 : Ref sig .tc := ⟨.hbm, 61, rfl⟩
abbrev main_v18 : Ref sig .tc := ⟨.hbm, 62, rfl⟩
abbrev main_c_4 : Ref sig .tc := ⟨.hbm, 63, rfl⟩
abbrev main_v19 : Ref sig .tc := ⟨.hbm, 64, rfl⟩
abbrev main_v20 : Ref sig .tc := ⟨.hbm, 65, rfl⟩
abbrev main_c_5 : Ref sig .tc := ⟨.hbm, 66, rfl⟩
abbrev main_call3_v0 : Ref sig .tc := ⟨.hbm, 67, rfl⟩
abbrev main_call3_v1 : Ref sig .tc := ⟨.hbm, 68, rfl⟩
abbrev main_v21 : Ref sig .tc := ⟨.hbm, 69, rfl⟩
abbrev main_call4_call0_c : Ref sig .tc := ⟨.hbm, 70, rfl⟩
abbrev main_call4_call0_v0 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_c_6 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_c_7 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_v39 : Ref sig .tc := ⟨.hbm, 94, rfl⟩
abbrev main_c_8 : Ref sig .tc := ⟨.hbm, 95, rfl⟩
abbrev main_v40 : Ref sig .tc := ⟨.hbm, 96, rfl⟩
abbrev main_c_9 : Ref sig .tc := ⟨.hbm, 97, rfl⟩
abbrev main_v41 : Ref sig .tc := ⟨.hbm, 98, rfl⟩
abbrev main_v42 : Ref sig .tc := ⟨.hbm, 99, rfl⟩
abbrev main_c_10 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_c_11 : Ref sig .tc := ⟨.hbm, 107, rfl⟩
abbrev main_v49 : Ref sig .tc := ⟨.hbm, 108, rfl⟩
abbrev main_v50 : Ref sig .tc := ⟨.hbm, 109, rfl⟩
abbrev main_c_12 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_c_13 : Ref sig .tc := ⟨.hbm, 118, rfl⟩
abbrev main_v58 : Ref sig .tc := ⟨.hbm, 119, rfl⟩
abbrev main_v59 : Ref sig .tc := ⟨.hbm, 120, rfl⟩
abbrev main_c_14 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_c_15 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_c_16 : Ref sig .tc := ⟨.hbm, 131, rfl⟩
abbrev main_c_17 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_v68 : Ref sig .tc := ⟨.hbm, 138, rfl⟩
abbrev main_c_18 : Ref sig .tc := ⟨.hbm, 139, rfl⟩
abbrev main_v69 : Ref sig .tc := ⟨.hbm, 140, rfl⟩
abbrev main_v70 : Ref sig .tc := ⟨.hbm, 141, rfl⟩
abbrev main_c_19 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_c_20 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_c_21 : Ref sig .tc := ⟨.hbm, 152, rfl⟩
abbrev main_c_22 : Ref sig .tc := ⟨.hbm, 153, rfl⟩
abbrev main_call7_v0 : Ref sig .tc := ⟨.hbm, 154, rfl⟩
abbrev main_call7_v1 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_v79 : Ref sig .tc := ⟨.hbm, 159, rfl⟩
abbrev main_c_23 : Ref sig .tc := ⟨.hbm, 160, rfl⟩
abbrev main_call8_v0 : Ref sig .tc := ⟨.hbm, 161, rfl⟩
abbrev main_call8_v1 : Ref sig .tc := ⟨.hbm, 162, rfl⟩
abbrev main_v80 : Ref sig .tc := ⟨.hbm, 163, rfl⟩
abbrev main_c_24 : Ref sig .tc := ⟨.hbm, 164, rfl⟩
abbrev main_call9_v0 : Ref sig .tc := ⟨.hbm, 165, rfl⟩
abbrev main_call9_v1 : Ref sig .tc := ⟨.hbm, 166, rfl⟩
abbrev main_v81 : Ref sig .tc := ⟨.hbm, 167, rfl⟩
abbrev main_c_25 : Ref sig .tc := ⟨.hbm, 168, rfl⟩
abbrev main_call10_v0 : Ref sig .tc := ⟨.hbm, 169, rfl⟩
abbrev main_call10_v1 : Ref sig .tc := ⟨.hbm, 170, rfl⟩
abbrev main_v82 : Ref sig .tc := ⟨.hbm, 171, rfl⟩
abbrev main_c_26 : Ref sig .tc := ⟨.hbm, 172, rfl⟩
abbrev main_call11_v0 : Ref sig .tc := ⟨.hbm, 173, rfl⟩
abbrev main_call11_v1 : Ref sig .tc := ⟨.hbm, 174, rfl⟩
abbrev main_v83 : Ref sig .tc := ⟨.hbm, 175, rfl⟩
abbrev main_c_27 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v98 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![39], ![false]⟩

abbrev pre0 : Pipeline.Prefetch sig := ⟨1, ![main_v98.idx], fun | 0 => main_v98.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c4 : Index := 4#32
  let arg0 : BitVec 32 := BitVec.ofNat 32 (i 0).val
  let v0 : Index := Scalar.indexCast arg0
  ![4, v0.toNat]
def k0_off4 (i : grid0.Coords) : Fin 2 → Nat :=
  let c2 : Index := 2#32
  let arg0 : BitVec 32 := BitVec.ofNat 32 (i 0).val
  let v3 : Index := Scalar.indexCast arg0
  ![2, v3.toNat]
def k0_off5 (i : grid0.Coords) : Fin 2 → Nat :=
  let c3 : Index := 3#32
  let arg0 : BitVec 32 := BitVec.ofNat 32 (i 0).val
  let v5 : Index := Scalar.indexCast arg0
  ![3, v5.toNat]
def k0_cond1 (v1 : BitVec 32) : BitVec 1 :=
  let c1_i32 : BitVec 32 := 1#32
  let v2 : BitVec 1 := Scalar.cmpi .eq v1 c1_i32
  let v30 : BitVec 32 := Scalar.extui v2
  let c0_i32 : BitVec 32 := 0#32
  let v31 : BitVec 1 := Scalar.cmpi .ne v30 c0_i32
  v31

def k0_cond2 (v1 : BitVec 32) : BitVec 1 :=
  let c1_i32 : BitVec 32 := 1#32
  let v2 : BitVec 1 := Scalar.cmpi .eq v1 c1_i32
  let v_true : BitVec 1 := 1#1
  let v32 : BitVec 1 := Scalar.xori v2 v_true
  let v33 : BitVec 32 := Scalar.extui v32
  let c0_i32_12 : BitVec 32 := 0#32
  let v34 : BitVec 1 := Scalar.cmpi .ne v33 c0_i32_12
  v34

def cc0_transform_0 (k0_off1_inb : ∀ i : grid0.Coords, ∀ a, (k0_off1 i) a + S1x1.size a ≤ S6x39.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S6x39) ![0, v0.toNat] S1x1.size (k0_off1_inb i)) numel1_S1x1
  let c0_i32 : BitVec 32 := 0#32
  let c0_i32_0 : BitVec 32 := 0#32
  ![v1.toNat, c0_i32.toNat]

def cc0_transform_1 (k0_off2_inb : ∀ i : grid0.Coords, ∀ a, (k0_off2 i) a + S1x1.size a ≤ S6x39.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S6x39) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off2_inb : ∀ i : grid0.Coords, ∀ a, (k0_off2 i) a + S1x1.size a ≤ S6x39.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S6x39) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1x1.size a ≤ S6x39.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S6x39) ![0, v0.toNat] S1x1.size (k0_off1_inb i)) numel1_S1x1
  let c0_i32 : BitVec 32 := 0#32
  let c0_i32_0 : BitVec 32 := 0#32
  ![v1.toNat, c0_i32.toNat]

def cc0_transform_4 (k0_off1_inb : ∀ i : grid0.Coords, ∀ a, (k0_off1 i) a + S1x1.size a ≤ S6x39.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S6x39) ![0, v0.toNat] S1x1.size (k0_off1_inb i)) numel1_S1x1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProductReferenceIdeal.lean ====
abbrev S4096x2 : Shape := ⟨2, ![4096, 2]⟩
abbrev S8192x1024 : Shape := ⟨2, ![8192, 1024]⟩
abbrev S8192 : Shape := ⟨1, ![8192]⟩
abbrev S8x2048x1024 : Shape := ⟨3, ![8, 2048, 1024]⟩
abbrev S8x1024x2048 : Shape := ⟨3, ![8, 1024, 2048]⟩
abbrev S8 : Shape := ⟨1, ![8]⟩
abbrev S8x1 : Shape := ⟨2, ![8, 1]⟩
abbrev S1x8192 : Shape := ⟨2, ![1, 8192]⟩
abbrev S8x8192 : Shape := ⟨2, ![8, 8192]⟩
abbrev S_ : Shape := ⟨0, ![]⟩
abbrev S8x2048x8192 : Shape := ⟨3, ![8, 2048, 8192]⟩
abbrev S8x8192x1024 : Shape := ⟨3, ![8, 8192, 1024]⟩
abbrev S8x8192x1 : Shape := ⟨3, ![8, 8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S8192x1024, .f32⟩
  | .hbm, ⟨2, _⟩ => ⟨S8192, .f32⟩
  | .hbm, ⟨3, _⟩ => ⟨S8x2048x1024, .f32⟩
  | .hbm, ⟨4, _⟩ => ⟨S8x1024x2048, .f32⟩
  | .hbm, ⟨5, _⟩ => ⟨S8192, .i32⟩
  | .hbm, ⟨6, _⟩ => ⟨S8192, .i32⟩
  | .hbm, ⟨7, _⟩ => ⟨S8, .i32⟩
  | .hbm, ⟨8, _⟩ => ⟨S8x1, .i32⟩
  | .hbm, ⟨9, _⟩ => ⟨S1x8192, .i32⟩
  | .hbm, ⟨10, _⟩ => ⟨S8x8192, .i32⟩
  | .hbm, ⟨11, _⟩ => ⟨S8x8192, .i32⟩
  | .hbm, ⟨12, _⟩ => ⟨S8x8192, .i1⟩
  | .hbm, ⟨13, _⟩ => ⟨S_, .f32⟩
  | .hbm, ⟨14, _⟩ => ⟨S_, .f32⟩
  | .hbm, ⟨15, _⟩ => ⟨S8x8192, .f32⟩
  | .hbm, ⟨16, _⟩ => ⟨S8x8192, .f32⟩
  | .hbm, ⟨17, _⟩ => ⟨S8x8192, .f32⟩
  | .hbm, ⟨18, _⟩ => ⟨S8x2048x8192, .f32⟩
  | .hbm, ⟨19, _⟩ => ⟨S_, .f32⟩
  | .hbm, ⟨20, _⟩ => ⟨S8x2048x8192, .f32⟩
  | .hbm, ⟨21, _⟩ => ⟨S8x2048x8192, .f32⟩
  | .hbm, ⟨22, _⟩ => ⟨S8x8192x1024, .f32⟩
  | .hbm, ⟨23, _⟩ => ⟨S8x8192x1, .f32⟩
  | .hbm, ⟨24, _⟩ => ⟨S8x8192x1024, .f32⟩
  | .hbm, ⟨25, _⟩ => ⟨S8x8192x1024, .f32⟩
  | .hbm, ⟨26, _⟩ => ⟨S_, .f32⟩
  | .hbm, ⟨27, _⟩ => ⟨S8192x1024, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_v8 : Ref sig .tc := ⟨.hbm, 17, rfl⟩
abbrev main_v9 : Ref sig .tc := ⟨.hbm, 18, rfl⟩
abbrev main_call2_cst : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.Streams.lean ====
/-
  Several indirect gathers outstanding on one DMA semaphore, counted row by row. Each gather is a stream of row
  transfers, all of one size, so the streams together are one batch of row transfers (Lib/Batch.lean): a stream takes
  the issue rights of its rows, in order, and each row's delivery is stated by the certificate (`rowDeliv`).
-/
module

public import Idealize.ShloMosaic.Lib.Batch
public import Idealize.ShloMosaic.Lib.SparseCore.Stream
public import Idealize.ShloMosaic.Lib.Tactic

@[expose] public section

noncomputable section

namespace Cert.Proof.Streams

open Idealize.ShloMosaic
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA
open Idealize.ShloMosaic.SparseCore

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The issue rights from transfer `j` on are those of the next `o` transfers and those from `j + o` on. -/
theorem bigSep_pending_take {n : ℕ} (Φ : Fin n → sProp 𝕄) (o : ℕ) :
    ∀ (j : ℕ) (h : j + o ≤ n), bigSep (Transfers.pending j) Φ
      ⊢ iprop((bigSep Finset.univ fun r : Fin o => Φ ⟨j + r.val, by omega⟩) ∗ bigSep (Transfers.pending (j + o)) Φ) := by
  induction o with
  | zero =>
    intro j h
    iintro H
    isplitr
    · rw [show (Finset.univ : Finset (Fin 0)) = ∅ from rfl, bigSep_empty]; iempintro
    · iexact H
  | succ o ih =>
    intro j h
    iintro H
    ihave H' := (Entails.of_eq (Transfers.bigSep_pending_step Φ j (by omega))) $$ H
    icases H' with ⟨H0, H⟩
    ihave H' := (ih (j + 1) (by omega)) $$ H
    icases H' with ⟨Hr, Hp⟩
    isplitl [H0 Hr]
    · iapply (Entails.of_eq (bigSep_univ_succ (fun r : Fin (o + 1) => Φ ⟨j + r.val, by omega⟩)).symm)
      isplitl [H0]
      · iapply (Entails.of_eq (show Φ ⟨j, _⟩ = Φ ⟨j + (0 : Fin (o + 1)).val, _⟩ from
          congrArg Φ (Fin.ext (by simp)))) $$ H0
      iapply (Entails.of_eq (BI.bigSep_congr (s := Finset.univ) fun (r : Fin o) _ =>
        congrArg Φ (Fin.ext (show j + 1 + r.val = j + (r.val + 1) by omega)))) $$ Hr
    · rw [show j + (o + 1) = j + 1 + o by omega]; iexact Hp

/-- What row `r` of a gather delivers: the destination's row written with the source's row that the offset list names,
    the list's entry back at its share, and the row's piece of the source's share back. -/
def rowDeliv (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (ho : 0 < s.size hg.axis') (r : Fin (s.size hg.axis')) : sProp 𝕄 :=
  iprop(((dst.view.loc c ↦[(dst.view.slice (s.rowRect hg.axis' r)).set]{fullShare}
        ((dst.view.slice (s.rowRect hg.axis' r)).write (Elt F) fd
          (fun i : (s.rowShape hg.axis').Idx => src.view.read (Elt F) fs (hg.rowIdx (rows (offs.view.read (Elt F) fo) hn hin r) i)) Finset.univ))
      ∗ (offs.view.loc c ↦[{offs.view.emb (si.rowMajor.symm (r.cast hn.symm))}]{qo} fo))
    ∗ (src.view.loc c ↦[src.view.set]{pieceOf q _ ho r} fs))

instance rowDeliv_storable (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (ho : 0 < s.size hg.axis') (r : Fin (s.size hg.axis')) :
    Storable (upEmb : UEmb _ 𝕄) (rowDeliv c src dst hg offs hn q qo fs fd fo hin ho r) := by
  unfold rowDeliv; infer_instance

/-- The rows' deliveries together: the destination written with the gather's payload, and the source's and the list's
    shares whole again. -/
theorem rowDeliv_join (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (ho : 0 < s.size hg.axis') :
    (bigSep Finset.univ fun r => rowDeliv (Ix := Ix) (Name := Name) (U := U) (Lvl := Lvl) c src dst hg offs hn q qo fs fd fo hin ho r)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  unfold rowDeliv
  iintro H
  ihave H1 := Transfers.bigSep_sep_out _ _ _ $$ H
  icases H1 with ⟨H2, Hsrc⟩
  ihave H3 := Transfers.bigSep_sep_out _ _ _ $$ H2
  icases H3 with ⟨Hrows, Hoffs⟩
  isplitl [Hrows]
  · iapply (pointsTo_rows_write c dst.view hg.axis' fd _ _
      (fun j i => by unfold gatherPayload; rw [Shape.Gathers.idx_rowRect_emb])) $$ Hrows
  isplitl [Hsrc]; · iapply (Entails.of_eq (pointsTo_piecesOf (src.view.set) fs ho q).symm) $$ Hsrc
  iapply (Entails.of_eq (pointsTo_entries c offs.view (fun r : Fin (s.size hg.axis') => si.rowMajor.symm (r.cast hn.symm))
    (si.rowMajor.symm.bijective.comp (finCongr hn.symm).bijective) qo fo).symm) $$ Hoffs

/-- `enqueueIndirectGather` of the next stream of a batch of rows: with the batch's first `j` row transfers issued, the
    stream issues the next ones, one per row of its destination, each row's delivery entailing what the batch states for
    it (`hD`). The source's share, the destination and the list's share go into the stream; the batch comes back with
    the stream's rows issued. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ} (ι : Ix) (N : ℕ)
    (hN : ∀ r, (dst.slice (s.rowRect hg.axis' r) (s.stride_rowRect hg.axis' r)).view.dmaCredit = N)
    (ho : 0 < s.size hg.axis') (hin : ∀ x, (offs.view.read (Elt F) fo x).toNat < s₀.size hg.axis)
    (hj : j + s.size hg.axis' ≤ n) (hu : u ≤ j * N)
    (hD : ∀ r : Fin (s.size hg.axis'), rowDeliv c src dst hg offs hn q qo fs fd fo hin ho r ⊢ D ⟨j + r.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun r =>
    gatherRow c src dst hg sem hsrc he hsp hr r (rows (offs.view.read (Elt F) fo) hn hin r)
  have hA : S.RowsAgree := by
    intro r x x' ρ ρ' h h'
    obtain ⟨_, _, rfl⟩ := Option.map_eq_some_iff.mp h
    obtain ⟨_, _, rfl⟩ := Option.map_eq_some_iff.mp h'
    rfl
  have hrd : ∀ r, S.row r (S.word fo r) = some (rd r) := fun r => by
    change (rowOf (s₀.size hg.axis) (offs.view.read (Elt F) fo (S.entry r))).map _ = _
    rw [rowOf_of_lt (hin _)]; rfl
  have hen : Function.Bijective S.entry := si.rowMajor.symm.bijective.comp (finCongr hn.symm).bijective
  have hsum : ∑ r, (rd r).dst.view.dmaCredit = s.size hg.axis' * N := by
    rw [Finset.sum_congr rfl fun r _ => hN r, Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (bigSep_pending_take (fun t => count EC (γ t) 0) (s.size hg.axis') j hj) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ r, iprop(inv κ (Transfers.batchBody EC (c, SemLoc.dma sem) N D γ γ₀)
          ∗ ((((dst.view.loc c ↦[(dst.view.slice (s.rowRect hg.axis' r)).set]{fullShare} fd) ∗ S.heldEntry qo fo r)
          ∗ (src.view.loc c ↦[src.view.set]{pieceOf q _ ho r} fs)) ∗ count EC (γ ⟨j + r.val, by omega⟩) 0))
        ⊢ iprop(S.heldEntry qo fo r ∗ (S.heldEntry qo fo r -∗ rowRes c (rd r))) := fun r => by
      iintro ⟨#Hinv, ⟨⟨Hr, He⟩, Hsq⟩, Hγr⟩
      isplitl [He]; · iexact He
      iintro He
      unfold rowRes
      iexists pieceOf q _ ho r, fs, iprop((dst.view.loc c ↦[(dst.view.slice (s.rowRect hg.axis' r)).set]{fullShare}
        ((dst.view.slice (s.rowRect hg.axis' r)).write (Elt F) fd
          (fun i : (s.rowShape hg.axis').Idx => src.view.read (Elt F) fs (hg.rowIdx (rows (offs.view.read (Elt F) fo) hn hin r) i)) Finset.univ)) ∗ S.heldEntry qo fo r)
      isplitl [Hsq]; · iexact Hsq
      isplitl [Hr He]
      · iapply writeUpdate_frame
        isplitl [Hr]
        · iapply (pointsTo_writeUpdate c (v := dst.view.slice (s.rowRect hg.axis' r)) subset_rfl) $$ Hr
        · iexact He
      · rw [show (rd r).dst.view.amount (SemLoc.dma sem) = N from hN r]
        iapply (Transfers.batch_creditUpdate EC ⟨j + r.val, by omega⟩ (hD r))
        isplitr; · iexact Hinv
        iexact Hγr
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun r _ => hrow r)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.Streams

end
-- ==== Proof.Own.lean ====
/- Holding the elements of a memref at a known value.

`own c m q v`: thread `c` holds, at share `q`, every element the memref `m` names, and `m` reads `v`. What follows says
how a holding is read, split into rectangles that partition it and joined again. -/
module

public import Idealize.ShloMosaic.Lib.SparseCore.Stream
public import Idealize.ShloMosaic.Lib.Tactic

@[expose] public section

noncomputable section

namespace Cert.Proof.Own

open Idealize.ShloMosaic
open Idealize.SL
open Idealize.SL.BI (sProp Storable bigSep bigSep_insert bigSep_empty bigSep_singleton bigSep_mono)
open scoped Idealize.SL.BI
open Idealize.SL.BI.BIBase Idealize.SL.BI.Laws Idealize.SL.Sem Idealize.SL.ProofMode
open Idealize.SL.RA
open Idealize.ShloMosaic.SparseCore

variable {nD : Nat} {τ : Topo} {sig : RefSig} {Ix : Type} [DecidableEq Ix]
variable {F : FTy → Type} {Name : Type} [DecidableEq Name]
variable {U : Type} [URA U] {Lvl : Type} [Preorder Lvl] {Λ : Labels}
variable (c : Thread nD τ) {sp : Space} {s : Shape} {e : EltTy}

local notation "𝕄" => MT nD τ sig Ix (Elt F) Name U Lvl

/-- The elements of `m`, held at share `q`, `m` reading `v`. -/
def own (m : Memref sig c.2.kind sp s e) (q : PosShare TreeShare) (v : s.Idx → Elt F e) : sProp 𝕄 :=
  iprop(∃ f : Buf (Elt F) (m.view.loc c), ⌜m.view.read (Elt F) f = v⌝ ∗ (m.view.loc c ↦[m.view.set]{q} f))

/-- Two contents a view reads the same agree on its elements. -/
theorem agree_of_read {v : View sig c.2.kind sp s e} {f g : Buf (Elt F) (v.loc c)}
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_inj _).mp this

theorem own_intro {m : Memref sig c.2.kind sp s e} {q : PosShare TreeShare} (f : Buf (Elt F) (m.view.loc c)) {v : s.Idx → Elt F e}
    (h : m.view.read (Elt F) f = v) :
    (m.view.loc c ↦[m.view.set]{q} f) ⊢ (own c m q v : sProp 𝕄) := by
  unfold own
  iintro H
  iexists f
  isplitr; · ipureintro; exact h
  iexact H

/-- A holding at `v` is one of any contents that read `v`. -/
theorem own_pts {m : Memref sig c.2.kind sp s e} {q : PosShare TreeShare} (g : Buf (Elt F) (m.view.loc c)) {v : s.Idx → Elt F e}
    (h : m.view.read (Elt F) g = v) :
    (own c m q v : sProp 𝕄) ⊢ (m.view.loc c ↦[m.view.set]{q} g) := by
  unfold own
  iintro ⟨%f, %hf, H⟩
  iapply (Entails.of_eq (pointsTo_congr (agree_of_read c (hf.trans h.symm)))) $$ H

/-- A rectangle of a memref reads what the memref reads there. -/
theorem read_slice (m : Memref sig c.2.kind sp s e) (r : Rect s) (hr : ∀ a, r.stride a = 1) (f : Buf (Elt F) (m.view.loc c)) :
    (m.slice r hr).view.read (Elt F) f = fun i => m.view.read (Elt F) f (r.emb i) := rfl

variable {T : Type} [Fintype T] [DecidableEq T]

/-- Rectangles that partition a shape partition a memref of it. -/
theorem pts_rects (m : Memref sig c.2.kind sp s e) (q : PosShare TreeShare) (f : Buf (Elt F) (m.view.loc c))
    (r : T → Rect s) (hr : ∀ t a, (r t).stride a = 1)
    (hd : ∀ t t', t ≠ t' → Disjoint (r t).set (r t').set) (hc : ∀ i : s.Idx, ∃ t, i ∈ (r t).set) :
    (m.view.loc c ↦[m.view.set]{q} f : sProp 𝕄)
      = bigSep Finset.univ fun t => (m.view.loc c ↦[(m.slice (r t) (hr t)).view.set]{q} f : sProp 𝕄) := by
  have hset : ∀ t, (m.slice (r t) (hr t)).view.set = (r t).set.map m.view.emb := fun t => View.set_slice (v := m.view) (r t)
  have hun : m.view.set = Finset.univ.biUnion fun t => (m.slice (r t) (hr t)).view.set := by
    ext i
    simp only [Finset.mem_biUnion, Finset.mem_univ, true_and, hset]
    constructor
    · intro hi
      obtain ⟨x, -, rfl⟩ := Finset.mem_map.mp hi
      obtain ⟨t, ht⟩ := hc x
      exact ⟨t, Finset.mem_map_of_mem _ ht⟩
    · rintro ⟨t, ht⟩
      obtain ⟨x, -, rfl⟩ := Finset.mem_map.mp ht
      exact View.emb_mem_set _ x
  rw [hun]
  refine pointsTo_biUnion Finset.univ _ fun t _ t' _ h => ?_
  rw [hset, hset]
  exact (Finset.disjoint_map m.view.emb).mpr (hd t t' h)

/-- A holding split into its rectangles' holdings, -/
theorem own_split (m : Memref sig c.2.kind sp s e) (q : PosShare TreeShare) (v : s.Idx → Elt F e)
    (r : T → Rect s) (hr : ∀ t a, (r t).stride a = 1)
    (hd : ∀ t t', t ≠ t' → Disjoint (r t).set (r t').set) (hc : ∀ i : s.Idx, ∃ t, i ∈ (r t).set) :
    (own c m q v : sProp 𝕄) ⊢ bigSep Finset.univ fun t => (own c (m.slice (r t) (hr t)) q (fun i => v ((r t).emb i)) : sProp 𝕄) := by
  have key : ∀ f : Buf (Elt F) (m.view.loc c), m.view.read (Elt F) f = v →
      ((m.view.loc c ↦[m.view.set]{q} f : sProp 𝕄)
        ⊢ bigSep Finset.univ fun t => (own c (m.slice (r t) (hr t)) q (fun i => v ((r t).emb i)) : sProp 𝕄)) := fun f hf =>
    (Entails.of_eq (pts_rects c m q f r hr hd hc)).trans
      (bigSep_mono fun t _ => own_intro c (m := m.slice (r t) (hr t)) f (by rw [read_slice, hf]))
  iintro H
  unfold own
  icases H with ⟨%f, %hf, H⟩
  iapply (key f hf) $$ H

/-- and joined from them. -/
theorem own_join (m : Memref sig c.2.kind sp s e) (q : PosShare TreeShare) (v : s.Idx → Elt F e)
    (r : T → Rect s) (hr : ∀ t a, (r t).stride a = 1)
    (hd : ∀ t t', t ≠ t' → Disjoint (r t).set (r t').set) (hc : ∀ i : s.Idx, ∃ t, i ∈ (r t).set)
    (f₀ : Buf (Elt F) (m.view.loc c)) :
    (bigSep Finset.univ fun t => (own c (m.slice (r t) (hr t)) q (fun i => v ((r t).emb i)) : sProp 𝕄)) ⊢ (own c m q v : sProp 𝕄) := by
  have hg : m.view.read (Elt F) (m.view.write (Elt F) f₀ v Finset.univ) = v := View.read_write_univ _ _
  refine (bigSep_mono fun t _ => own_pts c (m := m.slice (r t) (hr t)) (m.view.write (Elt F) f₀ v Finset.univ)
    (by rw [read_slice, hg])).trans ?_
  exact (Entails.of_eq (pts_rects c m q _ r hr hd hc).symm).trans (own_intro c _ hg)

section Access
variable {defs : Defs nD τ sig (Elt F) Λ} (𝒱 : Variants) (bd : Option 𝒱.V) (E : Set Name) {α : Type}
variable {cs : CoreSpace} {Q : α → sProp (MT nD τ sig Ix (Elt F) Name U Lvl)}

/-- A load through a rectangle reads the holding's value there. -/
theorem own_load {m : Memref sig c.2.kind cs s e} {r : Rect s} {hl : m.view.LoadsAt r}
    {k : (r.shape.Idx → Elt F e) → Prog (TpuEff nD τ sig (Elt F) Λ c.2) α} {q : PosShare TreeShare} {v : s.Idx → Elt F e} :
    (own c m q v : sProp 𝕄)
      ⊢ iprop((own c m q v -∗ wp frame (wpE defs 𝒱 c bd) E (k fun i => v (r.emb i)) Q)
        -∗ wp frame (wpE defs 𝒱 c bd) E (.op (.load m r hl) k) Q) := by
  iintro H Hk
  unfold own
  icases H with ⟨%f, %hf, H⟩
  iapply (wp_load_rect 𝒱 c bd E (m := m) (r := r) (hl := hl) (k := k) (q := q) (f := f) (S := m.view.set)
    (by rw [View.set_slice]; exact View.setOn_subset_set _ _)) $$ H
  iintro H
  rw [show (m.access r).read (Elt F) f = fun i => v (r.emb i) from by rw [← hf]; rfl]
  iapply Hk
  iexists f
  isplitr; · ipureintro; exact hf
  iexact H

/-- A store through a rectangle leaves the stored value there and the rest as it was. -/
theorem own_store {m : Memref sig c.2.kind cs s e} {r : Rect s} {w : r.shape.Idx → Elt F e} {hx : (m.access r).Stores Finset.univ}
    {hm : Finset.univ = Finset.univ ∨ ∀ a, r.stride a = 1} {k : PUnit → Prog (TpuEff nD τ sig (Elt F) Λ c.2) α}
    {v v' : s.Idx → Elt F e} (hin : ∀ i, v' (r.emb i) = w i) (hout : ∀ y, y ∉ r.set → v' y = v y) :
    (own c m fullShare v : sProp 𝕄)
      ⊢ iprop((own c m fullShare v' -∗ wp frame (wpE defs 𝒱 c bd) E (k ⟨⟩) Q)
        -∗ wp frame (wpE defs 𝒱 c bd) E (.op (.store m r w Finset.univ hx hm) k) Q) := by
  iintro H Hk
  unfold own
  icases H with ⟨%f, %hf, H⟩
  iapply (wp_store 𝒱 c bd E (m := m) (r := r) (w := w) (hx := hx) (hm := hm) (k := k) (f := f) (S := m.view.set)
    (by rw [show (m.access r).setOn Finset.univ = (m.access r).set from rfl, View.set_slice]; exact View.setOn_subset_set _ _)) $$ H
  iintro H
  iapply Hk
  iexists _
  isplitr [H]
  on_goal 2 => iexact H
  ipureintro
  funext y
  by_cases hy : y ∈ r.set
  · obtain ⟨i, -, rfl⟩ := Finset.mem_map.mp ((Rect.map_emb_univ r).symm ▸ hy)
    rw [hin]
    exact View.read_slice_write_emb (v := m.view) r f w (Finset.mem_univ i)
  · rw [hout y hy, ← hf]
    exact View.read_slice_write_of_not_mem (v := m.view) r f w Finset.univ (by rw [Rect.map_emb_univ]; exact hy)

end Access

end Cert.Proof.Own

end
-- ==== Proof.Kernel.Acts.lean ====
/- The kernel body as a list of its memory actions.

The printed body is the SparseCore tile's program written out: two copies of index lists into the tile, then eight
chunks of sixteen output rows, each gathered, added and copied out, with two sets of buffers used in turn. This module
names the six kinds of action, gives each its program, and shows that the printed body is the list of them in order. -/
module

public import proofs.«01_k».proof.Kernel
public import Idealize.ShloMosaic.Lib.SparseCore

@[expose] public section

noncomputable section

namespace Cert.Kernel.Acts

open Idealize.ShloMosaic Idealize.SL.Sem Cert.Kernel
open Facts₀ Facts

variable {F : FTy → Type} [FloatOps F] [Facts]

/-- What the body is called on: its grid point, the whole arrays in HBM, the tile's buffers and its semaphores. -/
structure Ctx where
  i : grid0.Coords
  y : Memref sig .scVector .hbm S8192x1024 .f32
  hy : y.IsWhole
  p0 : Memref sig .scVector .hbm S32x8x16 .i32
  hp0 : p0.IsWhole
  p1 : Memref sig .scVector .hbm S32x8x16 .i32
  hp1 : p1.IsWhole
  o : Memref sig .scVector .hbm S4096x1024 .f32
  ho : o.IsWhole
  l0 : Memref sig .scVector .vmem S8x16 .i32
  hl0 : l0.IsWhole
  l1 : Memref sig .scVector .vmem S8x16 .i32
  hl1 : l1.IsWhole
  a0 : Memref sig .scVector .vmem S16x1024 .f32
  ha0 : a0.IsWhole
  b0 : Memref sig .scVector .vmem S16x1024 .f32
  hb0 : b0.IsWhole
  a1 : Memref sig .scVector .vmem S16x1024 .f32
  ha1 : a1.IsWhole
  b1 : Memref sig .scVector .vmem S16x1024 .f32
  hb1 : b1.IsWhole
  semI : DmaSems sig S_
  semG0 : DmaSems sig S_
  semG1 : DmaSems sig S_
  semS0 : DmaSems sig S_
  semS1 : DmaSems sig S_

namespace Ctx

/-- A function of the body's arguments, at them. -/
abbrev ap {β : grid0.Coords → Sort _} (x : Ctx)
    (f : ∀ (i : grid0.Coords) (arg2 : Memref sig .scVector .hbm S8192x1024 .f32) (_ : arg2.IsWhole)
      (arg3 : Memref sig .scVector .hbm S32x8x16 .i32) (_ : arg3.IsWhole)
      (arg4 : Memref sig .scVector .hbm S32x8x16 .i32) (_ : arg4.IsWhole)
      (arg5 : Memref sig .scVector .hbm S4096x1024 .f32) (_ : arg5.IsWhole)
      (arg6 : Memref sig .scVector .vmem S8x16 .i32) (_ : arg6.IsWhole)
      (arg7 : Memref sig .scVector .vmem S8x16 .i32) (_ : arg7.IsWhole)
      (arg8 : Memref sig .scVector .vmem S16x1024 .f32) (_ : arg8.IsWhole)
      (arg9 : Memref sig .scVector .vmem S16x1024 .f32) (_ : arg9.IsWhole)
      (arg10 : Memref sig .scVector .vmem S16x1024 .f32) (_ : arg10.IsWhole)
      (arg11 : Memref sig .scVector .vmem S16x1024 .f32) (_ : arg11.IsWhole)
      (_ _ _ _ _ : DmaSems sig S_), β i) : β x.i :=
  f x.i x.y x.hy x.p0 x.hp0 x.p1 x.hp1 x.o x.ho x.l0 x.hl0 x.l1 x.hl1 x.a0 x.ha0 x.b0 x.hb0 x.a1 x.ha1 x.b1 x.hb1
    x.semI x.semG0 x.semG1 x.semS0 x.semS1

/-- The index list of side `w`: the first positions or the second. -/
def l (x : Ctx) : Bool → Memref sig .scVector .vmem S8x16 .i32
  | false => x.l0
  | true => x.l1
theorem hl (x : Ctx) : ∀ w, (x.l w).IsWhole
  | false => x.hl0
  | true => x.hl1
/-- The array of positions of side `w` in HBM. -/
def p (x : Ctx) : Bool → Memref sig .scVector .hbm S32x8x16 .i32
  | false => x.p0
  | true => x.p1
theorem hp (x : Ctx) : ∀ w, (x.p w).IsWhole
  | false => x.hp0
  | true => x.hp1
/-- The row buffer of set `s` and side `w`. -/
def buf (x : Ctx) : Bool → Bool → Memref sig .scVector .vmem S16x1024 .f32
  | false, false => x.a0
  | false, true => x.b0
  | true, false => x.a1
  | true, true => x.b1
theorem hbuf (x : Ctx) : ∀ s w, (x.buf s w).IsWhole
  | false, false => x.ha0
  | false, true => x.hb0
  | true, false => x.ha1
  | true, true => x.hb1
/-- The gathers' semaphore of set `s`, -/
def semG (x : Ctx) : Bool → DmaSems sig S_
  | false => x.semG0
  | true => x.semG1
/-- and the copies' out. -/
def semS (x : Ctx) : Bool → DmaSems sig S_
  | false => x.semS0
  | true => x.semS1

end Ctx

/-- One memory action: a side's index list copied in and waited for; a gather of 128 columns of chunk `c`'s rows of
    a side, and the wait for it; one row of the second buffer added to the first; the chunk copied out, and the wait. -/
inductive Act
  | ld (w : Bool)
  | ldw (w : Bool)
  | gat (c j : Fin 8) (w : Bool)
  | gwt (c j : Fin 8) (w : Bool)
  | add (c : Fin 8) (r : Fin 16)
  | out (c : Fin 8)
  | outw (c : Fin 8)

/-- The buffer set of chunk `c`: the two are used in turn. -/
def slot (c : Fin 8) : Bool := c.val % 2 == 1

theorem inb_col (j : Fin 8) : ∀ a, (![0, 128 * j.val] : Fin 2 → Nat) a + S16x128.size a ≤ S16x1024.size a := by
  revert j; decide
theorem inb_ycol (j : Fin 8) : ∀ a, (![0, 128 * j.val] : Fin 2 → Nat) a + S8192x128.size a ≤ S8192x1024.size a := by
  revert j; decide
theorem inb_row (c : Fin 8) : ∀ a, (![c.val, 0] : Fin 2 → Nat) a + S1x16.size a ≤ S8x16.size a := by
  revert c; decide

/-- The row loop's bounds: sixty-four blocks of sixteen lanes. -/
@[reducible] def addLoop : Scf.Loop 32 := ⟨0#32, 64#32, 1#32⟩
theorem addLoop_ok : addLoop.OK := k0_t1_ok
/-- Where trip `t` of row `r`'s loop reads and writes. -/
def addOff (r : Fin 16) (t : Fin addLoop.trips) : Fin 2 → Nat :=
  ![r.val, (Scalar.indexCast (Scalar.muli (Scf.iv 0#32 1#32 t) 16#32) : Index).toNat]
theorem addOff_eq : ∀ (r : Fin 16) (t : Fin addLoop.trips), addOff r t = ![r.val, 16 * t.val] := by decide +kernel
theorem addOff_inb (r : Fin 16) (t : Fin addLoop.trips) : ∀ a, addOff r t a + S1x16.size a ≤ S16x1024.size a := by
  rw [addOff_eq]
  have ht : t.val < 64 := t.isLt
  have hr := r.isLt
  intro a
  match a with
  | 0 => show r.val + 1 ≤ 16; omega
  | 1 => show 16 * t.val + 16 ≤ 1024; omega

section
variable (x : Ctx)

/-- A chunk's row of a side's list, as the list a gather reads. -/
abbrev listRow (c : Fin 8) (w : Bool) : Memref sig .scVector .vmem S16 .i32 :=
  ((x.l w).slice (Rect.unit (s := S8x16) ![c.val, 0] S1x16.size (inb_row c)) (fun _ => rfl)).squeeze S16 squeezes_S1x16_S16
/-- A buffer's block of 128 columns, -/
abbrev bufCol (s w : Bool) (j : Fin 8) : Memref sig .scVector .vmem S16x128 .f32 :=
  (x.buf s w).slice (Rect.unit (s := S16x1024) ![0, 128 * j.val] S16x128.size (inb_col j)) (fun _ => rfl)
/-- and the rows' table's. -/
abbrev yCol (j : Fin 8) : Memref sig .scVector .hbm S8192x128 .f32 :=
  x.y.slice (Rect.unit (s := S8192x1024) ![0, 128 * j.val] S8192x128.size (inb_ycol j)) (fun _ => rfl)
/-- The tile's block of a side's positions. -/
abbrev pBlk (w : Bool) : Memref sig .scVector .hbm S8x16 .i32 :=
  ((x.p w).slice (Rect.unit (s := S32x8x16) (k0_off1 x.i) S1x8x16.size (k0_off1_inb x.i)) (fun _ => rfl)).squeeze S8x16 squeezes_S1x8x16_S8x16
/-- The chunk's rows of the result. -/
abbrev oBlk (c : Fin 8) : Memref sig .scVector .hbm S16x1024 .f32 :=
  x.o.slice (Rect.unit (s := S4096x1024) (k0_off18 x.i (BitVec.ofNat 32 (16 * c.val))) S16x1024.size (k0_off18_inb x.i c)) (fun _ => rfl)

/-- What one trip of a row's loop stores: the sum of the two sixteens it read. -/
def addPay (u v : Vec F S1x16 .f32) : FVec F S1x16 .f32 :=
  shapeCast S1x16 (addf (shapeCast S16 u shapeCasts_S1x16_S16) (shapeCast S16 v shapeCasts_S1x16_S16)) shapeCasts_S16_S1x16

/-- One trip of a row's loop. -/
def addBody (s : Bool) (r : Fin 16) (t : Fin addLoop.trips) (_ : PUnit) :
    Prog (TpuEff nD τ sig (Elt F) Λ₀ (.scVector ((x.i 0).castLE hcore0) ((x.i 1).castLE hsub0))) PUnit := do
  let u : Vec F S1x16 .f32 ← Prog.lift (.load (x.buf s false) (Rect.unit (s := S16x1024) (addOff r t) S1x16.size (addOff_inb r t)).toLoadRect (View.loadsAt_vmem h_S1x16))
  let v : Vec F S1x16 .f32 ← Prog.lift (.load (x.buf s true) (Rect.unit (s := S16x1024) (addOff r t) S1x16.size (addOff_inb r t)).toLoadRect (View.loadsAt_vmem h_S1x16))
  let _u : Vec F S1x16 .f32 ← Prog.lift (.load (x.buf s false) (Rect.unit (s := S16x1024) (addOff r t) S1x16.size (addOff_inb r t)).toLoadRect (View.loadsAt_vmem h_S1x16))
  Prog.lift (.store (x.buf s false) (Rect.unit (s := S16x1024) (addOff r t) S1x16.size (addOff_inb r t)) (addPay u v) Finset.univ (View.stores_vmem_bits_univ h_S1x16 rfl) (.inl rfl))
  pure ⟨⟩

/-- An action's program. -/
def denote : Act → Prog (TpuEff nD τ sig (Elt F) Λ₀ (.scVector ((x.i 0).castLE hcore0) ((x.i 1).castLE hsub0))) PUnit
  | .ld w => Prog.lift (.enqueueDma (pBlk x w) (.here (x.l w)) (.dma x.semI.sem) ((View.wordExact_bits rfl).reshape _ _) (x.hl w).wordExact ⟨Or.inl rfl, trivial⟩)
  | .ldw w => Prog.lift (.waitDma2 x.semI.sem (pBlk x w) (x.l w) ((View.wordExact_bits rfl).reshape _ _) (x.hl w).wordExact)
  | .gat c j w => SparseCore.enqueueIndirectGather rfl (yCol x j) (bufCol x (slot c) w j) gathers_S8192x128_S16x128 (listRow x c w) rfl (x.semG (slot c)).sem (View.wordExact_bits rfl) rfl (Or.inl rfl)
  | .gwt c j w => SparseCore.waitIndirectGather (x.semG (slot c)).sem (yCol x j) (bufCol x (slot c) w j) (View.wordExact_bits rfl) (View.wordExact_bits rfl)
  | .add c r => Scf.Loop.for addLoop addLoop_ok ⟨⟩ (addBody x (slot c) r)
  | .out c => Prog.lift (.enqueueDma (x.buf (slot c) false) (.here (oBlk x c)) (.dma (x.semS (slot c)).sem) (x.hbuf _ _).wordExact (View.wordExact_bits rfl) ⟨Or.inl rfl, trivial⟩)
  | .outw c => Prog.lift (.waitDma2 (x.semS (slot c)).sem (x.buf (slot c) false) (oBlk x c) (x.hbuf _ _).wordExact (View.wordExact_bits rfl))

/-- Actions in order, then the rest of the program. -/
def runK {β : Type} : List Act → Prog (TpuEff nD τ sig (Elt F) Λ₀ (.scVector ((x.i 0).castLE hcore0) ((x.i 1).castLE hsub0))) β →
    Prog (TpuEff nD τ sig (Elt F) Λ₀ (.scVector ((x.i 0).castLE hcore0) ((x.i 1).castLE hsub0))) β
  | [], p => p
  | a :: l, p => denote x a >>= fun _ => runK l p

theorem runK_append {β : Type} (l bs : List Act) (p : Prog (TpuEff nD τ sig (Elt F) Λ₀ (.scVector ((x.i 0).castLE hcore0) ((x.i 1).castLE hsub0))) β) :
    runK x (l ++ bs) p = runK x l (runK x bs p) := by
  induction l with
  | nil => rfl
  | cons a l ih => simp only [List.cons_append, runK, ih]

theorem runK_bind {β γ : Type} (l : List Act) (p : Prog (TpuEff nD τ sig (Elt F) Λ₀ (.scVector ((x.i 0).castLE hcore0) ((x.i 1).castLE hsub0))) β)
    (f : β → Prog (TpuEff nD τ sig (Elt F) Λ₀ (.scVector ((x.i 0).castLE hcore0) ((x.i 1).castLE hsub0))) γ) :
    runK x l p >>= f = runK x l (p >>= f) := by
  induction l with
  | nil => rfl
  | cons a l ih => simp only [runK, Idealize.SL.Sem.Prog.bind_assoc, ih]

end

/-- A chunk's sixteen streams: for each block of columns, the first side's and the second's. -/
def sides {α : Type} (f : Fin 8 → Bool → α) : List α := (List.finRange 8).flatMap fun j => [f j false, f j true]

/-- Chunk `c`: its gathers' waits; the next chunk's gathers, once the copy out of their buffers is waited for; the
    sixteen rows' additions; the copy out. -/
def chunk (c : Fin 8) : List Act :=
  sides (Act.gwt c)
    ++ (if h : c.val + 1 < 8 then
        (if 1 ≤ c.val then [Act.outw ⟨c.val - 1, by omega⟩] else []) ++ sides (Act.gat ⟨c.val + 1, h⟩)
      else [])
    ++ (List.finRange 16).map (Act.add c) ++ [Act.out c]

/-- The whole body's actions. -/
def acts : List Act :=
  [Act.ld false, Act.ld true, Act.ldw false, Act.ldw true] ++ sides (Act.gat 0) ++ (List.finRange 8).flatMap chunk
    ++ [Act.outw 6, Act.outw 7]

/-- Those numbered `a` up to `b`. -/
def seg (a b : Nat) : List Act := (acts.drop a).take (b - a)

end Cert.Kernel.Acts

end
-- ==== Proof.Kernel.RowAdd.lean ====
/- The additions of a chunk: sixteen rows of the second buffer, added to the first's, in sixteens of lanes. -/
module

public import proofs.«01_k».proof.Proof.Own
public import proofs.«01_k».proof.Proof.Kernel.Acts

@[expose] public section

noncomputable section

namespace Cert.Kernel.RowAdd

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.SparseCore (V)
open Cert.Kernel Cert.Kernel.Acts Cert.Proof.Own
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

/-- The thread the body runs on. -/
abbrev thr (x : Ctx) (d : Dev nD) : Thread nD τ := V d ((x.i 0).castLE hcore0) ((x.i 1).castLE hsub0)

theorem addPay_apply (u v : Vec F S1x16 .f32) (i : S1x16.Idx) : addPay u v i = FloatOps.addf (u i) (v i) := by
  unfold addPay
  simp only [shapeCast, addf]
  have h : ∀ j : S1x16.Idx, (Shape.reshapeEquiv shapeCasts_S1x16_S16) ((Shape.reshapeEquiv shapeCasts_S16_S1x16) j) = j := fun j => by
    rw [Shape.reshapeEquiv_reshapeEquiv, Shape.reshapeEquiv_self]
  rw [h]

/-- Row `r`'s first `n` lanes added, the rest as it was. -/
def mixRow (f g : S16x1024.Idx → F .f32) (r n : Nat) : S16x1024.Idx → F .f32 := fun i =>
  if (i 0).val = r ∧ (i 1).val < n then FloatOps.addf (f i) (g i) else f i

/-- The first `n` rows added. -/
def mix (f g : S16x1024.Idx → F .f32) (n : Nat) : S16x1024.Idx → F .f32 := fun i =>
  if (i 0).val < n then FloatOps.addf (f i) (g i) else f i

variable {d : Dev nD} (𝒱 : Variants) (bd : Option 𝒱.V) (E : Set Name) (x : Ctx) (s : Bool)

/-- One trip adds the next sixteen lanes. -/
theorem wp_addBody (f g : S16x1024.Idx → F .f32) (r : Fin 16) (t : Fin addLoop.trips) (u : PUnit) :
    iprop(own (thr x d) (x.buf s false) fullShare (mixRow f g r (16 * t.val)) ∗ own (thr x d) (x.buf s true) fullShare g : sProp 𝕄)
      ⊢ wp frame (wpE (defs₀ (F := F)) 𝒱 (thr x d) bd) E (addBody x s r t u)
          (fun _ => iprop(own (thr x d) (x.buf s false) fullShare (mixRow f g r (16 * (t.val + 1))) ∗ own (thr x d) (x.buf s true) fullShare g)) := by
  have hmem : ∀ i : S16x1024.Idx, i ∈ (Rect.unit (s := S16x1024) (addOff r t) S1x16.size (addOff_inb r t)).set
      ↔ (i 0).val = r.val ∧ 16 * t.val ≤ (i 1).val ∧ (i 1).val < 16 * t.val + 16 := by
    intro i
    rw [Rect.mem_set_unit, addOff_eq]
    constructor
    · intro h
      have h0 : r.val ≤ (i 0).val ∧ (i 0).val < r.val + 1 := h 0
      have h1 : 16 * t.val ≤ (i 1).val ∧ (i 1).val < 16 * t.val + 16 := h 1
      exact ⟨by omega, h1.1, h1.2⟩
    · rintro ⟨h0, h1, h2⟩ a
      match a with
      | 0 => show r.val ≤ (i 0).val ∧ (i 0).val < r.val + 1; omega
      | 1 => show 16 * t.val ≤ (i 1).val ∧ (i 1).val < 16 * t.val + 16; omega
  iintro ⟨HA, HB⟩
  unfold addBody
  iapply (own_load (thr x d) 𝒱 bd E) $$ HA
  iintro HA
  iapply (own_load (thr x d) 𝒱 bd E) $$ HB
  iintro HB
  iapply (own_load (thr x d) 𝒱 bd E) $$ HA
  iintro HA
  iapply (own_store (thr x d) 𝒱 bd E (v' := mixRow f g r (16 * (t.val + 1)))) $$ HA
  · intro i
    rw [addPay_apply]
    have hi := (hmem ((Rect.unit (s := S16x1024) (addOff r t) S1x16.size (addOff_inb r t)).emb i)).mp
      (by rw [← Rect.map_emb_univ]; exact Finset.mem_map_of_mem _ (Finset.mem_univ i))
    unfold mixRow
    rw [if_pos ⟨hi.1, by omega⟩, if_neg (by omega)]
  · intro y hy
    have hy' := fun h => hy ((hmem y).mpr h)
    unfold mixRow
    by_cases h0 : (y 0).val = r.val
    · by_cases h1 : (y 1).val < 16 * t.val
      · rw [if_pos ⟨h0, by omega⟩, if_pos ⟨h0, h1⟩]
      · rw [if_neg (fun h => hy' ⟨h0, by omega, by omega⟩), if_neg (fun h => h1 h.2)]
    · rw [if_neg (fun h => h0 h.1), if_neg (fun h => h0 h.1)]
  iintro HA
  rw [Prog.bind, wp_pure]
  imodintro
  isplitl [HA] <;> iassumption

/-- Row `r`'s loop, at the head of a program. -/
theorem wp_add (f g : S16x1024.Idx → F .f32) (c : Fin 8) (r : Fin 16) {β : Type} {k : PUnit → Prog (TpuEff nD τ sig (Elt F) Λ₀ (thr x d).2) β} {Q : β → sProp 𝕄} :
    iprop(own (thr x d) (x.buf (slot c) false) fullShare (mix f g r.val) ∗ own (thr x d) (x.buf (slot c) true) fullShare g)
      ⊢ iprop((iprop(own (thr x d) (x.buf (slot c) false) fullShare (mix f g (r.val + 1)) ∗ own (thr x d) (x.buf (slot c) true) fullShare g)
            -∗ wp frame (wpE (defs₀ (F := F)) 𝒱 (thr x d) bd) E (k ⟨⟩) Q)
          -∗ wp frame (wpE (defs₀ (F := F)) 𝒱 (thr x d) bd) E (denote x (.add c r) >>= k) Q) := by
  have h0 : mixRow (mix f g r.val) g r.val 0 = mix f g r.val := by
    funext i; unfold mixRow; rw [if_neg (by omega)]
  have h1 : mixRow (mix f g r.val) g r.val 1024 = mix f g (r.val + 1) := by
    funext i
    have h2 : (i 1).val < 1024 := (i 1).isLt
    unfold mixRow mix
    by_cases h : (i 0).val = r.val
    · rw [if_pos ⟨h, h2⟩, if_neg (by omega), if_pos (by omega)]
    · rw [if_neg (fun h' => h h'.1)]
      by_cases h' : (i 0).val < r.val
      · rw [if_pos h', if_pos (by omega)]
      · rw [if_neg h', if_neg (by omega)]
  have hb := Scf.wp_for_bind (M := 𝕄) frame (wpE (defs₀ (F := F)) 𝒱 (thr x d) bd) E addLoop.lb addLoop.ub addLoop.st addLoop_ok PUnit.unit (addBody x (slot c) r)
    (fun n _ => iprop(own (thr x d) (x.buf (slot c) false) fullShare (mixRow (mix f g r.val) g r.val (16 * n)) ∗ own (thr x d) (x.buf (slot c) true) fullShare g))
    (fun t acc => wp_addBody 𝒱 bd E x (slot c) (mix f g r.val) g r t acc) (kk := k) (Q := Q)
  iintro H Hk
  iapply hb $$ [H]
  · rw [Nat.mul_zero, h0]; iexact H
  · iintro %acc H
    iapply Hk
    rw [show 16 * Scf.trips addLoop.lb addLoop.ub addLoop.st = 1024 from by decide, h1]
    iexact H

end Cert.Kernel.RowAdd

end
-- ==== Proof.Kernel.Gather.lean ====
/- A chunk's gathers: sixteen streams on one semaphore, issued together and waited for together.

Stream `(j, w)` of chunk `c` gathers 128 columns of the sixteen rows of `y` that row `c` of side `w`'s list names.
The 256 row copies of a chunk are one batch on the chunk's semaphore; once it is waited for in full, the two buffers
hold the gathered rows. -/
module

public import proofs.«01_k».proof.Proof.Streams
public import proofs.«01_k».proof.Proof.Kernel.RowAdd
public import Idealize.ShloMosaic.Lib.ValueIdxCore

@[expose] public section

noncomputable section

namespace Cert.Kernel.Gather

open Idealize.ShloMosaic Idealize.ShloMosaic.ValueIdx
open Idealize.SL
open Idealize.SL.BI (sProp Storable bigSep bigSep_mono bigSep_empty)
open scoped Idealize.SL.BI
open Idealize.SL.BI.BIBase Idealize.SL.BI.Laws Idealize.SL.Sem Idealize.SL.ProofMode
open Idealize.SL.RA
open Idealize.ShloMosaic.SparseCore (V)
open Idealize.ShloMosaic.Transfers (Batch MayWaits)
open Cert.Kernel Cert.Kernel.Acts Cert.Kernel.RowAdd Cert.Proof.Own Cert.Proof.Streams
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

/-- What one row of 128 lanes credits its semaphore. -/
def N : ℕ := (sig).dmaCredit .scVector (Kind.scVector.table .vmem) 0 (S16x128.rowShape 0) .f32

theorem N_pos : 0 < N := by decide
theorem rows_pos : 0 < S16x128.size (Shape.Gathers.axis' gathers_S8192x128_S16x128) := by show 0 < 16; decide
theorem N_row (x : Ctx) (s w : Bool) (j : Fin 8) (r : Fin (S16x128.size (Shape.Gathers.axis' gathers_S8192x128_S16x128))) :
    ((bufCol x s w j).slice (S16x128.rowRect (Shape.Gathers.axis' gathers_S8192x128_S16x128) r) (S16x128.stride_rowRect _ r)).view.dmaCredit = N := rfl
theorem N_col (x : Ctx) (s w : Bool) (j : Fin 8) : (bufCol x s w j).view.dmaCredit = 16 * N := by
  show (sig).dmaCredit .scVector (Kind.scVector.table .vmem) 0 S16x128 .f32 = 16 * N
  decide

attribute [irreducible] N

variable {d : Dev nD}

/-- Waits recorded on top of `W`, all at `ι`. -/
def owesW (x : Ctx) (d : Dev nD) (O : CellTallies nD τ sig Ix) (W : Waits sig Ix) (ι : Ix) : sProp 𝕄 :=
  iprop(∃ W', ⌜∀ p ∈ W', p ∈ W ∨ p.2 = ι⌝ ∗ owes (thr x d) O W')

/-- Side `w`'s share of the rows' table, -/
def yq (q : PosShare TreeShare) (w : Bool) : PosShare TreeShare := pieceOf q 2 (by decide) (if w then 1 else 0)
/-- and block `j`'s share of a list's row. -/
def lq (j : Fin 8) : PosShare TreeShare := pieceOf fullShare 8 (by decide) j

/-- What a tile reads: the table's and the two lists' buffers, and the rows the lists name. -/
structure Data (F : FTy → Type) (x : Ctx) (d : Dev nD) where
  q : PosShare TreeShare
  fy : Buf (Elt F) (x.y.view.loc (thr x d))
  fl : (w : Bool) → Buf (Elt F) ((x.l w).view.loc (thr x d))
  ix : Bool → S8x16.Idx → Fin 8192
  hl : ∀ w k, ((x.l w).view.read (Elt F) (fl w) k).toNat = (ix w k).val

variable {x : Ctx} (D : Data F x d)

/-- The rows of `y` named by row `c` of side `w`'s list. -/
def Data.val (c : Fin 8) (w : Bool) : S16x1024.Idx → F .f32 := fun i =>
  x.y.view.read (Elt F) D.fy (ix2 (D.ix w (ix2 c (i 0))) (i 1))

theorem read_listRow (c : Fin 8) (w : Bool) (k : S16.Idx) (f : Buf (Elt F) ((x.l w).view.loc (thr x d))) :
    (listRow x c w).view.read (Elt F) f k = (x.l w).view.read (Elt F) f (ix2 c (k 0)) := by
  show (x.l w).view.read (Elt F) f ((Rect.unit (s := S8x16) ![c.val, 0] S1x16.size (inb_row c)).emb (Shape.reshapeEquiv _ k)) = _
  congr 1
  have h : ∀ (hn : S16.numel = S1x16.numel) (m : Fin 16), (Shape.reshapeEquiv hn (ix1 m) : S1x16.Idx) = ix2 0 m := by decide +kernel
  obtain ⟨m, rfl⟩ : ∃ m : Fin 16, k = ix1 m := ⟨k 0, eq_ix1 k⟩
  refine (congrArg _ (h _ m)).trans ?_
  funext a
  apply Fin.ext
  match a with
  | 0 => show c.val + 1 * 0 = c.val; omega
  | 1 => show 0 + 1 * m.val = m.val; omega

theorem Data.hin (c : Fin 8) (w : Bool) (k : S16.Idx) :
    ((listRow x c w).view.read (Elt F) (D.fl w) k).toNat < S8192x128.size (Shape.Gathers.axis gathers_S8192x128_S16x128) := by
  rw [read_listRow, D.hl]; exact (D.ix w _).isLt

/-- What stream `(j, w)` delivers of its row `r`. -/
def Data.strD (c : Fin 8) (fd : (w : Bool) → Buf (Elt F) ((x.buf (slot c) w).view.loc (thr x d))) (j : Fin 8) (w : Bool) (r : Fin 16) : sProp 𝕄 :=
  rowDeliv (thr x d) (yCol x j) (bufCol x (slot c) w j) gathers_S8192x128_S16x128 (listRow x c w) rfl (yq D.q w) (lq j) D.fy (fd w) (D.fl w)
    (D.hin c w) rows_pos r

/-- The batch's deliveries, in the order of issue. -/
def Data.dlv (c : Fin 8) (fd : (w : Bool) → Buf (Elt F) ((x.buf (slot c) w).view.loc (thr x d))) (t : Fin 256) : sProp 𝕄 :=
  D.strD c fd ⟨t.val / 32, by omega⟩ (t.val / 16 % 2 == 1) ⟨t.val % 16, by omega⟩

instance (c : Fin 8) (fd : (w : Bool) → Buf (Elt F) ((x.buf (slot c) w).view.loc (thr x d))) (t : Fin 256) :
    Storable (upEmb : UEmb _ 𝕄) (D.dlv c fd t : sProp 𝕄) :=
  rowDeliv_storable (thr x d) (yCol x _) (bufCol x (slot c) _ _) gathers_S8192x128_S16x128 (listRow x c _) rfl _ _ _ _ _ _ _ _

theorem Data.dlv_eq (c : Fin 8) (fd : (w : Bool) → Buf (Elt F) ((x.buf (slot c) w).view.loc (thr x d))) (j : Fin 8) (w : Bool) (r : Fin 16)
    (h : 16 * (2 * j.val + w.toNat) + r.val < 256) :
    (D.dlv c fd ⟨16 * (2 * j.val + w.toNat) + r.val, h⟩ : sProp 𝕄) = D.strD c fd j w r := by
  have hw : w.toNat < 2 := by cases w <;> decide
  have hr := r.isLt
  unfold Data.dlv
  have h1 : (⟨(16 * (2 * j.val + w.toNat) + r.val) / 32, by omega⟩ : Fin 8) = j := Fin.ext (by show _ / 32 = j.val; omega)
  have h2 : ((16 * (2 * j.val + w.toNat) + r.val) / 16 % 2 == 1) = w := by
    rw [show (16 * (2 * j.val + w.toNat) + r.val) / 16 % 2 = w.toNat by omega]; cases w <;> rfl
  have h3 : (⟨(16 * (2 * j.val + w.toNat) + r.val) % 16, by omega⟩ : Fin 16) = r := Fin.ext (by show _ % 16 = r.val; omega)
  show D.strD c fd ⟨(16 * (2 * j.val + w.toNat) + r.val) / 32, _⟩ ((16 * (2 * j.val + w.toNat) + r.val) / 16 % 2 == 1) ⟨(16 * (2 * j.val + w.toNat) + r.val) % 16, _⟩ = _
  rw [h1, h2, h3]

/-- A stream's operands: its side's share of its columns of `y`, its columns of the buffer, its share of its row of the
    list. -/
def Data.opd (c : Fin 8) (fd : (w : Bool) → Buf (Elt F) ((x.buf (slot c) w).view.loc (thr x d))) (j : Fin 8) (w : Bool) : sProp 𝕄 :=
  iprop(((yCol x j).view.loc (thr x d) ↦[(yCol x j).view.set]{yq D.q w} D.fy)
    ∗ ((bufCol x (slot c) w j).view.loc (thr x d) ↦[(bufCol x (slot c) w j).view.set]{fullShare} fd w)
    ∗ ((listRow x c w).view.loc (thr x d) ↦[(listRow x c w).view.set]{lq j} D.fl w))

variable (EC : UEmb Counters (MT nD τ sig Ix (Elt F) Name U Lvl)) (𝒱 : Variants) (bd : Option 𝒱.V) (ι : Ix)
variable {β : Type} {Q : β → sProp (MT nD τ sig Ix (Elt F) Name U Lvl)}

/-- One stream issued. -/
theorem wp_gat [Infinite Name] [EC.LandsIn (upEmb : UEmb _ 𝕄)] (c j : Fin 8) (w : Bool)
    (fd : (w : Bool) → Buf (Elt F) ((x.buf (slot c) w).view.loc (thr x d)))
    {k : PUnit → Prog (TpuEff nD τ sig (Elt F) Λ₀ (thr x d).2) β} :
    iprop(D.opd c fd j w ∗ Batch EC (thr x d) (.dma (x.semG (slot c)).sem) ι N (D.dlv c fd) (16 * (2 * j.val + w.toNat)) 0)
      ⊢ iprop((Batch EC (thr x d) (.dma (x.semG (slot c)).sem) ι N (D.dlv c fd) (16 * (2 * j.val + w.toNat) + 16) 0
            -∗ wp frame (wpE (defs₀ (F := F)) 𝒱 (thr x d) bd) Set.univ (k ⟨⟩) Q)
          -∗ wp frame (wpE (defs₀ (F := F)) 𝒱 (thr x d) bd) Set.univ (denote x (.gat c j w) >>= k) Q) := by
  have hw : w.toNat < 2 := by cases w <;> decide
  have hj := j.isLt
  have key := wp_gatherBatch (defs := defs₀ (F := F)) EC 𝒱 (thr x d) bd (src := yCol x j) (dst := bufCol x (slot c) w j) (hg := gathers_S8192x128_S16x128)
    (offs := listRow x c w) (hn := rfl) (sem := (x.semG (slot c)).sem) (hp := rfl) (hsrc := View.wordExact_bits rfl) (he := rfl) (hsp := Or.inl rfl)
    (q := yq D.q w) (qo := lq j) (fs := D.fy) (fd := fd w) (fo := D.fl w) (n := 256) (D := D.dlv c fd) (j := 16 * (2 * j.val + w.toNat)) (u := 0)
    (k := k) (Q := Q) (hr := by decide) ι N (N_row x (slot c) w j) rows_pos (D.hin c w) (by show _ + 16 ≤ 256; omega) (Nat.zero_le _)
    (fun r => Entails.of_eq (D.dlv_eq c fd j w r _).symm)
  iintro ⟨H, HB⟩ Hk
  unfold Data.opd
  icases H with ⟨H1, H2, H3⟩
  iapply key $$ [H1 H2 H3 HB]
  · isplitl [H1]; · iexact H1
    isplitl [H2]; · iexact H2
    isplitl [H3]; · iexact H3
    iexact HB
  iexact Hk

/-- One stream's wait. -/
theorem wp_gwt [EC.LandsIn (upEmb : UEmb _ 𝕄)] (c j : Fin 8) (w : Bool)
    (fd : (w : Bool) → Buf (Elt F) ((x.buf (slot c) w).view.loc (thr x d))) (O : CellTallies nD τ sig Ix) (W : Waits sig Ix)
    {k : PUnit → Prog (TpuEff nD τ sig (Elt F) Λ₀ (thr x d).2) β} :
    iprop(MayWaits (thr x d) ι O ∗ owesW x d O W ι ∗ Batch EC (thr x d) (.dma (x.semG (slot c)).sem) ι N (D.dlv c fd) 256 (N * (16 * (2 * j.val + w.toNat))))
      ⊢ iprop((iprop(owesW x d O W ι ∗ Batch EC (thr x d) (.dma (x.semG (slot c)).sem) ι N (D.dlv c fd) 256 (N * (16 * (2 * j.val + w.toNat) + 16)))
            -∗ wp frame (wpE (defs₀ (F := F)) 𝒱 (thr x d) bd) Set.univ (k ⟨⟩) Q)
          -∗ wp frame (wpE (defs₀ (F := F)) 𝒱 (thr x d) bd) Set.univ (denote x (.gwt c j w) >>= k) Q) := by
  have hw : w.toNat < 2 := by cases w <;> decide
  have hj := j.isLt
  have hu : N * (16 * (2 * j.val + w.toNat)) + 16 * N = N * (16 * (2 * j.val + w.toNat) + 16) := by rw [Nat.mul_comm 16 N, ← Nat.mul_add]
  iintro ⟨Hmw, HO, HB⟩ Hk
  unfold owesW
  icases HO with ⟨%W', %hW', HO⟩
  iapply (Transfers.wp_waitBatchMulO (defs := defs₀ (F := F)) EC 𝒱 (thr x d) bd (srcw := yCol x j) (dstw := bufCol x (slot c) w j) (sem := (x.semG (slot c)).sem)
    (k := k) (Q := Q) ι (N := N) 16 (N_col x (slot c) w j) (D := D.dlv c fd) (j := 256) (u := N * (16 * (2 * j.val + w.toNat)))
    (by rw [hu]; exact Nat.mul_le_mul_left _ (by omega)) (O := O) (W := W')) $$ [HB HO Hmw]
  · isplitl [HB]; · iexact HB
    isplitl [HO]; · iexact HO
    iapply (Transfers.MayWaits.elim (SemLoc.dma (x.semG (slot c)).sem)) $$ Hmw
  rw [hu]
  iintro ⟨HB, HO⟩
  iapply Hk
  isplitr [HB]
  · iexists _
    isplitr [HO]
    on_goal 2 => iexact HO
    ipureintro
    intro p hp
    rcases Finset.mem_insert.mp hp with rfl | hp
    · exact Or.inr rfl
    · exact hW' p hp
  · iexact HB

end Cert.Kernel.Gather

end
-- ==== Proof.Kernel.Gathered.lean ====
/- A chunk's gathers as one step: from the table, the lists and two free buffers to the batch in flight, and from the
batch to the buffers holding the gathered rows. -/
module

public import proofs.«01_k».proof.Proof.Kernel.Gather

@[expose] public section

noncomputable section

namespace Cert.Kernel.Gather

open Idealize.ShloMosaic Idealize.ShloMosaic.ValueIdx
open Idealize.SL
open Idealize.SL.BI (sProp Storable bigSep bigSep_mono bigSep_empty bigSep_univ_equiv bigSep_univ_prod bigSep_univ_two bigSep_sep')
open scoped Idealize.SL.BI
open Idealize.SL.BI.BIBase Idealize.SL.BI.Laws Idealize.SL.Sem Idealize.SL.ProofMode
open Idealize.SL.RA
open Idealize.ShloMosaic.SparseCore (V rows gatherPayload)
open Idealize.ShloMosaic.Transfers (Batch MayWaits)
open Cert.Kernel Cert.Kernel.Acts Cert.Kernel.RowAdd Cert.Proof.Own Cert.Proof.Streams
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

variable {d : Dev nD} {x : Ctx} (D : Data F x d)

section Loop
variable (𝒱 : Variants) (bd : Option 𝒱.V) {β : Type} {Q : β → sProp (MT nD τ sig Ix (Elt F) Name U Lvl)}

/-- Lists of actions run one after the other, by an invariant counting them. -/
theorem runK_flat {n : ℕ} (l : Fin n → List Act) (I : ℕ → sProp 𝕄)
    (hl : ∀ (k : Fin n) (p : Prog (TpuEff nD τ sig (Elt F) Λ₀ (thr x d).2) β),
      I k.val ⊢ iprop((I (k.val + 1) -∗ wp frame (wpE (defs₀ (F := F)) 𝒱 (thr x d) bd) Set.univ p Q)
        -∗ wp frame (wpE (defs₀ (F := F)) 𝒱 (thr x d) bd) Set.univ (runK x (l k) p) Q))
    (p : Prog (TpuEff nD τ sig (Elt F) Λ₀ (thr x d).2) β) :
    I 0 ⊢ iprop((I n -∗ wp frame (wpE (defs₀ (F := F)) 𝒱 (thr x d) bd) Set.univ p Q)
        -∗ wp frame (wpE (defs₀ (F := F)) 𝒱 (thr x d) bd) Set.univ (runK x ((List.finRange n).flatMap l) p) Q) := by
  have key : ∀ (m k : ℕ), k + m = n → I k ⊢ iprop((I n -∗ wp frame (wpE (defs₀ (F := F)) 𝒱 (thr x d) bd) Set.univ p Q)
        -∗ wp frame (wpE (defs₀ (F := F)) 𝒱 (thr x d) bd) Set.univ (runK x (((List.finRange n).drop k).flatMap l) p) Q) := by
    intro m
    induction m with
    | zero =>
      intro k hk
      obtain rfl : k = n := by omega
      rw [List.drop_of_length_le (by simp)]
      iintro H Hk
      iapply Hk $$ H
    | succ m ih =>
      intro k hk
      have hd : (List.finRange n).drop k = ⟨k, by omega⟩ :: (List.finRange n).drop (k + 1) := by
        rw [List.drop_eq_getElem_cons (by rw [List.length_finRange]; omega), List.getElem_finRange]; rfl
      rw [hd, List.flatMap_cons, runK_append]
      iintro H Hk
      iapply (hl ⟨k, Nat.lt_of_lt_of_eq (Nat.lt_add_of_pos_right (Nat.succ_pos m)) hk⟩ _) $$ H
      iintro H
      iapply (ih (k + 1) (by omega)) $$ H
      iexact Hk
  exact key n 0 (by omega)

end Loop

/-! ## The operands, split by stream -/

theorem cols_disjoint {n : ℕ} (h : ∀ j : Fin 8, ∀ a, (![0, 128 * j.val] : Fin 2 → Nat) a + (⟨2, ![n, 128]⟩ : Shape).size a ≤ (⟨2, ![n, 1024]⟩ : Shape).size a)
    (j j' : Fin 8) (hj : j ≠ j') :
    Disjoint (Rect.unit (s := ⟨2, ![n, 1024]⟩) ![0, 128 * j.val] ![n, 128] (h j)).set (Rect.unit (s := ⟨2, ![n, 1024]⟩) ![0, 128 * j'.val] ![n, 128] (h j')).set := by
  rw [Finset.disjoint_left]
  intro i hi hi'
  have h1 : 128 * j.val ≤ (i 1).val ∧ (i 1).val < 128 * j.val + 128 := Rect.mem_set_unit.mp hi 1
  have h2 : 128 * j'.val ≤ (i 1).val ∧ (i 1).val < 128 * j'.val + 128 := Rect.mem_set_unit.mp hi' 1
  exact hj (Fin.ext (by omega))

theorem cols_cover {n : ℕ} (h : ∀ j : Fin 8, ∀ a, (![0, 128 * j.val] : Fin 2 → Nat) a + (⟨2, ![n, 128]⟩ : Shape).size a ≤ (⟨2, ![n, 1024]⟩ : Shape).size a)
    (i : (⟨2, ![n, 1024]⟩ : Shape).Idx) : ∃ j : Fin 8, i ∈ (Rect.unit (s := ⟨2, ![n, 1024]⟩) ![0, 128 * j.val] ![n, 128] (h j)).set := by
  have h0 := idx2_lt0 i
  have h1 := idx2_lt1 i
  refine ⟨⟨(i 1).val / 128, by omega⟩, Rect.mem_set_unit.mpr fun a => ?_⟩
  match a with
  | 0 => show 0 ≤ (i 0).val ∧ (i 0).val < 0 + n; omega
  | 1 => show 128 * ((i 1).val / 128) ≤ (i 1).val ∧ (i 1).val < 128 * ((i 1).val / 128) + 128; omega

/-- The table, at the tile's share. -/
def Data.Y : sProp 𝕄 := x.y.view.loc (thr x d) ↦[x.y.view.set]{D.q} D.fy
/-- One side's list. -/
def Data.lst (w : Bool) : sProp 𝕄 := (x.l w).view.loc (thr x d) ↦[(x.l w).view.set]{fullShare} D.fl w
/-- The list but for row `c`. -/
def Data.rest (c : Fin 8) (w : Bool) : sProp 𝕄 :=
  (x.l w).view.loc (thr x d) ↦[(x.l w).view.set \ (listRow x c w).view.set]{fullShare} D.fl w
/-- A buffer, whatever it holds. -/
def free (x : Ctx) (d : Dev nD) (s w : Bool) : sProp 𝕄 :=
  iprop(∃ f, (x.buf s w).view.loc (thr x d) ↦[(x.buf s w).view.set]{fullShare} f)

theorem Data.Y_eq : (D.Y : sProp 𝕄) = iprop(
    (bigSep Finset.univ fun j : Fin 8 => (yCol x j).view.loc (thr x d) ↦[(yCol x j).view.set]{yq D.q false} D.fy)
    ∗ (bigSep Finset.univ fun j : Fin 8 => (yCol x j).view.loc (thr x d) ↦[(yCol x j).view.set]{yq D.q true} D.fy)) := by
  unfold Data.Y
  rw [pointsTo_piecesOf (x.y.view.set) D.fy (by decide : 0 < 2) D.q, bigSep_univ_two]
  have h := fun q => pts_rects (Ix := Ix) (Name := Name) (U := U) (Lvl := Lvl) (thr x d) x.y q D.fy (fun j : Fin 8 => Rect.unit (s := S8192x1024) ![0, 128 * j.val] S8192x128.size (inb_ycol j)) (fun _ _ => rfl)
    (cols_disjoint inb_ycol) (cols_cover inb_ycol)
  rw [h, h]
  rfl

theorem listRow_set (c : Fin 8) (w : Bool) : (listRow x c w).view.set ⊆ (x.l w).view.set := by
  have h : (listRow x c w).view.set = ((x.l w).view.slice (Rect.unit (s := S8x16) ![c.val, 0] S1x16.size (inb_row c))).set :=
    View.set_reshape _ _
  intro i hi
  have h' := h ▸ hi
  rw [View.set_slice] at h'
  exact View.setOn_subset_set _ _ h'

theorem Data.lst_eq (c : Fin 8) (w : Bool) : (D.lst w : sProp 𝕄) = iprop(
    (bigSep Finset.univ fun j : Fin 8 => (listRow x c w).view.loc (thr x d) ↦[(listRow x c w).view.set]{lq j} D.fl w) ∗ D.rest c w) := by
  unfold Data.lst Data.rest lq
  rw [← pointsTo_piecesOf]
  have h := pointsTo_split_subset (Ix := Ix) (Name := Name) (U := U) (Lvl := Lvl) (ℓ := (x.l w).view.loc (thr x d)) (I := (listRow x c w).view.set) (S := (x.l w).view.set)
    (q := fullShare) (f := D.fl w) (listRow_set c w)
  exact BI.Entails.antisymm h.1 h.2

theorem buf_eq (s w : Bool) (f : Buf (Elt F) ((x.buf s w).view.loc (thr x d))) :
    ((x.buf s w).view.loc (thr x d) ↦[(x.buf s w).view.set]{fullShare} f : sProp 𝕄)
      = bigSep Finset.univ fun j : Fin 8 => (bufCol x s w j).view.loc (thr x d) ↦[(bufCol x s w j).view.set]{fullShare} f :=
  pts_rects (thr x d) (x.buf s w) fullShare f (fun j : Fin 8 => Rect.unit (s := S16x1024) ![0, 128 * j.val] S16x128.size (inb_col j)) (fun _ _ => rfl)
    (cols_disjoint inb_col) (cols_cover inb_col)

/-- Everything the sixteen streams of chunk `c` are issued on, by stream. -/
theorem Data.opds (c : Fin 8) (fd : (w : Bool) → Buf (Elt F) ((x.buf (slot c) w).view.loc (thr x d))) :
    iprop(D.Y ∗ D.lst false ∗ D.lst true
        ∗ ((x.buf (slot c) false).view.loc (thr x d) ↦[(x.buf (slot c) false).view.set]{fullShare} fd false)
        ∗ ((x.buf (slot c) true).view.loc (thr x d) ↦[(x.buf (slot c) true).view.set]{fullShare} fd true))
      ⊢ (iprop((bigSep Finset.univ fun j : Fin 8 => iprop(D.opd c fd j false ∗ D.opd c fd j true)) ∗ D.rest c false ∗ D.rest c true) : sProp 𝕄) := by
  unfold Data.opd
  rw [D.Y_eq, D.lst_eq c false, D.lst_eq c true, buf_eq, buf_eq]
  rw [bigSep_sep', bigSep_sep', bigSep_sep', bigSep_sep', bigSep_sep']
  iintro ⟨⟨Hy0, Hy1⟩, ⟨Hl0, Hr0⟩, ⟨Hl1, Hr1⟩, Hb0, Hb1⟩
  isplitr [Hr0 Hr1]
  · isplitl [Hy0 Hl0 Hb0]
    · isplitl [Hy0]; · iexact Hy0
      isplitl [Hb0] <;> iassumption
    · isplitl [Hy1]; · iexact Hy1
      isplitl [Hb1] <;> iassumption
  · isplitl [Hr0] <;> iassumption

/-- Chunk `c`'s gathers issued and not waited for. -/
def Data.InFlight (EC : UEmb Counters (MT nD τ sig Ix (Elt F) Name U Lvl)) (ι : Ix) (c : Fin 8) : sProp 𝕄 :=
  iprop(∃ fd, Batch EC (thr x d) (.dma (x.semG (slot c)).sem) ι N (D.dlv c fd) 256 0 ∗ D.rest c false ∗ D.rest c true)

section Steps
variable (EC : UEmb Counters (MT nD τ sig Ix (Elt F) Name U Lvl)) (𝒱 : Variants) (bd : Option 𝒱.V) (ι : Ix)
variable {β : Type} {Q : β → sProp (MT nD τ sig Ix (Elt F) Name U Lvl)}

/-- The sixteen streams issued. -/
theorem wp_issue [Infinite Name] [EC.LandsIn (upEmb : UEmb _ 𝕄)] (c : Fin 8) (p : Prog (TpuEff nD τ sig (Elt F) Λ₀ (thr x d).2) β) :
    iprop(D.Y ∗ D.lst false ∗ D.lst true ∗ free x d (slot c) false ∗ free x d (slot c) true ∗ semVal (thr x d, .dma (x.semG (slot c)).sem) 0)
      ⊢ iprop((D.InFlight EC ι c -∗ wp frame (wpE (defs₀ (F := F)) 𝒱 (thr x d) bd) Set.univ p Q)
        -∗ wp frame (wpE (defs₀ (F := F)) 𝒱 (thr x d) bd) Set.univ (runK x (sides (Act.gat c)) p) Q) := by
  unfold free
  iintro ⟨HY, Hl0, Hl1, ⟨%f0, Hb0⟩, ⟨%f1, Hb1⟩, Hv⟩ Hk
  let fd : (w : Bool) → Buf (Elt F) ((x.buf (slot c) w).view.loc (thr x d)) := fun w => Bool.rec f0 f1 w
  imod (Transfers.batch_alloc' EC (thr x d) ι N (D.dlv c fd) (sm := .dma (x.semG (slot c)).sem) (E := Set.univ)) $$ Hv with HB
  ihave H := (D.opds c fd) $$ [HY Hl0 Hl1 Hb0 Hb1]
  · isplitl [HY]; · iexact HY
    isplitl [Hl0]; · iexact Hl0
    isplitl [Hl1]; · iexact Hl1
    isplitl [Hb0]; · iexact Hb0
    iexact Hb1
  icases H with ⟨Hop, Hrest⟩
  iapply (runK_flat 𝒱 bd (fun j => [Act.gat c j false, Act.gat c j true])
    (fun k => iprop(bigSep (Transfers.pending k) (fun j : Fin 8 => iprop(D.opd c fd j false ∗ D.opd c fd j true))
      ∗ Batch EC (thr x d) (.dma (x.semG (slot c)).sem) ι N (D.dlv c fd) (16 * (2 * k)) 0)) (fun j q => by
        rw [Transfers.bigSep_pending_step _ j.val j.isLt]
        iintro ⟨⟨⟨H0, H1⟩, Hp⟩, HB⟩ Hk
        simp only [runK]
        iapply (wp_gat D EC 𝒱 bd ι c j false fd) $$ [H0 HB]
        · isplitl [H0]; · iexact H0
          iexact HB
        iintro HB
        iapply (wp_gat D EC 𝒱 bd ι c j true fd) $$ [H1 HB]
        · isplitl [H1]; · iexact H1
          iexact HB
        iintro HB
        iapply Hk
        isplitl [Hp]; · iexact Hp
        iexact HB) p) $$ [Hop HB]
  · isplitl [Hop]
    · rw [Transfers.pending_zero]; iexact Hop
    · iexact HB
  iintro ⟨-, HB⟩
  iapply Hk
  unfold Data.InFlight
  iexists fd
  isplitl [HB] <;> iassumption

/-! ## What the streams deliver -/

theorem payload_eq (c j : Fin 8) (w : Bool) (i : S16x128.Idx) :
    gatherPayload gathers_S8192x128_S16x128 ((yCol x j).view.read (Elt F) D.fy) (rows ((listRow x c w).view.read (Elt F) (D.fl w)) rfl (D.hin c w)) i
      = D.val c w ((Rect.unit (s := S16x1024) ![0, 128 * j.val] S16x128.size (inb_col j)).emb i) := by
  show x.y.view.read (Elt F) D.fy ((Rect.unit (s := S8192x1024) ![0, 128 * j.val] S8192x128.size (inb_ycol j)).emb _) = x.y.view.read (Elt F) D.fy _
  congr 1
  have hrow : ∀ k : Fin 16, ((S16.rowMajor.symm k) 0).val = k.val := by decide +kernel
  funext a
  apply Fin.ext
  match a with
  | 0 =>
    have h := Shape.Gathers.idx_axis gathers_S8192x128_S16x128 (rows ((listRow x c w).view.read (Elt F) (D.fl w)) rfl (D.hin c w)) i
    refine (show _ = _ from by exact (Nat.zero_add _).trans (Nat.one_mul _)).trans ((congrArg Fin.val h).trans ?_)
    show ((listRow x c w).view.read (Elt F) (D.fl w) _).toNat = _
    rw [read_listRow, D.hl]
    show (D.ix w (ix2 c _)).val = (D.ix w (ix2 c _)).val
    congr 3
    apply Fin.ext
    refine (hrow _).trans ?_
    show (i 0).val = 0 + 1 * (i 0).val
    omega
  | 1 =>
    have h := Shape.Gathers.idx_of_ne gathers_S8192x128_S16x128 (rows ((listRow x c w).view.read (Elt F) (D.fl w)) rfl (D.hin c w)) i 1 (by decide)
    show 128 * j.val + 1 * _ = 128 * j.val + 1 * (i 1).val
    exact congrArg (fun n => 128 * j.val + 1 * n) h

/-- One side's streams deliver its buffer, holding the rows its list names, its share of the table and its row of the list. -/
theorem Data.side (c : Fin 8) (fd : (w : Bool) → Buf (Elt F) ((x.buf (slot c) w).view.loc (thr x d))) (w : Bool) :
    (bigSep Finset.univ fun j : Fin 8 => bigSep Finset.univ fun r : Fin 16 => (D.strD c fd j w r : sProp 𝕄))
      ⊢ iprop(own (thr x d) (x.buf (slot c) w) fullShare (D.val c w)
          ∗ (bigSep Finset.univ fun j : Fin 8 => (yCol x j).view.loc (thr x d) ↦[(yCol x j).view.set]{yq D.q w} D.fy)
          ∗ (bigSep Finset.univ fun j : Fin 8 => (listRow x c w).view.loc (thr x d) ↦[(listRow x c w).view.set]{lq j} D.fl w)) := by
  have hj : ∀ j : Fin 8, (bigSep Finset.univ fun r : Fin 16 => (D.strD c fd j w r : sProp 𝕄))
      ⊢ iprop(own (thr x d) (bufCol x (slot c) w j) fullShare (fun i => D.val c w ((Rect.unit (s := S16x1024) ![0, 128 * j.val] S16x128.size (inb_col j)).emb i))
          ∗ ((yCol x j).view.loc (thr x d) ↦[(yCol x j).view.set]{yq D.q w} D.fy)
          ∗ ((listRow x c w).view.loc (thr x d) ↦[(listRow x c w).view.set]{lq j} D.fl w)) := by
    intro j
    refine (rowDeliv_join (thr x d) (yCol x j) (bufCol x (slot c) w j) gathers_S8192x128_S16x128 (listRow x c w) rfl (yq D.q w) (lq j) D.fy (fd w) (D.fl w)
      (D.hin c w) rows_pos).trans ?_
    iintro ⟨H1, H2, H3⟩
    isplitl [H1]
    · iapply (own_intro (thr x d) _ (by rw [View.read_write_univ]; funext i; exact payload_eq D c j w i)) $$ H1
    isplitl [H2] <;> iassumption
  refine (bigSep_mono fun j _ => hj j).trans ?_
  rw [bigSep_sep', bigSep_sep']
  exact sep_mono (own_join (thr x d) (x.buf (slot c) w) fullShare (D.val c w) (fun j : Fin 8 => Rect.unit (s := S16x1024) ![0, 128 * j.val] S16x128.size (inb_col j)) (fun _ _ => rfl)
      (cols_disjoint inb_col) (cols_cover inb_col) (fd w)) Entails.refl

/-- The numbering of a chunk's row copies. -/
def nums : (Bool × Fin 8) × Fin 16 ≃ Fin 256 where
  toFun p := ⟨16 * (2 * p.1.2.val + p.1.1.toNat) + p.2.val, by
    have := p.1.2.isLt; have := p.2.isLt; have : p.1.1.toNat < 2 := by cases p.1.1 <;> decide
    omega⟩
  invFun t := ((t.val / 16 % 2 == 1, ⟨t.val / 32, by omega⟩), ⟨t.val % 16, by omega⟩)
  left_inv := by decide +kernel
  right_inv := by decide +kernel

/-- The batch's deliveries, by side, block and row. -/
theorem Data.dlv_sides (c : Fin 8) (fd : (w : Bool) → Buf (Elt F) ((x.buf (slot c) w).view.loc (thr x d))) :
    bigSep Finset.univ (fun t => (D.dlv c fd t : sProp 𝕄))
      = iprop((bigSep Finset.univ fun j : Fin 8 => bigSep Finset.univ fun r : Fin 16 => (D.strD c fd j false r : sProp 𝕄))
        ∗ (bigSep Finset.univ fun j : Fin 8 => bigSep Finset.univ fun r : Fin 16 => (D.strD c fd j true r : sProp 𝕄))) := by
  rw [bigSep_univ_equiv nums, bigSep_univ_prod, bigSep_univ_prod]
  have h : ∀ (w : Bool) (j : Fin 8) (r : Fin 16), (D.dlv c fd (nums ((w, j), r)) : sProp 𝕄) = D.strD c fd j w r := fun w j r => D.dlv_eq c fd j w r _
  simp only [h]
  rw [bigSep_univ_equiv (finTwoEquiv), bigSep_univ_two]
  rfl

/-- The sixteen streams waited for. -/
theorem wp_collect [EC.LandsIn (upEmb : UEmb _ 𝕄)] (c : Fin 8) (O : CellTallies nD τ sig Ix) (W : Waits sig Ix) (p : Prog (TpuEff nD τ sig (Elt F) Λ₀ (thr x d).2) β) :
    iprop(MayWaits (thr x d) ι O ∗ owesW x d O W ι ∗ D.InFlight EC ι c)
      ⊢ iprop((iprop(D.Y ∗ D.lst false ∗ D.lst true ∗ own (thr x d) (x.buf (slot c) false) fullShare (D.val c false)
              ∗ own (thr x d) (x.buf (slot c) true) fullShare (D.val c true) ∗ semVal (thr x d, .dma (x.semG (slot c)).sem) 0 ∗ owesW x d O W ι)
            -∗ wp frame (wpE (defs₀ (F := F)) 𝒱 (thr x d) bd) Set.univ p Q)
        -∗ wp frame (wpE (defs₀ (F := F)) 𝒱 (thr x d) bd) Set.univ (runK x (sides (Act.gwt c)) p) Q) := by
  unfold Data.InFlight
  iintro ⟨#Hmw, HO, ⟨%fd, HB, Hr0, Hr1⟩⟩ Hk
  iapply (runK_flat 𝒱 bd (fun j => [Act.gwt c j false, Act.gwt c j true])
    (fun k => iprop(MayWaits (thr x d) ι O ∗ owesW x d O W ι
      ∗ Batch EC (thr x d) (.dma (x.semG (slot c)).sem) ι N (D.dlv c fd) 256 (N * (16 * (2 * k))))) (fun j q => by
        iintro ⟨#Hmw, HO, HB⟩ Hk
        simp only [runK]
        iapply (wp_gwt D EC 𝒱 bd ι c j false fd O W) $$ [HO HB]
        · isplitr; · iexact Hmw
          isplitl [HO]; · iexact HO
          iexact HB
        iintro ⟨HO, HB⟩
        iapply (wp_gwt D EC 𝒱 bd ι c j true fd O W) $$ [HO HB]
        · isplitr; · iexact Hmw
          isplitl [HO]; · iexact HO
          iexact HB
        iintro ⟨HO, HB⟩
        iapply Hk
        isplitr; · iexact Hmw
        isplitl [HO]; · iexact HO
        iexact HB) p) $$ [HO HB]
  · isplitr; · iexact Hmw
    isplitl [HO]; · iexact HO
    iexact HB
  iintro ⟨-, HO, HB⟩
  imod (Transfers.batch_collect' EC (thr x d) (ι := ι) (sm := .dma (x.semG (slot c)).sem) N_pos (D := D.dlv c fd)) $$ HB with ⟨HD, Hv⟩
  ihave HD' := (Entails.of_eq (D.dlv_sides c fd)) $$ HD
  icases HD' with ⟨H0, H1⟩
  ihave H0' := (D.side c fd false) $$ H0
  ihave H1' := (D.side c fd true) $$ H1
  icases H0' with ⟨Hb0, Hy0, Hl0⟩
  icases H1' with ⟨Hb1, Hy1, Hl1⟩
  iapply Hk
  isplitl [Hy0 Hy1]
  · rw [D.Y_eq]
    isplitl [Hy0] <;> iassumption
  isplitl [Hl0 Hr0]
  · rw [D.lst_eq c false]
    isplitl [Hl0] <;> iassumption
  isplitl [Hl1 Hr1]
  · rw [D.lst_eq c true]
    isplitl [Hl1] <;> iassumption
  isplitl [Hb0]; · iexact Hb0
  isplitl [Hb1]; · iexact Hb1
  isplitl [Hv] <;> iassumption

end Steps

end Cert.Kernel.Gather

end
-- ==== Proof.Kernel.Copies.lean ====
/- The tile's plain copies: its two index lists in, and each chunk's sums out. -/
module

public import proofs.«01_k».proof.Proof.Kernel.Gathered

@[expose] public section

noncomputable section

namespace Cert.Kernel.Copies

open Idealize.ShloMosaic Idealize.ShloMosaic.ValueIdx
open Idealize.SL
open Idealize.SL.BI (sProp Storable bigSep bigSep_mono bigSep_empty bigSep_univ_two)
open scoped Idealize.SL.BI
open Idealize.SL.BI.BIBase Idealize.SL.BI.Laws Idealize.SL.Sem Idealize.SL.ProofMode
open Idealize.SL.RA
open Idealize.ShloMosaic.SparseCore (V)
open Idealize.ShloMosaic.Transfers (Batch MayWaits Flight)
open Cert.Kernel Cert.Kernel.Acts Cert.Kernel.RowAdd Cert.Kernel.Gather Cert.Proof.Own
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

variable {d : Dev nD} (x : Ctx)
variable (EC : UEmb Counters (MT nD τ sig Ix (Elt F) Name U Lvl)) (𝒱 : Variants) (bd : Option 𝒱.V) (ι : Ix)
variable {β : Type} {Q : β → sProp (MT nD τ sig Ix (Elt F) Name U Lvl)}

/-- One more wait at `ι` recorded. -/
theorem owesW_insert (O : CellTallies nD τ sig Ix) (W W' : Waits sig Ix) (s : SemLoc sig) (h : ∀ p ∈ W', p ∈ W ∨ p.2 = ι) :
    (owes (thr x d) O (insert (s, ι) W') : sProp 𝕄) ⊢ owesW x d O W ι := by
  unfold owesW
  iintro HO
  iexists _
  isplitr [HO]
  on_goal 2 => iexact HO
  ipureintro
  intro p hp
  rcases Finset.mem_insert.mp hp with rfl | hp
  · exact Or.inr rfl
  · exact h p hp

/-! ## The lists in -/

/-- A list's buffer, whatever it holds. -/
def freeL (x : Ctx) (d : Dev nD) (w : Bool) : sProp 𝕄 :=
  iprop(∃ f, (x.l w).view.loc (thr x d) ↦[(x.l w).view.set]{fullShare} f)

/-- The tile's block of positions of one side. -/
def pos (x : Ctx) (d : Dev nD) (w : Bool) (fp : Buf (Elt F) ((x.p w).view.loc (thr x d))) : sProp 𝕄 :=
  (pBlk x w).view.loc (thr x d) ↦[(pBlk x w).view.set]{fullShare} fp

/-- What the copy of one side's list delivers. -/
def lstD (w : Bool) (fp : Buf (Elt F) ((x.p w).view.loc (thr x d))) (f : Buf (Elt F) ((x.l w).view.loc (thr x d))) : sProp 𝕄 :=
  iprop(((x.l w).view.loc (thr x d) ↦[(x.l w).view.set]{fullShare} (x.l w).view.write (Elt F) f ((pBlk x w).view.read (Elt F) fp) Finset.univ)
    ∗ pos x d w fp)

instance lstD_storable (w : Bool) (fp : Buf (Elt F) ((x.p w).view.loc (thr x d))) (f : Buf (Elt F) ((x.l w).view.loc (thr x d))) :
    Storable (upEmb : UEmb _ 𝕄) (lstD x w fp f : sProp 𝕄) := by unfold lstD pos; infer_instance

theorem lstD_own (w : Bool) (fp : Buf (Elt F) ((x.p w).view.loc (thr x d))) (f : Buf (Elt F) ((x.l w).view.loc (thr x d))) :
    (lstD x w fp f : sProp 𝕄) ⊢ iprop(own (thr x d) (x.l w) fullShare ((pBlk x w).view.read (Elt F) fp) ∗ pos x d w fp) :=
  sep_mono (own_intro (thr x d) _ (View.read_write_univ _ _)) Entails.refl

/-- The two copies' deliveries, in the order they start. -/
def lstDs (fp : (w : Bool) → Buf (Elt F) ((x.p w).view.loc (thr x d))) (fd : (w : Bool) → Buf (Elt F) ((x.l w).view.loc (thr x d))) (t : Fin 2) :
    sProp 𝕄 := lstD x (finTwoEquiv t) (fp (finTwoEquiv t)) (fd (finTwoEquiv t))

instance lstDs_storable (fp : (w : Bool) → Buf (Elt F) ((x.p w).view.loc (thr x d))) (fd : (w : Bool) → Buf (Elt F) ((x.l w).view.loc (thr x d)))
    (t : Fin 2) : Storable (upEmb : UEmb _ 𝕄) (lstDs x fp fd t : sProp 𝕄) := lstD_storable x _ _ _

/-- Both lists copied in. -/
theorem wp_fetch [Infinite Name] [EC.LandsIn (upEmb : UEmb _ 𝕄)] (fp : (w : Bool) → Buf (Elt F) ((x.p w).view.loc (thr x d)))
    (O : CellTallies nD τ sig Ix) (W : Waits sig Ix) (p : Prog (TpuEff nD τ sig (Elt F) Λ₀ (thr x d).2) β) :
    iprop(MayWaits (thr x d) ι O ∗ owesW x d O W ι ∗ pos x d false (fp false) ∗ pos x d true (fp true) ∗ freeL x d false ∗ freeL x d true
        ∗ semVal (thr x d, .dma x.semI.sem) 0)
      ⊢ iprop((iprop(owesW x d O W ι ∗ pos x d false (fp false) ∗ pos x d true (fp true)
            ∗ own (thr x d) (x.l false) fullShare ((pBlk x false).view.read (Elt F) (fp false))
            ∗ own (thr x d) (x.l true) fullShare ((pBlk x true).view.read (Elt F) (fp true))
            ∗ semVal (thr x d, .dma x.semI.sem) 0)
          -∗ wp frame (wpE (defs₀ (F := F)) 𝒱 (thr x d) bd) Set.univ p Q)
        -∗ wp frame (wpE (defs₀ (F := F)) 𝒱 (thr x d) bd) Set.univ (runK x [Act.ld false, Act.ld true, Act.ldw false, Act.ldw true] p) Q) := by
  have hN : ∀ w, (x.l w).view.dmaCredit = (x.l false).view.dmaCredit := fun w => rfl
  have hpos : 0 < (x.l false).view.dmaCredit := View.dmaCredit_pos _ (by decide)
  generalize hM : (x.l false).view.dmaCredit = M at hN hpos
  unfold freeL owesW
  iintro ⟨#Hmw, ⟨%W', %hW', HO⟩, Hp0, Hp1, ⟨%f0, Hf0⟩, ⟨%f1, Hf1⟩, Hv⟩ Hk
  let fd : (w : Bool) → Buf (Elt F) ((x.l w).view.loc (thr x d)) := fun w => Bool.rec f0 f1 w
  imod (Transfers.batch_alloc' EC (thr x d) ι M (lstDs x fp fd) (sm := .dma x.semI.sem) (E := Set.univ)) $$ Hv with HB
  unfold pos
  iapply (Transfers.wp_dmaBatch (defs := defs₀ (F := F)) EC 𝒱 (thr x d) bd (src := pBlk x false) (via := ReadAs.same) (dst := x.l false) (sm := .dma x.semI.sem)
    (q := fullShare) (fs := fp false) (Sd := (x.l false).view.set) (fd := f0) (D := lstDs x fp fd) (j := 0) (u := 0) ι M (hN false) (Finset.Subset.refl _) (by decide) (Nat.zero_le _)
    Entails.refl) $$ [Hp0 Hf0 HB]
  · isplitl [Hp0]; · iexact Hp0
    isplitl [Hf0] <;> iassumption
  iintro HB
  iapply (Transfers.wp_dmaBatch (defs := defs₀ (F := F)) EC 𝒱 (thr x d) bd (src := pBlk x true) (via := ReadAs.same) (dst := x.l true) (sm := .dma x.semI.sem)
    (q := fullShare) (fs := fp true) (Sd := (x.l true).view.set) (fd := f1) (D := lstDs x fp fd) (j := 1) (u := 0) ι M (hN true) (Finset.Subset.refl _) (by decide) (Nat.zero_le _)
    Entails.refl) $$ [Hp1 Hf1 HB]
  · isplitl [Hp1]; · iexact Hp1
    isplitl [Hf1]; · iexact Hf1
    iexact HB
  iintro HB
  iapply (Transfers.wp_waitBatchMulO (defs := defs₀ (F := F)) EC 𝒱 (thr x d) bd (srcw := pBlk x false) (dstw := x.l false) (sem := x.semI.sem)
    ι (N := M) 1 (by rw [Nat.one_mul]; exact hN false) (D := lstDs x fp fd) (j := 2) (u := 0) (by omega) (O := O) (W := W')) $$ [HB HO]
  · isplitl [HB]; · iexact HB
    isplitl [HO]; · iexact HO
    iapply (Transfers.MayWaits.elim (SemLoc.dma x.semI.sem)) $$ Hmw
  iintro ⟨HB, HO⟩
  iapply (Transfers.wp_waitBatchMulO (defs := defs₀ (F := F)) EC 𝒱 (thr x d) bd (srcw := pBlk x true) (dstw := x.l true) (sem := x.semI.sem)
    ι (N := M) 1 (by rw [Nat.one_mul]; exact hN true) (D := lstDs x fp fd) (j := 2) (u := 0 + 1 * M) (by omega) (O := O)) $$ [HB HO]
  · isplitl [HB]; · iexact HB
    isplitl [HO]; · iexact HO
    iapply (Transfers.MayWaits.elim (SemLoc.dma x.semI.sem)) $$ Hmw
  iintro ⟨HB, HO⟩
  rw [show 0 + 1 * M + 1 * M = M * 2 by omega]
  imod (Transfers.batch_collect' EC (thr x d) (ι := ι) (sm := .dma x.semI.sem) hpos (D := lstDs x fp fd)) $$ HB with ⟨HD, Hv⟩
  ihave HD' := (Entails.of_eq (bigSep_univ_two (lstDs x fp fd))) $$ HD
  icases HD' with ⟨H0, H1⟩
  ihave H0' := (show lstDs x fp fd 0 ⊢ _ from lstD_own x false (fp false) f0) $$ H0
  ihave H1' := (show lstDs x fp fd 1 ⊢ _ from lstD_own x true (fp true) f1) $$ H1
  icases H0' with ⟨Hl0, Hp0⟩
  icases H1' with ⟨Hl1, Hp1⟩
  iapply Hk
  isplitl [HO]
  · iexists _
    isplitr [HO]
    on_goal 2 => iexact HO
    ipureintro
    intro p hp
    rcases Finset.mem_insert.mp hp with rfl | hp
    · exact Or.inr rfl
    rcases Finset.mem_insert.mp hp with rfl | hp
    · exact Or.inr rfl
    · exact hW' p hp
  unfold pos
  isplitl [Hp0]; · iexact Hp0
  isplitl [Hp1]; · iexact Hp1
  isplitl [Hl0]; · iexact Hl0
  isplitl [Hl1] <;> iassumption

/-! ## The sums out -/

/-- A chunk's rows of the result, whatever they hold. -/
def freeO (x : Ctx) (d : Dev nD) (c : Fin 8) : sProp 𝕄 :=
  iprop(∃ f, (oBlk x c).view.loc (thr x d) ↦[(oBlk x c).view.set]{fullShare} f)

/-- Chunk `c`'s copy out, under way: it brings the result's rows at `v`, and the buffer back. -/
def outFlight (d : Dev nD) (c : Fin 8) (v : S16x1024.Idx → F .f32) : sProp 𝕄 :=
  Flight EC (thr x d) (.dma (x.semS (slot c)).sem) ι (oBlk x c).view.dmaCredit
    iprop(own (thr x d) (oBlk x c) fullShare v ∗ free x d (slot c) false)

theorem wp_out [Infinite Name] [EC.LandsIn (upEmb : UEmb _ 𝕄)] (c : Fin 8) (v : S16x1024.Idx → F .f32)
    {k : PUnit → Prog (TpuEff nD τ sig (Elt F) Λ₀ (thr x d).2) β} :
    iprop(own (thr x d) (x.buf (slot c) false) fullShare v ∗ freeO x d c ∗ semVal (thr x d, .dma (x.semS (slot c)).sem) 0)
      ⊢ iprop((outFlight x EC ι d c v -∗ wp frame (wpE (defs₀ (F := F)) 𝒱 (thr x d) bd) Set.univ (k ⟨⟩) Q)
        -∗ wp frame (wpE (defs₀ (F := F)) 𝒱 (thr x d) bd) Set.univ (denote x (.out c) >>= k) Q) := by
  unfold freeO own
  iintro ⟨⟨%f, %hf, Hb⟩, ⟨%fo, Ho⟩, Hv⟩ Hk
  iapply (Transfers.wp_dmaLocal (defs := defs₀ (F := F)) EC 𝒱 (thr x d) bd (src := x.buf (slot c) false) (via := ReadAs.same) (dst := oBlk x c)
    (sm := .dma (x.semS (slot c)).sem) (q := fullShare) (fs := f) (Sd := (oBlk x c).view.set) (fd := fo) ι (oBlk x c).view.dmaCredit rfl
    (View.dmaCredit_pos _ (by decide)) (Finset.Subset.refl _)) $$ [Hb Ho Hv]
  · isplitl [Hb]; · iexact Hb
    isplitl [Ho] <;> iassumption
  iintro Hfl
  iapply Hk
  unfold outFlight
  iapply (Transfers.Flight_mono EC (thr x d) (show _ ⊢ _ from sep_mono (own_intro (thr x d) _ ((View.read_write_univ _ _).trans hf))
    (by unfold free; iintro H; iexists f; iexact H))) $$ Hfl

theorem wp_outw [EC.LandsIn (upEmb : UEmb _ 𝕄)] (c : Fin 8) (v : S16x1024.Idx → F .f32) (O : CellTallies nD τ sig Ix) (W : Waits sig Ix)
    {k : PUnit → Prog (TpuEff nD τ sig (Elt F) Λ₀ (thr x d).2) β} :
    iprop(MayWaits (thr x d) ι O ∗ owesW x d O W ι ∗ outFlight x EC ι d c v)
      ⊢ iprop((iprop(owesW x d O W ι ∗ own (thr x d) (oBlk x c) fullShare v ∗ free x d (slot c) false ∗ semVal (thr x d, .dma (x.semS (slot c)).sem) 0)
          -∗ wp frame (wpE (defs₀ (F := F)) 𝒱 (thr x d) bd) Set.univ (k ⟨⟩) Q)
        -∗ wp frame (wpE (defs₀ (F := F)) 𝒱 (thr x d) bd) Set.univ (denote x (.outw c) >>= k) Q) := by
  iintro ⟨#Hmw, HO, Hfl⟩ Hk
  unfold owesW outFlight
  icases HO with ⟨%W', %hW', HO⟩
  iapply (Transfers.wp_waitLocalO (defs := defs₀ (F := F)) EC 𝒱 (thr x d) bd (srcw := x.buf (slot c) false) (dstw := oBlk x c) ι rfl (O := O) (W := W')) $$ [Hfl HO]
  · isplitl [Hfl]; · iexact Hfl
    isplitl [HO]; · iexact HO
    iapply (Transfers.MayWaits.elim (SemLoc.dma (x.semS (slot c)).sem)) $$ Hmw
  iintro ⟨⟨Ho, Hb⟩, Hv, HO⟩
  iapply Hk
  isplitl [HO]
  · have h := owesW_insert (F := F) (Name := Name) (U := U) (Lvl := Lvl) (d := d) x ι O W W' (SemLoc.dma (x.semS (slot c)).sem) hW'
    unfold owesW at h
    iapply h $$ HO
  isplitl [Ho]; · iexact Ho
  isplitl [Hb] <;> iassumption

end Cert.Kernel.Copies

end
-- ==== Proof.Kernel.Parts.lean ====
/- The printed body is its actions in order.

The body is printed in sixty-four windows. Each is, by computation, a stretch of the list of actions; the boundaries
below are the stretches' ends. -/
module

public import proofs.«01_k».proof.Proof.Kernel.Acts

@[expose] public section

noncomputable section

namespace Cert.Kernel.Acts

open Idealize.ShloMosaic Idealize.SL.Sem Cert.Kernel
open Facts₀ Facts

variable {F : FTy → Type} [FloatOps F] [Facts] (x : Ctx)

/-- The actions numbered `a` up to `b`, then those up to `c`, are those numbered `a` up to `c`. -/
theorem seg_append {a b c : Nat} (hab : a ≤ b) (hbc : b ≤ c) : seg a b ++ seg b c = seg a c := by
  unfold seg
  rw [show c - a = (b - a) + (c - b) by omega, List.take_add, List.drop_drop, show a + (b - a) = b by omega]

/-- A window that is a stretch of the actions, before a rest that is the next stretch. -/
theorem step {α β : Type} {a : Nat} (b : Nat) {c : Nat} {v : α}
    {p : Prog (TpuEff nD τ sig (Elt F) Λ₀ (.scVector ((x.i 0).castLE hcore0) ((x.i 1).castLE hsub0))) α}
    {f : α → Prog (TpuEff nD τ sig (Elt F) Λ₀ (.scVector ((x.i 0).castLE hcore0) ((x.i 1).castLE hsub0))) β}
    {q : Prog (TpuEff nD τ sig (Elt F) Λ₀ (.scVector ((x.i 0).castLE hcore0) ((x.i 1).castLE hsub0))) β}
    (h : p = runK x (seg a b) (pure v)) (hr : f v = runK x (seg b c) q) (hab : a ≤ b := by decide) (hbc : b ≤ c := by decide) :
    p >>= f = runK x (seg a c) q := by
  rw [h, runK_bind, ← seg_append hab hbc, runK_append]
  congr 1

/-- The first sixty windows. -/
theorem part65_eq : x.ap (k0_part65 (F := F)) = runK x (seg 0 373) (pure
    (Scalar.muli (Scalar.addi (Scalar.muli (BitVec.ofNat 32 (x.i 1).val) 2#32) (BitVec.ofNat 32 (x.i 0).val)) 128#32)) :=
  step x 5 rfl <| step x 11 rfl <| step x 16 rfl <| step x 21 rfl <| step x 27 rfl <| step x 32 rfl <|
  step x 38 rfl <| step x 43 rfl <| step x 49 rfl <| step x 56 rfl <| step x 64 rfl <| step x 71 rfl <|
  step x 77 rfl <| step x 82 rfl <| step x 88 rfl <| step x 94 rfl <| step x 99 rfl <| step x 106 rfl <|
  step x 115 rfl <| step x 122 rfl <| step x 127 rfl <| step x 133 rfl <| step x 139 rfl <|
  step x 144 rfl <| step x 149 rfl <| step x 157 rfl <| step x 166 rfl <| step x 172 rfl <|
  step x 177 rfl <| step x 183 rfl <| step x 189 rfl <| step x 194 rfl <| step x 200 rfl <|
  step x 208 rfl <| step x 216 rfl <| step x 222 rfl <| step x 228 rfl <| step x 233 rfl <|
  step x 239 rfl <| step x 245 rfl <| step x 250 rfl <| step x 258 rfl <| step x 267 rfl <|
  step x 273 rfl <| step x 278 rfl <| step x 284 rfl <| step x 290 rfl <| step x 295 rfl <|
  step x 301 rfl <| step x 309 rfl <| step x 317 rfl <| step x 323 rfl <| step x 329 rfl <|
  step x 334 rfl <| step x 340 rfl <| step x 345 rfl <| step x 351 rfl <| step x 359 rfl <|
  step x 368 rfl <| step x 373 rfl <| (rfl : _ = runK x (seg 373 373) _)

/-- There are four hundred and four actions. -/
theorem seg_all : seg 0 404 = acts := by
  unfold seg
  rw [List.drop_zero]
  exact List.take_of_length_le (by decide +kernel)

/-- The whole body. -/
theorem body_eq : x.ap (cc0__sc_combine_body (F := F)) = runK x acts (pure ⟨⟩) := by
  rw [← seg_all]
  exact step x 373 (part65_eq x) <| step x 379 rfl <| step x 384 rfl <| step x 393 rfl <| step x 401 rfl <| (rfl : _ = runK x (seg 401 404) _)

end Cert.Kernel.Acts

end
-- ==== Proof.Kernel.Chunk.lean ====
/- One tile's whole program: the chunks in turn, each the sums of the rows its two lists name. -/
module

public import proofs.«01_k».proof.Proof.Kernel.Copies
public import proofs.«01_k».proof.Proof.Kernel.Parts

@[expose] public section

noncomputable section

namespace Cert.Kernel.Chunk

open Idealize.ShloMosaic Idealize.ShloMosaic.ValueIdx
open Idealize.SL
open Idealize.SL.BI (sProp Storable bigSep bigSep_mono bigSep_empty bigSep_univ_two)
open scoped Idealize.SL.BI
open Idealize.SL.BI.BIBase Idealize.SL.BI.Laws Idealize.SL.Sem Idealize.SL.ProofMode
open Idealize.SL.RA
open Idealize.ShloMosaic.SparseCore (V)
open Idealize.ShloMosaic.Transfers (Batch MayWaits Flight)
open Cert.Kernel Cert.Kernel.Acts Cert.Kernel.RowAdd Cert.Kernel.Gather Cert.Kernel.Copies Cert.Proof.Own
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

variable {d : Dev nD} {x : Ctx} (D : Data F x d)
variable (EC : UEmb Counters (MT nD τ sig Ix (Elt F) Name U Lvl)) (𝒱 : Variants) (bd : Option 𝒱.V) (ι : Ix)
variable {β : Type} {Q : β → sProp (MT nD τ sig Ix (Elt F) Name U Lvl)}

/-- The sum of the two rows named for each row of chunk `c`. -/
def _root_.Cert.Kernel.Gather.Data.res (c : Fin 8) : S16x1024.Idx → F .f32 := fun i => FloatOps.addf (D.val c false i) (D.val c true i)

theorem mix_zero (f g : S16x1024.Idx → F .f32) : mix f g 0 = f := by
  funext i; unfold mix; rw [if_neg (by omega)]
theorem mix_all (f g : S16x1024.Idx → F .f32) : mix f g 16 = fun i => FloatOps.addf (f i) (g i) := by
  funext i; unfold mix; rw [if_pos (show (i 0).val < 16 from (i 0).isLt)]

/-- The sixteen rows of a chunk added. -/
theorem wp_adds (c : Fin 8) (f g : S16x1024.Idx → F .f32) (p : Prog (TpuEff nD τ sig (Elt F) Λ₀ (thr x d).2) β) :
    iprop(own (thr x d) (x.buf (slot c) false) fullShare f ∗ own (thr x d) (x.buf (slot c) true) fullShare g)
      ⊢ iprop((iprop(own (thr x d) (x.buf (slot c) false) fullShare (fun i => FloatOps.addf (f i) (g i)) ∗ own (thr x d) (x.buf (slot c) true) fullShare g)
          -∗ wp frame (wpE (defs₀ (F := F)) 𝒱 (thr x d) bd) Set.univ p Q)
        -∗ wp frame (wpE (defs₀ (F := F)) 𝒱 (thr x d) bd) Set.univ (runK x ((List.finRange 16).map (Act.add c)) p) Q) := by
  rw [List.map_eq_flatMap]
  have h : iprop(own (thr x d) (x.buf (slot c) false) fullShare (mix f g 0) ∗ own (thr x d) (x.buf (slot c) true) fullShare g)
      ⊢ iprop((iprop(own (thr x d) (x.buf (slot c) false) fullShare (mix f g 16) ∗ own (thr x d) (x.buf (slot c) true) fullShare g)
          -∗ wp frame (wpE (defs₀ (F := F)) 𝒱 (thr x d) bd) Set.univ p Q)
        -∗ wp frame (wpE (defs₀ (F := F)) 𝒱 (thr x d) bd) Set.univ (runK x ((List.finRange 16).flatMap fun r => [Act.add c r]) p) Q) :=
    runK_flat 𝒱 bd (fun r : Fin 16 => [Act.add c r])
      (fun k => iprop(own (thr x d) (x.buf (slot c) false) fullShare (mix f g k) ∗ own (thr x d) (x.buf (slot c) true) fullShare g))
      (fun r q => by
        simp only [runK]
        exact wp_add (d := d) 𝒱 bd Set.univ x f g c r (k := fun _ => q) (Q := Q)) p
  rw [mix_zero, mix_all] at h
  exact h

/-- The two buffers used at chunk `k`: the first at even ones. -/
def sl (k : ℕ) : Bool := k % 2 == 1

theorem sl_succ (k : ℕ) : sl (k + 1) = !sl k := by
  unfold sl
  rcases Nat.mod_two_eq_zero_or_one k with h | h <;> rw [Nat.add_mod, h] <;> rfl

theorem slot_eq (c : Fin 8) : slot c = sl c.val := by revert c; decide

/-- A semaphore of the tile at zero. -/
def sem0 (x : Ctx) (d : Dev nD) (s : DmaSems sig S_) : sProp 𝕄 := semVal (thr x d, .dma s.sem) 0

/-- What the chunk before `k` left under way in the other pair of buffers. -/
def Prev (k : ℕ) : sProp 𝕄 :=
  if h : 1 ≤ k ∧ k ≤ 8 then outFlight x EC ι d ⟨k - 1, by omega⟩ (D.res ⟨k - 1, by omega⟩)
  else iprop(free x d (!sl k) false ∗ sem0 x d (x.semS (!sl k)))

/-- The first `n` chunks of the result written. -/
def Done (n : ℕ) : sProp 𝕄 :=
  bigSep (Finset.univ.filter fun c : Fin 8 => c.val < n) fun c => own (thr x d) (oBlk x c) fullShare (D.res c)

/-- The chunks from `k` on still to write. -/
def Todo (x : Ctx) (d : Dev nD) (k : ℕ) : sProp 𝕄 := bigSep (Transfers.pending k) fun c : Fin 8 => freeO x d c

/-- Nothing in flight into the buffers. -/
def Idle : sProp 𝕄 := iprop(D.Y ∗ D.lst false ∗ D.lst true)

/-- Between the gathers of chunk `k` starting and chunk `k` itself. -/
def Fly (k : ℕ) : sProp 𝕄 :=
  if h : k < 8 then
    iprop(D.InFlight EC ι ⟨k, h⟩ ∗ free x d (!sl k) true ∗ sem0 x d (x.semG (!sl k)) ∗ sem0 x d (x.semS (sl k)) ∗ Prev D EC ι k ∗ Done D (k - 1))
  else
    iprop(Idle D ∗ free x d false true ∗ free x d true true ∗ sem0 x d (x.semG false) ∗ sem0 x d (x.semG true)
      ∗ outFlight x EC ι d 6 (D.res 6) ∗ outFlight x EC ι d 7 (D.res 7) ∗ Done D 6)

theorem Done_succ (c : Fin 8) : iprop(own (thr x d) (oBlk x c) fullShare (D.res c) ∗ Done D c.val) ⊢ (Done D (c.val + 1) : sProp 𝕄) := by
  unfold Done
  have h : (Finset.univ.filter fun a : Fin 8 => a.val < c.val + 1) = insert c (Finset.univ.filter fun a : Fin 8 => a.val < c.val) := by
    ext a
    simp only [Finset.mem_filter, Finset.mem_univ, true_and, Finset.mem_insert]
    constructor
    · intro h
      by_cases e : a = c
      · exact Or.inl e
      · exact Or.inr (by have : a.val ≠ c.val := fun h => e (Fin.ext h); omega)
    · rintro (rfl | h) <;> omega
  rw [h, BI.bigSep_insert (by simp)]
  exact Entails.refl

theorem own_free (s w : Bool) (v : S16x1024.Idx → F .f32) : (own (thr x d) (x.buf s w) fullShare v : sProp 𝕄) ⊢ free x d s w := by
  unfold own free
  iintro ⟨%f, -, H⟩
  iexists f
  iexact H

/-- One chunk. -/
theorem wp_chunk [Infinite Name] [EC.LandsIn (upEmb : UEmb _ 𝕄)] (c : Fin 8) (O : CellTallies nD τ sig Ix) (W : Waits sig Ix)
    (p : Prog (TpuEff nD τ sig (Elt F) Λ₀ (thr x d).2) β) :
    iprop(MayWaits (thr x d) ι O ∗ owesW x d O W ι ∗ Fly D EC ι c.val ∗ Todo x d c.val)
      ⊢ iprop((iprop(MayWaits (thr x d) ι O ∗ owesW x d O W ι ∗ Fly D EC ι (c.val + 1) ∗ Todo x d (c.val + 1))
          -∗ wp frame (wpE (defs₀ (F := F)) 𝒱 (thr x d) bd) Set.univ p Q)
        -∗ wp frame (wpE (defs₀ (F := F)) 𝒱 (thr x d) bd) Set.univ (runK x (chunk c) p) Q) := by
  unfold chunk
  rw [runK_append, runK_append, runK_append]
  rw [show Fly D EC ι c.val = _ from dif_pos c.isLt]
  rw [show (Todo x d c.val : sProp 𝕄) = _ from Transfers.bigSep_pending_step _ c.val c.isLt]
  iintro ⟨#Hmw, HO, ⟨Hin, Hfb, HsG, HsS, Hprev, Hdone⟩, ⟨Ho, Htodo⟩⟩ Hk
  iapply (wp_collect D EC 𝒱 bd ι c O W) $$ [HO Hin]
  · isplitr; · iexact Hmw
    isplitl [HO]; · iexact HO
    iexact Hin
  iintro ⟨HY, Hl0, Hl1, Hb0, Hb1, HsG', HO⟩
  rw [← slot_eq c]
  by_cases h : c.val + 1 < 8
  · rw [dif_pos h]
    have e : slot ⟨c.val + 1, h⟩ = !slot c := by rw [slot_eq, slot_eq]; exact sl_succ c.val
    have key : ∀ (p : Prog (TpuEff nD τ sig (Elt F) Λ₀ (thr x d).2) β),
        iprop(MayWaits (thr x d) ι O ∗ owesW x d O W ι ∗ Prev D EC ι c.val ∗ Done D (c.val - 1))
          ⊢ iprop((iprop(owesW x d O W ι ∗ free x d (!slot c) false ∗ sem0 x d (x.semS (!slot c)) ∗ Done D c.val)
              -∗ wp frame (wpE (defs₀ (F := F)) 𝒱 (thr x d) bd) Set.univ p Q)
            -∗ wp frame (wpE (defs₀ (F := F)) 𝒱 (thr x d) bd) Set.univ (runK x (if 1 ≤ c.val then [Act.outw ⟨c.val - 1, by omega⟩] else []) p) Q) := by
      intro p
      by_cases h1 : 1 ≤ c.val
      · have hc : c.val - 1 < 8 := by omega
        rw [if_pos h1, show Prev D EC ι c.val = _ from dif_pos ⟨h1, by omega⟩]
        have e' : slot ⟨c.val - 1, by omega⟩ = !slot c := by
          rw [slot_eq, slot_eq]
          have := sl_succ (c.val - 1)
          rw [Nat.sub_add_cancel h1] at this
          rw [this, Bool.not_not]
        iintro ⟨#Hmw, HO, Hf, Hd⟩ Hk
        simp only [runK]
        iapply (wp_outw x EC 𝒱 bd ι ⟨c.val - 1, hc⟩ (D.res ⟨c.val - 1, hc⟩) O W) $$ [HO Hf]
        · isplitr; · iexact Hmw
          isplitl [HO]; · iexact HO
          iexact Hf
        rw [e']
        iintro ⟨HO, Ho, Hb, Hs⟩
        iapply Hk
        isplitl [HO]; · iexact HO
        isplitl [Hb]; · iexact Hb
        isplitl [Hs]; · unfold sem0; iexact Hs
        have hd := Done_succ (Ix := Ix) (Name := Name) (U := U) (Lvl := Lvl) D ⟨c.val - 1, by omega⟩
        rw [show (⟨c.val - 1, by omega⟩ : Fin 8).val + 1 = c.val from Nat.sub_add_cancel h1] at hd
        iapply hd
        isplitl [Ho] <;> iassumption
      · rw [if_neg h1, show Prev D EC ι c.val = _ from dif_neg (by omega), ← slot_eq c, show c.val - 1 = c.val by omega]
        iintro ⟨-, HO, ⟨Hf, Hs⟩, Hd⟩ Hk
        simp only [runK]
        iapply Hk
        isplitl [HO]; · iexact HO
        isplitl [Hf]; · iexact Hf
        isplitl [Hs] <;> iassumption
    rw [runK_append]
    iapply (key _) $$ [HO Hprev Hdone]
    · isplitr; · iexact Hmw
      isplitl [HO]; · iexact HO
      isplitl [Hprev] <;> iassumption
    iintro ⟨HO, Hfa, HsS', Hdone⟩
    have hi := fun p => wp_issue (Q := Q) D EC 𝒱 bd ι ⟨c.val + 1, h⟩ p
    rw [e] at hi
    iapply (hi _) $$ [HY Hl0 Hl1 Hfa Hfb HsG]
    · isplitl [HY]; · iexact HY
      isplitl [Hl0]; · iexact Hl0
      isplitl [Hl1]; · iexact Hl1
      isplitl [Hfa]; · iexact Hfa
      isplitl [Hfb]; · iexact Hfb
      unfold sem0; iexact HsG
    iintro Hin
    iapply (wp_adds 𝒱 bd c (D.val c false) (D.val c true)) $$ [Hb0 Hb1]
    · isplitl [Hb0] <;> iassumption
    iintro ⟨Hb0, Hb1⟩
    simp only [runK]
    iapply (wp_out x EC 𝒱 bd ι c (D.res c)) $$ [Hb0 Ho HsS]
    · isplitl [Hb0]; · iexact Hb0
      isplitl [Ho]; · iexact Ho
      unfold sem0; iexact HsS
    iintro Hfl
    iapply Hk
    isplitr; · iexact Hmw
    isplitl [HO]; · iexact HO
    isplitr [Htodo]
    · rw [show Fly D EC ι (c.val + 1) = _ from dif_pos h, show Prev D EC ι (c.val + 1) = _ from dif_pos ⟨by omega, by omega⟩,
        sl_succ, ← slot_eq c, Bool.not_not]
      isplitl [Hin]; · iexact Hin
      isplitl [Hb1]; · iapply (own_free _ _ _) $$ Hb1
      isplitl [HsG']; · unfold sem0; iexact HsG'
      isplitl [HsS']; · iexact HsS'
      isplitl [Hfl]; · iexact Hfl
      iexact Hdone
    · unfold Todo; iexact Htodo
  · rw [dif_neg h]
    obtain rfl : c = 7 := Fin.ext (show c.val = 7 by omega)
    iapply (wp_adds 𝒱 bd 7 (D.val 7 false) (D.val 7 true)) $$ [Hb0 Hb1]
    · isplitl [Hb0] <;> iassumption
    iintro ⟨Hb0, Hb1⟩
    simp only [runK]
    iapply (wp_out x EC 𝒱 bd ι 7 (D.res 7)) $$ [Hb0 Ho HsS]
    · isplitl [Hb0]; · iexact Hb0
      isplitl [Ho]; · iexact Ho
      unfold sem0; iexact HsS
    iintro Hfl
    iapply Hk
    isplitr; · iexact Hmw
    isplitl [HO]; · iexact HO
    isplitr [Htodo]
    · rw [show Fly D EC ι ((7 : Fin 8).val + 1) = _ from dif_neg (by decide)]
      unfold Idle
      isplitl [HY Hl0 Hl1]
      · isplitl [HY]; · iexact HY
        isplitl [Hl0] <;> iassumption
      isplitl [Hfb]; · iexact Hfb
      isplitl [Hb1]; · iapply (show own (thr x d) (x.buf (slot 7) true) fullShare (D.val 7 true) ⊢ free x d true true from own_free (slot 7) true _) $$ Hb1
      isplitl [HsG]; · iexact HsG
      isplitl [HsG']; · unfold sem0; iexact HsG'
      isplitl [Hprev]
      · iapply (Entails.of_eq (show Prev D EC ι (7 : Fin 8).val = _ from dif_pos (by decide))) $$ Hprev
      isplitl [Hfl]; · iexact Hfl
      iexact Hdone
    · unfold Todo; iexact Htodo

/-- The whole list of actions, from idle buffers to every chunk written. -/
theorem wp_acts [Infinite Name] [EC.LandsIn (upEmb : UEmb _ 𝕄)] (O : CellTallies nD τ sig Ix) (W : Waits sig Ix)
    (p : Prog (TpuEff nD τ sig (Elt F) Λ₀ (thr x d).2) β) :
    iprop(MayWaits (thr x d) ι O ∗ owesW x d O W ι ∗ Idle D ∗ (free x d false false ∗ free x d false true ∗ free x d true false ∗ free x d true true)
        ∗ (sem0 x d (x.semG false) ∗ sem0 x d (x.semG true) ∗ sem0 x d (x.semS false) ∗ sem0 x d (x.semS true))
        ∗ bigSep Finset.univ fun c => freeO x d c)
      ⊢ iprop((iprop(owesW x d O W ι ∗ Idle D ∗ (free x d false false ∗ free x d false true ∗ free x d true false ∗ free x d true true)
            ∗ (sem0 x d (x.semG false) ∗ sem0 x d (x.semG true) ∗ sem0 x d (x.semS false) ∗ sem0 x d (x.semS true))
            ∗ bigSep Finset.univ fun c => own (thr x d) (oBlk x c) fullShare (D.res c))
          -∗ wp frame (wpE (defs₀ (F := F)) 𝒱 (thr x d) bd) Set.univ p Q)
        -∗ wp frame (wpE (defs₀ (F := F)) 𝒱 (thr x d) bd) Set.univ
            (runK x (sides (Act.gat 0) ++ (List.finRange 8).flatMap chunk ++ [Act.outw 6, Act.outw 7]) p) Q) := by
  rw [runK_append, runK_append]
  iintro ⟨#Hmw, HO, HI, ⟨Ha0, Hb0, Ha1, Hb1⟩, ⟨HG0, HG1, HS0, HS1⟩, Ho⟩ Hk
  unfold Idle
  icases HI with ⟨HY, Hl0, Hl1⟩
  iapply (wp_issue D EC 𝒱 bd ι 0) $$ [HY Hl0 Hl1 Ha0 Hb0 HG0]
  · isplitl [HY]; · iexact HY
    isplitl [Hl0]; · iexact Hl0
    isplitl [Hl1]; · iexact Hl1
    isplitl [Ha0]; · iexact Ha0
    isplitl [Hb0]; · iexact Hb0
    unfold sem0; iexact HG0
  iintro Hin
  iapply (runK_flat 𝒱 bd chunk (fun k => iprop(MayWaits (thr x d) ι O ∗ owesW x d O W ι ∗ Fly D EC ι k ∗ Todo x d k))
    (fun c q => wp_chunk D EC 𝒱 bd ι c O W q)) $$ [HO Hin Hb1 HG1 HS0 Ha1 HS1 Ho]
  · isplitr; · iexact Hmw
    isplitl [HO]; · iexact HO
    isplitr [Ho]
    · rw [show Fly D EC ι 0 = _ from dif_pos (by decide), show Prev D EC ι 0 = _ from dif_neg (by decide)]
      isplitl [Hin]; · iexact Hin
      isplitl [Hb1]; · iexact Hb1
      isplitl [HG1]; · iexact HG1
      isplitl [HS0]; · iexact HS0
      isplitl [Ha1 HS1]
      · isplitl [Ha1]; · iexact Ha1
        iexact HS1
      unfold Done
      rw [Finset.filter_false_of_mem (by intro c _; omega), bigSep_empty]
      iempintro
    · unfold Todo
      rw [Transfers.pending_zero]
      iexact Ho
  rw [show Fly D EC ι 8 = _ from dif_neg (by decide)]
  iintro ⟨-, HO, ⟨HI, Hb0, Hb1, HG0, HG1, Hf6, Hf7, Hd⟩, -⟩
  simp only [runK]
  iapply (wp_outw x EC 𝒱 bd ι 6 (D.res 6) O W) $$ [HO Hf6]
  · isplitr; · iexact Hmw
    isplitl [HO]; · iexact HO
    iexact Hf6
  iintro ⟨HO, Ho6, Ha0, HS0⟩
  iapply (wp_outw x EC 𝒱 bd ι 7 (D.res 7) O W) $$ [HO Hf7]
  · isplitr; · iexact Hmw
    isplitl [HO]; · iexact HO
    iexact Hf7
  iintro ⟨HO, Ho7, Ha1, HS1⟩
  iapply Hk
  isplitl [HO]; · iexact HO
  isplitl [HI]; · unfold Idle; iexact HI
  isplitl [Ha0 Hb0 Ha1 Hb1]
  · isplitl [Ha0]; · iexact Ha0
    isplitl [Hb0]; · iexact Hb0
    isplitl [Ha1]; · iexact Ha1
    iexact Hb1
  isplitl [HG0 HG1 HS0 HS1]
  · unfold sem0
    isplitl [HG0]; · iexact HG0
    isplitl [HG1]; · iexact HG1
    isplitl [HS0]; · iexact HS0
    iexact HS1
  have h8 : (Done D 8 : sProp 𝕄) = bigSep Finset.univ fun c => own (thr x d) (oBlk x c) fullShare (D.res c) := by
    unfold Done; rw [Finset.filter_true_of_mem (by intro c _; exact c.isLt)]
  rw [← h8]
  iapply (Done_succ D 7)
  isplitl [Ho7]; · iexact Ho7
  iapply (Done_succ D 6)
  isplitl [Ho6]; · iexact Ho6
  iexact Hd

end Cert.Kernel.Chunk

end
-- ==== Proof.Kernel.Body.lean ====
/- The tile's printed body, from its blocks of positions and its chunks of the result. -/
module

public import proofs.«01_k».proof.Proof.Kernel.Chunk

@[expose] public section

noncomputable section

namespace Cert.Kernel.Body

open Idealize.ShloMosaic Idealize.ShloMosaic.ValueIdx
open Idealize.SL
open Idealize.SL.BI (sProp Storable bigSep bigSep_mono bigSep_empty bigSep_univ_two)
open scoped Idealize.SL.BI
open Idealize.SL.BI.BIBase Idealize.SL.BI.Laws Idealize.SL.Sem Idealize.SL.ProofMode
open Idealize.SL.RA
open Idealize.ShloMosaic.SparseCore (V)
open Idealize.ShloMosaic.Transfers (Batch MayWaits Flight)
open Cert.Kernel Cert.Kernel.Acts Cert.Kernel.RowAdd Cert.Kernel.Gather Cert.Kernel.Copies Cert.Kernel.Chunk Cert.Proof.Own
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

variable (x : Ctx) (d : Dev nD)
variable (EC : UEmb Counters (MT nD τ sig Ix (Elt F) Name U Lvl)) (𝒱 : Variants) (bd : Option 𝒱.V) (ι : Ix)

/-- Chunk `c`'s rows of the result: at each, the sum of the two rows of `y` its two positions name. -/
def sumRows (fy : Buf (Elt F) (x.y.view.loc (thr x d))) (ix : Bool → S8x16.Idx → Fin 8192) (c : Fin 8) : S16x1024.Idx → F .f32 := fun i =>
  FloatOps.addf (x.y.view.read (Elt F) fy (ix2 (ix false (ix2 c (i 0))) (i 1))) (x.y.view.read (Elt F) fy (ix2 (ix true (ix2 c (i 0))) (i 1)))

/-- The tile's row buffers, whatever they hold, -/
def bufs : sProp 𝕄 :=
  iprop(free x d false false ∗ free x d false true ∗ free x d true false ∗ free x d true true)
/-- and its semaphores at zero. -/
def sems : sProp 𝕄 :=
  iprop(sem0 x d x.semI ∗ sem0 x d (x.semG false) ∗ sem0 x d (x.semG true) ∗ sem0 x d (x.semS false) ∗ sem0 x d (x.semS true))

/-- What the tile reads: a share of the rows' table, and its two blocks of positions. -/
def ins (q : PosShare TreeShare) (fy : Buf (Elt F) (x.y.view.loc (thr x d))) (fp : (w : Bool) → Buf (Elt F) ((x.p w).view.loc (thr x d))) : sProp 𝕄 :=
  iprop((x.y.view.loc (thr x d) ↦[x.y.view.set]{q} fy) ∗ pos x d false (fp false) ∗ pos x d true (fp true))

/-- The body writes every chunk of the tile's rows at the sums, and leaves what it read, its buffers and its semaphores
    as they came. -/
theorem wp_body [Infinite Name] [EC.LandsIn (upEmb : UEmb _ 𝕄)] (O : CellTallies nD τ sig Ix) (W : Waits sig Ix) (q : PosShare TreeShare)
    (fy : Buf (Elt F) (x.y.view.loc (thr x d))) (fp : (w : Bool) → Buf (Elt F) ((x.p w).view.loc (thr x d)))
    (ix : Bool → S8x16.Idx → Fin 8192) (hp : ∀ w k, ((pBlk x w).view.read (Elt F) (fp w) k).toNat = (ix w k).val) :
    (iprop(MayWaits (thr x d) ι O ∗ owesW x d O W ι ∗ ins x d q fy fp ∗ (freeL x d false ∗ freeL x d true) ∗ bufs x d ∗ sems x d
        ∗ bigSep Finset.univ fun c => freeO x d c) : sProp 𝕄)
      ⊢ wp frame (wpE (defs₀ (F := F)) 𝒱 (thr x d) bd) Set.univ (x.ap (cc0__sc_combine_body (F := F))) fun _ =>
          iprop(owesW x d O W ι ∗ ins x d q fy fp ∗ (freeL x d false ∗ freeL x d true) ∗ bufs x d ∗ sems x d
            ∗ bigSep Finset.univ fun c => own (thr x d) (oBlk x c) fullShare (sumRows x d fy ix c)) := by
  rw [body_eq]
  unfold acts ins bufs sems
  rw [List.append_assoc, List.append_assoc, runK_append, ← List.append_assoc]
  iintro ⟨#Hmw, HO, ⟨HY, Hp0, Hp1⟩, ⟨Hl0, Hl1⟩, Hb, ⟨HI, Hs⟩, Ho⟩
  iapply (wp_fetch x EC 𝒱 bd ι fp O W) $$ [HO Hp0 Hp1 Hl0 Hl1 HI]
  · isplitr; · iexact Hmw
    isplitl [HO]; · iexact HO
    isplitl [Hp0]; · iexact Hp0
    isplitl [Hp1]; · iexact Hp1
    isplitl [Hl0]; · iexact Hl0
    isplitl [Hl1]; · iexact Hl1
    unfold sem0; iexact HI
  unfold own
  iintro ⟨HO, Hp0, Hp1, ⟨%fl0, %h0, Hl0⟩, ⟨%fl1, %h1, Hl1⟩, HI⟩
  let D : Data F x d := ⟨q, fy, fun w => Bool.rec fl0 fl1 w, ix, fun w k => by
    cases w
    · exact (congrArg (fun f => BitVec.toNat (f k)) h0).trans (hp false k)
    · exact (congrArg (fun f => BitVec.toNat (f k)) h1).trans (hp true k)⟩
  iapply (wp_acts D EC 𝒱 bd ι O W) $$ [HO HY Hl0 Hl1 Hb Hs Ho]
  · isplitr; · iexact Hmw
    isplitl [HO]; · iexact HO
    isplitl [HY Hl0 Hl1]
    · unfold Idle Data.Y Data.lst
      isplitl [HY]; · iexact HY
      isplitl [Hl0]; · iexact Hl0
      iexact Hl1
    isplitl [Hb]; · iexact Hb
    isplitl [Hs]; · iexact Hs
    iexact Ho
  iintro ⟨HO, Hi, Hb, Hs, Ho⟩
  unfold Idle Data.Y Data.lst
  icases Hi with ⟨HY, Hl0, Hl1⟩
  rw [show (pure ⟨⟩ : Prog (TpuEff nD τ sig (Elt F) Λ₀ (thr x d).2) PUnit) = .ret ⟨⟩ from rfl, wp_ret]
  imodintro
  isplitl [HO]; · iexact HO
  isplitl [HY Hp0 Hp1]
  · isplitl [HY]; · iexact HY
    isplitl [Hp0] <;> iassumption
  isplitl [Hl0 Hl1]
  · unfold freeL
    isplitl [Hl0]
    · iexists fl0; iexact Hl0
    iexists fl1; iexact Hl1
  isplitl [Hb]; · iexact Hb
  isplitl [HI Hs]
  · isplitl [HI]; · unfold sem0; iexact HI
    iexact Hs
  iexact Ho

end Cert.Kernel.Body

end
-- ==== Proof.Kernel.Tile.lean ====
/- The tiles of the call: which rows each reads and writes, and what it leaves. -/
module

public import proofs.«01_k».proof.Proof.Kernel.Body
public import Idealize.ShloMosaic.Lib.SparseCore.Quiescent
public import Idealize.ShloMosaic.Lib.ValueLayout

@[expose] public section

noncomputable section

namespace Cert.Kernel.Tile

open Idealize.ShloMosaic Idealize.ShloMosaic.ValueIdx
open Idealize.SL
open Idealize.SL.BI (sProp Storable bigSep bigSep_mono bigSep_congr bigSep_empty bigSep_univ_prod bigSep_sep')
open scoped Idealize.SL.BI
open Idealize.SL.BI.BIBase Idealize.SL.BI.Laws Idealize.SL.Sem Idealize.SL.ProofMode
open Idealize.SL.RA
open Idealize.ShloMosaic.SparseCore (V)
open Idealize.ShloMosaic.Transfers (MayWaits)
open Cert.Kernel Cert.Kernel.Acts Cert.Kernel.RowAdd Cert.Kernel.Gather Cert.Kernel.Copies Cert.Kernel.Chunk Cert.Kernel.Body Cert.Proof.Own
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

/-- What the body is called on at a grid point. -/
def ctxOf (L : grid0.Coords) : Ctx where
  i := L
  y := Memref.whole main_arg0_scv
  hy := Memref.isWhole_whole _
  p0 := Memref.whole main_v3_scv
  hp0 := Memref.isWhole_whole _
  p1 := Memref.whole main_v6_scv
  hp1 := Memref.isWhole_whole _
  o := Memref.whole main_v7_scv
  ho := Memref.isWhole_whole _
  l0 := Memref.whole cc0_scratch0
  hl0 := Memref.isWhole_whole _
  l1 := Memref.whole cc0_scratch1
  hl1 := Memref.isWhole_whole _
  a0 := Memref.whole cc0_scratch2
  ha0 := Memref.isWhole_whole _
  b0 := Memref.whole cc0_scratch3
  hb0 := Memref.isWhole_whole _
  a1 := Memref.whole cc0_scratch4
  ha1 := Memref.isWhole_whole _
  b1 := Memref.whole cc0_scratch5
  hb1 := Memref.isWhole_whole _
  semI := cc0_scratch6
  semG0 := cc0_scratch7
  semG1 := cc0_scratch8
  semS0 := cc0_scratch9
  semS1 := cc0_scratch10

/-- The grid point of SparseCore `c`, subcore `s`. -/
def coords (c : Fin (grid0.bound 0)) (s : Fin (grid0.bound 1)) : grid0.Coords :=
  fun | 0 => c | 1 => s | ⟨_ + 2, h⟩ => absurd h (Nat.not_lt.2 (Nat.le_add_left _ _))

/-- The grid points. -/
def tile (t : Fin 2 × Fin 16) : grid0.Coords := coords t.1 t.2

/-- A tile's number among the thirty-two: its rows are the `128` from `128` times it. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

theorem off1_eq : ∀ L : grid0.Coords, k0_off1 L = ![wid L, 0, 0] := by decide +kernel
theorem off18_eq : ∀ (L : grid0.Coords) (c : Fin 8), k0_off18 L (BitVec.ofNat 32 (16 * c.val)) = ![128 * wid L + 16 * c.val, 0] := by decide +kernel

/-- A tile's block of a side's positions, and a chunk's rows of the result. -/
def pRect (L : grid0.Coords) : Rect S32x8x16 := Rect.unit (s := S32x8x16) (k0_off1 L) S1x8x16.size (k0_off1_inb L)
def oRect (L : grid0.Coords) (c : Fin 8) : Rect S4096x1024 :=
  Rect.unit (s := S4096x1024) (k0_off18 L (BitVec.ofNat 32 (16 * c.val))) S16x1024.size (k0_off18_inb L c)

theorem mem_pRect (L : grid0.Coords) (i : S32x8x16.Idx) : i ∈ (pRect L).set ↔ (i 0).val = wid L := by
  unfold pRect
  rw [Rect.mem_set_unit, off1_eq]
  have h1 : (i 1).val < 8 := (i 1).isLt
  have h2 : (i 2).val < 16 := (i 2).isLt
  constructor
  · intro h
    have h0 : wid L ≤ (i 0).val ∧ (i 0).val < wid L + 1 := h 0
    omega
  · intro h a
    match a with
    | 0 => show wid L ≤ (i 0).val ∧ (i 0).val < wid L + 1; omega
    | 1 => show 0 ≤ (i 1).val ∧ (i 1).val < 0 + 8; omega
    | 2 => show 0 ≤ (i 2).val ∧ (i 2).val < 0 + 16; omega

theorem mem_oRect (L : grid0.Coords) (c : Fin 8) (i : S4096x1024.Idx) :
    i ∈ (oRect L c).set ↔ 128 * wid L + 16 * c.val ≤ (i 0).val ∧ (i 0).val < 128 * wid L + 16 * c.val + 16 := by
  unfold oRect
  rw [Rect.mem_set_unit, off18_eq]
  have h1 : (i 1).val < 1024 := (i 1).isLt
  constructor
  · intro h
    exact h 0
  · intro h a
    match a with
    | 0 => exact h
    | 1 => show 0 ≤ (i 1).val ∧ (i 1).val < 0 + 1024; omega

theorem wid_tile (t : Fin 2 × Fin 16) : wid (tile t) = 2 * t.2.val + t.1.val := rfl

theorem wid_inj {t u : Fin 2 × Fin 16} (h : wid (tile t) = wid (tile u)) : t = u := by
  rw [wid_tile, wid_tile] at h
  have h1 := t.1.isLt
  have h2 := u.1.isLt
  exact Prod.ext (Fin.ext (by omega)) (Fin.ext (by omega))

theorem wid_surj (n : ℕ) (h : n < 32) : ∃ t, wid (tile t) = n :=
  ⟨(⟨n % 2, by omega⟩, ⟨n / 2, by omega⟩), by rw [wid_tile]; show 2 * (n / 2) + n % 2 = n; omega⟩

theorem p_disjoint : ∀ t u : Fin 2 × Fin 16, t ≠ u → Disjoint (pRect (tile t)).set (pRect (tile u)).set := by
  intro t u h
  rw [Finset.disjoint_left]
  intro i hi hj
  rw [mem_pRect] at hi hj
  exact h (wid_inj (hi.symm.trans hj))

theorem p_cover : ∀ i : S32x8x16.Idx, ∃ t, i ∈ (pRect (tile t)).set := by
  intro i
  obtain ⟨t, ht⟩ := wid_surj (i 0).val (i 0).isLt
  exact ⟨t, (mem_pRect _ _).mpr ht.symm⟩

theorem o_disjoint : ∀ t u : (Fin 2 × Fin 16) × Fin 8, t ≠ u → Disjoint (oRect (tile t.1) t.2).set (oRect (tile u.1) u.2).set := by
  intro t u h
  rw [Finset.disjoint_left]
  intro i hi hj
  rw [mem_oRect] at hi hj
  have h1 := t.2.isLt
  have h2 := u.2.isLt
  exact h (Prod.ext (wid_inj (by omega)) (Fin.ext (by omega)))

theorem o_cover : ∀ i : S4096x1024.Idx, ∃ t : (Fin 2 × Fin 16) × Fin 8, i ∈ (oRect (tile t.1) t.2).set := by
  intro i
  have hi : (i 0).val < 4096 := (i 0).isLt
  obtain ⟨t, ht⟩ := wid_surj ((i 0).val / 128) (by omega)
  refine ⟨(t, ⟨(i 0).val % 128 / 16, by omega⟩), (mem_oRect _ _ _).mpr ?_⟩
  rw [ht]
  show 128 * ((i 0).val / 128) + 16 * ((i 0).val % 128 / 16) ≤ _ ∧ _ < 128 * ((i 0).val / 128) + 16 * ((i 0).val % 128 / 16) + 16
  omega

/-! ## The call's arrays -/

abbrev yLoc (d : Dev nD) : Loc nD τ sig := (SparseCore.T d).loc main_arg0
/-- A side's positions. -/
abbrev pRef : Bool → Ref sig .tc
  | false => main_v3
  | true => main_v6
abbrev p0Loc (d : Dev nD) : Loc nD τ sig := (SparseCore.T d).loc main_v3
abbrev p1Loc (d : Dev nD) : Loc nD τ sig := (SparseCore.T d).loc main_v6
abbrev oLoc (d : Dev nD) : Loc nD τ sig := (SparseCore.T d).loc main_v7

/-- What the call finds in its operands: the rows, and the two sides' positions, each below the number of rows. -/
structure Arr (F : FTy → Type) where
  y : S8192x1024.Idx → F .f32
  p : Bool → S32x8x16.Idx → BitVec 32
  ix : Bool → S32x8x16.Idx → Fin 8192
  hix : ∀ w k, (p w k).toNat = (ix w k).val

variable (A : Arr F)

/-- Row `t`'s place among the positions. -/
def place (t : Fin 4096) : S32x8x16.Idx := ix3 ⟨t.val / 128, by omega⟩ ⟨t.val % 128 / 16, by omega⟩ ⟨t.val % 16, by omega⟩

/-- The result: each row the sum of the two rows its two positions name. -/
def Arr.out : S4096x1024.Idx → F .f32 := fun j =>
  FloatOps.addf (A.y (ix2 (A.ix false (place (j 0))) (j 1))) (A.y (ix2 (A.ix true (place (j 0))) (j 1)))

/-- A tile's positions. -/
def Arr.ixT (L : grid0.Coords) (w : Bool) (k : S8x16.Idx) : Fin 8192 := A.ix w (ix3 ⟨wid L, wid_lt L⟩ (k 0) (k 1))

/-- The two sides' positions as the tile's arrays hold them. -/
def Arr.pv (L : grid0.Coords) (d : Dev nD) : (w : Bool) → Buf (Elt F) (((ctxOf L).p w).view.loc (thr (ctxOf L) d))
  | false => A.p false
  | true => A.p true

theorem read_pBlk (L : grid0.Coords) (d : Dev nD) (w : Bool) (k : S8x16.Idx) :
    ((pBlk (ctxOf L) w).view.read (Elt F) (A.pv L d w) k).toNat = (A.ixT L w k).val := by
  obtain ⟨a, b, rfl⟩ : ∃ (a : Fin 8) (b : Fin 16), k = ix2 a b := ⟨k 0, k 1, eq_ix2 k⟩
  have he : (pRect L).emb (ix3 (⟨0, Nat.one_pos⟩ : Fin 1) a b) = ix3 ⟨wid L, wid_lt L⟩ a b := by
    funext x
    apply Fin.ext
    have h := off1_eq L
    match x with
    | 0 => show k0_off1 L 0 + 1 * 0 = wid L; rw [h]; rfl
    | 1 => show k0_off1 L 1 + 1 * a.val = a.val; rw [h]; show 0 + 1 * a.val = a.val; omega
    | 2 => show k0_off1 L 2 + 1 * b.val = b.val; rw [h]; show 0 + 1 * b.val = b.val; omega
  have hr : ∀ hn : S8x16.numel = S1x8x16.numel, (pRect L).emb (Shape.reshapeEquiv hn (ix2 a b)) = ix3 ⟨wid L, wid_lt L⟩ a b :=
    fun hn => (congrArg _ (reshapeEquiv_ix2_1ab hn a b)).trans he
  have key : (pBlk (ctxOf L) w).view.read (Elt F) (A.pv L d w) (ix2 a b) = A.p w (ix3 ⟨wid L, wid_lt L⟩ a b) := by
    cases w
    · exact congrArg (A.p false) (hr _)
    · exact congrArg (A.p true) (hr _)
  rw [key]
  exact A.hix w _

theorem sumRows_eq (L : grid0.Coords) (d : Dev nD) (c : Fin 8) :
    sumRows (ctxOf L) d (show Buf (Elt F) ((ctxOf L).y.view.loc (thr (ctxOf L) d)) from A.y) (A.ixT L) c
      = fun i => A.out ((oRect L c).emb i) := by
  funext i
  obtain ⟨a, b, rfl⟩ : ∃ (a : Fin 16) (b : Fin 1024), i = ix2 a b := ⟨i 0, i 1, eq_ix2 i⟩
  have hw := wid_lt L
  have h0 : ((oRect L c).emb (ix2 a b) 0).val = 128 * wid L + 16 * c.val + a.val := by
    show k0_off18 L (BitVec.ofNat 32 (16 * c.val)) 0 + 1 * a.val = _
    rw [off18_eq]; show 128 * wid L + 16 * c.val + 1 * a.val = _; omega
  have h1 : (oRect L c).emb (ix2 a b) 1 = b := by
    apply Fin.ext
    show k0_off18 L (BitVec.ofNat 32 (16 * c.val)) 1 + 1 * b.val = _
    rw [off18_eq]; show 0 + 1 * b.val = _; omega
  have hp : place ((oRect L c).emb (ix2 a b) 0) = ix3 ⟨wid L, hw⟩ c a := by
    unfold place
    congr 1 <;> apply Fin.ext <;> simp only [h0] <;> omega
  have hs : ∀ w, A.ix w (place ((oRect L c).emb (ix2 a b) 0)) = A.ixT L w (ix2 c a) := fun w => congrArg (A.ix w) hp
  unfold Arr.out
  rw [hs, hs, h1]
  rfl

end Cert.Kernel.Tile

end
-- ==== Proof.Kernel.Hand.lean ====
/- What the call hands each tile and takes back, and the tile's obligation at the launch. -/
module

public import proofs.«01_k».proof.Proof.Kernel.Tile
public import Idealize.ShloMosaic.Lib.SparseCore.Ops
public import Idealize.ShloMosaic.Lib.StableHlo.Run
public import Idealize.ShloMosaic.Lib.Pipeline.Kit
public import Idealize.ShloMosaic.Lib.SparseCore.Quiescent

@[expose] public section

noncomputable section

namespace Cert.Kernel.Hand

open Idealize.ShloMosaic Idealize.ShloMosaic.ValueIdx
open Idealize.ShloMosaic.SparseCore (V)
open Idealize.ShloMosaic.SparseCore.Cfg (HIx Pay ownBufs ownSems0 ownCells ownRefs mem_ownCells mem_ownRefs_of_owner)
open Idealize.SL Idealize.SL.RA
open Idealize.SL.BI (sProp Storable bigSep bigSep_mono bigSep_congr bigSep_univ_prod bigSep_sep' bigSep_sdiff_split)
open scoped Idealize.SL.BI
open Idealize.SL.BI.BIBase Idealize.SL.BI.Laws Idealize.SL.ProofMode Idealize.SL.Sem
open Idealize.ShloMosaic.Rounds
open Cert.Kernel Cert.Kernel.Acts Cert.Kernel.RowAdd Cert.Kernel.Gather Cert.Kernel.Copies Cert.Kernel.Chunk Cert.Kernel.Body Cert.Kernel.Tile Cert.Proof.Own
open Facts₀ Facts

variable {F : FTy → Type} [FloatOps F] [Facts]

/-! ## The program as the launch theorem takes it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## What each tile is handed -/

variable (A : Dev nD → Arr F)

/-- A tile's share of the rows' table. -/
def yq (t : Fin 2 × Fin 16) : PosShare TreeShare := pieceOf (pieceOf fullShare 2 (by decide) t.1) 16 (by decide) t.2

/-- What a tile reads. -/
def tin (d : Dev nD) (t : Fin 2 × Fin 16) : sProp 𝕄 := ins (ctxOf (tile t)) d (yq t) (A d).y ((A d).pv (tile t) d)
/-- Its rows of the result before -/
def tfree (d : Dev nD) (t : Fin 2 × Fin 16) : sProp 𝕄 := bigSep Finset.univ fun c => freeO (ctxOf (tile t)) d c
/-- and after. -/
def tout (d : Dev nD) (t : Fin 2 × Fin 16) : sProp 𝕄 :=
  bigSep Finset.univ fun c : Fin 8 => own (thr (ctxOf (tile t)) d) (oBlk (ctxOf (tile t)) c) fullShare fun i => (A d).out ((oRect (tile t) c).emb i)

theorem pt_storable (l : Loc nD τ sig) (I : Finset l.2.ty.shape.Idx) (q : PosShare TreeShare) (f : Buf (Elt F) l) :
    Storable (upEmb : UEmb _ 𝕄) (l ↦[I]{q} f : sProp 𝕄) := inferInstance

instance tin_storable (d : Dev nD) (t : Fin 2 × Fin 16) : Storable (upEmb : UEmb _ 𝕄) (tin A d t : sProp 𝕄) := by
  have h (w : Bool) : Storable (upEmb : UEmb _ 𝕄) (Copies.pos (ctxOf (tile t)) d w ((A d).pv (tile t) d w) : sProp 𝕄) := by
    unfold Copies.pos; infer_instance
  have h0 := h false
  have h1 := h true
  have h2 : Storable (upEmb : UEmb _ 𝕄) ((ctxOf (tile t)).y.view.loc (thr (ctxOf (tile t)) d) ↦[(ctxOf (tile t)).y.view.set]{yq t} (A d).y : sProp 𝕄) := pt_storable _ _ _ _
  unfold tin ins; infer_instance
instance tfree_storable (d : Dev nD) (t : Fin 2 × Fin 16) : Storable (upEmb : UEmb _ 𝕄) (tfree (F := F) d t : sProp 𝕄) := by
  unfold tfree freeO; infer_instance
instance tout_storable (d : Dev nD) (t : Fin 2 × Fin 16) : Storable (upEmb : UEmb _ 𝕄) (tout A d t : sProp 𝕄) := by
  unfold tout own; infer_instance

attribute [local irreducible] tin tfree tout

/-- A tile's number at the launch. -/
def tno (c : Fin ((K (F := F)).nCore 0)) (i : Fin ((K (F := F)).nSub 0)) : Fin 2 × Fin 16 := (Fin.cast nCore_zero c, Fin.cast nSub_zero i)

/-- The call's handshakes: each SparseCore takes its tiles' parts, each tile its own. -/
def P : (K (F := F)).Pay (nD := nD) (Val := Elt F) (Name := ℕ) (U := UU) where
  st := fun q d c => match q, c with | 0, c => bigSep Finset.univ fun i => iprop(tin A d (tno c i) ∗ tfree d (tno c i))
  dn := fun q d c => match q, c with | 0, c => bigSep Finset.univ fun i => iprop(tin A d (tno c i) ∗ tout A d (tno c i))
  go := fun q d c i => match q, c, i with | 0, c, i => iprop(tin A d (tno c i) ∗ tfree d (tno c i))
  td := fun q d c i => match q, c, i with | 0, c, i => iprop(tin A d (tno c i) ∗ tout A d (tno c i))
  x := fun _ _ => iprop(emp)

instance P_storable : (P (F := F) A).IsStorable where
  st q d c := match q, c with
    | 0, c => (inferInstance : Storable (upEmb : UEmb _ 𝕄) (bigSep Finset.univ fun i => iprop(tin A d (tno c i) ∗ tfree d (tno c i))))
  dn q d c := match q, c with
    | 0, c => (inferInstance : Storable (upEmb : UEmb _ 𝕄) (bigSep Finset.univ fun i => iprop(tin A d (tno c i) ∗ tout A d (tno c i))))
  go q d c i := match q, c, i with
    | 0, c, i => (inferInstance : Storable (upEmb : UEmb _ 𝕄) iprop(tin A d (tno c i) ∗ tfree d (tno c i)))
  td q d c i := match q, c, i with
    | 0, c, i => (inferInstance : Storable (upEmb : UEmb _ 𝕄) iprop(tin A d (tno c i) ∗ tout A d (tno c i)))

theorem vecSplit : (K (F := F)).VecSplit' (P A) 0 := by
  intro d c
  show (bigSep Finset.univ fun i => iprop(tin A d (tno c i) ∗ tfree d (tno c i)) : sProp 𝕄) ⊢ |={Set.univ}=> iprop(
      (bigSep Finset.univ fun i => iprop(tin A d (tno c i) ∗ tfree d (tno c i)))
      ∗ ((bigSep Finset.univ fun i => iprop(tin A d (tno c i) ∗ tout A d (tno c i)))
          -∗ (bigSep Finset.univ fun i => iprop(tin A d (tno c i) ∗ tout A d (tno c i)))))
  iintro H; imodintro
  isplitl [H]; · iexact H
  iintro H
  iexact H

/-! ## The tile's own buffers and semaphores -/

section Own
variable (d : Dev nD) (L : grid0.Coords)

/-- The pool's DMA semaphores on the tile. -/
def semOf (k : Fin 5) : GSem nD τ sig := (thr (ctxOf L) d, .dma k)
/-- The tile's scratch buffers. -/
def bufOf (k : Fin 6) : DevRef τ sig := (thr (ctxOf L) d).2.devRef ⟨.vmem, k, rfl⟩

theorem semOf_inj : Function.Injective (semOf d L) := by
  intro a b h
  have h' := congrArg Prod.snd h
  exact SemLoc.dma.inj h'
theorem bufOf_inj : Function.Injective (bufOf d L) := by
  intro a b h
  have h' := Proc.devRef_injective _ h
  injection h'

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), BI.bigSep_singleton]
theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), BI.bigSep_singleton]

/-- The rest of the tile's semaphores, -/
def restS : sProp 𝕄 := bigSep (ownCells (thr (ctxOf L) d) \ Finset.univ.image (semOf d L)) fun g => semVal g 0
/-- and of its buffers. -/
def restB : sProp 𝕄 :=
  bigSep (ownRefs (τ := τ) (thr (ctxOf L) d).2 \ Finset.univ.image (bufOf d L)) fun b => iprop(∃ f, ((d, b) : Loc nD τ sig) ↦{fullShare} f)

theorem ownSems0_eq : (ownSems0 (thr (ctxOf L) d) : sProp 𝕄) = iprop(sems (ctxOf L) d ∗ restS d L) := by
  unfold SparseCore.Cfg.ownSems0
  rw [bigSep_sdiff_split (t := Finset.univ.image (semOf d L)) (Finset.image_subset_iff.mpr fun k _ => mem_ownCells.mpr ⟨rfl, by
    show (SemLoc.dma k : SemLoc sig).isScoped .scVector = true; revert k; decide⟩), SparseCore.bigSep_image_of_injOn (semOf_inj d L).injOn, bigSep_five]
  rfl

theorem ownBufs_eq : (ownBufs (thr (ctxOf L) d) : sProp 𝕄)
    = iprop(((freeL (ctxOf L) d false ∗ freeL (ctxOf L) d true) ∗ bufs (ctxOf L) d) ∗ restB d L) := by
  unfold SparseCore.Cfg.ownBufs
  rw [bigSep_sdiff_split (t := Finset.univ.image (bufOf d L)) (Finset.image_subset_iff.mpr fun k _ => mem_ownRefs_of_owner rfl),
    SparseCore.bigSep_image_of_injOn (bufOf_inj d L).injOn, bigSep_six]
  have hu : ∀ w, ((ctxOf L).l w).view.set = Finset.univ := fun w => by cases w <;> exact View.set_whole _
  have hb : ∀ s w, ((ctxOf L).buf s w).view.set = Finset.univ := fun s w => by cases s <;> cases w <;> exact View.set_whole _
  unfold freeL bufs free
  simp only [hu, hb]
  refine BI.Entails.antisymm ?_ ?_
  · show iprop(((∃ f, ((ctxOf L).l false).view.loc (thr (ctxOf L) d) ↦{fullShare} f) ∗ (∃ f, ((ctxOf L).l true).view.loc (thr (ctxOf L) d) ↦{fullShare} f)
      ∗ (∃ f, ((ctxOf L).buf false false).view.loc (thr (ctxOf L) d) ↦{fullShare} f) ∗ (∃ f, ((ctxOf L).buf false true).view.loc (thr (ctxOf L) d) ↦{fullShare} f)
      ∗ (∃ f, ((ctxOf L).buf true false).view.loc (thr (ctxOf L) d) ↦{fullShare} f) ∗ (∃ f, ((ctxOf L).buf true true).view.loc (thr (ctxOf L) d) ↦{fullShare} f))
      ∗ restB d L) ⊢ _
    iintro ⟨⟨H0, H1, H2, H3, H4, H5⟩, Hr⟩
    isplitr [Hr]
    · isplitl [H0 H1]
      · isplitl [H0] <;> iassumption
      isplitl [H2]; · iexact H2
      isplitl [H3]; · iexact H3
      isplitl [H4]; · iexact H4
      iexact H5
    iexact Hr
  · show _ ⊢ iprop(((∃ f, ((ctxOf L).l false).view.loc (thr (ctxOf L) d) ↦{fullShare} f) ∗ (∃ f, ((ctxOf L).l true).view.loc (thr (ctxOf L) d) ↦{fullShare} f)
      ∗ (∃ f, ((ctxOf L).buf false false).view.loc (thr (ctxOf L) d) ↦{fullShare} f) ∗ (∃ f, ((ctxOf L).buf false true).view.loc (thr (ctxOf L) d) ↦{fullShare} f)
      ∗ (∃ f, ((ctxOf L).buf true false).view.loc (thr (ctxOf L) d) ↦{fullShare} f) ∗ (∃ f, ((ctxOf L).buf true true).view.loc (thr (ctxOf L) d) ↦{fullShare} f))
      ∗ restB d L)
    iintro ⟨⟨⟨H0, H1⟩, H2, H3, H4, H5⟩, Hr⟩
    isplitr [Hr]
    · isplitl [H0]; · iexact H0
      isplitl [H1]; · iexact H1
      isplitl [H2]; · iexact H2
      isplitl [H3]; · iexact H3
      isplitl [H4]; · iexact H4
      iexact H5
    iexact Hr

end Own

/-! ## The obligation -/

/-- The task of a tile: its rows of the result written, everything else as it came. -/
theorem tile_body (hF : (K (F := F)).Facts) (d : Dev nD) (t : Fin 2 × Fin 16) (O : CellTallies nD τ sig (HIx 1)) (W : Waits sig (HIx 1))
    (hO : ∀ g, O g none = 0) :
    iprop(levAts (K (F := F)).L (K (F := F)).lev ∗ emp ∗ (tin A d t ∗ tfree d t)
        ∗ scopedBufs (thr (ctxOf (tile t)) d) ∗ scopedSems0 (thr (ctxOf (tile t)) d) ∗ owes (thr (ctxOf (tile t)) d) O W)
      ⊢ wp frame (wpE (defs₀ (F := F)) 𝒱₀ (thr (ctxOf (tile t)) d) none) Set.univ ((ctxOf (tile t)).ap (cc0__sc_combine_body (F := F)))
          fun _ => (iprop((tin A d t ∗ tout A d t)
            ∗ scopedBufs (thr (ctxOf (tile t)) d) ∗ scopedSems0 (thr (ctxOf (tile t)) d)
            ∗ ∃ W', ⌜∀ p ∈ W', p ∈ W ∨ p.2 = none⌝ ∗ owes (thr (ctxOf (tile t)) d) O W') : sProp 𝕄) := by
  rw [(K (F := F)).scopedBufs_V hF d _ _, SparseCore.Cfg.scopedSems0_V (Val := Elt F) d _ _, ownSems0_eq, ownBufs_eq]
  iintro ⟨#Hlv, -, ⟨Hin, Hfree⟩, ⟨⟨Hl, Hb⟩, HrB⟩, ⟨Hs, HrS⟩, HO⟩
  ihave #Hmw := (show levAts (K (F := F)).L (K (F := F)).lev ⊢ Transfers.MayWaits (thr (ctxOf (tile t)) d) (default : HIx 1) O from
    (K (F := F)).mayWaits_none (thr := thr (ctxOf (tile t)) d) hO) $$ Hlv
  have hw := wp_body (ctxOf (tile t)) d (countersEmb : UEmb Counters 𝕄) 𝒱₀ none (default : HIx 1) O W (yq t) (A d).y
    ((A d).pv (tile t) d) ((A d).ixT (tile t)) (read_pBlk (A d) (tile t) d)
  iapply (wp_wand_r frame (wpE (defs₀ (F := F)) 𝒱₀ (thr (ctxOf (tile t)) d) none) Set.univ)
  isplitl [Hin Hfree Hl Hb Hs HO]
  · iapply hw
    isplitr; · iexact Hmw
    isplitl [HO]
    · unfold owesW; iexists W; isplitr [HO]
      · ipureintro; exact fun p hp => Or.inl hp
      iexact HO
    isplitl [Hin]; · unfold tin; iexact Hin
    isplitl [Hl]; · iexact Hl
    isplitl [Hb]; · iexact Hb
    isplitl [Hs]; · iexact Hs
    unfold tfree; iexact Hfree
  iintro %u ⟨HO, Hin, Hl, Hb, Hs, Ho⟩
  isplitl [Hin Ho]
  · isplitl [Hin]; · unfold tin; iexact Hin
    unfold tout
    have hb (c : Fin 8) : (own (thr (ctxOf (tile t)) d) (oBlk (ctxOf (tile t)) c) fullShare
          (sumRows (ctxOf (tile t)) d (A d).y ((A d).ixT (tile t)) c) : sProp 𝕄)
        = own (thr (ctxOf (tile t)) d) (oBlk (ctxOf (tile t)) c) fullShare fun i => (A d).out ((oRect (tile t) c).emb i) :=
      congrArg _ (sumRows_eq (A d) (tile t) d c)
    ihave Ho := (show (bigSep Finset.univ fun c : Fin 8 => own (thr (ctxOf (tile t)) d) (oBlk (ctxOf (tile t)) c) fullShare
          (sumRows (ctxOf (tile t)) d (A d).y ((A d).ixT (tile t)) c) : sProp 𝕄)
        ⊢ bigSep Finset.univ fun c : Fin 8 => own (thr (ctxOf (tile t)) d) (oBlk (ctxOf (tile t)) c) fullShare
            fun i => (A d).out ((oRect (tile t) c).emb i) from
      Entails.of_eq (bigSep_congr fun c _ => hb c)) $$ Ho
    iexact Ho
  isplitl [Hl Hb HrB]
  · isplitr [HrB]
    · isplitl [Hl] <;> iassumption
    iexact HrB
  isplitl [Hs HrS]
  · isplitl [Hs] <;> iassumption
  unfold owesW
  iexact HO

theorem defs₀_vector (c : Fin τ.nSC) (s : Fin τ.nSub) :
    defs₀ (F := F) (.scVector c s) 0 ()
      = SparseCore.onTile hcore0 hsub0 (fun c s => (ctxOf (coords c s)).ap (cc0__sc_combine_body (F := F))) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A hF d (tno c i) O W hO).trans (wp_mono frame _ _ fun _ => obl_post)

end Cert.Kernel.Hand

end
-- ==== Proof.Kernel.Share.lean ====
/- The call's operands, whole on the TensorCore, are what the tiles are handed together. -/
module

public import proofs.«01_k».proof.Proof.Kernel.Hand

@[expose] public section

noncomputable section

namespace Cert.Kernel.Share

open Idealize.ShloMosaic Idealize.ShloMosaic.ValueIdx
open Idealize.ShloMosaic.SparseCore (V)
open Idealize.ShloMosaic.SparseCore.Cfg (HIx)
open Idealize.SL Idealize.SL.RA
open Idealize.SL.BI (sProp bigSep bigSep_mono bigSep_congr bigSep_univ_prod bigSep_sep')
open scoped Idealize.SL.BI
open Idealize.SL.BI.BIBase Idealize.SL.BI.Laws Idealize.SL.ProofMode Idealize.SL.Sem
open Cert.Kernel Cert.Kernel.Acts Cert.Kernel.RowAdd Cert.Kernel.Gather Cert.Kernel.Copies Cert.Kernel.Chunk Cert.Kernel.Body Cert.Kernel.Tile Cert.Kernel.Hand Cert.Proof.Own
open Facts₀ Facts

variable {F : FTy → Type} [FloatOps F] [Facts]

local notation "𝕄" => MT nD τ sig (HIx 1) (Elt F) ℕ UU ℕ

variable (A : Dev nD → Arr F) (d : Dev nD)

/-- One tile's thread: the arrays in HBM are the same seen from any. -/
abbrev thr0 : Thread nD τ := thr (ctxOf (tile (0, 0))) d

/-- The rows' table, shared among the tiles. -/
theorem y_split : (yLoc d ↦{fullShare} (A d).y : sProp 𝕄)
    = bigSep Finset.univ fun t : Fin 2 × Fin 16 =>
        (ctxOf (tile t)).y.view.loc (thr (ctxOf (tile t)) d) ↦[(ctxOf (tile t)).y.view.set]{yq t} (A d).y := by
  have hs (t : Fin 2 × Fin 16) : (ctxOf (tile t)).y.view.set = Finset.univ := View.set_whole _
  have h (f : Buf (Elt F) (yLoc d)) : (yLoc d ↦{fullShare} f : sProp 𝕄)
      = bigSep Finset.univ fun a : Fin 2 => bigSep Finset.univ fun b : Fin 16 => yLoc d ↦[Finset.univ]{yq (a, b)} f := by
    rw [pointsTo_piecesOf Finset.univ f (o := 2) (by decide) fullShare]
    exact bigSep_congr fun a _ => pointsTo_piecesOf Finset.univ f (o := 16) (by decide) _
  refine (h _).trans ?_
  refine (bigSep_univ_prod (fun t : Fin 2 × Fin 16 => (yLoc d ↦[Finset.univ]{yq t} (A d).y : sProp 𝕄))).symm.trans ?_
  refine bigSep_congr fun t _ => ?_
  rw [hs]
  rfl

/-- A side's positions: each tile its block. -/
theorem p0_split : (p0Loc d ↦{fullShare} (A d).p false : sProp 𝕄)
    = bigSep Finset.univ fun t : Fin 2 × Fin 16 => Copies.pos (ctxOf (tile t)) d false ((A d).pv (tile t) d false) := by
  have h := pts_rects (F := F) (Ix := HIx 1) (Name := ℕ) (U := UU) (Lvl := ℕ) (thr0 d) (Memref.whole main_v3_scv) fullShare ((A d).p false) (fun t => pRect (tile t))
    (fun _ _ => rfl) p_disjoint p_cover
  have hs : (Memref.whole main_v3_scv : Memref sig _ _ _ _).view.set = Finset.univ := View.set_whole _
  rw [hs] at h
  refine (show _ = _ from h).trans (bigSep_congr fun t _ => ?_)
  unfold Copies.pos
  have hb : (pBlk (ctxOf (tile t)) false).view.set = ((Memref.whole main_v3_scv).slice (pRect (tile t)) (fun _ => rfl)).view.set := View.set_reshape _ _
  rw [hb]
  rfl

theorem p1_split : (p1Loc d ↦{fullShare} (A d).p true : sProp 𝕄)
    = bigSep Finset.univ fun t : Fin 2 × Fin 16 => Copies.pos (ctxOf (tile t)) d true ((A d).pv (tile t) d true) := by
  have h := pts_rects (F := F) (Ix := HIx 1) (Name := ℕ) (U := UU) (Lvl := ℕ) (thr0 d) (Memref.whole main_v6_scv) fullShare ((A d).p true) (fun t => pRect (tile t))
    (fun _ _ => rfl) p_disjoint p_cover
  have hs : (Memref.whole main_v6_scv : Memref sig _ _ _ _).view.set = Finset.univ := View.set_whole _
  rw [hs] at h
  refine (show _ = _ from h).trans (bigSep_congr fun t _ => ?_)
  unfold Copies.pos
  have hb : (pBlk (ctxOf (tile t)) true).view.set = ((Memref.whole main_v6_scv).slice (pRect (tile t)) (fun _ => rfl)).view.set := View.set_reshape _ _
  rw [hb]
  rfl

/-- The result, before: each tile its rows, -/
theorem o_split (f : S4096x1024.Idx → F .f32) : (oLoc d ↦{fullShare} f : sProp 𝕄) ⊢ bigSep Finset.univ fun t => tfree d t := by
  have h := pts_rects (F := F) (Ix := HIx 1) (Name := ℕ) (U := UU) (Lvl := ℕ) (thr0 d) (Memref.whole main_v7_scv) fullShare f
    (fun t : (Fin 2 × Fin 16) × Fin 8 => oRect (tile t.1) t.2) (fun _ _ => rfl) o_disjoint o_cover
  have hs : (Memref.whole main_v7_scv : Memref sig _ _ _ _).view.set = Finset.univ := View.set_whole _
  rw [hs] at h
  refine (Entails.of_eq (show _ = _ from h)).trans ?_
  rw [bigSep_univ_prod]
  refine bigSep_mono fun t _ => ?_
  unfold tfree
  refine bigSep_mono fun c _ => ?_
  unfold freeO
  exact sProp.exists_intro f

/-- and after: the tiles' rows are the whole of it. -/
theorem o_join : (bigSep Finset.univ fun t => tout A d t : sProp 𝕄) ⊢ oLoc d ↦{fullShare} (A d).out := by
  have h := own_join (F := F) (Ix := HIx 1) (Name := ℕ) (U := UU) (Lvl := ℕ) (thr0 d) (Memref.whole main_v7_scv) fullShare (A d).out
    (fun t : (Fin 2 × Fin 16) × Fin 8 => oRect (tile t.1) t.2) (fun _ _ => rfl) o_disjoint o_cover (A d).out
  rw [bigSep_univ_prod] at h
  have h' := own_pts (F := F) (Ix := HIx 1) (Name := ℕ) (U := UU) (Lvl := ℕ) (thr0 d) (m := Memref.whole main_v7_scv) (q := fullShare) (A d).out (View.read_whole _ _)
  have hs : (Memref.whole main_v7_scv : Memref sig _ _ _ _).view.set = Finset.univ := View.set_whole _
  rw [hs] at h'
  have h0 : (bigSep Finset.univ fun t => tout A d t : sProp 𝕄)
      = bigSep Finset.univ fun t : Fin 2 × Fin 16 => bigSep Finset.univ fun c : Fin 8 =>
          own (thr0 d) ((Memref.whole main_v7_scv).slice (oRect (tile t) c) (fun _ => rfl)) fullShare (fun i => (A d).out ((oRect (tile t) c).emb i)) :=
    bigSep_congr fun t _ => by unfold tout; rfl
  exact (Entails.of_eq h0).trans (h.trans h')

/-- What the tiles read, all together. -/
theorem tin_all : (bigSep Finset.univ fun t => tin A d t : sProp 𝕄)
    = iprop((yLoc d ↦{fullShare} (A d).y) ∗ (p0Loc d ↦{fullShare} (A d).p false) ∗ (p1Loc d ↦{fullShare} (A d).p true)) := by
  rw [y_split, p0_split, p1_split, ← bigSep_sep', ← bigSep_sep']
  refine bigSep_congr fun t _ => ?_
  unfold tin ins
  rfl

attribute [local irreducible] tin tfree tout

theorem stP : (bigSep Finset.univ fun t : Fin 2 × Fin 16 => iprop(tin A d t ∗ tfree d t) : sProp 𝕄)
    = bigSep Finset.univ fun c : Fin ((K (F := F)).nCore 0) => (P A).st 0 d c :=
  (bigSep_univ_prod (fun t : Fin 2 × Fin 16 => (iprop(tin A d t ∗ tfree d t) : sProp 𝕄))).trans
    (show (bigSep Finset.univ fun c : Fin 2 => bigSep Finset.univ fun i : Fin 16 => (iprop(tin A d (c, i) ∗ tfree d (c, i)) : sProp 𝕄))
      = bigSep Finset.univ fun c : Fin 2 => (P A).st 0 d c from bigSep_congr fun _ _ => rfl)

theorem dnP : (bigSep Finset.univ fun c : Fin ((K (F := F)).nCore 0) => (P A).dn 0 d c : sProp 𝕄)
    = bigSep Finset.univ fun t : Fin 2 × Fin 16 => iprop(tin A d t ∗ tout A d t) :=
  ((bigSep_univ_prod (fun t : Fin 2 × Fin 16 => (iprop(tin A d t ∗ tout A d t) : sProp 𝕄))).trans
    (show (bigSep Finset.univ fun c : Fin 2 => bigSep Finset.univ fun i : Fin 16 => (iprop(tin A d (c, i) ∗ tout A d (c, i)) : sProp 𝕄))
      = bigSep Finset.univ fun c : Fin 2 => (P A).dn 0 d c from bigSep_congr fun _ _ => rfl)).symm

/-- The call's operands are what its SparseCores are handed, -/
theorem st_split (f : S4096x1024.Idx → F .f32) :
    iprop((yLoc d ↦{fullShare} (A d).y) ∗ (p0Loc d ↦{fullShare} (A d).p false) ∗ (p1Loc d ↦{fullShare} (A d).p true) ∗ (oLoc d ↦{fullShare} f))
      ⊢ (bigSep Finset.univ fun c : Fin ((K (F := F)).nCore 0) => (P A).st 0 d c : sProp 𝕄) := by
  rw [← stP, bigSep_sep', tin_all]
  iintro ⟨Hy, H0, H1, Ho⟩
  isplitr [Ho]
  · isplitl [Hy]; · iexact Hy
    isplitl [H0] <;> iassumption
  iapply (o_split d f) $$ Ho

/-- and what they bring back is the operands again and the result. -/
theorem dn_join : (bigSep Finset.univ fun c : Fin ((K (F := F)).nCore 0) => (P A).dn 0 d c : sProp 𝕄)
    ⊢ iprop((yLoc d ↦{fullShare} (A d).y) ∗ (p0Loc d ↦{fullShare} (A d).p false) ∗ (p1Loc d ↦{fullShare} (A d).p true) ∗ (oLoc d ↦{fullShare} (A d).out)) := by
  rw [dnP, bigSep_sep', tin_all]
  iintro ⟨⟨Hy, H0, H1⟩, Ho⟩
  isplitl [Hy]; · iexact Hy
  isplitl [H0]; · iexact H0
  isplitl [H1]; · iexact H1
  iapply (o_join A d) $$ Ho

end Cert.Kernel.Share

end
-- ==== Proof.Kernel.Launch.lean ====
/- The program's run: the host operations, the call, and what is left when all is quiet. -/
module

public import proofs.«01_k».proof.Proof.Kernel.Share

@[expose] public section

noncomputable section

namespace Cert.Kernel.Launch

open Idealize.ShloMosaic Idealize.ShloMosaic.ValueIdx
open Idealize.ShloMosaic.SparseCore (V)
open Idealize.ShloMosaic.SparseCore.Cfg (HIx)
open Idealize.ShloMosaic.Rounds
open Idealize.ShloMosaic.StableHlo (held wp_hlo_within)
open Idealize.SL Idealize.SL.RA
open Idealize.SL.BI (sProp bigSep bigSep_congr bigSep_singleton bigSep_emp_const bigSep_univ_of_subsingleton)
open scoped Idealize.SL.BI
open Idealize.SL.BI.BIBase Idealize.SL.BI.Laws Idealize.SL.ProofMode Idealize.SL.Sem
open Cert.Kernel Cert.Kernel.Tile Cert.Kernel.Hand Cert.Kernel.Share
open Facts₀ Facts

variable {F : FTy → Type} [FloatOps F] [Facts]

local notation "𝕄" => MT nD τ sig (HIx 1) (Elt F) ℕ UU ℕ

/-! ## The host operations -/

abbrev op0 : HloOp τ sig (Elt F) := StableHlo.reshape main_arg1 main_v0 (rfl : (.i32 : EltTy) = .i32) shapeCasts_S8192_S4096x2
abbrev op1 : HloOp τ sig (Elt F) := StableHlo.unary main_v0 main_v1 ((extractStridedSlice S4096x1 ![0, 0] · slices_S4096x2_S4096x1_0_0) : (⟨S4096x2, .i32⟩ : BufTy).Contents (Elt F) → (⟨S4096x1, .i32⟩ : BufTy).Contents (Elt F))
abbrev op2 : HloOp τ sig (Elt F) := StableHlo.reshape main_v1 main_v2 (rfl : (.i32 : EltTy) = .i32) shapeCasts_S4096x1_S4096
abbrev op3 : HloOp τ sig (Elt F) := StableHlo.reshape main_v2 main_v3 (rfl : (.i32 : EltTy) = .i32) shapeCasts_S4096_S32x8x16
abbrev op4 : HloOp τ sig (Elt F) := StableHlo.unary main_v0 main_v4 ((extractStridedSlice S4096x1 ![0, 1] · slices_S4096x2_S4096x1_0_1) : (⟨S4096x2, .i32⟩ : BufTy).Contents (Elt F) → (⟨S4096x1, .i32⟩ : BufTy).Contents (Elt F))
abbrev op5 : HloOp τ sig (Elt F) := StableHlo.reshape main_v4 main_v5 (rfl : (.i32 : EltTy) = .i32) shapeCasts_S4096x1_S4096
abbrev op6 : HloOp τ sig (Elt F) := StableHlo.reshape main_v5 main_v6 (rfl : (.i32 : EltTy) = .i32) shapeCasts_S4096_S32x8x16

/-- The positions in pairs, -/
def pairs (pos : S8192.Idx → BitVec 32) : S4096x2.Idx → BitVec 32 := shapeCast S4096x2 pos shapeCasts_S8192_S4096x2
/-- and a side of them, laid out by tile, chunk and lane. -/
def side (pos : S8192.Idx → BitVec 32) : Bool → S32x8x16.Idx → BitVec 32
  | false => shapeCast S32x8x16 (shapeCast S4096 (extractStridedSlice S4096x1 ![0, 0] (pairs pos) slices_S4096x2_S4096x1_0_0) shapeCasts_S4096x1_S4096) shapeCasts_S4096_S32x8x16
  | true => shapeCast S32x8x16 (shapeCast S4096 (extractStridedSlice S4096x1 ![0, 1] (pairs pos) slices_S4096x2_S4096x1_0_1) shapeCasts_S4096x1_S4096) shapeCasts_S4096_S32x8x16

theorem side_lt {pos : S8192.Idx → BitVec 32} (h : ∀ k, (pos k).toNat < 8192) (w : Bool) (k : S32x8x16.Idx) : (side pos w k).toNat < 8192 := by
  cases w <;> exact h _

variable (m : (ℓ : Loc nD τ sig) → Buf (Elt F) ℓ) (ρ : Dev nD → PrngReg)

abbrev aLoc (d : Dev nD) : Loc nD τ sig := (SparseCore.T d).loc main_arg1

/-- What the precondition gives: every position names a row. -/
def PreOK : Prop := ∀ (d : Dev nD) (k : S8192.Idx), ((show S8192.Idx → BitVec 32 from m (aLoc d)) k).toNat < 8192

/-- The call's operands. -/
def arr (h : PreOK m) (d : Dev nD) : Arr F where
  y := m (yLoc d)
  p := side (m (aLoc d))
  ix := fun w k => ⟨(side (m (aLoc d)) w k).toNat, side_lt (h d) w k⟩
  hix := fun _ _ => rfl

/-! ## The arrays before the call -/

abbrev r' (b : Ref sig .tc) : DevRef τ sig := Proc.devRef .tc b

/-- The TensorCore's arrays, all unscoped. -/
abbrev S10 : Finset (DevRef τ sig) := {r' main_arg0, r' main_arg1, r' main_v0, r' main_v1, r' main_v2, r' main_v3, r' main_v4, r' main_v5, r' main_v6, r' main_v7}

theorem held_S10 (d : Dev nD) (W : Valuation τ sig (Elt F)) :
    (held (SparseCore.T d) S10 W : sProp 𝕄)
      = iprop((yLoc d ↦{fullShare} W (r' main_arg0)) ∗ (aLoc d ↦{fullShare} W (r' main_arg1)) ∗ ((SparseCore.T d).loc main_v0 ↦{fullShare} W (r' main_v0))
          ∗ ((SparseCore.T d).loc main_v1 ↦{fullShare} W (r' main_v1)) ∗ ((SparseCore.T d).loc main_v2 ↦{fullShare} W (r' main_v2)) ∗ (p0Loc d ↦{fullShare} W (r' main_v3))
          ∗ ((SparseCore.T d).loc main_v4 ↦{fullShare} W (r' main_v4)) ∗ ((SparseCore.T d).loc main_v5 ↦{fullShare} W (r' main_v5)) ∗ (p1Loc d ↦{fullShare} W (r' main_v6))
          ∗ oLoc d ↦{fullShare} W (r' main_v7)) := by
  unfold held S10
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((yLoc d ↦{fullShare} W main_arg0) ∗ (aLoc d ↦{fullShare} W main_arg1) ∗ ((SparseCore.T d).loc main_v0 ↦{fullShare} W main_v0)
          ∗ ((SparseCore.T d).loc main_v1 ↦{fullShare} W main_v1) ∗ ((SparseCore.T d).loc main_v2 ↦{fullShare} W main_v2) ∗ (p0Loc d ↦{fullShare} W main_v3)
          ∗ ((SparseCore.T d).loc main_v4 ↦{fullShare} W main_v4) ∗ ((SparseCore.T d).loc main_v5 ↦{fullShare} W main_v5) ∗ (p1Loc d ↦{fullShare} W main_v6)
          ∗ oLoc d ↦{fullShare} W main_v7) := by
  unfold unscopedBufs
  rw [show (Finset.univ.filter fun b : Ref sig .tc => ¬ b.isScoped)
      = {main_arg0, main_arg1, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The contents at launch and after each host operation. -/
def V0 (d : Dev nD) : Valuation τ sig (Elt F) := fun b => m (d, b)
abbrev V1 (d : Dev nD) : Valuation τ sig (Elt F) := (op0 (F := F)).result (V0 m d)
abbrev V2 (d : Dev nD) : Valuation τ sig (Elt F) := (op1 (F := F)).result (V1 m d)
abbrev V3 (d : Dev nD) : Valuation τ sig (Elt F) := (op2 (F := F)).result (V2 m d)
abbrev V4 (d : Dev nD) : Valuation τ sig (Elt F) := (op3 (F := F)).result (V3 m d)
abbrev V5 (d : Dev nD) : Valuation τ sig (Elt F) := (op4 (F := F)).result (V4 m d)
abbrev V6 (d : Dev nD) : Valuation τ sig (Elt F) := (op5 (F := F)).result (V5 m d)
abbrev V7 (d : Dev nD) : Valuation τ sig (Elt F) := (op6 (F := F)).result (V6 m d)

theorem unscoped_held (d : Dev nD) : (unscopedBufs d (fun b => m ((SparseCore.T d).loc b)) : sProp 𝕄) = held (SparseCore.T d) S10 (V0 m d) := by
  rw [unscopedBufs_eq, held_S10]; rfl

theorem V7_y (d : Dev nD) : V7 m d (r' main_arg0) = m (yLoc d) := by
  show StableHlo.after [op0 (F := F), op1, op2, op3, op4, op5, op6] (V0 m d) (r' main_arg0) = _
  after_results
  rfl
theorem V7_a (d : Dev nD) : V7 m d (r' main_arg1) = m (aLoc d) := by
  show StableHlo.after [op0 (F := F), op1, op2, op3, op4, op5, op6] (V0 m d) (r' main_arg1) = _
  after_results
  rfl
theorem V7_p0 (d : Dev nD) : V7 m d (r' main_v3) = side (m (aLoc d)) false := by
  show StableHlo.after [op0 (F := F), op1, op2, op3, op4, op5, op6] (V0 m d) (r' main_v3) = _
  after_results
  rfl
theorem V7_p1 (d : Dev nD) : V7 m d (r' main_v6) = side (m (aLoc d)) true := by
  show StableHlo.after [op0 (F := F), op1, op2, op3, op4, op5, op6] (V0 m d) (r' main_v6) = _
  after_results
  rfl

theorem h0 : (op0 (F := F)).bufs ⊆ S10 := show ({r' main_arg1, r' main_v0} : Finset (DevRef τ sig)) ⊆ S10 by decide
theorem h1 : (op1 (F := F)).bufs ⊆ S10 := show ({r' main_v0, r' main_v1} : Finset (DevRef τ sig)) ⊆ S10 by decide
theorem h2 : (op2 (F := F)).bufs ⊆ S10 := show ({r' main_v1, r' main_v2} : Finset (DevRef τ sig)) ⊆ S10 by decide
theorem h3 : (op3 (F := F)).bufs ⊆ S10 := show ({r' main_v2, r' main_v3} : Finset (DevRef τ sig)) ⊆ S10 by decide
theorem h4 : (op4 (F := F)).bufs ⊆ S10 := show ({r' main_v0, r' main_v4} : Finset (DevRef τ sig)) ⊆ S10 by decide
theorem h5 : (op5 (F := F)).bufs ⊆ S10 := show ({r' main_v4, r' main_v5} : Finset (DevRef τ sig)) ⊆ S10 by decide
theorem h6 : (op6 (F := F)).bufs ⊆ S10 := show ({r' main_v5, r' main_v6} : Finset (DevRef τ sig)) ⊆ S10 by decide

/-! ## The run -/

variable (hp : PreOK m)

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (A : Dev nD → Arr F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

/-- What is left to the claims: the arguments as they came, the result computed. -/
abbrev FIN (d : Dev nD) : sProp 𝕄 :=
  iprop((yLoc d ↦{fullShare} m (yLoc d)) ∗ (aLoc d ↦{fullShare} m (aLoc d)) ∗ oLoc d ↦{fullShare} (arr m hp d).out)

set_option maxRecDepth 16384 in
/-- A device's main thread: seven host operations, then the call. -/
theorem hmain (κ : GSem nD τ sig → ℕ) (d : Dev nD) :
    iprop((K (F := F)).ctx EH (P (arr m hp)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hp d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S10) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S10) h1 (V := V1 m d)) $$ [Hb Hheld]
  · isplitl [Hb] <;> iassumption
  iintro ⟨Hb, Hheld⟩
  rw [wp_ret]; imodintro
  iapply (wp_hlo_within 𝒱 (SparseCore.T d) none Set.univ (op := op2) (S := S10) h2 (V := V2 m d)) $$ [Hb Hheld]
  · isplitl [Hb] <;> iassumption
  iintro ⟨Hb, Hheld⟩
  rw [wp_ret]; imodintro
  iapply (wp_hlo_within 𝒱 (SparseCore.T d) none Set.univ (op := op3) (S := S10) h3 (V := V3 m d)) $$ [Hb Hheld]
  · isplitl [Hb] <;> iassumption
  iintro ⟨Hb, Hheld⟩
  rw [wp_ret]; imodintro
  iapply (wp_hlo_within 𝒱 (SparseCore.T d) none Set.univ (op := op4) (S := S10) h4 (V := V4 m d)) $$ [Hb Hheld]
  · isplitl [Hb] <;> iassumption
  iintro ⟨Hb, Hheld⟩
  rw [wp_ret]; imodintro
  iapply (wp_hlo_within 𝒱 (SparseCore.T d) none Set.univ (op := op5) (S := S10) h5 (V := V5 m d)) $$ [Hb Hheld]
  · isplitl [Hb] <;> iassumption
  iintro ⟨Hb, Hheld⟩
  rw [wp_ret]; imodintro
  iapply (wp_hlo_within 𝒱 (SparseCore.T d) none Set.univ (op := op6) (S := S10) h6 (V := V6 m d)) $$ [Hb Hheld]
  · isplitl [Hb] <;> iassumption
  iintro ⟨Hb, Hheld⟩
  rw [wp_ret]; imodintro
  have hV : (held (SparseCore.T d) S10 (V7 m d) : sProp 𝕄) = _ := held_S10 d _
  rw [V7_y, V7_a, V7_p0, V7_p1] at hV
  ihave Hh := (Entails.of_eq hV) $$ Hheld
  icases Hh with ⟨Hy, Ha, -, -, -, H0, -, -, H1, Ho⟩
  iapply ((K (F := F)).wp_run (D (F := F)) 𝒱 (EH := EH) (P := P (arr m hp)) κ d 0) $$ [Hst Hy Ha H0 H1 Ho Hb Hts]
  isplitr; · iexact Hctx
  isplitl [Hst]; · iexact Hst
  isplitl [Hy H0 H1 Ho]
  · iapply (st_split (arr m hp) d (V7 m d (r' main_v7)))
    isplitl [Hy]; · iexact Hy
    isplitl [H0]; · iexact H0
    isplitl [H1]; · iexact H1
    iexact Ho
  iintro ⟨Hst, Hdn⟩
  ihave Hdn' := (dn_join (arr m hp) d) $$ Hdn
  icases Hdn' with ⟨Hy, -, -, Ho⟩
  imodintro
  isplitl [Hst]; · iexact Hst
  isplitr [Hb Hts]
  · isplitl [Hy]; · iexact Hy
    isplitl [Ha]; · iexact Ha
    iexact Ho
  isplitl [Hb] <;> iassumption

def fq (d : Dev nD) (s' : Phys nD τ sig (Elt F)) : Prop :=
  s'.mem.mem (yLoc d) = m (yLoc d) ∧ s'.mem.mem (aLoc d) = m (aLoc d) ∧ s'.mem.mem (oLoc d) = (arr m hp d).out

set_option maxRecDepth 16384 in
theorem hfin (d : Dev nD) (s' : Phys nD τ sig (Elt F)) : iprop(FIN m hp d ∗ SI s') ⊢ (⌜fq m hp d s'⌝ : sProp 𝕄) := by
  iintro ⟨⟨Hy, Ha, Ho⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := (arr m hp d).out)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- What the run leaves. -/
def QC : PUnit × MemSt nD τ sig (Elt F) → Prop := fun r =>
  (∀ c : Dev nD, r.2.mem (yLoc c) = m (yLoc c) ∧ r.2.mem (aLoc c) = m (aLoc c) ∧ r.2.mem (oLoc c) = (arr m hp c).out) ∧ r.2.sem = fun _ => 0

/-- The program, started anywhere every position names a row, ends with the result computed, the arguments unchanged and
    the semaphores at zero. -/
theorem run_main [∀ e, Nonempty (Elt F e)] :
    θ_run (Cert.Kernel.defs (F := F)) (Cert.Kernel.threads (F := F)) ⟨m, fun _ => 0, ρ⟩ (QC m hp) :=
  SparseCore.Cfg.θ_run_sc_quiescent (K := K (F := F)) (D := D (F := F)) (𝒱 := 𝒱) (EH := EH) (P := P (arr m hp)) (A := ∅) facts v₀
    (fun q hq => match q with | 0 => nomatch hq)
    (fun q _ => match q with | 0 => tileObl (arr m hp) facts)
    (fun q _ => match q with | 0 => SparseCore.Cfg.VecSplit.of_plain (vecSplit (arr m hp)))
    m ρ main (fun _ => iprop(emp)) (FIN m hp) (u₀ (F := F)) (sep_elim_left.trans (hu₀ (arr m hp))) (hmain m ρ hp) (fq m hp) (hfin m hp) (QC m hp)
    (fun _ h hz => ⟨h, hz⟩)

end Cert.Kernel.Launch

end
-- ==== Proof.ExpandFacts.lean ====
/- The side conditions of the expansion's program, and of its idealized twin. -/
module

public import proofs.«01_k».proof.Expand
public import proofs.«01_k».proof.ExpandIdeal
public import Idealize.ShloMosaic.Lib.Decide

@[expose] public section

namespace Cert.Proof.ExpandFacts

open Idealize.ShloMosaic Idealize.SL.Sem
open Cert.Expand

/-- A tile's block of an operand lies in the operand, -/
theorem off1_inb : ∀ i : grid0.Coords, ∀ a, (k0_off1 i) a + S1x4x32.size a ≤ S32x4x32.size a := by decide +kernel
/-- and each of its four chunks of tokens in the tokens. -/
theorem off2_inb : ∀ i : grid0.Coords, ∀ (r : Fin 4), ∀ a, (k0_off2 i (BitVec.ofNat 32 (32 * r.val))) a + S32x1024.size a ≤ S4096x1024.size a := by
  decide +kernel

theorem facts₀ : Cert.Expand.Facts₀ := by
  constructor
  all_goals first | exact off1_inb | exact off2_inb | decide

/-- The program's, -/
theorem facts : Cert.Expand.Facts := @Cert.Expand.Facts.mk facts₀

/-- and its twin's, which are the same. -/
theorem idealFacts₀ : Cert.ExpandIdeal.Facts₀ :=
  Cert.Expand.Facts₀.casesOn (motive := fun _ => Cert.ExpandIdeal.Facts₀) facts₀ Cert.ExpandIdeal.Facts₀.mk
theorem idealFacts : Cert.ExpandIdeal.Facts := @Cert.ExpandIdeal.Facts.mk idealFacts₀

end Cert.Proof.ExpandFacts

end
-- ==== Proof.Scatters.lean ====
/- Several indirect scatters outstanding on one DMA semaphore, counted row by row.

Each scatter is a stream of row transfers of one size, so the streams on a semaphore together are one batch of row
transfers. A stream takes the rows of its target that its list names, each held outright on its own, and a share of its
source and of its list; each row brings its row of the target back, at the source's row. -/
module

public import Idealize.ShloMosaic.Lib.SparseCore.Scatter
public import proofs.«01_k».proof.Proof.Streams
public import proofs.«01_k».proof.Proof.Own

@[expose] public section

noncomputable section

namespace Cert.Proof.Scatters

open Idealize.ShloMosaic
open Idealize.SL
open Idealize.SL.BI (sProp Storable bigSep bigSep_mono)
open scoped Idealize.SL.BI
open Idealize.SL.BI.BIBase Idealize.SL.BI.Laws Idealize.SL.Sem Idealize.SL.ProofMode
open Idealize.SL.RA
open Idealize.ShloMosaic.SparseCore Cert.Proof.Own Cert.Proof.Streams

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The row of the target that entry `r` of the list names, as a memref. -/
abbrev rowOfDst (dst : Memref sig c.2.kind sp s₀ e) (hg : s₀.Gathers a s) (k : Fin (s₀.size hg.axis)) :
    Memref sig c.2.kind sp (s₀.rowShape hg.axis) e :=
  dst.slice (s₀.rowRect hg.axis k) (s₀.stride_rowRect hg.axis k)

/-- What row `r` of a scatter delivers: the target's row named, written with the source's row `r`; the list's entry back
    at its share; the source's row back at its share. -/
def scatDeliv (src : Memref sig c.2.kind .vmem s e) (dst : Memref sig c.2.kind sp s₀ e) (hg : s₀.Gathers a s)
    (offs : Memref sig c.2.kind .vmem si .i32) (hn : si.numel = s.size hg.axis') (q qo : PosShare TreeShare)
    (fs : Buf (Elt F) (src.view.loc c)) (fd : Fin (s.size hg.axis') → Buf (Elt F) (dst.view.loc c)) (fo : Buf (Elt F) (offs.view.loc c))
    (hin : ∀ x, (offs.view.read (Elt F) fo x).toNat < s₀.size hg.axis) (r : Fin (s.size hg.axis')) : sProp 𝕄 :=
  iprop(((dst.view.loc c ↦[(dst.view.slice (s₀.rowRect hg.axis (rows (offs.view.read (Elt F) fo) hn hin r))).set]{fullShare}
        ((dst.view.slice (s₀.rowRect hg.axis (rows (offs.view.read (Elt F) fo) hn hin r))).write (Elt F) (fd r) (scatterRowPayload c src hg fs r) Finset.univ))
      ∗ (offs.view.loc c ↦[{offs.view.emb (si.rowMajor.symm (r.cast hn.symm))}]{qo} fo))
    ∗ (src.view.loc c ↦[(src.view.slice (s.rowRect hg.axis' r)).set]{q} fs))

instance scatDeliv_storable (src : Memref sig c.2.kind .vmem s e) (dst : Memref sig c.2.kind sp s₀ e) (hg : s₀.Gathers a s)
    (offs : Memref sig c.2.kind .vmem si .i32) (hn : si.numel = s.size hg.axis') (q qo : PosShare TreeShare)
    (fs : Buf (Elt F) (src.view.loc c)) (fd : Fin (s.size hg.axis') → Buf (Elt F) (dst.view.loc c)) (fo : Buf (Elt F) (offs.view.loc c))
    (hin : ∀ x, (offs.view.read (Elt F) fo x).toNat < s₀.size hg.axis) (r : Fin (s.size hg.axis')) :
    Storable (upEmb : UEmb _ 𝕄) (scatDeliv c src dst hg offs hn q qo fs fd fo hin r) := by
  unfold scatDeliv; infer_instance

/-- The rows' deliveries together: every named row of the target at its row of the source, and the source's and the
    list's shares whole again. -/
theorem scatDeliv_join (src : Memref sig c.2.kind .vmem s e) (dst : Memref sig c.2.kind sp s₀ e) (hg : s₀.Gathers a s)
    (offs : Memref sig c.2.kind .vmem si .i32) (hn : si.numel = s.size hg.axis') (q qo : PosShare TreeShare)
    (fs : Buf (Elt F) (src.view.loc c)) (fd : Fin (s.size hg.axis') → Buf (Elt F) (dst.view.loc c)) (fo : Buf (Elt F) (offs.view.loc c))
    (hin : ∀ x, (offs.view.read (Elt F) fo x).toNat < s₀.size hg.axis) :
    (bigSep Finset.univ fun r => scatDeliv (Ix := Ix) (Name := Name) (U := U) (Lvl := Lvl) c src dst hg offs hn q qo fs fd fo hin r)
      ⊢ iprop((bigSep Finset.univ fun r => own c (rowOfDst c dst hg (rows (offs.view.read (Elt F) fo) hn hin r)) fullShare (scatterRowPayload c src hg fs r))
          ∗ (src.view.loc c ↦[src.view.set]{q} fs) ∗ (offs.view.loc c ↦[offs.view.set]{qo} fo)) := by
  have hown : (bigSep Finset.univ fun r => (dst.view.loc c ↦[(dst.view.slice (s₀.rowRect hg.axis (rows (offs.view.read (Elt F) fo) hn hin r))).set]{fullShare}
        ((dst.view.slice (s₀.rowRect hg.axis (rows (offs.view.read (Elt F) fo) hn hin r))).write (Elt F) (fd r) (scatterRowPayload c src hg fs r) Finset.univ)
          : sProp 𝕄))
      ⊢ bigSep Finset.univ fun r => own c (rowOfDst c dst hg (rows (offs.view.read (Elt F) fo) hn hin r)) fullShare (scatterRowPayload c src hg fs r) :=
    bigSep_mono fun r _ => own_intro c (m := rowOfDst c dst hg (rows (offs.view.read (Elt F) fo) hn hin r)) _ (View.read_write_univ _ _)
  unfold scatDeliv
  iintro H
  ihave H1 := Transfers.bigSep_sep_out _ _ _ $$ H
  icases H1 with ⟨H2, Hsrc⟩
  ihave H3 := Transfers.bigSep_sep_out _ _ _ $$ H2
  icases H3 with ⟨Hrows, Hoffs⟩
  isplitl [Hrows]
  · iapply hown $$ Hrows
  isplitl [Hsrc]; · iapply (Entails.of_eq (pointsTo_rows c src.view hg.axis' q fs).symm) $$ Hsrc
  iapply (Entails.of_eq (pointsTo_entries c offs.view (fun r : Fin (s.size hg.axis') => si.rowMajor.symm (r.cast hn.symm))
    (si.rowMajor.symm.bijective.comp (finCongr hn.symm).bijective) qo fo).symm) $$ Hoffs

/-- `enqueueIndirectScatter` of the next stream of a batch of rows: with the batch's first `j` row transfers issued, the
    stream issues the next ones, one per row of its source, each row's delivery entailing what the batch states for it
    (`hD`). -/
theorem wp_scatterBatch [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Fin (s.size hg.axis') → Buf (Elt F) (dst.view.loc c)}
    {fo : Buf (Elt F) (offs.view.loc c)}
    {n : ℕ} {D : Fin n → sProp 𝕄} {j u : ℕ} (ι : Ix) (N : ℕ)
    (hN : ∀ r, (dst.slice (s₀.rowRect hg.axis r) (s₀.stride_rowRect hg.axis r)).view.dmaCredit = N)
    (hin : ∀ x, (offs.view.read (Elt F) fo x).toNat < s₀.size hg.axis)
    (hj : j + s.size hg.axis' ≤ n) (hu : u ≤ j * N)
    (hD : ∀ r : Fin (s.size hg.axis'), scatDeliv c src dst hg offs hn q qo fs fd fo hin r ⊢ D ⟨j + r.val, by omega⟩) :
    iprop((src.view.loc c ↦[src.view.set]{q} fs)
        ∗ (bigSep Finset.univ fun r => (dst.view.loc c ↦[(dst.view.slice (s₀.rowRect hg.axis (rows (offs.view.read (Elt F) fo) hn hin r))).set]{fullShare} fd r))
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectScatter hp src dst hg offs hn sem he hsp hr >>= k) Q) := by
  rw [enqueueIndirectScatter_bind]
  let S : Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun j => scatterRow c src dst hg sem he hsp hr j (r j)
  have hA : S.RowsAgree := by
    intro r x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry := si.rowMajor.symm.bijective.comp (finCongr hn.symm).bijective
  have hsrcset : ∀ i, (src.view.slice (s.rowRect hg.axis' i)).set = (rd i).src.view.set := fun i =>
    (View.set_cast (v := src.view.slice (s.rowRect hg.axis' i)) _ _).symm
  have hsum : ∑ i, (rd i).dst.view.dmaCredit = s.size hg.axis' * N := by
    refine (Finset.sum_congr rfl fun i _ => hN (r i)).trans ?_
    rw [Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (bigSep_pending_take (fun t => count EC (γ t) 0) (s.size hg.axis') j hj) $$ HI
  icases HI' with ⟨Hγ, HI⟩
  ihave Ho' := (Entails.of_eq (pointsTo_entries c offs.view S.entry hen qo fo)) $$ Ho
  ihave Hs' := (Entails.of_eq (pointsTo_rows c src.view hg.axis' q fs)) $$ Hs
  iapply (wp_enqueueIndirectDma 𝒱 c bd Set.univ (qo := qo) (fo := fo) (rd := rd) ι (s.size hg.axis' * N) hA hrd hsum) $$ [Hd Ho' Hs' Hγ]
  · have hrow : ∀ i, iprop(inv κ (Transfers.batchBody EC (c, SemLoc.dma sem) N D γ γ₀)
          ∗ ((((dst.view.loc c ↦[(dst.view.slice (s₀.rowRect hg.axis (r i))).set]{fullShare} fd i) ∗ S.heldEntry qo fo i)
          ∗ (src.view.loc c ↦[(src.view.slice (s.rowRect hg.axis' i)).set]{q} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγr⟩
      isplitl [He]; · iexact He
      iintro He
      unfold rowRes
      iexists q, fs, iprop((dst.view.loc c ↦[(dst.view.slice (s₀.rowRect hg.axis (r i))).set]{fullShare}
        ((dst.view.slice (s₀.rowRect hg.axis (r i))).write (Elt F) (fd i) (scatterRowPayload c src hg fs i) Finset.univ)) ∗ S.heldEntry qo fo i)
      isplitl [Hsq]; · iapply (Entails.of_eq (congrArg (fun I => (src.view.loc c ↦[I]{q} fs : sProp 𝕄)) (hsrcset i))) $$ Hsq
      isplitl [Hr He]
      · iapply writeUpdate_frame
        isplitl [Hr]
        · iapply (pointsTo_writeUpdate c (v := dst.view.slice (s₀.rowRect hg.axis (r i))) subset_rfl) $$ Hr
        · iexact He
      · rw [show (rd i).dst.view.amount (SemLoc.dma sem) = N from hN (r i)]
        have hd : iprop(((dst.view.loc c ↦[(dst.view.slice (s₀.rowRect hg.axis (r i))).set]{fullShare}
              ((dst.view.slice (s₀.rowRect hg.axis (r i))).write (Elt F) (fd i) (scatterRowPayload c src hg fs i) Finset.univ)) ∗ S.heldEntry qo fo i)
              ∗ ((rd i).src.view.loc c ↦[(rd i).src.view.set]{q} fs)) ⊢ D ⟨j + i.val, by omega⟩ := by
          refine (Entails.of_eq ?_).trans (hD i)
          show _ = scatDeliv c src dst hg offs hn q qo fs fd fo hin i
          unfold scatDeliv
          rw [hsrcset i]
          rfl
        iapply (Transfers.batch_creditUpdate EC ⟨j + i.val, by omega⟩ hd)
        isplitr; · iexact Hinv
        iexact Hγr
    unfold Stream.res
    ihave H1 := Transfers.bigSep_sep_in _ _ _ $$ [Hd Ho']; · isplitl [Hd] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.Scatters

end
-- ==== Proof.Expand.Acts.lean ====
/- The kernel body as a list of its memory actions.

The printed body is one tile's program written out: four copies of lists into the tile (the two sides' gates and
positions), then four chunks of thirty-two rows, each copied in, and written out to the rows its two lists of positions
name, with two row buffers used in turn. This module names the kinds of action and gives each its program. -/
module

public import proofs.«01_k».proof.Expand
public import Idealize.ShloMosaic.Lib.SparseCore

@[expose] public section

noncomputable section

namespace Cert.Expand.Acts

open Idealize.ShloMosaic Idealize.SL.Sem Cert.Expand
open Facts₀ Facts

variable {F : FTy → Type} [FloatOps F] [Facts]

/-- What the body is called on: its grid point, the whole arrays in HBM, the tile's buffers and its semaphores. -/
structure Ctx where
  i : grid0.Coords
  x : Memref sig .scVector .hbm S4096x1024 .f32
  hx : x.IsWhole
  g0 : Memref sig .scVector .hbm S32x4x32 .f32
  hg0 : g0.IsWhole
  g1 : Memref sig .scVector .hbm S32x4x32 .f32
  hg1 : g1.IsWhole
  p0 : Memref sig .scVector .hbm S32x4x32 .i32
  hp0 : p0.IsWhole
  p1 : Memref sig .scVector .hbm S32x4x32 .i32
  hp1 : p1.IsWhole
  xs : Memref sig .scVector .hbm S8192x1024 .f32
  hxs : xs.IsWhole
  gs : Memref sig .scVector .hbm S8192 .f32
  hgs : gs.IsWhole
  b0 : Memref sig .scVector .vmem S32x1024 .f32
  hb0 : b0.IsWhole
  b1 : Memref sig .scVector .vmem S32x1024 .f32
  hb1 : b1.IsWhole
  lg0 : Memref sig .scVector .vmem S4x32 .f32
  hlg0 : lg0.IsWhole
  lg1 : Memref sig .scVector .vmem S4x32 .f32
  hlg1 : lg1.IsWhole
  lp0 : Memref sig .scVector .vmem S4x32 .i32
  hlp0 : lp0.IsWhole
  lp1 : Memref sig .scVector .vmem S4x32 .i32
  hlp1 : lp1.IsWhole
  semI : DmaSems sig S_
  semR : DmaSems sig S_
  semS0 : DmaSems sig S_
  semS1 : DmaSems sig S_
  semT0 : DmaSems sig S_
  semT1 : DmaSems sig S_

namespace Ctx

/-- A function of the body's arguments, at them. -/
abbrev ap {β : grid0.Coords → Sort _} (x : Ctx)
    (f : ∀ (i : grid0.Coords) (arg2 : Memref sig .scVector .hbm S4096x1024 .f32) (_ : arg2.IsWhole)
      (arg3 : Memref sig .scVector .hbm S32x4x32 .f32) (_ : arg3.IsWhole)
      (arg4 : Memref sig .scVector .hbm S32x4x32 .f32) (_ : arg4.IsWhole)
      (arg5 : Memref sig .scVector .hbm S32x4x32 .i32) (_ : arg5.IsWhole)
      (arg6 : Memref sig .scVector .hbm S32x4x32 .i32) (_ : arg6.IsWhole)
      (arg7 : Memref sig .scVector .hbm S8192x1024 .f32) (_ : arg7.IsWhole)
      (arg8 : Memref sig .scVector .hbm S8192 .f32) (_ : arg8.IsWhole)
      (arg9 : Memref sig .scVector .vmem S32x1024 .f32) (_ : arg9.IsWhole)
      (arg10 : Memref sig .scVector .vmem S32x1024 .f32) (_ : arg10.IsWhole)
      (arg11 : Memref sig .scVector .vmem S4x32 .f32) (_ : arg11.IsWhole)
      (arg12 : Memref sig .scVector .vmem S4x32 .f32) (_ : arg12.IsWhole)
      (arg13 : Memref sig .scVector .vmem S4x32 .i32) (_ : arg13.IsWhole)
      (arg14 : Memref sig .scVector .vmem S4x32 .i32) (_ : arg14.IsWhole)
      (_ _ _ _ _ _ : DmaSems sig S_), β i) : β x.i :=
  f x.i x.x x.hx x.g0 x.hg0 x.g1 x.hg1 x.p0 x.hp0 x.p1 x.hp1 x.xs x.hxs x.gs x.hgs x.b0 x.hb0 x.b1 x.hb1
    x.lg0 x.hlg0 x.lg1 x.hlg1 x.lp0 x.hlp0 x.lp1 x.hlp1 x.semI x.semR x.semS0 x.semS1 x.semT0 x.semT1

/-- The tile's list of gates of side `w`: the first choices' or the second's. -/
def lg (x : Ctx) : Bool → Memref sig .scVector .vmem S4x32 .f32
  | false => x.lg0
  | true => x.lg1
theorem hlg (x : Ctx) : ∀ w, (x.lg w).IsWhole
  | false => x.hlg0
  | true => x.hlg1
/-- The tile's list of positions of side `w`. -/
def lp (x : Ctx) : Bool → Memref sig .scVector .vmem S4x32 .i32
  | false => x.lp0
  | true => x.lp1
theorem hlp (x : Ctx) : ∀ w, (x.lp w).IsWhole
  | false => x.hlp0
  | true => x.hlp1
/-- The array of gates of side `w` in HBM, -/
def g (x : Ctx) : Bool → Memref sig .scVector .hbm S32x4x32 .f32
  | false => x.g0
  | true => x.g1
/-- and that of positions. -/
def p (x : Ctx) : Bool → Memref sig .scVector .hbm S32x4x32 .i32
  | false => x.p0
  | true => x.p1
/-- The row buffer of set `s`. -/
def buf (x : Ctx) : Bool → Memref sig .scVector .vmem S32x1024 .f32
  | false => x.b0
  | true => x.b1
theorem hbuf (x : Ctx) : ∀ s, (x.buf s).IsWhole
  | false => x.hb0
  | true => x.hb1
/-- The rows' semaphore of set `s`, -/
def semS (x : Ctx) : Bool → DmaSems sig S_
  | false => x.semS0
  | true => x.semS1
/-- and the gates'. -/
def semT (x : Ctx) : Bool → DmaSems sig S_
  | false => x.semT0
  | true => x.semT1

end Ctx

/-- One memory action: a side's list of gates or of positions copied in, and the wait; a chunk of rows copied in, and the
    wait; 128 columns of chunk `c`'s rows scattered to a side's positions, and the wait; the chunk's gates, and the wait. -/
inductive Act
  | ldg (w : Bool)
  | ldgw (w : Bool)
  | ldp (w : Bool)
  | ldpw (w : Bool)
  | rd (c : Fin 4)
  | rdw (c : Fin 4)
  | sca (c : Fin 4) (j : Fin 8) (w : Bool)
  | swt (c : Fin 4) (j : Fin 8) (w : Bool)
  | gat (c : Fin 4) (w : Bool)
  | gwt (c : Fin 4) (w : Bool)

/-- The buffer of chunk `c`: the two are used in turn. -/
def slot (c : Fin 4) : Bool := c.val % 2 == 1

theorem inb_col (j : Fin 8) : ∀ a, (![0, 128 * j.val] : Fin 2 → Nat) a + S32x128.size a ≤ S32x1024.size a := by
  revert j; decide
theorem inb_xcol (j : Fin 8) : ∀ a, (![0, 128 * j.val] : Fin 2 → Nat) a + S8192x128.size a ≤ S8192x1024.size a := by
  revert j; decide
theorem inb_row (c : Fin 4) : ∀ a, (![c.val, 0] : Fin 2 → Nat) a + S1x32.size a ≤ S4x32.size a := by
  revert c; decide

section
variable (x : Ctx)

/-- A chunk's row of a side's positions, as the list a scatter reads, -/
abbrev posRow (c : Fin 4) (w : Bool) : Memref sig .scVector .vmem S32 .i32 :=
  ((x.lp w).slice (Rect.unit (s := S4x32) ![c.val, 0] S1x32.size (inb_row c)) (fun _ => rfl)).squeeze S32 squeezes_S1x32_S32
/-- and of its gates. -/
abbrev gateRow (c : Fin 4) (w : Bool) : Memref sig .scVector .vmem S32 .f32 :=
  ((x.lg w).slice (Rect.unit (s := S4x32) ![c.val, 0] S1x32.size (inb_row c)) (fun _ => rfl)).squeeze S32 squeezes_S1x32_S32
/-- A row buffer's block of 128 columns, -/
abbrev bufCol (s : Bool) (j : Fin 8) : Memref sig .scVector .vmem S32x128 .f32 :=
  (x.buf s).slice (Rect.unit (s := S32x1024) ![0, 128 * j.val] S32x128.size (inb_col j)) (fun _ => rfl)
/-- and the result's. -/
abbrev xsCol (j : Fin 8) : Memref sig .scVector .hbm S8192x128 .f32 :=
  x.xs.slice (Rect.unit (s := S8192x1024) ![0, 128 * j.val] S8192x128.size (inb_xcol j)) (fun _ => rfl)
/-- The gates' result, whole. -/
abbrev gsAll : Memref sig .scVector .hbm S8192 .f32 :=
  x.gs.slice (Rect.unit (s := S8192) ![0] S8192.size inb_S8192_S8192_0) (fun _ => rfl)
/-- The tile's block of a side's gates, -/
abbrev gBlk (w : Bool) : Memref sig .scVector .hbm S4x32 .f32 :=
  ((x.g w).slice (Rect.unit (s := S32x4x32) (k0_off1 x.i) S1x4x32.size (k0_off1_inb x.i)) (fun _ => rfl)).squeeze S4x32 squeezes_S1x4x32_S4x32
/-- and of its positions. -/
abbrev pBlk (w : Bool) : Memref sig .scVector .hbm S4x32 .i32 :=
  ((x.p w).slice (Rect.unit (s := S32x4x32) (k0_off1 x.i) S1x4x32.size (k0_off1_inb x.i)) (fun _ => rfl)).squeeze S4x32 squeezes_S1x4x32_S4x32
/-- The chunk's rows of the tokens. -/
abbrev xBlk (c : Fin 4) : Memref sig .scVector .hbm S32x1024 .f32 :=
  x.x.slice (Rect.unit (s := S4096x1024) (k0_off2 x.i (BitVec.ofNat 32 (32 * c.val))) S32x1024.size (k0_off2_inb x.i c)) (fun _ => rfl)

/-- An action's program. -/
def denote : Act → Prog (TpuEff nD τ sig (Elt F) Λ₀ (.scVector ((x.i 0).castLE hcore0) ((x.i 1).castLE hsub0))) PUnit
  | .ldg w => Prog.lift (.enqueueDma (gBlk x w) (.here (x.lg w)) (.dma x.semI.sem) ((View.wordExact_bits rfl).reshape _ _) (x.hlg w).wordExact ⟨Or.inl rfl, trivial⟩)
  | .ldgw w => Prog.lift (.waitDma2 x.semI.sem (gBlk x w) (x.lg w) ((View.wordExact_bits rfl).reshape _ _) (x.hlg w).wordExact)
  | .ldp w => Prog.lift (.enqueueDma (pBlk x w) (.here (x.lp w)) (.dma x.semI.sem) ((View.wordExact_bits rfl).reshape _ _) (x.hlp w).wordExact ⟨Or.inl rfl, trivial⟩)
  | .ldpw w => Prog.lift (.waitDma2 x.semI.sem (pBlk x w) (x.lp w) ((View.wordExact_bits rfl).reshape _ _) (x.hlp w).wordExact)
  | .rd c => Prog.lift (.enqueueDma (xBlk x c) (.here (x.buf (slot c))) (.dma x.semR.sem) (View.wordExact_bits rfl) (x.hbuf _).wordExact ⟨Or.inl rfl, trivial⟩)
  | .rdw c => Prog.lift (.waitDma2 x.semR.sem (xBlk x c) (x.buf (slot c)) (View.wordExact_bits rfl) (x.hbuf _).wordExact)
  | .sca c j w => SparseCore.enqueueIndirectScatter rfl (bufCol x (slot c) j) (xsCol x j) gathers_S8192x128_S32x128 (posRow x c w) rfl (x.semS (slot c)).sem rfl (Or.inl rfl)
  | .swt c j w => SparseCore.waitIndirectScatter (x.semS (slot c)).sem (bufCol x (slot c) j) (xsCol x j) (View.wordExact_bits rfl) (View.wordExact_bits rfl)
  | .gat c w => SparseCore.enqueueIndirectScatter rfl (gateRow x c w) (gsAll x) gathers_S8192_S32 (posRow x c w) rfl (x.semT (slot c)).sem rfl (Or.inl rfl)
  | .gwt c w => SparseCore.waitIndirectScatter (x.semT (slot c)).sem (gateRow x c w) (gsAll x) ((View.wordExact_bits rfl).reshape _ _) (View.wordExact_bits rfl)

/-- Actions in order, then the rest of the program. -/
def runK {β : Type} : List Act → Prog (TpuEff nD τ sig (Elt F) Λ₀ (.scVector ((x.i 0).castLE hcore0) ((x.i 1).castLE hsub0))) β →
    Prog (TpuEff nD τ sig (Elt F) Λ₀ (.scVector ((x.i 0).castLE hcore0) ((x.i 1).castLE hsub0))) β
  | [], p => p
  | a :: l, p => denote x a >>= fun _ => runK l p

theorem runK_append {β : Type} (l bs : List Act) (p : Prog (TpuEff nD τ sig (Elt F) Λ₀ (.scVector ((x.i 0).castLE hcore0) ((x.i 1).castLE hsub0))) β) :
    runK x (l ++ bs) p = runK x l (runK x bs p) := by
  induction l with
  | nil => rfl
  | cons a l ih => simp only [List.cons_append, runK, ih]

theorem runK_bind {β γ : Type} (l : List Act) (p : Prog (TpuEff nD τ sig (Elt F) Λ₀ (.scVector ((x.i 0).castLE hcore0) ((x.i 1).castLE hsub0))) β)
    (f : β → Prog (TpuEff nD τ sig (Elt F) Λ₀ (.scVector ((x.i 0).castLE hcore0) ((x.i 1).castLE hsub0))) γ) :
    runK x l p >>= f = runK x l (p >>= f) := by
  induction l with
  | nil => rfl
  | cons a l ih => simp only [runK, Idealize.SL.Sem.Prog.bind_assoc, ih]

end

/-- A chunk's sixteen streams: for each block of columns, the first side's and the second's. -/
def sides {α : Type} (f : Fin 8 → Bool → α) : List α := (List.finRange 8).flatMap fun j => [f j false, f j true]

/-- The four lists copied in; -/
def loads : List Act := [Act.ldg false, Act.ldg true, Act.ldp false, Act.ldp true]
/-- and waited for. -/
def loadsW : List Act := [Act.ldgw false, Act.ldgw true, Act.ldpw false, Act.ldpw true]
/-- Chunk `c` scattered; -/
def issue (c : Fin 4) : List Act := sides (Act.sca c) ++ [Act.gat c false, Act.gat c true]
/-- and waited for. -/
def collect (c : Fin 4) : List Act := sides (Act.swt c) ++ [Act.gwt c false, Act.gwt c true]

/-- Chunk `c`: the wait for its rows; the next chunk's rows started, once the scatters of their buffer are waited for;
    its own scatters. -/
def chunk (c : Fin 4) : List Act :=
  [Act.rdw c]
    ++ (if h : c.val + 1 < 4 then
        (if 1 ≤ c.val then collect ⟨c.val - 1, by omega⟩ else []) ++ [Act.rd ⟨c.val + 1, h⟩]
      else [])
    ++ issue c

/-- The whole body's actions. -/
def acts : List Act :=
  loads ++ [Act.rd 0] ++ loadsW ++ (List.finRange 4).flatMap chunk ++ collect 2 ++ collect 3

/-- Those numbered `a` up to `b`. -/
def seg (a b : Nat) : List Act := (acts.drop a).take (b - a)

end Cert.Expand.Acts

end
-- ==== Proof.Expand.Scatter.lean ====
/- A chunk's scatters: the streams issued on its two semaphores, and what each row of a stream delivers.

Stream `(j, w)` of chunk `c` writes 128 columns of the chunk's thirty-two rows to the rows of the result that row `c` of
side `w`'s positions names; a further stream of each side writes the chunk's gates. Every named row of the result is held
on its own, so nothing is asked of the positions here but their range. -/
module

public import proofs.«01_k».proof.Proof.Scatters
public import proofs.«01_k».proof.Proof.Expand.Acts
public import Idealize.ShloMosaic.Lib.ValueIdxCore
public import Idealize.ShloMosaic.Lib.Memref

@[expose] public section

noncomputable section

namespace Cert.Expand.Scatter

open Idealize.ShloMosaic Idealize.ShloMosaic.ValueIdx
open Idealize.SL
open Idealize.SL.BI (sProp Storable bigSep bigSep_mono bigSep_congr bigSep_empty)
open scoped Idealize.SL.BI
open Idealize.SL.BI.BIBase Idealize.SL.BI.Laws Idealize.SL.Sem Idealize.SL.ProofMode
open Idealize.SL.RA
open Idealize.ShloMosaic.SparseCore (V rows scatterRowPayload)
open Idealize.ShloMosaic.Transfers (Batch MayWaits)
open Cert.Expand Cert.Expand.Acts Cert.Proof.Own Cert.Proof.Scatters
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

/-- The thread the body runs on. -/
abbrev thr (x : Ctx) (d : Dev nD) : Thread nD τ := V d ((x.i 0).castLE hcore0) ((x.i 1).castLE hsub0)

/-- The row axis of a block of the result's columns, and of the gates' result. -/
abbrev axX : Fin S8192x128.rank := Shape.Gathers.axis gathers_S8192x128_S32x128
abbrev axG : Fin S8192.rank := Shape.Gathers.axis gathers_S8192_S32

/-- What one row of 128 lanes credits its semaphore, -/
def N : ℕ := (sig).dmaCredit .scVector (Kind.scVector.table .hbm) 0 (S8192x128.rowShape 0) .f32
/-- and one gate. -/
def M : ℕ := (sig).dmaCredit .scVector (Kind.scVector.table .hbm) 0 (S8192.rowShape 0) .f32

theorem N_pos : 0 < N := by decide
theorem M_pos : 0 < M := by decide
theorem N_row (x : Ctx) (j : Fin 8) (r : Fin (S8192x128.size axX)) :
    ((xsCol x j).slice (S8192x128.rowRect axX r) (S8192x128.stride_rowRect _ r)).view.dmaCredit = N := rfl
theorem M_row (x : Ctx) (r : Fin (S8192.size axG)) :
    ((gsAll x).slice (S8192.rowRect axG r) (S8192.stride_rowRect _ r)).view.dmaCredit = M := rfl
theorem N_col (x : Ctx) (s : Bool) (j : Fin 8) : (bufCol x s j).view.dmaCredit = 32 * N := by
  show (sig).dmaCredit .scVector (Kind.scVector.table .vmem) 0 S32x128 .f32 = 32 * N
  decide
theorem M_gate (x : Ctx) (c : Fin 4) (w : Bool) : (gateRow x c w).view.dmaCredit = 32 * M := by
  show (sig).dmaCredit .scVector (Kind.scVector.table .vmem) 0 S32 .f32 = 32 * M
  decide

attribute [irreducible] N M

variable {d : Dev nD}

/-- Waits recorded on top of `W`, all at `ι`. -/
def owesW (x : Ctx) (d : Dev nD) (O : CellTallies nD τ sig Ix) (W : Waits sig Ix) (ι : Ix) : sProp 𝕄 :=
  iprop(∃ W', ⌜∀ p ∈ W', p ∈ W ∨ p.2 = ι⌝ ∗ owes (thr x d) O W')

/-- Side `w`'s share of a row buffer, -/
def bq (w : Bool) : PosShare TreeShare := pieceOf fullShare 2 (by decide) (if w then 1 else 0)
/-- and a stream's share of a row of positions: the gates' stream first, then the eight blocks'. -/
def lq (j : Fin 9) : PosShare TreeShare := pieceOf fullShare 9 (by decide) j

/-- A row of the result's block `j` of columns, at the result's contents `f`, -/
def xsPart (x : Ctx) (d : Dev nD) (j : Fin 8) (k : Fin 8192) (f : Buf (Elt F) (x.xs.view.loc (thr x d))) : sProp 𝕄 :=
  (xsCol x j).view.loc (thr x d) ↦[((xsCol x j).view.slice (S8192x128.rowRect axX k)).set]{fullShare} f
/-- and an entry of the gates' result. -/
def gsPart (x : Ctx) (d : Dev nD) (k : Fin 8192) (f : Buf (Elt F) (x.gs.view.loc (thr x d))) : sProp 𝕄 :=
  (gsAll x).view.loc (thr x d) ↦[((gsAll x).view.slice (S8192.rowRect axG k)).set]{fullShare} f

/-- What a tile works with: the tokens, its lists of positions and gates, the rows the positions name, and the two
    results as they are before and as they are to be. -/
structure Data (F : FTy → Type) (x : Ctx) (d : Dev nD) where
  q : PosShare TreeShare
  fx : Buf (Elt F) (x.x.view.loc (thr x d))
  fl : (w : Bool) → Buf (Elt F) ((x.lp w).view.loc (thr x d))
  fg : (w : Bool) → Buf (Elt F) ((x.lg w).view.loc (thr x d))
  ix : Bool → S4x32.Idx → Fin 8192
  hl : ∀ w k, ((x.lp w).view.read (Elt F) (fl w) k).toNat = (ix w k).val
  xs0 : Buf (Elt F) (x.xs.view.loc (thr x d))
  xs1 : Buf (Elt F) (x.xs.view.loc (thr x d))
  gs0 : Buf (Elt F) (x.gs.view.loc (thr x d))
  gs1 : Buf (Elt F) (x.gs.view.loc (thr x d))
  hxs : ∀ (c : Fin 4) (w : Bool) (r : Fin 32) (m : Fin 1024),
    x.xs.view.read (Elt F) xs1 (ix2 (ix w (ix2 c r)) m) = (xBlk x c).view.read (Elt F) fx (ix2 r m)
  hgs : ∀ (c : Fin 4) (w : Bool) (r : Fin 32),
    x.gs.view.read (Elt F) gs1 (ix1 (ix w (ix2 c r))) = (x.lg w).view.read (Elt F) (fg w) (ix2 c r)

variable {x : Ctx} (D : Data F x d)

theorem row_emb (c : Fin 4) (k : S32.Idx) (hn : S32.numel = S1x32.numel) :
    (Rect.unit (s := S4x32) ![c.val, 0] S1x32.size (inb_row c)).emb (Shape.reshapeEquiv hn k) = ix2 c (k 0) := by
  have h : ∀ (hn : S32.numel = S1x32.numel) (m : Fin 32), (Shape.reshapeEquiv hn (ix1 m) : S1x32.Idx) = ix2 0 m := by decide +kernel
  obtain ⟨m, rfl⟩ : ∃ m : Fin 32, k = ix1 m := ⟨k 0, eq_ix1 k⟩
  refine (congrArg _ (h _ m)).trans ?_
  funext a
  apply Fin.ext
  match a with
  | 0 => show c.val + 1 * 0 = c.val; omega
  | 1 => show 0 + 1 * m.val = m.val; omega

theorem read_posRow (c : Fin 4) (w : Bool) (k : S32.Idx) (f : Buf (Elt F) ((x.lp w).view.loc (thr x d))) :
    (posRow x c w).view.read (Elt F) f k = (x.lp w).view.read (Elt F) f (ix2 c (k 0)) := by
  show (x.lp w).view.read (Elt F) f ((Rect.unit (s := S4x32) ![c.val, 0] S1x32.size (inb_row c)).emb (Shape.reshapeEquiv _ k)) = _
  exact congrArg _ (row_emb c k _)

theorem read_gateRow (c : Fin 4) (w : Bool) (k : S32.Idx) (f : Buf (Elt F) ((x.lg w).view.loc (thr x d))) :
    (gateRow x c w).view.read (Elt F) f k = (x.lg w).view.read (Elt F) f (ix2 c (k 0)) := by
  show (x.lg w).view.read (Elt F) f ((Rect.unit (s := S4x32) ![c.val, 0] S1x32.size (inb_row c)).emb (Shape.reshapeEquiv _ k)) = _
  exact congrArg _ (row_emb c k _)

theorem Data.hin (c : Fin 4) (w : Bool) (k : S32.Idx) : ((posRow x c w).view.read (Elt F) (D.fl w) k).toNat < S8192x128.size axX := by
  rw [read_posRow, D.hl]; exact (D.ix w _).isLt
theorem Data.hinG (c : Fin 4) (w : Bool) (k : S32.Idx) : ((posRow x c w).view.read (Elt F) (D.fl w) k).toNat < S8192.size axG := by
  rw [read_posRow, D.hl]; exact (D.ix w _).isLt

theorem Data.pos_eq (c : Fin 4) (w : Bool) (r : Fin 32) (hn : S32.numel = 32) :
    ((posRow x c w).view.read (Elt F) (D.fl w) (S32.rowMajor.symm (r.cast hn.symm))).toNat = (D.ix w (ix2 c r)).val := by
  have hrow : ∀ k : Fin 32, ((S32.rowMajor.symm k) 0).val = k.val := by decide +kernel
  rw [read_posRow, D.hl]
  exact congrArg (fun k : Fin 32 => (D.ix w (ix2 c k)).val) (Fin.ext (hrow _))

theorem Data.rows_eq (c : Fin 4) (w : Bool) (r : Fin (S32x128.size (Shape.Gathers.axis' gathers_S8192x128_S32x128))) :
    rows (F := F) ((posRow x c w).view.read (Elt F) (D.fl w)) rfl (D.hin c w) r = D.ix w (ix2 c r) :=
  Fin.ext (D.pos_eq c w r rfl)
theorem Data.rowsG_eq (c : Fin 4) (w : Bool) (r : Fin (S32.size (Shape.Gathers.axis' gathers_S8192_S32))) :
    rows (F := F) ((posRow x c w).view.read (Elt F) (D.fl w)) rfl (D.hinG c w) r = D.ix w (ix2 c r) :=
  Fin.ext (D.pos_eq c w r rfl)

/-- What stream `(j, w)` delivers of its row `r`, -/
def Data.strD (c : Fin 4) (fb : Buf (Elt F) ((x.buf (slot c)).view.loc (thr x d))) (j : Fin 8) (w : Bool) (r : Fin 32) : sProp 𝕄 :=
  scatDeliv (thr x d) (bufCol x (slot c) j) (xsCol x j) gathers_S8192x128_S32x128 (posRow x c w) rfl (bq w) (lq j.succ) fb (fun _ => D.xs0) (D.fl w)
    (D.hin c w) r
/-- and side `w`'s stream of gates of its entry `r`. -/
def Data.gtrD (c : Fin 4) (w : Bool) (r : Fin 32) : sProp 𝕄 :=
  scatDeliv (thr x d) (gateRow x c w) (gsAll x) gathers_S8192_S32 (posRow x c w) rfl fullShare (lq 0) (D.fg w) (fun _ => D.gs0) (D.fl w)
    (D.hinG c w) r

/-- The rows' deliveries, in the order of issue; -/
def Data.dlv (c : Fin 4) (fb : Buf (Elt F) ((x.buf (slot c)).view.loc (thr x d))) (t : Fin 512) : sProp 𝕄 :=
  D.strD c fb ⟨t.val / 64, by omega⟩ (t.val / 32 % 2 == 1) ⟨t.val % 32, by omega⟩
/-- the gates'. -/
def Data.gdlv (c : Fin 4) (t : Fin 64) : sProp 𝕄 := D.gtrD c (t.val / 32 == 1) ⟨t.val % 32, by omega⟩

instance strD_storable (c : Fin 4) (fb : Buf (Elt F) ((x.buf (slot c)).view.loc (thr x d))) (j : Fin 8) (w : Bool) (r : Fin 32) :
    Storable (upEmb : UEmb _ 𝕄) (D.strD c fb j w r : sProp 𝕄) :=
  scatDeliv_storable (thr x d) (bufCol x (slot c) j) (xsCol x j) gathers_S8192x128_S32x128 (posRow x c w) rfl (bq w) (lq j.succ) fb (fun _ => D.xs0) (D.fl w)
    (D.hin c w) r
instance gtrD_storable (c : Fin 4) (w : Bool) (r : Fin 32) : Storable (upEmb : UEmb _ 𝕄) (D.gtrD c w r : sProp 𝕄) :=
  scatDeliv_storable (thr x d) (gateRow x c w) (gsAll x) gathers_S8192_S32 (posRow x c w) rfl fullShare (lq 0) (D.fg w) (fun _ => D.gs0) (D.fl w)
    (D.hinG c w) r
instance (c : Fin 4) (fb : Buf (Elt F) ((x.buf (slot c)).view.loc (thr x d))) (t : Fin 512) :
    Storable (upEmb : UEmb _ 𝕄) (D.dlv c fb t : sProp 𝕄) := strD_storable D c fb _ _ _
instance (c : Fin 4) (t : Fin 64) : Storable (upEmb : UEmb _ 𝕄) (D.gdlv c t : sProp 𝕄) := gtrD_storable D c _ _

theorem Data.dlv_eq (c : Fin 4) (fb : Buf (Elt F) ((x.buf (slot c)).view.loc (thr x d))) (j : Fin 8) (w : Bool) (r : Fin 32)
    (h : 32 * (2 * j.val + w.toNat) + r.val < 512) :
    (D.dlv c fb ⟨32 * (2 * j.val + w.toNat) + r.val, h⟩ : sProp 𝕄) = D.strD c fb j w r := by
  have hw : w.toNat < 2 := by cases w <;> decide
  have hr := r.isLt
  unfold Data.dlv
  have h1 : (⟨(32 * (2 * j.val + w.toNat) + r.val) / 64, by omega⟩ : Fin 8) = j := Fin.ext (by show _ / 64 = j.val; omega)
  have h2 : ((32 * (2 * j.val + w.toNat) + r.val) / 32 % 2 == 1) = w := by
    rw [show (32 * (2 * j.val + w.toNat) + r.val) / 32 % 2 = w.toNat by omega]; cases w <;> rfl
  have h3 : (⟨(32 * (2 * j.val + w.toNat) + r.val) % 32, by omega⟩ : Fin 32) = r := Fin.ext (by show _ % 32 = r.val; omega)
  show D.strD c fb ⟨(32 * (2 * j.val + w.toNat) + r.val) / 64, _⟩ ((32 * (2 * j.val + w.toNat) + r.val) / 32 % 2 == 1) ⟨(32 * (2 * j.val + w.toNat) + r.val) % 32, _⟩ = _
  rw [h1, h2, h3]

theorem Data.gdlv_eq (c : Fin 4) (w : Bool) (r : Fin 32) (h : 32 * w.toNat + r.val < 64) :
    (D.gdlv c ⟨32 * w.toNat + r.val, h⟩ : sProp 𝕄) = D.gtrD c w r := by
  have hw : w.toNat < 2 := by cases w <;> decide
  have hr := r.isLt
  unfold Data.gdlv
  have h2 : ((32 * w.toNat + r.val) / 32 == 1) = w := by
    rw [show (32 * w.toNat + r.val) / 32 = w.toNat by omega]; cases w <;> rfl
  have h3 : (⟨(32 * w.toNat + r.val) % 32, by omega⟩ : Fin 32) = r := Fin.ext (by show _ % 32 = r.val; omega)
  show D.gtrD c ((32 * w.toNat + r.val) / 32 == 1) ⟨(32 * w.toNat + r.val) % 32, _⟩ = _
  rw [h2, h3]

/-- The rows of block `j` that chunk `c`'s positions of side `w` name, at the result's contents `f`; -/
def Data.tgt (c : Fin 4) (j : Fin 8) (w : Bool) (f : Buf (Elt F) (x.xs.view.loc (thr x d))) : sProp 𝕄 :=
  bigSep Finset.univ fun r : Fin 32 => xsPart x d j (D.ix w (ix2 c r)) f
/-- the gates' entries they name. -/
def Data.gtgt (c : Fin 4) (w : Bool) (f : Buf (Elt F) (x.gs.view.loc (thr x d))) : sProp 𝕄 :=
  bigSep Finset.univ fun r : Fin 32 => gsPart x d (D.ix w (ix2 c r)) f

/-- A stream's operands: its side's share of its columns of the buffer, the rows it names, its share of the positions; -/
def Data.opd (c : Fin 4) (fb : Buf (Elt F) ((x.buf (slot c)).view.loc (thr x d))) (j : Fin 8) (w : Bool) : sProp 𝕄 :=
  iprop(((bufCol x (slot c) j).view.loc (thr x d) ↦[(bufCol x (slot c) j).view.set]{bq w} fb)
    ∗ D.tgt c j w D.xs0
    ∗ ((posRow x c w).view.loc (thr x d) ↦[(posRow x c w).view.set]{lq j.succ} D.fl w))
/-- and a stream of gates'. -/
def Data.gopd (c : Fin 4) (w : Bool) : sProp 𝕄 :=
  iprop(((gateRow x c w).view.loc (thr x d) ↦[(gateRow x c w).view.set]{fullShare} D.fg w)
    ∗ D.gtgt c w D.gs0
    ∗ ((posRow x c w).view.loc (thr x d) ↦[(posRow x c w).view.set]{lq 0} D.fl w))

variable (EC : UEmb Counters (MT nD τ sig Ix (Elt F) Name U Lvl)) (𝒱 : Variants) (bd : Option 𝒱.V) (ι : Ix)
variable {β : Type} {Q : β → sProp (MT nD τ sig Ix (Elt F) Name U Lvl)}

/-- One stream issued. -/
theorem wp_sca [Infinite Name] [EC.LandsIn (upEmb : UEmb _ 𝕄)] (c : Fin 4) (j : Fin 8) (w : Bool)
    (fb : Buf (Elt F) ((x.buf (slot c)).view.loc (thr x d)))
    {k : PUnit → Prog (TpuEff nD τ sig (Elt F) Λ₀ (thr x d).2) β} :
    iprop(D.opd c fb j w ∗ Batch EC (thr x d) (.dma (x.semS (slot c)).sem) ι N (D.dlv c fb) (32 * (2 * j.val + w.toNat)) 0)
      ⊢ iprop((Batch EC (thr x d) (.dma (x.semS (slot c)).sem) ι N (D.dlv c fb) (32 * (2 * j.val + w.toNat) + 32) 0
            -∗ wp frame (wpE (defs₀ (F := F)) 𝒱 (thr x d) bd) Set.univ (k ⟨⟩) Q)
          -∗ wp frame (wpE (defs₀ (F := F)) 𝒱 (thr x d) bd) Set.univ (denote x (.sca c j w) >>= k) Q) := by
  have hw : w.toNat < 2 := by cases w <;> decide
  have hj := j.isLt
  have key := wp_scatterBatch (defs := defs₀ (F := F)) EC 𝒱 (thr x d) bd (src := bufCol x (slot c) j) (dst := xsCol x j) (hg := gathers_S8192x128_S32x128)
    (offs := posRow x c w) (hn := rfl) (sem := (x.semS (slot c)).sem) (hp := rfl) (he := rfl) (hsp := Or.inl rfl)
    (q := bq w) (qo := lq j.succ) (fs := fb) (fd := fun _ => D.xs0) (fo := D.fl w) (n := 512) (D := D.dlv c fb) (j := 32 * (2 * j.val + w.toNat)) (u := 0)
    (k := k) (Q := Q) (hr := by decide) ι N (N_row x j) (D.hin c w) (by show _ + 32 ≤ 512; omega) (Nat.zero_le _)
    (fun r => Entails.of_eq (D.dlv_eq c fb j w r _).symm)
  have ht : (D.tgt c j w D.xs0 : sProp 𝕄) ⊢ bigSep Finset.univ fun r : Fin (S32x128.size (Shape.Gathers.axis' gathers_S8192x128_S32x128)) =>
      ((xsCol x j).view.loc (thr x d) ↦[((xsCol x j).view.slice (S8192x128.rowRect axX
        (rows (F := F) ((posRow x c w).view.read (Elt F) (D.fl w)) rfl (D.hin c w) r))).set]{fullShare} D.xs0) := by
    refine Entails.of_eq (bigSep_congr fun r _ => ?_)
    rw [D.rows_eq c w r]
    rfl
  iintro ⟨H, HB⟩ Hk
  unfold Data.opd
  icases H with ⟨H1, H2, H3⟩
  ihave H2 := ht $$ H2
  iapply key $$ [H1 H2 H3 HB]
  · isplitl [H1]; · iexact H1
    isplitl [H2]; · iexact H2
    isplitl [H3]; · iexact H3
    iexact HB
  iexact Hk

/-- One stream of gates issued. -/
theorem wp_gat [Infinite Name] [EC.LandsIn (upEmb : UEmb _ 𝕄)] (c : Fin 4) (w : Bool)
    {k : PUnit → Prog (TpuEff nD τ sig (Elt F) Λ₀ (thr x d).2) β} :
    iprop(D.gopd c w ∗ Batch EC (thr x d) (.dma (x.semT (slot c)).sem) ι M (D.gdlv c) (32 * w.toNat) 0)
      ⊢ iprop((Batch EC (thr x d) (.dma (x.semT (slot c)).sem) ι M (D.gdlv c) (32 * w.toNat + 32) 0
            -∗ wp frame (wpE (defs₀ (F := F)) 𝒱 (thr x d) bd) Set.univ (k ⟨⟩) Q)
          -∗ wp frame (wpE (defs₀ (F := F)) 𝒱 (thr x d) bd) Set.univ (denote x (.gat c w) >>= k) Q) := by
  have hw : w.toNat < 2 := by cases w <;> decide
  have key := wp_scatterBatch (defs := defs₀ (F := F)) EC 𝒱 (thr x d) bd (src := gateRow x c w) (dst := gsAll x) (hg := gathers_S8192_S32)
    (offs := posRow x c w) (hn := rfl) (sem := (x.semT (slot c)).sem) (hp := rfl) (he := rfl) (hsp := Or.inl rfl)
    (q := fullShare) (qo := lq 0) (fs := D.fg w) (fd := fun _ => D.gs0) (fo := D.fl w) (n := 64) (D := D.gdlv c) (j := 32 * w.toNat) (u := 0)
    (k := k) (Q := Q) (hr := by decide) ι M (M_row x) (D.hinG c w) (by show _ + 32 ≤ 64; omega) (Nat.zero_le _)
    (fun r => Entails.of_eq (D.gdlv_eq c w r _).symm)
  have ht : (D.gtgt c w D.gs0 : sProp 𝕄) ⊢ bigSep Finset.univ fun r : Fin (S32.size (Shape.Gathers.axis' gathers_S8192_S32)) =>
      ((gsAll x).view.loc (thr x d) ↦[((gsAll x).view.slice (S8192.rowRect axG
        (rows (F := F) ((posRow x c w).view.read (Elt F) (D.fl w)) rfl (D.hinG c w) r))).set]{fullShare} D.gs0) := by
    refine Entails.of_eq (bigSep_congr fun r _ => ?_)
    rw [D.rowsG_eq c w r]
    rfl
  iintro ⟨H, HB⟩ Hk
  unfold Data.gopd
  icases H with ⟨H1, H2, H3⟩
  ihave H2 := ht $$ H2
  iapply key $$ [H1 H2 H3 HB]
  · isplitl [H1]; · iexact H1
    isplitl [H2]; · iexact H2
    isplitl [H3]; · iexact H3
    iexact HB
  iexact Hk

/-- One wait of a batch whose streams are all issued, at any destination of the stream's credit. -/
theorem wp_strWait [EC.LandsIn (upEmb : UEmb _ 𝕄)] {n t : ℕ} {s s' : Shape} {e e' : EltTy} {sp sp' : Space} {K : ℕ} {Dl : Fin n → sProp 𝕄} (sem : DmaSem sig)
    {src : Memref sig (thr x d).2.kind sp s e} {dst : Memref sig (thr x d).2.kind sp' s' e'} (hs : src.view.WordExact) (hd : dst.view.WordExact)
    (hc : dst.view.dmaCredit = 32 * K) (ht : 32 * t + 32 ≤ n) (O : CellTallies nD τ sig Ix) (W : Waits sig Ix)
    {k : PUnit → Prog (TpuEff nD τ sig (Elt F) Λ₀ (thr x d).2) β} :
    iprop(MayWaits (thr x d) ι O ∗ owesW x d O W ι ∗ Batch EC (thr x d) (.dma sem) ι K Dl n (K * (32 * t)))
      ⊢ iprop((iprop(owesW x d O W ι ∗ Batch EC (thr x d) (.dma sem) ι K Dl n (K * (32 * t + 32)))
            -∗ wp frame (wpE (defs₀ (F := F)) 𝒱 (thr x d) bd) Set.univ (k ⟨⟩) Q)
          -∗ wp frame (wpE (defs₀ (F := F)) 𝒱 (thr x d) bd) Set.univ (.op (.waitDma2 sem src dst hs hd) k) Q) := by
  have hu : K * (32 * t) + 32 * K = K * (32 * t + 32) := by rw [Nat.mul_comm 32 K, ← Nat.mul_add]
  iintro ⟨Hmw, HO, HB⟩ Hk
  unfold owesW
  icases HO with ⟨%W', %hW', HO⟩
  iapply (Transfers.wp_waitBatchMulO (defs := defs₀ (F := F)) EC 𝒱 (thr x d) bd (srcw := src) (dstw := dst) (sem := sem)
    (k := k) (Q := Q) ι (N := K) 32 hc (D := Dl) (j := n) (u := K * (32 * t))
    (by rw [hu]; exact Nat.mul_le_mul_left _ ht) (O := O) (W := W')) $$ [HB HO Hmw]
  · isplitl [HB]; · iexact HB
    isplitl [HO]; · iexact HO
    iapply (Transfers.MayWaits.elim (SemLoc.dma sem)) $$ Hmw
  rw [hu]
  iintro ⟨HB, HO⟩
  iapply Hk
  isplitr [HB]
  · iexists _
    isplitr [HO]
    on_goal 2 => iexact HO
    ipureintro
    intro p hp
    rcases Finset.mem_insert.mp hp with rfl | hp
    · exact Or.inr rfl
    · exact hW' p hp
  · iexact HB

end Cert.Expand.Scatter

end
-- ==== Proof.Expand.Scattered.lean ====
/- A chunk's scatters issued together and waited for together.

A chunk's part of the tile's holdings is its row of each list and the rows of the results its positions name. Its
scatters take the part, and the buffer of its rows; once they are waited for, the part is back with the named rows as
they are to be. -/
module

public import proofs.«01_k».proof.Proof.Expand.Scatter

@[expose] public section

noncomputable section

namespace Cert.Expand.Scatter

open Idealize.ShloMosaic Idealize.ShloMosaic.ValueIdx
open Idealize.SL
open Idealize.SL.BI (sProp Storable bigSep bigSep_mono bigSep_congr bigSep_empty bigSep_univ_equiv bigSep_univ_prod bigSep_univ_two bigSep_sep')
open scoped Idealize.SL.BI
open Idealize.SL.BI.BIBase Idealize.SL.BI.Laws Idealize.SL.Sem Idealize.SL.ProofMode
open Idealize.SL.RA
open Idealize.ShloMosaic.SparseCore (V rows scatterRowPayload)
open Idealize.ShloMosaic.Transfers (Batch MayWaits)
open Cert.Expand Cert.Expand.Acts Cert.Proof.Own Cert.Proof.Scatters
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

variable {d : Dev nD} {x : Ctx} (D : Data F x d)

section Loop
variable (𝒱 : Variants) (bd : Option 𝒱.V)
variable {β : Type} {Q : β → sProp (MT nD τ sig Ix (Elt F) Name U Lvl)}

/-- A list of actions made of `n` parts, run by an invariant that each part carries on. -/
theorem runK_parts {n : ℕ} (l : Fin n → List Act) (I : ℕ → sProp 𝕄)
    (hl : ∀ (k : Fin n) (p : Prog (TpuEff nD τ sig (Elt F) Λ₀ (thr x d).2) β),
      I k.val ⊢ iprop((I (k.val + 1) -∗ wp frame (wpE (defs₀ (F := F)) 𝒱 (thr x d) bd) Set.univ p Q)
        -∗ wp frame (wpE (defs₀ (F := F)) 𝒱 (thr x d) bd) Set.univ (runK x (l k) p) Q))
    (p : Prog (TpuEff nD τ sig (Elt F) Λ₀ (thr x d).2) β) :
    I 0 ⊢ iprop((I n -∗ wp frame (wpE (defs₀ (F := F)) 𝒱 (thr x d) bd) Set.univ p Q)
        -∗ wp frame (wpE (defs₀ (F := F)) 𝒱 (thr x d) bd) Set.univ (runK x ((List.finRange n).flatMap l) p) Q) := by
  have key : ∀ (m k : ℕ), k + m = n → I k ⊢ iprop((I n -∗ wp frame (wpE (defs₀ (F := F)) 𝒱 (thr x d) bd) Set.univ p Q)
        -∗ wp frame (wpE (defs₀ (F := F)) 𝒱 (thr x d) bd) Set.univ (runK x (((List.finRange n).drop k).flatMap l) p) Q) := by
    intro m
    induction m with
    | zero =>
      intro k hk
      obtain rfl : k = n := by omega
      rw [List.drop_of_length_le (by simp)]
      iintro H Hk
      iapply Hk $$ H
    | succ m ih =>
      intro k hk
      have hd : (List.finRange n).drop k = ⟨k, by omega⟩ :: (List.finRange n).drop (k + 1) := by
        rw [List.drop_eq_getElem_cons (by rw [List.length_finRange]; omega), List.getElem_finRange]; rfl
      rw [hd, List.flatMap_cons, runK_append]
      iintro H Hk
      iapply (hl ⟨k, Nat.lt_of_lt_of_eq (Nat.lt_add_of_pos_right (Nat.succ_pos m)) hk⟩ _) $$ H
      iintro H
      iapply (ih (k + 1) (by omega)) $$ H
      iexact Hk
  exact key n 0 (by omega)

end Loop

/-! ## The operands, split by stream -/

theorem cols_disjoint {n : ℕ} (h : ∀ j : Fin 8, ∀ a, (![0, 128 * j.val] : Fin 2 → Nat) a + (⟨2, ![n, 128]⟩ : Shape).size a ≤ (⟨2, ![n, 1024]⟩ : Shape).size a)
    (j j' : Fin 8) (hj : j ≠ j') :
    Disjoint (Rect.unit (s := ⟨2, ![n, 1024]⟩) ![0, 128 * j.val] ![n, 128] (h j)).set (Rect.unit (s := ⟨2, ![n, 1024]⟩) ![0, 128 * j'.val] ![n, 128] (h j')).set := by
  rw [Finset.disjoint_left]
  intro i hi hi'
  have h1 : 128 * j.val ≤ (i 1).val ∧ (i 1).val < 128 * j.val + 128 := Rect.mem_set_unit.mp hi 1
  have h2 : 128 * j'.val ≤ (i 1).val ∧ (i 1).val < 128 * j'.val + 128 := Rect.mem_set_unit.mp hi' 1
  exact hj (Fin.ext (by omega))

theorem cols_cover {n : ℕ} (h : ∀ j : Fin 8, ∀ a, (![0, 128 * j.val] : Fin 2 → Nat) a + (⟨2, ![n, 128]⟩ : Shape).size a ≤ (⟨2, ![n, 1024]⟩ : Shape).size a)
    (i : (⟨2, ![n, 1024]⟩ : Shape).Idx) : ∃ j : Fin 8, i ∈ (Rect.unit (s := ⟨2, ![n, 1024]⟩) ![0, 128 * j.val] ![n, 128] (h j)).set := by
  have h0 := idx2_lt0 i
  have h1 := idx2_lt1 i
  refine ⟨⟨(i 1).val / 128, by omega⟩, Rect.mem_set_unit.mpr fun a => ?_⟩
  match a with
  | 0 => show 0 ≤ (i 0).val ∧ (i 0).val < 0 + n; omega
  | 1 => show 128 * ((i 1).val / 128) ≤ (i 1).val ∧ (i 1).val < 128 * ((i 1).val / 128) + 128; omega

/-- A row buffer, whatever it holds. -/
def free (x : Ctx) (d : Dev nD) (s : Bool) : sProp 𝕄 :=
  iprop(∃ f, (x.buf s).view.loc (thr x d) ↦[(x.buf s).view.set]{fullShare} f)

/-- A row buffer is its eight blocks, each side holding a share of every one. -/
theorem buf_eq (s : Bool) (f : Buf (Elt F) ((x.buf s).view.loc (thr x d))) :
    ((x.buf s).view.loc (thr x d) ↦[(x.buf s).view.set]{fullShare} f : sProp 𝕄) = iprop(
      (bigSep Finset.univ fun j : Fin 8 => (bufCol x s j).view.loc (thr x d) ↦[(bufCol x s j).view.set]{bq false} f)
      ∗ (bigSep Finset.univ fun j : Fin 8 => (bufCol x s j).view.loc (thr x d) ↦[(bufCol x s j).view.set]{bq true} f)) := by
  rw [pointsTo_piecesOf ((x.buf s).view.set) f (by decide : 0 < 2) fullShare, bigSep_univ_two]
  have h := fun q => pts_rects (Ix := Ix) (Name := Name) (U := U) (Lvl := Lvl) (thr x d) (x.buf s) q f (fun j : Fin 8 => Rect.unit (s := S32x1024) ![0, 128 * j.val] S32x128.size (inb_col j)) (fun _ _ => rfl)
    (cols_disjoint inb_col) (cols_cover inb_col)
  rw [h, h]
  rfl

/-- Chunk `c`'s row of a side's positions, -/
def Data.pRow (c : Fin 4) (w : Bool) : sProp 𝕄 := (posRow x c w).view.loc (thr x d) ↦[(posRow x c w).view.set]{fullShare} D.fl w
/-- and of its gates. -/
def Data.gRow (c : Fin 4) (w : Bool) : sProp 𝕄 := (gateRow x c w).view.loc (thr x d) ↦[(gateRow x c w).view.set]{fullShare} D.fg w

/-- A row of positions is its streams' shares of it. -/
theorem Data.pRow_eq (c : Fin 4) (w : Bool) : (D.pRow c w : sProp 𝕄) = iprop(
    ((posRow x c w).view.loc (thr x d) ↦[(posRow x c w).view.set]{lq 0} D.fl w)
    ∗ (bigSep Finset.univ fun j : Fin 8 => (posRow x c w).view.loc (thr x d) ↦[(posRow x c w).view.set]{lq j.succ} D.fl w)) := by
  unfold Data.pRow lq
  rw [pointsTo_piecesOf ((posRow x c w).view.set) (D.fl w) (by decide : 0 < 9) fullShare, bigSep_univ_succ]

/-- Chunk `c`'s part, the rows it writes being at `f` and the gates at `g`. -/
def Data.part (c : Fin 4) (f : Buf (Elt F) (x.xs.view.loc (thr x d))) (g : Buf (Elt F) (x.gs.view.loc (thr x d))) : sProp 𝕄 :=
  iprop((D.pRow c false ∗ D.pRow c true) ∗ (D.gRow c false ∗ D.gRow c true)
    ∗ ((bigSep Finset.univ fun j : Fin 8 => D.tgt c j false f) ∗ (bigSep Finset.univ fun j : Fin 8 => D.tgt c j true f))
    ∗ (D.gtgt c false g ∗ D.gtgt c true g))

/-- Everything the chunk's streams are issued on, by stream. -/
theorem Data.opds (c : Fin 4) (fb : Buf (Elt F) ((x.buf (slot c)).view.loc (thr x d))) :
    iprop(D.part c D.xs0 D.gs0 ∗ ((x.buf (slot c)).view.loc (thr x d) ↦[(x.buf (slot c)).view.set]{fullShare} fb))
      ⊢ (iprop((bigSep Finset.univ fun j : Fin 8 => iprop(D.opd c fb j false ∗ D.opd c fb j true)) ∗ D.gopd c false ∗ D.gopd c true) : sProp 𝕄) := by
  unfold Data.part Data.opd Data.gopd
  rw [D.pRow_eq, D.pRow_eq, buf_eq]
  rw [bigSep_sep', bigSep_sep', bigSep_sep', bigSep_sep', bigSep_sep']
  unfold Data.gRow
  iintro ⟨⟨⟨⟨Hp0, Hq0⟩, Hp1, Hq1⟩, ⟨Hg0, Hg1⟩, ⟨Ht0, Ht1⟩, Hu0, Hu1⟩, Hb0, Hb1⟩
  isplitl [Hb0 Ht0 Hq0 Hb1 Ht1 Hq1]
  · isplitl [Hb0 Ht0 Hq0]
    · isplitl [Hb0]; · iexact Hb0
      isplitl [Ht0]; · iexact Ht0
      iexact Hq0
    · isplitl [Hb1]; · iexact Hb1
      isplitl [Ht1]; · iexact Ht1
      iexact Hq1
  isplitl [Hg0 Hu0 Hp0]
  · isplitl [Hg0]; · iexact Hg0
    isplitl [Hu0]; · iexact Hu0
    iexact Hp0
  · isplitl [Hg1]; · iexact Hg1
    isplitl [Hu1]; · iexact Hu1
    iexact Hp1

/-- Chunk `c`'s scatters issued and not waited for, its buffer holding its rows. -/
def Data.InFlight (EC : UEmb Counters (MT nD τ sig Ix (Elt F) Name U Lvl)) (ι : Ix) (c : Fin 4) : sProp 𝕄 :=
  iprop(∃ fb, ⌜(x.buf (slot c)).view.read (Elt F) fb = (xBlk x c).view.read (Elt F) D.fx⌝
    ∗ Batch EC (thr x d) (.dma (x.semS (slot c)).sem) ι N (D.dlv c fb) 512 0
    ∗ Batch EC (thr x d) (.dma (x.semT (slot c)).sem) ι M (D.gdlv c) 64 0)

/-! ## What the streams deliver -/

theorem cast_apply {s s' : Shape} {e : EltTy} {Val : EltTy → Type} (hs : s = s') (X : s.Idx → Val e) (i : s'.Idx) (i0 : s.Idx)
    (h : ∀ a, (i0 a).val = (i (Fin.cast (congrArg Shape.rank hs) a)).val) : castContents hs rfl X i = X i0 := by
  cases hs
  exact congrArg X (funext fun a => Fin.ext (h a).symm)

theorem Data.row_read (c : Fin 4) (j : Fin 8) (w : Bool) (fb : Buf (Elt F) ((x.buf (slot c)).view.loc (thr x d)))
    (hb : (x.buf (slot c)).view.read (Elt F) fb = (xBlk x c).view.read (Elt F) D.fx) (r : Fin 32) :
    (rowOfDst (thr x d) (xsCol x j) gathers_S8192x128_S32x128 (D.ix w (ix2 c r))).view.read (Elt F) D.xs1
      = scatterRowPayload (thr x d) (bufCol x (slot c) j) gathers_S8192x128_S32x128 fb r := by
  refine funext fun (i : (S8192x128.rowShape axX).Idx) => ?_
  have hi0 : (i ⟨0, Nat.two_pos⟩).val < 1 := (i ⟨0, Nat.two_pos⟩).isLt
  have hi1 : (i ⟨1, Nat.one_lt_two⟩).val < 128 := (i ⟨1, Nat.one_lt_two⟩).isLt
  have hj := j.isLt
  let m : Fin 1024 := ⟨128 * j.val + (i ⟨1, Nat.one_lt_two⟩).val, by omega⟩
  have hL : (rowOfDst (thr x d) (xsCol x j) gathers_S8192x128_S32x128 (D.ix w (ix2 c r))).view.read (Elt F) D.xs1 i
      = x.xs.view.read (Elt F) D.xs1 (ix2 (D.ix w (ix2 c r)) m) := by
    refine congrArg (x.xs.view.read (Elt F) D.xs1) (funext fun a => Fin.ext ?_)
    match a with
    | 0 => show 0 + 1 * ((D.ix w (ix2 c r)).val + 1 * (i ⟨0, Nat.two_pos⟩).val) = (D.ix w (ix2 c r)).val; omega
    | 1 => show 128 * j.val + 1 * (0 + 1 * (i ⟨1, Nat.one_lt_two⟩).val) = 128 * j.val + (i ⟨1, Nat.one_lt_two⟩).val; omega
  let i0 : (S32x128.rowShape 0).Idx := fun | ⟨0, _⟩ => ⟨0, Nat.one_pos⟩ | ⟨1, _⟩ => ⟨(i ⟨1, Nat.one_lt_two⟩).val, hi1⟩
  have hR : scatterRowPayload (thr x d) (bufCol x (slot c) j) gathers_S8192x128_S32x128 fb r i
      = (x.buf (slot c)).view.read (Elt F) fb (ix2 r m) := by
    refine (congrFun (View.read_cast (Val := Elt F) ((bufCol x (slot c) j).slice (S32x128.rowRect 0 r) (S32x128.stride_rowRect _ _)).view
      (Shape.Gathers.rowShape_eq gathers_S8192x128_S32x128) rfl fb) i).trans ?_
    refine (cast_apply _ _ i i0 fun a => ?_).trans ?_
    · match a with
      | ⟨0, _⟩ => show 0 = (i ⟨0, Nat.two_pos⟩).val; omega
      | ⟨1, _⟩ => rfl
    · refine congrArg ((x.buf (slot c)).view.read (Elt F) fb) (funext fun a => Fin.ext ?_)
      match a with
      | 0 => show 0 + 1 * (r.val + 1 * 0) = r.val; omega
      | 1 => show 128 * j.val + 1 * (0 + 1 * (i ⟨1, Nat.one_lt_two⟩).val) = 128 * j.val + (i ⟨1, Nat.one_lt_two⟩).val; omega
  rw [hL, hR, hb, D.hxs]

theorem Data.gate_read (c : Fin 4) (w : Bool) (r : Fin 32) :
    (rowOfDst (thr x d) (gsAll x) gathers_S8192_S32 (D.ix w (ix2 c r))).view.read (Elt F) D.gs1
      = scatterRowPayload (thr x d) (gateRow x c w) gathers_S8192_S32 (D.fg w) r := by
  refine funext fun (i : (S8192.rowShape axG).Idx) => ?_
  have hi0 : (i ⟨0, Nat.one_pos⟩).val < 1 := (i ⟨0, Nat.one_pos⟩).isLt
  have hL : (rowOfDst (thr x d) (gsAll x) gathers_S8192_S32 (D.ix w (ix2 c r))).view.read (Elt F) D.gs1 i
      = x.gs.view.read (Elt F) D.gs1 (ix1 (D.ix w (ix2 c r))) := by
    refine congrArg (x.gs.view.read (Elt F) D.gs1) (funext fun a => Fin.ext ?_)
    match a with
    | 0 => show 0 + 1 * ((D.ix w (ix2 c r)).val + 1 * (i ⟨0, Nat.one_pos⟩).val) = (D.ix w (ix2 c r)).val; omega
  let i0 : (S32.rowShape 0).Idx := fun | ⟨0, _⟩ => ⟨0, Nat.one_pos⟩
  have hR : scatterRowPayload (thr x d) (gateRow x c w) gathers_S8192_S32 (D.fg w) r i
      = (gateRow x c w).view.read (Elt F) (D.fg w) (ix1 r) := by
    refine (congrFun (View.read_cast (Val := Elt F) ((gateRow x c w).slice (S32.rowRect 0 r) (S32.stride_rowRect _ _)).view
      (Shape.Gathers.rowShape_eq gathers_S8192_S32) rfl (D.fg w)) i).trans ?_
    refine (cast_apply _ _ i i0 fun a => ?_).trans ?_
    · match a with
      | ⟨0, _⟩ => show 0 = (i ⟨0, Nat.one_pos⟩).val; omega
    · refine congrArg ((gateRow x c w).view.read (Elt F) (D.fg w)) (funext fun a => Fin.ext ?_)
      match a with
      | 0 => show r.val + 1 * 0 = r.val; omega
  rw [hL, hR, read_gateRow, D.hgs]

/-- A stream's rows deliver the rows it names, as they are to be, and its operands' shares. -/
theorem Data.str_out (c : Fin 4) (fb : Buf (Elt F) ((x.buf (slot c)).view.loc (thr x d)))
    (hb : (x.buf (slot c)).view.read (Elt F) fb = (xBlk x c).view.read (Elt F) D.fx) (j : Fin 8) (w : Bool) :
    (bigSep Finset.univ fun r : Fin 32 => (D.strD c fb j w r : sProp 𝕄))
      ⊢ iprop(D.tgt c j w D.xs1
          ∗ ((bufCol x (slot c) j).view.loc (thr x d) ↦[(bufCol x (slot c) j).view.set]{bq w} fb)
          ∗ ((posRow x c w).view.loc (thr x d) ↦[(posRow x c w).view.set]{lq j.succ} D.fl w)) := by
  refine (scatDeliv_join (thr x d) (bufCol x (slot c) j) (xsCol x j) gathers_S8192x128_S32x128 (posRow x c w) rfl (bq w) (lq j.succ) fb (fun _ => D.xs0) (D.fl w)
    (D.hin c w)).trans (sep_mono (bigSep_mono fun r _ => ?_) Entails.refl)
  refine (Entails.of_eq (congrArg (fun k => (own (thr x d) (rowOfDst (thr x d) (xsCol x j) gathers_S8192x128_S32x128 k) fullShare
    (scatterRowPayload (thr x d) (bufCol x (slot c) j) gathers_S8192x128_S32x128 fb r) : sProp 𝕄)) (D.rows_eq c w r))).trans ?_
  exact own_pts (thr x d) (m := rowOfDst (thr x d) (xsCol x j) gathers_S8192x128_S32x128 (D.ix w (ix2 c r))) (q := fullShare) D.xs1 (D.row_read c j w fb hb r)

/-- A stream of gates likewise. -/
theorem Data.gtr_out (c : Fin 4) (w : Bool) :
    (bigSep Finset.univ fun r : Fin 32 => (D.gtrD c w r : sProp 𝕄))
      ⊢ iprop(D.gtgt c w D.gs1 ∗ D.gRow c w
          ∗ ((posRow x c w).view.loc (thr x d) ↦[(posRow x c w).view.set]{lq 0} D.fl w)) := by
  refine (scatDeliv_join (thr x d) (gateRow x c w) (gsAll x) gathers_S8192_S32 (posRow x c w) rfl fullShare (lq 0) (D.fg w) (fun _ => D.gs0) (D.fl w)
    (D.hinG c w)).trans (sep_mono (bigSep_mono fun r _ => ?_) Entails.refl)
  refine (Entails.of_eq (congrArg (fun k => (own (thr x d) (rowOfDst (thr x d) (gsAll x) gathers_S8192_S32 k) fullShare
    (scatterRowPayload (thr x d) (gateRow x c w) gathers_S8192_S32 (D.fg w) r) : sProp 𝕄)) (D.rowsG_eq c w r))).trans ?_
  exact own_pts (thr x d) (m := rowOfDst (thr x d) (gsAll x) gathers_S8192_S32 (D.ix w (ix2 c r))) (q := fullShare) D.gs1 (D.gate_read c w r)

/-- The numbering of a chunk's row copies; -/
def nums : (Bool × Fin 8) × Fin 32 ≃ Fin 512 where
  toFun p := ⟨32 * (2 * p.1.2.val + p.1.1.toNat) + p.2.val, by
    have := p.1.2.isLt; have := p.2.isLt; have : p.1.1.toNat < 2 := by cases p.1.1 <;> decide
    omega⟩
  invFun t := ((t.val / 32 % 2 == 1, ⟨t.val / 64, by omega⟩), ⟨t.val % 32, by omega⟩)
  left_inv := by decide +kernel
  right_inv := by decide +kernel
/-- of its gates. -/
def gnums : Bool × Fin 32 ≃ Fin 64 where
  toFun p := ⟨32 * p.1.toNat + p.2.val, by
    have := p.2.isLt; have : p.1.toNat < 2 := by cases p.1 <;> decide
    omega⟩
  invFun t := (t.val / 32 == 1, ⟨t.val % 32, by omega⟩)
  left_inv := by decide +kernel
  right_inv := by decide +kernel

/-- The batches' deliveries, by side, block and row. -/
theorem Data.dlv_sides (c : Fin 4) (fb : Buf (Elt F) ((x.buf (slot c)).view.loc (thr x d))) :
    bigSep Finset.univ (fun t => (D.dlv c fb t : sProp 𝕄))
      = iprop((bigSep Finset.univ fun j : Fin 8 => bigSep Finset.univ fun r : Fin 32 => (D.strD c fb j false r : sProp 𝕄))
        ∗ (bigSep Finset.univ fun j : Fin 8 => bigSep Finset.univ fun r : Fin 32 => (D.strD c fb j true r : sProp 𝕄))) := by
  rw [bigSep_univ_equiv nums, bigSep_univ_prod, bigSep_univ_prod]
  have h : ∀ (w : Bool) (j : Fin 8) (r : Fin 32), (D.dlv c fb (nums ((w, j), r)) : sProp 𝕄) = D.strD c fb j w r := fun w j r => D.dlv_eq c fb j w r _
  simp only [h]
  rw [bigSep_univ_equiv (finTwoEquiv), bigSep_univ_two]
  rfl

theorem Data.gdlv_sides (c : Fin 4) :
    bigSep Finset.univ (fun t => (D.gdlv c t : sProp 𝕄))
      = iprop((bigSep Finset.univ fun r : Fin 32 => (D.gtrD c false r : sProp 𝕄)) ∗ (bigSep Finset.univ fun r : Fin 32 => (D.gtrD c true r : sProp 𝕄))) := by
  rw [bigSep_univ_equiv gnums, bigSep_univ_prod]
  have h : ∀ (w : Bool) (r : Fin 32), (D.gdlv c (gnums (w, r)) : sProp 𝕄) = D.gtrD c w r := fun w r => D.gdlv_eq c w r _
  simp only [h]
  rw [bigSep_univ_equiv (finTwoEquiv), bigSep_univ_two]
  rfl

/-- Everything delivered is the chunk's part, written, and the buffer. -/
theorem Data.joined (c : Fin 4) (fb : Buf (Elt F) ((x.buf (slot c)).view.loc (thr x d)))
    (hb : (x.buf (slot c)).view.read (Elt F) fb = (xBlk x c).view.read (Elt F) D.fx) :
    iprop(bigSep Finset.univ (fun t => (D.dlv c fb t : sProp 𝕄)) ∗ bigSep Finset.univ (fun t => (D.gdlv c t : sProp 𝕄)))
      ⊢ iprop(D.part c D.xs1 D.gs1 ∗ free x d (slot c)) := by
  rw [D.dlv_sides, D.gdlv_sides]
  have hs : ∀ w : Bool, (bigSep Finset.univ fun j : Fin 8 => bigSep Finset.univ fun r : Fin 32 => (D.strD c fb j w r : sProp 𝕄))
      ⊢ iprop((bigSep Finset.univ fun j : Fin 8 => (D.tgt c j w D.xs1 : sProp 𝕄))
        ∗ (bigSep Finset.univ fun j : Fin 8 => ((bufCol x (slot c) j).view.loc (thr x d) ↦[(bufCol x (slot c) j).view.set]{bq w} fb : sProp 𝕄))
        ∗ (bigSep Finset.univ fun j : Fin 8 => ((posRow x c w).view.loc (thr x d) ↦[(posRow x c w).view.set]{lq j.succ} D.fl w : sProp 𝕄))) := by
    intro w
    rw [← bigSep_sep', ← bigSep_sep']
    exact bigSep_mono fun j _ => D.str_out c fb hb j w
  iintro ⟨⟨H0, H1⟩, G0, G1⟩
  ihave H0 := (hs false) $$ H0
  ihave H1 := (hs true) $$ H1
  ihave G0 := (D.gtr_out c false) $$ G0
  ihave G1 := (D.gtr_out c true) $$ G1
  icases H0 with ⟨Ht0, Hb0, Hq0⟩
  icases H1 with ⟨Ht1, Hb1, Hq1⟩
  icases G0 with ⟨Hu0, Hg0, Hp0⟩
  icases G1 with ⟨Hu1, Hg1, Hp1⟩
  isplitr [Hb0 Hb1]
  · unfold Data.part
    rw [D.pRow_eq, D.pRow_eq]
    isplitl [Hp0 Hq0 Hp1 Hq1]
    · isplitl [Hp0 Hq0]
      · isplitl [Hp0] <;> iassumption
      · isplitl [Hp1] <;> iassumption
    isplitl [Hg0 Hg1]; · isplitl [Hg0] <;> iassumption
    isplitl [Ht0 Ht1]; · isplitl [Ht0] <;> iassumption
    isplitl [Hu0] <;> iassumption
  · unfold free
    iexists fb
    rw [buf_eq]
    isplitl [Hb0] <;> iassumption

section Steps
variable (EC : UEmb Counters (MT nD τ sig Ix (Elt F) Name U Lvl)) (𝒱 : Variants) (bd : Option 𝒱.V) (ι : Ix)
variable {β : Type} {Q : β → sProp (MT nD τ sig Ix (Elt F) Name U Lvl)}

/-- A chunk's scatters issued. -/
theorem wp_issue [Infinite Name] [EC.LandsIn (upEmb : UEmb _ 𝕄)] (c : Fin 4) (p : Prog (TpuEff nD τ sig (Elt F) Λ₀ (thr x d).2) β) :
    iprop(D.part c D.xs0 D.gs0 ∗ own (thr x d) (x.buf (slot c)) fullShare ((xBlk x c).view.read (Elt F) D.fx)
        ∗ semVal (thr x d, .dma (x.semS (slot c)).sem) 0 ∗ semVal (thr x d, .dma (x.semT (slot c)).sem) 0)
      ⊢ iprop((D.InFlight EC ι c -∗ wp frame (wpE (defs₀ (F := F)) 𝒱 (thr x d) bd) Set.univ p Q)
        -∗ wp frame (wpE (defs₀ (F := F)) 𝒱 (thr x d) bd) Set.univ (runK x (issue c) p) Q) := by
  unfold issue own
  rw [runK_append]
  iintro ⟨HP, ⟨%fb, %hb, Hb⟩, Hv, Hu⟩ Hk
  imod (Transfers.batch_alloc' EC (thr x d) ι N (D.dlv c fb) (sm := .dma (x.semS (slot c)).sem) (E := Set.univ)) $$ Hv with HB
  imod (Transfers.batch_alloc' EC (thr x d) ι M (D.gdlv c) (sm := .dma (x.semT (slot c)).sem) (E := Set.univ)) $$ Hu with HC
  ihave H := (D.opds c fb) $$ [HP Hb]
  · isplitl [HP]; · iexact HP
    iexact Hb
  icases H with ⟨Hop, G0, G1⟩
  iapply (runK_parts 𝒱 bd (fun j => [Act.sca c j false, Act.sca c j true])
    (fun k => iprop(bigSep (Transfers.pending k) (fun j : Fin 8 => iprop(D.opd c fb j false ∗ D.opd c fb j true))
      ∗ Batch EC (thr x d) (.dma (x.semS (slot c)).sem) ι N (D.dlv c fb) (32 * (2 * k)) 0)) (fun j q => by
        rw [Transfers.bigSep_pending_step _ j.val j.isLt]
        iintro ⟨⟨⟨H0, H1⟩, Hp⟩, HB⟩ Hk
        simp only [runK]
        iapply (wp_sca D EC 𝒱 bd ι c j false fb) $$ [H0 HB]
        · isplitl [H0]; · iexact H0
          iexact HB
        iintro HB
        iapply (wp_sca D EC 𝒱 bd ι c j true fb) $$ [H1 HB]
        · isplitl [H1]; · iexact H1
          iexact HB
        iintro HB
        iapply Hk
        isplitl [Hp]; · iexact Hp
        iexact HB) _) $$ [Hop HB]
  · isplitl [Hop]
    · rw [Transfers.pending_zero]; iexact Hop
    · iexact HB
  iintro ⟨-, HB⟩
  simp only [runK]
  iapply (wp_gat D EC 𝒱 bd ι c false) $$ [G0 HC]
  · isplitl [G0]; · iexact G0
    iexact HC
  iintro HC
  iapply (wp_gat D EC 𝒱 bd ι c true) $$ [G1 HC]
  · isplitl [G1]; · iexact G1
    iexact HC
  iintro HC
  iapply Hk
  unfold Data.InFlight
  iexists fb
  isplitr; · ipureintro; exact hb
  isplitl [HB]; · iexact HB
  iexact HC

/-- One wait for 128 columns of a chunk's rows. -/
theorem wp_swt [EC.LandsIn (upEmb : UEmb _ 𝕄)] (c : Fin 4) (j : Fin 8) (w : Bool) (fb : Buf (Elt F) ((x.buf (slot c)).view.loc (thr x d)))
    (O : CellTallies nD τ sig Ix) (W : Waits sig Ix) (k : PUnit → Prog (TpuEff nD τ sig (Elt F) Λ₀ (thr x d).2) β) :
    iprop(MayWaits (thr x d) ι O ∗ owesW x d O W ι ∗ Batch EC (thr x d) (.dma (x.semS (slot c)).sem) ι N (D.dlv c fb) 512 (N * (32 * (2 * j.val + w.toNat))))
      ⊢ iprop((iprop(owesW x d O W ι ∗ Batch EC (thr x d) (.dma (x.semS (slot c)).sem) ι N (D.dlv c fb) 512 (N * (32 * (2 * j.val + w.toNat) + 32)))
            -∗ wp frame (wpE (defs₀ (F := F)) 𝒱 (thr x d) bd) Set.univ (k ⟨⟩) Q)
          -∗ wp frame (wpE (defs₀ (F := F)) 𝒱 (thr x d) bd) Set.univ (denote x (.swt c j w) >>= k) Q) := by
  have hw : w.toNat < 2 := by cases w <;> decide
  have hj := j.isLt
  exact wp_strWait EC 𝒱 bd ι (x := x) (src := xsCol x j) (dst := bufCol x (slot c) j) (x.semS (slot c)).sem (View.wordExact_bits rfl) (View.wordExact_bits rfl)
    (N_col x (slot c) j) (by omega) O W

/-- One wait for a chunk's gates. -/
theorem wp_gwt [EC.LandsIn (upEmb : UEmb _ 𝕄)] (c : Fin 4) (w : Bool)
    (O : CellTallies nD τ sig Ix) (W : Waits sig Ix) (k : PUnit → Prog (TpuEff nD τ sig (Elt F) Λ₀ (thr x d).2) β) :
    iprop(MayWaits (thr x d) ι O ∗ owesW x d O W ι ∗ Batch EC (thr x d) (.dma (x.semT (slot c)).sem) ι M (D.gdlv c) 64 (M * (32 * w.toNat)))
      ⊢ iprop((iprop(owesW x d O W ι ∗ Batch EC (thr x d) (.dma (x.semT (slot c)).sem) ι M (D.gdlv c) 64 (M * (32 * w.toNat + 32)))
            -∗ wp frame (wpE (defs₀ (F := F)) 𝒱 (thr x d) bd) Set.univ (k ⟨⟩) Q)
          -∗ wp frame (wpE (defs₀ (F := F)) 𝒱 (thr x d) bd) Set.univ (denote x (.gwt c w) >>= k) Q) := by
  have hw : w.toNat < 2 := by cases w <;> decide
  exact wp_strWait EC 𝒱 bd ι (x := x) (src := gsAll x) (dst := gateRow x c w) (x.semT (slot c)).sem (View.wordExact_bits rfl) ((View.wordExact_bits rfl).reshape _ _)
    (M_gate x c w) (by omega) O W

/-- A chunk's scatters waited for. -/
theorem wp_collect [EC.LandsIn (upEmb : UEmb _ 𝕄)] (c : Fin 4) (O : CellTallies nD τ sig Ix) (W : Waits sig Ix)
    (p : Prog (TpuEff nD τ sig (Elt F) Λ₀ (thr x d).2) β) :
    iprop(MayWaits (thr x d) ι O ∗ owesW x d O W ι ∗ D.InFlight EC ι c)
      ⊢ iprop((iprop(owesW x d O W ι ∗ D.part c D.xs1 D.gs1 ∗ free x d (slot c)
              ∗ semVal (thr x d, .dma (x.semS (slot c)).sem) 0 ∗ semVal (thr x d, .dma (x.semT (slot c)).sem) 0)
            -∗ wp frame (wpE (defs₀ (F := F)) 𝒱 (thr x d) bd) Set.univ p Q)
        -∗ wp frame (wpE (defs₀ (F := F)) 𝒱 (thr x d) bd) Set.univ (runK x (collect c) p) Q) := by
  unfold Data.InFlight collect
  rw [runK_append]
  iintro ⟨#Hmw, HO, ⟨%fb, %hb, HB, HC⟩⟩ Hk
  iapply (runK_parts 𝒱 bd (fun j => [Act.swt c j false, Act.swt c j true])
    (fun k => iprop(MayWaits (thr x d) ι O ∗ owesW x d O W ι
      ∗ Batch EC (thr x d) (.dma (x.semS (slot c)).sem) ι N (D.dlv c fb) 512 (N * (32 * (2 * k))))) (fun j q => by
        iintro ⟨#Hmw, HO, HB⟩ Hk
        simp only [runK]
        iapply (wp_swt D EC 𝒱 bd ι c j false fb O W) $$ [HO HB]
        · isplitr; · iexact Hmw
          isplitl [HO]; · iexact HO
          iexact HB
        iintro ⟨HO, HB⟩
        iapply (wp_swt D EC 𝒱 bd ι c j true fb O W) $$ [HO HB]
        · isplitr; · iexact Hmw
          isplitl [HO]; · iexact HO
          iexact HB
        iintro ⟨HO, HB⟩
        iapply Hk
        isplitr; · iexact Hmw
        isplitl [HO]; · iexact HO
        iexact HB) _) $$ [HO HB]
  · isplitr; · iexact Hmw
    isplitl [HO]; · iexact HO
    iexact HB
  iintro ⟨-, HO, HB⟩
  simp only [runK]
  iapply (wp_gwt D EC 𝒱 bd ι c false O W) $$ [HO HC]
  · isplitr; · iexact Hmw
    isplitl [HO]; · iexact HO
    iexact HC
  iintro ⟨HO, HC⟩
  iapply (wp_gwt D EC 𝒱 bd ι c true O W) $$ [HO HC]
  · isplitr; · iexact Hmw
    isplitl [HO]; · iexact HO
    iexact HC
  iintro ⟨HO, HC⟩
  rw [show 32 * true.toNat + 32 = 64 from rfl]
  imod (Transfers.batch_collect' EC (thr x d) (ι := ι) (sm := .dma (x.semS (slot c)).sem) N_pos (D := D.dlv c fb)) $$ HB with ⟨HD, Hv⟩
  imod (Transfers.batch_collect' EC (thr x d) (ι := ι) (sm := .dma (x.semT (slot c)).sem) M_pos (D := D.gdlv c)) $$ HC with ⟨HE, Hu⟩
  ihave HJ := (D.joined c fb hb) $$ [HD HE]
  · isplitl [HD] <;> iassumption
  icases HJ with ⟨HP, Hf⟩
  iapply Hk
  isplitl [HO]; · iexact HO
  isplitl [HP]; · iexact HP
  isplitl [Hf]; · iexact Hf
  isplitl [Hv] <;> iassumption

end Steps

end Cert.Expand.Scatter

end
-- ==== Proof.Expand.Copies.lean ====
/- The tile's plain copies: its lists of gates and of positions in, and each chunk's rows of the tokens in. -/
module

public import proofs.«01_k».proof.Proof.Expand.Scattered

@[expose] public section

noncomputable section

namespace Cert.Expand.Copies

open Idealize.ShloMosaic Idealize.ShloMosaic.ValueIdx
open Idealize.SL
open Idealize.SL.BI (sProp Storable bigSep bigSep_mono bigSep_empty bigSep_univ_two)
open scoped Idealize.SL.BI
open Idealize.SL.BI.BIBase Idealize.SL.BI.Laws Idealize.SL.Sem Idealize.SL.ProofMode
open Idealize.SL.RA
open Idealize.ShloMosaic.SparseCore (V)
open Idealize.ShloMosaic.Transfers (Batch MayWaits Flight)
open Cert.Expand Cert.Expand.Acts Cert.Expand.Scatter Cert.Proof.Own
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

variable {d : Dev nD} (x : Ctx)
variable (EC : UEmb Counters (MT nD τ sig Ix (Elt F) Name U Lvl)) (𝒱 : Variants) (bd : Option 𝒱.V) (ι : Ix)
variable {β : Type} {Q : β → sProp (MT nD τ sig Ix (Elt F) Name U Lvl)}

/-- One more wait at `ι` recorded. -/
theorem owesW_insert (O : CellTallies nD τ sig Ix) (W W' : Waits sig Ix) (s : SemLoc sig) (h : ∀ p ∈ W', p ∈ W ∨ p.2 = ι) :
    (owes (thr x d) O (insert (s, ι) W') : sProp 𝕄) ⊢ owesW x d O W ι := by
  unfold owesW
  iintro HO
  iexists _
  isplitr [HO]
  on_goal 2 => iexact HO
  ipureintro
  intro p hp
  rcases Finset.mem_insert.mp hp with rfl | hp
  · exact Or.inr rfl
  · exact h p hp

/-! ## The lists in -/

/-- What the copy of a block of HBM to a list delivers: the list at what the block reads, and the block. -/
def cpD {e : EltTy} (src : Memref sig .scVector .hbm S4x32 e) (dst : Memref sig .scVector .vmem S4x32 e)
    (fs : Buf (Elt F) (src.view.loc (thr x d))) (fd : Buf (Elt F) (dst.view.loc (thr x d))) : sProp 𝕄 :=
  iprop((dst.view.loc (thr x d) ↦[dst.view.set]{fullShare} dst.view.write (Elt F) fd (src.view.read (Elt F) fs) Finset.univ)
    ∗ (src.view.loc (thr x d) ↦[src.view.set]{fullShare} fs))

instance cpD_storable {e : EltTy} (src : Memref sig .scVector .hbm S4x32 e) (dst : Memref sig .scVector .vmem S4x32 e)
    (fs : Buf (Elt F) (src.view.loc (thr x d))) (fd : Buf (Elt F) (dst.view.loc (thr x d))) :
    Storable (upEmb : UEmb _ 𝕄) (cpD x src dst fs fd : sProp 𝕄) := by unfold cpD; infer_instance

theorem cpD_own {e : EltTy} (src : Memref sig .scVector .hbm S4x32 e) (dst : Memref sig .scVector .vmem S4x32 e)
    (fs : Buf (Elt F) (src.view.loc (thr x d))) (fd : Buf (Elt F) (dst.view.loc (thr x d))) :
    (cpD x src dst fs fd : sProp 𝕄) ⊢ iprop(own (thr x d) dst fullShare (src.view.read (Elt F) fs)
      ∗ (src.view.loc (thr x d) ↦[src.view.set]{fullShare} fs)) :=
  sep_mono (own_intro (thr x d) _ (View.read_write_univ _ _)) Entails.refl

/-- The contents of the tile's blocks of HBM, and of its lists. -/
structure Lists (F : FTy → Type) (x : Ctx) (d : Dev nD) where
  hg : (w : Bool) → Buf (Elt F) ((x.g w).view.loc (thr x d))
  hp : (w : Bool) → Buf (Elt F) ((x.p w).view.loc (thr x d))
  dg : (w : Bool) → Buf (Elt F) ((x.lg w).view.loc (thr x d))
  dp : (w : Bool) → Buf (Elt F) ((x.lp w).view.loc (thr x d))

/-- The four copies' deliveries, in the order they start. -/
def lstDs (l : Lists F x d) (t : Fin 4) : sProp 𝕄 :=
  match t with
  | ⟨0, _⟩ => cpD x (gBlk x false) (x.lg false) (l.hg false) (l.dg false)
  | ⟨1, _⟩ => cpD x (gBlk x true) (x.lg true) (l.hg true) (l.dg true)
  | ⟨2, _⟩ => cpD x (pBlk x false) (x.lp false) (l.hp false) (l.dp false)
  | ⟨3, _⟩ => cpD x (pBlk x true) (x.lp true) (l.hp true) (l.dp true)

instance lstDs_storable (l : Lists F x d) (t : Fin 4) : Storable (upEmb : UEmb _ 𝕄) (lstDs x l t : sProp 𝕄) :=
  match t with
  | ⟨0, _⟩ => cpD_storable x _ _ _ _
  | ⟨1, _⟩ => cpD_storable x _ _ _ _
  | ⟨2, _⟩ => cpD_storable x _ _ _ _
  | ⟨3, _⟩ => cpD_storable x _ _ _ _

/-- What one list credits its semaphore. -/
def L : ℕ := (sig).dmaCredit .scVector (Kind.scVector.table .vmem) 0 S4x32 .i32
theorem L_pos : 0 < L := by unfold L; decide
attribute [irreducible] L

theorem L_lg (w : Bool) : (x.lg w).view.dmaCredit = L := by
  show (sig).dmaCredit .scVector (Kind.scVector.table .vmem) 0 S4x32 .f32 = L
  unfold L; decide
theorem L_lp (w : Bool) : (x.lp w).view.dmaCredit = L := by unfold L; rfl

/-- One list's copy started. -/
theorem wp_cp [Infinite Name] [EC.LandsIn (upEmb : UEmb _ 𝕄)] (l : Lists F x d) {e : EltTy} (src : Memref sig (thr x d).2.kind .hbm S4x32 e)
    (dst : Memref sig (thr x d).2.kind .vmem S4x32 e) (fs : Buf (Elt F) (src.view.loc (thr x d))) (fd : Buf (Elt F) (dst.view.loc (thr x d)))
    (t : ℕ) (ht : t < 4) (hL : dst.view.dmaCredit = L) (hD : (cpD x src dst fs fd : sProp 𝕄) ⊢ lstDs x l ⟨t, ht⟩)
    {hs : src.view.WordExact} {hd : dst.view.WordExact} {hsem : DmaTarget.Typed (nD := nD) .hbm (.dma x.semI.sem) (.here dst)}
    {k : PUnit → Prog (TpuEff nD τ sig (Elt F) Λ₀ (thr x d).2) β} :
    iprop((src.view.loc (thr x d) ↦[src.view.set]{fullShare} fs) ∗ (dst.view.loc (thr x d) ↦[dst.view.set]{fullShare} fd)
        ∗ Batch EC (thr x d) (.dma x.semI.sem) ι L (lstDs x l) t 0)
      ⊢ iprop((Batch EC (thr x d) (.dma x.semI.sem) ι L (lstDs x l) (t + 1) 0 -∗ wp frame (wpE (defs₀ (F := F)) 𝒱 (thr x d) bd) Set.univ (k ⟨⟩) Q)
        -∗ wp frame (wpE (defs₀ (F := F)) 𝒱 (thr x d) bd) Set.univ (.op (.enqueueDma src (.here dst) (.dma x.semI.sem) hs hd hsem) k) Q) :=
  Transfers.wp_dmaBatch (defs := defs₀ (F := F)) EC 𝒱 (thr x d) bd (src := src) (via := ReadAs.same) (dst := dst) (sm := .dma x.semI.sem)
    (q := fullShare) (fs := fs) (Sd := dst.view.set) (fd := fd) (D := lstDs x l) (j := t) (u := 0) ι L hL (Finset.Subset.refl _) ht (Nat.zero_le _) hD

/-- One list waited for. -/
theorem wp_cpW [EC.LandsIn (upEmb : UEmb _ 𝕄)] (l : Lists F x d) {e : EltTy} (src : Memref sig (thr x d).2.kind .hbm S4x32 e)
    (dst : Memref sig (thr x d).2.kind .vmem S4x32 e) (t : ℕ) (ht : t < 4) (hL : dst.view.dmaCredit = L) (O : CellTallies nD τ sig Ix) (W : Waits sig Ix)
    {hs : src.view.WordExact} {hd : dst.view.WordExact}
    {k : PUnit → Prog (TpuEff nD τ sig (Elt F) Λ₀ (thr x d).2) β} :
    iprop(MayWaits (thr x d) ι O ∗ owesW x d O W ι ∗ Batch EC (thr x d) (.dma x.semI.sem) ι L (lstDs x l) 4 (L * t))
      ⊢ iprop((iprop(owesW x d O W ι ∗ Batch EC (thr x d) (.dma x.semI.sem) ι L (lstDs x l) 4 (L * (t + 1)))
            -∗ wp frame (wpE (defs₀ (F := F)) 𝒱 (thr x d) bd) Set.univ (k ⟨⟩) Q)
        -∗ wp frame (wpE (defs₀ (F := F)) 𝒱 (thr x d) bd) Set.univ (.op (.waitDma2 x.semI.sem src dst hs hd) k) Q) := by
  have hu : L * t + 1 * L = L * (t + 1) := by rw [Nat.one_mul, Nat.mul_succ]
  iintro ⟨#Hmw, HO, HB⟩ Hk
  unfold owesW
  icases HO with ⟨%W', %hW', HO⟩
  iapply (Transfers.wp_waitBatchMulO (defs := defs₀ (F := F)) EC 𝒱 (thr x d) bd (srcw := src) (dstw := dst) (sem := x.semI.sem)
    ι (N := L) 1 (by rw [Nat.one_mul]; exact hL) (D := lstDs x l) (j := 4) (u := L * t)
    (by rw [hu]; exact Nat.mul_le_mul_left _ ht) (O := O) (W := W')) $$ [HB HO]
  · isplitl [HB]; · iexact HB
    isplitl [HO]; · iexact HO
    iapply (Transfers.MayWaits.elim (SemLoc.dma x.semI.sem)) $$ Hmw
  rw [hu]
  iintro ⟨HB, HO⟩
  iapply Hk
  isplitl [HO]
  · have h := owesW_insert (F := F) (Name := Name) (U := U) (Lvl := Lvl) (d := d) x ι O W W' (SemLoc.dma x.semI.sem) hW'
    unfold owesW at h
    iapply h $$ HO
  iexact HB

/-- A list's buffer of gates, whatever it holds, -/
def freeG (x : Ctx) (d : Dev nD) (w : Bool) : sProp 𝕄 := iprop(∃ f, (x.lg w).view.loc (thr x d) ↦[(x.lg w).view.set]{fullShare} f)
/-- and of positions. -/
def freeP (x : Ctx) (d : Dev nD) (w : Bool) : sProp 𝕄 := iprop(∃ f, (x.lp w).view.loc (thr x d) ↦[(x.lp w).view.set]{fullShare} f)

/-- The tile's blocks of the gates and of the positions. -/
def blks (x : Ctx) (d : Dev nD) (hg : (w : Bool) → Buf (Elt F) ((x.g w).view.loc (thr x d))) (hp : (w : Bool) → Buf (Elt F) ((x.p w).view.loc (thr x d))) : sProp 𝕄 :=
  iprop((((gBlk x false).view.loc (thr x d) ↦[(gBlk x false).view.set]{fullShare} hg false)
      ∗ ((gBlk x true).view.loc (thr x d) ↦[(gBlk x true).view.set]{fullShare} hg true))
    ∗ ((pBlk x false).view.loc (thr x d) ↦[(pBlk x false).view.set]{fullShare} hp false)
      ∗ ((pBlk x true).view.loc (thr x d) ↦[(pBlk x true).view.set]{fullShare} hp true))

/-- The four copies started and not waited for. -/
def Loading (hg : (w : Bool) → Buf (Elt F) ((x.g w).view.loc (thr x d))) (hp : (w : Bool) → Buf (Elt F) ((x.p w).view.loc (thr x d))) : sProp 𝕄 :=
  iprop(∃ dg dp, Batch EC (thr x d) (.dma x.semI.sem) ι L (lstDs x ⟨hg, hp, dg, dp⟩) 4 0)

theorem wp_loads [Infinite Name] [EC.LandsIn (upEmb : UEmb _ 𝕄)] (hg : (w : Bool) → Buf (Elt F) ((x.g w).view.loc (thr x d)))
    (hp : (w : Bool) → Buf (Elt F) ((x.p w).view.loc (thr x d))) (p : Prog (TpuEff nD τ sig (Elt F) Λ₀ (thr x d).2) β) :
    iprop(blks x d hg hp ∗ (freeG x d false ∗ freeG x d true) ∗ (freeP x d false ∗ freeP x d true) ∗ semVal (thr x d, .dma x.semI.sem) 0)
      ⊢ iprop((Loading x EC ι hg hp -∗ wp frame (wpE (defs₀ (F := F)) 𝒱 (thr x d) bd) Set.univ p Q)
        -∗ wp frame (wpE (defs₀ (F := F)) 𝒱 (thr x d) bd) Set.univ (runK x loads p) Q) := by
  unfold freeG freeP blks Loading
  iintro ⟨⟨⟨Ha0, Ha1⟩, Hc0, Hc1⟩, ⟨⟨%a0, Hb0⟩, ⟨%a1, Hb1⟩⟩, ⟨⟨%c0, He0⟩, ⟨%c1, He1⟩⟩, Hv⟩ Hk
  let l : Lists F x d := ⟨hg, hp, fun w => Bool.rec a0 a1 w, fun w => Bool.rec c0 c1 w⟩
  imod (Transfers.batch_alloc' EC (thr x d) ι L (lstDs x l) (sm := .dma x.semI.sem) (E := Set.univ)) $$ Hv with HB
  unfold loads
  simp only [runK]
  iapply (wp_cp x EC 𝒱 bd ι l (gBlk x false) (x.lg false) (hg false) a0 0 (by decide) (L_lg x false) Entails.refl) $$ [Ha0 Hb0 HB]
  · isplitl [Ha0]; · iexact Ha0
    isplitl [Hb0] <;> iassumption
  iintro HB
  iapply (wp_cp x EC 𝒱 bd ι l (gBlk x true) (x.lg true) (hg true) a1 1 (by decide) (L_lg x true) Entails.refl) $$ [Ha1 Hb1 HB]
  · isplitl [Ha1]; · iexact Ha1
    isplitl [Hb1]; · iexact Hb1
    iexact HB
  iintro HB
  iapply (wp_cp x EC 𝒱 bd ι l (pBlk x false) (x.lp false) (hp false) c0 2 (by decide) (L_lp x false) Entails.refl) $$ [Hc0 He0 HB]
  · isplitl [Hc0]; · iexact Hc0
    isplitl [He0]; · iexact He0
    iexact HB
  iintro HB
  iapply (wp_cp x EC 𝒱 bd ι l (pBlk x true) (x.lp true) (hp true) c1 3 (by decide) (L_lp x true) Entails.refl) $$ [Hc1 He1 HB]
  · isplitl [Hc1]; · iexact Hc1
    isplitl [He1]; · iexact He1
    iexact HB
  iintro HB
  iapply Hk
  iexists _
  iexists _
  iexact HB

/-- The four lists in: each at what its block reads. -/
def lists (hg : (w : Bool) → Buf (Elt F) ((x.g w).view.loc (thr x d))) (hp : (w : Bool) → Buf (Elt F) ((x.p w).view.loc (thr x d))) : sProp 𝕄 :=
  iprop((own (thr x d) (x.lg false) fullShare ((gBlk x false).view.read (Elt F) (hg false))
      ∗ own (thr x d) (x.lg true) fullShare ((gBlk x true).view.read (Elt F) (hg true)))
    ∗ own (thr x d) (x.lp false) fullShare ((pBlk x false).view.read (Elt F) (hp false))
      ∗ own (thr x d) (x.lp true) fullShare ((pBlk x true).view.read (Elt F) (hp true)))

theorem wp_loadsW [EC.LandsIn (upEmb : UEmb _ 𝕄)] (hg : (w : Bool) → Buf (Elt F) ((x.g w).view.loc (thr x d)))
    (hp : (w : Bool) → Buf (Elt F) ((x.p w).view.loc (thr x d))) (O : CellTallies nD τ sig Ix) (W : Waits sig Ix)
    (p : Prog (TpuEff nD τ sig (Elt F) Λ₀ (thr x d).2) β) :
    iprop(MayWaits (thr x d) ι O ∗ owesW x d O W ι ∗ Loading x EC ι hg hp)
      ⊢ iprop((iprop(owesW x d O W ι ∗ blks x d hg hp ∗ lists x hg hp ∗ semVal (thr x d, .dma x.semI.sem) 0)
            -∗ wp frame (wpE (defs₀ (F := F)) 𝒱 (thr x d) bd) Set.univ p Q)
        -∗ wp frame (wpE (defs₀ (F := F)) 𝒱 (thr x d) bd) Set.univ (runK x loadsW p) Q) := by
  unfold Loading
  iintro ⟨#Hmw, HO, ⟨%dg, %dp, HB⟩⟩ Hk
  unfold loadsW
  simp only [runK]
  iapply (wp_cpW x EC 𝒱 bd ι ⟨hg, hp, dg, dp⟩ (gBlk x false) (x.lg false) 0 (by decide) (L_lg x false) O W) $$ [HO HB]
  · isplitr; · iexact Hmw
    isplitl [HO]; · iexact HO
    iexact HB
  iintro ⟨HO, HB⟩
  iapply (wp_cpW x EC 𝒱 bd ι ⟨hg, hp, dg, dp⟩ (gBlk x true) (x.lg true) 1 (by decide) (L_lg x true) O W) $$ [HO HB]
  · isplitr; · iexact Hmw
    isplitl [HO]; · iexact HO
    iexact HB
  iintro ⟨HO, HB⟩
  iapply (wp_cpW x EC 𝒱 bd ι ⟨hg, hp, dg, dp⟩ (pBlk x false) (x.lp false) 2 (by decide) (L_lp x false) O W) $$ [HO HB]
  · isplitr; · iexact Hmw
    isplitl [HO]; · iexact HO
    iexact HB
  iintro ⟨HO, HB⟩
  iapply (wp_cpW x EC 𝒱 bd ι ⟨hg, hp, dg, dp⟩ (pBlk x true) (x.lp true) 3 (by decide) (L_lp x true) O W) $$ [HO HB]
  · isplitr; · iexact Hmw
    isplitl [HO]; · iexact HO
    iexact HB
  iintro ⟨HO, HB⟩
  imod (Transfers.batch_collect' EC (thr x d) (ι := ι) (sm := .dma x.semI.sem) L_pos (D := lstDs x ⟨hg, hp, dg, dp⟩)) $$ HB with ⟨HD, Hv⟩
  ihave HD := (Entails.of_eq ((bigSep_univ_succ (lstDs x ⟨hg, hp, dg, dp⟩)).trans
    (congrArg _ ((bigSep_univ_succ _).trans (congrArg _ (bigSep_univ_two _)))))) $$ HD
  icases HD with ⟨H0, H1, H2, H3⟩
  ihave H0 := (show lstDs x ⟨hg, hp, dg, dp⟩ 0 ⊢ _ from cpD_own x (gBlk x false) (x.lg false) (hg false) (dg false)) $$ H0
  ihave H1 := (show lstDs x ⟨hg, hp, dg, dp⟩ (Fin.succ 0) ⊢ _ from cpD_own x (gBlk x true) (x.lg true) (hg true) (dg true)) $$ H1
  ihave H2 := (show lstDs x ⟨hg, hp, dg, dp⟩ (Fin.succ (Fin.succ 0)) ⊢ _ from cpD_own x (pBlk x false) (x.lp false) (hp false) (dp false)) $$ H2
  ihave H3 := (show lstDs x ⟨hg, hp, dg, dp⟩ (Fin.succ (Fin.succ 1)) ⊢ _ from cpD_own x (pBlk x true) (x.lp true) (hp true) (dp true)) $$ H3
  icases H0 with ⟨Hl0, Hs0⟩
  icases H1 with ⟨Hl1, Hs1⟩
  icases H2 with ⟨Hl2, Hs2⟩
  icases H3 with ⟨Hl3, Hs3⟩
  iapply Hk
  unfold blks lists
  isplitl [HO]; · iexact HO
  isplitl [Hs0 Hs1 Hs2 Hs3]
  · isplitl [Hs0 Hs1]
    · isplitl [Hs0] <;> iassumption
    · isplitl [Hs2] <;> iassumption
  isplitl [Hl0 Hl1 Hl2 Hl3]
  · isplitl [Hl0 Hl1]
    · isplitl [Hl0] <;> iassumption
    · isplitl [Hl2] <;> iassumption
  iexact Hv

/-! ## The rows in -/

/-- The tile's share of the tokens, -/
def toks (x : Ctx) (d : Dev nD) (q : PosShare TreeShare) (fx : Buf (Elt F) (x.x.view.loc (thr x d))) : sProp 𝕄 :=
  x.x.view.loc (thr x d) ↦[x.x.view.set]{q} fx
/-- and what is left of it while a chunk's rows are read. -/
def toksRest (x : Ctx) (d : Dev nD) (q : PosShare TreeShare) (fx : Buf (Elt F) (x.x.view.loc (thr x d))) (c : Fin 4) : sProp 𝕄 :=
  x.x.view.loc (thr x d) ↦[x.x.view.set \ (xBlk x c).view.set]{q} fx

/-- Chunk `c`'s rows on their way in. -/
def Reading (q : PosShare TreeShare) (fx : Buf (Elt F) (x.x.view.loc (thr x d))) (c : Fin 4) : sProp 𝕄 :=
  iprop(Flight EC (thr x d) (.dma x.semR.sem) ι (x.buf (slot c)).view.dmaCredit
      iprop(own (thr x d) (x.buf (slot c)) fullShare ((xBlk x c).view.read (Elt F) fx)
        ∗ ((xBlk x c).view.loc (thr x d) ↦[(xBlk x c).view.set]{q} fx))
    ∗ toksRest x d q fx c)

theorem toks_eq (q : PosShare TreeShare) (fx : Buf (Elt F) (x.x.view.loc (thr x d))) (c : Fin 4) :
    (toks x d q fx : sProp 𝕄) = iprop(((xBlk x c).view.loc (thr x d) ↦[(xBlk x c).view.set]{q} fx) ∗ toksRest x d q fx c) := by
  have h := pointsTo_split_subset (Ix := Ix) (Name := Name) (U := U) (Lvl := Lvl) (ℓ := x.x.view.loc (thr x d)) (I := (xBlk x c).view.set) (S := x.x.view.set)
    (q := q) (f := fx) (View.set_slice_subset x.x.view _)
  exact BI.Entails.antisymm h.1 h.2

theorem wp_rd [Infinite Name] [EC.LandsIn (upEmb : UEmb _ 𝕄)] (q : PosShare TreeShare) (fx : Buf (Elt F) (x.x.view.loc (thr x d))) (c : Fin 4)
    {k : PUnit → Prog (TpuEff nD τ sig (Elt F) Λ₀ (thr x d).2) β} :
    iprop(toks x d q fx ∗ free x d (slot c) ∗ semVal (thr x d, .dma x.semR.sem) 0)
      ⊢ iprop((Reading x EC ι q fx c -∗ wp frame (wpE (defs₀ (F := F)) 𝒱 (thr x d) bd) Set.univ (k ⟨⟩) Q)
        -∗ wp frame (wpE (defs₀ (F := F)) 𝒱 (thr x d) bd) Set.univ (denote x (.rd c) >>= k) Q) := by
  rw [toks_eq x q fx c]
  unfold free
  iintro ⟨⟨Hx, Hr⟩, ⟨%f, Hb⟩, Hv⟩ Hk
  iapply (Transfers.wp_dmaLocal (defs := defs₀ (F := F)) EC 𝒱 (thr x d) bd (src := xBlk x c) (via := ReadAs.same) (dst := x.buf (slot c))
    (sm := .dma x.semR.sem) (q := q) (fs := fx) (Sd := (x.buf (slot c)).view.set) (fd := f) ι (x.buf (slot c)).view.dmaCredit rfl
    (View.dmaCredit_pos _ (by decide)) (Finset.Subset.refl _)) $$ [Hx Hb Hv]
  · isplitl [Hx]; · iexact Hx
    isplitl [Hb] <;> iassumption
  iintro Hfl
  iapply Hk
  unfold Reading
  isplitl [Hfl]
  · iapply (Transfers.Flight_mono EC (thr x d) (show _ ⊢ _ from sep_mono (own_intro (thr x d) _ (View.read_write_univ _ _)) Entails.refl)) $$ Hfl
  iexact Hr

theorem wp_rdw [EC.LandsIn (upEmb : UEmb _ 𝕄)] (q : PosShare TreeShare) (fx : Buf (Elt F) (x.x.view.loc (thr x d))) (c : Fin 4)
    (O : CellTallies nD τ sig Ix) (W : Waits sig Ix)
    {k : PUnit → Prog (TpuEff nD τ sig (Elt F) Λ₀ (thr x d).2) β} :
    iprop(MayWaits (thr x d) ι O ∗ owesW x d O W ι ∗ Reading x EC ι q fx c)
      ⊢ iprop((iprop(owesW x d O W ι ∗ own (thr x d) (x.buf (slot c)) fullShare ((xBlk x c).view.read (Elt F) fx) ∗ toks x d q fx
            ∗ semVal (thr x d, .dma x.semR.sem) 0)
          -∗ wp frame (wpE (defs₀ (F := F)) 𝒱 (thr x d) bd) Set.univ (k ⟨⟩) Q)
        -∗ wp frame (wpE (defs₀ (F := F)) 𝒱 (thr x d) bd) Set.univ (denote x (.rdw c) >>= k) Q) := by
  rw [toks_eq x q fx c]
  unfold owesW Reading
  iintro ⟨#Hmw, HO, ⟨Hfl, Hr⟩⟩ Hk
  icases HO with ⟨%W', %hW', HO⟩
  iapply (Transfers.wp_waitLocalO (defs := defs₀ (F := F)) EC 𝒱 (thr x d) bd (srcw := xBlk x c) (dstw := x.buf (slot c)) ι rfl (O := O) (W := W')) $$ [Hfl HO]
  · isplitl [Hfl]; · iexact Hfl
    isplitl [HO]; · iexact HO
    iapply (Transfers.MayWaits.elim (SemLoc.dma x.semR.sem)) $$ Hmw
  iintro ⟨⟨Hb, Hx⟩, Hv, HO⟩
  iapply Hk
  isplitl [HO]
  · have h := owesW_insert (F := F) (Name := Name) (U := U) (Lvl := Lvl) (d := d) x ι O W W' (SemLoc.dma x.semR.sem) hW'
    unfold owesW at h
    iapply h $$ HO
  isplitl [Hb]; · iexact Hb
  isplitr [Hv]
  · isplitl [Hx] <;> iassumption
  iexact Hv

end Cert.Expand.Copies

end
-- ==== Proof.Expand.Parts.lean ====
/- The printed body is its actions in order.

The body is printed in windows. Each is, by computation, a stretch of the list of actions; the boundaries below are the
stretches' ends. -/
module

public import proofs.«01_k».proof.Proof.Expand.Acts

@[expose] public section

noncomputable section

namespace Cert.Expand.Acts

open Idealize.ShloMosaic Idealize.SL.Sem Cert.Expand
open Facts₀ Facts

variable {F : FTy → Type} [FloatOps F] [Facts] (x : Ctx)

/-- The actions numbered `a` up to `b`, then those up to `c`, are those numbered `a` up to `c`. -/
theorem seg_append {a b c : Nat} (hab : a ≤ b) (hbc : b ≤ c) : seg a b ++ seg b c = seg a c := by
  unfold seg
  rw [show c - a = (b - a) + (c - b) by omega, List.take_add, List.drop_drop, show a + (b - a) = b by omega]

/-- A window that is a stretch of the actions, before a rest that is the next stretch. -/
theorem step {α β : Type} {a : Nat} (b : Nat) {c : Nat} {v : α}
    {p : Prog (TpuEff nD τ sig (Elt F) Λ₀ (.scVector ((x.i 0).castLE hcore0) ((x.i 1).castLE hsub0))) α}
    {f : α → Prog (TpuEff nD τ sig (Elt F) Λ₀ (.scVector ((x.i 0).castLE hcore0) ((x.i 1).castLE hsub0))) β}
    {q : Prog (TpuEff nD τ sig (Elt F) Λ₀ (.scVector ((x.i 0).castLE hcore0) ((x.i 1).castLE hsub0))) β}
    (h : p = runK x (seg a b) (pure v)) (hr : f v = runK x (seg b c) q) (hab : a ≤ b := by decide) (hbc : b ≤ c := by decide) :
    p >>= f = runK x (seg a c) q := by
  rw [h, runK_bind, ← seg_append hab hbc, runK_append]
  congr 1

/-- There are a hundred and sixty actions. -/
theorem seg_all : seg 0 160 = acts := by
  unfold seg
  rw [List.drop_zero]
  exact List.take_of_length_le (by decide +kernel)

/-- The whole body. -/
theorem body_eq : x.ap (cc0__sc_expand_body (F := F)) = runK x acts (pure ⟨⟩) := by
  rw [← seg_all]
  exact step x 6 rfl <| step x 13 rfl <| step x 18 rfl <| step x 23 rfl <| step x 29 rfl <| step x 35 rfl <|
    step x 40 rfl <| step x 46 rfl <| step x 52 rfl <| step x 57 rfl <| step x 63 rfl <| step x 69 rfl <|
    step x 74 rfl <| step x 79 rfl <| step x 85 rfl <| step x 91 rfl <| step x 96 rfl <| step x 102 rfl <|
    step x 108 rfl <| step x 113 rfl <| step x 119 rfl <| step x 124 rfl <| step x 129 rfl <| step x 135 rfl <|
    step x 140 rfl <| step x 146 rfl <| step x 151 rfl <| step x 157 rfl <| (rfl : _ = runK x (seg 157 160) _)

end Cert.Expand.Acts

end
-- ==== Proof.Expand.Chunk.lean ====
/- One tile's whole program: the chunks in turn, each read while the one before it is scattered. -/
module

public import proofs.«01_k».proof.Proof.Expand.Copies
public import proofs.«01_k».proof.Proof.Expand.Parts

@[expose] public section

noncomputable section

namespace Cert.Expand.Chunk

open Idealize.ShloMosaic Idealize.ShloMosaic.ValueIdx
open Idealize.SL
open Idealize.SL.BI (sProp Storable bigSep bigSep_mono bigSep_empty bigSep_univ_two)
open scoped Idealize.SL.BI
open Idealize.SL.BI.BIBase Idealize.SL.BI.Laws Idealize.SL.Sem Idealize.SL.ProofMode
open Idealize.SL.RA
open Idealize.ShloMosaic.SparseCore (V)
open Idealize.ShloMosaic.Transfers (Batch MayWaits Flight)
open Cert.Expand Cert.Expand.Acts Cert.Expand.Scatter Cert.Expand.Copies Cert.Proof.Own
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

variable {d : Dev nD} {x : Ctx} (D : Data F x d)
variable (EC : UEmb Counters (MT nD τ sig Ix (Elt F) Name U Lvl)) (𝒱 : Variants) (bd : Option 𝒱.V) (ι : Ix)
variable {β : Type} {Q : β → sProp (MT nD τ sig Ix (Elt F) Name U Lvl)}

/-- The buffer used at chunk `k`: the first at even ones. -/
def sl (k : ℕ) : Bool := k % 2 == 1

theorem sl_succ (k : ℕ) : sl (k + 1) = !sl k := by
  unfold sl
  rcases Nat.mod_two_eq_zero_or_one k with h | h <;> rw [Nat.add_mod, h] <;> rfl

theorem slot_eq (c : Fin 4) : slot c = sl c.val := by revert c; decide

/-- A semaphore of the tile at zero. -/
def sem0 (x : Ctx) (d : Dev nD) (s : DmaSems sig S_) : sProp 𝕄 := semVal (thr x d, .dma s.sem) 0

/-- A set of the tile's buffers idle: its rows' buffer, whatever it holds, and its two semaphores. -/
def Rest (x : Ctx) (d : Dev nD) (s : Bool) : sProp 𝕄 := iprop(free x d s ∗ sem0 x d (x.semS s) ∗ sem0 x d (x.semT s))

/-- What the chunk before `k` left under way in the other set. -/
def Prev (k : ℕ) : sProp 𝕄 :=
  if h : 1 ≤ k ∧ k ≤ 4 then D.InFlight EC ι ⟨k - 1, by omega⟩ else Rest x d (!sl k)

/-- The parts of the first `n` chunks, written. -/
def Done (n : ℕ) : sProp 𝕄 := bigSep (Finset.univ.filter fun c : Fin 4 => c.val < n) fun c => D.part c D.xs1 D.gs1

/-- The parts of the chunks from `k` on, still to write. -/
def Todo (k : ℕ) : sProp 𝕄 := bigSep (Transfers.pending k) fun c : Fin 4 => D.part c D.xs0 D.gs0

/-- Between the read of chunk `k` starting and chunk `k` itself. -/
def Fly (k : ℕ) : sProp 𝕄 :=
  if h : k < 4 then
    iprop(Reading x EC ι D.q D.fx ⟨k, h⟩ ∗ sem0 x d (x.semS (sl k)) ∗ sem0 x d (x.semT (sl k)) ∗ Prev D EC ι k ∗ Done D (k - 1))
  else
    iprop(toks x d D.q D.fx ∗ sem0 x d x.semR ∗ D.InFlight EC ι 2 ∗ D.InFlight EC ι 3 ∗ Done D 2)

theorem Done_succ (c : Fin 4) : iprop(D.part c D.xs1 D.gs1 ∗ Done D c.val) ⊢ (Done D (c.val + 1) : sProp 𝕄) := by
  unfold Done
  have h : (Finset.univ.filter fun a : Fin 4 => a.val < c.val + 1) = insert c (Finset.univ.filter fun a : Fin 4 => a.val < c.val) := by
    ext a
    simp only [Finset.mem_filter, Finset.mem_univ, true_and, Finset.mem_insert]
    constructor
    · intro h
      by_cases e : a = c
      · exact Or.inl e
      · exact Or.inr (by have : a.val ≠ c.val := fun h => e (Fin.ext h); omega)
    · rintro (rfl | h) <;> omega
  rw [h, BI.bigSep_insert (by simp)]
  exact Entails.refl

/-- Before the next chunk's read starts, the scatters of its buffer are over. -/
theorem wp_before [EC.LandsIn (upEmb : UEmb _ 𝕄)] (c : Fin 4) (O : CellTallies nD τ sig Ix) (W : Waits sig Ix)
    (p : Prog (TpuEff nD τ sig (Elt F) Λ₀ (thr x d).2) β) :
    iprop(MayWaits (thr x d) ι O ∗ owesW x d O W ι ∗ Prev D EC ι c.val ∗ Done D (c.val - 1))
      ⊢ iprop((iprop(owesW x d O W ι ∗ Rest x d (!slot c) ∗ Done D c.val)
          -∗ wp frame (wpE (defs₀ (F := F)) 𝒱 (thr x d) bd) Set.univ p Q)
        -∗ wp frame (wpE (defs₀ (F := F)) 𝒱 (thr x d) bd) Set.univ (runK x (if 1 ≤ c.val then collect ⟨c.val - 1, by omega⟩ else []) p) Q) := by
  by_cases h1 : 1 ≤ c.val
  · have hc : c.val - 1 < 4 := by omega
    rw [if_pos h1, show Prev D EC ι c.val = _ from dif_pos ⟨h1, by omega⟩]
    have e' : slot ⟨c.val - 1, by omega⟩ = !slot c := by
      rw [slot_eq, slot_eq]
      have := sl_succ (c.val - 1)
      rw [Nat.sub_add_cancel h1] at this
      rw [this, Bool.not_not]
    iintro ⟨#Hmw, HO, Hf, Hd⟩ Hk
    iapply (wp_collect D EC 𝒱 bd ι ⟨c.val - 1, hc⟩ O W) $$ [HO Hf]
    · isplitr; · iexact Hmw
      isplitl [HO]; · iexact HO
      iexact Hf
    rw [e']
    iintro ⟨HO, Hp, Hb, Hs, Ht⟩
    iapply Hk
    isplitl [HO]; · iexact HO
    isplitl [Hb Hs Ht]
    · unfold Rest sem0
      isplitl [Hb]; · iexact Hb
      isplitl [Hs] <;> iassumption
    have hd := Done_succ (Ix := Ix) (Name := Name) (U := U) (Lvl := Lvl) D ⟨c.val - 1, by omega⟩
    rw [show (⟨c.val - 1, by omega⟩ : Fin 4).val + 1 = c.val from Nat.sub_add_cancel h1] at hd
    iapply hd
    isplitl [Hp] <;> iassumption
  · rw [if_neg h1, show Prev D EC ι c.val = _ from dif_neg (by omega), ← slot_eq c, show c.val - 1 = c.val by omega]
    iintro ⟨-, HO, Hf, Hd⟩ Hk
    simp only [runK]
    iapply Hk
    isplitl [HO]; · iexact HO
    isplitl [Hf] <;> iassumption

/-- One chunk. -/
theorem wp_chunk [Infinite Name] [EC.LandsIn (upEmb : UEmb _ 𝕄)] (c : Fin 4) (O : CellTallies nD τ sig Ix) (W : Waits sig Ix)
    (p : Prog (TpuEff nD τ sig (Elt F) Λ₀ (thr x d).2) β) :
    iprop(MayWaits (thr x d) ι O ∗ owesW x d O W ι ∗ Fly D EC ι c.val ∗ Todo D c.val)
      ⊢ iprop((iprop(MayWaits (thr x d) ι O ∗ owesW x d O W ι ∗ Fly D EC ι (c.val + 1) ∗ Todo D (c.val + 1))
          -∗ wp frame (wpE (defs₀ (F := F)) 𝒱 (thr x d) bd) Set.univ p Q)
        -∗ wp frame (wpE (defs₀ (F := F)) 𝒱 (thr x d) bd) Set.univ (runK x (chunk c) p) Q) := by
  unfold chunk
  rw [runK_append, runK_append]
  rw [show Fly D EC ι c.val = _ from dif_pos c.isLt]
  rw [show (Todo D c.val : sProp 𝕄) = _ from Transfers.bigSep_pending_step _ c.val c.isLt]
  iintro ⟨#Hmw, HO, ⟨Hrd, HsS, HsT, Hprev, Hdone⟩, ⟨Hpt, Htodo⟩⟩ Hk
  simp only [runK]
  iapply (wp_rdw x EC 𝒱 bd ι D.q D.fx c O W) $$ [HO Hrd]
  · isplitr; · iexact Hmw
    isplitl [HO]; · iexact HO
    iexact Hrd
  iintro ⟨HO, Hb, HX, HR⟩
  rw [← slot_eq c]
  by_cases h : c.val + 1 < 4
  · rw [dif_pos h]
    have e : slot ⟨c.val + 1, h⟩ = !slot c := by rw [slot_eq, slot_eq]; exact sl_succ c.val
    rw [runK_append]
    iapply (wp_before D EC 𝒱 bd ι c O W _) $$ [HO Hprev Hdone]
    · isplitr; · iexact Hmw
      isplitl [HO]; · iexact HO
      isplitl [Hprev] <;> iassumption
    unfold Rest
    iintro ⟨HO, ⟨Hfb, HsS', HsT'⟩, Hdone⟩
    simp only [runK]
    have hi := fun (k : PUnit → Prog (TpuEff nD τ sig (Elt F) Λ₀ (thr x d).2) β) => wp_rd (Q := Q) (k := k) x EC 𝒱 bd ι D.q D.fx ⟨c.val + 1, h⟩
    rw [e] at hi
    iapply (hi _) $$ [HX Hfb HR]
    · isplitl [HX]; · iexact HX
      isplitl [Hfb] <;> iassumption
    iintro Hrd
    iapply (wp_issue D EC 𝒱 bd ι c p) $$ [Hpt Hb HsS HsT]
    · unfold sem0
      isplitl [Hpt]; · iexact Hpt
      isplitl [Hb]; · iexact Hb
      isplitl [HsS] <;> iassumption
    iintro Hin
    iapply Hk
    isplitr; · iexact Hmw
    isplitl [HO]; · iexact HO
    isplitr [Htodo]
    · rw [show Fly D EC ι (c.val + 1) = _ from dif_pos h, show Prev D EC ι (c.val + 1) = _ from dif_pos ⟨by omega, by omega⟩,
        sl_succ, ← slot_eq c]
      isplitl [Hrd]; · iexact Hrd
      isplitl [HsS']; · iexact HsS'
      isplitl [HsT']; · iexact HsT'
      isplitl [Hin]; · iexact Hin
      iexact Hdone
    · unfold Todo; iexact Htodo
  · rw [dif_neg h]
    obtain rfl : c = 3 := Fin.ext (show c.val = 3 by omega)
    simp only [runK]
    iapply (wp_issue D EC 𝒱 bd ι 3 p) $$ [Hpt Hb HsS HsT]
    · unfold sem0
      isplitl [Hpt]; · iexact Hpt
      isplitl [Hb]; · iexact Hb
      isplitl [HsS] <;> iassumption
    iintro Hin
    iapply Hk
    isplitr; · iexact Hmw
    isplitl [HO]; · iexact HO
    isplitr [Htodo]
    · rw [show Fly D EC ι ((3 : Fin 4).val + 1) = _ from dif_neg (by decide)]
      isplitl [HX]; · iexact HX
      isplitl [HR]; · unfold sem0; iexact HR
      isplitl [Hprev]
      · iapply (Entails.of_eq (show Prev D EC ι (3 : Fin 4).val = _ from dif_pos (by decide))) $$ Hprev
      isplitl [Hin]; · iexact Hin
      iexact Hdone
    · unfold Todo; iexact Htodo

/-- The chunks, from the first one's read under way to every part written. -/
theorem wp_chunks [Infinite Name] [EC.LandsIn (upEmb : UEmb _ 𝕄)] (O : CellTallies nD τ sig Ix) (W : Waits sig Ix)
    (p : Prog (TpuEff nD τ sig (Elt F) Λ₀ (thr x d).2) β) :
    iprop(MayWaits (thr x d) ι O ∗ owesW x d O W ι ∗ Reading x EC ι D.q D.fx 0 ∗ (sem0 x d (x.semS false) ∗ sem0 x d (x.semT false)) ∗ Rest x d true
        ∗ bigSep Finset.univ fun c => D.part c D.xs0 D.gs0)
      ⊢ iprop((iprop(owesW x d O W ι ∗ (toks x d D.q D.fx ∗ sem0 x d x.semR) ∗ (Rest x d false ∗ Rest x d true)
            ∗ bigSep Finset.univ fun c => D.part c D.xs1 D.gs1)
          -∗ wp frame (wpE (defs₀ (F := F)) 𝒱 (thr x d) bd) Set.univ p Q)
        -∗ wp frame (wpE (defs₀ (F := F)) 𝒱 (thr x d) bd) Set.univ
            (runK x ((List.finRange 4).flatMap chunk ++ collect 2 ++ collect 3) p) Q) := by
  rw [runK_append, runK_append]
  iintro ⟨#Hmw, HO, Hrd, ⟨HS, HT⟩, Hr, Hp⟩ Hk
  iapply (runK_parts 𝒱 bd chunk (fun k => iprop(MayWaits (thr x d) ι O ∗ owesW x d O W ι ∗ Fly D EC ι k ∗ Todo D k))
    (fun c q => wp_chunk D EC 𝒱 bd ι c O W q)) $$ [HO Hrd HS HT Hr Hp]
  · isplitr; · iexact Hmw
    isplitl [HO]; · iexact HO
    isplitr [Hp]
    · rw [show Fly D EC ι 0 = _ from dif_pos (by decide), show Prev D EC ι 0 = _ from dif_neg (by decide)]
      isplitl [Hrd]; · iexact Hrd
      isplitl [HS]; · iexact HS
      isplitl [HT]; · iexact HT
      isplitl [Hr]; · iexact Hr
      unfold Done
      rw [Finset.filter_false_of_mem (by intro c _; omega), bigSep_empty]
      iempintro
    · unfold Todo
      rw [Transfers.pending_zero]
      iexact Hp
  rw [show Fly D EC ι 4 = _ from dif_neg (by decide)]
  iintro ⟨-, HO, ⟨HX, HR, H2, H3, Hd⟩, -⟩
  iapply (wp_collect D EC 𝒱 bd ι 2 O W) $$ [HO H2]
  · isplitr; · iexact Hmw
    isplitl [HO]; · iexact HO
    iexact H2
  iintro ⟨HO, Hp2, Hf2, HS2, HT2⟩
  iapply (wp_collect D EC 𝒱 bd ι 3 O W) $$ [HO H3]
  · isplitr; · iexact Hmw
    isplitl [HO]; · iexact HO
    iexact H3
  iintro ⟨HO, Hp3, Hf3, HS3, HT3⟩
  iapply Hk
  isplitl [HO]; · iexact HO
  isplitl [HX HR]; · isplitl [HX] <;> iassumption
  isplitl [Hf2 HS2 HT2 Hf3 HS3 HT3]
  · unfold Rest sem0
    isplitl [Hf2 HS2 HT2]
    · isplitl [Hf2]; · iexact Hf2
      isplitl [HS2]; · iexact HS2
      iexact HT2
    · isplitl [Hf3]; · iexact Hf3
      isplitl [HS3]; · iexact HS3
      iexact HT3
  have h4 : (Done D 4 : sProp 𝕄) = bigSep Finset.univ fun c => D.part c D.xs1 D.gs1 := by
    unfold Done; rw [Finset.filter_true_of_mem (by intro c _; exact c.isLt)]
  rw [← h4]
  iapply (Done_succ D 3)
  isplitl [Hp3]; · iexact Hp3
  iapply (Done_succ D 2)
  isplitl [Hp2]; · iexact Hp2
  iexact Hd

end Cert.Expand.Chunk

end
-- ==== Proof.Expand.Body.lean ====
/- The tile's printed body, from its blocks of gates and positions and the rows of the results they name. -/
module

public import proofs.«01_k».proof.Proof.Expand.Chunk

@[expose] public section

noncomputable section

namespace Cert.Expand.Body

open Idealize.ShloMosaic Idealize.ShloMosaic.ValueIdx
open Idealize.SL
open Idealize.SL.BI (sProp Storable bigSep bigSep_mono bigSep_congr bigSep_empty bigSep_univ_two bigSep_sep')
open scoped Idealize.SL.BI
open Idealize.SL.BI.BIBase Idealize.SL.BI.Laws Idealize.SL.Sem Idealize.SL.ProofMode
open Idealize.SL.RA
open Idealize.ShloMosaic.SparseCore (V)
open Idealize.ShloMosaic.Transfers (Batch MayWaits Flight)
open Cert.Expand Cert.Expand.Acts Cert.Expand.Scatter Cert.Expand.Copies Cert.Expand.Chunk Cert.Proof.Own
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

variable (x : Ctx) (d : Dev nD)
variable (EC : UEmb Counters (MT nD τ sig Ix (Elt F) Name U Lvl)) (𝒱 : Variants) (bd : Option 𝒱.V) (ι : Ix)

/-- The rows of the results that chunk `c`'s positions name, at `f` and `g`. -/
def names (ix : Bool → S4x32.Idx → Fin 8192) (f : Buf (Elt F) (x.xs.view.loc (thr x d))) (g : Buf (Elt F) (x.gs.view.loc (thr x d))) (c : Fin 4) : sProp 𝕄 :=
  iprop(((bigSep Finset.univ fun j : Fin 8 => bigSep Finset.univ fun r : Fin 32 => xsPart x d j (ix false (ix2 c r)) f)
      ∗ (bigSep Finset.univ fun j : Fin 8 => bigSep Finset.univ fun r : Fin 32 => xsPart x d j (ix true (ix2 c r)) f))
    ∗ (bigSep Finset.univ fun r : Fin 32 => gsPart x d (ix false (ix2 c r)) g) ∗ (bigSep Finset.univ fun r : Fin 32 => gsPart x d (ix true (ix2 c r)) g))

/-- The tile's semaphores at zero. -/
def sems : sProp 𝕄 :=
  iprop(sem0 x d x.semI ∗ sem0 x d x.semR ∗ sem0 x d (x.semS false) ∗ sem0 x d (x.semS true) ∗ sem0 x d (x.semT false) ∗ sem0 x d (x.semT true))
/-- Its buffers, whatever they hold. -/
def bufs : sProp 𝕄 :=
  iprop((free x d false ∗ free x d true) ∗ (freeG x d false ∗ freeG x d true) ∗ (freeP x d false ∗ freeP x d true))

/-- What the tile reads: a share of the tokens, and its blocks of gates and positions. -/
def ins (q : PosShare TreeShare) (fx : Buf (Elt F) (x.x.view.loc (thr x d))) (hg : (w : Bool) → Buf (Elt F) ((x.g w).view.loc (thr x d)))
    (hp : (w : Bool) → Buf (Elt F) ((x.p w).view.loc (thr x d))) : sProp 𝕄 :=
  iprop(toks x d q fx ∗ blks x d hg hp)

/-- A list is its four rows. -/
theorem list_eq {e : EltTy} (m : Memref sig .scVector .vmem S4x32 e) (f : Buf (Elt F) (m.view.loc (thr x d))) :
    (m.view.loc (thr x d) ↦[m.view.set]{fullShare} f : sProp 𝕄)
      = bigSep Finset.univ fun c : Fin 4 => (m.view.loc (thr x d)
          ↦[((m.slice (Rect.unit (s := S4x32) ![c.val, 0] S1x32.size (inb_row c)) (fun _ => rfl)).squeeze S32 squeezes_S1x32_S32).view.set]{fullShare} f : sProp 𝕄) := by
  refine (pts_rects (Ix := Ix) (Name := Name) (U := U) (Lvl := Lvl) (thr x d) m fullShare f (fun c : Fin 4 => Rect.unit (s := S4x32) ![c.val, 0] S1x32.size (inb_row c)) (fun _ _ => rfl) ?_ ?_).trans ?_
  · intro a b hab
    rw [Finset.disjoint_left]
    intro i hi hj
    have h1 : a.val ≤ (i 0).val ∧ (i 0).val < a.val + 1 := Rect.mem_set_unit.mp hi 0
    have h2 : b.val ≤ (i 0).val ∧ (i 0).val < b.val + 1 := Rect.mem_set_unit.mp hj 0
    exact hab (Fin.ext (by omega))
  · intro i
    have h0 := idx2_lt0 i
    have h1 := idx2_lt1 i
    refine ⟨⟨(i 0).val, h0⟩, Rect.mem_set_unit.mpr fun a => ?_⟩
    match a with
    | 0 => show (i 0).val ≤ (i 0).val ∧ (i 0).val < (i 0).val + 1; omega
    | 1 => show 0 ≤ (i 1).val ∧ (i 1).val < 0 + 32; omega
  · refine bigSep_congr fun c _ => ?_
    exact congrArg (fun S => (m.view.loc (thr x d) ↦[S]{fullShare} f : sProp 𝕄)) (View.set_reshape _ _).symm

variable {x d}

/-- The chunks' parts are the lists and the rows named. -/
theorem parts_eq (D : Data F x d) (f : Buf (Elt F) (x.xs.view.loc (thr x d))) (g : Buf (Elt F) (x.gs.view.loc (thr x d))) :
    (bigSep Finset.univ fun c : Fin 4 => (D.part c f g : sProp 𝕄)) = iprop(
      (((x.lp false).view.loc (thr x d) ↦[(x.lp false).view.set]{fullShare} D.fl false) ∗ ((x.lp true).view.loc (thr x d) ↦[(x.lp true).view.set]{fullShare} D.fl true))
      ∗ (((x.lg false).view.loc (thr x d) ↦[(x.lg false).view.set]{fullShare} D.fg false) ∗ ((x.lg true).view.loc (thr x d) ↦[(x.lg true).view.set]{fullShare} D.fg true))
      ∗ (bigSep Finset.univ fun c : Fin 4 => names x d D.ix f g c)) := by
  have h : ∀ c, (D.part c f g : sProp 𝕄) = iprop((D.pRow c false ∗ D.pRow c true) ∗ (D.gRow c false ∗ D.gRow c true) ∗ names x d D.ix f g c) := fun c => rfl
  simp only [h]
  rw [bigSep_sep', bigSep_sep', bigSep_sep', bigSep_sep', list_eq, list_eq, list_eq, list_eq]
  rfl

variable (x d)

/-- The body writes every row its positions name as it is to be, and leaves what it read, its buffers and its semaphores as
    they came. -/
theorem wp_body [Infinite Name] [EC.LandsIn (upEmb : UEmb _ 𝕄)] (O : CellTallies nD τ sig Ix) (W : Waits sig Ix) (q : PosShare TreeShare)
    (fx : Buf (Elt F) (x.x.view.loc (thr x d))) (hg : (w : Bool) → Buf (Elt F) ((x.g w).view.loc (thr x d)))
    (hp : (w : Bool) → Buf (Elt F) ((x.p w).view.loc (thr x d)))
    (ix : Bool → S4x32.Idx → Fin 8192) (hix : ∀ w k, ((pBlk x w).view.read (Elt F) (hp w) k).toNat = (ix w k).val)
    (xs0 xs1 : Buf (Elt F) (x.xs.view.loc (thr x d))) (gs0 gs1 : Buf (Elt F) (x.gs.view.loc (thr x d)))
    (hxs : ∀ (c : Fin 4) (w : Bool) (r : Fin 32) (m : Fin 1024),
      x.xs.view.read (Elt F) xs1 (ix2 (ix w (ix2 c r)) m) = (xBlk x c).view.read (Elt F) fx (ix2 r m))
    (hgs : ∀ (c : Fin 4) (w : Bool) (r : Fin 32),
      x.gs.view.read (Elt F) gs1 (ix1 (ix w (ix2 c r))) = (gBlk x w).view.read (Elt F) (hg w) (ix2 c r)) :
    (iprop(MayWaits (thr x d) ι O ∗ owesW x d O W ι ∗ ins x d q fx hg hp ∗ bufs x d ∗ sems x d
        ∗ bigSep Finset.univ fun c => names x d ix xs0 gs0 c) : sProp 𝕄)
      ⊢ wp frame (wpE (defs₀ (F := F)) 𝒱 (thr x d) bd) Set.univ (x.ap (cc0__sc_expand_body (F := F))) fun _ =>
          iprop(owesW x d O W ι ∗ ins x d q fx hg hp ∗ bufs x d ∗ sems x d
            ∗ bigSep Finset.univ fun c => names x d ix xs1 gs1 c) := by
  rw [body_eq]
  unfold acts ins bufs sems
  rw [List.append_assoc, List.append_assoc, runK_append, runK_append, runK_append, ← List.append_assoc]
  iintro ⟨#Hmw, HO, ⟨HX, HB⟩, ⟨⟨Hf0, Hf1⟩, Hg, Hp⟩, ⟨HI, HR, HS0, HS1, HT0, HT1⟩, Hn⟩
  iapply (wp_loads x EC 𝒱 bd ι hg hp _) $$ [HB Hg Hp HI]
  · isplitl [HB]; · iexact HB
    isplitl [Hg]; · iexact Hg
    isplitl [Hp]; · iexact Hp
    unfold sem0; iexact HI
  iintro HL
  simp only [runK]
  iapply (wp_rd x EC 𝒱 bd ι q fx 0) $$ [HX Hf0 HR]
  · isplitl [HX]; · iexact HX
    isplitl [Hf0]; · iexact Hf0
    unfold sem0; iexact HR
  iintro Hrd
  iapply (wp_loadsW x EC 𝒱 bd ι hg hp O W _) $$ [HO HL]
  · isplitr; · iexact Hmw
    isplitl [HO]; · iexact HO
    iexact HL
  unfold lists own
  iintro ⟨HO, HB, ⟨⟨⟨%g0, %e0, Hg0⟩, ⟨%g1, %e1, Hg1⟩⟩, ⟨⟨%p0, %h0, Hp0⟩, ⟨%p1, %h1, Hp1⟩⟩⟩, HI⟩
  let D : Data F x d := {
    q := q
    fx := fx
    fl := fun w => Bool.rec p0 p1 w
    fg := fun w => Bool.rec g0 g1 w
    ix := ix
    hl := fun w k => by
      cases w
      · exact (congrArg (fun f => BitVec.toNat (f k)) h0).trans (hix false k)
      · exact (congrArg (fun f => BitVec.toNat (f k)) h1).trans (hix true k)
    xs0 := xs0
    xs1 := xs1
    gs0 := gs0
    gs1 := gs1
    hxs := hxs
    hgs := fun c w r => by
      refine (hgs c w r).trans ?_
      cases w
      · exact (congrFun e0 (ix2 c r)).symm
      · exact (congrFun e1 (ix2 c r)).symm }
  iapply (wp_chunks D EC 𝒱 bd ι O W) $$ [HO Hrd HS0 HT0 Hf1 HS1 HT1 Hp0 Hp1 Hg0 Hg1 Hn]
  · isplitr; · iexact Hmw
    isplitl [HO]; · iexact HO
    isplitl [Hrd]; · iexact Hrd
    isplitl [HS0 HT0]; · isplitl [HS0] <;> iassumption
    isplitl [Hf1 HS1 HT1]
    · unfold Rest
      isplitl [Hf1]; · iexact Hf1
      isplitl [HS1] <;> iassumption
    rw [parts_eq D]
    isplitl [Hp0 Hp1]
    · isplitl [Hp0]; · iexact Hp0
      iexact Hp1
    isplitl [Hg0 Hg1]
    · isplitl [Hg0]; · iexact Hg0
      iexact Hg1
    iexact Hn
  rw [parts_eq D]
  unfold Rest
  iintro ⟨HO, ⟨HX, HR⟩, ⟨⟨Hf0, HS0, HT0⟩, Hf1, HS1, HT1⟩, ⟨Hp0, Hp1⟩, ⟨Hg0, Hg1⟩, Hn⟩
  rw [show (pure ⟨⟩ : Prog (TpuEff nD τ sig (Elt F) Λ₀ (thr x d).2) PUnit) = .ret ⟨⟩ from rfl, wp_ret]
  imodintro
  isplitl [HO]; · iexact HO
  isplitl [HX HB]
  · isplitl [HX]; · iexact HX
    iexact HB
  isplitl [Hf0 Hf1 Hg0 Hg1 Hp0 Hp1]
  · isplitl [Hf0 Hf1]
    · isplitl [Hf0] <;> iassumption
    unfold freeG freeP
    isplitl [Hg0 Hg1]
    · isplitl [Hg0]
      · iexists g0; iexact Hg0
      iexists g1; iexact Hg1
    · isplitl [Hp0]
      · iexists p0; iexact Hp0
      iexists p1; iexact Hp1
  isplitl [HI HR HS0 HS1 HT0 HT1]
  · isplitl [HI]; · unfold sem0; iexact HI
    isplitl [HR]; · iexact HR
    isplitl [HS0]; · iexact HS0
    isplitl [HS1]; · iexact HS1
    isplitl [HT0] <;> iassumption
  iexact Hn

end Cert.Expand.Body

end
-- ==== Proof.Expand.Tile.lean ====
/- The tiles of the expanding call: which choices each handles, and what it leaves. -/
module

public import proofs.«01_k».proof.Proof.Expand.Body
public import Idealize.ShloMosaic.Lib.SparseCore.Quiescent
public import Idealize.ShloMosaic.Lib.ValueLayout

@[expose] public section

noncomputable section

namespace Cert.Expand.Tile

open Idealize.ShloMosaic Idealize.ShloMosaic.ValueIdx
open Idealize.SL
open Idealize.SL.BI (sProp Storable bigSep bigSep_mono bigSep_congr bigSep_empty bigSep_univ_prod bigSep_sep')
open scoped Idealize.SL.BI
open Idealize.SL.BI.BIBase Idealize.SL.BI.Laws Idealize.SL.Sem Idealize.SL.ProofMode
open Idealize.SL.RA
open Idealize.ShloMosaic.SparseCore (V)
open Idealize.ShloMosaic.Transfers (MayWaits)
open Cert.Expand Cert.Expand.Acts Cert.Expand.Scatter Cert.Expand.Copies Cert.Expand.Chunk Cert.Expand.Body Cert.Proof.Own
open Facts₀ Facts

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

/-- What the body is called on at a grid point. -/
def ctxOf (L : grid0.Coords) : Ctx where
  i := L
  x := Memref.whole main_arg0_scv
  hx := Memref.isWhole_whole _
  g0 := Memref.whole main_v32_scv
  hg0 := Memref.isWhole_whole _
  g1 := Memref.whole main_v35_scv
  hg1 := Memref.isWhole_whole _
  p0 := Memref.whole main_v26_scv
  hp0 := Memref.isWhole_whole _
  p1 := Memref.whole main_v29_scv
  hp1 := Memref.isWhole_whole _
  xs := Memref.whole main_v36_0_scv
  hxs := Memref.isWhole_whole _
  gs := Memref.whole main_v36_1_scv
  hgs := Memref.isWhole_whole _
  b0 := Memref.whole cc0_scratch0
  hb0 := Memref.isWhole_whole _
  b1 := Memref.whole cc0_scratch1
  hb1 := Memref.isWhole_whole _
  lg0 := Memref.whole cc0_scratch2
  hlg0 := Memref.isWhole_whole _
  lg1 := Memref.whole cc0_scratch3
  hlg1 := Memref.isWhole_whole _
  lp0 := Memref.whole cc0_scratch4
  hlp0 := Memref.isWhole_whole _
  lp1 := Memref.whole cc0_scratch5
  hlp1 := Memref.isWhole_whole _
  semI := cc0_scratch6
  semR := cc0_scratch7
  semS0 := cc0_scratch8
  semS1 := cc0_scratch9
  semT0 := cc0_scratch10
  semT1 := cc0_scratch11

/-- The grid point of SparseCore `c`, subcore `s`. -/
def coords (c : Fin (grid0.bound 0)) (s : Fin (grid0.bound 1)) : grid0.Coords :=
  fun | 0 => c | 1 => s | ⟨_ + 2, h⟩ => absurd h (Nat.not_lt.2 (Nat.le_add_left _ _))

/-- The grid points. -/
def tile (t : Fin 2 × Fin 16) : grid0.Coords := coords t.1 t.2

/-- A tile's number among the thirty-two: its tokens are the `128` from `128` times it. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

theorem off1_eq : ∀ L : grid0.Coords, k0_off1 L = ![wid L, 0, 0] := by decide +kernel
theorem off2_eq : ∀ (L : grid0.Coords) (c : Fin 4), k0_off2 L (BitVec.ofNat 32 (32 * c.val)) = ![128 * wid L + 32 * c.val, 0] := by decide +kernel

/-- A tile's block of a side's positions, or gates. -/
def pRect (L : grid0.Coords) : Rect S32x4x32 := Rect.unit (s := S32x4x32) (k0_off1 L) S1x4x32.size (k0_off1_inb L)

theorem mem_pRect (L : grid0.Coords) (i : S32x4x32.Idx) : i ∈ (pRect L).set ↔ (i 0).val = wid L := by
  unfold pRect
  rw [Rect.mem_set_unit, off1_eq]
  have h1 : (i 1).val < 4 := (i 1).isLt
  have h2 : (i 2).val < 32 := (i 2).isLt
  constructor
  · intro h
    have h0 : wid L ≤ (i 0).val ∧ (i 0).val < wid L + 1 := h 0
    omega
  · intro h a
    match a with
    | 0 => show wid L ≤ (i 0).val ∧ (i 0).val < wid L + 1; omega
    | 1 => show 0 ≤ (i 1).val ∧ (i 1).val < 0 + 4; omega
    | 2 => show 0 ≤ (i 2).val ∧ (i 2).val < 0 + 32; omega

theorem wid_tile (t : Fin 2 × Fin 16) : wid (tile t) = 2 * t.2.val + t.1.val := rfl

theorem wid_inj {t u : Fin 2 × Fin 16} (h : wid (tile t) = wid (tile u)) : t = u := by
  rw [wid_tile, wid_tile] at h
  have h1 := t.1.isLt
  have h2 := u.1.isLt
  exact Prod.ext (Fin.ext (by omega)) (Fin.ext (by omega))

theorem wid_surj (n : ℕ) (h : n < 32) : ∃ t, wid (tile t) = n :=
  ⟨(⟨n % 2, by omega⟩, ⟨n / 2, by omega⟩), by rw [wid_tile]; show 2 * (n / 2) + n % 2 = n; omega⟩

theorem p_disjoint : ∀ t u : Fin 2 × Fin 16, t ≠ u → Disjoint (pRect (tile t)).set (pRect (tile u)).set := by
  intro t u h
  rw [Finset.disjoint_left]
  intro i hi hj
  rw [mem_pRect] at hi hj
  exact h (wid_inj (hi.symm.trans hj))

theorem p_cover : ∀ i : S32x4x32.Idx, ∃ t, i ∈ (pRect (tile t)).set := by
  intro i
  obtain ⟨t, ht⟩ := wid_surj (i 0).val (i 0).isLt
  exact ⟨t, (mem_pRect _ _).mpr ht.symm⟩

/-! ## The choices

A token's two choices are numbered `2 t` and `2 t + 1`; a tile's chunk has thirty-two tokens. -/

/-- The number of the choice that tile `a`'s chunk `b` holds in lane `c` of side `w`. -/
def num (a : Fin 32) (b : Fin 4) (c : Fin 32) (w : Bool) : Fin 8192 :=
  ⟨2 * (128 * a.val + 32 * b.val + c.val) + w.toNat, by
    have hw : w.toNat < 2 := by cases w <;> decide
    omega⟩

/-- Every choice is one tile's, in one chunk, lane and side. -/
def numE : ((Fin 2 × Fin 16) × Fin 4) × (Bool × Fin 32) ≃ Fin 8192 where
  toFun t := num ⟨wid (tile t.1.1), wid_lt _⟩ t.1.2 t.2.2 t.2.1
  invFun n := (((⟨n.val / 256 % 2, by omega⟩, ⟨n.val / 512, by omega⟩), ⟨n.val % 256 / 64, by omega⟩), (n.val % 2 == 1, ⟨n.val % 64 / 2, by omega⟩))
  left_inv := by
    rintro ⟨⟨⟨a, b⟩, c⟩, w, l⟩
    have hw : w.toNat < 2 := by cases w <;> decide
    have hv : (num ⟨wid (tile (a, b)), wid_lt _⟩ c l w).val = 2 * (128 * (2 * b.val + a.val) + 32 * c.val + l.val) + w.toNat := rfl
    have ha := a.isLt
    have hc := c.isLt
    have hl := l.isLt
    have hb : ((num ⟨wid (tile (a, b)), wid_lt _⟩ c l w).val % 2 == 1) = w := by
      rw [show (num ⟨wid (tile (a, b)), wid_lt _⟩ c l w).val % 2 = w.toNat by omega]; cases w <;> rfl
    refine Prod.ext (Prod.ext (Prod.ext (Fin.ext ?_) (Fin.ext ?_)) (Fin.ext ?_)) (Prod.ext hb (Fin.ext ?_))
    · show (num ⟨wid (tile (a, b)), wid_lt _⟩ c l w).val / 256 % 2 = a.val; omega
    · show (num ⟨wid (tile (a, b)), wid_lt _⟩ c l w).val / 512 = b.val; omega
    · show (num ⟨wid (tile (a, b)), wid_lt _⟩ c l w).val % 256 / 64 = c.val; omega
    · show (num ⟨wid (tile (a, b)), wid_lt _⟩ c l w).val % 64 / 2 = l.val; omega
  right_inv := by
    intro n
    have hn := n.isLt
    apply Fin.ext
    show 2 * (128 * (2 * (n.val / 512) + n.val / 256 % 2) + 32 * (n.val % 256 / 64) + n.val % 64 / 2) + (n.val % 2 == 1).toNat = n.val
    have hb : (n.val % 2 == 1).toNat = n.val % 2 := by
      have h : n.val % 2 = 0 ∨ n.val % 2 = 1 := by omega
      rcases h with h | h <;> rw [h] <;> rfl
    rw [hb]
    omega

/-! ## The call's arrays -/

abbrev xLoc (d : Dev nD) : Loc nD τ sig := (SparseCore.T d).loc main_arg0
abbrev g0Loc (d : Dev nD) : Loc nD τ sig := (SparseCore.T d).loc main_v32
abbrev g1Loc (d : Dev nD) : Loc nD τ sig := (SparseCore.T d).loc main_v35
abbrev p0Loc (d : Dev nD) : Loc nD τ sig := (SparseCore.T d).loc main_v26
abbrev p1Loc (d : Dev nD) : Loc nD τ sig := (SparseCore.T d).loc main_v29
abbrev xsLoc (d : Dev nD) : Loc nD τ sig := (SparseCore.T d).loc main_v36_0
abbrev gsLoc (d : Dev nD) : Loc nD τ sig := (SparseCore.T d).loc main_v36_1

/-- What the call finds in its arrays: the tokens, the two sides' gates and positions, by choice, the positions a
    rearrangement of the choices, and what its results hold before. -/
structure Arr (F : FTy → Type) where
  x : S4096x1024.Idx → F .f32
  g : Bool → S32x4x32.Idx → F .f32
  p : Bool → S32x4x32.Idx → BitVec 32
  pos : Fin 8192 ≃ Fin 8192
  hp : ∀ w a b c, (p w (ix3 a b c)).toNat = (pos (num a b c w)).val
  gf : Fin 8192 → F .f32
  hg : ∀ w a b c, g w (ix3 a b c) = gf (num a b c w)
  xs0 : S8192x1024.Idx → F .f32
  gs0 : S8192.Idx → F .f32

variable (A : Arr F)

/-- The results: at a choice's position its token's row, and its gate. -/
def Arr.xs1 : S8192x1024.Idx → F .f32 := fun j => A.x (ix2 ⟨(A.pos.symm (j 0)).val / 2, by have := (A.pos.symm (j 0)).isLt; omega⟩ (j 1))
def Arr.gs1 : S8192.Idx → F .f32 := fun j => A.gf (A.pos.symm (j 0))

/-- A tile's positions. -/
def Arr.ixT (L : grid0.Coords) (w : Bool) (k : S4x32.Idx) : Fin 8192 := A.pos (num ⟨wid L, wid_lt L⟩ (k 0) (k 1) w)

/-- The two sides' positions, and gates, as the tile's arrays hold them. -/
def Arr.pv (L : grid0.Coords) (d : Dev nD) : (w : Bool) → Buf (Elt F) (((ctxOf L).p w).view.loc (thr (ctxOf L) d))
  | false => A.p false
  | true => A.p true
def Arr.gv (L : grid0.Coords) (d : Dev nD) : (w : Bool) → Buf (Elt F) (((ctxOf L).g w).view.loc (thr (ctxOf L) d))
  | false => A.g false
  | true => A.g true

theorem blk_emb (L : grid0.Coords) (a : Fin 4) (b : Fin 32) (hn : S4x32.numel = S1x4x32.numel) :
    (pRect L).emb (Shape.reshapeEquiv hn (ix2 a b)) = ix3 ⟨wid L, wid_lt L⟩ a b := by
  have he : (pRect L).emb (ix3 (⟨0, Nat.one_pos⟩ : Fin 1) a b) = ix3 ⟨wid L, wid_lt L⟩ a b := by
    funext x
    apply Fin.ext
    have h := off1_eq L
    match x with
    | 0 => show k0_off1 L 0 + 1 * 0 = wid L; rw [h]; rfl
    | 1 => show k0_off1 L 1 + 1 * a.val = a.val; rw [h]; show 0 + 1 * a.val = a.val; omega
    | 2 => show k0_off1 L 2 + 1 * b.val = b.val; rw [h]; show 0 + 1 * b.val = b.val; omega
  exact (congrArg _ (reshapeEquiv_ix2_1ab hn a b)).trans he

theorem read_pBlk (L : grid0.Coords) (d : Dev nD) (w : Bool) (k : S4x32.Idx) :
    ((pBlk (ctxOf L) w).view.read (Elt F) (A.pv L d w) k).toNat = (A.ixT L w k).val := by
  obtain ⟨a, b, rfl⟩ : ∃ (a : Fin 4) (b : Fin 32), k = ix2 a b := ⟨k 0, k 1, eq_ix2 k⟩
  have key : (pBlk (ctxOf L) w).view.read (Elt F) (A.pv L d w) (ix2 a b) = A.p w (ix3 ⟨wid L, wid_lt L⟩ a b) := by
    cases w
    · exact congrArg (A.p false) (blk_emb L a b _)
    · exact congrArg (A.p true) (blk_emb L a b _)
  rw [key]
  exact A.hp w _ _ _

theorem read_gBlk (L : grid0.Coords) (d : Dev nD) (w : Bool) (a : Fin 4) (b : Fin 32) :
    (gBlk (ctxOf L) w).view.read (Elt F) (A.gv L d w) (ix2 a b) = A.gf (num ⟨wid L, wid_lt L⟩ a b w) := by
  have key : (gBlk (ctxOf L) w).view.read (Elt F) (A.gv L d w) (ix2 a b) = A.g w (ix3 ⟨wid L, wid_lt L⟩ a b) := by
    cases w
    · exact congrArg (A.g false) (blk_emb L a b _)
    · exact congrArg (A.g true) (blk_emb L a b _)
  rw [key]
  exact A.hg w _ _ _

/-- The gates' result holds, at a tile's positions, the tile's gates; -/
theorem gs_eq (L : grid0.Coords) (d : Dev nD) (c : Fin 4) (w : Bool) (r : Fin 32) :
    (ctxOf L).gs.view.read (Elt F) (show Buf (Elt F) ((ctxOf L).gs.view.loc (thr (ctxOf L) d)) from A.gs1) (ix1 (A.ixT L w (ix2 c r)))
      = (gBlk (ctxOf L) w).view.read (Elt F) (A.gv L d w) (ix2 c r) := by
  rw [read_gBlk]
  exact congrArg A.gf (A.pos.symm_apply_apply (num ⟨wid L, wid_lt L⟩ c r w))

/-- and the rows' result its tokens. -/
theorem xs_eq (L : grid0.Coords) (d : Dev nD) (c : Fin 4) (w : Bool) (r : Fin 32) (k : Fin 1024) :
    (ctxOf L).xs.view.read (Elt F) (show Buf (Elt F) ((ctxOf L).xs.view.loc (thr (ctxOf L) d)) from A.xs1) (ix2 (A.ixT L w (ix2 c r)) k)
      = (xBlk (ctxOf L) c).view.read (Elt F) (show Buf (Elt F) ((ctxOf L).x.view.loc (thr (ctxOf L) d)) from A.x) (ix2 r k) := by
  have hw : w.toNat < 2 := by cases w <;> decide
  have h1 : (num ⟨wid L, wid_lt L⟩ c r w).val / 2 = 128 * wid L + 32 * c.val + r.val := by
    show (2 * (128 * wid L + 32 * c.val + r.val) + w.toNat) / 2 = _
    omega
  have h2 : A.pos.symm (A.pos (num ⟨wid L, wid_lt L⟩ c r w)) = num ⟨wid L, wid_lt L⟩ c r w := A.pos.symm_apply_apply _
  have hl : A.xs1 (ix2 (A.ixT L w (ix2 c r)) k) = A.x ((Rect.unit (s := S4096x1024) (k0_off2 L (BitVec.ofNat 32 (32 * c.val))) S32x1024.size (k0_off2_inb L c)).emb (ix2 r k)) := by
    unfold Arr.xs1
    refine congrArg A.x ?_
    funext a
    apply Fin.ext
    have h := off2_eq L c
    match a with
    | 0 =>
      show (A.pos.symm (A.pos (num ⟨wid L, wid_lt L⟩ c r w))).val / 2 = k0_off2 L (BitVec.ofNat 32 (32 * c.val)) 0 + 1 * r.val
      rw [h2, h1, h]
      show _ = 128 * wid L + 32 * c.val + 1 * r.val
      omega
    | 1 =>
      show k.val = k0_off2 L (BitVec.ofNat 32 (32 * c.val)) 1 + 1 * k.val
      rw [h]
      show _ = 0 + 1 * k.val
      omega
  exact hl

end Cert.Expand.Tile

end
-- ==== Proof.Expand.Hand.lean ====
/- What the call hands each tile and takes back, and the tile's obligation at the launch. -/
module

public import proofs.«01_k».proof.Proof.Expand.Tile
public import Idealize.ShloMosaic.Lib.SparseCore.Ops
public import Idealize.ShloMosaic.Lib.StableHlo.Run
public import Idealize.ShloMosaic.Lib.Pipeline.Kit
public import Idealize.ShloMosaic.Lib.SparseCore.Quiescent

@[expose] public section

noncomputable section

namespace Cert.Expand.Hand

open Idealize.ShloMosaic Idealize.ShloMosaic.ValueIdx
open Idealize.ShloMosaic.SparseCore (V)
open Idealize.ShloMosaic.SparseCore.Cfg (HIx Pay ownBufs ownSems0 ownCells ownRefs mem_ownCells mem_ownRefs_of_owner)
open Idealize.SL Idealize.SL.RA
open Idealize.SL.BI (sProp Storable bigSep bigSep_mono bigSep_congr bigSep_univ_prod bigSep_sep' bigSep_sdiff_split)
open scoped Idealize.SL.BI
open Idealize.SL.BI.BIBase Idealize.SL.BI.Laws Idealize.SL.ProofMode Idealize.SL.Sem
open Idealize.ShloMosaic.Rounds
open Cert.Expand Cert.Expand.Acts Cert.Expand.Scatter Cert.Expand.Copies Cert.Expand.Chunk Cert.Expand.Body Cert.Expand.Tile Cert.Proof.Own
open Facts₀ Facts

variable {F : FTy → Type} [FloatOps F] [Facts]

/-! ## The program as the launch theorem takes it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## What each tile is handed -/

variable (A : Dev nD → Arr F)

/-- A tile's share of the rows' table. -/
def yq (t : Fin 2 × Fin 16) : PosShare TreeShare := pieceOf (pieceOf fullShare 2 (by decide) t.1) 16 (by decide) t.2

/-- What a tile reads. -/
def tin (d : Dev nD) (t : Fin 2 × Fin 16) : sProp 𝕄 :=
  ins (ctxOf (tile t)) d (yq t) (A d).x ((A d).gv (tile t) d) ((A d).pv (tile t) d)
/-- The rows of the results its positions name, at contents of the results. -/
def tnm (d : Dev nD) (t : Fin 2 × Fin 16) (f : S8192x1024.Idx → F .f32) (g : S8192.Idx → F .f32) : sProp 𝕄 :=
  bigSep Finset.univ fun c => names (ctxOf (tile t)) d ((A d).ixT (tile t)) f g c
/-- Those rows before -/
def tfree (d : Dev nD) (t : Fin 2 × Fin 16) : sProp 𝕄 := tnm A d t (A d).xs0 (A d).gs0
/-- and after. -/
def tout (d : Dev nD) (t : Fin 2 × Fin 16) : sProp 𝕄 := tnm A d t (A d).xs1 (A d).gs1

theorem pt_storable (l : Loc nD τ sig) (I : Finset l.2.ty.shape.Idx) (q : PosShare TreeShare) (f : Buf (Elt F) l) :
    Storable (upEmb : UEmb _ 𝕄) (l ↦[I]{q} f : sProp 𝕄) := inferInstance

instance tin_storable (d : Dev nD) (t : Fin 2 × Fin 16) : Storable (upEmb : UEmb _ 𝕄) (tin A d t : sProp 𝕄) := by
  have h2 : Storable (upEmb : UEmb _ 𝕄) (toks (ctxOf (tile t)) d (yq t) (A d).x : sProp 𝕄) := pt_storable _ _ _ _
  have h1 : Storable (upEmb : UEmb _ 𝕄) (blks (ctxOf (tile t)) d ((A d).gv (tile t) d) ((A d).pv (tile t) d) : sProp 𝕄) := by
    unfold blks; infer_instance
  unfold tin ins; infer_instance
instance tnm_storable (d : Dev nD) (t : Fin 2 × Fin 16) (f : S8192x1024.Idx → F .f32) (g : S8192.Idx → F .f32) :
    Storable (upEmb : UEmb _ 𝕄) (tnm A d t f g : sProp 𝕄) := by
  have hx : ∀ j k, Storable (upEmb : UEmb _ 𝕄) (xsPart (ctxOf (tile t)) d j k f : sProp 𝕄) := fun _ _ => pt_storable _ _ _ _
  have hg : ∀ k, Storable (upEmb : UEmb _ 𝕄) (gsPart (ctxOf (tile t)) d k g : sProp 𝕄) := fun _ => pt_storable _ _ _ _
  unfold tnm names; infer_instance
instance tfree_storable (d : Dev nD) (t : Fin 2 × Fin 16) : Storable (upEmb : UEmb _ 𝕄) (tfree A d t : sProp 𝕄) := tnm_storable A d t _ _
instance tout_storable (d : Dev nD) (t : Fin 2 × Fin 16) : Storable (upEmb : UEmb _ 𝕄) (tout A d t : sProp 𝕄) := tnm_storable A d t _ _

attribute [local irreducible] tin tfree tout

/-- A tile's number at the launch. -/
def tno (c : Fin ((K (F := F)).nCore 0)) (i : Fin ((K (F := F)).nSub 0)) : Fin 2 × Fin 16 := (Fin.cast nCore_zero c, Fin.cast nSub_zero i)

/-- The call's handshakes: each SparseCore takes its tiles' parts, each tile its own. -/
def P : (K (F := F)).Pay (nD := nD) (Val := Elt F) (Name := ℕ) (U := UU) where
  st := fun q d c => match q, c with | 0, c => bigSep Finset.univ fun i => iprop(tin A d (tno c i) ∗ tfree A d (tno c i))
  dn := fun q d c => match q, c with | 0, c => bigSep Finset.univ fun i => iprop(tin A d (tno c i) ∗ tout A d (tno c i))
  go := fun q d c i => match q, c, i with | 0, c, i => iprop(tin A d (tno c i) ∗ tfree A d (tno c i))
  td := fun q d c i => match q, c, i with | 0, c, i => iprop(tin A d (tno c i) ∗ tout A d (tno c i))
  x := fun _ _ => iprop(emp)

instance P_storable : (P (F := F) A).IsStorable where
  st q d c := match q, c with
    | 0, c => (inferInstance : Storable (upEmb : UEmb _ 𝕄) (bigSep Finset.univ fun i => iprop(tin A d (tno c i) ∗ tfree A d (tno c i))))
  dn q d c := match q, c with
    | 0, c => (inferInstance : Storable (upEmb : UEmb _ 𝕄) (bigSep Finset.univ fun i => iprop(tin A d (tno c i) ∗ tout A d (tno c i))))
  go q d c i := match q, c, i with
    | 0, c, i => (inferInstance : Storable (upEmb : UEmb _ 𝕄) iprop(tin A d (tno c i) ∗ tfree A d (tno c i)))
  td q d c i := match q, c, i with
    | 0, c, i => (inferInstance : Storable (upEmb : UEmb _ 𝕄) iprop(tin A d (tno c i) ∗ tout A d (tno c i)))

theorem vecSplit : (K (F := F)).VecSplit' (P A) 0 := by
  intro d c
  show (bigSep Finset.univ fun i => iprop(tin A d (tno c i) ∗ tfree A d (tno c i)) : sProp 𝕄) ⊢ |={Set.univ}=> iprop(
      (bigSep Finset.univ fun i => iprop(tin A d (tno c i) ∗ tfree A d (tno c i)))
      ∗ ((bigSep Finset.univ fun i => iprop(tin A d (tno c i) ∗ tout A d (tno c i)))
          -∗ (bigSep Finset.univ fun i => iprop(tin A d (tno c i) ∗ tout A d (tno c i)))))
  iintro H; imodintro
  isplitl [H]; · iexact H
  iintro H
  iexact H

/-! ## The tile's own buffers and semaphores -/

section Own
variable (d : Dev nD) (L : grid0.Coords)

/-- The pool's DMA semaphores on the tile. -/
def semOf (k : Fin 6) : GSem nD τ sig := (thr (ctxOf L) d, .dma k)
/-- The tile's scratch buffers. -/
def bufOf (k : Fin 6) : DevRef τ sig := (thr (ctxOf L) d).2.devRef ⟨.vmem, k, rfl⟩

theorem semOf_inj : Function.Injective (semOf d L) := by
  intro a b h
  have h' := congrArg Prod.snd h
  exact SemLoc.dma.inj h'
theorem bufOf_inj : Function.Injective (bufOf d L) := by
  intro a b h
  have h' := Proc.devRef_injective _ h
  injection h'

theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), BI.bigSep_singleton]

/-- The rest of the tile's semaphores, -/
def restS : sProp 𝕄 := bigSep (ownCells (thr (ctxOf L) d) \ Finset.univ.image (semOf d L)) fun g => semVal g 0
/-- and of its buffers. -/
def restB : sProp 𝕄 :=
  bigSep (ownRefs (τ := τ) (thr (ctxOf L) d).2 \ Finset.univ.image (bufOf d L)) fun b => iprop(∃ f, ((d, b) : Loc nD τ sig) ↦{fullShare} f)

theorem ownSems0_eq : (ownSems0 (thr (ctxOf L) d) : sProp 𝕄) = iprop(sems (ctxOf L) d ∗ restS d L) := by
  unfold SparseCore.Cfg.ownSems0
  rw [bigSep_sdiff_split (t := Finset.univ.image (semOf d L)) (Finset.image_subset_iff.mpr fun k _ => mem_ownCells.mpr ⟨rfl, by
    show (SemLoc.dma k : SemLoc sig).isScoped .scVector = true; revert k; decide⟩), SparseCore.bigSep_image_of_injOn (semOf_inj d L).injOn, bigSep_six]
  rfl

theorem ownBufs_eq : (ownBufs (thr (ctxOf L) d) : sProp 𝕄) = iprop(bufs (ctxOf L) d ∗ restB d L) := by
  unfold SparseCore.Cfg.ownBufs
  rw [bigSep_sdiff_split (t := Finset.univ.image (bufOf d L)) (Finset.image_subset_iff.mpr fun k _ => mem_ownRefs_of_owner rfl),
    SparseCore.bigSep_image_of_injOn (bufOf_inj d L).injOn, bigSep_six]
  have hb : ∀ s, ((ctxOf L).buf s).view.set = Finset.univ := fun s => by cases s <;> exact View.set_whole _
  have hg : ∀ w, ((ctxOf L).lg w).view.set = Finset.univ := fun w => by cases w <;> exact View.set_whole _
  have hp : ∀ w, ((ctxOf L).lp w).view.set = Finset.univ := fun w => by cases w <;> exact View.set_whole _
  unfold bufs free freeG freeP
  simp only [hb, hg, hp]
  refine BI.Entails.antisymm ?_ ?_
  · show iprop(((∃ f, ((ctxOf L).buf false).view.loc (thr (ctxOf L) d) ↦{fullShare} f) ∗ (∃ f, ((ctxOf L).buf true).view.loc (thr (ctxOf L) d) ↦{fullShare} f)
      ∗ (∃ f, ((ctxOf L).lg false).view.loc (thr (ctxOf L) d) ↦{fullShare} f) ∗ (∃ f, ((ctxOf L).lg true).view.loc (thr (ctxOf L) d) ↦{fullShare} f)
      ∗ (∃ f, ((ctxOf L).lp false).view.loc (thr (ctxOf L) d) ↦{fullShare} f) ∗ (∃ f, ((ctxOf L).lp true).view.loc (thr (ctxOf L) d) ↦{fullShare} f))
      ∗ restB d L) ⊢ _
    iintro ⟨⟨H0, H1, H2, H3, H4, H5⟩, Hr⟩
    isplitr [Hr]
    · isplitl [H0 H1]
      · isplitl [H0]; · iexact H0
        iexact H1
      isplitl [H2 H3]
      · isplitl [H2]; · iexact H2
        iexact H3
      isplitl [H4]; · iexact H4
      iexact H5
    iexact Hr
  · show _ ⊢ iprop(((∃ f, ((ctxOf L).buf false).view.loc (thr (ctxOf L) d) ↦{fullShare} f) ∗ (∃ f, ((ctxOf L).buf true).view.loc (thr (ctxOf L) d) ↦{fullShare} f)
      ∗ (∃ f, ((ctxOf L).lg false).view.loc (thr (ctxOf L) d) ↦{fullShare} f) ∗ (∃ f, ((ctxOf L).lg true).view.loc (thr (ctxOf L) d) ↦{fullShare} f)
      ∗ (∃ f, ((ctxOf L).lp false).view.loc (thr (ctxOf L) d) ↦{fullShare} f) ∗ (∃ f, ((ctxOf L).lp true).view.loc (thr (ctxOf L) d) ↦{fullShare} f))
      ∗ restB d L)
    iintro ⟨⟨⟨H0, H1⟩, ⟨H2, H3⟩, H4, H5⟩, Hr⟩
    isplitr [Hr]
    · isplitl [H0]; · iexact H0
      isplitl [H1]; · iexact H1
      isplitl [H2]; · iexact H2
      isplitl [H3]; · iexact H3
      isplitl [H4]; · iexact H4
      iexact H5
    iexact Hr

end Own

/-! ## The obligation -/

/-- The task of a tile: the rows its positions name written, everything else as it came. -/
theorem tile_body (hF : (K (F := F)).Facts) (d : Dev nD) (t : Fin 2 × Fin 16) (O : CellTallies nD τ sig (HIx 1)) (W : Waits sig (HIx 1))
    (hO : ∀ g, O g none = 0) :
    iprop(levAts (K (F := F)).L (K (F := F)).lev ∗ emp ∗ (tin A d t ∗ tfree A d t)
        ∗ scopedBufs (thr (ctxOf (tile t)) d) ∗ scopedSems0 (thr (ctxOf (tile t)) d) ∗ owes (thr (ctxOf (tile t)) d) O W)
      ⊢ wp frame (wpE (defs₀ (F := F)) 𝒱₀ (thr (ctxOf (tile t)) d) none) Set.univ ((ctxOf (tile t)).ap (cc0__sc_expand_body (F := F)))
          fun _ => (iprop((tin A d t ∗ tout A d t)
            ∗ scopedBufs (thr (ctxOf (tile t)) d) ∗ scopedSems0 (thr (ctxOf (tile t)) d)
            ∗ ∃ W', ⌜∀ p ∈ W', p ∈ W ∨ p.2 = none⌝ ∗ owes (thr (ctxOf (tile t)) d) O W') : sProp 𝕄) := by
  rw [(K (F := F)).scopedBufs_V hF d _ _, SparseCore.Cfg.scopedSems0_V (Val := Elt F) d _ _, ownSems0_eq, ownBufs_eq]
  iintro ⟨#Hlv, -, ⟨Hin, Hfree⟩, ⟨Hb, HrB⟩, ⟨Hs, HrS⟩, HO⟩
  ihave #Hmw := (show levAts (K (F := F)).L (K (F := F)).lev ⊢ Transfers.MayWaits (thr (ctxOf (tile t)) d) (default : HIx 1) O from
    (K (F := F)).mayWaits_none (thr := thr (ctxOf (tile t)) d) hO) $$ Hlv
  have hw := wp_body (ctxOf (tile t)) d (countersEmb : UEmb Counters 𝕄) 𝒱₀ none (default : HIx 1) O W (yq t) (A d).x
    ((A d).gv (tile t) d) ((A d).pv (tile t) d) ((A d).ixT (tile t)) (read_pBlk (A d) (tile t) d)
    (A d).xs0 (A d).xs1 (A d).gs0 (A d).gs1 (xs_eq (A d) (tile t) d) (gs_eq (A d) (tile t) d)
  iapply (wp_wand_r frame (wpE (defs₀ (F := F)) 𝒱₀ (thr (ctxOf (tile t)) d) none) Set.univ)
  isplitl [Hin Hfree Hb Hs HO]
  · iapply hw
    isplitr; · iexact Hmw
    isplitl [HO]
    · unfold owesW; iexists W; isplitr [HO]
      · ipureintro; exact fun p hp => Or.inl hp
      iexact HO
    isplitl [Hin]; · unfold tin; iexact Hin
    isplitl [Hb]; · iexact Hb
    isplitl [Hs]; · iexact Hs
    unfold tfree tnm; iexact Hfree
  iintro %u ⟨HO, Hin, Hb, Hs, Ho⟩
  isplitl [Hin Ho]
  · isplitl [Hin]; · unfold tin; iexact Hin
    unfold tout tnm; iexact Ho
  isplitl [Hb HrB]
  · isplitl [Hb] <;> iassumption
  isplitl [Hs HrS]
  · isplitl [Hs] <;> iassumption
  unfold owesW
  iexact HO

theorem defs₀_vector (c : Fin τ.nSC) (s : Fin τ.nSub) :
    defs₀ (F := F) (.scVector c s) 0 ()
      = SparseCore.onTile hcore0 hsub0 (fun c s => (ctxOf (coords c s)).ap (cc0__sc_expand_body (F := F))) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A hF d (tno c i) O W hO).trans (wp_mono frame _ _ fun _ => obl_post)

end Cert.Expand.Hand

end
-- ==== Proof.Expand.Share.lean ====
/- The call's operands, whole on the TensorCore, are what the tiles are handed together. -/
module

public import proofs.«01_k».proof.Proof.Expand.Hand

@[expose] public section

noncomputable section

namespace Cert.Expand.Share

open Idealize.ShloMosaic Idealize.ShloMosaic.ValueIdx
open Idealize.ShloMosaic.SparseCore (V)
open Idealize.ShloMosaic.SparseCore.Cfg (HIx)
open Idealize.SL Idealize.SL.RA
open Idealize.SL.BI (sProp bigSep bigSep_mono bigSep_congr bigSep_univ_prod bigSep_univ_equiv bigSep_univ_of_subsingleton bigSep_sep')
open scoped Idealize.SL.BI
open Idealize.SL.BI.BIBase Idealize.SL.BI.Laws Idealize.SL.ProofMode Idealize.SL.Sem
open Cert.Expand Cert.Expand.Acts Cert.Expand.Scatter Cert.Expand.Copies Cert.Expand.Chunk Cert.Expand.Body Cert.Expand.Tile Cert.Expand.Hand Cert.Proof.Own
open Facts₀ Facts

variable {F : FTy → Type} [FloatOps F] [Facts]

local notation "𝕄" => MT nD τ sig (HIx 1) (Elt F) ℕ UU ℕ

variable (A : Dev nD → Arr F) (d : Dev nD)

/-- One tile's thread: the arrays in HBM are the same seen from any. -/
abbrev thr0 : Thread nD τ := thr (ctxOf (tile (0, 0))) d

/-- The tokens, shared among the tiles. -/
theorem x_split : (xLoc d ↦{fullShare} (A d).x : sProp 𝕄)
    = bigSep Finset.univ fun t : Fin 2 × Fin 16 =>
        toks (ctxOf (tile t)) d (yq t) (A d).x := by
  have hs (t : Fin 2 × Fin 16) : (ctxOf (tile t)).x.view.set = Finset.univ := View.set_whole _
  have h (f : Buf (Elt F) (xLoc d)) : (xLoc d ↦{fullShare} f : sProp 𝕄)
      = bigSep Finset.univ fun a : Fin 2 => bigSep Finset.univ fun b : Fin 16 => xLoc d ↦[Finset.univ]{yq (a, b)} f := by
    rw [pointsTo_piecesOf Finset.univ f (o := 2) (by decide) fullShare]
    exact bigSep_congr fun a _ => pointsTo_piecesOf Finset.univ f (o := 16) (by decide) _
  refine (h _).trans ?_
  refine (bigSep_univ_prod (fun t : Fin 2 × Fin 16 => (xLoc d ↦[Finset.univ]{yq t} (A d).x : sProp 𝕄))).symm.trans ?_
  refine bigSep_congr fun t _ => ?_
  unfold toks
  rw [hs]
  rfl

/-- One array laid out by tile, chunk and lane: each tile has its block. -/
theorem blk_split {e : EltTy} (m : Memref sig .scVector .hbm S32x4x32 e) (hs : m.view.set = Finset.univ) (f : Buf (Elt F) (m.view.loc (thr0 d))) :
    (m.view.loc (thr0 d) ↦{fullShare} f : sProp 𝕄)
      = bigSep Finset.univ fun t : Fin 2 × Fin 16 => (m.view.loc (thr0 d)
          ↦[((m.slice (pRect (tile t)) (fun _ => rfl)).squeeze S4x32 squeezes_S1x4x32_S4x32).view.set]{fullShare} f : sProp 𝕄) := by
  have h := pts_rects (F := F) (Ix := HIx 1) (Name := ℕ) (U := UU) (Lvl := ℕ) (thr0 d) m fullShare f (fun t => pRect (tile t))
    (fun _ _ => rfl) p_disjoint p_cover
  rw [hs] at h
  refine h.trans (bigSep_congr fun t _ => ?_)
  exact congrArg (fun S => (m.view.loc (thr0 d) ↦[S]{fullShare} f : sProp 𝕄)) (View.set_reshape _ _).symm

/-- The gates and the positions are the tiles' blocks. -/
theorem blks_all : iprop(((g0Loc d ↦{fullShare} (A d).g false) ∗ (g1Loc d ↦{fullShare} (A d).g true))
      ∗ (p0Loc d ↦{fullShare} (A d).p false) ∗ (p1Loc d ↦{fullShare} (A d).p true))
    = (bigSep Finset.univ fun t : Fin 2 × Fin 16 => blks (ctxOf (tile t)) d ((A d).gv (tile t) d) ((A d).pv (tile t) d) : sProp 𝕄) := by
  have h0 := blk_split (F := F) d (Memref.whole main_v32_scv) (View.set_whole _) ((A d).g false)
  have h1 := blk_split (F := F) d (Memref.whole main_v35_scv) (View.set_whole _) ((A d).g true)
  have h2 := blk_split (F := F) d (Memref.whole main_v26_scv) (View.set_whole _) ((A d).p false)
  have h3 := blk_split (F := F) d (Memref.whole main_v29_scv) (View.set_whole _) ((A d).p true)
  unfold blks
  rw [bigSep_sep', bigSep_sep', bigSep_sep']
  exact congrArg₂ (fun a b : sProp 𝕄 => iprop(a ∗ b)) (congrArg₂ (fun a b : sProp 𝕄 => iprop(a ∗ b)) h0 h1) (congrArg₂ (fun a b : sProp 𝕄 => iprop(a ∗ b)) h2 h3)

/-- Two kinds of parts, in either order. -/
theorem over_over {I J : Type} [Fintype I] [Fintype J] (Φ : I → J → sProp 𝕄) :
    (bigSep Finset.univ fun i => bigSep Finset.univ fun j => Φ i j) = bigSep Finset.univ fun j => bigSep Finset.univ fun i => Φ i j :=
  (bigSep_univ_prod fun t : I × J => Φ t.1 t.2).symm.trans ((bigSep_univ_equiv (Equiv.prodComm J I) _).trans (bigSep_univ_prod fun t : J × I => Φ t.2 t.1))

/-- Over all positions is over all tiles, chunks, sides and lanes. -/
theorem by_choice (Φ : Fin 8192 → sProp 𝕄) : bigSep Finset.univ Φ
    = bigSep Finset.univ fun t : Fin 2 × Fin 16 => bigSep Finset.univ fun c : Fin 4 => iprop(
        (bigSep Finset.univ fun r : Fin 32 => Φ ((A d).ixT (tile t) false (ix2 c r))) ∗ (bigSep Finset.univ fun r : Fin 32 => Φ ((A d).ixT (tile t) true (ix2 c r)))) := by
  rw [bigSep_univ_equiv (numE.trans (A d).pos), bigSep_univ_prod, bigSep_univ_prod]
  refine bigSep_congr fun t _ => bigSep_congr fun c _ => ?_
  rw [bigSep_univ_prod, show (Finset.univ : Finset Bool) = {false, true} by decide, SparseCore.bigSep_insert' (by decide), BI.bigSep_singleton]
  rfl

/-- The rows' result is the rows the tiles' positions name, -/
theorem xs_all (f : S8192x1024.Idx → F .f32) : (xsLoc d ↦{fullShare} f : sProp 𝕄)
    = bigSep Finset.univ fun t : Fin 2 × Fin 16 => bigSep Finset.univ fun c : Fin 4 => iprop(
        (bigSep Finset.univ fun j : Fin 8 => bigSep Finset.univ fun r : Fin 32 => xsPart (ctxOf (tile t)) d j ((A d).ixT (tile t) false (ix2 c r)) f)
        ∗ (bigSep Finset.univ fun j : Fin 8 => bigSep Finset.univ fun r : Fin 32 => xsPart (ctxOf (tile t)) d j ((A d).ixT (tile t) true (ix2 c r)) f)) := by
  have h := pts_rects (F := F) (Ix := HIx 1) (Name := ℕ) (U := UU) (Lvl := ℕ) (thr0 d) (Memref.whole main_v36_0_scv) fullShare f
    (fun j : Fin 8 => Rect.unit (s := S8192x1024) ![0, 128 * j.val] S8192x128.size (inb_xcol j)) (fun _ _ => rfl) (cols_disjoint (n := 8192) inb_xcol) (cols_cover (n := 8192) inb_xcol)
  have hs : (Memref.whole main_v36_0_scv : Memref sig _ _ _ _).view.set = Finset.univ := View.set_whole _
  rw [hs] at h
  refine (show _ = _ from h).trans ?_
  have h2 (j : Fin 8) := pointsTo_rows (Val := Elt F) (Ix := HIx 1) (Name := ℕ) (U := UU) (Lvl := ℕ) (c := thr0 d) (xsCol (ctxOf (tile (0, 0))) j).view axX fullShare f
  have h3 (j : Fin 8) := (show _ = _ from h2 j).trans (by_choice A d fun k => xsPart (ctxOf (tile (0, 0))) d j k f)
  refine (bigSep_congr fun j _ => show _ = _ from h3 j).trans ?_
  rw [over_over]
  refine bigSep_congr fun t _ => ?_
  rw [over_over]
  refine bigSep_congr fun c _ => ?_
  rw [bigSep_sep']
  rfl

/-- and the gates' the entries they name. -/
theorem gs_all (g : S8192.Idx → F .f32) : (gsLoc d ↦{fullShare} g : sProp 𝕄)
    = bigSep Finset.univ fun t : Fin 2 × Fin 16 => bigSep Finset.univ fun c : Fin 4 => iprop(
        (bigSep Finset.univ fun r : Fin 32 => gsPart (ctxOf (tile t)) d ((A d).ixT (tile t) false (ix2 c r)) g)
        ∗ (bigSep Finset.univ fun r : Fin 32 => gsPart (ctxOf (tile t)) d ((A d).ixT (tile t) true (ix2 c r)) g)) := by
  have h := pts_rects (F := F) (Ix := HIx 1) (Name := ℕ) (U := UU) (Lvl := ℕ) (thr0 d) (Memref.whole main_v36_1_scv) fullShare g
    (fun _ : Fin 1 => Rect.unit (s := S8192) ![0] S8192.size inb_S8192_S8192_0) (fun _ _ => rfl) (fun a b hab => absurd (Subsingleton.elim a b) hab)
    (fun i => ⟨0, Rect.mem_set_unit.mpr fun a => by
      have hi := (i a).isLt
      match a with
      | 0 => exact ⟨Nat.zero_le _, by show (i 0).val < 0 + 8192; rw [Nat.zero_add]; exact hi⟩⟩)
  have hs : (Memref.whole main_v36_1_scv : Memref sig _ _ _ _).view.set = Finset.univ := View.set_whole _
  rw [hs, bigSep_univ_of_subsingleton (0 : Fin 1)] at h
  have h2 := pointsTo_rows (Val := Elt F) (Ix := HIx 1) (Name := ℕ) (U := UU) (Lvl := ℕ) (c := thr0 d) (gsAll (ctxOf (tile (0, 0)))).view axG fullShare g
  refine (show _ = _ from h).trans ((show _ = _ from h2).trans ?_)
  exact by_choice A d fun k => gsPart (ctxOf (tile (0, 0))) d k g

/-- The two results, at any contents. -/
theorem tnm_all (f : S8192x1024.Idx → F .f32) (g : S8192.Idx → F .f32) : (bigSep Finset.univ fun t => tnm A d t f g : sProp 𝕄)
    = iprop((xsLoc d ↦{fullShare} f) ∗ (gsLoc d ↦{fullShare} g)) := by
  rw [xs_all A, gs_all A, ← bigSep_sep']
  refine bigSep_congr fun t _ => ?_
  unfold tnm names
  rw [bigSep_sep']

/-- What the tiles read, all together. -/
theorem tin_all : (bigSep Finset.univ fun t => tin A d t : sProp 𝕄)
    = iprop((xLoc d ↦{fullShare} (A d).x) ∗ ((g0Loc d ↦{fullShare} (A d).g false) ∗ (g1Loc d ↦{fullShare} (A d).g true))
      ∗ (p0Loc d ↦{fullShare} (A d).p false) ∗ (p1Loc d ↦{fullShare} (A d).p true)) := by
  rw [x_split, blks_all, ← bigSep_sep']
  refine bigSep_congr fun t _ => ?_
  unfold tin ins
  rfl

theorem tfree_all : (bigSep Finset.univ fun t => tfree A d t : sProp 𝕄) = iprop((xsLoc d ↦{fullShare} (A d).xs0) ∗ (gsLoc d ↦{fullShare} (A d).gs0)) :=
  tnm_all A d _ _
theorem tout_all : (bigSep Finset.univ fun t => tout A d t : sProp 𝕄) = iprop((xsLoc d ↦{fullShare} (A d).xs1) ∗ (gsLoc d ↦{fullShare} (A d).gs1)) :=
  tnm_all A d _ _

attribute [local irreducible] tin tfree tout

theorem stP : (bigSep Finset.univ fun t : Fin 2 × Fin 16 => iprop(tin A d t ∗ tfree A d t) : sProp 𝕄)
    = bigSep Finset.univ fun c : Fin ((K (F := F)).nCore 0) => (P A).st 0 d c :=
  (bigSep_univ_prod (fun t : Fin 2 × Fin 16 => (iprop(tin A d t ∗ tfree A d t) : sProp 𝕄))).trans
    (show (bigSep Finset.univ fun c : Fin 2 => bigSep Finset.univ fun i : Fin 16 => (iprop(tin A d (c, i) ∗ tfree A d (c, i)) : sProp 𝕄))
      = bigSep Finset.univ fun c : Fin 2 => (P A).st 0 d c from bigSep_congr fun _ _ => rfl)

theorem dnP : (bigSep Finset.univ fun c : Fin ((K (F := F)).nCore 0) => (P A).dn 0 d c : sProp 𝕄)
    = bigSep Finset.univ fun t : Fin 2 × Fin 16 => iprop(tin A d t ∗ tout A d t) :=
  ((bigSep_univ_prod (fun t : Fin 2 × Fin 16 => (iprop(tin A d t ∗ tout A d t) : sProp 𝕄))).trans
    (show (bigSep Finset.univ fun c : Fin 2 => bigSep Finset.univ fun i : Fin 16 => (iprop(tin A d (c, i) ∗ tout A d (c, i)) : sProp 𝕄))
      = bigSep Finset.univ fun c : Fin 2 => (P A).dn 0 d c from bigSep_congr fun _ _ => rfl)).symm

/-- The call's operands are what its SparseCores are handed, -/
theorem st_split :
    iprop(((xLoc d ↦{fullShare} (A d).x) ∗ ((g0Loc d ↦{fullShare} (A d).g false) ∗ (g1Loc d ↦{fullShare} (A d).g true))
        ∗ (p0Loc d ↦{fullShare} (A d).p false) ∗ (p1Loc d ↦{fullShare} (A d).p true)) ∗ (xsLoc d ↦{fullShare} (A d).xs0) ∗ (gsLoc d ↦{fullShare} (A d).gs0))
      ⊢ (bigSep Finset.univ fun c : Fin ((K (F := F)).nCore 0) => (P A).st 0 d c : sProp 𝕄) := by
  rw [← stP, bigSep_sep', tin_all, tfree_all]

/-- and what they bring back is the operands again and the results. -/
theorem dn_join : (bigSep Finset.univ fun c : Fin ((K (F := F)).nCore 0) => (P A).dn 0 d c : sProp 𝕄)
    ⊢ iprop(((xLoc d ↦{fullShare} (A d).x) ∗ ((g0Loc d ↦{fullShare} (A d).g false) ∗ (g1Loc d ↦{fullShare} (A d).g true))
        ∗ (p0Loc d ↦{fullShare} (A d).p false) ∗ (p1Loc d ↦{fullShare} (A d).p true)) ∗ (xsLoc d ↦{fullShare} (A d).xs1) ∗ (gsLoc d ↦{fullShare} (A d).gs1)) := by
  rw [dnP, bigSep_sep', tin_all, tout_all]

end Cert.Expand.Share

end
-- ==== Proof.Rank.lean ====
/- Ranks in a stable order: how many come before, and that a stable sort puts each at its rank. -/
module

public import Idealize.ShloMosaic.Lib.Routing.Count
public import Idealize.ShloMosaic.Lib.SortFacts
public import Mathlib.Order.Fin.Basic

@[expose] public section

namespace Cert.Proof.Rank

open Idealize.ShloMosaic

variable {N : Nat} (E : Fin N → Nat)

/-- One place comes before another: by its key, and among equal keys by its number. -/
def Before (a b : Fin N) : Prop := E a < E b ∨ (E a = E b ∧ a < b)

instance : DecidableRel (Before E) := fun a b => inferInstanceAs (Decidable (E a < E b ∨ (E a = E b ∧ a < b)))

theorem before_irrefl (a : Fin N) : ¬ Before E a a := by
  rintro (h | ⟨_, h⟩)
  · exact absurd h (Nat.lt_irrefl _)
  · exact absurd h (lt_irrefl a)

theorem before_trans {a b c : Fin N} (h : Before E a b) (h' : Before E b c) : Before E a c := by
  rcases h with h | ⟨h, h1⟩ <;> rcases h' with h' | ⟨h', h2⟩
  · exact Or.inl (h.trans h')
  · exact Or.inl (h' ▸ h)
  · exact Or.inl (h ▸ h')
  · exact Or.inr ⟨h.trans h', h1.trans h2⟩

theorem before_total {a b : Fin N} (h : a ≠ b) : Before E a b ∨ Before E b a := by
  unfold Before
  have hab : a.val ≠ b.val := fun e => h (Fin.ext e)
  rcases Nat.lt_trichotomy (E a) (E b) with h1 | h1 | h1
  · exact Or.inl (Or.inl h1)
  · rcases Nat.lt_or_gt_of_ne hab with h2 | h2
    · exact Or.inl (Or.inr ⟨h1, h2⟩)
    · exact Or.inr (Or.inr ⟨h1.symm, h2⟩)
  · exact Or.inr (Or.inl h1)

/-- How many places come before. -/
def rank (a : Fin N) : Nat := (Finset.univ.filter fun b => Before E b a).card

theorem rank_lt (a : Fin N) : rank E a < N := by
  have h : rank E a < (Finset.univ : Finset (Fin N)).card :=
    Finset.card_lt_card (Finset.filter_ssubset.mpr ⟨a, Finset.mem_univ a, before_irrefl E a⟩)
  simpa using h

theorem rank_mono {a b : Fin N} (h : Before E a b) : rank E a < rank E b := by
  refine Finset.card_lt_card (Finset.ssubset_iff_subset_ne.mpr ⟨fun c hc => ?_, fun e => ?_⟩)
  · exact Finset.mem_filter.mpr ⟨Finset.mem_univ _, before_trans E (Finset.mem_filter.mp hc).2 h⟩
  · have ha : a ∈ Finset.univ.filter fun c => Before E c a := e ▸ Finset.mem_filter.mpr ⟨Finset.mem_univ _, h⟩
    exact before_irrefl E a (Finset.mem_filter.mp ha).2

/-- A place's rank, as a place. -/
def place (a : Fin N) : Fin N := ⟨rank E a, rank_lt E a⟩

theorem place_injective : Function.Injective (place E) := fun a b e => by
  have hr : rank E a = rank E b := congrArg Fin.val e
  by_contra h
  rcases before_total E h with h | h <;> exact absurd (rank_mono E h) (by omega)

/-- Every place is the rank of exactly one. -/
noncomputable def perm : Fin N ≃ Fin N := Equiv.ofBijective (place E) (Finite.injective_iff_bijective.mp (place_injective E))

theorem perm_val (a : Fin N) : (perm E a).val = rank E a := rfl

/-! ## The stable sort -/

/-- A list in ascending order is sorted by its keys as it is by its keys and numbers. -/
theorem stableSort_before (l : List (Fin N)) (hl : l.Pairwise (· < ·)) :
    stableSort (fun a b => decide (E a < E b)) l = stableSort (fun a b => decide (Before E a b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    refine decide_eq_decide.mpr ⟨Or.inl, ?_⟩
    rintro (h | ⟨_, h⟩)
    · exact h
    · exact absurd (hab.trans h) (lt_irrefl a)

theorem sortedFrom_before (i j : Fin N) (h : i < j) :
    Before E (sortedFrom (fun a b => decide (E a < E b)) i) (sortedFrom (fun a b => decide (E a < E b)) j) := by
  have hs : sortPositions N (fun a b => decide (E a < E b)) = sortPositions N (fun a b => decide (Before E a b)) :=
    stableSort_before E (List.finRange N) (List.pairwise_lt_finRange N)
  have he : sortedFrom (fun a b : Fin N => decide (E a < E b)) = sortedFrom (fun a b => decide (Before E a b)) := by
    funext k
    unfold sortedFrom
    rw [List.get_of_eq hs]
    rfl
  have hn := sortedFrom_noInversion (fun a b => decide (Before E a b)) (fun a b => decide (Before E a b))
    (fun a b h => decide_eq_false fun h' => before_irrefl E a (before_trans E (of_decide_eq_true h) h'))
    (fun _ _ h => h)
    (fun a b c h1 h2 => decide_eq_false fun h => by
      have h1' := of_decide_eq_false h1
      have h2' := of_decide_eq_false h2
      by_cases hab : a = b
      · exact h2' (hab ▸ h)
      · rcases before_total E hab with h3 | h3
        · exact h1' h3
        · exact h2' (before_trans E h3 h)) i j h
  rw [he]
  rcases before_total E (fun e => (ne_of_lt h) (sortedFrom_injective _ e)) with h1 | h1
  · exact h1
  · exact absurd h1 (of_decide_eq_false hn)

/-- The stable sort puts at each place the one whose rank it is. -/
theorem sortedFrom_eq (i : Fin N) : sortedFrom (fun a b => decide (E a < E b)) i = (perm E).symm i := by
  have hm : StrictMono fun i => perm E (sortedFrom (fun a b => decide (E a < E b)) i) := fun i j h => rank_mono E (sortedFrom_before E i j h)
  exact (Equiv.eq_symm_apply _).mpr (le_antisymm hm.apply_le hm.le_apply)

/-! ## Ranks by counts -/

/-- How many hold one of two properties no number holds together. -/
theorem count_or (P Q : Nat → Prop) [DecidablePred P] [DecidablePred Q] (h : ∀ i, P i → ¬ Q i) (n : Nat) :
    Nat.count (fun i => P i ∨ Q i) n = Nat.count P n + Nat.count Q n := by
  induction n with
  | zero => simp
  | succ n ih =>
    rw [Nat.count_succ, Nat.count_succ, Nat.count_succ, ih]
    by_cases h1 : P n
    · rw [if_pos (Or.inl h1), if_pos h1, if_neg (h n h1)]; omega
    · by_cases h2 : Q n
      · rw [if_pos (Or.inr h2), if_neg h1, if_pos h2]; omega
      · rw [if_neg (by tauto), if_neg h1, if_neg h2]; omega

/-- How many below a bound. -/
theorem count_below (Q : Nat → Prop) [DecidablePred Q] (a n : Nat) (h : a ≤ n) : Nat.count (fun i => Q i ∧ i < a) n = Nat.count Q a := by
  induction n with
  | zero => rw [Nat.le_zero.mp h]; simp
  | succ n ih =>
    rw [Nat.count_succ]
    rcases Nat.lt_or_ge n a with h1 | h1
    · have e : a = n + 1 := by omega
      subst e
      rw [Nat.count_succ]
      congr 1
      · exact Idealize.ShloMosaic.Routing.count_congr_of_lt n fun i hi => ⟨fun q => q.1, fun q => ⟨q, by omega⟩⟩
      · exact if_congr ⟨fun q => q.1, fun q => ⟨q, h1⟩⟩ rfl rfl
    · rw [ih h1, if_neg (by omega), Nat.add_zero]

/-- A place's rank is the number of smaller keys and the number of equal keys before it. -/
theorem rank_eq (G : Nat → Nat) (hG : ∀ a : Fin N, G a.val = E a) (a : Fin N) :
    rank E a = Nat.count (fun i => G i < E a) N + Nat.count (fun i => G i = E a) a.val := by
  rw [← count_below (fun i => G i = E a) a.val N a.isLt.le, ← count_or _ _ (fun i h1 h2 => by omega),
    ← Idealize.ShloMosaic.Routing.card_filter_fin]
  refine congrArg Finset.card (Finset.filter_congr fun b _ => ?_)
  rw [hG b]
  rfl

end Cert.Proof.Rank
-- ==== Proof.Words.lean ====
/- Integer arrays read at an index: what a table of keys below a bound is counted and summed to. -/
module

public import Idealize.ShloMosaic.Lib.Routing.OpsOne
public import Idealize.ShloMosaic.Lib.Routing.OpsSearch
public import Idealize.ShloMosaic.Lib.Routing.Count

@[expose] public section

namespace Cert.Proof.Words

open Idealize.ShloMosaic Idealize.ShloMosaic.ValueIdx Idealize.ShloMosaic.Routing

/-- A fold by addition is a sum. -/
theorem fold_addi {ι : Type} (S : Finset ι) (v : BitVec 32) (x : ι → BitVec 32) : S.fold IntOp.addi v x = v + ∑ i ∈ S, x i := by
  classical
  induction S using Finset.cons_induction with
  | empty => simp
  | cons a S ha ih =>
    rw [Finset.fold_cons, Finset.sum_cons, ih]
    show x a + (v + _) = _
    rw [add_left_comm]

/-- A row with one column that is not zero sums to that column. -/
theorem reduce_row {n k : Nat} (x : IVec (shape2 n k) 32) (h : (shape2 n k).ReducesTo [1] (shape1 n)) (hu : 0 < shape0.numel)
    (i : Fin n) (c : Fin k) (hx : ∀ q : Fin k, q ≠ c → x (ix2 i q) = 0#32) :
    Host.reduce IntOp.addi x (constantI shape0 32 0#32) h hu (ix1 i) = x (ix2 i c) := by
  classical
  have hd : ∀ p : (shape2 n k).Idx, h.drop p = ix1 i ↔ p 0 = i := by
    intro p
    have hv : (h.drop p 0 : Nat) = p 0 := Shape.ReducesTo.drop_apply_val h p 0
    constructor
    · intro e; rw [e] at hv; exact Fin.ext hv.symm
    · intro e; funext b; have hb : b = 0 := Subsingleton.elim _ _; subst hb; exact Fin.ext (by rw [hv, e]; rfl)
  have hp : ∀ p : (shape2 n k).Idx, p 0 = i → p = ix2 i (p 1) := fun p e => by
    funext b
    match b with
    | ⟨0, _⟩ => exact e
    | ⟨1, _⟩ => rfl
  rw [Host.reduce_eq_fold, fold_addi, show constantI shape0 32 0#32 (Shape.Idx.first hu) = 0#32 from rfl, BitVec.zero_add,
    Finset.sum_eq_single_of_mem (ix2 i c) (Finset.mem_filter.mpr ⟨Finset.mem_univ _, (hd _).mpr rfl⟩)]
  intro p hm hne
  have h0 := hp p ((hd p).mp (Finset.mem_filter.mp hm).2)
  rw [h0]
  exact hx _ fun e => hne (h0.trans (congrArg (ix2 i) e))

/-- The set bits of a column, summed. -/
theorem reduce_col {n k : Nat} (hn : n < 2 ^ 32) (msk : IVec (shape2 n k) 1) (hw : 1 < 32) (h : (shape2 n k).ReducesTo [0] (shape1 k))
    (hu : 0 < shape0.numel) (c : Fin k) (Q : Nat → Prop) [DecidablePred Q] (hQ : ∀ i : Fin n, msk (ix2 i c) = 1#1 ↔ Q i.val) :
    Host.reduce IntOp.addi (extui 32 msk hw) (constantI shape0 32 0#32) h hu (ix1 c) = BitVec.ofNat 32 (Nat.count Q n) := by
  apply BitVec.eq_of_toNat_eq
  rw [StableHlo.Predicate.toNat_reduce_count_rows hn msk hw h hu (ix1 c), BitVec.toNat_ofNat,
    Nat.mod_eq_of_lt (Nat.lt_of_le_of_lt (Nat.count_le _) hn), ← card_filter_fin n Q]
  refine congrArg Finset.card (Finset.filter_congr fun i _ => ?_)
  show msk (StableHlo.Predicate.ij i c) = 1#1 ↔ Q i.val
  rw [ij_eq_ix2]
  exact hQ i

/-- How many keys are at most a bound: those below it and those at it. -/
theorem count_le (g : Nat → Nat) (c n : Nat) :
    Nat.count (fun i => g i ≤ c) n = Nat.count (fun i => g i < c) n + Nat.count (fun i => g i = c) n := by
  induction n with
  | zero => simp
  | succ n ih =>
    rw [Nat.count_succ, Nat.count_succ, Nat.count_succ, ih]
    rcases Nat.lt_trichotomy (g n) c with h | h | h
    · rw [if_pos (by omega), if_pos h, if_neg (by omega)]; omega
    · rw [if_pos (by omega), if_neg (by omega), if_pos h]; omega
    · rw [if_neg (by omega), if_neg (by omega), if_neg (by omega)]; omega

/-- Words of naturals, subtracted. -/
theorem ofNat_sub (a b : Nat) : BitVec.ofNat 32 (a + b) - BitVec.ofNat 32 b = BitVec.ofNat 32 a := by
  rw [BitVec.ofNat_add]
  exact BitVec.add_sub_cancel _ _

/-- A test for equality, as a bit. -/
theorem eq_bit {v w : BitVec 32} : IntOp.cmpi .eq v w = 1#1 ↔ v = w := by
  show BitVec.ofBool (v == w) = 1#1 ↔ _
  by_cases h : v = w
  · simp [h]
  · rw [beq_false_of_ne h]
    exact ⟨fun e => absurd e (by decide), fun e => absurd e h⟩

end Cert.Proof.Words
-- ==== Proof.Expand.Route.lean ====
/- The routing: the positions the host operations compute are each key's rank in the stable order. -/
module

public import proofs.«01_k».proof.Expand
public import proofs.«01_k».proof.Proof.Rank
public import proofs.«01_k».proof.Proof.Words

@[expose] public section

noncomputable section

namespace Cert.Expand.Route

open Idealize.ShloMosaic
open Idealize.ShloMosaic.ValueIdx Idealize.ShloMosaic.Routing
open Cert.Expand Cert.Proof.Words
open Facts₀ Facts

variable [Facts]

/-! ## The host operations -/

/-- The keys in a row. -/
def keys (x : S4096x2.Idx → BitVec 32) : S8192.Idx → BitVec 32 := shapeCast S8192 x shapeCasts_S4096x2_S8192

variable (e : S8192.Idx → BitVec 32)

/-- Which key is which of the eight, as bits -/
def bits : S8192x8.Idx → BitVec 1 :=
  cmpi .eq (broadcastInDim S8192x8 ![0, 1] bcast_S8192x1_S8192x8_0_1 (broadcastInDim S8192x1 ![0] bcast_S8192_S8192x1_0 e))
    (broadcastInDim S8192x8 ![0, 1] bcast_S1x8_S8192x8_0_1 (broadcastInDim S1x8 ![1] bcast_S8_S1x8_1 (iotaInDim S8 32 0)))
/-- and as words. -/
def hot : S8192x8.Idx → BitVec 32 := extui 32 (bits e) natLt_1_32
/-- How many keys, up to each, are each of the eight; -/
def upTo : S8192x8.Idx → BitVec 32 :=
  Host.reduceWindow IntOp.addi ![8192, 1] ![1, 1] ![8191, 0] ![0, 0] (hot e) (broadcastInDim S_ ![] bcast_S_S_ (constantI S_ 32 0#32))
    reduceWindows_S8192x8_S8192x8_w8192s1p8191_0_w1s1p0_0 h_S_
/-- how many before it. -/
def ahead : S8192x8.Idx → BitVec 32 := subi (upTo e) (hot e)
/-- How many in all; -/
def totals : S8.Idx → BitVec 32 := Host.reduce IntOp.addi (hot e) (constantI S_ 32 0#32) reducesTo_S8192x8_S8_d0 h_S_
/-- how many of this and the lower ones; -/
def totalsTo : S8.Idx → BitVec 32 :=
  Host.reduceWindow IntOp.addi ![8] ![1] ![7] ![0] (totals e) (broadcastInDim S_ ![] bcast_S_S_ (constantI S_ 32 0#32)) reduceWindows_S8_S8_w8s1p7_0 h_S_
/-- how many of the lower ones. -/
def starts : S8.Idx → BitVec 32 := subi (totalsTo e) (totals e)
/-- The keys, wrapped where negative. -/
def wrapped : S8192.Idx → BitVec 32 :=
  select (cmpi .slt e (broadcastInDim S8192 ![] bcast_S_S8192 (constantI S_ 32 0#32))) (addi e (broadcastInDim S8192 ![] bcast_S_S8192 (constantI S_ 32 8#32))) e
/-- Where each key's run starts, -/
def base : S8192.Idx → BitVec 32 :=
  Host.gather gather_S8_S8192x1_S8192_n_0_n_n_0_1_1 (starts e) (broadcastInDim S8192x1 ![0] bcast_S8192_S8192x1_0 (wrapped e))
/-- its place within the run, -/
def within : S8192.Idx → BitVec 32 := Host.reduce IntOp.addi (muli (ahead e) (hot e)) (constantI S_ 32 0#32) reducesTo_S8192x8_S8192_d1 h_S_
/-- and its position. -/
def posv : S8192.Idx → BitVec 32 := addi (base e) (within e)

/-! ## Their values -/

variable {e} (he : ∀ k, (e k).toNat < 8)

/-- A place's key. -/
def keyOf (e : S8192.Idx → BitVec 32) (a : Fin 8192) : Nat := (e (ix1 a)).toNat
/-- The same, of any number. -/
def keyAt (e : S8192.Idx → BitVec 32) (i : Nat) : Nat := if h : i < 8192 then keyOf e ⟨i, h⟩ else 0

theorem keyAt_val (a : Fin 8192) : keyAt e a.val = keyOf e a := dif_pos a.isLt

theorem keyOf_lt (he : ∀ k, (e k).toNat < 8) (a : Fin 8192) : keyOf e a < 8 := he (ix1 a)

theorem bits_iff (a : Fin 8192) (c : Fin 8) : bits e (ix2 a c) = 1#1 ↔ keyAt e a.val = c.val := by
  have h1 : (broadcastInDim S8192x8 ![0, 1] bcast_S8192x1_S8192x8_0_1 (broadcastInDim S8192x1 ![0] bcast_S8192_S8192x1_0 e)) (ix2 a c) = e (ix1 a) :=
    bcRows bcast_S8192_S8192x1_0 bcast_S8192x1_S8192x8_0_1 e a c
  have h2 : (broadcastInDim S8192x8 ![0, 1] bcast_S1x8_S8192x8_0_1 (broadcastInDim S1x8 ![1] bcast_S8_S1x8_1 (iotaInDim S8 32 0))) (ix2 a c)
      = BitVec.ofNat 32 c.val := bcCols bcast_S8_S1x8_1 bcast_S1x8_S8192x8_0_1 (iotaInDim S8 32 0) a c
  rw [keyAt_val]
  unfold bits cmpi keyOf
  rw [h1, h2, eq_bit]
  have hc := c.isLt
  constructor
  · intro h
    rw [h, BitVec.toNat_ofNat]
    omega
  · intro h
    apply BitVec.eq_of_toNat_eq
    rw [h, BitVec.toNat_ofNat]
    omega

theorem hot_val (a : Fin 8192) (c : Fin 8) : hot e (ix2 a c) = BitVec.ofNat 32 (if keyAt e a.val = c.val then 1 else 0) := by
  have h : hot e (ix2 a c) = (bits e (ix2 a c)).setWidth 32 := rfl
  rw [h]
  by_cases hc : keyAt e a.val = c.val
  · rw [(bits_iff a c).mpr hc, if_pos hc]; rfl
  · have h0 : bits e (ix2 a c) = 0#1 := (BitVec.eq_zero_or_eq_one _).resolve_right fun h => hc ((bits_iff a c).mp h)
    rw [h0, if_neg hc]; rfl

theorem upTo_val (a : Fin 8192) (c : Fin 8) : upTo e (ix2 a c) = BitVec.ofNat 32 (Nat.count (fun i => keyAt e i = c.val) (a.val + 1)) := by
  unfold upTo
  refine (cumsum_rows (R := 8192) (Rm1 := 8191) (C := 8) rfl (hot e) (fun i c => if keyAt e i = c then 1 else 0) hot_val _ rfl _ _ a c).trans ?_
  rw [sum_map_ite]

theorem ahead_val (a : Fin 8192) (c : Fin 8) : ahead e (ix2 a c) = BitVec.ofNat 32 (Nat.count (fun i => keyAt e i = c.val) a.val) := by
  show upTo e (ix2 a c) - hot e (ix2 a c) = _
  rw [upTo_val, hot_val, Nat.count_succ, ofNat_sub]

theorem totals_val (c : Fin 8) : totals e (ix1 c) = BitVec.ofNat 32 (Nat.count (fun i => keyAt e i = c.val) 8192) :=
  reduce_col (by decide) (bits e) natLt_1_32 reducesTo_S8192x8_S8_d0 h_S_ c _ fun a => bits_iff a c

theorem totalsTo_val (c : Fin 8) : totalsTo e (ix1 c) = BitVec.ofNat 32 (Nat.count (fun i => keyAt e i ≤ c.val) 8192) := by
  unfold totalsTo
  refine (cumsum1 (N := 8) (Nm1 := 7) rfl (totals e) (fun c => Nat.count (fun i => keyAt e i = c) 8192) totals_val _ rfl _ _ c).trans ?_
  rw [sum_count_eq]

theorem starts_val (c : Fin 8) : starts e (ix1 c) = BitVec.ofNat 32 (Nat.count (fun i => keyAt e i < c.val) 8192) := by
  show totalsTo e (ix1 c) - totals e (ix1 c) = _
  rw [totalsTo_val, totals_val, count_le, ofNat_sub]

include he in
theorem wrapped_val (a : Fin 8192) : wrapped e (ix1 a) = BitVec.ofNat 32 (keyOf e a) := by
  have hk := he (ix1 a)
  have h0 : (broadcastInDim S8192 ![] bcast_S_S8192 (constantI S_ 32 0#32)) (ix1 a) = 0#32 := bc0 bcast_S_S8192 _ _
  have hs : cmpi .slt e (broadcastInDim S8192 ![] bcast_S_S8192 (constantI S_ 32 0#32)) (ix1 a) = 0#1 := by
    show BitVec.ofBool ((e (ix1 a)).slt _) = 0#1
    rw [h0]
    have : (e (ix1 a)).slt 0#32 = false := by
      rw [BitVec.slt_eq_decide, decide_eq_false_iff_not, BitVec.toInt_eq_toNat_cond]
      have : (0#32 : BitVec 32).toInt = 0 := rfl
      omega
    rw [this]
    rfl
  unfold wrapped select
  rw [hs]
  show e (ix1 a) = _
  unfold keyOf
  rw [BitVec.ofNat_toNat, BitVec.setWidth_eq]

include he in
theorem base_val (a : Fin 8192) : base e (ix1 a) = BitVec.ofNat 32 (Nat.count (fun i => keyAt e i < keyOf e a) 8192) := by
  have hk := keyOf_lt he a
  have hc : (broadcastInDim S8192x1 ![0] bcast_S8192_S8192x1_0 (wrapped e)) (ix2 a (0 : Fin 1)) = BitVec.ofNat 32 (keyOf e a) :=
    (bcCol bcast_S8192_S8192x1_0 (wrapped e) a).trans (wrapped_val he a)
  exact (take_ap gather_S8_S8192x1_S8192_n_0_n_n_0_1_1 rfl rfl rfl rfl (starts e) _ a hk (by omega) hc).trans (starts_val ⟨keyOf e a, hk⟩)

include he in
theorem within_val (a : Fin 8192) : within e (ix1 a) = BitVec.ofNat 32 (Nat.count (fun i => keyAt e i = keyOf e a) a.val) := by
  have hk := keyOf_lt he a
  have h := reduce_row (muli (ahead e) (hot e)) reducesTo_S8192x8_S8192_d1 h_S_ a (⟨keyOf e a, hk⟩ : Fin 8) fun q hq => by
    show ahead e (ix2 a q) * hot e (ix2 a q) = 0#32
    rw [hot_val, keyAt_val, if_neg (fun h => hq (Fin.ext h.symm))]
    exact BitVec.mul_zero
  refine h.trans ?_
  show ahead e (ix2 a _) * hot e (ix2 a _) = _
  rw [hot_val, keyAt_val, if_pos rfl, ahead_val]
  exact BitVec.mul_one _

include he in
/-- The positions are the ranks. -/
theorem posv_val (a : Fin 8192) : (posv e (ix1 a)).toNat = (Cert.Proof.Rank.perm (keyOf e) a).val := by
  show (base e (ix1 a) + within e (ix1 a)).toNat = _
  rw [base_val he, within_val he, ← BitVec.ofNat_add, Cert.Proof.Rank.perm_val, ← Cert.Proof.Rank.rank_eq (keyOf e) (keyAt e) keyAt_val a, BitVec.toNat_ofNat]
  have := Cert.Proof.Rank.rank_lt (keyOf e) a
  exact Nat.mod_eq_of_lt (by omega)

end Cert.Expand.Route

end
-- ==== Proof.Expand.Line.lean ====
/- The host operations before the call, and what they leave. -/
module

public import proofs.«01_k».proof.Proof.Expand.Route
public import Idealize.ShloMosaic.Lib.StableHlo.Run

@[expose] public section

noncomputable section

namespace Cert.Expand.Line

open Idealize.ShloMosaic
open Idealize.ShloMosaic.TcCoe Idealize.ShloMosaic.StableHlo Idealize.SL.Sem
open Cert.Expand Cert.Expand.Route
open Facts₀ Facts

variable {F : FTy → Type} [FloatOps F] [Facts]

/-- The operations, in order. -/
abbrev ops : List (HloOp τ sig (Elt F)) :=
  [ reshape main_arg2 main_v0 (rfl : (.i32 : EltTy) = .i32) shapeCasts_S4096x2_S8192,
    unary main_v0 main_v1 (broadcastInDim S8192x1 ![0] bcast_S8192_S8192x1_0 : (⟨S8192, .i32⟩ : BufTy).Contents (Elt F) → (⟨S8192x1, .i32⟩ : BufTy).Contents (Elt F)),
    nullary main_v2 (iotaInDim S8 32 0),
    unary main_v2 main_v3 (broadcastInDim S1x8 ![1] bcast_S8_S1x8_1 : (⟨S8, .i32⟩ : BufTy).Contents (Elt F) → (⟨S1x8, .i32⟩ : BufTy).Contents (Elt F)),
    unary main_v1 main_v4 (broadcastInDim S8192x8 ![0, 1] bcast_S8192x1_S8192x8_0_1 : (⟨S8192x1, .i32⟩ : BufTy).Contents (Elt F) → (⟨S8192x8, .i32⟩ : BufTy).Contents (Elt F)),
    unary main_v3 main_v5 (broadcastInDim S8192x8 ![0, 1] bcast_S1x8_S8192x8_0_1 : (⟨S1x8, .i32⟩ : BufTy).Contents (Elt F) → (⟨S8192x8, .i32⟩ : BufTy).Contents (Elt F)),
    binary main_v4 main_v5 main_v6 (cmpi .eq : (⟨S8192x8, .i32⟩ : BufTy).Contents (Elt F) → (⟨S8192x8, .i32⟩ : BufTy).Contents (Elt F) → (⟨S8192x8, .i1⟩ : BufTy).Contents (Elt F)),
    unary main_v6 main_v7 ((extui 32 · natLt_1_32) : (⟨S8192x8, .i1⟩ : BufTy).Contents (Elt F) → (⟨S8192x8, .i32⟩ : BufTy).Contents (Elt F)),
    nullary main_call0_call0_c (constantI S_ 32 0#32),
    unary main_call0_call0_c main_call0_call0_v0 (broadcastInDim S_ ![] bcast_S_S_ : (⟨S_, .i32⟩ : BufTy).Contents (Elt F) → (⟨S_, .i32⟩ : BufTy).Contents (Elt F)),
    binary main_v7 main_call0_call0_v0 main_v8 ((fun x v => Host.reduceWindow IntOp.addi ![8192, 1] ![1, 1] ![8191, 0] ![0, 0] x v reduceWindows_S8192x8_S8192x8_w8192s1p8191_0_w1s1p0_0 h_S_) : (⟨S8192x8, .i32⟩ : BufTy).Contents (Elt F) → (⟨S_, .i32⟩ : BufTy).Contents (Elt F) → (⟨S8192x8, .i32⟩ : BufTy).Contents (Elt F)),
    binary main_v8 main_v7 main_v9 (subi : (⟨S8192x8, .i32⟩ : BufTy).Contents (Elt F) → (⟨S8192x8, .i32⟩ : BufTy).Contents (Elt F) → (⟨S8192x8, .i32⟩ : BufTy).Contents (Elt F)),
    nullary main_c (constantI S_ 32 0#32),
    binary main_v7 main_c main_v10 ((fun x v => Host.reduce IntOp.addi x v reducesTo_S8192x8_S8_d0 h_S_) : (⟨S8192x8, .i32⟩ : BufTy).Contents (Elt F) → (⟨S_, .i32⟩ : BufTy).Contents (Elt F) → (⟨S8, .i32⟩ : BufTy).Contents (Elt F)),
    nullary main_call1_call0_c (constantI S_ 32 0#32),
    unary main_call1_call0_c main_call1_call0_v0 (broadcastInDim S_ ![] bcast_S_S_ : (⟨S_, .i32⟩ : BufTy).Contents (Elt F) → (⟨S_, .i32⟩ : BufTy).Contents (Elt F)),
    binary main_v10 main_call1_call0_v0 main_v11 ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)),
    binary main_v11 main_v10 main_v12 (subi : (⟨S8, .i32⟩ : BufTy).Contents (Elt F) → (⟨S8, .i32⟩ : BufTy).Contents (Elt F) → (⟨S8, .i32⟩ : BufTy).Contents (Elt F)),
    nullary main_c_0 (constantI S_ 32 0#32),
    unary main_c_0 main_v13 (broadcastInDim S8192 ![] bcast_S_S8192 : (⟨S_, .i32⟩ : BufTy).Contents (Elt F) → (⟨S8192, .i32⟩ : BufTy).Contents (Elt F)),
    binary main_v0 main_v13 main_v14 (cmpi .slt : (⟨S8192, .i32⟩ : BufTy).Contents (Elt F) → (⟨S8192, .i32⟩ : BufTy).Contents (Elt F) → (⟨S8192, .i1⟩ : BufTy).Contents (Elt F)),
    nullary main_c_1 (constantI S_ 32 8#32),
    unary main_c_1 main_v15 (broadcastInDim S8192 ![] bcast_S_S8192 : (⟨S_, .i32⟩ : BufTy).Contents (Elt F) → (⟨S8192, .i32⟩ : BufTy).Contents (Elt F)),
    binary main_v0 main_v15 main_v16 (addi : (⟨S8192, .i32⟩ : BufTy).Contents (Elt F) → (⟨S8192, .i32⟩ : BufTy).Contents (Elt F) → (⟨S8192, .i32⟩ : BufTy).Contents (Elt F)),
    ternary main_v14 main_v16 main_v0 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v17 main_v18 (broadcastInDim S8192x1 ![0] bcast_S8192_S8192x1_0 : (⟨S8192, .i32⟩ : BufTy).Contents (Elt F) → (⟨S8192x1, .i32⟩ : BufTy).Contents (Elt F)),
    binary main_v12 main_v18 main_v19 ((fun x i => Host.gather gather_S8_S8192x1_S8192_n_0_n_n_0_1_1 x i) : (⟨S8, .i32⟩ : BufTy).Contents (Elt F) → (⟨S8192x1, .i32⟩ : BufTy).Contents (Elt F) → (⟨S8192, .i32⟩ : BufTy).Contents (Elt F)),
    binary main_v9 main_v7 main_v20 (muli : (⟨S8192x8, .i32⟩ : BufTy).Contents (Elt F) → (⟨S8192x8, .i32⟩ : BufTy).Contents (Elt F) → (⟨S8192x8, .i32⟩ : BufTy).Contents (Elt F)),
    nullary main_c_2 (constantI S_ 32 0#32),
    binary main_v20 main_c_2 main_v21 ((fun x v => Host.reduce IntOp.addi x v reducesTo_S8192x8_S8192_d1 h_S_) : (⟨S8192x8, .i32⟩ : BufTy).Contents (Elt F) → (⟨S_, .i32⟩ : BufTy).Contents (Elt F) → (⟨S8192, .i32⟩ : BufTy).Contents (Elt F)),
    binary main_v19 main_v21 main_v22 (addi : (⟨S8192, .i32⟩ : BufTy).Contents (Elt F) → (⟨S8192, .i32⟩ : BufTy).Contents (Elt F) → (⟨S8192, .i32⟩ : BufTy).Contents (Elt F)),
    reshape main_v22 main_v23 (rfl : (.i32 : EltTy) = .i32) shapeCasts_S8192_S4096x2,
    unary main_v23 main_v24 ((extractStridedSlice S4096x1 ![0, 0] · slices_S4096x2_S4096x1_0_0) : (⟨S4096x2, .i32⟩ : BufTy).Contents (Elt F) → (⟨S4096x1, .i32⟩ : BufTy).Contents (Elt F)),
    reshape main_v24 main_v25 (rfl : (.i32 : EltTy) = .i32) shapeCasts_S4096x1_S4096,
    reshape main_v25 main_v26 (rfl : (.i32 : EltTy) = .i32) shapeCasts_S4096_S32x4x32,
    unary main_v23 main_v27 ((extractStridedSlice S4096x1 ![0, 1] · slices_S4096x2_S4096x1_0_1) : (⟨S4096x2, .i32⟩ : BufTy).Contents (Elt F) → (⟨S4096x1, .i32⟩ : BufTy).Contents (Elt F)),
    reshape main_v27 main_v28 (rfl : (.i32 : EltTy) = .i32) shapeCasts_S4096x1_S4096,
    reshape main_v28 main_v29 (rfl : (.i32 : EltTy) = .i32) shapeCasts_S4096_S32x4x32,
    unary main_arg1 main_v30 ((extractStridedSlice S4096x1 ![0, 0] · slices_S4096x2_S4096x1_0_0) : (⟨S4096x2, .f32⟩ : BufTy).Contents (Elt F) → (⟨S4096x1, .f32⟩ : BufTy).Contents (Elt F)),
    reshape main_v30 main_v31 (rfl : (.f32 : EltTy) = .f32) shapeCasts_S4096x1_S4096,
    reshape main_v31 main_v32 (rfl : (.f32 : EltTy) = .f32) shapeCasts_S4096_S32x4x32,
    unary main_arg1 main_v33 ((extractStridedSlice S4096x1 ![0, 1] · slices_S4096x2_S4096x1_0_1) : (⟨S4096x2, .f32⟩ : BufTy).Contents (Elt F) → (⟨S4096x1, .f32⟩ : BufTy).Contents (Elt F)),
    reshape main_v33 main_v34 (rfl : (.f32 : EltTy) = .f32) shapeCasts_S4096x1_S4096,
    reshape main_v34 main_v35 (rfl : (.f32 : EltTy) = .f32) shapeCasts_S4096_S32x4x32 ]

/-- An operation at typed references is the operation at the references. -/
theorem binary_of (a b y : Ref sig .tc) (ha : a.space ≠ .host) (ha' : a.isScoped = false) (hb : b.space ≠ .host) (hb' : b.isScoped = false)
    (hy : y.space ≠ .host) (hy' : y.isScoped = false) (f : a.ty.Contents (Elt F) → b.ty.Contents (Elt F) → y.ty.Contents (Elt F)) :
    (TRef.binary (.of a rfl ha ha') (.of b rfl hb hb') (.of y rfl hy hy') f : HloOp τ sig (Elt F)) = binary a b y f ⟨ha, ha'⟩ ⟨hb, hb'⟩ ⟨hy, hy'⟩ := rfl

/-- The running sums. -/
theorem sum0_eq : (TRef.binary (.of main_v7) (.of main_call0_call0_v0) (.of main_v8) ((fun x v => Host.reduceWindow IntOp.addi ![8192, 1] ![1, 1] ![8191, 0] ![0, 0] x v reduceWindows_S8192x8_S8192x8_w8192s1p8191_0_w1s1p0_0 h_S_) : (⟨S8192x8, .i32⟩ : BufTy).Contents (Elt F) → (⟨S_, .i32⟩ : BufTy).Contents (Elt F) → (⟨S8192x8, .i32⟩ : BufTy).Contents (Elt F)) : HloOp τ sig (Elt F))
    = binary main_v7 main_call0_call0_v0 main_v8 ((fun x v => Host.reduceWindow IntOp.addi ![8192, 1] ![1, 1] ![8191, 0] ![0, 0] x v reduceWindows_S8192x8_S8192x8_w8192s1p8191_0_w1s1p0_0 h_S_) : (⟨S8192x8, .i32⟩ : BufTy).Contents (Elt F) → (⟨S_, .i32⟩ : BufTy).Contents (Elt F) → (⟨S8192x8, .i32⟩ : BufTy).Contents (Elt F)) := binary_of main_v7 main_call0_call0_v0 main_v8 _ _ _ _ _ _ _
theorem sum1_eq : (TRef.binary (.of main_v10) (.of main_call1_call0_v0) (.of main_v11) ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)) : HloOp τ sig (Elt F))
    = binary main_v10 main_call1_call0_v0 main_v11 ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)) := binary_of main_v10 main_call1_call0_v0 main_v11 _ _ _ _ _ _ _
theorem body0_eq : (fn_cumsum.body (F := F) (.of main_v7) main_call0)
    = seq [nullary main_call0_call0_c (constantI S_ 32 0#32),
      unary main_call0_call0_c main_call0_call0_v0 (broadcastInDim S_ ![] bcast_S_S_ : (⟨S_, .i32⟩ : BufTy).Contents (Elt F) → (⟨S_, .i32⟩ : BufTy).Contents (Elt F)),
      binary main_v7 main_call0_call0_v0 main_v8 ((fun x v => Host.reduceWindow IntOp.addi ![8192, 1] ![1, 1] ![8191, 0] ![0, 0] x v reduceWindows_S8192x8_S8192x8_w8192s1p8191_0_w1s1p0_0 h_S_) : (⟨S8192x8, .i32⟩ : BufTy).Contents (Elt F) → (⟨S_, .i32⟩ : BufTy).Contents (Elt F) → (⟨S8192x8, .i32⟩ : BufTy).Contents (Elt F))] := by
  rw [← sum0_eq]
  rfl
theorem body1_eq : (fn_cumsum_1.body (F := F) (.of main_v10) main_call1)
    = seq [nullary main_call1_call0_c (constantI S_ 32 0#32),
      unary main_call1_call0_c main_call1_call0_v0 (broadcastInDim S_ ![] bcast_S_S_ : (⟨S_, .i32⟩ : BufTy).Contents (Elt F) → (⟨S_, .i32⟩ : BufTy).Contents (Elt F)),
      binary main_v10 main_call1_call0_v0 main_v11 ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F))] := by
  rw [← sum1_eq]
  rfl

set_option maxRecDepth 16384 in
/-- The main thread runs them, then the call. -/
theorem main_eq (d : Dev nD) : main (F := F) d = seq ops >>= fun _ => (sc (F := F)).run d 0 >>= fun _ => pure ⟨⟩ := by
  simp only [main, body0_eq, body1_eq, seq, bind_assoc, pure_bind]

theorem ops_sub : (ops : List (HloOp τ sig (Elt F))).Forall fun op => op.bufs ⊆ tcRefs τ sig :=
  ⟨reshape_bufs_sub .., unary_bufs_sub .., nullary_bufs_sub .., unary_bufs_sub .., unary_bufs_sub .., unary_bufs_sub .., binary_bufs_sub .., unary_bufs_sub .., nullary_bufs_sub .., unary_bufs_sub .., binary_bufs_sub .., binary_bufs_sub .., nullary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., reshape_bufs_sub .., unary_bufs_sub .., reshape_bufs_sub .., reshape_bufs_sub .., unary_bufs_sub .., reshape_bufs_sub .., reshape_bufs_sub .., unary_bufs_sub .., reshape_bufs_sub .., reshape_bufs_sub .., unary_bufs_sub .., reshape_bufs_sub .., reshape_bufs_sub ..⟩

theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## What they leave -/

/-- A vector of 8192, in pairs -/
def pairs {α : Type} (v : S8192.Idx → α) : S4096x2.Idx → α := shapeCast S4096x2 v shapeCasts_S8192_S4096x2
/-- and a side of an array of pairs, laid out by tile, chunk and lane. -/
def side {α : Type} (v : S4096x2.Idx → α) : Bool → S32x4x32.Idx → α
  | false => shapeCast S32x4x32 (shapeCast S4096 (extractStridedSlice S4096x1 ![0, 0] v slices_S4096x2_S4096x1_0_0) shapeCasts_S4096x1_S4096) shapeCasts_S4096_S32x4x32
  | true => shapeCast S32x4x32 (shapeCast S4096 (extractStridedSlice S4096x1 ![0, 1] v slices_S4096x2_S4096x1_0_1) shapeCasts_S4096x1_S4096) shapeCasts_S4096_S32x4x32

variable (V : Valuation τ sig (Elt F))

theorem arg0_eq : after ops V (main_arg0 : DevRef τ sig) = V (main_arg0 : DevRef τ sig) := by
  after_results
theorem arg1_eq : after ops V (main_arg1 : DevRef τ sig) = V (main_arg1 : DevRef τ sig) := by
  after_results
theorem arg2_eq : after ops V (main_arg2 : DevRef τ sig) = V (main_arg2 : DevRef τ sig) := by
  after_results

theorem g0_eq : after ops V (main_v32 : DevRef τ sig) = side (V (main_arg1 : DevRef τ sig)) false := by
  after_results
  rfl
theorem g1_eq : after ops V (main_v35 : DevRef τ sig) = side (V (main_arg1 : DevRef τ sig)) true := by
  after_results
  rfl
theorem p0_eq : after ops V (main_v26 : DevRef τ sig) = side (pairs (posv (keys (V (main_arg2 : DevRef τ sig))))) false := by
  after_results
  rfl
theorem p1_eq : after ops V (main_v29 : DevRef τ sig) = side (pairs (posv (keys (V (main_arg2 : DevRef τ sig))))) true := by
  after_results
  rfl

end Cert.Expand.Line

end
-- ==== Proof.Expand.Launch.lean ====
/- The program's run: the host operations, the call, and what is left when all is quiet. -/
module

public import proofs.«01_k».proof.Proof.Expand.Share
public import proofs.«01_k».proof.Proof.Expand.Line
public import Idealize.ShloMosaic.Lib.Pipeline.Frame
public import Idealize.ShloMosaic.Lib.Pipeline.Value

@[expose] public section

noncomputable section

namespace Cert.Expand.Launch

open Idealize.ShloMosaic Idealize.ShloMosaic.ValueIdx
open Idealize.ShloMosaic.SparseCore (V)
open Idealize.ShloMosaic.SparseCore.Cfg (HIx)
open Idealize.ShloMosaic.Rounds
open Idealize.ShloMosaic.StableHlo (held after held_sub_split wp_seq devRef_mem_tcRefs)
open Idealize.SL Idealize.SL.RA
open Idealize.SL.BI (sProp bigSep bigSep_congr bigSep_singleton bigSep_emp_const bigSep_univ_of_subsingleton)
open scoped Idealize.SL.BI
open Idealize.SL.BI.BIBase Idealize.SL.BI.Laws Idealize.SL.ProofMode Idealize.SL.Sem
open Cert.Expand Cert.Expand.Tile Cert.Expand.Hand Cert.Expand.Share Cert.Expand.Route Cert.Expand.Line
open Facts₀ Facts

variable {F : FTy → Type} [FloatOps F] [Facts]

local notation "𝕄" => MT nD τ sig (HIx 1) (Elt F) ℕ UU ℕ

/-! ## The arrays before the call -/

/-- A side's entry is the half of the token's pair, -/
theorem side_apply {α : Type} (v : S4096x2.Idx → α) (w : Bool) (a : Fin 32) (b : Fin 4) (c : Fin 32) :
    side v w (ix3 a b c) = v (ix2 (⟨128 * a.val + 32 * b.val + c.val, by omega⟩ : Fin 4096) (⟨w.toNat, Bool.toNat_lt w⟩ : Fin 2)) := by
  cases w
  · simp only [side]
    rw [shapeCast_apply _ _ (ix3 a b c) (ix1 (⟨128 * a.val + 32 * b.val + c.val, by omega⟩ : Fin 4096)) (by
        rw [Shape.rowMajor_val_one, Shape.rowMajor_val_three]
        show 128 * a.val + 32 * b.val + c.val = (a.val * 4 + b.val) * 32 + c.val
        omega),
      shapeCast_apply _ _ (ix1 _) (ix2 (⟨128 * a.val + 32 * b.val + c.val, by omega⟩ : Fin 4096) (0 : Fin 1)) (by
        rw [Shape.rowMajor_val_one, Shape.rowMajor_val_two]
        show (128 * a.val + 32 * b.val + c.val) * 1 + 0 = 128 * a.val + 32 * b.val + c.val
        omega)]
    unfold extractStridedSlice
    refine congrArg v (funext fun x => Fin.ext ?_)
    match x with
    | ⟨0, _⟩ => show 0 + (128 * a.val + 32 * b.val + c.val) = 128 * a.val + 32 * b.val + c.val; omega
    | ⟨1, _⟩ => rfl
  · simp only [side]
    rw [shapeCast_apply _ _ (ix3 a b c) (ix1 (⟨128 * a.val + 32 * b.val + c.val, by omega⟩ : Fin 4096)) (by
        rw [Shape.rowMajor_val_one, Shape.rowMajor_val_three]
        show 128 * a.val + 32 * b.val + c.val = (a.val * 4 + b.val) * 32 + c.val
        omega),
      shapeCast_apply _ _ (ix1 _) (ix2 (⟨128 * a.val + 32 * b.val + c.val, by omega⟩ : Fin 4096) (0 : Fin 1)) (by
        rw [Shape.rowMajor_val_one, Shape.rowMajor_val_two]
        show (128 * a.val + 32 * b.val + c.val) * 1 + 0 = 128 * a.val + 32 * b.val + c.val
        omega)]
    unfold extractStridedSlice
    refine congrArg v (funext fun x => Fin.ext ?_)
    match x with
    | ⟨0, _⟩ => show 0 + (128 * a.val + 32 * b.val + c.val) = 128 * a.val + 32 * b.val + c.val; omega
    | ⟨1, _⟩ => rfl

/-- and a half of a pair is the vector's entry. -/
theorem pairs_apply {α : Type} (v : S8192.Idx → α) (w : Bool) (a : Fin 32) (b : Fin 4) (c : Fin 32) :
    side (pairs v) w (ix3 a b c) = v (ix1 (num a b c w)) := by
  rw [side_apply]
  unfold pairs
  refine shapeCast_apply _ _ _ (ix1 (num a b c w)) ?_
  rw [Shape.rowMajor_val_one, Shape.rowMajor_val_two]
  show 2 * (128 * a.val + 32 * b.val + c.val) + w.toNat = (128 * a.val + 32 * b.val + c.val) * 2 + w.toNat
  omega

variable (m : (ℓ : Loc nD τ sig) → Buf (Elt F) ℓ) (ρ : Dev nD → PrngReg)

abbrev gLoc (d : Dev nD) : Loc nD τ sig := (SparseCore.T d).loc main_arg1
abbrev eLoc (d : Dev nD) : Loc nD τ sig := (SparseCore.T d).loc main_arg2

/-- The gates, and the keys. -/
abbrev gatesOf (d : Dev nD) : S4096x2.Idx → F .f32 := m (gLoc d)
abbrev expertsOf (d : Dev nD) : S4096x2.Idx → BitVec 32 := m (eLoc d)
abbrev keysOf (d : Dev nD) : S8192.Idx → BitVec 32 := keys (expertsOf m d)

/-- What the precondition gives: every key is one of the eight. -/
def PreOK : Prop := ∀ (d : Dev nD) (k : S8192.Idx), (keysOf m d k).toNat < 8

/-- The call's operands. -/
def arr (h : PreOK m) (d : Dev nD) : Arr F where
  x := m (xLoc d)
  g := side (gatesOf m d)
  p := side (pairs (posv (keysOf m d)))
  pos := Cert.Proof.Rank.perm (keyOf (keysOf m d))
  hp := fun w a b c => by rw [pairs_apply]; exact posv_val (h d) _
  gf := fun n => gatesOf m d (ix2 (⟨n.val / 2, by omega⟩ : Fin 4096) (⟨n.val % 2, by omega⟩ : Fin 2))
  hg := fun w a b c => by
    rw [side_apply]
    have hw := Bool.toNat_lt w
    refine congrArg₂ (fun (s : Fin 4096) (t : Fin 2) => gatesOf m d (ix2 s t)) (Fin.ext ?_) (Fin.ext ?_)
    · show 128 * a.val + 32 * b.val + c.val = (2 * (128 * a.val + 32 * b.val + c.val) + w.toNat) / 2
      omega
    · show w.toNat = (2 * (128 * a.val + 32 * b.val + c.val) + w.toNat) % 2
      omega
  xs0 := m (xsLoc d)
  gs0 := m (gsLoc d)

/-! ## The line -/

abbrev r' (b : Ref sig .tc) : DevRef τ sig := Proc.devRef .tc b

/-- The arrays the call and the claims name. -/
abbrev S9 : Finset (DevRef τ sig) :=
  {r' main_arg0, r' main_arg1, r' main_arg2, r' main_v32, r' main_v35, r' main_v26, r' main_v29, r' main_v36_0, r' main_v36_1}

theorem S9_sub : S9 ⊆ Pipeline.ucRefs τ sig := by
  have h : ∀ b : Ref sig .tc, (r' b).isScoped = false → r' b ∈ Pipeline.ucRefs τ sig := fun b hb =>
    Finset.mem_filter.mpr ⟨devRef_mem_tcRefs b, by rw [hb]; exact Bool.false_ne_true⟩
  refine Finset.insert_subset (h _ rfl) (Finset.insert_subset (h _ rfl) (Finset.insert_subset (h _ rfl) (Finset.insert_subset (h _ rfl)
    (Finset.insert_subset (h _ rfl) (Finset.insert_subset (h _ rfl) (Finset.insert_subset (h _ rfl) (Finset.insert_subset (h _ rfl)
      (Finset.singleton_subset_iff.mpr (h _ rfl)))))))))

theorem held_S9 (d : Dev nD) (W : Valuation τ sig (Elt F)) :
    (held (SparseCore.T d) S9 W : sProp 𝕄)
      = iprop((xLoc d ↦{fullShare} W (r' main_arg0)) ∗ (gLoc d ↦{fullShare} W (r' main_arg1)) ∗ (eLoc d ↦{fullShare} W (r' main_arg2))
          ∗ (g0Loc d ↦{fullShare} W (r' main_v32)) ∗ (g1Loc d ↦{fullShare} W (r' main_v35))
          ∗ (p0Loc d ↦{fullShare} W (r' main_v26)) ∗ (p1Loc d ↦{fullShare} W (r' main_v29))
          ∗ (xsLoc d ↦{fullShare} W (r' main_v36_0)) ∗ gsLoc d ↦{fullShare} W (r' main_v36_1)) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The contents at launch, -/
def V0 (d : Dev nD) : Valuation τ sig (Elt F) := fun b => m (d, b)

theorem unscoped_held (d : Dev nD) :
    (unscopedBufs d (fun b => m ((SparseCore.T d).loc b)) : sProp 𝕄) = held (SparseCore.T d) (Pipeline.ucRefs τ sig) (V0 m d) :=
  Pipeline.unscopedBufs_held (Ix := HIx 1) (Name := ℕ) (U := UU) (Lvl := ℕ) d (V0 m d)

theorem xs0_eq (V : Valuation τ sig (Elt F)) : after ops V (r' main_v36_0) = V (r' main_v36_0) := by
  after_results
theorem gs0_eq (V : Valuation τ sig (Elt F)) : after ops V (r' main_v36_1) = V (r' main_v36_1) := by
  after_results

variable (hp : PreOK m)

/-- and before the call. -/
theorem held_after (d : Dev nD) :
    (held (SparseCore.T d) S9 (after ops (V0 m d)) : sProp 𝕄)
      = iprop((xLoc d ↦{fullShare} (arr m hp d).x) ∗ (gLoc d ↦{fullShare} m (gLoc d)) ∗ (eLoc d ↦{fullShare} m (eLoc d))
          ∗ (g0Loc d ↦{fullShare} (arr m hp d).g false) ∗ (g1Loc d ↦{fullShare} (arr m hp d).g true)
          ∗ (p0Loc d ↦{fullShare} (arr m hp d).p false) ∗ (p1Loc d ↦{fullShare} (arr m hp d).p true)
          ∗ (xsLoc d ↦{fullShare} (arr m hp d).xs0) ∗ gsLoc d ↦{fullShare} (arr m hp d).gs0) := by
  rw [held_S9, Line.arg0_eq, Line.arg1_eq, Line.arg2_eq, Line.g0_eq, Line.g1_eq, Line.p0_eq, Line.p1_eq, xs0_eq, gs0_eq]
  rfl

/-! ## The run -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (A : Dev nD → Arr F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

/-- What is left to the claims: the arguments as they came, the results computed. -/
abbrev FIN (d : Dev nD) : sProp 𝕄 :=
  iprop((xLoc d ↦{fullShare} m (xLoc d)) ∗ (gLoc d ↦{fullShare} m (gLoc d)) ∗ (eLoc d ↦{fullShare} m (eLoc d))
    ∗ (xsLoc d ↦{fullShare} (arr m hp d).xs1) ∗ gsLoc d ↦{fullShare} (arr m hp d).gs1)

set_option maxRecDepth 16384 in
/-- A device's main thread: the host operations, then the call. -/
theorem hmain (κ : GSem nD τ sig → ℕ) (d : Dev nD) :
    iprop((K (F := F)).ctx EH (P (arr m hp)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hp d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (Pipeline.ucRefs τ sig) _ ops
    (fun op h => Pipeline.sub_ucRefs op ((List.forall_iff_forall_mem.mp ops_sub) op h))
    (fun op h => (List.forall_iff_forall_mem.mp ops_fresh) op h) (V0 m d)) $$ [Hb Hheld]
  · isplitl [Hb] <;> iassumption
  iintro ⟨Hb, Hheld⟩
  have hV : (held (SparseCore.T d) (Pipeline.ucRefs τ sig) (after ops (V0 m d)) : sProp 𝕄) = _ := held_sub_split (SparseCore.T d) S9_sub _
  rw [held_after m hp] at hV
  ihave Hh := (Entails.of_eq hV) $$ Hheld
  icases Hh with ⟨⟨Hx, Hg, He, H1, H2, H3, H4, H5, H6⟩, -⟩
  rw [wp_bind]
  iapply ((K (F := F)).wp_run (D (F := F)) 𝒱 (EH := EH) (P := P (arr m hp)) κ d 0) $$ [Hst Hx Hg He H1 H2 H3 H4 H5 H6 Hb Hts]
  isplitr; · iexact Hctx
  isplitl [Hst]; · iexact Hst
  isplitl [Hx H1 H2 H3 H4 H5 H6]
  · iapply (st_split (arr m hp) d)
    isplitl [Hx H1 H2 H3 H4]
    · isplitl [Hx]; · iexact Hx
      isplitl [H1 H2]
      · isplitl [H1]; · iexact H1
        iexact H2
      isplitl [H3]; · iexact H3
      iexact H4
    isplitl [H5]; · iexact H5
    iexact H6
  iintro ⟨Hst, Hdn⟩
  ihave Hdn' := (dn_join (arr m hp) d) $$ Hdn
  icases Hdn' with ⟨⟨Hx, -, -⟩, H5, H6⟩
  rw [wp_pure]
  imodintro
  isplitl [Hst]; · iexact Hst
  isplitr [Hb Hts]
  · isplitl [Hx]; · iexact Hx
    isplitl [Hg]; · iexact Hg
    isplitl [He]; · iexact He
    isplitl [H5]; · iexact H5
    iexact H6
  isplitl [Hb] <;> iassumption

def fq (d : Dev nD) (s' : Phys nD τ sig (Elt F)) : Prop :=
  s'.mem.mem (xLoc d) = m (xLoc d) ∧ s'.mem.mem (gLoc d) = m (gLoc d) ∧ s'.mem.mem (eLoc d) = m (eLoc d)
    ∧ s'.mem.mem (xsLoc d) = (arr m hp d).xs1 ∧ s'.mem.mem (gsLoc d) = (arr m hp d).gs1

/-- An array held whole is what the memory has. -/
theorem agree (s' : Phys nD τ sig (Elt F)) (l : Loc nD τ sig) (f : Buf (Elt F) l) :
    iprop((l ↦{fullShare} f) ∗ SI s') ⊢ (iprop(⌜s'.mem.mem l = f⌝ ∗ SI s') : sProp 𝕄) := by
  iintro ⟨Hl, HSI⟩
  ihave H := (persistent_entails_right (SI_pointsTo_agree (st := s') (ℓ := l) (I := Finset.univ) (q := fullShare) (f := f))) $$ [HSI Hl]
  · isplitl [HSI] <;> iassumption
  icases H with ⟨%h, HSI, -⟩
  isplitr
  · ipureintro
    exact funext fun i => h i (Finset.mem_univ i)
  iexact HSI

set_option maxRecDepth 16384 in
theorem hfin (d : Dev nD) (s' : Phys nD τ sig (Elt F)) : iprop(FIN m hp d ∗ SI s') ⊢ (⌜fq m hp d s'⌝ : sProp 𝕄) := by
  iintro ⟨⟨H1, H2, H3, H4, H5⟩, HSI⟩
  ihave H := (agree s' (xLoc d) (m (xLoc d))) $$ [HSI H1]
  · isplitl [H1] <;> iassumption
  icases H with ⟨%h1, HSI⟩
  ihave H := (agree s' (gLoc d) (m (gLoc d))) $$ [HSI H2]
  · isplitl [H2] <;> iassumption
  icases H with ⟨%h2, HSI⟩
  ihave H := (agree s' (eLoc d) (m (eLoc d))) $$ [HSI H3]
  · isplitl [H3] <;> iassumption
  icases H with ⟨%h3, HSI⟩
  ihave H := (agree s' (xsLoc d) (arr m hp d).xs1) $$ [HSI H4]
  · isplitl [H4] <;> iassumption
  icases H with ⟨%h4, HSI⟩
  ihave H := (agree s' (gsLoc d) (arr m hp d).gs1) $$ [HSI H5]
  · isplitl [H5] <;> iassumption
  icases H with ⟨%h5, HSI⟩
  ipureintro
  exact ⟨h1, h2, h3, h4, h5⟩

/-- What the run leaves. -/
def QC : PUnit × MemSt nD τ sig (Elt F) → Prop := fun r =>
  (∀ c : Dev nD, r.2.mem (xLoc c) = m (xLoc c) ∧ r.2.mem (gLoc c) = m (gLoc c) ∧ r.2.mem (eLoc c) = m (eLoc c)
    ∧ r.2.mem (xsLoc c) = (arr m hp c).xs1 ∧ r.2.mem (gsLoc c) = (arr m hp c).gs1) ∧ r.2.sem = fun _ => 0

/-- The program, started anywhere every key is one of the eight, ends with the results computed, the arguments unchanged
    and the semaphores at zero. -/
theorem run_main [∀ e, Nonempty (Elt F e)] :
    θ_run (Cert.Expand.defs (F := F)) (Cert.Expand.threads (F := F)) ⟨m, fun _ => 0, ρ⟩ (QC m hp) :=
  SparseCore.Cfg.θ_run_sc_quiescent (K := K (F := F)) (D := D (F := F)) (𝒱 := 𝒱) (EH := EH) (P := P (arr m hp)) (A := ∅) facts v₀
    (fun q hq => match q with | 0 => nomatch hq)
    (fun q _ => match q with | 0 => tileObl (arr m hp) facts)
    (fun q _ => match q with | 0 => SparseCore.Cfg.VecSplit.of_plain (vecSplit (arr m hp)))
    m ρ main (fun _ => iprop(emp)) (FIN m hp) (u₀ (F := F)) (sep_elim_left.trans (hu₀ (arr m hp))) (hmain m ρ hp) (fq m hp) (hfin m hp) (QC m hp)
    (fun _ h hz => ⟨h, hz⟩)

end Cert.Expand.Launch

end
-- ==== Proof.Same.lean ====
/- No operation of either program was rewritten, so each idealized program is the program over the extended reals, and its run
   is the program's. -/
module

public import proofs.«01_k».proof.KernelIdeal
public import proofs.«01_k».proof.ExpandIdeal
public import proofs.«01_k».proof.Proof.Gen.Kernel
public import proofs.«01_k».proof.Proof.ExpandFacts
public import proofs.«01_k».proof.Proof.Kernel.Launch
public import proofs.«01_k».proof.Proof.Expand.Launch

@[expose] public section

noncomputable section

namespace Cert.Proof.Same

open Idealize.ShloMosaic Idealize.SL.Sem

/-- The idealized combine's side conditions are the program's. -/
theorem kernelFacts₀ : Cert.KernelIdeal.Facts₀ :=
  Cert.Kernel.Facts₀.casesOn (motive := fun _ => Cert.KernelIdeal.Facts₀) Cert.Kernel.Gen.facts₀ Cert.KernelIdeal.Facts₀.mk
theorem kernelFacts : Cert.KernelIdeal.Facts := @Cert.KernelIdeal.Facts.mk kernelFacts₀

theorem ideal_nonempty : ∀ e, Nonempty (Elt Ideal e) := fun e => by
  cases e <;> first | exact ⟨(0 : EReal)⟩ | exact ⟨(0 : BitVec _)⟩

attribute [local instance] kernelFacts ExpandFacts.facts ExpandFacts.idealFacts ideal_nonempty

/-! ## The programs are the same -/

set_option maxRecDepth 65536 in
theorem kernel_defs : Cert.KernelIdeal.defs (F := Ideal) = Cert.Kernel.defs (F := Ideal) := rfl
set_option maxRecDepth 65536 in
theorem kernel_threads : Cert.KernelIdeal.threads (F := Ideal) = Cert.Kernel.threads (F := Ideal) := rfl
set_option maxRecDepth 65536 in
theorem expand_defs : Cert.ExpandIdeal.defs (F := Ideal) = Cert.Expand.defs (F := Ideal) := rfl
set_option maxRecDepth 65536 in
theorem expand_threads : Cert.ExpandIdeal.threads (F := Ideal) = Cert.Expand.threads (F := Ideal) := rfl

/-! ## and so are their runs -/

/-- The idealized combine's run. -/
theorem kernel_run (m : (ℓ : Loc Cert.KernelIdeal.nD Cert.KernelIdeal.τ Cert.KernelIdeal.sig) → Buf (Elt Ideal) ℓ)
    (ρ : Dev Cert.KernelIdeal.nD → PrngReg) (hp : Cert.Kernel.Launch.PreOK (F := Ideal) m) :
    θ_run (Cert.KernelIdeal.defs (F := Ideal)) (Cert.KernelIdeal.threads (F := Ideal)) ⟨m, fun _ => 0, ρ⟩ (Cert.Kernel.Launch.QC (F := Ideal) m hp) := by
  rw [kernel_defs, kernel_threads]
  exact Cert.Kernel.Launch.run_main (F := Ideal) m ρ hp

/-- The idealized expansion's run. -/
theorem expand_run (m : (ℓ : Loc Cert.ExpandIdeal.nD Cert.ExpandIdeal.τ Cert.ExpandIdeal.sig) → Buf (Elt Ideal) ℓ)
    (ρ : Dev Cert.ExpandIdeal.nD → PrngReg) (hp : Cert.Expand.Launch.PreOK (F := Ideal) m) :
    θ_run (Cert.ExpandIdeal.defs (F := Ideal)) (Cert.ExpandIdeal.threads (F := Ideal)) ⟨m, fun _ => 0, ρ⟩ (Cert.Expand.Launch.QC (F := Ideal) m hp) := by
  rw [expand_defs, expand_threads]
  exact Cert.Expand.Launch.run_main (F := Ideal) m ρ hp

end Cert.Proof.Same

end
-- ==== Proof.Ref.lean ====
/- The reference's run, and its result row by row. -/
module

public import proofs.«01_k».proof.ReferenceIdeal
public import proofs.«01_k».proof.Pre_pos_in_rows
public import Idealize.ShloMosaic.Lib.StableHlo.Run
public import Idealize.ShloMosaic.Lib.ValueIdxCore
public import Idealize.ShloMosaic.Lib.IdealHost
public import Idealize.ShloMosaic.Lib.Pointwise.Reduce
public import Idealize.ShloMosaic.Lib.ReduceAll
public import Idealize.ShloMosaic.Lib.Quiescent

@[expose] public section

noncomputable section

namespace Cert.Proof.Ref

open Cert.ReferenceIdeal
open Idealize.ShloMosaic hiding ix1 ix2 ix3
open Idealize.ShloMosaic.TcCoe Idealize.ShloMosaic.StableHlo Idealize.ShloMosaic.ValueIdx Idealize.SL.Sem

theorem refFacts : Cert.ReferenceIdeal.Facts := @Facts.mk ⟨by decide, by decide, by decide, by decide, by decide, by decide⟩
theorem preFacts : Cert.Pre_pos_in_rows.Facts := ⟨by decide, by decide, by decide⟩

variable {F : FTy → Type} [FloatOps F] [Cert.ReferenceIdeal.Facts]
open Facts₀ Facts

/-! ## The run -/

/-- The operations, in order. -/
abbrev ops : List (HloOp τ sig (Elt F)) :=
  [ reshape main_arg1 main_v0 (rfl : (.i32 : EltTy) = .i32) shapeCasts_S8192_S4096x2,
    nullary main_c (constantI S_ 32 0#32),
    unary main_c main_v1 (broadcastInDim S4096x2 ![] bcast_S_S4096x2 : (⟨S_, .i32⟩ : BufTy).Contents (Elt F) → (⟨S4096x2, .i32⟩ : BufTy).Contents (Elt F)),
    binary main_v0 main_v1 main_v2 (cmpi .slt : (⟨S4096x2, .i32⟩ : BufTy).Contents (Elt F) → (⟨S4096x2, .i32⟩ : BufTy).Contents (Elt F) → (⟨S4096x2, .i1⟩ : BufTy).Contents (Elt F)),
    nullary main_c_0 (constantI S_ 32 8192#32),
    unary main_c_0 main_v3 (broadcastInDim S4096x2 ![] bcast_S_S4096x2 : (⟨S_, .i32⟩ : BufTy).Contents (Elt F) → (⟨S4096x2, .i32⟩ : BufTy).Contents (Elt F)),
    binary main_v0 main_v3 main_v4 (addi : (⟨S4096x2, .i32⟩ : BufTy).Contents (Elt F) → (⟨S4096x2, .i32⟩ : BufTy).Contents (Elt F) → (⟨S4096x2, .i32⟩ : BufTy).Contents (Elt F)),
    ternary main_v2 main_v4 main_v0 main_v5 (select : (⟨S4096x2, .i1⟩ : BufTy).Contents (Elt F) → (⟨S4096x2, .i32⟩ : BufTy).Contents (Elt F) → (⟨S4096x2, .i32⟩ : BufTy).Contents (Elt F) → (⟨S4096x2, .i32⟩ : BufTy).Contents (Elt F)),
    unary main_v5 main_v6 (broadcastInDim S4096x2x1 ![0, 1] bcast_S4096x2_S4096x2x1_0_1 : (⟨S4096x2, .i32⟩ : BufTy).Contents (Elt F) → (⟨S4096x2x1, .i32⟩ : BufTy).Contents (Elt F)),
    binary main_arg0 main_v6 main_v7 ((fun x i => Host.gather gather_S8192x1024_S4096x2x1_S4096x2x1024_2_0_n_n_0_2_11024 x i) : (⟨S8192x1024, .f32⟩ : BufTy).Contents (Elt F) → (⟨S4096x2x1, .i32⟩ : BufTy).Contents (Elt F) → (⟨S4096x2x1024, .f32⟩ : BufTy).Contents (Elt F)),
    nullary main_cst (constant S_ .f32 0x00000000#32),
    binary main_v7 main_cst main_v8 ((fun x v => Host.reduceAdd x v reducesTo_S4096x2x1024_S4096x1024_d1 h_S_) : (⟨S4096x2x1024, .f32⟩ : BufTy).Contents (Elt F) → (⟨S_, .f32⟩ : BufTy).Contents (Elt F) → (⟨S4096x1024, .f32⟩ : BufTy).Contents (Elt F)) ]

theorem main_eq (c : Dev nD) : main (F := F) c = seq ops := rfl

/-- The positions in pairs, -/
def pairs (pos : S8192.Idx → BitVec 32) : S4096x2.Idx → BitVec 32 := shapeCast S4096x2 pos shapeCasts_S8192_S4096x2
/-- a negative one counted from the end, -/
def rows (pos : S8192.Idx → BitVec 32) : S4096x2.Idx → BitVec 32 :=
  select (cmpi .slt (pairs pos) (broadcastInDim S4096x2 ![] bcast_S_S4096x2 (constantI S_ 32 0#32)))
    (addi (pairs pos) (broadcastInDim S4096x2 ![] bcast_S_S4096x2 (constantI S_ 32 8192#32))) (pairs pos)
/-- the rows they name, -/
def taken (y : S8192x1024.Idx → F .f32) (pos : S8192.Idx → BitVec 32) : S4096x2x1024.Idx → F .f32 :=
  Host.gather gather_S8192x1024_S4096x2x1_S4096x2x1024_2_0_n_n_0_2_11024 y (broadcastInDim S4096x2x1 ![0, 1] bcast_S4096x2_S4096x2x1_0_1 (rows pos))
/-- and the pairs' sums. -/
def refOut (y : S8192x1024.Idx → F .f32) (pos : S8192.Idx → BitVec 32) : S4096x1024.Idx → F .f32 :=
  Host.reduceAdd (taken y pos) (constant S_ .f32 0x00000000#32) reducesTo_S4096x2x1024_S4096x1024_d1 h_S_

theorem out_eq (V : Valuation τ sig (Elt F)) :
    after ops V (main_v8 : DevRef τ sig) = refOut (V (main_arg0 : DevRef τ sig)) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub ..⟩

/-- The reference, started anywhere, ends with its result at `refOut` of its arguments, the arguments unchanged and no
    semaphore raised. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_v8) = refOut (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => ⟨(h c main_v8).trans (out_eq _), (h c main_arg0).trans (arg0_eq _), (h c main_arg1).trans (arg1_eq _)⟩,
      sem_eq_zero_of_no_sems (by decide) _⟩)
    (run_seq scopedRefs_eq scopedSems_eq defs main (fun _ => ops) main_eq (fun _ => ops_sub) m ρ)

/-! ## The result -/

/-- A row taken at a position in range is that row. -/
theorem gather_apply {α : Type} (x : S8192x1024.Idx → α) (idx : S4096x2x1.Idx → BitVec 32) (t : Fin 4096) (w : Fin 2) (c : Fin 1024)
    (h : (idx (ix3 t w (0 : Fin 1))).toNat < 8192) :
    Host.gather gather_S8192x1024_S4096x2x1_S4096x2x1024_2_0_n_n_0_2_11024 x idx (ix3 t w c) = x (ix2 ⟨(idx (ix3 t w (0 : Fin 1))).toNat, h⟩ c) := by
  unfold Host.gather
  refine congrArg x (funext fun a => Fin.ext ?_)
  match a with
  | ⟨0, _⟩ =>
    show GatherDims.start _ (ix3 t w c) idx 0 + GatherDims.batchCoord _ (ix3 t w c) 0 + GatherDims.offCoord _ (ix3 t w c) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S8192x1024_S4096x2x1_S4096x2x1024_2_0_n_n_0_2_11024.startIndexMap from List.mem_singleton.mpr rfl)]
    have hsi : gather_S8192x1024_S4096x2x1_S4096x2x1024_2_0_n_n_0_2_11024.siIdx (ix3 t w c)
        ⟨List.idxOf (0 : Fin 2) gather_S8192x1024_S4096x2x1_S4096x2x1024_2_0_n_n_0_2_11024.startIndexMap, List.idxOf_lt_length_iff.2 (List.mem_singleton.mpr rfl)⟩
        = ix3 t w (0 : Fin 1) := by
      funext b
      refine Fin.ext ?_
      match b with
      | ⟨0, _⟩ => rfl
      | ⟨1, _⟩ => rfl
      | ⟨2, _⟩ => rfl
    rw [hsi]
    show min (idx (ix3 t w (0 : Fin 1))).toInt.toNat (8192 - 1) + 0 + 0 = (idx (ix3 t w (0 : Fin 1))).toNat
    have h31 : (idx (ix3 t w (0 : Fin 1))).toInt = (idx (ix3 t w (0 : Fin 1))).toNat := by
      rw [BitVec.toInt_eq_toNat_cond, if_pos (by omega)]
    rw [h31]
    omega
  | ⟨1, _⟩ =>
    show GatherDims.start _ (ix3 t w c) idx 1 + GatherDims.batchCoord _ (ix3 t w c) 1 + GatherDims.offCoord _ (ix3 t w c) 1 = c.val
    rw [GatherDims.batchCoord_eq_zero _ _ _ List.not_mem_nil]
    unfold GatherDims.start GatherDims.offCoord
    rw [dif_neg (show (1 : Fin 2) ∉ gather_S8192x1024_S4096x2x1_S4096x2x1024_2_0_n_n_0_2_11024.startIndexMap from by
        intro h; exact absurd (List.mem_singleton.mp h) (by decide)),
      dif_pos (show (1 : Fin 2) ∈ gather_S8192x1024_S4096x2x1_S4096x2x1024_2_0_n_n_0_2_11024.sKept from
        (GatherDims.mem_sKept _ _).mpr ⟨fun h => absurd (List.mem_singleton.mp h) (by decide), List.not_mem_nil⟩)]
    show 0 + 0 + c.val = c.val
    omega

/-- A position in range is not counted from the end. -/
theorem rows_apply {pos : S8192.Idx → BitVec 32} (h : ∀ k, (pos k).toNat < 8192) (j : S4096x2.Idx) : rows pos j = pairs pos j := by
  have hj : (pairs pos j).toNat < 8192 := h _
  have hlt : IntOp.cmpi .slt (pairs pos j) 0#32 = 0#1 := by
    have : (pairs pos j).slt 0#32 = false := by
      rw [BitVec.slt_eq_decide, BitVec.toInt_eq_toNat_cond, if_pos (by omega)]
      simp
    simp only [IntOp.cmpi, this]
    rfl
  show Scalar.select (IntOp.cmpi .slt (pairs pos j) 0#32) _ (pairs pos j) = pairs pos j
  rw [hlt]
  rfl

theorem taken_apply (y : S8192x1024.Idx → Ideal .f32) {pos : S8192.Idx → BitVec 32} (h : ∀ k, (pos k).toNat < 8192) (t : Fin 4096) (w : Fin 2) (c : Fin 1024) :
    taken y pos (ix3 t w c) = y (ix2 ⟨(pairs pos (ix2 t w)).toNat, h _⟩ c) := by
  have hb : broadcastInDim S4096x2x1 ![0, 1] bcast_S4096x2_S4096x2x1_0_1 (rows pos) (ix3 t w (0 : Fin 1)) = pairs pos (ix2 t w) := by
    rw [← rows_apply h]
    unfold broadcastInDim
    refine congrArg (rows pos) (funext fun a => ?_)
    match a with
    | ⟨0, _⟩ => rfl
    | ⟨1, _⟩ => rfl
  unfold taken
  rw [gather_apply _ _ _ _ _ (by rw [hb]; exact h _)]
  simp only [hb]

/-- Each row of the result is the sum of the two rows its positions name. -/
theorem refOut_apply (y : S8192x1024.Idx → Ideal .f32) {pos : S8192.Idx → BitVec 32} (h : ∀ k, (pos k).toNat < 8192) (t : Fin 4096) (c : Fin 1024) :
    refOut y pos (ix2 t c)
      = (show EReal from y (ix2 ⟨(pairs pos (ix2 t (0 : Fin 2))).toNat, h _⟩ c)) + (show EReal from y (ix2 ⟨(pairs pos (ix2 t (1 : Fin 2))).toNat, h _⟩ c)) := by
  unfold refOut
  rw [hostReduceAdd_apply, Ideal.hostReduceAdd_r3_a1, Fin.sum_univ_two]
  have h0 := taken_apply y h t 0 c
  have h1 := taken_apply y h t 1 c
  have hz : (constant (F := Ideal) S_ .f32 0x00000000#32 (Shape.Idx.first h_S_) : EReal) = 0 := Ideal.ofBits_zero_f32
  rw [hz, zero_add]
  exact congrArg₂ (fun a b : EReal => a + b) h0 h1

end Cert.Proof.Ref

end
-- ==== Proof.Equation.lean ====
/- What the precondition gives, and the equation: the kernel's result is the reference's. -/
module

public import proofs.«01_k».proof.Proof.Ref
public import proofs.«01_k».proof.Proof.Kernel.Launch
public import Idealize.ShloMosaic.Lib.Pipeline.Value

@[expose] public section

noncomputable section

namespace Cert.Proof.Equation

open Idealize.ShloMosaic hiding ix1 ix2 ix3 eq_ix2
open Idealize.ShloMosaic.ValueIdx
open Cert.Kernel Cert.Kernel.Tile Cert.Kernel.Launch

/-! ## The precondition -/

/-- A word from 0 up to 8192, both signed, is below 8192. -/
theorem lt_of_tests {v : BitVec 32} (h : IntOp.andi (IntOp.cmpi .sge v 0#32) (IntOp.cmpi .slt v 8192#32) = 1#1) : v.toNat < 8192 := by
  have hand : ∀ a b : Bool, BitVec.ofBool a &&& BitVec.ofBool b = 1#1 → a = true ∧ b = true := by decide
  have hv := v.isLt
  obtain ⟨h0, h1⟩ := hand ((0#32).sle v) (v.slt 8192#32) h
  simp only [BitVec.sle_eq_decide, BitVec.slt_eq_decide, decide_eq_true_eq, BitVec.toInt_eq_toNat_cond, BitVec.toNat_ofNat, Nat.reducePow,
    Nat.reduceMod] at h0 h1
  omega

/-- Where the precondition holds every position names a row. -/
theorem pos_lt {F : FTy → Type} [FloatOps F] [Cert.Pre_pos_in_rows.Facts] {y : S8192x1024.Idx → F .f32} {pos : S8192.Idx → BitVec 32}
    (h : Cert.Pre_pos_in_rows.fn (F := F) y pos = fun _ => 1#1) (k : S8192.Idx) : (pos k).toNat < 8192 := by
  haveI : Subsingleton Cert.Pre_pos_in_rows.S_.Idx := ⟨fun a b => funext fun i => i.elim0⟩
  have e := congrFun h (fun i => i.elim0)
  exact lt_of_tests (Host.reduce_andi_all _ _ _ _ _ e k)

/-! ## The equation -/

variable [Cert.Kernel.Facts] [Cert.ReferenceIdeal.Facts]
open Facts₀ Facts

/-- The kernel's pairs are the reference's. -/
theorem pairs_eq (pos : S8192.Idx → BitVec 32) : Launch.pairs pos = Ref.pairs pos := rfl

/-- A side's word for a token is its half of the token's pair. -/
theorem side_false (pos : S8192.Idx → BitVec 32) (t : Fin 4096) : side pos false (place t) = Launch.pairs pos (ix2 t (0 : Fin 2)) := by
  show shapeCast S32x8x16 (shapeCast S4096 (extractStridedSlice S4096x1 ![0, 0] (Launch.pairs pos) slices_S4096x2_S4096x1_0_0) shapeCasts_S4096x1_S4096)
    shapeCasts_S4096_S32x8x16 (place t) = _
  rw [shapeCast_apply _ _ (place t) (ix1 t) (by
      rw [Shape.rowMajor_val_one, Shape.rowMajor_val_three]
      show t.val = (t.val / 128 * 8 + t.val % 128 / 16) * 16 + t.val % 16
      omega),
    shapeCast_apply _ _ (ix1 t) (ix2 t (0 : Fin 1)) (by
      rw [Shape.rowMajor_val_one, Shape.rowMajor_val_two]
      show t.val * 1 + 0 = t.val
      omega)]
  unfold extractStridedSlice
  refine congrArg (Launch.pairs pos) (funext fun a => Fin.ext ?_)
  match a with
  | ⟨0, _⟩ => show 0 + t.val = t.val; omega
  | ⟨1, _⟩ => rfl

theorem side_true (pos : S8192.Idx → BitVec 32) (t : Fin 4096) : side pos true (place t) = Launch.pairs pos (ix2 t (1 : Fin 2)) := by
  show shapeCast S32x8x16 (shapeCast S4096 (extractStridedSlice S4096x1 ![0, 1] (Launch.pairs pos) slices_S4096x2_S4096x1_0_1) shapeCasts_S4096x1_S4096)
    shapeCasts_S4096_S32x8x16 (place t) = _
  rw [shapeCast_apply _ _ (place t) (ix1 t) (by
      rw [Shape.rowMajor_val_one, Shape.rowMajor_val_three]
      show t.val = (t.val / 128 * 8 + t.val % 128 / 16) * 16 + t.val % 16
      omega),
    shapeCast_apply _ _ (ix1 t) (ix2 t (0 : Fin 1)) (by
      rw [Shape.rowMajor_val_one, Shape.rowMajor_val_two]
      show t.val * 1 + 0 = t.val
      omega)]
  unfold extractStridedSlice
  refine congrArg (Launch.pairs pos) (funext fun a => Fin.ext ?_)
  match a with
  | ⟨0, _⟩ => show 0 + t.val = t.val; omega
  | ⟨1, _⟩ => rfl

variable (m : (ℓ : Loc nD τ sig) → Buf (Elt Ideal) ℓ) (hp : PreOK m)

/-- The kernel's result, exactly computed, is the reference's. -/
theorem out_eq (d : Dev nD) : (arr m hp d).out = Ref.refOut (F := Ideal) (m (yLoc d)) (m (aLoc d)) := by
  funext j
  obtain ⟨t, c, rfl⟩ : ∃ (t : Fin 4096) (c : Fin 1024), j = ix2 t c := ⟨j 0, j 1, eq_ix2 j⟩
  rw [Ref.refOut_apply (m (yLoc d)) (hp d) t c]
  have h0 := side_false (m (aLoc d)) t
  have h1 := side_true (m (aLoc d)) t
  show (show EReal from (m (yLoc d) : S8192x1024.Idx → Ideal .f32) (ix2 ⟨(side (m (aLoc d)) false (place t)).toNat, side_lt (hp d) false (place t)⟩ c))
      + (show EReal from (m (yLoc d) : S8192x1024.Idx → Ideal .f32) (ix2 ⟨(side (m (aLoc d)) true (place t)).toNat, side_lt (hp d) true (place t)⟩ c)) = _
  rw [pairs_eq] at h0 h1
  simp only [h0, h1]

end Cert.Proof.Equation

end
-- ==== Proof.ExpandRef.lean ====
/- The expansion's reference: its run, and its two results entry by entry. -/
module

public import proofs.«01_k».proof.ExpandReferenceIdeal
public import proofs.«01_k».proof.Pre_experts_in_range
public import Idealize.ShloMosaic.Lib.StableHlo.Run
public import Idealize.ShloMosaic.Lib.ValueIdxCore
public import Idealize.ShloMosaic.Lib.Routing.OpsSearch
public import Idealize.ShloMosaic.Lib.Routing.SortLink
public import Idealize.ShloMosaic.Lib.Pipeline.Value
public import proofs.«01_k».proof.Proof.Rank
public import Idealize.ShloMosaic.Lib.Quiescent

@[expose] public section

noncomputable section

namespace Cert.Proof.ExpandRef

open Cert.ExpandReferenceIdeal
open Idealize.ShloMosaic
open Idealize.ShloMosaic.TcCoe Idealize.ShloMosaic.StableHlo Idealize.ShloMosaic.ValueIdx Idealize.SL.Sem

theorem refFacts : Cert.ExpandReferenceIdeal.Facts := @Facts.mk ⟨by decide, by decide, by decide, by decide, by decide, by decide, by decide⟩
theorem preFacts : Cert.Pre_experts_in_range.Facts := ⟨by decide, by decide, by decide⟩

variable {F : FTy → Type} [FloatOps F] [Cert.ExpandReferenceIdeal.Facts]
open Facts₀ Facts

/-! ## The run -/

/-- The operations, in order. -/
abbrev ops : List (HloOp τ sig (Elt F)) :=
  [ reshape main_arg2 main_v0 (rfl : (.i32 : EltTy) = .i32) shapeCasts_S4096x2_S8192,
    nullary main_call0_v0 (iotaInDim S8192 32 0),
    binary main_v0 main_call0_v0 main_call0_v1_0 ((fun x y => (Host.sort2 S8192 0 comparator_i32_i32_d0 x y).1) : (⟨S8192, .i32⟩ : BufTy).Contents (Elt F) → (⟨S8192, .i32⟩ : BufTy).Contents (Elt F) → (⟨S8192, .i32⟩ : BufTy).Contents (Elt F)),
    binary main_v0 main_call0_v0 main_v1 ((fun x y => (Host.sort2 S8192 0 comparator_i32_i32_d0 x y).2) : (⟨S8192, .i32⟩ : BufTy).Contents (Elt F) → (⟨S8192, .i32⟩ : BufTy).Contents (Elt F) → (⟨S8192, .i32⟩ : BufTy).Contents (Elt F)),
    unary main_arg0 main_v2 (broadcastInDim S4096x2x1024 ![0, 2] bcast_S4096x1024_S4096x2x1024_0_2 : (⟨S4096x1024, .f32⟩ : BufTy).Contents (Elt F) → (⟨S4096x2x1024, .f32⟩ : BufTy).Contents (Elt F)),
    reshape main_v2 main_v3 (rfl : (.f32 : EltTy) = .f32) shapeCasts_S4096x2x1024_S8192x1024,
    nullary main_c (constantI S_ 32 0#32),
    unary main_c main_v4 (broadcastInDim S8192 ![] bcast_S_S8192 : (⟨S_, .i32⟩ : BufTy).Contents (Elt F) → (⟨S8192, .i32⟩ : BufTy).Contents (Elt F)),
    binary main_v1 main_v4 main_v5 (cmpi .slt : (⟨S8192, .i32⟩ : BufTy).Contents (Elt F) → (⟨S8192, .i32⟩ : BufTy).Contents (Elt F) → (⟨S8192, .i1⟩ : BufTy).Contents (Elt F)),
    nullary main_c_0 (constantI S_ 32 8192#32),
    unary main_c_0 main_v6 (broadcastInDim S8192 ![] bcast_S_S8192 : (⟨S_, .i32⟩ : BufTy).Contents (Elt F) → (⟨S8192, .i32⟩ : BufTy).Contents (Elt F)),
    binary main_v1 main_v6 main_v7 (addi : (⟨S8192, .i32⟩ : BufTy).Contents (Elt F) → (⟨S8192, .i32⟩ : BufTy).Contents (Elt F) → (⟨S8192, .i32⟩ : BufTy).Contents (Elt F)),
    ternary main_v5 main_v7 main_v1 main_v8 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v8 main_v9 (broadcastInDim S8192x1 ![0] bcast_S8192_S8192x1_0 : (⟨S8192, .i32⟩ : BufTy).Contents (Elt F) → (⟨S8192x1, .i32⟩ : BufTy).Contents (Elt F)),
    binary main_v3 main_v9 main_v10 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    reshape main_arg1 main_v11 (rfl : (.f32 : EltTy) = .f32) shapeCasts_S4096x2_S8192,
    nullary main_c_1 (constantI S_ 32 0#32),
    unary main_c_1 main_v12 (broadcastInDim S8192 ![] bcast_S_S8192 : (⟨S_, .i32⟩ : BufTy).Contents (Elt F) → (⟨S8192, .i32⟩ : BufTy).Contents (Elt F)),
    binary main_v1 main_v12 main_v13 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v14 (broadcastInDim S8192 ![] bcast_S_S8192 : (⟨S_, .i32⟩ : BufTy).Contents (Elt F) → (⟨S8192, .i32⟩ : BufTy).Contents (Elt F)),
    binary main_v1 main_v14 main_v15 (addi : (⟨S8192, .i32⟩ : BufTy).Contents (Elt F) → (⟨S8192, .i32⟩ : BufTy).Contents (Elt F) → (⟨S8192, .i32⟩ : BufTy).Contents (Elt F)),
    ternary main_v13 main_v15 main_v1 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v16 main_v17 (broadcastInDim S8192x1 ![0] bcast_S8192_S8192x1_0 : (⟨S8192, .i32⟩ : BufTy).Contents (Elt F) → (⟨S8192x1, .i32⟩ : BufTy).Contents (Elt F)),
    binary main_v11 main_v17 main_v18 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)) ]

/-- An operation at typed references is the operation at the references. -/
theorem binary_of (a b y : Ref sig .tc) (ha : a.space ≠ .host) (ha' : a.isScoped = false) (hb : b.space ≠ .host) (hb' : b.isScoped = false)
    (hy : y.space ≠ .host) (hy' : y.isScoped = false) (f : a.ty.Contents (Elt F) → b.ty.Contents (Elt F) → y.ty.Contents (Elt F)) :
    (TRef.binary (.of a rfl ha ha') (.of b rfl hb hb') (.of y rfl hy hy') f : HloOp τ sig (Elt F)) = binary a b y f ⟨ha, ha'⟩ ⟨hb, hb'⟩ ⟨hy, hy'⟩ := rfl

/-- The sort's two results. -/
theorem sort1_eq : (TRef.binary (.of main_v0) (.of main_call0_v0) (.of main_call0_v1_0) ((fun x y => (Host.sort2 S8192 0 comparator_i32_i32_d0 x y).1) : (⟨S8192, .i32⟩ : BufTy).Contents (Elt F) → (⟨S8192, .i32⟩ : BufTy).Contents (Elt F) → (⟨S8192, .i32⟩ : BufTy).Contents (Elt F)) : HloOp τ sig (Elt F))
    = binary main_v0 main_call0_v0 main_call0_v1_0 ((fun x y => (Host.sort2 S8192 0 comparator_i32_i32_d0 x y).1) : (⟨S8192, .i32⟩ : BufTy).Contents (Elt F) → (⟨S8192, .i32⟩ : BufTy).Contents (Elt F) → (⟨S8192, .i32⟩ : BufTy).Contents (Elt F)) := binary_of ..
theorem sort2_eq : (TRef.binary (.of main_v0) (.of main_call0_v0) (.of main_v1) ((fun x y => (Host.sort2 S8192 0 comparator_i32_i32_d0 x y).2) : (⟨S8192, .i32⟩ : BufTy).Contents (Elt F) → (⟨S8192, .i32⟩ : BufTy).Contents (Elt F) → (⟨S8192, .i32⟩ : BufTy).Contents (Elt F)) : HloOp τ sig (Elt F))
    = binary main_v0 main_call0_v0 main_v1 ((fun x y => (Host.sort2 S8192 0 comparator_i32_i32_d0 x y).2) : (⟨S8192, .i32⟩ : BufTy).Contents (Elt F) → (⟨S8192, .i32⟩ : BufTy).Contents (Elt F) → (⟨S8192, .i32⟩ : BufTy).Contents (Elt F)) := binary_of ..
theorem body_eq : (fn_argsort.body (F := F) (.of main_v0) main_call0)
    = seq [nullary main_call0_v0 (iotaInDim S8192 32 0),
      binary main_v0 main_call0_v0 main_call0_v1_0 ((fun x y => (Host.sort2 S8192 0 comparator_i32_i32_d0 x y).1) : (⟨S8192, .i32⟩ : BufTy).Contents (Elt F) → (⟨S8192, .i32⟩ : BufTy).Contents (Elt F) → (⟨S8192, .i32⟩ : BufTy).Contents (Elt F)),
      binary main_v0 main_call0_v0 main_v1 ((fun x y => (Host.sort2 S8192 0 comparator_i32_i32_d0 x y).2) : (⟨S8192, .i32⟩ : BufTy).Contents (Elt F) → (⟨S8192, .i32⟩ : BufTy).Contents (Elt F) → (⟨S8192, .i32⟩ : BufTy).Contents (Elt F))] := by
  rw [← sort1_eq, ← sort2_eq]
  rfl

set_option maxRecDepth 16384 in
theorem main_eq (c : Dev nD) : main (F := F) c = seq ops := by
  simp only [main, body_eq, seq, bind_assoc, pure_bind]

/-- The experts in one line, -/
def keys (e : S4096x2.Idx → BitVec 32) : S8192.Idx → BitVec 32 := shapeCast S8192 e shapeCasts_S4096x2_S8192
/-- the places they are sorted from, -/
def order (e : S4096x2.Idx → BitVec 32) : S8192.Idx → BitVec 32 := (Host.sort2 S8192 0 comparator_i32_i32_d0 (keys e) (iotaInDim S8192 32 0)).2
/-- a negative one counted from the end, -/
def places (o : S8192.Idx → BitVec 32) : S8192x1.Idx → BitVec 32 :=
  broadcastInDim S8192x1 ![0] bcast_S8192_S8192x1_0
    (select (cmpi .slt o (broadcastInDim S8192 ![] bcast_S_S8192 (constantI S_ 32 0#32)))
      (addi o (broadcastInDim S8192 ![] bcast_S_S8192 (constantI S_ 32 8192#32))) o)
/-- each token's row twice, -/
def twice (x : S4096x1024.Idx → F .f32) : S8192x1024.Idx → F .f32 :=
  shapeCast S8192x1024 (broadcastInDim S4096x2x1024 ![0, 2] bcast_S4096x1024_S4096x2x1024_0_2 x) shapeCasts_S4096x2x1024_S8192x1024
/-- the rows taken in that order, -/
def rowsOut (x : S4096x1024.Idx → F .f32) (e : S4096x2.Idx → BitVec 32) : S8192x1024.Idx → F .f32 :=
  Host.gather gather_S8192x1024_S8192x1_S8192x1024_1_0_n_n_0_1_11024 (twice x) (places (order e))
/-- and the gates. -/
def gatesOut (g : S4096x2.Idx → F .f32) (e : S4096x2.Idx → BitVec 32) : S8192.Idx → F .f32 :=
  Host.gather gather_S8192_S8192x1_S8192_n_0_n_n_0_1_1 (shapeCast S8192 g shapeCasts_S4096x2_S8192) (places (order e))

set_option maxRecDepth 16384 in
theorem rows_eq (V : Valuation τ sig (Elt F)) :
    after ops V (main_v10 : DevRef τ sig) = rowsOut (V (main_arg0 : DevRef τ sig)) (V (main_arg2 : DevRef τ sig)) := by
  after_results
  rfl
set_option maxRecDepth 16384 in
theorem gates_eq (V : Valuation τ sig (Elt F)) :
    after ops V (main_v18 : DevRef τ sig) = gatesOut (V (main_arg1 : DevRef τ sig)) (V (main_arg2 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

/-- The reference, started anywhere, ends with its results at `rowsOut` and `gatesOut` of its arguments, the arguments unchanged
    and no semaphore raised. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD,
        r.2.mem ((c.tc : Thread nD τ).loc main_v10) = rowsOut (F := Ideal) (m ((c.tc : Thread nD τ).loc main_arg0)) (m ((c.tc : Thread nD τ).loc main_arg2))
        ∧ r.2.mem ((c.tc : Thread nD τ).loc main_v18) = gatesOut (F := Ideal) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun _ h => ⟨fun c => ⟨(h c main_v10).trans (rows_eq _), (h c main_v18).trans (gates_eq _), (h c main_arg0).trans (arg0_eq _),
      (h c main_arg1).trans (arg1_eq _), (h c main_arg2).trans (arg2_eq _)⟩, sem_eq_zero_of_no_sems (by decide) _⟩)
    (run_seq scopedRefs_eq scopedSems_eq defs main (fun _ => ops) main_eq (fun _ => ops_sub) m ρ)

/-! ## The results -/

variable {e : S4096x2.Idx → BitVec 32}

/-- A choice's expert, as a number. -/
abbrev keyOf (e : S8192.Idx → BitVec 32) (a : Fin 8192) : Nat := (e (ix1 a)).toNat

/-- Among small numbers the signed order is the order. -/
theorem before_eq (x y : BitVec 32 × BitVec 32) (hx : x.1.toNat < 8) (hy : y.1.toNat < 8) :
    (comparator_i32_i32_d0 x y == 1#1) = decide (x.1.toNat < y.1.toNat) := by
  have h1 : x.1.slt y.1 = decide (x.1.toNat < y.1.toNat) := by
    rw [BitVec.slt_eq_decide, BitVec.toInt_eq_toNat_cond, BitVec.toInt_eq_toNat_cond, if_pos (by omega), if_pos (by omega)]
    simp only [Nat.cast_lt]
  show (BitVec.ofBool (x.1.slt y.1) == 1#1) = _
  rw [h1]
  cases decide (x.1.toNat < y.1.toNat) <;> rfl

/-- The place sorted to `r` is the one whose rank is `r`. -/
theorem order_apply (he : ∀ k, (keys e k).toNat < 8) (r : Fin 8192) :
    order e (ix1 r) = BitVec.ofNat 32 ((Cert.Proof.Rank.perm (keyOf (keys e))).symm r).val := by
  have hd : 0 < S8192.rank := Nat.zero_lt_one
  have hal : ∀ c : Fin 8192, (ix1 r : S8192.Idx).along (⟨0, hd⟩ : Fin S8192.rank) c = ix1 c := fun c =>
    (Shape.Idx.along_rank1 (ix1 r) c).trans (Routing.ofFin_eq_ix1 c)
  have hb : (fun a b : Fin 8192 => comparator_i32_i32_d0
        (keys e ((ix1 r : S8192.Idx).along ⟨0, hd⟩ a), iotaInDim S8192 32 0 ((ix1 r : S8192.Idx).along ⟨0, hd⟩ a))
        (keys e ((ix1 r : S8192.Idx).along ⟨0, hd⟩ b), iotaInDim S8192 32 0 ((ix1 r : S8192.Idx).along ⟨0, hd⟩ b)) == 1#1)
      = fun a b => decide (keyOf (keys e) a < keyOf (keys e) b) := by
    funext a b
    rw [before_eq _ _ (he _) (he _), hal a, hal b]
  have hs := Cert.Proof.Rank.sortedFrom_eq (keyOf (keys e)) r
  rw [← hb] at hs
  unfold order Host.sort2
  rw [dif_pos hd]
  refine (congrArg (fun c : Fin 8192 => iotaInDim S8192 32 0 ((ix1 r : S8192.Idx).along ⟨0, hd⟩ c)) hs).trans ?_
  rw [hal]
  rfl

/-- It is not counted from the end. -/
theorem places_apply (he : ∀ k, (keys e k).toNat < 8) (r : Fin 8192) :
    places (order e) (ix2 r (0 : Fin 1)) = BitVec.ofNat 32 ((Cert.Proof.Rank.perm (keyOf (keys e))).symm r).val := by
  have ho := order_apply he r
  generalize (Cert.Proof.Rank.perm (keyOf (keys e))).symm r = k at ho ⊢
  have hlt : IntOp.cmpi .slt (order e (ix1 r)) 0#32 = 0#1 := by
    have h : (order e (ix1 r)).slt 0#32 = false := by
      rw [ho, BitVec.slt_eq_decide, BitVec.toInt_eq_toNat_cond, BitVec.toNat_ofNat, if_pos (by omega)]
      simp only [BitVec.toInt_zero, decide_eq_false_iff_not, not_lt]
      omega
    simp only [IntOp.cmpi, h]
    rfl
  unfold places
  refine (broadcastInDim_apply _ bcast_S8192_S8192x1_0 _ _ (ix1 r) fun a => ?_).trans ?_
  · match a with
    | ⟨0, _⟩ => rfl
  show Scalar.select (IntOp.cmpi .slt (order e (ix1 r)) 0#32) _ (order e (ix1 r)) = _
  rw [hlt, ← ho]
  rfl

/-- A row of the doubled tokens is its token's. -/
theorem twice_apply (x : S4096x1024.Idx → F .f32) (n : Fin 8192) (c : Fin 1024) : twice x (ix2 n c) = x (ix2 (⟨n.val / 2, by omega⟩ : Fin 4096) c) := by
  unfold twice
  rw [shapeCast_apply _ _ (ix2 n c) (ix3 (⟨n.val / 2, by omega⟩ : Fin 4096) (⟨n.val % 2, by omega⟩ : Fin 2) c) (by
    rw [Shape.rowMajor_val_two, Shape.rowMajor_val_three]
    show (n.val / 2 * 2 + n.val % 2) * 1024 + c.val = n.val * 1024 + c.val
    omega)]
  refine broadcastInDim_apply _ bcast_S4096x1024_S4096x2x1024_0_2 _ _ _ fun a => ?_
  match a with
  | ⟨0, _⟩ => rfl
  | ⟨1, _⟩ => rfl

/-- Each row of the first result is its choice's token's, -/
theorem rowsOut_apply (x : S4096x1024.Idx → F .f32) (he : ∀ k, (keys e k).toNat < 8) (r : Fin 8192) (c : Fin 1024) :
    rowsOut x e (ix2 r c) = x (ix2 (⟨((Cert.Proof.Rank.perm (keyOf (keys e))).symm r).val / 2, by omega⟩ : Fin 4096) c) := by
  unfold rowsOut
  rw [Routing.gather_row _ rfl rfl rfl rfl rfl _ _ r c _ (places_apply he r) (by decide), twice_apply]

/-- and each entry of the second its choice's gate. -/
theorem gatesOut_apply (g : S4096x2.Idx → F .f32) (he : ∀ k, (keys e k).toNat < 8) (r : Fin 8192) :
    gatesOut g e (ix1 r) = g (ix2 (⟨((Cert.Proof.Rank.perm (keyOf (keys e))).symm r).val / 2, by omega⟩ : Fin 4096)
      (⟨((Cert.Proof.Rank.perm (keyOf (keys e))).symm r).val % 2, by omega⟩ : Fin 2)) := by
  unfold gatesOut
  rw [Routing.take_ap _ rfl rfl rfl rfl _ _ r (Fin.isLt _) (by omega) (places_apply he r)]
  refine shapeCast_apply _ _ _ _ ?_
  rw [Shape.rowMajor_val_one, Shape.rowMajor_val_two]
  show ((Cert.Proof.Rank.perm (keyOf (keys e))).symm r).val / 2 * 2 + ((Cert.Proof.Rank.perm (keyOf (keys e))).symm r).val % 2
    = ((Cert.Proof.Rank.perm (keyOf (keys e))).symm r).val
  omega

end Cert.Proof.ExpandRef

end
-- ==== Proof.ExpandEquation.lean ====
/- The expansion: what its precondition gives, and the equations: each of the kernel's results is the reference's. -/
module

public import proofs.«01_k».proof.Proof.ExpandRef
public import proofs.«01_k».proof.Proof.Expand.Launch
public import Idealize.ShloMosaic.Lib.ReduceAll

@[expose] public section

noncomputable section

namespace Cert.Proof.ExpandEquation

open Idealize.ShloMosaic
open Idealize.ShloMosaic.ValueIdx
open Cert.Expand Cert.Expand.Tile Cert.Expand.Launch

/-! ## The precondition -/

/-- A word from 0 up to 8, both signed, is below 8. -/
theorem lt_of_tests {v : BitVec 32} (h : IntOp.andi (IntOp.cmpi .sge v 0#32) (IntOp.cmpi .slt v 8#32) = 1#1) : v.toNat < 8 := by
  have hand : ∀ a b : Bool, BitVec.ofBool a &&& BitVec.ofBool b = 1#1 → a = true ∧ b = true := by decide
  have hv := v.isLt
  obtain ⟨h0, h1⟩ := hand ((0#32).sle v) (v.slt 8#32) h
  simp only [BitVec.sle_eq_decide, BitVec.slt_eq_decide, decide_eq_true_eq, BitVec.toInt_eq_toNat_cond, BitVec.toNat_ofNat, Nat.reducePow,
    Nat.reduceMod] at h0 h1
  omega

/-- Where the precondition holds every choice is of one of the eight experts. -/
theorem expert_lt {F : FTy → Type} [FloatOps F] [Cert.Pre_experts_in_range.Facts] {x : S4096x1024.Idx → F .f32} {g : S4096x2.Idx → F .f32}
    {e : S4096x2.Idx → BitVec 32} (h : Cert.Pre_experts_in_range.fn (F := F) x g e = fun _ => 1#1) (k : S4096x2.Idx) : (e k).toNat < 8 := by
  haveI : Subsingleton Cert.Pre_experts_in_range.S_.Idx := ⟨fun a b => funext fun i => i.elim0⟩
  have e := congrFun h (fun i => i.elim0)
  exact lt_of_tests (Host.reduce_andi_all _ _ _ _ _ e k)

/-! ## The equations -/

variable [Cert.Expand.Facts] [Cert.ExpandReferenceIdeal.Facts]

variable (m : (ℓ : Loc nD τ sig) → Buf (Elt Ideal) ℓ) (hp : PreOK m)

/-- The kernel's rows are the reference's, -/
theorem rows_eq (d : Dev nD) : (arr m hp d).xs1 = ExpandRef.rowsOut (F := Ideal) (m (xLoc d)) (m (eLoc d)) := by
  funext j
  obtain ⟨r, c, rfl⟩ : ∃ (r : Fin 8192) (c : Fin 1024), j = ix2 r c := ⟨j 0, j 1, eq_ix2 j⟩
  exact (ExpandRef.rowsOut_apply (F := Ideal) (m (xLoc d)) (e := m (eLoc d)) (hp d) r c).symm

/-- and so are its gates. -/
theorem gates_eq (d : Dev nD) : (arr m hp d).gs1 = ExpandRef.gatesOut (F := Ideal) (m (gLoc d)) (m (eLoc d)) := by
  funext j
  obtain ⟨r, rfl⟩ : ∃ r : Fin 8192, j = ix1 r := ⟨j 0, funext fun a => match a with | ⟨0, _⟩ => rfl⟩
  exact (ExpandRef.gatesOut_apply (F := Ideal) (m (gLoc d)) (e := m (eLoc d)) (hp d) r).symm

end Cert.Proof.ExpandEquation

end
-- ==== Proof.Router.Pick.lean ====
/- The two greatest of eight values: picked as a first greatest and then a first greatest of the others,
   and as the first two places of a stable sort. -/
module

public import Idealize.ShloMosaic.Lib.SortPrefix
public import Idealize.ShloMosaic.PureOps.Ideal.Laws
public import Idealize.ShloMosaic.PureOps.Reduce

@[expose] public section

noncomputable section

namespace Cert.Proof.Pick

open Idealize.ShloMosaic

variable (L : Fin 8 → EReal)

/-- A place holds the greatest value, and no place before it does. -/
structure First (p : Fin 8) : Prop where
  le : ∀ e, L e ≤ L p
  lt : ∀ e, e < p → L e < L p

/-- There is such a place. -/
theorem exists_first : ∃ p, First L p := by
  classical
  obtain ⟨g, hg⟩ := Finite.exists_max L
  let S : Finset (Fin 8) := Finset.univ.filter fun e => ∀ e', L e' ≤ L e
  have hS : S.Nonempty := ⟨g, by simpa [S] using hg⟩
  have hm := S.min'_mem hS
  have hle : ∀ e', L e' ≤ L (S.min' hS) := by simpa [S] using hm
  refine ⟨S.min' hS, hle, fun e he => lt_of_le_of_ne (hle e) fun heq => ?_⟩
  have hin : e ∈ S := by
    simp only [S, Finset.mem_filter, Finset.mem_univ, true_and]
    exact fun e' => heq ▸ hle e'
  exact absurd (S.min'_le e hin) (not_le.mpr he)

variable {L}

/-- The greatest value, taken up from the least. -/
theorem First.fold_max {p : Fin 8} (h : First L p) : Finset.univ.fold max ⊥ L = L p :=
  le_antisymm (Finset.fold_max_le _ |>.mpr ⟨bot_le, fun e _ => h.le e⟩)
    (Finset.le_fold_max _ |>.mpr (Or.inr ⟨p, Finset.mem_univ p, le_rfl⟩))

/-! ## The first place as a word -/

/-- The lesser of two words, read as signed numbers. -/
theorem toInt_minsi (a b : BitVec 32) : (IntOp.minsi a b).toInt = min a.toInt b.toInt := by
  unfold IntOp.minsi
  simp only [BitVec.sle_eq_decide, BitVec.slt_eq_decide]
  split <;> rename_i h <;> simp only [decide_eq_true_eq] at h <;> omega

/-- The places that hold the greatest value keep their numbers and the others read 8: the least is the first place's. -/
theorem First.fold_min {p : Fin 8} (h : First L p) {w : Fin 8 → BitVec 32} (hin : ∀ e, L e = L p → w e = BitVec.ofNat 32 e.val)
    (hout : ∀ e, L e ≠ L p → w e = 8#32) : Finset.univ.fold IKind.minsi.op 2147483647#32 w = BitVec.ofNat 32 p.val := by
  have hval : ∀ e : Fin 8, (BitVec.ofNat 32 e.val).toInt = (e.val : Int) := by decide
  apply BitVec.eq_of_toInt_eq
  rw [← Finset.fold_hom (op := IKind.minsi.op) (op' := min) (m := BitVec.toInt) (hm := fun a b => toInt_minsi a b), hval]
  refine le_antisymm (Finset.fold_min_le _ |>.mpr (Or.inr ⟨p, Finset.mem_univ p, ?_⟩)) (Finset.le_fold_min _ |>.mpr ⟨?_, fun e _ => ?_⟩)
  · rw [hin p rfl, hval]
  · have := p.isLt
    have e : (2147483647#32 : BitVec 32).toInt = 2147483647 := by decide
    omega
  · by_cases he : L e = L p
    · rw [hin e he, hval]
      by_contra hlt
      exact absurd he (h.lt e (by omega)).ne
    · rw [hout e he]
      have := p.isLt
      have e8 : (8#32 : BitVec 32).toInt = 8 := by decide
      omega

/-! ## The second -/

/-- The values with one place's struck out. -/
def strike (L : Fin 8 → EReal) (p : Fin 8) : Fin 8 → EReal := fun e => if e = p then ⊥ else L e

/-- Of values none of which is the least, the second place is another than the first, -/
theorem First.ne {p q : Fin 8} (hL : ∀ e, L e ≠ ⊥) (hq : First (strike L p) q) : q ≠ p := by
  rintro rfl
  obtain ⟨e, he⟩ : ∃ e : Fin 8, e ≠ q := exists_ne q
  have := hq.le e
  simp only [strike, if_neg he, if_true] at this
  exact hL e (le_bot_iff.mp this)

/-- holds at least any other's value, -/
theorem First.le_second {p q : Fin 8} (hL : ∀ e, L e ≠ ⊥) (hq : First (strike L p) q) {e : Fin 8} (he : e ≠ p) : L e ≤ L q := by
  have := hq.le e
  rwa [strike, strike, if_neg he, if_neg (hq.ne hL)] at this

/-- and more than any other place before it. -/
theorem First.lt_second {p q : Fin 8} (hL : ∀ e, L e ≠ ⊥) (hq : First (strike L p) q) {e : Fin 8} (he : e ≠ p) (hlt : e < q) :
    L e < L q := by
  have := hq.lt e hlt
  rwa [strike, strike, if_neg he, if_neg (hq.ne hL)] at this

/-! ## A stable sort, greatest first -/

/-- Before: a greater key, and of equal keys the lower place. -/
def before (s : Fin 8 → EReal) (k k' : Fin 8) : Bool := decide (s k' < s k) || (decide (s k = s k') && decide (k < k'))

theorem before_total (s : Fin 8 → EReal) : StrictTotalBefore (before s) := by
  classical
  exact StrictTotalBefore.of_key_then_position (fun a b : EReal => decide (b < a)) s (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- On an increasing list, sorting by the key alone keeps equal keys in order. -/
theorem stable (s : Fin 8 → EReal) (l : List (Fin 8)) (hl : l.Pairwise (· < ·)) :
    stableSort (fun k k' => decide (s k' < s k)) l = stableSort (before s) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    simp [before, not_lt.mpr hab.le]

/-- The sort's first two places: where a first greatest and then a first greatest of the others lie. -/
theorem sorted {p q : Fin 8} (hL : ∀ e, L e ≠ ⊥) (hp : First L p) (hq : First (strike L p) q) {f : EReal → EReal} (hf : StrictMono f) (i : Fin 2) :
    sortedFrom (fun k k' : Fin 8 => Ideal.cmpTotal .gt (f (L k)) (f (L k')) == 1#1) (i.castLE (by decide)) = (![p, q] : Fin 2 → Fin 8) i := by
  have hcmp : (fun k k' : Fin 8 => Ideal.cmpTotal .gt (f (L k)) (f (L k')) == 1#1) = fun k k' => decide (L k' < L k) := by
    funext k k'
    show (BitVec.ofBool (decide (f (L k') < f (L k))) == 1#1) = _
    simp only [hf.lt_iff_lt]
    cases decide (L k' < L k) <;> rfl
  rw [hcmp]
  have hsort : sortedFrom (fun k k' : Fin 8 => decide (L k' < L k)) = sortedFrom (before L) := by
    funext k
    unfold sortedFrom sortPositions
    rw [List.get_of_eq (stable L _ (List.pairwise_lt_finRange 8))]
    rfl
  rw [hsort]
  have hne := hq.ne hL
  refine (before_total L).sortedFrom_eq_of_prefix (by decide) ![p, q] ?_ ?_ ?_ i
  · intro a b h
    fin_cases a <;> fin_cases b <;> first | rfl | exact absurd h hne | exact absurd h.symm hne
  · intro a b hab
    fin_cases a <;> fin_cases b <;> first | exact absurd hab (by decide) | skip
    show before L q p = false
    simp only [before, Bool.or_eq_false_iff, Bool.and_eq_false_iff, decide_eq_false_iff_not]
    refine ⟨not_lt.mpr (hp.le q), ?_⟩
    by_cases h : L q = L p
    · exact Or.inr fun hlt => absurd h (hp.lt q hlt).ne
    · exact Or.inl h
  · intro a e he
    have hep : e ≠ p := fun h => he 0 h.symm
    fin_cases a
    · show before L e p = false
      simp only [before, Bool.or_eq_false_iff, Bool.and_eq_false_iff, decide_eq_false_iff_not]
      refine ⟨not_lt.mpr (hp.le e), ?_⟩
      by_cases h : L e = L p
      · exact Or.inr fun hlt => absurd h (hp.lt e hlt).ne
      · exact Or.inl h
    · show before L e q = false
      simp only [before, Bool.or_eq_false_iff, Bool.and_eq_false_iff, decide_eq_false_iff_not]
      refine ⟨not_lt.mpr (hq.le_second hL hep), ?_⟩
      by_cases h : L e = L q
      · exact Or.inr fun hlt => absurd h (hq.lt_second hL hep hlt).ne
      · exact Or.inl h

end Cert.Proof.Pick

end
-- ==== Proof.Router.Read.lean ====
/- The router's values over the extended reals, row by row: the logits, the greatest and its place, the second and its place. -/
module

public import proofs.«01_k».proof.Proof.Gen.RouterIdeal.Skeleton
public import proofs.«01_k».proof.Proof.Router.Pick
public import Idealize.ShloMosaic.Lib.Pointwise

@[expose] public section

set_option maxRecDepth 16384

noncomputable section

namespace Cert.Proof.RouterRead

open Idealize.ShloMosaic
open Cert.RouterIdeal Cert.RouterIdeal.Gen

variable (x : Vec Ideal S4096x1024 .f32) (w : Vec Ideal S8x1024 .f32)

/-- A token's logit at an expert: the sum of the products along the model's axis. -/
def logit (t : Fin 4096) (e : Fin 8) : EReal := ∑ k : Fin 1024, x (ix2 t k) * w (ix2 e k)

theorem pay1_apply (t : Fin 4096) (e : Fin 8) : k0_pay1 (F := Ideal) x w (ix2 t e) = logit x w t e := by
  unfold logit
  pointwise [k0_pay1]

/-- The pattern that starts a greatest value is the least extended real. -/
theorem least : Ideal.ofBits .f32 0xFF800000#32 = ⊥ := by simp [Ideal.ofBits, Ideal.ieee]

variable {x w} {t : Fin 4096}

/-! ## The first -/

variable {p q : Fin 8} (hp : Pick.First (logit x w t) p)
include hp

/-- The greatest logit. -/
theorem pay2_apply (z : Fin 1) : k0_pay2 (F := Ideal) x w (ix2 t z) = logit x w t p := by
  pointwise [k0_pay2]
  simp only [pay1_apply, least]
  exact hp.fold_max

/-- Its place. -/
theorem pay3_apply (z : Fin 1) : k0_pay3 (F := Ideal) x w (ix2 t z) = BitVec.ofNat 32 p.val := by
  pointwise [k0_pay3]
  simp only [pay1_apply, pay2_apply hp]
  exact hp.fold_min (fun e h => if_pos h) fun e h => if_neg h

/-- The logits with it struck out. -/
theorem pay4_apply (e : Fin 8) : k0_pay4 (F := Ideal) x w (ix2 t e) = Pick.strike (logit x w t) p e := by
  have hword : ∀ a b : Fin 8, IntOp.cmpi .eq (BitVec.ofNat 32 a.val) (BitVec.ofNat 32 b.val) = BitVec.ofBool (decide (a = b)) := by decide
  pointwise [k0_pay4]
  rw [pay1_apply, pay3_apply hp, least, hword, Pick.strike]
  by_cases h : e = p
  · rw [decide_eq_true h, if_pos h]; rfl
  · rw [decide_eq_false h, if_neg h]; rfl

/-! ## The second -/

variable (hq : Pick.First (Pick.strike (logit x w t) p) q)
include hq

/-- The greatest of the others. -/
theorem pay5_apply (z : Fin 1) : k0_pay5 (F := Ideal) x w (ix2 t z) = Pick.strike (logit x w t) p q := by
  pointwise [k0_pay5]
  simp only [pay4_apply hp, least]
  exact hq.fold_max

/-- The first result: the logistic of the two. -/
theorem pay6_apply (hL : ∀ e, logit x w t e ≠ ⊥) (z : Fin 2) :
    k0_pay6 (F := Ideal) x w (ix2 t z) = Ideal.logistic (logit x w t ((![p, q] : Fin 2 → Fin 8) z)) := by
  pointwise [k0_pay6]
  simp only [pay2_apply hp, pay5_apply hp hq, Pick.strike, if_neg (hq.ne hL)]
  fin_cases z <;> rfl

/-- The second result: their places. -/
theorem pay7_apply (z : Fin 2) : k0_pay7 (F := Ideal) x w (ix2 t z) = BitVec.ofNat 32 ((![p, q] : Fin 2 → Fin 8) z).val := by
  pointwise [k0_pay7]
  simp only [pay3_apply hp, pay4_apply hp, pay5_apply hp hq]
  have hmin := hq.fold_min (w := fun e => if Pick.strike (logit x w t) p e = Pick.strike (logit x w t) p q then BitVec.ofNat 32 e.val else 8#32)
    (fun e h => if_pos h) fun e h => if_neg h
  fin_cases z
  · rfl
  · exact hmin

end Cert.Proof.RouterRead

end
-- ==== Proof.Router.Smooth.lean ====
/- The logistic function keeps the extended reals' order, finite sums of finite products are finite, and the
   reference's logistic is the same function. -/
module

public import Idealize.ShloMosaic.PureOps.Ideal.Laws

@[expose] public section

noncomputable section

namespace Cert.Proof.Smooth

open Idealize.ShloMosaic

/-- The logistic function grows strictly, on the reals -/
theorem logistic_lt {a b : ℝ} (h : a < b) : Ideal.logistic (a : EReal) < Ideal.logistic (b : EReal) := by
  rw [Ideal.logistic_coe, Ideal.logistic_coe, EReal.coe_lt_coe_iff]
  have hp : ∀ r : ℝ, 0 < 1 + Real.exp (-r) := fun r => by positivity
  exact (inv_lt_inv₀ (hp a) (hp b)).mpr (by have := Real.exp_lt_exp.mpr (neg_lt_neg h); linarith)

theorem logistic_pos (a : ℝ) : (0 : EReal) < Ideal.logistic (a : EReal) := by
  rw [Ideal.logistic_coe, ← EReal.coe_zero, EReal.coe_lt_coe_iff]
  positivity

theorem logistic_lt_one (a : ℝ) : Ideal.logistic (a : EReal) < 1 := by
  rw [Ideal.logistic_coe, ← EReal.coe_one, EReal.coe_lt_coe_iff]
  exact inv_lt_one_of_one_lt₀ (by have := Real.exp_pos (-a); linarith)

/-- and with both infinities. -/
theorem logistic_strictMono : StrictMono Ideal.logistic := by
  intro a b h
  induction a with
  | bot =>
    induction b with
    | bot => exact absurd h (lt_irrefl _)
    | top => simp
    | coe b => rw [Ideal.logistic_bot]; exact logistic_pos b
  | top => exact absurd h not_top_lt
  | coe a =>
    induction b with
    | bot => exact absurd h not_lt_bot
    | top => rw [Ideal.logistic_top]; exact logistic_lt_one a
    | coe b => exact logistic_lt (EReal.coe_lt_coe_iff.mp h)

/-- A sum of products of finite values is finite. -/
theorem sum_ne_bot {n : Nat} (a b : Fin n → EReal) (ha : ∀ k, ∃ r : ℝ, a k = r) (hb : ∀ k, ∃ r : ℝ, b k = r) : ∑ k, a k * b k ≠ ⊥ := by
  obtain ⟨r, hr⟩ : ∃ r : ℝ, ∑ k, a k * b k = r := by
    refine Finset.sum_induction _ (fun v : EReal => ∃ r : ℝ, v = r) ?_ ⟨0, EReal.coe_zero.symm⟩ fun k _ => ?_
    · rintro _ _ ⟨u, rfl⟩ ⟨v, rfl⟩
      exact ⟨u + v, (EReal.coe_add u v).symm⟩
    · obtain ⟨u, hu⟩ := ha k
      obtain ⟨v, hv⟩ := hb k
      exact ⟨u * v, by rw [hu, hv, EReal.coe_mul]⟩
  rw [hr]
  exact EReal.coe_ne_bot r

/-- A value whose size is below the infinite is finite. -/
theorem finite_of_size {v : EReal} (h : max v (-v) < ⊤) : ∃ r : ℝ, v = r := by
  induction v with
  | bot => simp at h
  | top => simp at h
  | coe r => exact ⟨r, rfl⟩

end Cert.Proof.Smooth

end
-- ==== Proof.Router.Reference.lean ====
/- The router's reference over the extended reals: the two greatest logistic values and their places. -/
module

public import proofs.«01_k».proof.Proof.Gen.RouterReferenceIdeal.Run
public import proofs.«01_k».proof.Proof.Router.Pick
public import proofs.«01_k».proof.Proof.Router.Smooth
public import Idealize.ShloMosaic.Lib.Pointwise

@[expose] public section

set_option maxRecDepth 16384

noncomputable section

namespace Cert.Proof.RouterReference

open Idealize.ShloMosaic
open Cert.RouterReferenceIdeal Cert.RouterReferenceIdeal.Gen

variable (x : FVec Ideal S4096x1024 .f32) (w : FVec Ideal S8x1024 .f32)

/-- The selection values, as the reference computes them. -/
def sel : FVec Ideal S4096x8 .f32 :=
  Host.divf (broadcastInDim S4096x8 ![] bcast_S_S4096x8 (constant S_ .f32 0x3F800000#32))
    (addf (broadcastInDim S4096x8 ![] bcast_S_S4096x8 (constant S_ .f32 0x3F800000#32))
      (Host.exp (Host.negf (Host.dotGeneral dot_S4096x1024_S8x1024_S4096x8_1_1_0_0_n_n none x w))))

/-- The reference's two results, -/
def values : FVec Ideal S4096x2 .f32 := (Host.topK S4096x2 1 (FloatOps.cmpfTotal (F := Ideal) (φ := .f32) .gt) (sel x w) sliceFits_S4096x8_S4096x2).1

def places : IVec S4096x2 32 := (Host.topK S4096x2 1 (FloatOps.cmpfTotal (F := Ideal) (φ := .f32) .gt) (sel x w) sliceFits_S4096x8_S4096x2).2

/-- A selection value is the logistic of the logit. -/
theorem sel_apply (t : Fin 4096) (e : Fin 8) : sel x w (ix2 t e) = Ideal.logistic (∑ k : Fin 1024, x (ix2 t k) * w (ix2 e k)) := by
  unfold Ideal.logistic
  pointwise [sel]

/-- Along a token's selection values only the expert moves. -/
theorem along_eq (t : Fin 4096) (e k : Fin 8) : (ix2 t e : S4096x8.Idx).along (1 : Fin 2) k = ix2 t k := by
  funext a
  match a with
  | ⟨0, _⟩ => rfl
  | ⟨1, _⟩ => rfl

variable {x w} {t : Fin 4096} {L : Fin 8 → EReal} {p q : Fin 8} (hsel : ∀ e, sel x w (ix2 t e) = Ideal.logistic (L e)) (hL : ∀ e, L e ≠ ⊥)
  (hp : Pick.First L p) (hq : Pick.First (Pick.strike L p) q)
include hsel hL hp hq

/-- The sort of a token's selection values begins with the two greatest. -/
theorem order (z : Fin 2) (g : Fin 8) (hg : g.val = z.val) :
    sortedFrom (fun k k' : Fin 8 => FloatOps.cmpfTotal (F := Ideal) (φ := .f32) .gt (sel x w (ix2 t k)) (sel x w (ix2 t k')) == 1#1) g
      = (![p, q] : Fin 2 → Fin 8) z := by
  have e : g = z.castLE (by decide) := Fin.ext hg
  simp only [hsel]
  rw [e]
  exact Pick.sorted hL hp hq Smooth.logistic_strictMono z

/-- The reference's values, -/
theorem values_apply (z : Fin 2) : values x w (ix2 t z) = Ideal.logistic (L ((![p, q] : Fin 2 → Fin 8) z)) := by
  rw [← hsel, ← order hsel hL hp hq z ⟨z.val, by omega⟩ rfl]
  unfold values Host.topK Host.sort2
  pointwise
  simp only [along_eq]

/-- and its places. -/
theorem places_apply (z : Fin 2) : places x w (ix2 t z) = BitVec.ofNat 32 ((![p, q] : Fin 2 → Fin 8) z).val := by
  rw [← order hsel hL hp hq z ⟨z.val, by omega⟩ rfl]
  unfold places Host.topK Host.sort2
  pointwise
  simp only [along_eq]
  rfl

end Cert.Proof.RouterReference

end
-- ==== Proof.Router.Equation.lean ====
/- The router: what its precondition gives, the reference's run, and the equations: each of the kernel's results is the reference's. -/
module

public import proofs.«01_k».proof.Pre_finite
public import proofs.«01_k».proof.Proof.Gen.RouterIdeal.Value
public import proofs.«01_k».proof.Proof.Router.Read
public import proofs.«01_k».proof.Proof.Router.Reference
public import Idealize.ShloMosaic.Lib.ReduceAll

@[expose] public section

set_option maxRecDepth 16384

noncomputable section

namespace Cert.Proof.RouterEquation

open Idealize.ShloMosaic Idealize.SL.Sem Idealize.ShloMosaic.StableHlo

theorem preFacts : Cert.Pre_finite.Facts := ⟨by decide, by decide, by decide, by decide, by decide⟩

/-! ## The precondition -/

/-- The pattern that sizes are compared with is the greatest extended real. -/
theorem greatest : Ideal.ofBits .f32 0x7F800000#32 = ⊤ := by simp [Ideal.ofBits, Ideal.ieee]

/-- A value whose size tests below the infinite is finite. -/
theorem finite_of_test {v : EReal} (h : Ideal.cmp .olt (max v (-v)) (Ideal.ofBits .f32 0x7F800000#32) = 1#1) : ∃ r : ℝ, v = r := by
  rw [greatest] at h
  refine Smooth.finite_of_size (by_contra fun hn => ?_)
  have : BitVec.ofBool (decide (max v (-v) < ⊤)) = 1#1 := h
  rw [decide_eq_false hn] at this
  exact absurd this (by decide)

/-- Where the precondition holds every element of both arguments is finite. -/
theorem finite [Cert.Pre_finite.Facts] {x : FVec Ideal Cert.Pre_finite.S4096x1024 .f32} {w : FVec Ideal Cert.Pre_finite.S8x1024 .f32}
    (h : Cert.Pre_finite.fn (F := Ideal) x w = fun _ => 1#1) : (∀ i, ∃ r : ℝ, x i = r) ∧ ∀ i, ∃ r : ℝ, w i = r := by
  haveI : Subsingleton Cert.Pre_finite.S_.Idx := ⟨fun a b => funext fun i => i.elim0⟩
  have hand : ∀ a b : BitVec 1, a &&& b = 1#1 → a = 1#1 ∧ b = 1#1 := by decide
  obtain ⟨h0, h1⟩ := hand _ _ (congrFun h (fun i => i.elim0))
  exact ⟨fun i => finite_of_test (Host.reduce_andi_all _ _ _ _ _ h0 i), fun i => finite_of_test (Host.reduce_andi_all _ _ _ _ _ h1 i)⟩

/-! ## The equations -/

variable {x : FVec Ideal Cert.RouterIdeal.S4096x1024 .f32} {w : FVec Ideal Cert.RouterIdeal.S8x1024 .f32}
  (hx : ∀ i, ∃ r : ℝ, x i = r) (hw : ∀ i, ∃ r : ℝ, w i = r)
include hx hw

/-- No logit is the least extended real. -/
theorem logit_ne (t : Fin 4096) (e : Fin 8) : RouterRead.logit x w t e ≠ ⊥ := Smooth.sum_ne_bot _ _ (fun _ => hx _) fun _ => hw _

/-- The kernel's values are the reference's, -/
theorem values_eq : Cert.RouterIdeal.Value.G2 (F := Ideal) x w = RouterReference.values x w := by
  funext j
  obtain ⟨t, z, rfl⟩ : ∃ (t : Fin 4096) (z : Fin 2), j = ix2 t z := ⟨j 0, j 1, eq_ix2 j⟩
  obtain ⟨p, hp⟩ := Pick.exists_first (RouterRead.logit x w t)
  obtain ⟨q, hq⟩ := Pick.exists_first (Pick.strike (RouterRead.logit x w t) p)
  exact (RouterRead.pay6_apply hp hq (logit_ne hx hw t) z).trans
    (RouterReference.values_apply (RouterReference.sel_apply x w t) (logit_ne hx hw t) hp hq z).symm

/-- and so are its places. -/
theorem places_eq : Cert.RouterIdeal.Value.G3 (F := Ideal) x w = RouterReference.places x w := by
  funext j
  obtain ⟨t, z, rfl⟩ : ∃ (t : Fin 4096) (z : Fin 2), j = ix2 t z := ⟨j 0, j 1, eq_ix2 j⟩
  obtain ⟨p, hp⟩ := Pick.exists_first (RouterRead.logit x w t)
  obtain ⟨q, hq⟩ := Pick.exists_first (Pick.strike (RouterRead.logit x w t) p)
  exact (RouterRead.pay7_apply hp hq z).trans
    (RouterReference.places_apply (RouterReference.sel_apply x w t) (logit_ne hx hw t) hp hq z).symm

omit hx hw

/-! ## The reference's run -/

open Cert.RouterReferenceIdeal in
/-- The reference runs, ends with its two results, and leaves its arguments and every counter as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_values) = RouterReference.values (m ((c.tc : Thread nD τ).loc main_arg0)) (m ((c.tc : Thread nD τ).loc main_arg1))
        ∧ r.2.mem ((c.tc : Thread nD τ).loc main_indices) = RouterReference.places (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨h, sem_eq_zero_of_no_sems (by decide) _⟩) (Value.run (F := Ideal) m ρ)

end Cert.Proof.RouterEquation

end
-- ==== Proof.Product.Same.lean ====
/- The grouped product's idealization is the program's own text, read over the extended reals. -/
module

public import proofs.«01_k».proof.Proof.Gen.ProductIdeal
public import proofs.«01_k».proof.Proof.Gen.Product
public import Idealize.ShloMosaic.PureOps.Ideal

@[expose] public section

noncomputable section

namespace Cert.Proof.ProductSame

open Idealize.ShloMosaic Idealize.ShloMosaic.TcCoe Idealize.SL.Sem

set_option maxRecDepth 65536 in
/-- The bodies are the same, -/
theorem bodies_eq : Cert.ProductIdeal.defs₀ (F := Ideal) = Cert.Product.defs₀ (F := Ideal) := by
  unfold Cert.ProductIdeal.defs₀ Cert.Product.defs₀
  refine congrArg Defs.onTc (funext fun l => funext fun a => ?_)
  match l, a with
  | ⟨0, _⟩, (t, s) => rfl
  | ⟨_ + 1, h⟩, _ => exact absurd h (Nat.not_lt.2 (Nat.le_add_left _ _))

set_option maxRecDepth 65536 in
theorem defs_eq : Cert.ProductIdeal.defs (F := Ideal) = Cert.Product.defs (F := Ideal) := by
  unfold Cert.ProductIdeal.defs Cert.Product.defs
  exact congrArg (Pipeline.defs _) bodies_eq

set_option maxRecDepth 65536 in
set_option maxHeartbeats 4000000 in
theorem part0_eq : Cert.ProductIdeal.main_part0 (F := Ideal) = Cert.Product.main_part0 (F := Ideal) := rfl
set_option maxRecDepth 65536 in
set_option maxHeartbeats 4000000 in
theorem part1_eq : Cert.ProductIdeal.main_part1 (F := Ideal) = Cert.Product.main_part1 (F := Ideal) := rfl
set_option maxRecDepth 65536 in
set_option maxHeartbeats 4000000 in
theorem part2_eq : Cert.ProductIdeal.main_part2 (F := Ideal) = Cert.Product.main_part2 (F := Ideal) := rfl

set_option maxRecDepth 65536 in
/-- and so are the programs. -/
theorem main_eq : Cert.ProductIdeal.main (F := Ideal) = Cert.Product.main (F := Ideal) := by
  unfold Cert.ProductIdeal.main Cert.Product.main
  exact congrArg (fun p : (Dev Cert.Product.nD → _) × (Dev Cert.Product.nD → _) × (Dev Cert.Product.nD → _) => fun d => do p.1 d; p.2.1 d; p.2.2 d)
    (congrArg₂ Prod.mk part0_eq (congrArg₂ Prod.mk part1_eq part2_eq))

end Cert.Proof.ProductSame

end
-- ==== Proof.Product.Run.lean ====
/- The body of the grouped product, run once on whole staging buffers: at a unit marked as the first of its tile the output
   buffer ends at the unit's product, whatever it held; at any other unit it ends at what it held plus the product. -/
module

public import proofs.«01_k».proof.Proof.Gen.Product.Launch
public import proofs.«01_k».proof.Proof.Gen.Product.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pointwise

@[expose] public section

set_option maxRecDepth 16384

noncomputable section

namespace Cert.Product.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Product.Gen

variable {F : FTy → Type} [FloatOps F]

local notation "𝕄" => MT nD τ sig Unit (Elt F) ℕ (UR sig nD τ) ℕ

/-- The table of units as the body is handed it. -/
abbrev tabM : Memref sig .tc .smem S6x39 .i32 := Memref.whole main_v98

/-- A table's contents. -/
abbrev Tab : Type := S6x39.Idx → BitVec 32

/-- The table of core `c`, at contents `f`, half of it: the other half is the pipeline's. -/
abbrev tabHeld (c : Dev nD) (f : Buf (Elt F) (tabM.view.loc (c : Thread nD τ))) : sProp 𝕄 :=
  tabM.view.loc (c : Thread nD τ) ↦{fullShare.right} f

/-- The word of the table in row `r`, at a unit. -/
def word (f : Tab) (r : Fin 6) (i : grid0.Coords) : BitVec 32 := f (ix2 r (i 0))

theorem first_iff (v : BitVec 32) : k0_cond1 v = 1#1 ↔ v = 1#32 := by
  unfold k0_cond1
  by_cases h : v = 1#32
  · subst h; decide
  · have e : Scalar.cmpi .eq v 1#32 = 0#1 := by
      show BitVec.ofBool (v == 1#32) = 0#1
      rw [beq_false_of_ne h]; rfl
    simp only [e, h, iff_false]; decide
theorem second_iff (v : BitVec 32) : k0_cond2 v = 1#1 ↔ ¬ v = 1#32 := by
  unfold k0_cond2
  by_cases h : v = 1#32
  · subst h; decide
  · have e : Scalar.cmpi .eq v 1#32 = 0#1 := by
      show BitVec.ofBool (v == 1#32) = 0#1
      rw [beq_false_of_ne h]; rfl
    simp only [e, h, not_false_eq_true, iff_true]; decide

/-- The word the body reads at an offset is the table's, in the row the offset names. -/
theorem readAt_word (c : Dev nD) (f : Buf (Elt F) (tabM.view.loc (c : Thread nD τ))) (r : Fin 6) (i : grid0.Coords) {off : Fin 2 → Nat}
    (inb : ∀ a, off a + S1x1.size a ≤ S6x39.size a) (h : off = ![r.val, (i 0).val]) (h1 : 0 < S1x1.numel) :
    View.readAt (Elt F) tabM.view (Rect.unit (s := S6x39) off S1x1.size inb).toLoadRect f (Shape.Idx.first h1) = word f r i := by
  subst h
  refine congrArg (f : Tab) (funext fun a => Fin.ext ?_)
  fin_cases a
  · show r.val + 1 * 0 = r.val
    omega
  · show (i 0).val + 1 * 0 = (i 0).val
    omega

/-- What a unit's body leaves in the output buffer: its product alone if it is marked as the first of its tile, else what the buffer
    held and its product. -/
def step (f : Tab) (i : grid0.Coords) (x0 : Vec F S256x1024 .f32) (x1 : Vec F S1x2048x1024 .bf16) (x2 : Vec F S1x1024x2048 .bf16) (x3 : Vec F S256x1 .f32)
    (x4 : Vec F S256x1024 .f32) : Vec F S256x1024 .f32 :=
  if word f 4 i = 1#32 then k0_pay1 (word f 2 i) (word f 3 i) x0 x1 x2 x3 else k0_pay2 (word f 2 i) (word f 3 i) x0 x1 x2 x3 x4

set_option maxHeartbeats 1000000 in
theorem run_body (c : Dev nD) (i : grid0.Coords) (arg2 : Memref sig .tc .vmem S256x1024 .f32) (harg2 : arg2.IsWhole) (arg3 : Memref sig .tc .vmem S1x2048x1024 .bf16) (harg3 : arg3.IsWhole)
    (arg4 : Memref sig .tc .vmem S1x1024x2048 .bf16) (harg4 : arg4.IsWhole) (arg5 : Memref sig .tc .vmem S256x1 .f32) (harg5 : arg5.IsWhole) (arg6 : Memref sig .tc .vmem S256x1024 .f32) (harg6 : arg6.IsWhole)
    (x0 : Vec F S256x1024 .f32) (x1 : Vec F S1x2048x1024 .bf16) (x2 : Vec F S1x1024x2048 .bf16) (x3 : Vec F S256x1 .f32) (f : Buf (Elt F) (tabM.view.loc (c : Thread nD τ)))
    (x4 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ tabHeld c f
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (step f i x0 x1 x2 x3 x4) ∗ tabHeld c f) -∗ K ⟨⟩))
      ⊢ wp frame (wpE (defs₀ (F := F)) Variants.none c none) E (cc0__gmm_body i tabM (Memref.isWhole_whole _) arg2 harg2 arg3 harg3 arg4 harg4 arg5 harg5 arg6 harg6) K := by
  simp only [cc0__gmm_body_eq_skeleton]; unfold cc0__gmm_body_skel
  unfold owns
  iintro ⟨⟨%f0, %hf0, H0⟩, ⟨%f1, %hf1, H1⟩, ⟨%f2, %hf2, H2⟩, ⟨%f3, %hf3, H3⟩, ⟨%f4, %hf4, H4⟩, HT, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold run_body.sl.v35 run_body.sl.r run_body.sl.r_1 run_body.sl.r_2
    have e0 := View.readAt_full arg2.view f0 inb_S256x1024_S256x1024_0_0
    have e1 := View.readAt_full arg3.view f1 inb_S1x2048x1024_S1x2048x1024_0_0_0
    have e2 := View.readAt_full arg4.view f2 inb_S1x1024x2048_S1x1024x2048_0_0_0
    have e3 := View.readAt_full arg5.view f3 inb_S256x1_S256x1_0_0
    have e4 := View.readAt_full arg6.view f4 inb_S256x1024_S256x1024_0_0
    simp only [readAt_word c f 4 i _ (k0_off3_eq i), readAt_word c f 2 i _ (k0_off4_eq i), readAt_word c f 3 i _ (k0_off5_eq i), first_iff, second_iff]
    unfold step
    by_cases h : word f 4 i = 1#32
    · rw [dif_neg (not_not.mpr h), dif_pos h, if_pos h]
      exact (View.read_writes_full arg6.view f4 inb_S256x1024_S256x1024_0_0 _ []).trans
        (congr (congr (congr (congrArg (k0_pay1 (F := F) _ _) e0) e1) e2) e3)
    · rw [dif_pos h, dif_neg h, if_neg h]
      exact (View.read_writes_full arg6.view f4 inb_S256x1024_S256x1024_0_0 _ []).trans
        (congr (congr (congr (congr (congrArg (k0_pay2 (F := F) _ _) e0) e1) e2) e3) e4)
  iexact HT

end Cert.Product.Work

end
-- ==== Proof.Product.Units.lean ====
/- The host operations that make the table of units, as terms. -/
module

public import proofs.«01_k».proof.Proof.Gen.Product.Launch
public import proofs.«01_k».proof.Proof.Expand.Route
public import proofs.«01_k».proof.Proof.ExpandFacts

@[expose] public section

noncomputable section

namespace Cert.Product.Units

open Idealize.ShloMosaic Idealize.ShloMosaic.TcCoe
open Cert.Product Cert.Product.Gen

attribute [local instance] Cert.Proof.ExpandFacts.facts

/-- A number at every expert, and at every unit. -/
def at8 (v : BitVec 32) : IVec S8 32 := broadcastInDim S8 ![] bcast_S_S8 (constantI S_ 32 v)
def at39 (v : BitVec 32) : IVec S39 32 := broadcastInDim S39 ![] bcast_S_S39 (constantI S_ 32 v)

/-- The experts' numbers of rows, and where their rows begin and end. -/
def counts (e : IVec S4096x2 32) : IVec S8 32 := Cert.Expand.Route.totals (Cert.Expand.Route.keys e)
def begins (e : IVec S4096x2 32) : IVec S8 32 := Cert.Expand.Route.starts (Cert.Expand.Route.keys e)
def ends (e : IVec S4096x2 32) : IVec S8 32 := addi (begins e) (counts e)

/-- The tile of a row: its number over 256, rounded down. -/
def tileAt (x : IVec S8 32) : IVec S8 32 :=
  select (andi (cmpi .ne (signi x) (broadcastInDim S8 ![] bcast_S_S8 (signi (constantI S_ 32 256#32)))) (cmpi .ne (Host.remsi x (at8 256#32)) (at8 0#32)))
    (subi (Host.divsi x (at8 256#32)) (at8 1#32)) (Host.divsi x (at8 256#32))

/-- How many tiles an expert's rows touch, -/
def touched (n lo hi : IVec S8 32) : IVec S8 32 :=
  select (cmpi .sgt n (at8 0#32)) (addi (subi (tileAt (subi hi (at8 1#32))) (tileAt lo)) (at8 1#32)) (at8 0#32)
/-- and how many the experts before it. -/
def earlier (t : IVec S8 32) : IVec S8 32 :=
  subi (Host.reduceWindow IntOp.addi ![8] ![1] ![7] ![0] t (broadcastInDim S_ ![] bcast_S_S_ (constantI S_ 32 0#32)) reduceWindows_S8_S8_w8s1p7_0 h_S_) t

/-- A number of each expert, over the units; the units' own numbers, over the experts. -/
def across (x : IVec S8 32) : IVec S39x8 32 := broadcastInDim S39x8 ![0, 1] bcast_S1x8_S39x8_0_1 (broadcastInDim S1x8 ![1] bcast_S8_S1x8_1 x)
def column : IVec S39x1 32 := broadcastInDim S39x1 ![0] bcast_S39_S39x1_0 (iotaInDim S39 32 0)
def down : IVec S39x8 32 := broadcastInDim S39x8 ![0, 1] bcast_S39x1_S39x8_0_1 column

/-- Which units are which expert's, -/
def owns (t s : IVec S8 32) : IVec S39x8 1 := andi (cmpi .sge down (across s)) (cmpi .slt down (across (addi s t)))
/-- which are any's, -/
def used (o : IVec S39x8 1) : IVec S39 1 := Host.reduce IntOp.ori o (constantI S_ 1 0#1) reducesTo_S39x8_S39_d1 h_S_
/-- and whose. -/
def owner (o : IVec S39x8 1) : IVec S39 32 :=
  Host.reduce IntOp.addi (select o (across (iotaInDim S8 32 0)) (broadcastInDim S39x8 ![] bcast_S_S39x8 (constantI S_ 32 0#32))) (constantI S_ 32 0#32) reducesTo_S39x8_S39_d1 h_S_

/-- An expert's number, taken for each unit. -/
def take (x : IVec S8 32) (u : IVec S39 32) : IVec S39 32 :=
  Host.gather gather_S8_S39x1_S39_n_0_n_n_0_1_1 x (broadcastInDim S39x1 ![0] bcast_S39_S39x1_0 (select (cmpi .slt u (at39 0#32)) (addi u (at39 8#32)) u))

/-- The units' tiles, -/
def tileOf (tl s : IVec S8 32) (u : IVec S39 32) : IVec S39 32 := addi (take tl u) (subi (shapeCast S39 column shapeCasts_S39x1_S39) (take s u))
/-- and a row's offset in them, cut to the tile. -/
def offset (x : IVec S8 32) (u t : IVec S39 32) : IVec S39 32 := minsi (at39 256#32) (maxsi (at39 0#32) (subi (take x u) (muli t (at39 256#32))))

/-- A unit's number if it is used, else another. -/
def orElse (o : IVec S39 1) (x : IVec S39 32) (v : BitVec 32) : IVec S39 32 := select o x (at39 v)

/-- Which units are used and the first of their tile. -/
def firsts (o : IVec S39 1) (t : IVec S39 32) : IVec S39 1 :=
  andi o (concatenate S39 0 [⟨S1, broadcastInDim S1 ![] bcast_S_S1 (constantI S_ 1 1#1)⟩,
    ⟨S38, cmpi .ne (extractStridedSlice S38 ![1] t slices_S39_S38_1) (extractStridedSlice S38 ![0] t slices_S39_S38_0)⟩] concatenates_S1_S38_S39_d0)

/-- A row of the table. -/
def line (x : IVec S39 32) : IVec S1x39 32 := broadcastInDim S1x39 ![1] bcast_S39_S1x39_1 x
/-- The table. -/
def stack (a b c d e f : IVec S39 32) : IVec S6x39 32 :=
  concatenate S6x39 0 [⟨S1x39, line a⟩, ⟨S1x39, line b⟩, ⟨S1x39, line c⟩, ⟨S1x39, line d⟩, ⟨S1x39, line e⟩, ⟨S1x39, line f⟩] concatenates_S1x39_S1x39_S1x39_S1x39_S1x39_S1x39_S6x39_d0

/-- The table's rows from which units are used, whose they are, their tiles and ends. -/
def finish (o : IVec S39 1) (u t lo hi : IVec S39 32) : IVec S6x39 32 :=
  stack (orElse o t 31#32) (orElse o u 7#32) (orElse o lo 0#32) (orElse o hi 0#32) (extui 32 (firsts o (orElse o t 31#32)) natLt_1_32) (extui 32 o natLt_1_32)

/-- From where the experts' rows begin and end, their tiles and numbers of tiles. -/
def build (lo hi tl n : IVec S8 32) : IVec S6x39 32 :=
  finish (used (owns n (earlier n))) (owner (owns n (earlier n))) (tileOf tl (earlier n) (owner (owns n (earlier n))))
    (offset lo (owner (owns n (earlier n))) (tileOf tl (earlier n) (owner (owns n (earlier n)))))
    (offset hi (owner (owns n (earlier n))) (tileOf tl (earlier n) (owner (owns n (earlier n)))))

/-- The table of the experts chosen. -/
def table (e : IVec S4096x2 32) : IVec S6x39 32 :=
  build (begins e) (ends e) (tileAt (begins e)) (touched (counts e) (begins e) (ends e))

end Cert.Product.Units

end
-- ==== Proof.Product.Line.lean ====
/- The host operations before the grouped product, in five stretches, and what each leaves. -/
module

public import proofs.«01_k».proof.Proof.Product.Units
public import Idealize.ShloMosaic.Lib.StableHlo.Run

@[expose] public section

set_option maxRecDepth 16384
set_option maxHeartbeats 1000000

noncomputable section

namespace Cert.Product.Line

open Idealize.ShloMosaic Idealize.ShloMosaic.TcCoe Idealize.ShloMosaic.StableHlo
open Cert.Product Cert.Product.Gen Cert.Product.Units

variable {F : FTy → Type} [FloatOps F]

attribute [local instance] Cert.Proof.ExpandFacts.facts

/-- The counts; -/
abbrev opsA : List (List (HloOp τ sig (Elt F))) := [hostOps0, hostOps0_1, hostOps0_2]
/-- the tiles; -/
abbrev opsB : List (List (HloOp τ sig (Elt F))) := [hostOps0_3, hostOps0_4, hostOps0_5, hostOps0_6, hostOps0_7]
/-- whose each unit is; -/
abbrev opsC : List (List (HloOp τ sig (Elt F))) := [hostOps0_8, hostOps0_9, hostOps0_10]
/-- what it is; -/
abbrev opsD : List (List (HloOp τ sig (Elt F))) := [hostOps0_11, hostOps0_12, hostOps0_13, hostOps0_14]
/-- the table, and the floats. -/
abbrev opsE : List (List (HloOp τ sig (Elt F))) :=
  [hostOps0_15, hostOps0_16, hostOps0_17, hostOps0_18, hostOps0_19, hostOps0_20, hostOps0_21, hostOps0_22, hostOps0_23]

variable (W : Valuation τ sig (Elt F))

/-- A unit's sum over the experts, -/
abbrev summed (x : IVec S39x8 32) : IVec S39 32 := Host.reduce IntOp.addi x (constantI S_ 32 0#32) reducesTo_S39x8_S39_d1 h_S_
/-- and its tile. -/
abbrev added (x : IVec S39 32) (c : IVec S39x1 32) (y : IVec S39 32) : IVec S39 32 := addi x (subi (shapeCast S39 c shapeCasts_S39x1_S39) y)

/-! ## The counts -/

theorem a_v8 : after opsA.flatten W (main_v8 : DevRef τ sig) = counts (W (main_arg0 : DevRef τ sig)) := by
  simp only [opsA, List.flatten_cons, List.flatten_nil, List.cons_append, List.nil_append, List.append_nil, TRef.binary, TRef.nullary, TRef.ternary, TRef.unary, TRef.toBuf, TRef.ofBuf, cast_eq]
  after_results <;> rfl
theorem a_v10 : after opsA.flatten W (main_v10 : DevRef τ sig) = begins (W (main_arg0 : DevRef τ sig)) := by
  simp only [opsA, List.flatten_cons, List.flatten_nil, List.cons_append, List.nil_append, List.append_nil, TRef.binary, TRef.nullary, TRef.ternary, TRef.unary, TRef.toBuf, TRef.ofBuf, cast_eq]
  after_results <;> rfl
theorem a_v11 : after opsA.flatten W (main_v11 : DevRef τ sig) = ends (W (main_arg0 : DevRef τ sig)) := by
  simp only [opsA, List.flatten_cons, List.flatten_nil, List.cons_append, List.nil_append, List.append_nil, TRef.binary, TRef.nullary, TRef.ternary, TRef.unary, TRef.toBuf, TRef.ofBuf, cast_eq]
  after_results <;> rfl
theorem a_c_0 : after opsA.flatten W (main_c_0 : DevRef τ sig) = (constantI S_ 32 256#32 : IVec S_ 32) := by
  simp only [opsA, List.flatten_cons, List.flatten_nil, List.cons_append, List.nil_append, List.append_nil, TRef.binary, TRef.nullary, TRef.ternary, TRef.unary, TRef.toBuf, TRef.ofBuf, cast_eq]
  after_results <;> rfl
theorem a_arg0 : after opsA.flatten W (main_arg0 : DevRef τ sig) = W (main_arg0 : DevRef τ sig) := by
  simp only [opsA, List.flatten_cons, List.flatten_nil, List.cons_append, List.nil_append, List.append_nil, TRef.binary, TRef.nullary, TRef.ternary, TRef.unary, TRef.toBuf, TRef.ofBuf, cast_eq]
  after_results <;> rfl
theorem a_arg1 : after opsA.flatten W (main_arg1 : DevRef τ sig) = W (main_arg1 : DevRef τ sig) := by
  simp only [opsA, List.flatten_cons, List.flatten_nil, List.cons_append, List.nil_append, List.append_nil, TRef.binary, TRef.nullary, TRef.ternary, TRef.unary, TRef.toBuf, TRef.ofBuf, cast_eq]
  after_results <;> rfl
theorem a_arg2 : after opsA.flatten W (main_arg2 : DevRef τ sig) = W (main_arg2 : DevRef τ sig) := by
  simp only [opsA, List.flatten_cons, List.flatten_nil, List.cons_append, List.nil_append, List.append_nil, TRef.binary, TRef.nullary, TRef.ternary, TRef.unary, TRef.toBuf, TRef.ofBuf, cast_eq]
  after_results <;> rfl
theorem a_arg3 : after opsA.flatten W (main_arg3 : DevRef τ sig) = W (main_arg3 : DevRef τ sig) := by
  simp only [opsA, List.flatten_cons, List.flatten_nil, List.cons_append, List.nil_append, List.append_nil, TRef.binary, TRef.nullary, TRef.ternary, TRef.unary, TRef.toBuf, TRef.ofBuf, cast_eq]
  after_results <;> rfl
theorem a_arg4 : after opsA.flatten W (main_arg4 : DevRef τ sig) = W (main_arg4 : DevRef τ sig) := by
  simp only [opsA, List.flatten_cons, List.flatten_nil, List.cons_append, List.nil_append, List.append_nil, TRef.binary, TRef.nullary, TRef.ternary, TRef.unary, TRef.toBuf, TRef.ofBuf, cast_eq]
  after_results <;> rfl

/-! ## The tiles -/

theorem b_v12 (h : W (main_c_0 : DevRef τ sig) = (constantI S_ 32 256#32 : IVec S_ 32)) : after opsB.flatten W (main_v12 : DevRef τ sig) = tileAt (W (main_v10 : DevRef τ sig)) := by
  simp only [opsB, List.flatten_cons, List.flatten_nil, List.cons_append, List.nil_append, List.append_nil, TRef.binary, TRef.nullary, TRef.ternary, TRef.unary, TRef.toBuf, TRef.ofBuf, cast_eq]
  after_results <;> first | rfl | (rw [h]; rfl)
theorem b_v21 (h : W (main_c_0 : DevRef τ sig) = (constantI S_ 32 256#32 : IVec S_ 32)) : after opsB.flatten W (main_v21 : DevRef τ sig) = touched (W (main_v8 : DevRef τ sig)) (W (main_v10 : DevRef τ sig)) (W (main_v11 : DevRef τ sig)) := by
  simp only [opsB, List.flatten_cons, List.flatten_nil, List.cons_append, List.nil_append, List.append_nil, TRef.binary, TRef.nullary, TRef.ternary, TRef.unary, TRef.toBuf, TRef.ofBuf, cast_eq]
  after_results <;> first | rfl | (rw [h]; rfl)
theorem b_v10 : after opsB.flatten W (main_v10 : DevRef τ sig) = W (main_v10 : DevRef τ sig) := by
  simp only [opsB, List.flatten_cons, List.flatten_nil, List.cons_append, List.nil_append, List.append_nil, TRef.binary, TRef.nullary, TRef.ternary, TRef.unary, TRef.toBuf, TRef.ofBuf, cast_eq]
  after_results <;> rfl
theorem b_v11 : after opsB.flatten W (main_v11 : DevRef τ sig) = W (main_v11 : DevRef τ sig) := by
  simp only [opsB, List.flatten_cons, List.flatten_nil, List.cons_append, List.nil_append, List.append_nil, TRef.binary, TRef.nullary, TRef.ternary, TRef.unary, TRef.toBuf, TRef.ofBuf, cast_eq]
  after_results <;> rfl
theorem b_arg0 : after opsB.flatten W (main_arg0 : DevRef τ sig) = W (main_arg0 : DevRef τ sig) := by
  simp only [opsB, List.flatten_cons, List.flatten_nil, List.cons_append, List.nil_append, List.append_nil, TRef.binary, TRef.nullary, TRef.ternary, TRef.unary, TRef.toBuf, TRef.ofBuf, cast_eq]
  after_results <;> rfl
theorem b_arg1 : after opsB.flatten W (main_arg1 : DevRef τ sig) = W (main_arg1 : DevRef τ sig) := by
  simp only [opsB, List.flatten_cons, List.flatten_nil, List.cons_append, List.nil_append, List.append_nil, TRef.binary, TRef.nullary, TRef.ternary, TRef.unary, TRef.toBuf, TRef.ofBuf, cast_eq]
  after_results <;> rfl
theorem b_arg2 : after opsB.flatten W (main_arg2 : DevRef τ sig) = W (main_arg2 : DevRef τ sig) := by
  simp only [opsB, List.flatten_cons, List.flatten_nil, List.cons_append, List.nil_append, List.append_nil, TRef.binary, TRef.nullary, TRef.ternary, TRef.unary, TRef.toBuf, TRef.ofBuf, cast_eq]
  after_results <;> rfl
theorem b_arg3 : after opsB.flatten W (main_arg3 : DevRef τ sig) = W (main_arg3 : DevRef τ sig) := by
  simp only [opsB, List.flatten_cons, List.flatten_nil, List.cons_append, List.nil_append, List.append_nil, TRef.binary, TRef.nullary, TRef.ternary, TRef.unary, TRef.toBuf, TRef.ofBuf, cast_eq]
  after_results <;> rfl
theorem b_arg4 : after opsB.flatten W (main_arg4 : DevRef τ sig) = W (main_arg4 : DevRef τ sig) := by
  simp only [opsB, List.flatten_cons, List.flatten_nil, List.cons_append, List.nil_append, List.append_nil, TRef.binary, TRef.nullary, TRef.ternary, TRef.unary, TRef.toBuf, TRef.ofBuf, cast_eq]
  after_results <;> rfl

/-! ## Whose each unit is -/

theorem c_v23 : after opsC.flatten W (main_v23 : DevRef τ sig) = earlier (W (main_v21 : DevRef τ sig)) := by
  simp only [opsC, List.flatten_cons, List.flatten_nil, List.cons_append, List.nil_append, List.append_nil, TRef.binary, TRef.nullary, TRef.ternary, TRef.unary, TRef.toBuf, TRef.ofBuf, cast_eq]
  after_results <;> rfl
theorem c_v25 : after opsC.flatten W (main_v25 : DevRef τ sig) = column := by
  simp only [opsC, List.flatten_cons, List.flatten_nil, List.cons_append, List.nil_append, List.append_nil, TRef.binary, TRef.nullary, TRef.ternary, TRef.unary, TRef.toBuf, TRef.ofBuf, cast_eq]
  after_results <;> rfl
theorem c_v36 : after opsC.flatten W (main_v36 : DevRef τ sig) = used (owns (W (main_v21 : DevRef τ sig)) (earlier (W (main_v21 : DevRef τ sig)))) := by
  simp only [opsC, List.flatten_cons, List.flatten_nil, List.cons_append, List.nil_append, List.append_nil, TRef.binary, TRef.nullary, TRef.ternary, TRef.unary, TRef.toBuf, TRef.ofBuf, cast_eq]
  after_results <;> rfl
theorem c_v39 : after opsC.flatten W (main_v39 : DevRef τ sig) = select (owns (W (main_v21 : DevRef τ sig)) (earlier (W (main_v21 : DevRef τ sig)))) (across (iotaInDim S8 32 0)) (broadcastInDim S39x8 ![] bcast_S_S39x8 (constantI S_ 32 0#32)) := by
  simp only [opsC, List.flatten_cons, List.flatten_nil, List.cons_append, List.nil_append, List.append_nil, TRef.binary, TRef.nullary, TRef.ternary, TRef.unary, TRef.toBuf, TRef.ofBuf, cast_eq]
  after_results <;> rfl
theorem c_v10 : after opsC.flatten W (main_v10 : DevRef τ sig) = W (main_v10 : DevRef τ sig) := by
  simp only [opsC, List.flatten_cons, List.flatten_nil, List.cons_append, List.nil_append, List.append_nil, TRef.binary, TRef.nullary, TRef.ternary, TRef.unary, TRef.toBuf, TRef.ofBuf, cast_eq]
  after_results <;> rfl
theorem c_v11 : after opsC.flatten W (main_v11 : DevRef τ sig) = W (main_v11 : DevRef τ sig) := by
  simp only [opsC, List.flatten_cons, List.flatten_nil, List.cons_append, List.nil_append, List.append_nil, TRef.binary, TRef.nullary, TRef.ternary, TRef.unary, TRef.toBuf, TRef.ofBuf, cast_eq]
  after_results <;> rfl
theorem c_v12 : after opsC.flatten W (main_v12 : DevRef τ sig) = W (main_v12 : DevRef τ sig) := by
  simp only [opsC, List.flatten_cons, List.flatten_nil, List.cons_append, List.nil_append, List.append_nil, TRef.binary, TRef.nullary, TRef.ternary, TRef.unary, TRef.toBuf, TRef.ofBuf, cast_eq]
  after_results <;> rfl
theorem c_arg0 : after opsC.flatten W (main_arg0 : DevRef τ sig) = W (main_arg0 : DevRef τ sig) := by
  simp only [opsC, List.flatten_cons, List.flatten_nil, List.cons_append, List.nil_append, List.append_nil, TRef.binary, TRef.nullary, TRef.ternary, TRef.unary, TRef.toBuf, TRef.ofBuf, cast_eq]
  after_results <;> rfl
theorem c_arg1 : after opsC.flatten W (main_arg1 : DevRef τ sig) = W (main_arg1 : DevRef τ sig) := by
  simp only [opsC, List.flatten_cons, List.flatten_nil, List.cons_append, List.nil_append, List.append_nil, TRef.binary, TRef.nullary, TRef.ternary, TRef.unary, TRef.toBuf, TRef.ofBuf, cast_eq]
  after_results <;> rfl
theorem c_arg2 : after opsC.flatten W (main_arg2 : DevRef τ sig) = W (main_arg2 : DevRef τ sig) := by
  simp only [opsC, List.flatten_cons, List.flatten_nil, List.cons_append, List.nil_append, List.append_nil, TRef.binary, TRef.nullary, TRef.ternary, TRef.unary, TRef.toBuf, TRef.ofBuf, cast_eq]
  after_results <;> rfl
theorem c_arg3 : after opsC.flatten W (main_arg3 : DevRef τ sig) = W (main_arg3 : DevRef τ sig) := by
  simp only [opsC, List.flatten_cons, List.flatten_nil, List.cons_append, List.nil_append, List.append_nil, TRef.binary, TRef.nullary, TRef.ternary, TRef.unary, TRef.toBuf, TRef.ofBuf, cast_eq]
  after_results <;> rfl
theorem c_arg4 : after opsC.flatten W (main_arg4 : DevRef τ sig) = W (main_arg4 : DevRef τ sig) := by
  simp only [opsC, List.flatten_cons, List.flatten_nil, List.cons_append, List.nil_append, List.append_nil, TRef.binary, TRef.nullary, TRef.ternary, TRef.unary, TRef.toBuf, TRef.ofBuf, cast_eq]
  after_results <;> rfl

/-! ## What it is -/

theorem d_v40 : after opsD.flatten W (main_v40 : DevRef τ sig) = summed (W (main_v39 : DevRef τ sig)) := by
  simp only [opsD, List.flatten_cons, List.flatten_nil, List.cons_append, List.nil_append, List.append_nil, TRef.binary, TRef.nullary, TRef.ternary, TRef.unary, TRef.toBuf, TRef.ofBuf, cast_eq]
  after_results <;> rfl
theorem d_v57 : after opsD.flatten W (main_v57 : DevRef τ sig) = added (take (W (main_v12 : DevRef τ sig)) (summed (W (main_v39 : DevRef τ sig)))) (W (main_v25 : DevRef τ sig)) (take (W (main_v23 : DevRef τ sig)) (summed (W (main_v39 : DevRef τ sig)))) := by
  simp only [opsD, List.flatten_cons, List.flatten_nil, List.cons_append, List.nil_append, List.append_nil, TRef.binary, TRef.nullary, TRef.ternary, TRef.unary, TRef.toBuf, TRef.ofBuf, cast_eq]
  after_results <;> rfl
theorem d_v68 : after opsD.flatten W (main_v68 : DevRef τ sig) = offset (W (main_v10 : DevRef τ sig)) (summed (W (main_v39 : DevRef τ sig))) (added (take (W (main_v12 : DevRef τ sig)) (summed (W (main_v39 : DevRef τ sig)))) (W (main_v25 : DevRef τ sig)) (take (W (main_v23 : DevRef τ sig)) (summed (W (main_v39 : DevRef τ sig))))) := by
  simp only [opsD, List.flatten_cons, List.flatten_nil, List.cons_append, List.nil_append, List.append_nil, TRef.binary, TRef.nullary, TRef.ternary, TRef.unary, TRef.toBuf, TRef.ofBuf, cast_eq]
  after_results <;> rfl
theorem d_v79 : after opsD.flatten W (main_v79 : DevRef τ sig) = offset (W (main_v11 : DevRef τ sig)) (summed (W (main_v39 : DevRef τ sig))) (added (take (W (main_v12 : DevRef τ sig)) (summed (W (main_v39 : DevRef τ sig)))) (W (main_v25 : DevRef τ sig)) (take (W (main_v23 : DevRef τ sig)) (summed (W (main_v39 : DevRef τ sig))))) := by
  simp only [opsD, List.flatten_cons, List.flatten_nil, List.cons_append, List.nil_append, List.append_nil, TRef.binary, TRef.nullary, TRef.ternary, TRef.unary, TRef.toBuf, TRef.ofBuf, cast_eq]
  after_results <;> rfl
theorem d_v36 : after opsD.flatten W (main_v36 : DevRef τ sig) = W (main_v36 : DevRef τ sig) := by
  simp only [opsD, List.flatten_cons, List.flatten_nil, List.cons_append, List.nil_append, List.append_nil, TRef.binary, TRef.nullary, TRef.ternary, TRef.unary, TRef.toBuf, TRef.ofBuf, cast_eq]
  after_results <;> rfl
theorem d_arg0 : after opsD.flatten W (main_arg0 : DevRef τ sig) = W (main_arg0 : DevRef τ sig) := by
  simp only [opsD, List.flatten_cons, List.flatten_nil, List.cons_append, List.nil_append, List.append_nil, TRef.binary, TRef.nullary, TRef.ternary, TRef.unary, TRef.toBuf, TRef.ofBuf, cast_eq]
  after_results <;> rfl
theorem d_arg1 : after opsD.flatten W (main_arg1 : DevRef τ sig) = W (main_arg1 : DevRef τ sig) := by
  simp only [opsD, List.flatten_cons, List.flatten_nil, List.cons_append, List.nil_append, List.append_nil, TRef.binary, TRef.nullary, TRef.ternary, TRef.unary, TRef.toBuf, TRef.ofBuf, cast_eq]
  after_results <;> rfl
theorem d_arg2 : after opsD.flatten W (main_arg2 : DevRef τ sig) = W (main_arg2 : DevRef τ sig) := by
  simp only [opsD, List.flatten_cons, List.flatten_nil, List.cons_append, List.nil_append, List.append_nil, TRef.binary, TRef.nullary, TRef.ternary, TRef.unary, TRef.toBuf, TRef.ofBuf, cast_eq]
  after_results <;> rfl
theorem d_arg3 : after opsD.flatten W (main_arg3 : DevRef τ sig) = W (main_arg3 : DevRef τ sig) := by
  simp only [opsD, List.flatten_cons, List.flatten_nil, List.cons_append, List.nil_append, List.append_nil, TRef.binary, TRef.nullary, TRef.ternary, TRef.unary, TRef.toBuf, TRef.ofBuf, cast_eq]
  after_results <;> rfl
theorem d_arg4 : after opsD.flatten W (main_arg4 : DevRef τ sig) = W (main_arg4 : DevRef τ sig) := by
  simp only [opsD, List.flatten_cons, List.flatten_nil, List.cons_append, List.nil_append, List.append_nil, TRef.binary, TRef.nullary, TRef.ternary, TRef.unary, TRef.toBuf, TRef.ofBuf, cast_eq]
  after_results <;> rfl

/-! ## The table, and the floats -/

theorem e_v98 : after opsE.flatten W (main_v98 : DevRef τ sig) = finish (W (main_v36 : DevRef τ sig)) (W (main_v40 : DevRef τ sig)) (W (main_v57 : DevRef τ sig)) (W (main_v68 : DevRef τ sig)) (W (main_v79 : DevRef τ sig)) := by
  simp only [opsE, List.flatten_cons, List.flatten_nil, List.cons_append, List.nil_append, List.append_nil, TRef.binary, TRef.nullary, TRef.ternary, TRef.unary, TRef.toBuf, TRef.ofBuf, cast_eq]
  after_results <;> rfl
theorem e_v99 : after opsE.flatten W (main_v99 : DevRef τ sig) = truncf .bf16 (W (main_arg3 : DevRef τ sig)) bitsLt_bf16_f32 := by
  simp only [opsE, List.flatten_cons, List.flatten_nil, List.cons_append, List.nil_append, List.append_nil, TRef.binary, TRef.nullary, TRef.ternary, TRef.unary, TRef.toBuf, TRef.ofBuf, cast_eq]
  after_results <;> rfl
theorem e_v100 : after opsE.flatten W (main_v100 : DevRef τ sig) = truncf .bf16 (W (main_arg4 : DevRef τ sig)) bitsLt_bf16_f32 := by
  simp only [opsE, List.flatten_cons, List.flatten_nil, List.cons_append, List.nil_append, List.append_nil, TRef.binary, TRef.nullary, TRef.ternary, TRef.unary, TRef.toBuf, TRef.ofBuf, cast_eq]
  after_results <;> rfl
theorem e_v101 : after opsE.flatten W (main_v101 : DevRef τ sig) = broadcastInDim S8192x1 ![0] bcast_S8192_S8192x1_0 (W (main_arg2 : DevRef τ sig)) := by
  simp only [opsE, List.flatten_cons, List.flatten_nil, List.cons_append, List.nil_append, List.append_nil, TRef.binary, TRef.nullary, TRef.ternary, TRef.unary, TRef.toBuf, TRef.ofBuf, cast_eq]
  after_results <;> rfl
theorem e_arg0 : after opsE.flatten W (main_arg0 : DevRef τ sig) = W (main_arg0 : DevRef τ sig) := by
  simp only [opsE, List.flatten_cons, List.flatten_nil, List.cons_append, List.nil_append, List.append_nil, TRef.binary, TRef.nullary, TRef.ternary, TRef.unary, TRef.toBuf, TRef.ofBuf, cast_eq]
  after_results <;> rfl
theorem e_arg1 : after opsE.flatten W (main_arg1 : DevRef τ sig) = W (main_arg1 : DevRef τ sig) := by
  simp only [opsE, List.flatten_cons, List.flatten_nil, List.cons_append, List.nil_append, List.append_nil, TRef.binary, TRef.nullary, TRef.ternary, TRef.unary, TRef.toBuf, TRef.ofBuf, cast_eq]
  after_results <;> rfl
theorem e_arg2 : after opsE.flatten W (main_arg2 : DevRef τ sig) = W (main_arg2 : DevRef τ sig) := by
  simp only [opsE, List.flatten_cons, List.flatten_nil, List.cons_append, List.nil_append, List.append_nil, TRef.binary, TRef.nullary, TRef.ternary, TRef.unary, TRef.toBuf, TRef.ofBuf, cast_eq]
  after_results <;> rfl
theorem e_arg3 : after opsE.flatten W (main_arg3 : DevRef τ sig) = W (main_arg3 : DevRef τ sig) := by
  simp only [opsE, List.flatten_cons, List.flatten_nil, List.cons_append, List.nil_append, List.append_nil, TRef.binary, TRef.nullary, TRef.ternary, TRef.unary, TRef.toBuf, TRef.ofBuf, cast_eq]
  after_results <;> rfl
theorem e_arg4 : after opsE.flatten W (main_arg4 : DevRef τ sig) = W (main_arg4 : DevRef τ sig) := by
  simp only [opsE, List.flatten_cons, List.flatten_nil, List.cons_append, List.nil_append, List.append_nil, TRef.binary, TRef.nullary, TRef.ternary, TRef.unary, TRef.toBuf, TRef.ofBuf, cast_eq]
  after_results <;> rfl

/-! ## All of them -/

/-- The whole line. -/
def opss : List (List (HloOp τ sig (Elt F))) := opsA ++ (opsB ++ (opsC ++ (opsD ++ opsE)))

theorem after_opss (b : DevRef τ sig) : after opss.flatten W b
    = after opsE.flatten (after opsD.flatten (after opsC.flatten (after opsB.flatten (after opsA.flatten W)))) b := by
  unfold opss
  rw [List.flatten_append, List.flatten_append, List.flatten_append, List.flatten_append, after_append, after_append, after_append, after_append]

theorem all_arg0 : after opss.flatten W (main_arg0 : DevRef τ sig) = W (main_arg0 : DevRef τ sig) := by
  rw [after_opss, e_arg0, d_arg0, c_arg0, b_arg0, a_arg0]
theorem all_arg1 : after opss.flatten W (main_arg1 : DevRef τ sig) = W (main_arg1 : DevRef τ sig) := by
  rw [after_opss, e_arg1, d_arg1, c_arg1, b_arg1, a_arg1]
theorem all_arg2 : after opss.flatten W (main_arg2 : DevRef τ sig) = W (main_arg2 : DevRef τ sig) := by
  rw [after_opss, e_arg2, d_arg2, c_arg2, b_arg2, a_arg2]
theorem all_arg3 : after opss.flatten W (main_arg3 : DevRef τ sig) = W (main_arg3 : DevRef τ sig) := by
  rw [after_opss, e_arg3, d_arg3, c_arg3, b_arg3, a_arg3]
theorem all_arg4 : after opss.flatten W (main_arg4 : DevRef τ sig) = W (main_arg4 : DevRef τ sig) := by
  rw [after_opss, e_arg4, d_arg4, c_arg4, b_arg4, a_arg4]
theorem all_v99 : after opss.flatten W (main_v99 : DevRef τ sig) = truncf .bf16 (W (main_arg3 : DevRef τ sig)) bitsLt_bf16_f32 := by
  rw [after_opss, e_v99, d_arg3, c_arg3, b_arg3, a_arg3]
theorem all_v100 : after opss.flatten W (main_v100 : DevRef τ sig) = truncf .bf16 (W (main_arg4 : DevRef τ sig)) bitsLt_bf16_f32 := by
  rw [after_opss, e_v100, d_arg4, c_arg4, b_arg4, a_arg4]
theorem all_v101 : after opss.flatten W (main_v101 : DevRef τ sig) = broadcastInDim S8192x1 ![0] bcast_S8192_S8192x1_0 (W (main_arg2 : DevRef τ sig)) := by
  rw [after_opss, e_v101, d_arg2, c_arg2, b_arg2, a_arg2]
/-- The table is made of the experts chosen. -/
theorem all_v98 : after opss.flatten W (main_v98 : DevRef τ sig) = table (W (main_arg0 : DevRef τ sig)) := by
  rw [after_opss, e_v98, d_v36, d_v40, d_v57, d_v68, d_v79, c_v36, c_v39, c_v12, c_v25, c_v23, c_v10, c_v11, b_v21 _ (a_c_0 W), b_v12 _ (a_c_0 W), b_v10, b_v11,
    a_v8, a_v10, a_v11]
  rfl

end Cert.Product.Line

end
-- ==== Proof.Product.Launch.lean ====
/- The grouped product's pipeline, at the table of units it is given: what each staging buffer holds at each unit, the body's obligation there, and
   the whole call's run. -/
module

public import proofs.«01_k».proof.Proof.Product.Run
public import proofs.«01_k».proof.Proof.Product.Line
public import Idealize.ShloMosaic.Lib.Claim

@[expose] public section

set_option maxRecDepth 16384

noncomputable section

namespace Cert.Product.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Product.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The call up to the pipeline -/

/-- What the host's buffers hold when the pipeline is entered: the table, the two arrays of weights rounded, the gates as a column. -/
def V (c : Dev nD) (b : Ref sig .tc) : Buf (Elt F) ((c : Thread nD τ).loc b) := StableHlo.after Line.opss.flatten (fun b => m (c, b)) b

theorem opss_sub : (Line.opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub,
    hostOps0_10_sub, hostOps0_11_sub, hostOps0_12_sub, hostOps0_13_sub, hostOps0_14_sub, hostOps0_15_sub, hostOps0_16_sub, hostOps0_17_sub, hostOps0_18_sub,
    hostOps0_19_sub, hostOps0_20_sub, hostOps0_21_sub, hostOps0_22_sub, hostOps0_23_sub⟩
theorem opss_fresh : (Line.opss : List (List (HloOp τ sig (Elt F)))).Forall fun ops => ops.Forall fun op => op.fresh = ∅ := by
  refine ⟨?_, ?_, ?_, ?_, ?_, ?_, ?_, ?_, ?_, ?_, ?_, ?_, ?_, ?_, ?_, ?_, ?_, ?_, ?_, ?_, ?_, ?_, ?_, ?_⟩ <;> (simp only [List.Forall]; repeat' constructor)

set_option maxHeartbeats 800000 in
theorem enters (𝒱 : Variants) : Pipeline.HMainP (Ix := Unit) (Name := ℕ) (U := UR sig nD τ) (Lvl := ℕ) pcfgs 0 defs₀ 𝒱 m (main (F := F)) (V m) :=
  Pipeline.hmainP_prefixes pcfgs 0 defs₀ 𝒱 m main Line.opss opss_sub opss_fresh main_chain

/-- The host writes none of the arguments. -/
theorem V_arg0 (c : Dev nD) : V m c main_arg0 = m ((c : Thread nD τ).loc main_arg0) := Line.all_arg0 _
theorem V_arg1 (c : Dev nD) : V m c main_arg1 = m ((c : Thread nD τ).loc main_arg1) := Line.all_arg1 _
theorem V_arg2 (c : Dev nD) : V m c main_arg2 = m ((c : Thread nD τ).loc main_arg2) := Line.all_arg2 _
theorem V_arg3 (c : Dev nD) : V m c main_arg3 = m ((c : Thread nD τ).loc main_arg3) := Line.all_arg3 _
theorem V_arg4 (c : Dev nD) : V m c main_arg4 = m ((c : Thread nD τ).loc main_arg4) := Line.all_arg4 _

/-! ## The table -/

/-- The table's contents when the pipeline is entered. -/
def tbl : pre0.Contents (Elt F) := fun j => V m (0 : Dev nD) (pre0.ref j)
/-- The same, as words. -/
abbrev tab : Tab := tbl m 0
theorem V_pre (c : Dev nD) (j : Fin 1) : V m c (pre0.ref j) = tbl m j := by
  obtain rfl : c = 0 := Subsingleton.elim _ _; rfl
theorem tab_eq (c : Dev nD) : tab m = Units.table (m ((c : Thread nD τ).loc main_arg0)) := (V_pre m c 0).symm.trans (Line.all_v98 _)

/-- The row of words of the table an index map reads. -/
theorem at_word (f : pre0.Contents (Elt F)) (r : Fin 6) (i : grid0.Coords) {off : Fin 2 → Nat}
    (inb : ∀ a, off a + S1x1.size a ≤ S6x39.size a) (h : off = ![r.val, (i 0).val]) :
    f.at 0 (Rect.unit (s := S6x39) off S1x1.size inb) numel1_S1x1 = word (f 0) r i := by
  subst h
  refine congrArg (f 0 : Tab) (funext fun a => Fin.ext ?_)
  fin_cases a
  · show r.val + 1 * 0 = r.val
    omega
  · show (i 0).val + 1 * 0 = (i 0).val
    omega

/-- The block of rows a unit works on: the table's first row; and the weights': its second. -/
theorem index_rows (f : pre0.Contents (Elt F)) (i : grid0.Coords) : cc0_transform_0 k0_off1_inb numel1_S1x1 f i = ![(word (f 0) 0 i).toNat, 0] := by
  unfold cc0_transform_0
  have := at_word f 0 i (k0_off1_inb i) (k0_off1_eq i)
  exact congrArg (fun v : BitVec 32 => ![v.toNat, 0]) this
theorem index_gates (f : pre0.Contents (Elt F)) (i : grid0.Coords) : cc0_transform_3 k0_off1_inb numel1_S1x1 f i = ![(word (f 0) 0 i).toNat, 0] := by
  unfold cc0_transform_3
  have := at_word f 0 i (k0_off1_inb i) (k0_off1_eq i)
  exact congrArg (fun v : BitVec 32 => ![v.toNat, 0]) this
theorem index_out (f : pre0.Contents (Elt F)) (i : grid0.Coords) : cc0_transform_4 k0_off1_inb numel1_S1x1 f i = ![(word (f 0) 0 i).toNat, 0] := by
  unfold cc0_transform_4
  have := at_word f 0 i (k0_off1_inb i) (k0_off1_eq i)
  exact congrArg (fun v : BitVec 32 => ![v.toNat, 0]) this
theorem index_keys (f : pre0.Contents (Elt F)) (i : grid0.Coords) : cc0_transform_1 k0_off2_inb numel1_S1x1 f i = ![(word (f 0) 1 i).toNat, 0, 0] := by
  unfold cc0_transform_1
  have := at_word f 1 i (k0_off2_inb i) (k0_off2_eq i)
  exact congrArg (fun v : BitVec 32 => ![v.toNat, 0, 0]) this
theorem index_values (f : pre0.Contents (Elt F)) (i : grid0.Coords) : cc0_transform_2 k0_off2_inb numel1_S1x1 f i = ![(word (f 0) 1 i).toNat, 0, 0] := by
  unfold cc0_transform_2
  have := at_word f 1 i (k0_off2_inb i) (k0_off2_eq i)
  exact congrArg (fun v : BitVec 32 => ![v.toNat, 0, 0]) this

/-- A table the call can run on: its tiles and experts are in range. -/
structure Ranges (f : Tab) : Prop where
  tile : ∀ i : grid0.Coords, (word f 0 i).toNat < 32
  expert : ∀ i : grid0.Coords, (word f 1 i).toNat < 8

/-- And one that names what the output buffer holds at every unit: its first unit is marked as the first of its tile, and a unit not marked is on
    the tile of the unit before it. -/
structure Good (f : Tab) : Prop extends Ranges f where
  first : word f 4 (grid0.coords ⟨0, by decide⟩) = 1#32
  same : ∀ (t : Nat) (h : t + 1 < grid0.N), word f 4 (grid0.coords ⟨t + 1, h⟩) ≠ 1#32 →
    word f 0 (grid0.coords ⟨t + 1, h⟩) = word f 0 (grid0.coords ⟨t, Nat.lt_of_succ_lt h⟩)

/-- Every block of such a table lies in its array, and moves by whole words. -/
theorem Ranges.ok {f : pre0.Contents (Elt F)} (hG : Ranges (f 0)) : ok0 (F := F) f := by
  unfold ok0
  refine ⟨fun i => ⟨?_, .inl rfl⟩, fun i => ⟨?_, .inr (.inr ⟨by decide, rfl, ?_, rfl⟩)⟩, fun i => ⟨?_, .inr (.inr ⟨by decide, rfl, ?_, rfl⟩)⟩, fun i => ⟨?_, .inl rfl⟩, fun i => ⟨?_, .inl rfl⟩⟩
  · intro a
    rw [index_rows]
    have := hG.tile i
    fin_cases a
    · show ((word (f 0) 0 i).toNat + 1) * 256 ≤ 8192
      omega
    · show (0 + 1) * 1024 ≤ 1024
      omega
  · intro a
    rw [index_keys]
    have := hG.expert i
    fin_cases a
    · show ((word (f 0) 1 i).toNat + 1) * 1 ≤ 8
      omega
    · show (0 + 1) * 2048 ≤ 2048
      omega
    · show (0 + 1) * 1024 ≤ 1024
      omega
  · show cc0_transform_1 k0_off2_inb numel1_S1x1 f i 1 * 2048 = 0
    rw [index_keys]; rfl
  · intro a
    rw [index_values]
    have := hG.expert i
    fin_cases a
    · show ((word (f 0) 1 i).toNat + 1) * 1 ≤ 8
      omega
    · show (0 + 1) * 1024 ≤ 1024
      omega
    · show (0 + 1) * 2048 ≤ 2048
      omega
  · show cc0_transform_2 k0_off2_inb numel1_S1x1 f i 1 * 1024 = 0
    rw [index_values]; rfl
  · intro a
    rw [index_gates]
    have := hG.tile i
    fin_cases a
    · show ((word (f 0) 0 i).toNat + 1) * 256 ≤ 8192
      omega
    · show (0 + 1) * 1 ≤ 1
      omega
  · intro a
    rw [index_out]
    have := hG.tile i
    fin_cases a
    · show ((word (f 0) 0 i).toNat + 1) * 256 ≤ 8192
      omega
    · show (0 + 1) * 1024 ≤ 1024
      omega

variable (hG : Good (tab m))

/-- The pipeline at this table. -/
abbrev adm : (pcfg0 (F := F)).Adm := ⟨tbl m, hG.ok⟩
abbrev cfgM : Pipeline.Cfg sig Λ₀ := cfg0 (adm m hG)

/-- The body always writes its output: it is marked or it is not. -/
theorem never_idle (w : Fin (cfgM m hG).W) (i : (cfgM m hG).grid.Coords) : (cfgM m hG).idle w i = false := by
  show idle0 (tbl m) w i = false
  match w with
  | ⟨0, _⟩ => rfl
  | ⟨1, _⟩ => rfl
  | ⟨2, _⟩ => rfl
  | ⟨3, _⟩ => rfl
  | ⟨4, _⟩ =>
    show (!(k0_cond1 ((tbl m).atD 0 (k0_off3 i)) == 1#1) && !(k0_cond2 ((tbl m).atD 0 (k0_off3 i)) == 1#1)) = false
    by_cases h : (tbl m).atD 0 (k0_off3 i) = 1#32
    · rw [(first_iff _).mpr h]; rfl
    · rw [(second_iff _).mpr h]; simp
  | ⟨_ + 5, h⟩ => exact absurd h (Nat.not_lt.2 (Nat.le_add_left _ _))

/-! ## What the buffers hold -/

/-- A window's block at a unit, read off its array as the pipeline finds it. -/
def iblk (c : Dev nD) (w : Fin (cfgM m hG).W) (t : Fin (cfgM m hG).N) : (((cfgM m hG).win w).xblock ((cfgM m hG).grid.coords t)).Idx → Elt F ((cfgM m hG).win w).elt :=
  (((cfgM m hG).win w).blk t).view.read (Elt F) (V m c (Pipeline.arrRef spec0 w))

/-- What the output buffer holds after unit `n`: the unit's step from what it held after the unit before. -/
def acc (c : Dev nD) : Nat → Vec F S256x1024 .f32
  | 0 => if h : 0 < (cfgM m hG).N then
      step (tab m) (grid0.coords ⟨0, h⟩) (iblk m hG c 0 ⟨0, h⟩) (iblk m hG c 1 ⟨0, h⟩) (iblk m hG c 2 ⟨0, h⟩) (iblk m hG c 3 ⟨0, h⟩) (constant S256x1024 .f32 0x00000000#32)
    else constant S256x1024 .f32 0x00000000#32
  | n + 1 => if h : n + 1 < (cfgM m hG).N then
      step (tab m) (grid0.coords ⟨n + 1, h⟩) (iblk m hG c 0 ⟨n + 1, h⟩) (iblk m hG c 1 ⟨n + 1, h⟩) (iblk m hG c 2 ⟨n + 1, h⟩) (iblk m hG c 3 ⟨n + 1, h⟩) (acc c n)
    else acc c n

/-- The pipeline's contents on core `c`: the arrays as found; after each unit the inputs' buffers at their blocks and the output's at `acc`. -/
def dats (_ : Fin 1) (c : Dev nD) : Dat τ (Elt F) Unit ℕ (UR sig nD τ) ℕ (cfgM m hG) c where
  A w := V m c (Pipeline.arrRef spec0 w)
  after w t := match w with
    | ⟨0, _⟩ => iblk m hG c 0 t
    | ⟨1, _⟩ => iblk m hG c 1 t
    | ⟨2, _⟩ => iblk m hG c 2 t
    | ⟨3, _⟩ => iblk m hG c 3 t
    | ⟨4, _⟩ => acc m hG c t.val
  Φ _ := iprop(Pipeline.ΦA spec0 c ∗ Pipeline.ΦT pre0 (tbl m) c)
  q _ := fullShare
  owed _ := 0

theorem arrays_eq (c : Dev nD) (w : Fin (cfgM m hG).W) : (dats m hG 0 c).A w = V m c (Pipeline.arrRef spec0 w) := by
  dsimp only [dats]
theorem after_0 (c : Dev nD) (t : Fin (cfgM m hG).N) : (dats m hG 0 c).after 0 t = iblk m hG c 0 t := by dsimp only [dats]; try rfl
theorem after_1 (c : Dev nD) (t : Fin (cfgM m hG).N) : (dats m hG 0 c).after 1 t = iblk m hG c 1 t := by dsimp only [dats]; try rfl
theorem after_2 (c : Dev nD) (t : Fin (cfgM m hG).N) : (dats m hG 0 c).after 2 t = iblk m hG c 2 t := by dsimp only [dats]; try rfl
theorem after_3 (c : Dev nD) (t : Fin (cfgM m hG).N) : (dats m hG 0 c).after 3 t = iblk m hG c 3 t := by dsimp only [dats]; try rfl
theorem after_4 (c : Dev nD) (t : Fin (cfgM m hG).N) : (dats m hG 0 c).after 4 t = acc m hG c t.val := by dsimp only [dats]; try rfl

/-- An input's buffer holds its block at every unit, fetched there or not. -/
theorem before_0 (c : Dev nD) (t : Fin (cfgM m hG).N) (d) : (dats m hG 0 c).before 0 t d = iblk m hG c 0 t :=
  ((dats m hG 0 c).before_in_eq_fetched 0 rfl (fun _ => rfl) (fun _ _ _ => rfl) (fun t => by rw [after_0]; unfold Dat.blockOf iblk; rw [arrays_eq]; try rfl) t d).trans
    (by unfold Dat.fetched Dat.blockOf iblk; rw [arrays_eq]; try rfl)
theorem before_1 (c : Dev nD) (t : Fin (cfgM m hG).N) (d) : (dats m hG 0 c).before 1 t d = iblk m hG c 1 t :=
  ((dats m hG 0 c).before_in_eq_fetched 1 rfl (fun _ => rfl) (fun _ _ _ => rfl) (fun t => by rw [after_1]; unfold Dat.blockOf iblk; rw [arrays_eq]; try rfl) t d).trans
    (by unfold Dat.fetched Dat.blockOf iblk; rw [arrays_eq]; try rfl)
theorem before_2 (c : Dev nD) (t : Fin (cfgM m hG).N) (d) : (dats m hG 0 c).before 2 t d = iblk m hG c 2 t :=
  ((dats m hG 0 c).before_in_eq_fetched 2 rfl (fun _ => rfl) (fun _ _ _ => rfl) (fun t => by rw [after_2]; unfold Dat.blockOf iblk; rw [arrays_eq]; try rfl) t d).trans
    (by unfold Dat.fetched Dat.blockOf iblk; rw [arrays_eq]; try rfl)
theorem before_3 (c : Dev nD) (t : Fin (cfgM m hG).N) (d) : (dats m hG 0 c).before 3 t d = iblk m hG c 3 t :=
  ((dats m hG 0 c).before_in_eq_fetched 3 rfl (fun _ => rfl) (fun _ _ _ => rfl) (fun t => by rw [after_3]; unfold Dat.blockOf iblk; rw [arrays_eq]; try rfl) t d).trans
    (by unfold Dat.fetched Dat.blockOf iblk; rw [arrays_eq]; try rfl)

set_option maxHeartbeats 2000000 in
/-- A unit not marked finds the output buffer as the unit before left it: the two are on one tile, so nothing was written back between them. -/
theorem before_4 (c : Dev nD) (n : Nat) (h : n + 1 < (cfgM m hG).N) (hf : word (tab m) 4 (grid0.coords ⟨n + 1, h⟩) ≠ 1#32) (d) :
    (dats m hG 0 c).before 4 ⟨n + 1, h⟩ d = acc m hG c n := by
  have hflush : ((cfgM m hG).win 4).flush ⟨n, Nat.lt_of_succ_lt h⟩ = false := by
    rw [Window.flush_eq_flushOf]
    unfold Window.flushOf
    have e : ((cfgM m hG).win 4).indexMap (grid0.coords ⟨n + 1, h⟩) = ((cfgM m hG).win 4).indexMap (grid0.coords ⟨n, Nat.lt_of_succ_lt h⟩) := by
      show cc0_transform_4 k0_off1_inb numel1_S1x1 (tbl m) _ = cc0_transform_4 k0_off1_inb numel1_S1x1 (tbl m) _
      rw [index_out, index_out, hG.same n h hf]
    have hn : ¬ n + 1 = grid0.N := Nat.ne_of_lt h
    simp [hn]
    exact fun _ _ => e
  rw [(dats m hG 0 c).before_out_kept 4 rfl ⟨n + 1, h⟩ (Nat.succ_ne_zero n) hflush (never_idle m hG 4) (fun _ _ => rfl) d]
  exact after_4 m hG c ⟨n, Nat.lt_of_succ_lt h⟩

/-- At a marked unit the step does not read what the buffer held. -/
theorem step_first {f : Tab} {i : grid0.Coords} (h : word f 4 i = 1#32) (x0 : Vec F S256x1024 .f32) (x1 : Vec F S1x2048x1024 .bf16) (x2 : Vec F S1x1024x2048 .bf16) (x3 : Vec F S256x1 .f32)
    (x4 x4' : Vec F S256x1024 .f32) : step f i x0 x1 x2 x3 x4 = step f i x0 x1 x2 x3 x4' := by
  unfold step; rw [if_pos h, if_pos h]

/-- So each unit's step, from what its buffer holds, is `acc`. -/
theorem step_acc (c : Dev nD) (t : Fin (cfgM m hG).N) (d) :
    step (tab m) (grid0.coords t) (iblk m hG c 0 t) (iblk m hG c 1 t) (iblk m hG c 2 t) (iblk m hG c 3 t) ((dats m hG 0 c).before 4 t d) = acc m hG c t.val := by
  obtain ⟨n, h⟩ := t
  cases n with
  | zero =>
    unfold acc
    rw [dif_pos h]
    exact step_first hG.first ..
  | succ n =>
    conv_rhs => unfold acc
    rw [dif_pos h]
    by_cases hf : word (tab m) 4 (grid0.coords ⟨n + 1, h⟩) = 1#32
    · exact step_first hf ..
    · rw [before_4 m hG c n h hf]

/-! ## The body's obligation -/

abbrev bodyAt (t : Fin (cfgM m hG).N) : Prog (TpuEff nD τ sig (Elt F) Λ₀ .tc) PUnit :=
  cc0__gmm_body (grid0.coords t) (Memref.whole main_v98) (Memref.isWhole_whole _) (spec0_0.stage ((cfgM m hG).slots t 0)) (hstage0_0 (((cfgM m hG).slots t 0).cast nbuf0_0))
    (spec0_1.stage ((cfgM m hG).slots t 1)) (hstage0_1 (((cfgM m hG).slots t 1).cast nbuf0_1)) (spec0_2.stage ((cfgM m hG).slots t 2)) (hstage0_2 (((cfgM m hG).slots t 2).cast nbuf0_2))
    (spec0_3.stage ((cfgM m hG).slots t 3)) (hstage0_3 (((cfgM m hG).slots t 3).cast nbuf0_3)) (spec0_4.stage ((cfgM m hG).slots t 4)) (hstage0_4 (((cfgM m hG).slots t 4).cast nbuf0_4))

/-- The table's half the body is handed. -/
theorem table_eq (c : Dev nD) : (Pipeline.ΦT pre0 (tbl m) c : sProp 𝕄) = iprop(tabHeld c (tbl m 0)) := by
  unfold Pipeline.ΦT Pipeline.prefHeld
  rw [show (Finset.univ : Finset (Fin 1)) = {(0 : Fin 1)} from by decide, bigSep_singleton]
  rfl

def bodyPre (c : Dev nD) (t : Fin (cfgM m hG).N) : sProp 𝕄 :=
  iprop((dats m hG 0 c).Φ t.castSucc ∗ (dats m hG 0 c).owesAt () t.castSucc
    ∗ (∃ d, owns (c : Thread nD τ) (spec0_0.stage ((cfgM m hG).slots t 0)) fullShare ((dats m hG 0 c).before 0 t d))
    ∗ (∃ d, owns (c : Thread nD τ) (spec0_1.stage ((cfgM m hG).slots t 1)) fullShare ((dats m hG 0 c).before 1 t d))
    ∗ (∃ d, owns (c : Thread nD τ) (spec0_2.stage ((cfgM m hG).slots t 2)) fullShare ((dats m hG 0 c).before 2 t d))
    ∗ (∃ d, owns (c : Thread nD τ) (spec0_3.stage ((cfgM m hG).slots t 3)) fullShare ((dats m hG 0 c).before 3 t d))
    ∗ (∃ d, owns (c : Thread nD τ) (spec0_4.stage ((cfgM m hG).slots t 4)) fullShare ((dats m hG 0 c).before 4 t d)))

def bodyPost (c : Dev nD) (t : Fin (cfgM m hG).N) : sProp 𝕄 :=
  iprop((dats m hG 0 c).Φ t.succ ∗ (dats m hG 0 c).owesAt () t.succ
    ∗ owns (c : Thread nD τ) (spec0_0.stage ((cfgM m hG).slots t 0)) fullShare ((dats m hG 0 c).after 0 t)
    ∗ owns (c : Thread nD τ) (spec0_1.stage ((cfgM m hG).slots t 1)) fullShare ((dats m hG 0 c).after 1 t)
    ∗ owns (c : Thread nD τ) (spec0_2.stage ((cfgM m hG).slots t 2)) fullShare ((dats m hG 0 c).after 2 t)
    ∗ owns (c : Thread nD τ) (spec0_3.stage ((cfgM m hG).slots t 3)) fullShare ((dats m hG 0 c).after 3 t)
    ∗ owns (c : Thread nD τ) (spec0_4.stage ((cfgM m hG).slots t 4)) fullShare ((dats m hG 0 c).after 4 t))

/-- The body at any unit. -/
theorem body_runs (c : Dev nD) (t : Fin (cfgM m hG).N) :
    bodyPre m hG c t ⊢ wp frame (wpE (defs₀ (F := F)) Variants.none c none) Set.univ (bodyAt m hG t) (fun _ => bodyPost m hG c t) := by
  unfold bodyPre bodyPost bodyAt
  simp only [before_0, before_1, before_2, before_3]
  rw [show (dats m hG 0 c).Φ t.succ = (dats m hG 0 c).Φ t.castSucc from rfl,
    show (dats m hG 0 c).owesAt () t.succ = (dats m hG 0 c).owesAt () t.castSucc from rfl,
    after_0, after_1, after_2, after_3, after_4]
  rw [show (dats m hG 0 c).Φ t.castSucc = iprop(Pipeline.ΦA spec0 c ∗ Pipeline.ΦT pre0 (tbl m) c) from rfl, table_eq]
  iintro ⟨⟨HΦ, HT⟩, Ho, ⟨%d0, H0⟩, ⟨%d1, H1⟩, ⟨%d2, H2⟩, ⟨%d3, H3⟩, ⟨%d4, H4⟩⟩
  iapply (run_body c (grid0.coords t) _ _ _ _ _ _ _ _ _ _ (iblk m hG c 0 t) (iblk m hG c 1 t) (iblk m hG c 2 t) (iblk m hG c 3 t) (tbl m 0) ((dats m hG 0 c).before 4 t d4) Set.univ _)
  rw [step_acc m hG c t d4]
  isplitl [H0]; · iexact H0
  isplitl [H1]; · iexact H1
  isplitl [H2]; · iexact H2
  isplitl [H3]; · iexact H3
  isplitl [H4]; · iexact H4
  isplitl [HT]; · iexact HT
  iintro ⟨H0, H1, H2, H3, H4, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  iexact H4

theorem body_row (t : Fin (cfgM m hG).N) :
    defs₀ (F := F) .tc (cfgM m hG).body ((cfgM m hG).bodyArgs t ((cfgM m hG).slots t)) = bodyAt m hG t := by
  unfold defs₀; rw [Defs.onTc_tc]

theorem obligation (c : Dev nD) : BodyObligation (dats (F := F) m hG 0 c) (defs₀ (F := F)) Variants.none () Set.univ := fun t => by
  rw [bigSep_W0, bigSep_W0, body_row m hG]
  have e : idle0 (tbl m) 4 ((pcfg0.gridAt (tbl m)).coords t) = false := never_idle m hG 4 _
  dsimp only
  rw [e]
  exact triple_restated (body_runs m hG c t) rfl .rfl fun _ => .rfl

/-! ## The call -/

set_option backward.isDefEq.respectTransparency.types false in
/-- The whole call: it ends, its arrays as the pipeline leaves them, every counter at zero. -/
theorem run_main : θ_run defs (onTc (τ := τ) (main (F := F))) (s₀ m ρ) (fun r => (Pipeline.FramePost (Pipeline.pin pcfgs fun _ => adm m hG) (dats m hG) 0 (V m)) r ∧ r.2.sem = fun _ => 0) :=
  Pipeline.θ_run_frameP (Q' := _) pcfgs (fun _ => adm m hG) (dats m hG) (0 : Fin 1) launch0 defs₀ Variants.none m ρ main
    (hbody := fun c => (obligation m hG c).loose) (hshare := fun c => (dats m hG 0 c).share_full fun _ => rfl)
    (howed := fun _ _ => rfl) (V := V m) (hmain := enters m Variants.none) (hA := arrays_eq m hG) (hpf := V_pre m)
    (hΦ := fun _ _ => rfl)

/-- The call's result, and its arguments as they were. -/
theorem run_call : θ_run defs (onTc (τ := τ) (main (F := F))) ⟨m, fun _ => 0, ρ⟩ (fun r => (∀ c : Dev nD,
      r.2.mem ((c.tc : Thread nD τ).loc main_v102) = (dats m hG 0 c).arrAt 4 (cfgM m hG).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 4,
      ((h.1 c).2 main_arg0 (by decide : main_arg0 ∈ Pipeline.restRefs sig spec0)).trans (V_arg0 m c),
      ((h.1 c).1 0).trans (((dats m hG 0 c).arrAt_in 0 rfl _).trans ((arrays_eq m hG c 0).trans (V_arg1 m c))),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c)⟩, h.2⟩) (run_main m ρ hG)

end Cert.Product.Work

end
-- ==== Proof.Product.Free.lean ====
/- The grouped product's call at any table whose blocks exist: it ends, its arguments as they were, whatever the output buffer holds at each unit. -/
module

public import proofs.«01_k».proof.Proof.Product.Launch

@[expose] public section

set_option maxRecDepth 16384

noncomputable section

namespace Cert.Product.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Product.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hR : Ranges (tab m))

/-- The pipeline at this table. -/
abbrev admR : (pcfg0 (F := F)).Adm := ⟨tbl m, hR.ok⟩
abbrev cfgR : Pipeline.Cfg sig Λ₀ := cfg0 (admR m hR)

/-- The arrays as found; of the buffers nothing is said. -/
def rdat (c : Dev nD) : RDat τ (Elt F) Unit ℕ (UR sig nD τ) ℕ (cfgR m hR) c where
  A w := V m c (Pipeline.arrRef spec0 w)
  after _ _ _ _ := True
  Φ _ := iprop(Pipeline.ΦA spec0 c ∗ Pipeline.ΦT pre0 (tbl m) c)
  q _ := fullShare
  owed _ := 0

abbrev bodyR (t : Fin (cfgR m hR).N) : Prog (TpuEff nD τ sig (Elt F) Λ₀ .tc) PUnit :=
  cc0__gmm_body (grid0.coords t) (Memref.whole main_v98) (Memref.isWhole_whole _) (spec0_0.stage ((cfgR m hR).slots t 0)) (hstage0_0 (((cfgR m hR).slots t 0).cast nbuf0_0))
    (spec0_1.stage ((cfgR m hR).slots t 1)) (hstage0_1 (((cfgR m hR).slots t 1).cast nbuf0_1)) (spec0_2.stage ((cfgR m hR).slots t 2)) (hstage0_2 (((cfgR m hR).slots t 2).cast nbuf0_2))
    (spec0_3.stage ((cfgR m hR).slots t 3)) (hstage0_3 (((cfgR m hR).slots t 3).cast nbuf0_3)) (spec0_4.stage ((cfgR m hR).slots t 4)) (hstage0_4 (((cfgR m hR).slots t 4).cast nbuf0_4))

/-- The body at any unit, on buffers of any contents. -/
theorem body_free (c : Dev nD) (t : Fin (cfgR m hR).N) (x0 : Vec F S256x1024 .f32) (x1 : Vec F S1x2048x1024 .bf16) (x2 : Vec F S1x1024x2048 .bf16) (x3 : Vec F S256x1 .f32) (x4 : Vec F S256x1024 .f32) :
    iprop((rdat m hR c).Φ t.castSucc ∗ (rdat m hR c).owesAt () t.castSucc
      ∗ owns (c : Thread nD τ) (spec0_0.stage ((cfgR m hR).slots t 0)) fullShare x0
      ∗ owns (c : Thread nD τ) (spec0_1.stage ((cfgR m hR).slots t 1)) fullShare x1
      ∗ owns (c : Thread nD τ) (spec0_2.stage ((cfgR m hR).slots t 2)) fullShare x2
      ∗ owns (c : Thread nD τ) (spec0_3.stage ((cfgR m hR).slots t 3)) fullShare x3
      ∗ owns (c : Thread nD τ) (spec0_4.stage ((cfgR m hR).slots t 4)) fullShare x4)
    ⊢ wp frame (wpE (defs₀ (F := F)) Variants.none c none) Set.univ (bodyR m hR t) (fun _ =>
      (iprop((rdat m hR c).Φ t.succ ∗ (rdat m hR c).owesAt () t.succ
        ∗ (∃ X, ⌜True⌝ ∗ owns (c : Thread nD τ) (spec0_0.stage ((cfgR m hR).slots t 0)) fullShare X)
        ∗ (∃ X, ⌜True⌝ ∗ owns (c : Thread nD τ) (spec0_1.stage ((cfgR m hR).slots t 1)) fullShare X)
        ∗ (∃ X, ⌜True⌝ ∗ owns (c : Thread nD τ) (spec0_2.stage ((cfgR m hR).slots t 2)) fullShare X)
        ∗ (∃ X, ⌜True⌝ ∗ owns (c : Thread nD τ) (spec0_3.stage ((cfgR m hR).slots t 3)) fullShare X)
        ∗ (∃ X, ⌜True⌝ ∗ owns (c : Thread nD τ) (spec0_4.stage ((cfgR m hR).slots t 4)) fullShare X)) : sProp 𝕄)) := by
  unfold bodyR
  rw [show (rdat m hR c).Φ t.succ = (rdat m hR c).Φ t.castSucc from rfl,
    show (rdat m hR c).owesAt () t.succ = (rdat m hR c).owesAt () t.castSucc from rfl]
  rw [show (rdat m hR c).Φ t.castSucc = iprop(Pipeline.ΦA spec0 c ∗ Pipeline.ΦT pre0 (tbl m) c) from rfl, table_eq]
  iintro ⟨⟨HΦ, HT⟩, Ho, H0, H1, H2, H3, H4⟩
  iapply (run_body c (grid0.coords t) _ _ _ _ _ _ _ _ _ _ x0 x1 x2 x3 (tbl m 0) x4 Set.univ _)
  isplitl [H0]; · iexact H0
  isplitl [H1]; · iexact H1
  isplitl [H2]; · iexact H2
  isplitl [H3]; · iexact H3
  isplitl [H4]; · iexact H4
  isplitl [HT]; · iexact HT
  iintro ⟨H0, H1, H2, H3, H4, HT⟩
  isplitl [HΦ HT]
  · isplitl [HΦ]
    · iexact HΦ
    iexact HT
  isplitl [Ho]; · iexact Ho
  isplitl [H0]
  · iexists _; isplitr
    · ipureintro; trivial
    iexact H0
  isplitl [H1]
  · iexists _; isplitr
    · ipureintro; trivial
    iexact H1
  isplitl [H2]
  · iexists _; isplitr
    · ipureintro; trivial
    iexact H2
  isplitl [H3]
  · iexists _; isplitr
    · ipureintro; trivial
    iexact H3
  iexists _; isplitr
  · ipureintro; trivial
  iexact H4

theorem body_rowR (t : Fin (cfgR m hR).N) :
    defs₀ (F := F) .tc (cfgR m hR).body ((cfgR m hR).bodyArgs t ((cfgR m hR).slots t)) = bodyR m hR t := by
  unfold defs₀; rw [Defs.onTc_tc]

theorem obligationR (c : Dev nD) : (rdat (F := F) m hR c).BodyObligation (defs₀ (F := F)) Variants.none () Set.univ := fun t Y _ => by
  rw [bigSep_W0, bigSep_W0, body_rowR m hR]
  exact triple_restated (body_free m hR c t (Y 0) (Y 1) (Y 2) (Y 3) (Y 4)) rfl .rfl fun _ => .rfl

set_option backward.isDefEq.respectTransparency.types false in
/-- The whole call: it ends, every counter at zero. -/
theorem run_mainR [∀ e, Nonempty (Elt F e)] : θ_run defs (onTc (τ := τ) (main (F := F))) (s₀ m ρ) (fun r => RDat.FramePost (cfgR m hR) (rdat m hR) (V m) r ∧ r.2.sem = fun _ => 0) :=
  RDat.θ_run_frameP (Q' := _) pcfgs (fun _ => admR m hR) (0 : Fin 1) launch0 defs₀ Variants.none (rdat m hR) m ρ main
    (hbody := fun c => obligationR m hR c) (hshare := fun c => (rdat m hR c).share_full fun _ => rfl)
    (howed := fun _ _ => rfl) (V := V m) (hmain := enters m Variants.none) (hA := fun _ _ => rfl) (hpf := V_pre m)
    (hΦ := fun _ _ => rfl)

include hR in
/-- And its arguments as they were. -/
theorem run_free [∀ e, Nonempty (Elt F e)] : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (by decide : main_arg0 ∈ Pipeline.restRefs sig spec0)).trans (V_arg0 m c),
      (RDat.FramePost.arr_in h.1 c 0 rfl).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c)⟩, h.2⟩) (run_mainR m ρ hR)

end Cert.Product.Work

end
-- ==== Proof.Product.Ideal.lean ====
/- The grouped product's idealization runs as the program does. -/
module

public import proofs.«01_k».proof.Proof.Product.Same
public import proofs.«01_k».proof.Proof.Product.Free

@[expose] public section

noncomputable section

namespace Cert.Proof.ProductSame

open Idealize.ShloMosaic Idealize.ShloMosaic.TcCoe Idealize.SL.Sem
open Cert.Product.Work (Good Ranges tab cfgM dats)

/-- The idealized product's run. -/
theorem product_run (m : (ℓ : Loc Cert.ProductIdeal.nD Cert.ProductIdeal.τ Cert.ProductIdeal.sig) → Buf (Elt Ideal) ℓ)
    (ρ : Dev Cert.ProductIdeal.nD → PrngReg) (hG : Good (tab (F := Ideal) m)) :
    θ_run (Cert.ProductIdeal.defs (F := Ideal)) (onTc (τ := Cert.ProductIdeal.τ) (Cert.ProductIdeal.main (F := Ideal))) ⟨m, fun _ => 0, ρ⟩ (fun r => (∀ c : Dev Cert.ProductIdeal.nD,
      r.2.mem ((c.tc : Thread Cert.ProductIdeal.nD Cert.ProductIdeal.τ).loc Cert.ProductIdeal.main_v102) = (dats (F := Ideal) m hG 0 c).arrAt 4 (cfgM (F := Ideal) m hG).N
      ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
      ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3)
      ∧ r.2.mem ((c.tc : Thread Cert.ProductIdeal.nD Cert.ProductIdeal.τ).loc Cert.ProductIdeal.main_arg4) = m ((c.tc : Thread Cert.ProductIdeal.nD Cert.ProductIdeal.τ).loc Cert.ProductIdeal.main_arg4))
      ∧ r.2.sem = fun _ => 0) := by
  rw [defs_eq, main_eq]
  exact Cert.Product.Work.run_call (F := Ideal) m ρ hG

/-- At any table whose blocks exist its arguments are as they were. -/
theorem product_free (m : (ℓ : Loc Cert.ProductIdeal.nD Cert.ProductIdeal.τ Cert.ProductIdeal.sig) → Buf (Elt Ideal) ℓ)
    (ρ : Dev Cert.ProductIdeal.nD → PrngReg) (hR : Ranges (tab (F := Ideal) m)) :
    θ_run (Cert.ProductIdeal.defs (F := Ideal)) (onTc (τ := Cert.ProductIdeal.τ) (Cert.ProductIdeal.main (F := Ideal))) ⟨m, fun _ => 0, ρ⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
      ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3)
      ∧ r.2.mem ((c.tc : Thread Cert.ProductIdeal.nD Cert.ProductIdeal.τ).loc Cert.ProductIdeal.main_arg4) = m ((c.tc : Thread Cert.ProductIdeal.nD Cert.ProductIdeal.τ).loc Cert.ProductIdeal.main_arg4))
      ∧ r.2.sem = fun _ => 0) := by
  rw [defs_eq, main_eq]
  exact Cert.Product.Work.run_free (F := Ideal) m ρ hR

end Cert.Proof.ProductSame

end
-- ==== Proof.Product.Table.lean ====
/- A table of units the grouped product can run on: what its rows are. -/
module

public import proofs.«01_k».proof.Pre_experts_named
public import proofs.«01_k».proof.Proof.Product.Launch
public import Idealize.ShloMosaic.Lib.ReduceAll
public import Idealize.ShloMosaic.Lib.Pointwise

@[expose] public section

noncomputable section

namespace Cert.Proof.ProductTable

open Idealize.ShloMosaic
open Cert.Pre_experts_named
open Cert.Product.Work (Tab word Good)

/-- What is asked of a table: a unit's expert is one of eight; its two ends are offsets in a tile; the tiles begin at the first, end at the
    last, and go from unit to unit by none or one; and a unit is marked exactly where its tile is new. -/
structure Lists (f : Tab) : Prop where
  expert : ∀ t : Fin 39, (f (ix2 1 t)).toNat < 8
  lo : ∀ t : Fin 39, (f (ix2 2 t)).toNat ≤ 256
  hi : ∀ t : Fin 39, (f (ix2 3 t)).toNat ≤ 256
  begins : f (ix2 0 0) = 0#32
  ends : f (ix2 0 38) = 31#32
  steps : ∀ t : Fin 38, f (ix2 0 t.succ) - f (ix2 0 t.castSucc) = 0#32 ∨ f (ix2 0 t.succ) - f (ix2 0 t.castSucc) = 1#32
  first : f (ix2 4 0) = 1#32
  marked : ∀ t : Fin 38, f (ix2 4 t.succ) = 1#32 ↔ f (ix2 0 t.succ) - f (ix2 0 t.castSucc) = 1#32

/-! ## Words and bits -/

/-- A word from 0 up to 8, both signed, is below 8. -/
theorem lt_of_tests {v : BitVec 32} (h : IntOp.andi (IntOp.cmpi .sge v 0#32) (IntOp.cmpi .slt v 8#32) = 1#1) : v.toNat < 8 := by
  have hand : ∀ a b : Bool, BitVec.ofBool a &&& BitVec.ofBool b = 1#1 → a = true ∧ b = true := by decide
  have hv := v.isLt
  obtain ⟨h0, h1⟩ := hand ((0#32).sle v) (v.slt 8#32) h
  simp only [BitVec.sle_eq_decide, BitVec.slt_eq_decide, decide_eq_true_eq, BitVec.toInt_eq_toNat_cond, BitVec.toNat_ofNat, Nat.reducePow,
    Nat.reduceMod] at h0 h1
  omega

/-! ## The precondition, decoded -/

/-- The precondition's side conditions. -/
theorem preFacts : Cert.Pre_experts_named.Facts := by constructor <;> decide

section Decode
attribute [local instance] preFacts

/-- Where the precondition holds every choice is of one of the eight experts. -/
theorem expert_lt {F : FTy → Type} [FloatOps F] {e : S4096x2.Idx → BitVec 32} {x : S8192x1024.Idx → F .f32} {g : S8192.Idx → F .f32} {k : S8x2048x1024.Idx → F .f32} {v : S8x1024x2048.Idx → F .f32}
    (h : Cert.Pre_experts_named.fn (F := F) e x g k v = fun _ => 1#1) (i : S4096x2.Idx) : (e i).toNat < 8 := by
  haveI : Subsingleton Cert.Pre_experts_named.S_.Idx := ⟨fun a b => funext fun i => i.elim0⟩
  have q := congrFun h (fun i => i.elim0)
  exact lt_of_tests (Host.reduce_andi_all _ _ _ _ _ q i)

end Decode

/-! ## The tiles -/

namespace Lists

variable {f : Tab} (h : Lists f)

/-- A unit's tile. -/
def tile (f : Tab) (t : Fin 39) : Nat := (f (ix2 0 t)).toNat

include h in
theorem tile_le : ∀ (n : Nat) (hn : n < 39), tile f ⟨n, hn⟩ ≤ n
  | 0, hn => by
    have e : tile f ⟨0, hn⟩ = (f (ix2 0 0)).toNat := rfl
    rw [e, h.begins]; exact le_refl 0
  | n + 1, hn => by
    have ih := tile_le n (by omega)
    have hw : tile f ⟨n + 1, hn⟩ = (f (ix2 0 (Fin.succ (⟨n, by omega⟩ : Fin 38)))).toNat := rfl
    have hv : tile f ⟨n, by omega⟩ = (f (ix2 0 (Fin.castSucc (⟨n, by omega⟩ : Fin 38)))).toNat := rfl
    rw [hw]; rw [hv] at ih
    rcases h.steps ⟨n, by omega⟩ with e | e <;> bv_omega

include h in
/-- From unit to unit the tile is the same or the next. -/
theorem tile_step (t : Fin 38) : (tile f t.succ = tile f t.castSucc ∧ f (ix2 4 t.succ) ≠ 1#32) ∨ (tile f t.succ = tile f t.castSucc + 1 ∧ f (ix2 4 t.succ) = 1#32) := by
  have hle := h.tile_le t.castSucc.val t.castSucc.isLt
  have hlt := t.isLt
  have hv : tile f t.castSucc = (f (ix2 0 t.castSucc)).toNat := rfl
  have hw : tile f t.succ = (f (ix2 0 t.succ)).toNat := rfl
  have hle' : (f (ix2 0 t.castSucc)).toNat ≤ t.val := hle
  rw [hv, hw, Ne, h.marked t]
  rcases h.steps t with e | e
  · exact .inl ⟨by bv_omega, by rw [e]; decide⟩
  · exact .inr ⟨by bv_omega, e⟩

include h in
theorem mono : Monotone (tile f) := by
  refine Fin.monotone_iff_le_succ.mpr fun t => ?_
  rcases h.tile_step t with e | e <;> omega

include h in
theorem tile_lt (t : Fin 39) : tile f t < 32 := by
  have e : tile f t ≤ tile f 38 := h.mono (Fin.le_last t)
  have e' : tile f 38 = 31 := by
    show (f (ix2 0 38)).toNat = 31
    rw [h.ends]; rfl
  omega

include h in
/-- Every tile has a unit. -/
theorem exists_tile (b : Nat) (hb : b < 32) : ∃ t, tile f t = b := by
  induction b with
  | zero => exact ⟨0, Nat.le_zero.mp (h.tile_le 0 (by omega))⟩
  | succ b ih =>
    by_contra hno
    have hall : ∀ t, tile f t ≤ b := by
      intro t
      induction t using Fin.induction with
      | zero => have := h.tile_le 0 (by omega); exact le_trans this (Nat.zero_le _)
      | succ t it =>
        have hne : tile f t.succ ≠ b + 1 := fun e => hno ⟨_, e⟩
        rcases h.tile_step t with e | e <;> omega
    have e' : tile f 38 = 31 := by
      show (f (ix2 0 38)).toNat = 31
      rw [h.ends]; rfl
    have := hall 38
    omega

end Lists

/-- The coordinate of a grid's point is its number. -/
theorem coords_val : ∀ t : Fin Cert.Product.grid0.N, ((Cert.Product.grid0.coords t) 0).val = t.val := by decide +kernel

theorem coords_eq (n : Nat) (hn : n < Cert.Product.grid0.N) (hn' : n < 39) : (Cert.Product.grid0.coords ⟨n, hn⟩) 0 = (⟨n, hn'⟩ : Fin 39) :=
  Fin.ext (coords_val ⟨n, hn⟩)

/-- Such a table the call can run on. -/
theorem Lists.good {f : Tab} (h : Lists f) : Good f where
  tile i := h.tile_lt (i 0)
  expert i := h.expert (i 0)
  first := by
    unfold word
    rw [coords_eq 0 _ (by omega)]
    exact h.first
  same t ht hne := by
    have ht' : t + 1 < 39 := ht
    unfold word at hne ⊢
    rw [coords_eq (t + 1) _ ht'] at hne ⊢
    rw [coords_eq t _ (by omega)]
    rcases h.tile_step ⟨t, by omega⟩ with e | e
    · exact BitVec.eq_of_toNat_eq e.1
    · exact absurd e.2 hne

end Cert.Proof.ProductTable

end
-- ==== Proof.Product.Sums.lean ====
/- Sums over a table's units: the running sum of a tile's units, and a tile's first and last units. -/
module

public import proofs.«01_k».proof.Proof.Product.Table
public import Mathlib.Data.EReal.Operations

@[expose] public section

noncomputable section

namespace Cert.Proof.ProductSums

open Idealize.ShloMosaic
open Cert.Product.Work (Tab)
open Cert.Proof.ProductTable (Lists)
open Cert.Proof.ProductTable.Lists (tile)

/-! ## A tile's units -/

variable {f : Tab} (h : Lists f) (P : Fin 39 → EReal)

/-- What a tile's units add up to, as far as unit `n`. -/
def upTo (f : Tab) (P : Fin 39 → EReal) (n : Fin 39) : EReal := ∑ u : Fin 39, if u ≤ n ∧ tile f u = tile f n then P u else 0

/-- A new tile starts at its unit's own value, -/
theorem upTo_new (n : Fin 39) (hn : ∀ u < n, tile f u ≠ tile f n) : upTo f P n = P n := by
  unfold upTo
  rw [Finset.sum_eq_single n]
  · rw [if_pos ⟨le_refl n, rfl⟩]
  · intro u _ hu
    rw [if_neg]
    rintro ⟨hle, e⟩
    exact hn u (lt_of_le_of_ne hle hu) e
  · intro hno; exact absurd (Finset.mem_univ n) hno

include h in
theorem upTo_marked (t : Fin 38) (hm : f (ix2 4 t.succ) = 1#32) : upTo f P t.succ = P t.succ := by
  refine upTo_new P _ fun u hu => ?_
  have hle : tile f u ≤ tile f t.castSucc := h.mono (Fin.le_castSucc_iff.mpr hu)
  rcases h.tile_step t with e | e
  · exact absurd hm e.2
  · omega

/-- and a unit on the tile before it adds its value. -/
theorem upTo_kept (t : Fin 38) (ht : tile f t.succ = tile f t.castSucc) : upTo f P t.succ = upTo f P t.castSucc + P t.succ := by
  unfold upTo
  rw [← Finset.sum_ite_eq' Finset.univ t.succ P |>.trans (if_pos (Finset.mem_univ _)), ← Finset.sum_add_distrib]
  refine Finset.sum_congr rfl fun u _ => ?_
  by_cases hu : u = t.succ
  · subst hu
    rw [if_pos ⟨le_refl _, rfl⟩, if_pos rfl, if_neg (fun hh => absurd hh.1 (not_le.mpr Fin.castSucc_lt_succ)), zero_add]
  · rw [if_neg hu, add_zero, ht]
    have e : u ≤ t.succ ↔ u ≤ t.castSucc := ⟨fun hle => Fin.le_castSucc_iff.mpr (lt_of_le_of_ne hle hu), fun hle => le_trans hle (le_of_lt Fin.castSucc_lt_succ)⟩
    simp only [e]

/-- At a tile's last unit it is the whole tile's. -/
theorem upTo_last (n : Fin 39) (hn : ∀ u, n < u → tile f u ≠ tile f n) : upTo f P n = ∑ u : Fin 39, if tile f u = tile f n then P u else 0 := by
  unfold upTo
  refine Finset.sum_congr rfl fun u _ => ?_
  by_cases hu : u ≤ n
  · simp only [hu, true_and]
  · rw [if_neg fun hh => hu hh.1, if_neg (hn u (not_le.mp hu))]

include h in
/-- A unit is its tile's last if there is none after it or the next one's tile is another. -/
theorem last_of_step (t : Fin 38) (ht : tile f t.succ ≠ tile f t.castSucc) (u : Fin 39) (hu : t.castSucc < u) : tile f u ≠ tile f t.castSucc := by
  have hle : tile f t.succ ≤ tile f u := h.mono (Fin.castSucc_lt_iff_succ_le.mp hu)
  rcases h.tile_step t with e | e
  · exact absurd e.1 ht
  · omega

include h in
/-- Every tile has a last unit. -/
theorem exists_last (b : Nat) (hb : b < 32) : ∃ n, tile f n = b ∧ ∀ u, n < u → tile f u ≠ b := by
  obtain ⟨t, ht⟩ := h.exists_tile b hb
  have hne : (Finset.univ.filter fun u : Fin 39 => tile f u = b).Nonempty := ⟨t, Finset.mem_filter.mpr ⟨Finset.mem_univ _, ht⟩⟩
  refine ⟨_, (Finset.mem_filter.mp (Finset.max'_mem _ hne)).2, fun u hu e => ?_⟩
  exact absurd (Finset.le_max' _ u (Finset.mem_filter.mpr ⟨Finset.mem_univ _, e⟩)) (not_le.mpr hu)

end Cert.Proof.ProductSums

end
-- ==== Proof.Product.Read.lean ====
/- A unit's product over the extended reals, element by element. -/
module

public import proofs.«01_k».proof.Proof.Product.Table
public import Idealize.ShloMosaic.Lib.Pointwise

@[expose] public section

set_option maxRecDepth 16384

noncomputable section

namespace Cert.Proof.ProductRead

open Idealize.ShloMosaic
open Cert.Product Cert.Product.Gen

variable (lo hi : BitVec 32) (x : Vec Ideal S256x1024 .f32) (K : Vec Ideal S1x2048x1024 .bf16) (V : Vec Ideal S1x1024x2048 .bf16) (g : Vec Ideal S256x1 .f32)

theorem pay1_apply (j : Fin 256) (d : Fin 1024) : k0_pay1 (F := Ideal) lo hi x K V g (ix2 j d)
    = Scalar.select (IntOp.andi (IntOp.cmpi .sge (BitVec.ofNat 32 j.val) lo) (IntOp.cmpi .slt (BitVec.ofNat 32 j.val) hi))
      ((∑ f : Fin 2048, max (∑ k : Fin 1024, x (ix2 j k) * K (ix3 0 f k)) 0 * V (ix3 0 d f)) * g (ix2 j 0)) 0 := by
  pointwise [k0_pay1]

theorem pay2_apply (a : Vec Ideal S256x1024 .f32) (j : Fin 256) (d : Fin 1024) :
    k0_pay2 (F := Ideal) lo hi x K V g a (ix2 j d) = a (ix2 j d) + k0_pay1 (F := Ideal) lo hi x K V g (ix2 j d) := by
  pointwise [k0_pay2]

end Cert.Proof.ProductRead

end
-- ==== Proof.Product.Value.lean ====
/- The grouped product's result over the extended reals: each element is the sum, over its tile's units, of the units' products there. -/
module

public import proofs.«01_k».proof.Proof.Product.Launch
public import proofs.«01_k».proof.Proof.Product.Sums
public import proofs.«01_k».proof.Proof.Product.Read
public import Idealize.ShloMosaic.Lib.Pipeline.Value

@[expose] public section

set_option maxRecDepth 16384

noncomputable section

namespace Cert.Proof.ProductValue

open Idealize.ShloMosaic Idealize.ShloMosaic.TcCoe Idealize.SL.Sem
open Idealize.ShloMosaic.Pipeline (Dat Cfg Window)
open Cert.Product Cert.Product.Gen Cert.Product.Work
open Cert.Proof.ProductTable (Lists coords_eq)
open Cert.Proof.ProductTable.Lists (tile)
open Cert.Proof.ProductSums

variable (m : (ℓ : Loc nD τ sig) → Buf (Elt Ideal) ℓ) (hG : Good (tab m)) (hL : Lists (tab m)) (c : Dev nD)

/-! What the call finds in its operands. -/

theorem found_v101 : V m c main_v101 = broadcastInDim S8192x1 ![0] bcast_S8192_S8192x1_0 (m ((c : Thread nD τ).loc main_arg2)) := Line.all_v101 _
theorem found_v99 : V m c main_v99 = m ((c : Thread nD τ).loc main_arg3) := Line.all_v99 _
theorem found_v100 : V m c main_v100 = m ((c : Thread nD τ).loc main_arg4) := Line.all_v100 _

attribute [local irreducible] Cert.Product.Work.V Cert.Product.Work.tbl

/-- A unit as a point of the grid. -/
noncomputable def point (u : Fin 39) : Fin (cfgM m hG).N := ⟨u.val, u.isLt⟩

theorem word_point (r : Fin 6) (u : Fin 39) : word (tab m) r (grid0.coords (point m hG u)) = tab m (ix2 r u) := by
  exact congrArg (fun z : Fin 39 => tab m (ix2 r z)) (coords_eq u.val u.isLt u.isLt)

/-! ## The blocks -/

theorem whole (n k : Nat) : 0 * n + 1 * k = k := by omega
theorem shifted {t j r : Nat} (h : t * 256 + j = r) : t * 256 + 1 * j = r := by omega
theorem single {t e : Nat} (h : t = e) : t * 1 + 1 * 0 = e := by omega

theorem rows_apply (u : Fin 39) (j : Fin 256) (k : Fin 1024) (r : Fin 8192) (hr : tile (tab m) u * 256 + j.val = r.val) :
    iblk m hG c 0 (point m hG u) (ix2 j k) = m ((c : Thread nD τ).loc main_arg1) (ix2 r k) := by
  rw [← V_arg1 m c]
  show V m c main_arg1 ((((cfgM m hG).win 0).blk (point m hG u)).view.emb (ix2 j k)) = V m c main_arg1 (ix2 r k)
  refine congrArg (V m c main_arg1) (funext fun a => Fin.ext ?_)
  have hi : cc0_transform_0 k0_off1_inb numel1_S1x1 (tbl m) (grid0.coords (point m hG u)) = ![tile (tab m) u, 0] := by
    rw [index_rows, word_point m hG 0 u]; rfl
  match a with
  | ⟨0, _⟩ =>
    show cc0_transform_0 k0_off1_inb numel1_S1x1 (tbl m) (grid0.coords (point m hG u)) 0 * 256 + 1 * j.val = r.val
    rw [hi]
    exact shifted hr
  | ⟨1, _⟩ =>
    show cc0_transform_0 k0_off1_inb numel1_S1x1 (tbl m) (grid0.coords (point m hG u)) 1 * 1024 + 1 * k.val = k.val
    rw [hi]
    exact whole 1024 k.val

theorem gates_apply (u : Fin 39) (j : Fin 256) (r : Fin 8192) (hr : tile (tab m) u * 256 + j.val = r.val) :
    iblk m hG c 3 (point m hG u) (ix2 j 0) = m ((c : Thread nD τ).loc main_arg2) (ix1 r) := by
  have hv : V m c main_v101 = broadcastInDim S8192x1 ![0] bcast_S8192_S8192x1_0 (m ((c : Thread nD τ).loc main_arg2)) := found_v101 m c
  have hv' : V m c main_v101 (ix2 r 0) = m ((c : Thread nD τ).loc main_arg2) (ix1 r) := by
    rw [hv]; pointwise
  rw [← hv']
  show V m c main_v101 ((((cfgM m hG).win 3).blk (point m hG u)).view.emb (ix2 j 0)) = V m c main_v101 (ix2 r 0)
  refine congrArg (V m c main_v101) (funext fun a => Fin.ext ?_)
  have hi : cc0_transform_3 k0_off1_inb numel1_S1x1 (tbl m) (grid0.coords (point m hG u)) = ![tile (tab m) u, 0] := by
    rw [index_gates, word_point m hG 0 u]; rfl
  match a with
  | ⟨0, _⟩ =>
    show cc0_transform_3 k0_off1_inb numel1_S1x1 (tbl m) (grid0.coords (point m hG u)) 0 * 256 + 1 * j.val = r.val
    rw [hi]
    exact shifted hr
  | ⟨1, _⟩ =>
    show cc0_transform_3 k0_off1_inb numel1_S1x1 (tbl m) (grid0.coords (point m hG u)) 1 * 1 + 1 * 0 = 0
    rw [hi]; rfl

theorem keys_apply (u : Fin 39) (h : Fin 2048) (k : Fin 1024) (e : Fin 8) (he : (tab m (ix2 1 u)).toNat = e.val) :
    iblk m hG c 1 (point m hG u) (ix3 0 h k) = m ((c : Thread nD τ).loc main_arg3) (ix3 e h k) := by
  have hv : V m c main_v99 = m ((c : Thread nD τ).loc main_arg3) := found_v99 m c
  rw [← hv]
  show V m c main_v99 ((((cfgM m hG).win 1).blk (point m hG u)).view.emb (ix3 0 h k)) = V m c main_v99 (ix3 e h k)
  refine congrArg (V m c main_v99) (funext fun a => Fin.ext ?_)
  have hi : cc0_transform_1 k0_off2_inb numel1_S1x1 (tbl m) (grid0.coords (point m hG u)) = ![(tab m (ix2 1 u)).toNat, 0, 0] := by
    rw [index_keys, word_point m hG 1 u]
  match a with
  | ⟨0, _⟩ =>
    show cc0_transform_1 k0_off2_inb numel1_S1x1 (tbl m) (grid0.coords (point m hG u)) 0 * 1 + 1 * 0 = e.val
    rw [hi]
    exact single he
  | ⟨1, _⟩ =>
    show cc0_transform_1 k0_off2_inb numel1_S1x1 (tbl m) (grid0.coords (point m hG u)) 1 * 2048 + 1 * h.val = h.val
    rw [hi]
    exact whole 2048 h.val
  | ⟨2, _⟩ =>
    show cc0_transform_1 k0_off2_inb numel1_S1x1 (tbl m) (grid0.coords (point m hG u)) 2 * 1024 + 1 * k.val = k.val
    rw [hi]
    exact whole 1024 k.val

theorem values_apply (u : Fin 39) (d : Fin 1024) (h : Fin 2048) (e : Fin 8) (he : (tab m (ix2 1 u)).toNat = e.val) :
    iblk m hG c 2 (point m hG u) (ix3 0 d h) = m ((c : Thread nD τ).loc main_arg4) (ix3 e d h) := by
  have hv : V m c main_v100 = m ((c : Thread nD τ).loc main_arg4) := found_v100 m c
  rw [← hv]
  show V m c main_v100 ((((cfgM m hG).win 2).blk (point m hG u)).view.emb (ix3 0 d h)) = V m c main_v100 (ix3 e d h)
  refine congrArg (V m c main_v100) (funext fun a => Fin.ext ?_)
  have hi : cc0_transform_2 k0_off2_inb numel1_S1x1 (tbl m) (grid0.coords (point m hG u)) = ![(tab m (ix2 1 u)).toNat, 0, 0] := by
    rw [index_values, word_point m hG 1 u]
  match a with
  | ⟨0, _⟩ =>
    show cc0_transform_2 k0_off2_inb numel1_S1x1 (tbl m) (grid0.coords (point m hG u)) 0 * 1 + 1 * 0 = e.val
    rw [hi]
    exact single he
  | ⟨1, _⟩ =>
    show cc0_transform_2 k0_off2_inb numel1_S1x1 (tbl m) (grid0.coords (point m hG u)) 1 * 1024 + 1 * d.val = d.val
    rw [hi]
    exact whole 1024 d.val
  | ⟨2, _⟩ =>
    show cc0_transform_2 k0_off2_inb numel1_S1x1 (tbl m) (grid0.coords (point m hG u)) 2 * 2048 + 1 * h.val = h.val
    rw [hi]
    exact whole 2048 h.val

/-! ## The running sum -/

/-- A unit's product, over its tile. -/
noncomputable def pay (u : Fin 39) : Vec Ideal S256x1024 .f32 :=
  k0_pay1 (F := Ideal) (tab m (ix2 2 u)) (tab m (ix2 3 u)) (iblk m hG c 0 (point m hG u)) (iblk m hG c 1 (point m hG u)) (iblk m hG c 2 (point m hG u)) (iblk m hG c 3 (point m hG u))

theorem step_marked (u : Fin 39) (hm : tab m (ix2 4 u) = 1#32) (x : Vec Ideal S256x1024 .f32) :
    step (tab m) (grid0.coords (point m hG u)) (iblk m hG c 0 (point m hG u)) (iblk m hG c 1 (point m hG u)) (iblk m hG c 2 (point m hG u)) (iblk m hG c 3 (point m hG u)) x
      = pay m hG c u := by
  unfold step pay
  simp only [word_point]
  rw [if_pos hm]

theorem step_kept (u : Fin 39) (hm : tab m (ix2 4 u) ≠ 1#32) (x : Vec Ideal S256x1024 .f32) (j : Fin 256) (d : Fin 1024) :
    step (tab m) (grid0.coords (point m hG u)) (iblk m hG c 0 (point m hG u)) (iblk m hG c 1 (point m hG u)) (iblk m hG c 2 (point m hG u)) (iblk m hG c 3 (point m hG u)) x (ix2 j d)
      = x (ix2 j d) + pay m hG c u (ix2 j d) := by
  unfold step pay
  simp only [word_point]
  rw [if_neg hm]
  exact ProductRead.pay2_apply ..

include hL in
/-- After a unit the output buffer holds the running sum of its tile. -/
theorem acc_apply (j : Fin 256) (d : Fin 1024) (n : Fin 39) : acc m hG c n.val (ix2 j d) = upTo (tab m) (fun u => pay m hG c u (ix2 j d)) n := by
  induction n using Fin.induction with
  | zero =>
    rw [upTo_new _ _ fun u hu => absurd hu (Fin.not_lt_zero u)]
    show acc m hG c 0 (ix2 j d) = _
    unfold acc
    rw [dif_pos (show 0 < (cfgM m hG).N from (by decide : 0 < grid0.N))]
    exact congrFun (step_marked m hG c 0 hL.first _) _
  | succ t ih =>
    have ht := t.isLt
    have hacc : acc m hG c t.succ.val = step (tab m) (grid0.coords (point m hG t.succ)) (iblk m hG c 0 (point m hG t.succ)) (iblk m hG c 1 (point m hG t.succ)) (iblk m hG c 2 (point m hG t.succ)) (iblk m hG c 3 (point m hG t.succ)) (acc m hG c t.val) := by
      show acc m hG c (t.val + 1) = _
      conv_lhs => unfold acc
      exact dif_pos (show t.val + 1 < (cfgM m hG).N from Nat.succ_lt_succ ht)
    rw [hacc]
    rcases hL.tile_step t with e | e
    · rw [step_kept m hG c t.succ e.2, upTo_kept _ t e.1]
      exact congrArg (· + _) ih
    · rw [step_marked m hG c t.succ e.2, upTo_marked hL _ t e.2]

/-! ## The array -/

theorem index_point (u : Fin 39) : ((cfgM m hG).win 4).indexMap (grid0.coords (point m hG u)) = ![tile (tab m) u, 0] := by
  show cc0_transform_4 k0_off1_inb numel1_S1x1 (tbl m) (grid0.coords (point m hG u)) = ![tile (tab m) u, 0]
  rw [index_out, word_point m hG 0 u]; rfl

/-- A unit's tile is written back exactly when the unit is the last or the next one's tile is another. -/
theorem flush_iff (u : Fin 39) : ((cfgM m hG).win 4).flush (point m hG u) = true ↔ u.val + 1 = 39 ∨ ∃ h : u.val + 1 < 39, tile (tab m) ⟨u.val + 1, h⟩ ≠ tile (tab m) u := by
  have hne : ∀ h : u.val + 1 < 39, ((cfgM m hG).win 4).indexMap (grid0.coords (point m hG ⟨u.val + 1, h⟩)) ≠ ((cfgM m hG).win 4).indexMap (grid0.coords (point m hG u))
      ↔ tile (tab m) ⟨u.val + 1, h⟩ ≠ tile (tab m) u := fun h => by
    rw [index_point, index_point]
    exact not_congr ⟨fun e => congrFun e 0, fun e => by rw [e]⟩
  rw [Window.flush_eq_flushOf]
  unfold Window.flushOf
  rw [Bool.and_eq_true, Bool.or_eq_true, decide_eq_true_eq, decide_eq_true_eq]
  refine ⟨fun h => h.2.imp id fun ⟨h', e⟩ => ⟨h', (hne h').mp e⟩, fun h => ⟨rfl, h.imp id fun ⟨h', e⟩ => ⟨h', (hne h').mpr e⟩⟩⟩

include hL in
/-- So then its tile has no later unit, -/
theorem last_of_flush (u : Fin 39) (hf : ((cfgM m hG).win 4).flush (point m hG u) = true) (v : Fin 39) (hv : u < v) : tile (tab m) v ≠ tile (tab m) u := by
  rcases (flush_iff m hG u).mp hf with e | ⟨h, e⟩
  · exact absurd (show u.val < v.val from hv) (by have := v.isLt; omega)
  · exact last_of_step hL (⟨u.val, by omega⟩ : Fin 38) e v hv

/-- and a tile's last unit writes it back. -/
theorem flush_of_last (u : Fin 39) (hu : ∀ v, u < v → tile (tab m) v ≠ tile (tab m) u) : ((cfgM m hG).win 4).flush (point m hG u) = true := by
  refine (flush_iff m hG u).mpr ?_
  rcases Nat.lt_or_ge (u.val + 1) 39 with h | h
  · exact .inr ⟨h, hu _ (Nat.lt_succ_self _)⟩
  · exact .inl (by have := u.isLt; omega)

/-- Where a block's element lies in the array. -/
noncomputable def place (u : Fin 39) (y : S256x1024.Idx) : S8192x1024.Idx := (((cfgM m hG).win 4).blk (point m hG u)).view.emb y
theorem place_rows (u : Fin 39) (j : Fin 256) (d : Fin 1024) : (place m hG u (ix2 j d) 0).val = tile (tab m) u * 256 + j.val := by
  have hi : cc0_transform_4 k0_off1_inb numel1_S1x1 (tbl m) (grid0.coords (point m hG u)) = ![tile (tab m) u, 0] := index_point m hG u
  show cc0_transform_4 k0_off1_inb numel1_S1x1 (tbl m) (grid0.coords (point m hG u)) 0 * 256 + 1 * j.val = _
  rw [hi]
  exact shifted rfl
theorem place_cols (u : Fin 39) (j : Fin 256) (d : Fin 1024) : (place m hG u (ix2 j d) 1).val = d.val := by
  have hi : cc0_transform_4 k0_off1_inb numel1_S1x1 (tbl m) (grid0.coords (point m hG u)) = ![tile (tab m) u, 0] := index_point m hG u
  show cc0_transform_4 k0_off1_inb numel1_S1x1 (tbl m) (grid0.coords (point m hG u)) 1 * 1024 + 1 * d.val = _
  rw [hi]
  exact whole 1024 d.val

theorem split_div {t j r : Nat} (hj : j < 256) (h : r = t * 256 + j) : r / 256 = t := by omega
theorem split_mod {t j r : Nat} (hj : j < 256) (h : r = t * 256 + j) : r % 256 = j := by omega
theorem join (r : Nat) : r / 256 * 256 + r % 256 = r := by omega

/-- An element's place in its tile. -/
def inTile (r : Fin 8192) : Fin 256 := ⟨r.val % 256, Nat.mod_lt _ (by omega)⟩

/-- What the result is at an element. -/
def total (i : S8192x1024.Idx) : EReal := ∑ u : Fin 39, if tile (tab m) u = (i 0).val / 256 then pay m hG c u (ix2 (inTile (i 0)) (i 1)) else 0

theorem total_place (u : Fin 39) (j : Fin 256) (d : Fin 1024) :
    total m hG c (place m hG u (ix2 j d)) = ∑ v : Fin 39, if tile (tab m) v = tile (tab m) u then pay m hG c v (ix2 j d) else 0 := by
  have h0 := split_div j.isLt (place_rows m hG u j d)
  have h1 : inTile (place m hG u (ix2 j d) 0) = j := Fin.ext (split_mod j.isLt (place_rows m hG u j d))
  have h2 : place m hG u (ix2 j d) 1 = d := Fin.ext (place_cols m hG u j d)
  unfold total
  rw [h0, h1, h2]

include hL in
theorem flushed_apply (u : Fin 39) (hf : ((cfgM m hG).win 4).flush (point m hG u) = true) (j : Fin 256) (d : Fin 1024) :
    acc m hG c u.val (ix2 j d) = total m hG c (place m hG u (ix2 j d)) :=
  ((acc_apply m hG hL c j d u).trans (upTo_last _ u (last_of_flush m hG hL u hf))).trans (total_place m hG c u j d).symm

include hL in
theorem covered (i : S8192x1024.Idx) : ∃ u : Fin 39, ((cfgM m hG).win 4).flush (point m hG u) = true ∧ ∃ y, place m hG u y = i := by
  have hi0 : (i 0).val < 8192 := (i 0).isLt
  obtain ⟨u, hu, hlast⟩ := exists_last hL ((i 0).val / 256) (by omega)
  refine ⟨u, flush_of_last m hG u (fun v hv => by rw [hu]; exact hlast v hv), ix2 (inTile (i 0)) (i 1), funext fun a => Fin.ext ?_⟩
  match a with
  | ⟨0, _⟩ =>
    refine (place_rows m hG u _ _).trans ?_
    rw [hu]
    exact join (i 0).val
  | ⟨1, _⟩ => exact place_cols m hG u _ _

include hL in
/-- The call's result: each element is the sum of its tile's units' products there. -/
theorem array_apply (i : S8192x1024.Idx) : ((dats m hG 0 c).arrAt 4 (cfgM m hG).N : S8192x1024.Idx → EReal) i = total m hG c i := by
  refine (dats m hG 0 c).arrAt_forall_of_cover 4 (fun (i : S8192x1024.Idx) (v : EReal) => v = total m hG c i) ?_ ?_ i
  · refine fun t hf (y : S256x1024.Idx) => ?_
    have hy := flushed_apply m hG hL c ⟨t.val, t.isLt⟩ hf (y 0) (y 1)
    have hq := congrFun (after_4 m hG c t) (ix2 (y 0) (y 1) : S256x1024.Idx)
    rw [← eq_ix2 y] at hy hq
    exact hq.trans hy
  · refine fun (i : S8192x1024.Idx) => ?_
    obtain ⟨u, hf, y, hy⟩ := covered m hG hL i
    exact ⟨point m hG u, hf, Finset.mem_map.mpr ⟨y, Finset.mem_univ _, hy⟩⟩

end Cert.Proof.ProductValue

end
-- ==== Proof.Product.Plan.lean ====
/- How the units go through the tiles, in numbers: runs of rows one after the other, each cut at the tiles' edges. -/
module

public import Mathlib.Algebra.BigOperators.Group.Finset.Basic
public import Mathlib.Order.Fin.Basic
public import Mathlib.Tactic.Common

@[expose] public section

namespace Cert.Proof.ProductPlan

/-- The runs of rows: run `k` goes from `L k` up to `L (k + 1)`, eight of them within the rows. -/
structure Runs (L : Nat → Nat) : Prop where
  zero : L 0 = 0
  all : L 8 ≤ 8192
  step : ∀ k, L k ≤ L (k + 1)

/-- How many tiles a run touches. -/
def tiles (L : Nat → Nat) (k : Nat) : Nat := if L k < L (k + 1) then (L (k + 1) - 1) / 256 - L k / 256 + 1 else 0

/-- How many units come before a run's. -/
def before (L : Nat → Nat) : Nat → Nat
  | 0 => 0
  | k + 1 => before L k + tiles L k

theorem before_succ (L : Nat → Nat) (k : Nat) : before L (k + 1) = before L k + tiles L k := rfl

variable {L : Nat → Nat} (h : Runs L)

include h in
theorem Runs.mono : Monotone L := monotone_nat_of_le_succ h.step

theorem before_mono : Monotone (before L) := monotone_nat_of_le_succ fun k => by rw [before_succ]; omega

theorem tiles_pos {k : Nat} (hk : L k < L (k + 1)) : tiles L k = (L (k + 1) - 1) / 256 - L k / 256 + 1 := if_pos hk
theorem tiles_zero {k : Nat} (hk : ¬ L k < L (k + 1)) : tiles L k = 0 := if_neg hk

include h in
/-- Up to a run there are enough units for the tiles begun, and not many more. -/
theorem bounds (k : Nat) : (L k = 0 → before L k = 0) ∧ (0 < L k → (L k - 1) / 256 + 1 ≤ before L k ∧ before L k ≤ (L k - 1) / 256 + k) := by
  induction k with
  | zero => exact ⟨fun _ => rfl, fun h0 => absurd h0 (by rw [h.zero]; omega)⟩
  | succ k ih =>
    have hs := h.step k
    rw [before_succ]
    by_cases hk : L k < L (k + 1)
    · rw [tiles_pos hk]
      refine ⟨fun e => by omega, fun _ => ?_⟩
      rcases Nat.eq_zero_or_pos (L k) with e | e
      · have := ih.1 e
        rw [this, e]
        omega
      · have := ih.2 e
        omega
    · rw [tiles_zero hk]
      have e : L (k + 1) = L k := by omega
      rw [e]
      exact ⟨fun e0 => ih.1 e0, fun e0 => by have := ih.2 e0; omega⟩

include h in
theorem before_le : before L 8 ≤ 39 := by
  have ha := h.all
  have hb := bounds h 8
  rcases Nat.eq_zero_or_pos (L 8) with e | e
  · have := hb.1 e; omega
  · have := hb.2 e; omega

include h in
/-- Where they cover all the rows they have a unit for every tile. -/
theorem le_before (hf : L 8 = 8192) : 32 ≤ before L 8 := by
  have := (bounds h 8).2 (by omega)
  omega

/-- Unit `u` is one of run `e`'s. -/
def Owns (L : Nat → Nat) (e u : Nat) : Prop := before L e ≤ u ∧ u < before L (e + 1)
instance (e u : Nat) : Decidable (Owns L e u) := by unfold Owns; infer_instance

theorem owner_unique {e e' u : Nat} (he : Owns L e u) (he' : Owns L e' u) : e = e' := by
  unfold Owns at he he'
  rcases Nat.lt_trichotomy e e' with q | q | q
  · have := before_mono (L := L) (show e + 1 ≤ e' from q); omega
  · exact q
  · have := before_mono (L := L) (show e' + 1 ≤ e from q); omega

theorem exists_owner {k u : Nat} (hu : u < before L k) : ∃ e < k, Owns L e u := by
  induction k with
  | zero => exact absurd hu (Nat.not_lt_zero _)
  | succ k ih =>
    by_cases hk : u < before L k
    · obtain ⟨e, he, ho⟩ := ih hk
      exact ⟨e, by omega, ho⟩
    · exact ⟨k, by omega, by omega, hu⟩

theorem Owns.lt_all {e u : Nat} (ho : Owns L e u) (he : e < 8) : u < before L 8 :=
  lt_of_lt_of_le ho.2 (before_mono (show e + 1 ≤ 8 from he))

/-- A run that owns a unit is not empty. -/
theorem Owns.run {e u : Nat} (ho : Owns L e u) : L e < L (e + 1) := by
  by_contra hn
  have := ho.2
  rw [before_succ, tiles_zero hn] at this
  have := ho.1
  omega

include h in
/-- Runs with no unit between them have no row between them. -/
theorem level {j k : Nat} (hjk : j ≤ k) (e : before L k = before L j) : L k = L j := by
  induction k with
  | zero => rw [Nat.le_zero.mp hjk]
  | succ k ih =>
    rcases Nat.lt_or_ge k j with q | q
    · rw [show j = k + 1 by omega]
    · have h1 := before_mono (L := L) q
      rw [before_succ] at e
      have ht : tiles L k = 0 := by omega
      have hk : ¬ L k < L (k + 1) := fun hk => by rw [tiles_pos hk] at ht; omega
      have := h.step k
      rw [← ih q (by omega)]
      omega

/-- The tile of a unit of run `e`. -/
def tileOf (L : Nat → Nat) (e u : Nat) : Nat := L e / 256 + (u - before L e)

/-- It is one that the run touches. -/
theorem Owns.tile_le {e u : Nat} (ho : Owns L e u) : L e / 256 ≤ tileOf L e u ∧ tileOf L e u ≤ (L (e + 1) - 1) / 256 := by
  have hr := ho.run
  have h1 := ho.1
  have h2 := ho.2
  rw [before_succ, tiles_pos hr] at h2
  unfold tileOf
  omega

include h in
theorem Owns.tile_lt {e u : Nat} (ho : Owns L e u) (he : e < 8) : tileOf L e u < 32 := by
  have := ho.tile_le
  have := h.mono (show e + 1 ≤ 8 from he)
  have := h.all
  omega

include h in
/-- The first unit is on the first tile. -/
theorem tile_first {e : Nat} (ho : Owns L e 0) : tileOf L e 0 = 0 := by
  have hb : before L e = 0 := Nat.le_zero.mp ho.1
  have hl : L e = L 0 := level h (Nat.zero_le e) hb
  unfold tileOf
  rw [hl, h.zero, hb]

include h in
/-- The last is on the last, where they cover all the rows. -/
theorem tile_last (hf : L 8 = 8192) {e u : Nat} (ho : Owns L e u) (he : e < 8) (hu : u + 1 = before L 8) : tileOf L e u = 31 := by
  have hr := ho.run
  have h1 := ho.1
  have h2 := ho.2
  have hm := before_mono (L := L) (show e + 1 ≤ 8 from he)
  have hb : before L 8 = before L (e + 1) := by omega
  have hl : L 8 = L (e + 1) := level h (show e + 1 ≤ 8 from he) hb
  rw [hf] at hl
  rw [hb, before_succ, tiles_pos hr] at hu
  unfold tileOf
  omega

include h in
/-- From a unit to the next the tile is the same or the next. -/
theorem tile_next {e e' u : Nat} (ho : Owns L e u) (ho' : Owns L e' (u + 1)) : tileOf L e' (u + 1) = tileOf L e u ∨ tileOf L e' (u + 1) = tileOf L e u + 1 := by
  have hr := ho.run
  have h1 := ho.1
  have h2 := ho.2
  have h1' := ho'.1
  have h2' := ho'.2
  rcases Nat.lt_trichotomy e e' with q | q | q
  · have hm := before_mono (L := L) (show e + 1 ≤ e' from q)
    have hb : before L e' = before L (e + 1) := by omega
    have hl : L e' = L (e + 1) := level h (show e + 1 ≤ e' from q) hb
    have hu : u + 1 = before L (e + 1) := by omega
    rw [before_succ, tiles_pos hr] at hu
    unfold tileOf
    rw [hb, hl, before_succ, tiles_pos hr]
    omega
  · subst q
    refine .inr ?_
    unfold tileOf
    omega
  · have hm := before_mono (L := L) (show e' + 1 ≤ e from q)
    omega

/-- The unit that gives row `r` to run `e`. -/
def unitOf (L : Nat → Nat) (e r : Nat) : Nat := before L e + (r / 256 - L e / 256)

theorem owns_unit {e r : Nat} (hl : L e ≤ r) (hr : r < L (e + 1)) : Owns L e (unitOf L e r) := by
  unfold Owns unitOf
  rw [before_succ, tiles_pos (show L e < L (e + 1) by omega)]
  omega

theorem tile_unit {e r : Nat} (hl : L e ≤ r) : tileOf L e (unitOf L e r) = r / 256 := by
  unfold tileOf unitOf
  omega

/-- It is the only one of the run's on the row's tile. -/
theorem unit_unique {e u r : Nat} (ho : Owns L e u) (ht : tileOf L e u = r / 256) : u = unitOf L e r := by
  have := ho.1
  unfold tileOf at ht
  unfold unitOf
  omega

end Cert.Proof.ProductPlan
-- ==== Proof.Product.Small.lean ====
/- Arithmetic of words on small numbers: the words' tests and quotients are the numbers'. -/
module

public import Idealize.ShloMosaic.PureOps.Vector

@[expose] public section

namespace Cert.Proof.SmallWords

open Idealize.ShloMosaic

theorem toInt_small {n : Nat} (h : n < 2 ^ 31) : (BitVec.ofNat 32 n).toInt = n := by
  rw [BitVec.toInt_eq_toNat_cond, BitVec.toNat_ofNat, Nat.mod_eq_of_lt (by omega), if_pos (by omega)]

theorem slt_small {a b : Nat} (ha : a < 2 ^ 31) (hb : b < 2 ^ 31) : (BitVec.ofNat 32 a).slt (BitVec.ofNat 32 b) = decide (a < b) := by
  rw [BitVec.slt_eq_decide, toInt_small ha, toInt_small hb]
  exact decide_eq_decide.mpr Int.ofNat_lt
theorem sle_small {a b : Nat} (ha : a < 2 ^ 31) (hb : b < 2 ^ 31) : (BitVec.ofNat 32 a).sle (BitVec.ofNat 32 b) = decide (a ≤ b) := by
  rw [BitVec.sle_eq_decide, toInt_small ha, toInt_small hb]
  exact decide_eq_decide.mpr Int.ofNat_le

theorem lt_bit {a b : Nat} (ha : a < 2 ^ 31) (hb : b < 2 ^ 31) : IntOp.cmpi .slt (BitVec.ofNat 32 a) (BitVec.ofNat 32 b) = BitVec.ofBool (decide (a < b)) :=
  congrArg BitVec.ofBool (slt_small ha hb)
theorem gt_bit {a b : Nat} (ha : a < 2 ^ 31) (hb : b < 2 ^ 31) : IntOp.cmpi .sgt (BitVec.ofNat 32 a) (BitVec.ofNat 32 b) = BitVec.ofBool (decide (b < a)) :=
  congrArg BitVec.ofBool (slt_small hb ha)
theorem ge_bit {a b : Nat} (ha : a < 2 ^ 31) (hb : b < 2 ^ 31) : IntOp.cmpi .sge (BitVec.ofNat 32 a) (BitVec.ofNat 32 b) = BitVec.ofBool (decide (b ≤ a)) :=
  congrArg BitVec.ofBool (sle_small hb ha)

theorem ofNat_inj {a b : Nat} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · exact fun h => h ▸ rfl

theorem and_bits (p q : Bool) : IntOp.andi (BitVec.ofBool p) (BitVec.ofBool q) = BitVec.ofBool (p && q) := by
  cases p <;> cases q <;> rfl

theorem bit_iff (p : Bool) : BitVec.ofBool p = 1#1 ↔ p = true := by cases p <;> decide

theorem msb_small {n : Nat} (h : n < 2 ^ 31) : (BitVec.ofNat 32 n).msb = false := by
  rw [BitVec.msb_eq_decide, BitVec.toNat_ofNat, decide_eq_false_iff_not, Nat.mod_eq_of_lt (by omega)]
  show ¬ 2 ^ 31 ≤ n
  omega

theorem div_small {n : Nat} (h : n < 2 ^ 31) : IntOp.divsi .host (BitVec.ofNat 32 n) 256#32 = BitVec.ofNat 32 (n / 256) := by
  have hc : ¬ IntOp.SDivCorner (BitVec.ofNat 32 n) 256#32 := by
    unfold IntOp.SDivCorner
    rintro (q | ⟨-, q⟩)
    · exact absurd q (by decide)
    · exact absurd q (by decide)
  have h256 : (256#32 : BitVec 32).msb = false := by decide
  unfold IntOp.divsi
  rw [if_neg hc, BitVec.sdiv_eq, msb_small h, h256]
  apply BitVec.eq_of_toNat_eq
  show ((BitVec.ofNat 32 n) / 256#32).toNat = _
  rw [BitVec.toNat_udiv, BitVec.toNat_ofNat, BitVec.toNat_ofNat, BitVec.toNat_ofNat, Nat.mod_eq_of_lt (by omega : n < 2 ^ 32),
    Nat.mod_eq_of_lt (by omega : n / 256 < 2 ^ 32)]

theorem rem_zero : IntOp.remsi .host 0#32 256#32 = 0#32 := by
  have hc : ¬ IntOp.SDivCorner 0#32 256#32 := by
    unfold IntOp.SDivCorner
    rintro (q | ⟨-, q⟩)
    · exact absurd q (by decide)
    · exact absurd q (by decide)
  unfold IntOp.remsi
  rw [if_neg hc]
  decide

/-- A number cut to what is between another and 256 more, from the other. -/
theorem cut {x t : Nat} (hx : x < 2 ^ 30) (ht : t < 2 ^ 30) :
    IntOp.minsi 256#32 (IntOp.maxsi 0#32 (BitVec.ofNat 32 x - BitVec.ofNat 32 t)) = BitVec.ofNat 32 (min 256 (x - t)) := by
  have hz : ∀ d : Nat, d < 2 ^ 31 → IntOp.maxsi 0#32 (BitVec.ofNat 32 d) = BitVec.ofNat 32 d := by
    intro d hd
    unfold IntOp.maxsi
    rw [slt_small (b := 0) hd (by omega)]
    simp
  rcases Nat.lt_or_ge x t with q | q
  · have hm : IntOp.maxsi 0#32 (BitVec.ofNat 32 x - BitVec.ofNat 32 t) = 0#32 := by
      unfold IntOp.maxsi
      have hi : (BitVec.ofNat 32 x - BitVec.ofNat 32 t).toInt < 0 := by
        rw [BitVec.toInt_eq_toNat_cond, BitVec.toNat_sub, BitVec.toNat_ofNat, BitVec.toNat_ofNat]
        omega
      rw [BitVec.slt_eq_decide, if_pos]
      rw [decide_eq_true_eq]
      exact hi
    rw [hm, show x - t = 0 by omega]
    decide
  · obtain ⟨d, rfl⟩ := Nat.exists_eq_add_of_le q
    have hs : BitVec.ofNat 32 (t + d) - BitVec.ofNat 32 t = BitVec.ofNat 32 d := by
      rw [BitVec.ofNat_add, BitVec.add_comm]
      exact BitVec.add_sub_cancel _ _
    rw [hs, hz d (by omega), show t + d - t = d by omega]
    unfold IntOp.minsi
    rw [slt_small (a := 256) (by omega) (by omega : d < 2 ^ 31)]
    by_cases hd : 256 < d
    · rw [if_pos (decide_eq_true hd), Nat.min_eq_left (by omega)]
    · rw [if_neg (by simpa using hd), Nat.min_eq_right (by omega)]

end Cert.Proof.SmallWords

end
-- ==== Proof.Product.UnitsValue.lean ====
/- The table's operations on small numbers: each is the plan's. -/
module

public import proofs.«01_k».proof.Proof.Product.Units
public import proofs.«01_k».proof.Proof.Product.Plan
public import proofs.«01_k».proof.Proof.Product.Small
public import Idealize.ShloMosaic.Lib.Pointwise

@[expose] public section

noncomputable section

namespace Cert.Product.Units

open Idealize.ShloMosaic Idealize.ShloMosaic.TcCoe
open Idealize.ShloMosaic.Routing
open Cert.Product Cert.Product.Gen
open Cert.Proof.ProductPlan (Runs before tiles Owns)
open Cert.Proof.SmallWords Cert.Proof.Words

attribute [local instance] Cert.Proof.ExpandFacts.facts

/-! ## Two operations -/

theorem at8_apply (v : BitVec 32) (c : Fin 8) : at8 v (ix1 c) = v := bc0 bcast_S_S8 _ _
theorem at39_apply (v : BitVec 32) (u : Fin 39) : at39 v (ix1 u) = v := bc0 bcast_S_S39 _ _

theorem foldl_ori {ι : Type} (x : ι → BitVec 1) : ∀ (l : List ι) (v : BitVec 1),
    l.foldl (fun r n => IntOp.ori r (x n)) v = 1#1 ↔ v = 1#1 ∨ ∃ n ∈ l, x n = 1#1
  | [], v => by simp
  | a :: l, v => by
    have h : ∀ p q : BitVec 1, IntOp.ori p q = 1#1 ↔ p = 1#1 ∨ q = 1#1 := by decide
    rw [List.foldl_cons, foldl_ori x l, h]
    simp only [List.mem_cons, exists_eq_or_imp, or_assoc]

/-- A row's bits, joined. -/
theorem reduce_ori_row {n k : Nat} (x : IVec (shape2 n k) 1) (h : (shape2 n k).ReducesTo [1] (shape1 n)) (hu : 0 < shape0.numel) (i : Fin n) :
    Host.reduce IntOp.ori x (constantI shape0 1 0#1) h hu (ix1 i) = 1#1 ↔ ∃ c : Fin k, x (ix2 i c) = 1#1 := by
  have hd : ∀ p : (shape2 n k).Idx, h.drop p = ix1 i ↔ p 0 = i := by
    intro p
    have hv : (h.drop p 0 : Nat) = p 0 := Shape.ReducesTo.drop_apply_val h p 0
    constructor
    · intro e; rw [e] at hv; exact Fin.ext hv.symm
    · intro e; funext b; have hb : b = 0 := Subsingleton.elim _ _; subst hb; exact Fin.ext (by rw [hv, e]; rfl)
  unfold Host.reduce
  rw [foldl_ori]
  constructor
  · rintro (q | ⟨m, hm, hx⟩)
    · exact absurd (show (0#1 : BitVec 1) = 1#1 from q) (by decide)
    · rw [List.mem_filter, decide_eq_true_eq, hd] at hm
      refine ⟨(shape2 n k).rowMajor.symm m 1, ?_⟩
      rw [← hx]
      refine congrArg x (funext fun b => ?_)
      match b with
      | ⟨0, _⟩ => exact hm.2.symm
      | ⟨1, _⟩ => rfl
  · rintro ⟨c, hc⟩
    refine .inr ⟨(shape2 n k).rowMajor (ix2 i c), ?_, ?_⟩
    · rw [List.mem_filter, decide_eq_true_eq, hd, Equiv.symm_apply_apply]
      exact ⟨List.mem_finRange _, rfl⟩
    · rw [Equiv.symm_apply_apply]; exact hc

/-! ## The experts' tiles -/

theorem tileAt_val (x : IVec S8 32) (c : Fin 8) (n : Nat) (hn : n < 2 ^ 30) (hx : x (ix1 c) = BitVec.ofNat 32 n) : tileAt x (ix1 c) = BitVec.ofNat 32 (n / 256) := by
  have hq : Host.divsi x (at8 256#32) (ix1 c) = BitVec.ofNat 32 (n / 256) := by
    show IntOp.divsi .host (x (ix1 c)) (at8 256#32 (ix1 c)) = _
    rw [hx, at8_apply]
    exact div_small (by omega)
  have hs : (broadcastInDim S8 ![] bcast_S_S8 (signi (constantI S_ 32 256#32))) (ix1 c) = 1#32 := (bc0 bcast_S_S8 _ _).trans (by decide)
  have hb : andi (cmpi .ne (signi x) (broadcastInDim S8 ![] bcast_S_S8 (signi (constantI S_ 32 256#32)))) (cmpi .ne (Host.remsi x (at8 256#32)) (at8 0#32)) (ix1 c) = 0#1 := by
    show IntOp.andi (IntOp.cmpi .ne (if x (ix1 c) = 0 then 0 else if (x (ix1 c)).msb then -1 else 1) ((broadcastInDim S8 ![] bcast_S_S8 (signi (constantI S_ 32 256#32))) (ix1 c)))
      (IntOp.cmpi .ne (IntOp.remsi .host (x (ix1 c)) (at8 256#32 (ix1 c))) (at8 0#32 (ix1 c))) = 0#1
    rw [hs, at8_apply, at8_apply, hx]
    by_cases h0 : n = 0
    · subst h0
      show IntOp.andi _ (IntOp.cmpi .ne (IntOp.remsi .host 0#32 256#32) 0#32) = 0#1
      rw [rem_zero]
      decide
    · have hne : BitVec.ofNat 32 n ≠ 0 := fun q => h0 ((ofNat_inj (b := 0) (by omega) (by omega)).mp q)
      rw [if_neg hne, msb_small (by omega)]
      have : ∀ b : BitVec 1, IntOp.andi (IntOp.cmpi .ne (1#32) 1#32) b = 0#1 := by decide
      exact this _
  unfold tileAt
  show (if _ = 1#1 then _ else _) = _
  rw [hb, if_neg (by decide)]
  exact hq

variable {L : Nat → Nat} (h : Runs L)

include h in
theorem le_all {k : Nat} (hk : k ≤ 8) : L k ≤ 8192 := le_trans (h.mono hk) h.all

include h in
theorem touched_val {n lo hi : IVec S8 32} (hn : ∀ c : Fin 8, n (ix1 c) = BitVec.ofNat 32 (L (c.val + 1) - L c.val)) (hlo : ∀ c : Fin 8, lo (ix1 c) = BitVec.ofNat 32 (L c.val))
    (hhi : ∀ c : Fin 8, hi (ix1 c) = BitVec.ofNat 32 (L (c.val + 1))) (c : Fin 8) : touched n lo hi (ix1 c) = BitVec.ofNat 32 (tiles L c.val) := by
  have h1 := le_all h (show c.val + 1 ≤ 8 from c.isLt)
  have h0 := h.step c.val
  have hc : cmpi .sgt n (at8 0#32) (ix1 c) = BitVec.ofBool (decide (0 < L (c.val + 1) - L c.val)) := by
    show IntOp.cmpi .sgt (n (ix1 c)) (at8 0#32 (ix1 c)) = _
    rw [hn, at8_apply]
    exact gt_bit (b := 0) (by omega) (by omega)
  unfold touched
  show (if cmpi .sgt n (at8 0#32) (ix1 c) = 1#1 then (tileAt (subi hi (at8 1#32)) (ix1 c) - tileAt lo (ix1 c)) + at8 1#32 (ix1 c) else at8 0#32 (ix1 c)) = _
  rw [hc]
  by_cases hr : L c.val < L (c.val + 1)
  · have hl : subi hi (at8 1#32) (ix1 c) = BitVec.ofNat 32 (L (c.val + 1) - 1) := by
      show hi (ix1 c) - at8 1#32 (ix1 c) = _
      rw [hhi, at8_apply]
      obtain ⟨k, hk⟩ : ∃ k, L (c.val + 1) = k + 1 := ⟨L (c.val + 1) - 1, by omega⟩
      rw [hk]
      exact ofNat_sub k 1
    rw [if_pos ((bit_iff _).mpr (decide_eq_true (by omega))), tileAt_val _ c _ (by omega) hl, tileAt_val _ c _ (by omega) (hlo c), at8_apply,
      Cert.Proof.ProductPlan.tiles_pos hr]
    obtain ⟨d, hd⟩ := Nat.exists_eq_add_of_le (show L c.val / 256 ≤ (L (c.val + 1) - 1) / 256 from Nat.div_le_div_right (by omega))
    rw [hd, Nat.add_comm (L c.val / 256) d, ofNat_sub, Nat.add_sub_cancel]
    exact (BitVec.ofNat_add d 1).symm
  · rw [if_neg (fun q => hr (by have := of_decide_eq_true ((bit_iff _).mp q); omega)), Cert.Proof.ProductPlan.tiles_zero hr]
    exact at8_apply _ _

theorem sum_tiles (k : Nat) : ((List.range k).map (tiles L)).sum = before L k := by
  induction k with
  | zero => rfl
  | succ k ih => rw [List.range_succ, List.map_append, List.sum_append, ih]; rfl

theorem earlier_val {t : IVec S8 32} (ht : ∀ c : Fin 8, t (ix1 c) = BitVec.ofNat 32 (tiles L c.val)) (c : Fin 8) : earlier t (ix1 c) = BitVec.ofNat 32 (before L c.val) := by
  have hs := (cumsum1 (N := 8) (Nm1 := 7) rfl t (tiles L) ht (broadcastInDim S_ ![] bcast_S_S_ (constantI S_ 32 0#32)) rfl reduceWindows_S8_S8_w8s1p7_0 h_S_ c)
  rw [sum_tiles] at hs
  unfold earlier
  exact (congrArg₂ (fun a b : BitVec 32 => a - b) hs (ht c)).trans (ofNat_sub (before L c.val) (tiles L c.val))

/-! ## The units -/

theorem across_apply (x : IVec S8 32) (u : Fin 39) (c : Fin 8) : across x (ix2 u c) = x (ix1 c) := bcCols bcast_S8_S1x8_1 bcast_S1x8_S39x8_0_1 x u c
theorem down_apply (u : Fin 39) (c : Fin 8) : down (ix2 u c) = BitVec.ofNat 32 u.val := bcRows bcast_S39_S39x1_0 bcast_S39x1_S39x8_0_1 (iotaInDim S39 32 0) u c

section
variable {t s : IVec S8 32} (ht : ∀ c : Fin 8, t (ix1 c) = BitVec.ofNat 32 (tiles L c.val)) (hs : ∀ c : Fin 8, s (ix1 c) = BitVec.ofNat 32 (before L c.val))

include h in
theorem before_small {k : Nat} (hk : k ≤ 8) : before L k ≤ 39 :=
  le_trans (Cert.Proof.ProductPlan.before_mono hk) (Cert.Proof.ProductPlan.before_le h)

include h ht hs in
theorem owns_val (u : Fin 39) (c : Fin 8) : owns t s (ix2 u c) = BitVec.ofBool (decide (Owns L c.val u.val)) := by
  have h1 := before_small h (show c.val + 1 ≤ 8 from c.isLt)
  have h0 := before_small h (show c.val ≤ 8 from c.isLt.le)
  have hu := u.isLt
  unfold owns
  show IntOp.andi (IntOp.cmpi .sge (down (ix2 u c)) (across s (ix2 u c))) (IntOp.cmpi .slt (down (ix2 u c)) (across (addi s t) (ix2 u c))) = _
  rw [down_apply, across_apply, across_apply]
  show IntOp.andi _ (IntOp.cmpi .slt _ (s (ix1 c) + t (ix1 c))) = _
  rw [hs, ht, ← BitVec.ofNat_add, ← Cert.Proof.ProductPlan.before_succ, ge_bit (by omega) (by omega), lt_bit (by omega) (by omega), and_bits]
  refine congrArg BitVec.ofBool (Bool.eq_iff_iff.mpr ?_)
  rw [Bool.and_eq_true, decide_eq_true_eq, decide_eq_true_eq, decide_eq_true_eq]
  rfl

include h ht hs in
theorem used_iff (u : Fin 39) : used (owns t s) (ix1 u) = 1#1 ↔ u.val < before L 8 := by
  unfold used
  refine (reduce_ori_row (owns t s) reducesTo_S39x8_S39_d1 h_S_ u).trans ?_
  constructor
  · rintro ⟨c, hc⟩
    rw [owns_val h ht hs, bit_iff, decide_eq_true_eq] at hc
    exact hc.lt_all c.isLt
  · intro hu
    obtain ⟨e, he, ho⟩ := Cert.Proof.ProductPlan.exists_owner hu
    refine ⟨⟨e, he⟩, ?_⟩
    rw [owns_val h ht hs, bit_iff, decide_eq_true_eq]
    exact ho

include h ht hs in
theorem owner_val (u : Fin 39) (c : Fin 8) (ho : Owns L c.val u.val) : owner (owns t s) (ix1 u) = BitVec.ofNat 32 c.val := by
  unfold owner
  refine (reduce_row _ reducesTo_S39x8_S39_d1 h_S_ u c fun q hq => ?_).trans ?_
  · show (if owns t s (ix2 u q) = 1#1 then _ else (broadcastInDim S39x8 ![] bcast_S_S39x8 (constantI S_ 32 0#32)) (ix2 u q)) = 0#32
    rw [if_neg]
    · exact bc0 bcast_S_S39x8 _ _
    · rw [owns_val h ht hs, bit_iff, decide_eq_true_eq]
      exact fun ho' => hq (Fin.ext (Cert.Proof.ProductPlan.owner_unique ho' ho))
  · show (if owns t s (ix2 u c) = 1#1 then across (iotaInDim S8 32 0) (ix2 u c) else _) = _
    rw [if_pos]
    · exact across_apply _ _ _
    · rw [owns_val h ht hs, bit_iff, decide_eq_true_eq]
      exact ho
end

theorem take_val (x : IVec S8 32) {o : IVec S39 32} (u : Fin 39) (c : Fin 8) (ho : o (ix1 u) = BitVec.ofNat 32 c.val) : take x o (ix1 u) = x (ix1 c) := by
  have hc := c.isLt
  have hb : cmpi .slt o (at39 0#32) (ix1 u) = 0#1 := by
    show IntOp.cmpi .slt (o (ix1 u)) (at39 0#32 (ix1 u)) = _
    rw [ho, at39_apply]
    exact (lt_bit (b := 0) (by omega) (by omega)).trans (by simp)
  have hv : select (cmpi .slt o (at39 0#32)) (addi o (at39 8#32)) o (ix1 u) = BitVec.ofNat 32 c.val := by
    show (if cmpi .slt o (at39 0#32) (ix1 u) = 1#1 then _ else o (ix1 u)) = _
    rw [hb, if_neg (by decide), ho]
  exact take_ap gather_S8_S39x1_S39_n_0_n_n_0_1_1 rfl rfl rfl rfl x _ u c.isLt (by omega) ((bcCol bcast_S39_S39x1_0 _ u).trans hv)

theorem column_apply (u : Fin 39) : shapeCast S39 column shapeCasts_S39x1_S39 (ix1 u) = BitVec.ofNat 32 u.val := by
  have hc : column (ix2 u 0) = BitVec.ofNat 32 u.val := bcCol bcast_S39_S39x1_0 (iotaInDim S39 32 0) u
  rw [← hc]
  pointwise

theorem tileOf_val {tl s : IVec S8 32} (htl : ∀ c : Fin 8, tl (ix1 c) = BitVec.ofNat 32 (L c.val / 256)) (hs : ∀ c : Fin 8, s (ix1 c) = BitVec.ofNat 32 (before L c.val))
    {o : IVec S39 32} (u : Fin 39) (c : Fin 8) (ho : Owns L c.val u.val) (hv : o (ix1 u) = BitVec.ofNat 32 c.val) :
    tileOf tl s o (ix1 u) = BitVec.ofNat 32 (Cert.Proof.ProductPlan.tileOf L c.val u.val) := by
  unfold tileOf
  show take tl o (ix1 u) + (shapeCast S39 column shapeCasts_S39x1_S39 (ix1 u) - take s o (ix1 u)) = _
  rw [take_val tl u c hv, take_val s u c hv, htl, hs, column_apply]
  obtain ⟨d, hd⟩ := Nat.exists_eq_add_of_le ho.1
  unfold Cert.Proof.ProductPlan.tileOf
  rw [hd, Nat.add_sub_cancel_left, Nat.add_comm (before L c.val) d, ofNat_sub]
  exact (BitVec.ofNat_add _ _).symm

theorem offset_val {x : IVec S8 32} {o t : IVec S39 32} (u : Fin 39) (c : Fin 8) (n k : Nat) (hn : n < 2 ^ 20) (hk : k < 2 ^ 20) (hv : o (ix1 u) = BitVec.ofNat 32 c.val)
    (hx : x (ix1 c) = BitVec.ofNat 32 n) (ht : t (ix1 u) = BitVec.ofNat 32 k) : offset x o t (ix1 u) = BitVec.ofNat 32 (min 256 (n - k * 256)) := by
  unfold offset
  show IntOp.minsi (at39 256#32 (ix1 u)) (IntOp.maxsi (at39 0#32 (ix1 u)) (take x o (ix1 u) - t (ix1 u) * at39 256#32 (ix1 u))) = _
  rw [at39_apply, at39_apply, take_val x u c hv, hx, ht, ← BitVec.ofNat_mul]
  exact cut (by omega) (by omega)

/-! ## The table's rows -/

theorem orElse_of {o : IVec S39 1} {u : Fin 39} (hu : o (ix1 u) = 1#1) (x : IVec S39 32) (v : BitVec 32) : orElse o x v (ix1 u) = x (ix1 u) := by
  show (if o (ix1 u) = 1#1 then x (ix1 u) else _) = _
  rw [if_pos hu]
theorem orElse_not {o : IVec S39 1} {u : Fin 39} (hu : o (ix1 u) ≠ 1#1) (x : IVec S39 32) (v : BitVec 32) : orElse o x v (ix1 u) = v := by
  show (if o (ix1 u) = 1#1 then x (ix1 u) else at39 v (ix1 u)) = _
  rw [if_neg hu, at39_apply]

theorem stack0 (a b c d e f : IVec S39 32) (u : Fin 39) : stack a b c d e f (ix2 0 u) = a (ix1 u) := by
  unfold stack line; pointwise
theorem stack1 (a b c d e f : IVec S39 32) (u : Fin 39) : stack a b c d e f (ix2 1 u) = b (ix1 u) := by
  unfold stack line; pointwise
theorem stack2 (a b c d e f : IVec S39 32) (u : Fin 39) : stack a b c d e f (ix2 2 u) = c (ix1 u) := by
  unfold stack line; pointwise
theorem stack3 (a b c d e f : IVec S39 32) (u : Fin 39) : stack a b c d e f (ix2 3 u) = d (ix1 u) := by
  unfold stack line; pointwise
theorem stack4 (a b c d e f : IVec S39 32) (u : Fin 39) : stack a b c d e f (ix2 4 u) = e (ix1 u) := by
  unfold stack line; pointwise

theorem firsts_zero (o : IVec S39 1) (t : IVec S39 32) : firsts o t (ix1 0) = o (ix1 0) := by
  have hc : (concatenate S39 0 [⟨S1, broadcastInDim S1 ![] bcast_S_S1 (constantI S_ 1 1#1)⟩,
    ⟨S38, cmpi .ne (extractStridedSlice S38 ![1] t slices_S39_S38_1) (extractStridedSlice S38 ![0] t slices_S39_S38_0)⟩] concatenates_S1_S38_S39_d0) (ix1 0) = 1#1 := by
    pointwise
  show IntOp.andi (o (ix1 0)) _ = _
  rw [hc]
  have : ∀ b : BitVec 1, IntOp.andi b 1#1 = b := by decide
  exact this _

theorem firsts_succ (o : IVec S39 1) (t : IVec S39 32) (u : Fin 38) :
    firsts o t (ix1 u.succ) = IntOp.andi (o (ix1 u.succ)) (IntOp.cmpi .ne (t (ix1 u.succ)) (t (ix1 u.castSucc))) := by
  have hv : u.succ.val = u.val + 1 := rfl
  have hc : (concatenate S39 0 [⟨S1, broadcastInDim S1 ![] bcast_S_S1 (constantI S_ 1 1#1)⟩,
    ⟨S38, cmpi .ne (extractStridedSlice S38 ![1] t slices_S39_S38_1) (extractStridedSlice S38 ![0] t slices_S39_S38_0)⟩] concatenates_S1_S38_S39_d0) (ix1 u.succ)
      = IntOp.cmpi .ne (t (ix1 u.succ)) (t (ix1 u.castSucc)) := by
    pointwise
    rw [dif_neg (by omega)]
    exact congrArg₂ (IntOp.cmpi .ne) (congrArg (fun z : Fin 39 => t (ix1 z)) (Fin.ext (by show 1 + (u.succ.val - 1) = u.succ.val; omega)))
      (congrArg (fun z : Fin 39 => t (ix1 z)) (Fin.ext (by show u.succ.val - 1 = u.val; omega)))
  exact congrArg (IntOp.andi (o (ix1 u.succ))) hc

end Cert.Product.Units

end
-- ==== Proof.Product.Made.lean ====
/- The table made of the experts chosen: its rows are the plan's, and the call can run on it. -/
module

public import proofs.«01_k».proof.Proof.Product.UnitsValue
public import proofs.«01_k».proof.Proof.Product.Table

@[expose] public section

noncomputable section

namespace Cert.Proof.ProductMade

open Idealize.ShloMosaic Idealize.ShloMosaic.TcCoe
open Cert.Product Cert.Product.Gen Cert.Product.Units
open Cert.Product.Work (Tab Ranges)
open Cert.Expand.Route (keys keyAt keyOf keyOf_lt keyAt_val totals_val starts_val)
open Cert.Proof.ProductPlan (Runs before tiles Owns before_le le_before exists_owner)
open Cert.Proof.SmallWords Cert.Proof.Words
open Cert.Proof.ProductTable (Lists)

attribute [local instance] Cert.Proof.ExpandFacts.facts

/-- What the table's rows are, by the plan: a used unit's tile, expert and ends; an unused one's; and which are the first of their tile. -/
structure Made (L : Nat → Nat) (f : Tab) : Prop where
  tile : ∀ (u : Fin 39) (c : Fin 8), Owns L c.val u.val → f (ix2 0 u) = BitVec.ofNat 32 (ProductPlan.tileOf L c.val u.val)
  expert : ∀ (u : Fin 39) (c : Fin 8), Owns L c.val u.val → f (ix2 1 u) = BitVec.ofNat 32 c.val
  lo : ∀ (u : Fin 39) (c : Fin 8), Owns L c.val u.val → f (ix2 2 u) = BitVec.ofNat 32 (min 256 (L c.val - ProductPlan.tileOf L c.val u.val * 256))
  hi : ∀ (u : Fin 39) (c : Fin 8), Owns L c.val u.val → f (ix2 3 u) = BitVec.ofNat 32 (min 256 (L (c.val + 1) - ProductPlan.tileOf L c.val u.val * 256))
  tileNot : ∀ u : Fin 39, ¬ u.val < before L 8 → f (ix2 0 u) = 31#32
  expertNot : ∀ u : Fin 39, ¬ u.val < before L 8 → f (ix2 1 u) = 7#32
  loNot : ∀ u : Fin 39, ¬ u.val < before L 8 → f (ix2 2 u) = 0#32
  hiNot : ∀ u : Fin 39, ¬ u.val < before L 8 → f (ix2 3 u) = 0#32
  first : 0 < before L 8 → f (ix2 4 0) = 1#32
  firsts : ∀ u : Fin 38, f (ix2 4 u.succ) = 1#32 ↔ u.succ.val < before L 8 ∧ f (ix2 0 u.succ) ≠ f (ix2 0 u.castSucc)

section
variable {L : Nat → Nat} (h : Runs L)

theorem wide_iff (b : BitVec 1) : b.setWidth 32 = 1#32 ↔ b = 1#1 := by revert b; decide
theorem and_iff (a b : BitVec 1) : IntOp.andi a b = 1#1 ↔ a = 1#1 ∧ b = 1#1 := by revert a b; decide
theorem ne_iff (a b : BitVec 32) : IntOp.cmpi .ne a b = 1#1 ↔ a ≠ b := by
  show BitVec.ofBool (a != b) = 1#1 ↔ _
  rw [bit_iff, bne_iff_ne]

include h in
theorem made_build {lo hi tl n : IVec S8 32} (hlo : ∀ c : Fin 8, lo (ix1 c) = BitVec.ofNat 32 (L c.val)) (hhi : ∀ c : Fin 8, hi (ix1 c) = BitVec.ofNat 32 (L (c.val + 1)))
    (htl : ∀ c : Fin 8, tl (ix1 c) = BitVec.ofNat 32 (L c.val / 256)) (hn : ∀ c : Fin 8, n (ix1 c) = BitVec.ofNat 32 (tiles L c.val)) : Made L (build lo hi tl n) := by
  have hs := earlier_val hn
  have hu := used_iff h hn hs
  have hw := owner_val h hn hs
  unfold build finish
  generalize earlier n = s at hs hu hw ⊢
  have hb : ∀ (u : Fin 39) (c : Fin 8), Owns L c.val u.val → used (owns n s) (ix1 u) = 1#1 := fun u c ho => (hu u).mpr (ho.lt_all c.isLt)
  have ht : ∀ (u : Fin 39) (c : Fin 8), Owns L c.val u.val → tileOf tl s (owner (owns n s)) (ix1 u) = BitVec.ofNat 32 (ProductPlan.tileOf L c.val u.val) :=
    fun u c ho => tileOf_val htl hs u c ho (hw u c ho)
  have hlt : ∀ (u : Fin 39) (c : Fin 8), Owns L c.val u.val → ProductPlan.tileOf L c.val u.val < 2 ^ 20 := fun u c ho => lt_trans (ho.tile_lt h c.isLt) (by omega)
  have hL : ∀ k, k ≤ 8 → L k < 2 ^ 20 := fun k hk => lt_of_le_of_lt (le_all h hk) (by omega)
  generalize tileOf tl s (owner (owns n s)) = t at ht ⊢
  generalize owner (owns n s) = w at hw ⊢
  generalize used (owns n s) = o at hu hb ⊢
  constructor
  · intro u c ho
    rw [stack0, orElse_of (hb u c ho), ht u c ho]
  · intro u c ho
    rw [stack1, orElse_of (hb u c ho), hw u c ho]
  · intro u c ho
    rw [stack2, orElse_of (hb u c ho)]
    exact offset_val u c _ _ (hL _ c.isLt.le) (hlt u c ho) (hw u c ho) (hlo c) (ht u c ho)
  · intro u c ho
    rw [stack3, orElse_of (hb u c ho)]
    exact offset_val u c _ _ (hL _ c.isLt) (hlt u c ho) (hw u c ho) (hhi c) (ht u c ho)
  · intro u hn'
    rw [stack0, orElse_not (fun q => hn' ((hu u).mp q))]
  · intro u hn'
    rw [stack1, orElse_not (fun q => hn' ((hu u).mp q))]
  · intro u hn'
    rw [stack2, orElse_not (fun q => hn' ((hu u).mp q))]
  · intro u hn'
    rw [stack3, orElse_not (fun q => hn' ((hu u).mp q))]
  · intro h0
    rw [stack4]
    show (firsts o (orElse o t 31#32) (ix1 0)).setWidth 32 = 1#32
    rw [firsts_zero, (hu 0).mpr h0]
    rfl
  · intro u
    rw [stack4, stack0, stack0]
    show (firsts o (orElse o t 31#32) (ix1 u.succ)).setWidth 32 = 1#32 ↔ _
    rw [firsts_succ, wide_iff, and_iff, ne_iff, hu]

end

/-! ## The plan of the experts chosen -/

/-- How many choices are of lower experts. -/
def upTo (e : S4096x2.Idx → BitVec 32) (k : Nat) : Nat := Nat.count (fun i => keyAt (keys e) i < k) 8192

section
variable {e : S4096x2.Idx → BitVec 32} (he : ∀ i, (e i).toNat < 8)

include he in
theorem keys_lt (k : S8192.Idx) : (keys e k).toNat < 8 := he _

include he in
theorem keyAt_lt (i : Nat) : keyAt (keys e) i < 8 := by
  unfold keyAt
  split
  · exact keyOf_lt (keys_lt he) _
  · omega

include he in
/-- Where every choice names an expert, all of them are of the eight. -/
theorem upTo_all : upTo e 8 = 8192 := by
  unfold upTo
  rw [Nat.count_iff_forall.mpr fun i _ => keyAt_lt he i]

variable (e) in
theorem runs : Runs (upTo e) where
  zero := by
    unfold upTo
    simp
  all := Nat.count_le _
  step k := Nat.count_mono_left fun _ _ q => lt_trans q (Nat.lt_succ_self k)

theorem upTo_succ (k : Nat) : upTo e (k + 1) = upTo e k + Nat.count (fun i => keyAt (keys e) i = k) 8192 := by
  unfold upTo
  rw [← count_le]
  simp only [Nat.lt_succ_iff]

variable (e) in
/-- The table made of them is by their plan. -/
theorem made : Made (upTo e) (table e) := by
  have hr := runs e
  have hlo : ∀ c : Fin 8, begins e (ix1 c) = BitVec.ofNat 32 (upTo e c.val) := fun c => starts_val c
  have hn : ∀ c : Fin 8, counts e (ix1 c) = BitVec.ofNat 32 (upTo e (c.val + 1) - upTo e c.val) := fun c => by
    rw [upTo_succ, Nat.add_sub_cancel_left]; exact totals_val c
  have hhi : ∀ c : Fin 8, ends e (ix1 c) = BitVec.ofNat 32 (upTo e (c.val + 1)) := fun c => by
    show begins e (ix1 c) + counts e (ix1 c) = _
    rw [hlo, hn, ← BitVec.ofNat_add]
    exact congrArg (BitVec.ofNat 32) (Nat.add_sub_of_le (hr.step c.val))
  exact made_build hr hlo hhi (fun c => tileAt_val _ c _ (lt_of_le_of_lt (le_all hr c.isLt.le) (by omega)) (hlo c)) (touched_val hr hn hlo hhi)

end

/-! ## On such a table the call can run -/

section
variable {L : Nat → Nat} (h : Runs L) {f : Tab} (hm : Made L f)

theorem toNat_small {n : Nat} (hn : n ≤ 256) : (BitVec.ofNat 32 n).toNat = n := by rw [BitVec.toNat_ofNat]; omega

theorem owner_of {u : Fin 39} (hu : u.val < before L 8) : ∃ c : Fin 8, Owns L c.val u.val := by
  obtain ⟨c, hc, ho⟩ := exists_owner hu
  exact ⟨⟨c, hc⟩, ho⟩

include h hm in
/-- Every block is in its array, whatever the runs cover. -/
theorem ranges : Ranges f where
  tile i := by
    show (f (ix2 0 (i 0))).toNat < 32
    by_cases hu : (i 0).val < before L 8
    · obtain ⟨c, ho⟩ := owner_of (u := i 0) hu
      have := ho.tile_lt h c.isLt
      rw [hm.tile _ c ho, toNat_small (by omega)]
      exact this
    · rw [hm.tileNot _ hu]; decide
  expert i := by
    show (f (ix2 1 (i 0))).toNat < 8
    by_cases hu : (i 0).val < before L 8
    · obtain ⟨c, ho⟩ := owner_of (u := i 0) hu
      have := c.isLt
      rw [hm.expert _ c ho, toNat_small (by omega)]
      exact this
    · rw [hm.expertNot _ hu]; decide

variable (hf : L 8 = 8192)

include h hm hf in
/-- From unit to unit a tile is the same or, if that unit is used, the next. -/
theorem tile_step (u : Fin 38) : f (ix2 0 u.succ) = f (ix2 0 u.castSucc) ∨ (u.succ.val < before L 8 ∧ ∃ n, n < 31 ∧ f (ix2 0 u.castSucc) = BitVec.ofNat 32 n ∧ f (ix2 0 u.succ) = BitVec.ofNat 32 (n + 1)) := by
  have hv : u.succ.val = u.castSucc.val + 1 := rfl
  by_cases hs : u.succ.val < before L 8
  · obtain ⟨c, ho⟩ := owner_of (u := u.castSucc) (L := L) (by omega)
    obtain ⟨c', ho'⟩ := owner_of hs
    have hlt := ho'.tile_lt h c'.isLt
    have ho'' := ho'
    rw [hv] at ho''
    rcases ProductPlan.tile_next h ho ho'' with q | q
    · left
      rw [hm.tile _ c' ho', hm.tile _ c ho, hv, q]
    · right
      refine ⟨hs, ProductPlan.tileOf L c.val u.castSucc.val, ?_, hm.tile _ c ho, ?_⟩
      · rw [hv, q] at hlt; omega
      · rw [hm.tile _ c' ho', hv, q]
  · left
    rw [hm.tileNot _ hs]
    by_cases hc : u.castSucc.val < before L 8
    · obtain ⟨c, ho⟩ := owner_of hc
      rw [hm.tile _ c ho, ProductPlan.tile_last h hf ho c.isLt (by omega)]
    · rw [hm.tileNot _ hc]

theorem next_sub (n : Nat) : BitVec.ofNat 32 (n + 1) - BitVec.ofNat 32 n = 1#32 := by
  rw [Nat.add_comm]; exact ofNat_sub 1 n

include h hm hf in
/-- Where the runs cover all the rows the table is one whose result is known. -/
theorem lists : Lists f where
  expert u := by
    by_cases hu : u.val < before L 8
    · obtain ⟨c, ho⟩ := owner_of hu
      have := c.isLt
      rw [hm.expert u c ho, toNat_small (by omega)]
      exact c.isLt
    · rw [hm.expertNot u hu]; decide
  lo u := by
    by_cases hu : u.val < before L 8
    · obtain ⟨c, ho⟩ := owner_of hu
      rw [hm.lo u c ho, toNat_small (Nat.min_le_left ..)]
      exact Nat.min_le_left ..
    · rw [hm.loNot u hu]; decide
  hi u := by
    by_cases hu : u.val < before L 8
    · obtain ⟨c, ho⟩ := owner_of hu
      rw [hm.hi u c ho, toNat_small (Nat.min_le_left ..)]
      exact Nat.min_le_left ..
    · rw [hm.hiNot u hu]; decide
  begins := by
    have hb := le_before h hf
    obtain ⟨c, ho⟩ := owner_of (u := 0) (L := L) (by show 0 < before L 8; omega)
    rw [hm.tile 0 c ho]
    exact congrArg (BitVec.ofNat 32) (ProductPlan.tile_first h ho)
  ends := by
    have hb := before_le h
    by_cases hu : (38 : Fin 39).val < before L 8
    · obtain ⟨c, ho⟩ := owner_of hu
      have h38 : (38 : Fin 39).val = 38 := rfl
      rw [hm.tile 38 c ho]
      exact congrArg (BitVec.ofNat 32) (ProductPlan.tile_last h hf ho c.isLt (by omega))
    · exact hm.tileNot 38 hu
  steps u := by
    rcases tile_step h hm hf u with q | ⟨-, n, -, q, q'⟩
    · left; rw [q]; exact BitVec.sub_self _
    · right; rw [q, q']; exact next_sub n
  first := hm.first (by have := le_before h hf; omega)
  marked u := by
    rw [hm.firsts u]
    rcases tile_step h hm hf u with q | ⟨hs, n, hn, q, q'⟩
    · rw [q, BitVec.sub_self]
      exact ⟨fun p => absurd rfl p.2, fun p => absurd p (by decide)⟩
    · rw [q, q', next_sub]
      exact ⟨fun _ => rfl, fun _ => ⟨hs, fun p => by have := (ofNat_inj (by omega) (by omega)).mp p; omega⟩⟩

end

end Cert.Proof.ProductMade

end
-- ==== Proof.Product.Reference.lean ====
/- The grouped product's reference over the extended reals, element by element. -/
module

public import proofs.«01_k».proof.Proof.Gen.ProductReferenceIdeal.Run
public import proofs.«01_k».proof.Proof.Rank
public import Idealize.ShloMosaic.Lib.Pointwise
public import Idealize.ShloMosaic.Lib.Routing.Ops

@[expose] public section

set_option maxRecDepth 16384

noncomputable section

namespace Cert.Proof.ProductReference

open Idealize.ShloMosaic Idealize.ShloMosaic.TcCoe Idealize.SL.Sem Idealize.ShloMosaic.StableHlo
open Cert.ProductReferenceIdeal Cert.ProductReferenceIdeal.Gen

variable (e : IVec S4096x2 32) (x : FVec Ideal S8192x1024 .f32) (g : FVec Ideal S8192 .f32) (K : FVec Ideal S8x2048x1024 .f32) (V : FVec Ideal S8x1024x2048 .f32)

/-- The experts chosen, in a row; -/
def keys : IVec S8192 32 := shapeCast S8192 e shapeCasts_S4096x2_S8192
/-- and in their order. -/
def choice : IVec S8192 32 := Host.sort S8192 0 comparator_i32_d0 (keys e)

/-- An expert's weights: a row's gate where the row's choice is the expert's. -/
def weight : FVec Ideal S8x8192 .f32 :=
  select (cmpi .eq (broadcastInDim S8x8192 ![0, 1] bcast_S1x8192_S8x8192_0_1 (broadcastInDim S1x8192 ![1] bcast_S8192_S1x8192_1 (choice e)))
      (broadcastInDim S8x8192 ![0, 1] bcast_S8x1_S8x8192_0_1 (broadcastInDim S8x1 ![0] bcast_S8_S8x1_0 (iotaInDim S8 32 0))))
    (broadcastInDim S8x8192 ![1] bcast_S8192_S8x8192_1 g)
    (broadcastInDim S8x8192 ![] bcast_S_S8x8192 (id (constant S_ .f32 0x00000000#32)))

/-- The experts' products with every row. -/
def out : FVec Ideal S8x8192x1024 .f32 :=
  Host.dotGeneral dot_S8x2048x8192_S8x1024x2048_S8x8192x1024_1_2_2_1_0_0 none
    (maximumf (Host.dotGeneral dot_S8x2048x1024_S8192x1024_S8x2048x8192_2_1_01_0_n_n none K x)
      (broadcastInDim S8x2048x8192 ![] bcast_S_S8x2048x8192 (constant S_ .f32 0x00000000#32))) V

/-- The reference's result. -/
def value : FVec Ideal S8192x1024 .f32 :=
  Host.reduceAdd (mulf (broadcastInDim S8x8192x1024 ![0, 1, 2] bcast_S8x8192x1_S8x8192x1024_0_1_2 (broadcastInDim S8x8192x1 ![0, 1] bcast_S8x8192_S8x8192x1_0_1 (weight e g)))
    (out x K V)) (constant S_ .f32 0x00000000#32) reducesTo_S8x8192x1024_S8192x1024_d0 h_S_

theorem value_apply (r : Fin 8192) (d : Fin 1024) : value e x g K V (ix2 r d) = ∑ k : Fin 8, weight e g (ix2 k r) * out x K V (ix3 k r d) := by
  pointwise [value]

theorem out_apply (n : Fin 8) (r : Fin 8192) (d : Fin 1024) : out x K V (ix3 n r d) = ∑ h : Fin 2048, max (∑ k : Fin 1024, K (ix3 n h k) * x (ix2 r k)) 0 * V (ix3 n d h) := by
  pointwise [out]

theorem weight_apply (k : Fin 8) (r : Fin 8192) : weight e g (ix2 k r) = Scalar.select (IntOp.cmpi .eq (choice e (ix1 r)) (BitVec.ofNat 32 k.val)) (g (ix1 r)) 0 := by
  simp only [weight, id_eq]
  pointwise

/-! ## The choices in order -/

/-- A choice's expert, as a number. -/
abbrev keyOf (e : S8192.Idx → BitVec 32) (a : Fin 8192) : Nat := (e (ix1 a)).toNat

/-- Among small numbers the signed order is the order. -/
theorem before_eq (x y : BitVec 32) (hx : x.toNat < 8) (hy : y.toNat < 8) : (comparator_i32_d0 x y == 1#1) = decide (x.toNat < y.toNat) := by
  have h1 : x.slt y = decide (x.toNat < y.toNat) := by
    rw [BitVec.slt_eq_decide, BitVec.toInt_eq_toNat_cond, BitVec.toInt_eq_toNat_cond, if_pos (by omega), if_pos (by omega)]
    simp only [Nat.cast_lt]
  show (BitVec.ofBool (x.slt y) == 1#1) = _
  rw [h1]
  cases decide (x.toNat < y.toNat) <;> rfl

variable {e} in
/-- The choice in place `r` is the one whose rank is `r`. -/
theorem choice_apply (he : ∀ k, (keys e k).toNat < 8) (r : Fin 8192) : choice e (ix1 r) = keys e (ix1 ((Cert.Proof.Rank.perm (keyOf (keys e))).symm r)) := by
  have hd : 0 < S8192.rank := Nat.zero_lt_one
  have hal : ∀ c : Fin 8192, (ix1 r : S8192.Idx).along (⟨0, hd⟩ : Fin S8192.rank) c = ix1 c := fun c =>
    (Shape.Idx.along_rank1 (ix1 r) c).trans (Routing.ofFin_eq_ix1 c)
  have hb : (fun a b : Fin 8192 => comparator_i32_d0 (keys e ((ix1 r : S8192.Idx).along ⟨0, hd⟩ a)) (keys e ((ix1 r : S8192.Idx).along ⟨0, hd⟩ b)) == 1#1)
      = fun a b => decide (keyOf (keys e) a < keyOf (keys e) b) := by
    funext a b
    rw [before_eq _ _ (he _) (he _), hal a, hal b]
  have hs := Cert.Proof.Rank.sortedFrom_eq (keyOf (keys e)) r
  rw [← hb] at hs
  unfold choice Host.sort
  rw [dif_pos hd]
  refine (congrArg (fun c : Fin 8192 => keys e ((ix1 r : S8192.Idx).along ⟨0, hd⟩ c)) hs).trans ?_
  rw [hal]

/-! ## The run -/

set_option maxHeartbeats 1000000 in
/-- The reference runs to this value, its arguments as they were, every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v15) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun _ h => ⟨h, sem_eq_zero_of_no_sems (by decide) _⟩) (Value.run (F := Ideal) m ρ)

end Cert.Proof.ProductReference

end
-- ==== Proof.Product.Rows.lean ====
/- Which rows are whose: the places of the sorted choices are the plan's runs, and each row is given by one unit, of its choice's expert. -/
module

public import proofs.«01_k».proof.Proof.Product.Made
public import proofs.«01_k».proof.Proof.Product.Reference

@[expose] public section

noncomputable section

namespace Cert.Proof.ProductRows

open Idealize.ShloMosaic
open Cert.Expand.Route (keys keyAt keyOf keyOf_lt keyAt_val)
open Cert.Product.Work (Tab)
open Cert.Proof.ProductPlan (Runs before tiles Owns tileOf unitOf owns_unit tile_unit unit_unique)
open Cert.Proof.ProductMade (Made upTo upTo_succ toNat_small owner_of keys_lt)
open Cert.Proof.ProductTable.Lists (tile)

attribute [local instance] Cert.Proof.ExpandFacts.facts

/-! ## The sorted choices -/

section
variable {e : Cert.Expand.S4096x2.Idx → BitVec 32} (he : ∀ i, (e i).toNat < 8)

/-- The choice that comes to place `r`, -/
def chosen (e : Cert.Expand.S4096x2.Idx → BitVec 32) (r : Fin 8192) : Fin 8192 := (Rank.perm (keyOf (keys e))).symm r
include he in
theorem keyOf_chosen_lt (r : Fin 8192) : keyOf (keys e) (chosen e r) < 8 := keyOf_lt (keys_lt he) _
/-- and its expert. -/
def chosenOf (r : Fin 8192) : Fin 8 := ⟨keyOf (keys e) (chosen e r), keyOf_chosen_lt he r⟩

theorem place_eq (r : Fin 8192) : r.val = upTo e (chosenOf he r).val + Nat.count (fun i => keyAt (keys e) i = (chosenOf he r).val) (chosen e r).val := by
  have h1 : (Rank.perm (keyOf (keys e)) (chosen e r)).val = r.val := congrArg Fin.val (Equiv.apply_symm_apply _ r)
  rw [← h1, Rank.perm_val, Rank.rank_eq (keyOf (keys e)) (keyAt (keys e)) keyAt_val]
  rfl

theorem place_le (r : Fin 8192) : upTo e (chosenOf he r).val ≤ r.val := by
  have := place_eq he r; omega

theorem place_lt (r : Fin 8192) : r.val < upTo e ((chosenOf he r).val + 1) := by
  have h1 := place_eq he r
  have h2 : Nat.count (fun i => keyAt (keys e) i = (chosenOf he r).val) (chosen e r).val < Nat.count (fun i => keyAt (keys e) i = (chosenOf he r).val) 8192 := by
    refine lt_of_lt_of_le ?_ (Nat.count_monotone _ (Nat.succ_le_of_lt (chosen e r).isLt))
    rw [Nat.succ_eq_add_one, Nat.count_succ, if_pos (show keyAt (keys e) (chosen e r).val = (chosenOf he r).val from keyAt_val (chosen e r))]
    omega
  rw [upTo_succ]
  omega

theorem word_of (x : BitVec 32) : BitVec.ofNat 32 x.toNat = x := by rw [BitVec.ofNat_toNat, BitVec.setWidth_eq]

theorem choice_eq (r : Fin 8192) : ProductReference.choice e (ix1 r) = BitVec.ofNat 32 (chosenOf he r).val :=
  (ProductReference.choice_apply (e := e) (keys_lt he) r).trans (word_of _).symm

end

/-! ## The unit that gives a row -/

/-- A unit gives a row: the row is in its tile, between its ends. -/
def Gives (f : Tab) (t : Fin 39) (r : Fin 8192) : Prop := tile f t = r.val / 256 ∧ (f (ix2 2 t)).toNat ≤ r.val % 256 ∧ r.val % 256 < (f (ix2 3 t)).toNat
instance (f : Tab) (t : Fin 39) (r : Fin 8192) : Decidable (Gives f t r) := by unfold Gives; infer_instance

section
variable {L : Nat → Nat} (h : Runs L) {f : Tab} (hm : Made L f)

include h hm in
theorem tile_val {u : Fin 39} {c : Fin 8} (ho : Owns L c.val u.val) : tile f u = tileOf L c.val u.val := by
  have := ho.tile_lt h c.isLt
  unfold tile
  rw [hm.tile u c ho, toNat_small (by omega)]

include hm in
theorem lo_val {u : Fin 39} {c : Fin 8} (ho : Owns L c.val u.val) : (f (ix2 2 u)).toNat = min 256 (L c.val - tileOf L c.val u.val * 256) := by
  rw [hm.lo u c ho, toNat_small (Nat.min_le_left ..)]

include hm in
theorem hi_val {u : Fin 39} {c : Fin 8} (ho : Owns L c.val u.val) : (f (ix2 3 u)).toNat = min 256 (L (c.val + 1) - tileOf L c.val u.val * 256) := by
  rw [hm.hi u c ho, toNat_small (Nat.min_le_left ..)]

/-- A row of a tile between two ends cut at the tile is between them uncut, -/
theorem uncut {t r a b : Nat} (ht : t = r / 256) (ha : min 256 (a - t * 256) ≤ r % 256) (hb : r % 256 < min 256 (b - t * 256)) : a ≤ r ∧ r < b := by omega
/-- and the other way. -/
theorem cut {t r a b : Nat} (ht : t = r / 256) (ha : a ≤ r) (hb : r < b) : min 256 (a - t * 256) ≤ r % 256 ∧ r % 256 < min 256 (b - t * 256) := by omega

include h in
theorem run_unique {r j k : Nat} (hj : L j ≤ r) (hj' : r < L (j + 1)) (hk : L k ≤ r) (hk' : r < L (k + 1)) : j = k := by
  rcases Nat.lt_trichotomy j k with q | q | q
  · have := h.mono (show j + 1 ≤ k from q); omega
  · exact q
  · have := h.mono (show k + 1 ≤ j from q); omega

include h hm in
/-- A row is given by the unit of its run on its tile, and by no other. -/
theorem gives_iff {c : Fin 8} {r : Fin 8192} (hl : L c.val ≤ r.val) (hr : r.val < L (c.val + 1)) (u : Fin 39) : Gives f u r ↔ u.val = unitOf L c.val r.val := by
  constructor
  · rintro ⟨ht, ha, hb⟩
    by_cases hu : u.val < before L 8
    · obtain ⟨c', ho⟩ := owner_of hu
      rw [tile_val h hm ho] at ht
      rw [lo_val hm ho] at ha
      rw [hi_val hm ho] at hb
      obtain ⟨h1, h2⟩ := uncut ht ha hb
      have hc : c'.val = c.val := run_unique h h1 h2 hl hr
      rw [hc] at ho ht
      exact unit_unique ho ht
    · rw [hm.hiNot u hu] at hb
      exact absurd hb (Nat.not_lt_zero _)
  · intro hu
    have ho : Owns L c.val u.val := by rw [hu]; exact owns_unit hl hr
    have ht : tileOf L c.val u.val = r.val / 256 := by rw [hu]; exact tile_unit hl
    refine ⟨(tile_val h hm ho).trans ht, ?_⟩
    rw [lo_val hm ho, hi_val hm ho]
    exact cut ht hl hr

include h hm in
/-- There is such a unit, of its run's expert. -/
theorem exists_unit {c : Fin 8} {r : Fin 8192} (hl : L c.val ≤ r.val) (hr : r.val < L (c.val + 1)) :
    ∃ u : Fin 39, (f (ix2 1 u)).toNat = c.val ∧ Gives f u r ∧ ∀ v : Fin 39, Gives f v r → v = u := by
  have ho := owns_unit hl hr
  have hlt := ho.lt_all c.isLt
  have hb := ProductPlan.before_le h
  have hc := c.isLt
  refine ⟨⟨unitOf L c.val r.val, by omega⟩, ?_, (gives_iff h hm hl hr _).mpr rfl, fun v hv => Fin.ext ((gives_iff h hm hl hr v).mp hv)⟩
  rw [hm.expert _ c ho, toNat_small (by omega)]

end

end Cert.Proof.ProductRows

end
-- ==== Proof.Product.Equation.lean ====
/- The grouped product: the kernel's result is the reference's, element by element. -/
module

public import proofs.«01_k».proof.Proof.Product.Value
public import proofs.«01_k».proof.Proof.Product.Rows

@[expose] public section

set_option maxRecDepth 16384

noncomputable section

namespace Cert.Proof.ProductEquation

open Idealize.ShloMosaic Idealize.ShloMosaic.TcCoe Idealize.ShloMosaic.WordCmp Idealize.SL.Sem
open Cert.Product Cert.Product.Gen Cert.Product.Work
open Cert.Proof.ProductTable (Lists)
open Cert.Proof.ProductTable.Lists (tile)
open Cert.Proof.ProductSums Cert.Proof.ProductValue
open Cert.Proof.ProductRows (Gives chosenOf choice_eq place_le place_lt exists_unit)

/-! ## The tests on words -/

theorem select_ofBool (p : Prop) [Decidable p] (a b : EReal) : Scalar.select (BitVec.ofBool (decide p)) a b = if p then a else b := by
  by_cases h : p
  · rw [decide_eq_true h, if_pos h]; rfl
  · rw [decide_eq_false h, if_neg h]; rfl

/-- A small number tests between two small words as it lies between their values. -/
theorem between {n : Nat} {a b : BitVec 32} (hn : n < 2 ^ 31) (ha : a.toNat < 2 ^ 31) (hb : b.toNat < 2 ^ 31) :
    IntOp.andi (IntOp.cmpi .sge (BitVec.ofNat 32 n) a) (IntOp.cmpi .slt (BitVec.ofNat 32 n) b) = BitVec.ofBool (decide (a.toNat ≤ n ∧ n < b.toNat)) := by
  have e : (BitVec.ofNat 32 n).toNat = n := toNat_ofNat_of_lt (by omega)
  rw [cmpi_sge_of_lt (by rw [e]; exact hn) ha, cmpi_slt_of_lt (by rw [e]; exact hn) hb, andi_ofBool, e, Bool.decide_and]

variable {f : Tab} (h : Lists f)

/-- A unit's expert. -/
def who (t : Fin 39) : Fin 8 := ⟨(f (ix2 1 t)).toNat, h.expert t⟩

/-! ## The reference -/

variable {e : IVec S4096x2 32} (he : ∀ i, (e i).toNat < 8)
variable (x : FVec Ideal S8192x1024 .f32) (g : FVec Ideal S8192 .f32) (K : FVec Ideal S8x2048x1024 .f32) (V : FVec Ideal S8x1024x2048 .f32)

/-- A row's weight at an expert is its gate if the row's choice is the expert's, and else nothing. -/
theorem weight_eq (k : Fin 8) (r : Fin 8192) : ProductReference.weight e g (ix2 k r) = if chosenOf he r = k then g (ix1 r) else 0 := by
  have h1 := (chosenOf he r).isLt
  have h2 := k.isLt
  rw [ProductReference.weight_apply, choice_eq he, cmpi_eq_eq_toNat, toNat_ofNat_of_lt (by omega), toNat_ofNat_of_lt (by omega), select_ofBool]
  exact if_congr ⟨fun q => Fin.ext q, fun q => congrArg Fin.val q⟩ rfl rfl

/-- The reference's result: the product with the row's expert, gated. -/
theorem value_eq (r : Fin 8192) (d : Fin 1024) : ProductReference.value e x g K V (ix2 r d) = ProductReference.out x K V (ix3 (chosenOf he r) r d) * g (ix1 r) := by
  rw [ProductReference.value_apply, Finset.sum_eq_single (chosenOf he r) (fun k _ hk => by rw [weight_eq he, if_neg (Ne.symm hk), zero_mul]) (fun hk => absurd (Finset.mem_univ _) hk),
    weight_eq he, if_pos rfl, mul_comm]

/-! ## The kernel -/

attribute [local irreducible] Cert.Product.Work.V Cert.Product.Work.tbl

variable {x g K V} in
/-- A unit's product at a place of its tile, from what its blocks hold there. -/
theorem product_eq {lo hi : BitVec 32} {X : Vec Ideal S256x1024 .f32} {Y : Vec Ideal S1x2048x1024 .bf16} {Z : Vec Ideal S1x1024x2048 .bf16} {G : Vec Ideal S256x1 .f32}
    (hlo : lo.toNat ≤ 256) (hhi : hi.toNat ≤ 256) (j : Fin 256) (d : Fin 1024) (r : Fin 8192) (e : Fin 8)
    (hX : ∀ k, X (ix2 j k) = x (ix2 r k)) (hY : ∀ i k, Y (ix3 0 i k) = K (ix3 e i k)) (hZ : ∀ i, Z (ix3 0 d i) = V (ix3 e d i))
    (hW : G (ix2 j 0) = g (ix1 r)) :
    k0_pay1 (F := Ideal) lo hi X Y Z G (ix2 j d) = if lo.toNat ≤ j.val ∧ j.val < hi.toNat then ProductReference.out x K V (ix3 e r d) * g (ix1 r) else 0 := by
  have hj := j.isLt
  rw [ProductRead.pay1_apply, between (by omega) (by omega) (by omega), select_ofBool, ProductReference.out_apply]
  simp only [hX, hY, hZ, hW, mul_comm (x _)]

variable (m : (ℓ : Loc nD τ sig) → Buf (Elt Ideal) ℓ) (hG : Good (tab m)) (hL : Lists (tab m)) (c : Dev nD)

/-- A unit's product, at a row of its tile. -/
theorem pay_eq (u : Fin 39) (r : Fin 8192) (d : Fin 1024) (hu : tile (tab m) u = r.val / 256) : ProductValue.pay m hG c u (ix2 (inTile r) d)
    = if Gives (tab m) u r then ProductReference.out (m ((c : Thread nD τ).loc main_arg1)) (m ((c : Thread nD τ).loc main_arg3)) (m ((c : Thread nD τ).loc main_arg4)) (ix3 (who hL u) r d)
        * (m ((c : Thread nD τ).loc main_arg2) : FVec Ideal S8192 .f32) (ix1 r) else 0 := by
  have hr : tile (tab m) u * 256 + (inTile r).val = r.val := by rw [hu]; exact join r.val
  refine (product_eq (hL.lo u) (hL.hi u) (inTile r) d r (who hL u) (fun k => rows_apply m hG c u (inTile r) k r hr) (fun i k => keys_apply m hG c u i k (who hL u) rfl)
    (fun i => values_apply m hG c u d i (who hL u) rfl) (gates_apply m hG c u (inTile r) r hr)).trans ?_
  have e : (((tab m) (ix2 2 u)).toNat ≤ (inTile r).val ∧ (inTile r).val < ((tab m) (ix2 3 u)).toNat) ↔ Gives (tab m) u r := ⟨fun hh => ⟨hu, hh⟩, fun hh => hh.2⟩
  by_cases hp : Gives (tab m) u r
  · exact (if_pos (e.mpr hp)).trans (if_pos hp).symm
  · exact (if_neg (fun hh => hp (e.mp hh))).trans (if_neg hp).symm

/-- The table the call finds is made of the choices, by their plan. -/
theorem tab_made : ProductMade.Made (ProductMade.upTo (m ((c : Thread nD τ).loc main_arg0))) (tab m) := by
  rw [tab_eq m c]
  exact ProductMade.made _

include hL in
theorem total_eq (hm : ∀ i, ((m ((c : Thread nD τ).loc main_arg0) : IVec S4096x2 32) i).toNat < 8) (r : Fin 8192) (d : Fin 1024) : total m hG c (ix2 r d)
    = ProductReference.value (m ((c : Thread nD τ).loc main_arg0)) (m ((c : Thread nD τ).loc main_arg1)) (m ((c : Thread nD τ).loc main_arg2)) (m ((c : Thread nD τ).loc main_arg3)) (m ((c : Thread nD τ).loc main_arg4)) (ix2 r d) := by
  obtain ⟨u, hw, hu, hun⟩ := exists_unit (ProductMade.runs _) (tab_made m c) (place_le hm r) (place_lt hm r)
  have hwho : who hL u = chosenOf hm r := Fin.ext hw
  refine Eq.trans ?_ (value_eq hm _ _ _ _ r d).symm
  unfold total
  refine (Finset.sum_eq_single u (fun v _ hv => ?_) (fun q => absurd (Finset.mem_univ _) q)).trans ?_
  · by_cases ht : tile (tab m) v = r.val / 256
    · exact (if_pos ht).trans ((pay_eq m hG hL c v r d ht).trans (if_neg fun q => hv (hun v q)))
    · exact if_neg ht
  · exact (if_pos hu.1).trans ((pay_eq m hG hL c u r d hu.1).trans ((if_pos hu).trans (by rw [hwho])))

include hL in
/-- The kernel's result is the reference's. -/
theorem array_eq (hm : ∀ i, ((m ((c : Thread nD τ).loc main_arg0) : IVec S4096x2 32) i).toNat < 8) : ((Cert.Product.Work.dats m hG 0 c).arrAt 4 (cfgM m hG).N : S8192x1024.Idx → EReal)
    = ProductReference.value (m ((c : Thread nD τ).loc main_arg0)) (m ((c : Thread nD τ).loc main_arg1)) (m ((c : Thread nD τ).loc main_arg2)) (m ((c : Thread nD τ).loc main_arg3)) (m ((c : Thread nD τ).loc main_arg4)) := by
  refine funext fun (i : S8192x1024.Idx) => (array_apply m hG hL c i).trans ?_
  rw [eq_ix2 i]
  exact total_eq m hG hL c hm (i 0) (i 1)

end Cert.Proof.ProductEquation

end
-- ==== Proof.lean ====
/-
  The certificate, of the two SparseCore calls, the combine and the expansion, and of the router and the grouped product. Each SparseCore call's run is its SparseCore launch
  (Proof/Kernel/Launch.lean, Proof/Expand/Launch.lean), proved of any float values: read at `Bits` it is the program's frame, read at
  `Ideal` the idealized program's frame and results (Proof/Same.lean). The references' runs are Proof/Ref.lean and Proof/ExpandRef.lean;
  that the results are the same is Proof/Equation.lean and Proof/ExpandEquation.lean. The router is a TensorCore call, with its
  reference beside it: Proof/Router/. So is the grouped product: its run at a table of units is Proof/Product/Launch.lean, that the
  table made of the experts chosen is one it can run on is Proof/Product/Made.lean, and that its result is the reference's is Proof/Product/Equation.lean.
-/
module

public import proofs.«01_k».proof.Defs
public import proofs.«01_k».proof.Proof.Gen.Kernel
public import proofs.«01_k».proof.Proof.Gen.Router.Value
public import proofs.«01_k».proof.Proof.Gen.RouterIdeal.Value
public import proofs.«01_k».proof.Proof.Kernel.Launch
public import proofs.«01_k».proof.Proof.Same
public import proofs.«01_k».proof.Proof.Ref
public import proofs.«01_k».proof.Proof.Equation
public import proofs.«01_k».proof.Proof.Expand.Launch
public import proofs.«01_k».proof.Proof.ExpandFacts
public import proofs.«01_k».proof.Proof.ExpandRef
public import proofs.«01_k».proof.Proof.ExpandEquation
public import proofs.«01_k».proof.Proof.Router.Equation
public import proofs.«01_k».proof.Proof.Product.Ideal
public import proofs.«01_k».proof.Proof.Product.Equation

@[expose] public section

noncomputable section

namespace Cert.Proof

open Idealize.ShloMosaic Idealize.SL.Sem

theorem bits_nonempty : ∀ e, Nonempty (Elt Bits e) := fun e => by cases e <;> exact ⟨0⟩
attribute [local instance] Same.kernelFacts Ref.refFacts Ref.preFacts ExpandFacts.facts ExpandFacts.idealFacts ExpandRef.refFacts ExpandRef.preFacts bits_nonempty Same.ideal_nonempty

/-! ## The combine -/

/-- The program's frame. -/
theorem frame_kernel : quiescent_Kernel := fun m g h =>
  (θ_run _ _ _).mono (fun _ q => ⟨fun c => ⟨(q.1 c).1, (q.1 c).2.1⟩, q.2⟩)
    (Cert.Kernel.Launch.run_main (F := Bits) m g fun d => Equation.pos_lt (F := Bits) (h d))

/-- The idealized program's frame. -/
theorem frame_ideal : quiescent_KernelIdeal := fun m g h =>
  (θ_run _ _ _).mono (fun _ q => ⟨fun c => ⟨(q.1 c).1, (q.1 c).2.1⟩, q.2⟩)
    (Same.kernel_run m g fun d => Equation.pos_lt (F := Ideal) (h d))

/-- The reference's frame, -/
theorem frame_ref : quiescent_ReferenceIdeal := fun m g _ =>
  (θ_run _ _ _).mono (fun _ q => ⟨fun c => ⟨(q.1 c).2.1, (q.1 c).2.2⟩, q.2⟩) (Ref.run_main m g)
/-- which the precondition does not change. -/
theorem frame_ref_pre : quiescent_ReferenceIdeal_pre_pos_in_rows := fun m g _ =>
  (θ_run _ _ _).mono (fun _ q => ⟨fun c => ⟨(q.1 c).2.1, (q.1 c).2.2⟩, q.2⟩) (Ref.run_main m g)

/-- The two results are one. -/
theorem results_eq : algebraic_KernelIdeal_ReferenceIdeal := fun m g m' g' h hm =>
  ⟨fun c => (Cert.Kernel.Launch.arr (F := Ideal) m (fun d => Equation.pos_lt (F := Ideal) (h d)) c).out,
    (θ_run _ _ _).mono (fun _ q c => ⟨(q.1 c).2.2, (q.1 c).1, (q.1 c).2.1⟩)
      (Same.kernel_run m g fun d => Equation.pos_lt (F := Ideal) (h d)),
    (θ_run _ _ _).mono (fun _ q c => ⟨(q.1 c).1.trans
        ((congrArg₂ (Ref.refOut (F := Ideal)) (hm c).1 (hm c).2).trans (Equation.out_eq m (fun d => Equation.pos_lt (F := Ideal) (h d)) c).symm),
        (q.1 c).2.1, (q.1 c).2.2⟩)
      (Ref.run_main m' g')⟩

/-! ## The expansion -/

/-- The program's frame. -/
theorem frame_expand : quiescent_Expand := fun m g h =>
  (θ_run _ _ _).mono (fun _ q => ⟨fun c => ⟨(q.1 c).1, (q.1 c).2.1, (q.1 c).2.2.1⟩, q.2⟩)
    (Cert.Expand.Launch.run_main (F := Bits) m g fun d _ => ExpandEquation.expert_lt (F := Bits) (h d) _)

/-- The idealized program's frame. -/
theorem frame_expand_ideal : quiescent_ExpandIdeal := fun m g h =>
  (θ_run _ _ _).mono (fun _ q => ⟨fun c => ⟨(q.1 c).1, (q.1 c).2.1, (q.1 c).2.2.1⟩, q.2⟩)
    (Same.expand_run m g fun d _ => ExpandEquation.expert_lt (F := Ideal) (h d) _)

/-- The reference's frame, -/
theorem frame_expand_ref : quiescent_ExpandReferenceIdeal := fun m g _ =>
  (θ_run _ _ _).mono (fun _ q => ⟨fun c => (q.1 c).2.2, q.2⟩) (ExpandRef.run_main m g)
/-- which the precondition does not change. -/
theorem frame_expand_ref_pre : quiescent_ExpandReferenceIdeal_pre_experts_in_range := fun m g _ =>
  (θ_run _ _ _).mono (fun _ q => ⟨fun c => (q.1 c).2.2, q.2⟩) (ExpandRef.run_main m g)

/-- What the precondition gives, of a memory. -/
theorem experts_ok (m : (ℓ : Loc Cert.ExpandIdeal.nD Cert.ExpandIdeal.τ Cert.ExpandIdeal.sig) → Buf (Elt Ideal) ℓ) (h : Pre_ExpandIdeal m) :
    Cert.Expand.Launch.PreOK (F := Ideal) m := fun d _ => ExpandEquation.expert_lt (F := Ideal) (h d) _

/-- The two results are those of the reference. -/
theorem expand_results_eq : algebraic_ExpandIdeal_ExpandReferenceIdeal := fun m g m' g' h hm =>
  ⟨fun c => (Cert.Expand.Launch.arr (F := Ideal) m (experts_ok m h) c).xs1, fun c => (Cert.Expand.Launch.arr (F := Ideal) m (experts_ok m h) c).gs1,
    (θ_run _ _ _).mono (fun _ q c => ⟨(q.1 c).2.2.2.1, (q.1 c).2.2.2.2, (q.1 c).1, (q.1 c).2.1, (q.1 c).2.2.1⟩)
      (Same.expand_run m g (experts_ok m h)),
    (θ_run _ _ _).mono (fun _ q c =>
        ⟨(q.1 c).1.trans ((congrArg₂ (ExpandRef.rowsOut (F := Ideal)) (hm c).1 (hm c).2.2).trans (ExpandEquation.rows_eq m (experts_ok m h) c).symm),
          (q.1 c).2.1.trans ((congrArg₂ (ExpandRef.gatesOut (F := Ideal)) (hm c).2.1 (hm c).2.2).trans (ExpandEquation.gates_eq m (experts_ok m h) c).symm),
          (q.1 c).2.2⟩)
      (ExpandRef.run_main m' g')⟩

/-! ## The router -/

/-- The reference's frame, -/
theorem frame_router_ref : quiescent_RouterReferenceIdeal := fun m g _ =>
  (θ_run _ _ _).mono (fun _ q => ⟨fun c => (q.1 c).2.2, q.2⟩) (RouterEquation.run_ref m g)
/-- which the precondition does not change. -/
theorem frame_router_ref_pre [Cert.Pre_finite.Facts] : quiescent_RouterReferenceIdeal_pre_finite := fun m g _ =>
  (θ_run _ _ _).mono (fun _ q => ⟨fun c => (q.1 c).2.2, q.2⟩) (RouterEquation.run_ref m g)

/-- The two results are one. -/
theorem router_results_eq [Cert.Pre_finite.Facts] : algebraic_RouterIdeal_RouterReferenceIdeal_pre_finite := fun m g m' g' h hm =>
  ⟨fun c => Cert.RouterIdeal.Value.G2 (F := Ideal) (m (c.tc.loc Cert.RouterIdeal.main_arg0)) (m (c.tc.loc Cert.RouterIdeal.main_arg1)),
    fun c => Cert.RouterIdeal.Value.G3 (F := Ideal) (m (c.tc.loc Cert.RouterIdeal.main_arg0)) (m (c.tc.loc Cert.RouterIdeal.main_arg1)),
    Cert.RouterIdeal.Value.run (F := Ideal) m g,
    (θ_run _ _ _).mono (fun _ q c =>
        ⟨(q.1 c).1.trans ((congrArg₂ RouterReference.values (hm c).1 (hm c).2).trans
            (RouterEquation.values_eq (RouterEquation.finite (h c)).1 (RouterEquation.finite (h c)).2).symm),
          (q.1 c).2.1.trans ((congrArg₂ RouterReference.places (hm c).1 (hm c).2).trans
            (RouterEquation.places_eq (RouterEquation.finite (h c)).1 (RouterEquation.finite (h c)).2).symm),
          (q.1 c).2.2⟩)
      (RouterEquation.run_ref m' g')⟩

/-! ## The product -/

section Product

attribute [local instance] ProductTable.preFacts Cert.Product.Gen.facts Cert.ProductIdeal.Gen.facts Cert.ProductReferenceIdeal.Gen.facts

/-- Whatever the choices, the table made of them is one whose blocks exist; -/
theorem table_ranges {F : FTy → Type} [FloatOps F] (m : (ℓ : Loc Cert.Product.nD Cert.Product.τ Cert.Product.sig) → Buf (Elt F) ℓ) :
    Cert.Product.Work.Ranges (Cert.Product.Work.tab m) := by
  rw [Cert.Product.Work.tab_eq m 0]
  exact ProductMade.ranges (ProductMade.runs _) (ProductMade.made _)

/-- and where they name experts it is one whose result is known. -/
theorem table_lists (m : (ℓ : Loc Cert.ProductIdeal.nD Cert.ProductIdeal.τ Cert.ProductIdeal.sig) → Buf (Elt Ideal) ℓ) (h : Pre_ProductIdeal_experts_named m) :
    ProductTable.Lists (Cert.Product.Work.tab (F := Ideal) m) := by
  rw [Cert.Product.Work.tab_eq (F := Ideal) m 0]
  have he := ProductTable.expert_lt (F := Ideal) (h 0)
  exact ProductMade.lists (ProductMade.runs _) (ProductMade.made _) (ProductMade.upTo_all he)

/-- The program's frame, -/
theorem frame_product : quiescent_Product := fun m g _ => Cert.Product.Work.run_free (F := Bits) m g (table_ranges m)

/-- and the idealized program's, -/
theorem frame_product_ideal : quiescent_ProductIdeal := fun m g _ => ProductSame.product_free m g (table_ranges (F := Ideal) m)
/-- which the precondition does not change. -/
theorem frame_product_ideal_pre : quiescent_ProductIdeal_pre_experts_named := fun m g _ => ProductSame.product_free m g (table_ranges (F := Ideal) m)

/-- The reference's frame, -/
theorem frame_product_ref : quiescent_ProductReferenceIdeal := fun m g _ =>
  (θ_run _ _ _).mono (fun _ q => ⟨fun c => (q.1 c).2, q.2⟩) (ProductReference.run m g)
/-- which the precondition does not change. -/
theorem frame_product_ref_pre : quiescent_ProductReferenceIdeal_pre_experts_named := fun m g _ =>
  (θ_run _ _ _).mono (fun _ q => ⟨fun c => (q.1 c).2, q.2⟩) (ProductReference.run m g)

/-- The two results are one. -/
theorem product_results_eq : algebraic_ProductIdeal_ProductReferenceIdeal_pre_experts_named := fun m g m' g' h hm =>
  ⟨fun c => (Cert.Product.Work.dats (F := Ideal) m (table_lists m h).good 0 c).arrAt 4 (Cert.Product.Work.cfgM (F := Ideal) m (table_lists m h).good).N,
    (θ_run _ _ _).mono (fun _ q c => q.1 c) (ProductSame.product_run m g (table_lists m h).good),
    (θ_run _ _ _).mono (fun _ q c => ⟨(q.1 c).1.trans (by
        rw [(hm c).1, (hm c).2.1, (hm c).2.2.1, (hm c).2.2.2.1, (hm c).2.2.2.2]
        exact (ProductEquation.array_eq m (table_lists m h).good (table_lists m h) c (ProductTable.expert_lt (F := Ideal) (h c))).symm), (q.1 c).2⟩)
      (ProductReference.run m' g')⟩

end Product

theorem claim : Cert.Claim :=
  ⟨Cert.Kernel.Gen.facts, Same.kernelFacts, Ref.refFacts, ExpandFacts.facts, ExpandFacts.idealFacts, ExpandRef.refFacts,
    Cert.Router.Gen.facts, Cert.RouterIdeal.Gen.facts, Cert.RouterReferenceIdeal.Gen.facts,
    Cert.Product.Gen.facts, Cert.ProductIdeal.Gen.facts, Cert.ProductReferenceIdeal.Gen.facts,
    Ref.preFacts, ExpandRef.preFacts, RouterEquation.preFacts, ProductTable.preFacts,
    frame_kernel, frame_ideal, frame_ref, frame_ref_pre, frame_expand, frame_expand_ideal, frame_expand_ref, frame_expand_ref_pre,
    fun m g _ => Cert.Router.Gen.frame m g, fun m g _ => Cert.RouterIdeal.Gen.frame m g, fun m g _ => Cert.RouterIdeal.Gen.frame m g,
    frame_router_ref, @frame_router_ref_pre RouterEquation.preFacts,
    frame_product, frame_product_ideal, frame_product_ideal_pre, frame_product_ref, frame_product_ref_pre,
    trivial, results_eq, trivial, expand_results_eq, trivial, @router_results_eq RouterEquation.preFacts, trivial, product_results_eq⟩

end Cert.Proof

end
